-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_out [hPre_finite_out : Cert.Pre_finite_out.Facts] (m : (ℓ : Loc Cert.OutIdeal.nD Cert.OutIdeal.τ Cert.OutIdeal.sig) → Buf (Elt Ideal) ℓ) : Prop :=
  ∀ c : Dev Cert.OutIdeal.nD,
    (Cert.Pre_finite_out.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_out [hPre_finite_out : Cert.Pre_finite_out.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7))) = (fun _ => 1#1)

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBIdeal_finite_proj [hPre_finite_proj : Cert.Pre_finite_proj.Facts] (m : (ℓ : Loc Cert.ProjBIdeal.nD Cert.ProjBIdeal.τ Cert.ProjBIdeal.sig) → Buf (Elt Ideal) ℓ) : Prop :=
  ∀ c : Dev Cert.ProjBIdeal.nD,
    (Cert.Pre_finite_proj.fn (F := Ideal) (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1)) (m ((c.tc : Thread Cert.ProjBIdeal.nD Cert.ProjBIdeal.τ).loc Cert.ProjBIdeal.main_arg2)) (m ((c.tc : Thread Cert.ProjBIdeal.nD Cert.ProjBIdeal.τ).loc Cert.ProjBIdeal.main_arg3)) (m ((c.tc : Thread Cert.ProjBIdeal.nD Cert.ProjBIdeal.τ).loc Cert.ProjBIdeal.main_arg4)) (m ((c.tc : Thread Cert.ProjBIdeal.nD Cert.ProjBIdeal.τ).loc Cert.ProjBIdeal.main_arg5)) (m ((c.tc : Thread Cert.ProjBIdeal.nD Cert.ProjBIdeal.τ).loc Cert.ProjBIdeal.main_arg6)) (m ((c.tc : Thread Cert.ProjBIdeal.nD Cert.ProjBIdeal.τ).loc Cert.ProjBIdeal.main_arg7)) (m ((c.tc : Thread Cert.ProjBIdeal.nD Cert.ProjBIdeal.τ).loc Cert.ProjBIdeal.main_arg8)) (m ((c.tc : Thread Cert.ProjBIdeal.nD Cert.ProjBIdeal.τ).loc Cert.ProjBIdeal.main_arg9)) (m ((c.tc : Thread Cert.ProjBIdeal.nD Cert.ProjBIdeal.τ).loc Cert.ProjBIdeal.main_arg10)) (m ((c.tc : Thread Cert.ProjBIdeal.nD Cert.ProjBIdeal.τ).loc Cert.ProjBIdeal.main_arg11)) (m ((c.tc : Thread Cert.ProjBIdeal.nD Cert.ProjBIdeal.τ).loc Cert.ProjBIdeal.main_arg12)) (m ((c.tc : Thread Cert.ProjBIdeal.nD Cert.ProjBIdeal.τ).loc Cert.ProjBIdeal.main_arg13)) (m ((c.tc : Thread Cert.ProjBIdeal.nD Cert.ProjBIdeal.τ).loc Cert.ProjBIdeal.main_arg14))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10)) (m ((c.tc : Thread Cert.ProjRefIdeal.nD Cert.ProjRefIdeal.τ).loc Cert.ProjRefIdeal.main_arg11)) (m ((c.tc : Thread Cert.ProjRefIdeal.nD Cert.ProjRefIdeal.τ).loc Cert.ProjRefIdeal.main_arg12)) (m ((c.tc : Thread Cert.ProjRefIdeal.nD Cert.ProjRefIdeal.τ).loc Cert.ProjRefIdeal.main_arg13)) (m ((c.tc : Thread Cert.ProjRefIdeal.nD Cert.ProjRefIdeal.τ).loc Cert.ProjRefIdeal.main_arg14))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))) = (fun _ => 1#1)

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRefIdeal (m : (ℓ : Loc Cert.MixFRefIdeal.nD Cert.MixFRefIdeal.τ Cert.MixFRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_TapF (m : (ℓ : Loc Cert.TapF.nD Cert.TapF.τ Cert.TapF.sig) → Buf (Elt Bits) ℓ) : Prop :=
  True

def Pre_TapFIdeal (m : (ℓ : Loc Cert.TapFIdeal.nD Cert.TapFIdeal.τ Cert.TapFIdeal.sig) → Buf (Elt Ideal) ℓ) : Prop :=
  True

def Pre_TapFRefIdeal (m : (ℓ : Loc Cert.TapFRefIdeal.nD Cert.TapFRefIdeal.τ Cert.TapFRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFRefIdeal (m : (ℓ : Loc Cert.ProjFRefIdeal.nD Cert.ProjFRefIdeal.τ Cert.ProjFRefIdeal.sig) → Buf (Elt Ideal) ℓ) : Prop :=
  True

def Pre_AdaB (m : (ℓ : Loc Cert.AdaB.nD Cert.AdaB.τ Cert.AdaB.sig) → Buf (Elt Bits) ℓ) : Prop :=
  True

def Pre_AdaBIdeal (m : (ℓ : Loc Cert.AdaBIdeal.nD Cert.AdaBIdeal.τ Cert.AdaBIdeal.sig) → Buf (Elt Ideal) ℓ) : Prop :=
  True

def Pre_AdaBRefIdeal (m : (ℓ : Loc Cert.AdaBRefIdeal.nD Cert.AdaBRefIdeal.τ Cert.AdaBRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_SumConv (m : (ℓ : Loc Cert.SumConv.nD Cert.SumConv.τ Cert.SumConv.sig) → Buf (Elt Bits) ℓ) : Prop :=
  True

def Pre_SumConvIdeal (m : (ℓ : Loc Cert.SumConvIdeal.nD Cert.SumConvIdeal.τ Cert.SumConvIdeal.sig) → Buf (Elt Ideal) ℓ) : Prop :=
  True

def Pre_SumConvRefIdeal (m : (ℓ : Loc Cert.SumConvRefIdeal.nD Cert.SumConvRefIdeal.τ Cert.SumConvRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Far (m : (ℓ : Loc Cert.Far.nD Cert.Far.τ Cert.Far.sig) → Buf (Elt Bits) ℓ) : Prop :=
  True

def Pre_FarIdeal (m : (ℓ : Loc Cert.FarIdeal.nD Cert.FarIdeal.τ Cert.FarIdeal.sig) → Buf (Elt Ideal) ℓ) : Prop :=
  True

def Pre_FarRefIdeal (m : (ℓ : Loc Cert.FarRefIdeal.nD Cert.FarRefIdeal.τ Cert.FarRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutIdeal_pre_finite_out [hOutIdeal : Cert.OutIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_out m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_OutRefIdeal_pre_finite_out [hOutRefIdeal : Cert.OutRefIdeal.Facts] [hPre_finite_out : Cert.Pre_finite_out.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_out m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3)
      ∧ r.2.mem ((c.tc : Thread Cert.ProjB.nD Cert.ProjB.τ).loc Cert.ProjB.main_arg4) = m ((c.tc : Thread Cert.ProjB.nD Cert.ProjB.τ).loc Cert.ProjB.main_arg4)
      ∧ r.2.mem ((c.tc : Thread Cert.ProjB.nD Cert.ProjB.τ).loc Cert.ProjB.main_arg5) = m ((c.tc : Thread Cert.ProjB.nD Cert.ProjB.τ).loc Cert.ProjB.main_arg5)
      ∧ r.2.mem ((c.tc : Thread Cert.ProjB.nD Cert.ProjB.τ).loc Cert.ProjB.main_arg6) = m ((c.tc : Thread Cert.ProjB.nD Cert.ProjB.τ).loc Cert.ProjB.main_arg6)
      ∧ r.2.mem ((c.tc : Thread Cert.ProjB.nD Cert.ProjB.τ).loc Cert.ProjB.main_arg7) = m ((c.tc : Thread Cert.ProjB.nD Cert.ProjB.τ).loc Cert.ProjB.main_arg7)
      ∧ r.2.mem ((c.tc : Thread Cert.ProjB.nD Cert.ProjB.τ).loc Cert.ProjB.main_arg8) = m ((c.tc : Thread Cert.ProjB.nD Cert.ProjB.τ).loc Cert.ProjB.main_arg8)
      ∧ r.2.mem ((c.tc : Thread Cert.ProjB.nD Cert.ProjB.τ).loc Cert.ProjB.main_arg9) = m ((c.tc : Thread Cert.ProjB.nD Cert.ProjB.τ).loc Cert.ProjB.main_arg9)
      ∧ r.2.mem ((c.tc : Thread Cert.ProjB.nD Cert.ProjB.τ).loc Cert.ProjB.main_arg10) = m ((c.tc : Thread Cert.ProjB.nD Cert.ProjB.τ).loc Cert.ProjB.main_arg10)
      ∧ r.2.mem ((c.tc : Thread Cert.ProjB.nD Cert.ProjB.τ).loc Cert.ProjB.main_arg11) = m ((c.tc : Thread Cert.ProjB.nD Cert.ProjB.τ).loc Cert.ProjB.main_arg11)
      ∧ r.2.mem ((c.tc : Thread Cert.ProjB.nD Cert.ProjB.τ).loc Cert.ProjB.main_arg12) = m ((c.tc : Thread Cert.ProjB.nD Cert.ProjB.τ).loc Cert.ProjB.main_arg12)
      ∧ r.2.mem ((c.tc : Thread Cert.ProjB.nD Cert.ProjB.τ).loc Cert.ProjB.main_arg13) = m ((c.tc : Thread Cert.ProjB.nD Cert.ProjB.τ).loc Cert.ProjB.main_arg13)
      ∧ r.2.mem ((c.tc : Thread Cert.ProjB.nD Cert.ProjB.τ).loc Cert.ProjB.main_arg14) = m ((c.tc : Thread Cert.ProjB.nD Cert.ProjB.τ).loc Cert.ProjB.main_arg14))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
      ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4)
      ∧ r.2.mem ((c.tc : Thread Cert.ProjBIdeal.nD Cert.ProjBIdeal.τ).loc Cert.ProjBIdeal.main_arg5) = m ((c.tc : Thread Cert.ProjBIdeal.nD Cert.ProjBIdeal.τ).loc Cert.ProjBIdeal.main_arg5)
      ∧ r.2.mem ((c.tc : Thread Cert.ProjBIdeal.nD Cert.ProjBIdeal.τ).loc Cert.ProjBIdeal.main_arg6) = m ((c.tc : Thread Cert.ProjBIdeal.nD Cert.ProjBIdeal.τ).loc Cert.ProjBIdeal.main_arg6)
      ∧ r.2.mem ((c.tc : Thread Cert.ProjBIdeal.nD Cert.ProjBIdeal.τ).loc Cert.ProjBIdeal.main_arg7) = m ((c.tc : Thread Cert.ProjBIdeal.nD Cert.ProjBIdeal.τ).loc Cert.ProjBIdeal.main_arg7)
      ∧ r.2.mem ((c.tc : Thread Cert.ProjBIdeal.nD Cert.ProjBIdeal.τ).loc Cert.ProjBIdeal.main_arg8) = m ((c.tc : Thread Cert.ProjBIdeal.nD Cert.ProjBIdeal.τ).loc Cert.ProjBIdeal.main_arg8)
      ∧ r.2.mem ((c.tc : Thread Cert.ProjBIdeal.nD Cert.ProjBIdeal.τ).loc Cert.ProjBIdeal.main_arg9) = m ((c.tc : Thread Cert.ProjBIdeal.nD Cert.ProjBIdeal.τ).loc Cert.ProjBIdeal.main_arg9)
      ∧ r.2.mem ((c.tc : Thread Cert.ProjBIdeal.nD Cert.ProjBIdeal.τ).loc Cert.ProjBIdeal.main_arg10) = m ((c.tc : Thread Cert.ProjBIdeal.nD Cert.ProjBIdeal.τ).loc Cert.ProjBIdeal.main_arg10)
      ∧ r.2.mem ((c.tc : Thread Cert.ProjBIdeal.nD Cert.ProjBIdeal.τ).loc Cert.ProjBIdeal.main_arg11) = m ((c.tc : Thread Cert.ProjBIdeal.nD Cert.ProjBIdeal.τ).loc Cert.ProjBIdeal.main_arg11)
      ∧ r.2.mem ((c.tc : Thread Cert.ProjBIdeal.nD Cert.ProjBIdeal.τ).loc Cert.ProjBIdeal.main_arg12) = m ((c.tc : Thread Cert.ProjBIdeal.nD Cert.ProjBIdeal.τ).loc Cert.ProjBIdeal.main_arg12)
      ∧ r.2.mem ((c.tc : Thread Cert.ProjBIdeal.nD Cert.ProjBIdeal.τ).loc Cert.ProjBIdeal.main_arg13) = m ((c.tc : Thread Cert.ProjBIdeal.nD Cert.ProjBIdeal.τ).loc Cert.ProjBIdeal.main_arg13)
      ∧ r.2.mem ((c.tc : Thread Cert.ProjBIdeal.nD Cert.ProjBIdeal.τ).loc Cert.ProjBIdeal.main_arg14) = m ((c.tc : Thread Cert.ProjBIdeal.nD Cert.ProjBIdeal.τ).loc Cert.ProjBIdeal.main_arg14))
      ∧ r.2.sem = fun _ => 0)

def quiescent_ProjBIdeal_pre_finite_proj [hProjBIdeal : Cert.ProjBIdeal.Facts] [hPre_finite_proj : Cert.Pre_finite_proj.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal_finite_proj m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
      ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4)
      ∧ r.2.mem ((c.tc : Thread Cert.ProjBIdeal.nD Cert.ProjBIdeal.τ).loc Cert.ProjBIdeal.main_arg5) = m ((c.tc : Thread Cert.ProjBIdeal.nD Cert.ProjBIdeal.τ).loc Cert.ProjBIdeal.main_arg5)
      ∧ r.2.mem ((c.tc : Thread Cert.ProjBIdeal.nD Cert.ProjBIdeal.τ).loc Cert.ProjBIdeal.main_arg6) = m ((c.tc : Thread Cert.ProjBIdeal.nD Cert.ProjBIdeal.τ).loc Cert.ProjBIdeal.main_arg6)
      ∧ r.2.mem ((c.tc : Thread Cert.ProjBIdeal.nD Cert.ProjBIdeal.τ).loc Cert.ProjBIdeal.main_arg7) = m ((c.tc : Thread Cert.ProjBIdeal.nD Cert.ProjBIdeal.τ).loc Cert.ProjBIdeal.main_arg7)
      ∧ r.2.mem ((c.tc : Thread Cert.ProjBIdeal.nD Cert.ProjBIdeal.τ).loc Cert.ProjBIdeal.main_arg8) = m ((c.tc : Thread Cert.ProjBIdeal.nD Cert.ProjBIdeal.τ).loc Cert.ProjBIdeal.main_arg8)
      ∧ r.2.mem ((c.tc : Thread Cert.ProjBIdeal.nD Cert.ProjBIdeal.τ).loc Cert.ProjBIdeal.main_arg9) = m ((c.tc : Thread Cert.ProjBIdeal.nD Cert.ProjBIdeal.τ).loc Cert.ProjBIdeal.main_arg9)
      ∧ r.2.mem ((c.tc : Thread Cert.ProjBIdeal.nD Cert.ProjBIdeal.τ).loc Cert.ProjBIdeal.main_arg10) = m ((c.tc : Thread Cert.ProjBIdeal.nD Cert.ProjBIdeal.τ).loc Cert.ProjBIdeal.main_arg10)
      ∧ r.2.mem ((c.tc : Thread Cert.ProjBIdeal.nD Cert.ProjBIdeal.τ).loc Cert.ProjBIdeal.main_arg11) = m ((c.tc : Thread Cert.ProjBIdeal.nD Cert.ProjBIdeal.τ).loc Cert.ProjBIdeal.main_arg11)
      ∧ r.2.mem ((c.tc : Thread Cert.ProjBIdeal.nD Cert.ProjBIdeal.τ).loc Cert.ProjBIdeal.main_arg12) = m ((c.tc : Thread Cert.ProjBIdeal.nD Cert.ProjBIdeal.τ).loc Cert.ProjBIdeal.main_arg12)
      ∧ r.2.mem ((c.tc : Thread Cert.ProjBIdeal.nD Cert.ProjBIdeal.τ).loc Cert.ProjBIdeal.main_arg13) = m ((c.tc : Thread Cert.ProjBIdeal.nD Cert.ProjBIdeal.τ).loc Cert.ProjBIdeal.main_arg13)
      ∧ r.2.mem ((c.tc : Thread Cert.ProjBIdeal.nD Cert.ProjBIdeal.τ).loc Cert.ProjBIdeal.main_arg14) = m ((c.tc : Thread Cert.ProjBIdeal.nD Cert.ProjBIdeal.τ).loc Cert.ProjBIdeal.main_arg14))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12)
      ∧ r.2.mem ((c.tc : Thread Cert.ProjRefIdeal.nD Cert.ProjRefIdeal.τ).loc Cert.ProjRefIdeal.main_arg13) = m ((c.tc : Thread Cert.ProjRefIdeal.nD Cert.ProjRefIdeal.τ).loc Cert.ProjRefIdeal.main_arg13)
      ∧ r.2.mem ((c.tc : Thread Cert.ProjRefIdeal.nD Cert.ProjRefIdeal.τ).loc Cert.ProjRefIdeal.main_arg14) = m ((c.tc : Thread Cert.ProjRefIdeal.nD Cert.ProjRefIdeal.τ).loc Cert.ProjRefIdeal.main_arg14))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12)
      ∧ r.2.mem ((c.tc : Thread Cert.ProjRefIdeal.nD Cert.ProjRefIdeal.τ).loc Cert.ProjRefIdeal.main_arg13) = m ((c.tc : Thread Cert.ProjRefIdeal.nD Cert.ProjRefIdeal.τ).loc Cert.ProjRefIdeal.main_arg13)
      ∧ r.2.mem ((c.tc : Thread Cert.ProjRefIdeal.nD Cert.ProjRefIdeal.τ).loc Cert.ProjRefIdeal.main_arg14) = m ((c.tc : Thread Cert.ProjRefIdeal.nD Cert.ProjRefIdeal.τ).loc Cert.ProjRefIdeal.main_arg14))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5)
      ∧ r.2.mem ((c.tc : Thread Cert.MixF.nD Cert.MixF.τ).loc Cert.MixF.main_arg6) = m ((c.tc : Thread Cert.MixF.nD Cert.MixF.τ).loc Cert.MixF.main_arg6))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
      ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4)
      ∧ r.2.mem ((c.tc : Thread Cert.MixFRefIdeal.nD Cert.MixFRefIdeal.τ).loc Cert.MixFRefIdeal.main_arg5) = m ((c.tc : Thread Cert.MixFRefIdeal.nD Cert.MixFRefIdeal.τ).loc Cert.MixFRefIdeal.main_arg5)
      ∧ r.2.mem ((c.tc : Thread Cert.MixFRefIdeal.nD Cert.MixFRefIdeal.τ).loc Cert.MixFRefIdeal.main_arg6) = m ((c.tc : Thread Cert.MixFRefIdeal.nD Cert.MixFRefIdeal.τ).loc Cert.MixFRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_TapF [hTapF : Cert.TapF.Facts] : Prop :=
  ∀ (m : (ℓ : Loc Cert.TapF.nD Cert.TapF.τ Cert.TapF.sig) → Buf (Elt Bits) ℓ) (g : Dev Cert.TapF.nD → PrngReg), Pre_TapF m →
    θ_run (Cert.TapF.defs (F := Bits)) (onTc (τ := Cert.TapF.τ) (Cert.TapF.main (F := Bits))) ⟨m, fun _ => 0, g⟩ (fun r => (∀ c : Dev Cert.TapF.nD,
      r.2.mem ((c.tc : Thread Cert.TapF.nD Cert.TapF.τ).loc Cert.TapF.main_arg0) = m ((c.tc : Thread Cert.TapF.nD Cert.TapF.τ).loc Cert.TapF.main_arg0)
      ∧ r.2.mem ((c.tc : Thread Cert.TapF.nD Cert.TapF.τ).loc Cert.TapF.main_arg1) = m ((c.tc : Thread Cert.TapF.nD Cert.TapF.τ).loc Cert.TapF.main_arg1)
      ∧ r.2.mem ((c.tc : Thread Cert.TapF.nD Cert.TapF.τ).loc Cert.TapF.main_arg2) = m ((c.tc : Thread Cert.TapF.nD Cert.TapF.τ).loc Cert.TapF.main_arg2)
      ∧ r.2.mem ((c.tc : Thread Cert.TapF.nD Cert.TapF.τ).loc Cert.TapF.main_arg3) = m ((c.tc : Thread Cert.TapF.nD Cert.TapF.τ).loc Cert.TapF.main_arg3))
      ∧ r.2.sem = fun _ => 0)

def quiescent_TapFIdeal [hTapFIdeal : Cert.TapFIdeal.Facts] : Prop :=
  ∀ (m : (ℓ : Loc Cert.TapFIdeal.nD Cert.TapFIdeal.τ Cert.TapFIdeal.sig) → Buf (Elt Ideal) ℓ) (g : Dev Cert.TapFIdeal.nD → PrngReg), Pre_TapFIdeal m →
    θ_run (Cert.TapFIdeal.defs (F := Ideal)) (onTc (τ := Cert.TapFIdeal.τ) (Cert.TapFIdeal.main (F := Ideal))) ⟨m, fun _ => 0, g⟩ (fun r => (∀ c : Dev Cert.TapFIdeal.nD,
      r.2.mem ((c.tc : Thread Cert.TapFIdeal.nD Cert.TapFIdeal.τ).loc Cert.TapFIdeal.main_arg0) = m ((c.tc : Thread Cert.TapFIdeal.nD Cert.TapFIdeal.τ).loc Cert.TapFIdeal.main_arg0)
      ∧ r.2.mem ((c.tc : Thread Cert.TapFIdeal.nD Cert.TapFIdeal.τ).loc Cert.TapFIdeal.main_arg1) = m ((c.tc : Thread Cert.TapFIdeal.nD Cert.TapFIdeal.τ).loc Cert.TapFIdeal.main_arg1)
      ∧ r.2.mem ((c.tc : Thread Cert.TapFIdeal.nD Cert.TapFIdeal.τ).loc Cert.TapFIdeal.main_arg2) = m ((c.tc : Thread Cert.TapFIdeal.nD Cert.TapFIdeal.τ).loc Cert.TapFIdeal.main_arg2)
      ∧ r.2.mem ((c.tc : Thread Cert.TapFIdeal.nD Cert.TapFIdeal.τ).loc Cert.TapFIdeal.main_arg3) = m ((c.tc : Thread Cert.TapFIdeal.nD Cert.TapFIdeal.τ).loc Cert.TapFIdeal.main_arg3))
      ∧ r.2.sem = fun _ => 0)

def quiescent_TapFRefIdeal [hTapFRefIdeal : Cert.TapFRefIdeal.Facts] : Prop :=
  ∀ (m : (ℓ : Loc Cert.TapFRefIdeal.nD Cert.TapFRefIdeal.τ Cert.TapFRefIdeal.sig) → Buf (Elt Ideal) ℓ) (g : Dev Cert.TapFRefIdeal.nD → PrngReg), Pre_TapFRefIdeal m →
    θ_run (Cert.TapFRefIdeal.defs (F := Ideal)) (onTc (τ := Cert.TapFRefIdeal.τ) (Cert.TapFRefIdeal.main (F := Ideal))) ⟨m, fun _ => 0, g⟩ (fun r => (∀ c : Dev Cert.TapFRefIdeal.nD,
      r.2.mem ((c.tc : Thread Cert.TapFRefIdeal.nD Cert.TapFRefIdeal.τ).loc Cert.TapFRefIdeal.main_arg0) = m ((c.tc : Thread Cert.TapFRefIdeal.nD Cert.TapFRefIdeal.τ).loc Cert.TapFRefIdeal.main_arg0)
      ∧ r.2.mem ((c.tc : Thread Cert.TapFRefIdeal.nD Cert.TapFRefIdeal.τ).loc Cert.TapFRefIdeal.main_arg1) = m ((c.tc : Thread Cert.TapFRefIdeal.nD Cert.TapFRefIdeal.τ).loc Cert.TapFRefIdeal.main_arg1)
      ∧ r.2.mem ((c.tc : Thread Cert.TapFRefIdeal.nD Cert.TapFRefIdeal.τ).loc Cert.TapFRefIdeal.main_arg2) = m ((c.tc : Thread Cert.TapFRefIdeal.nD Cert.TapFRefIdeal.τ).loc Cert.TapFRefIdeal.main_arg2)
      ∧ r.2.mem ((c.tc : Thread Cert.TapFRefIdeal.nD Cert.TapFRefIdeal.τ).loc Cert.TapFRefIdeal.main_arg3) = m ((c.tc : Thread Cert.TapFRefIdeal.nD Cert.TapFRefIdeal.τ).loc Cert.TapFRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1)
      ∧ r.2.mem ((c.tc : Thread Cert.ProjF.nD Cert.ProjF.τ).loc Cert.ProjF.main_arg2) = m ((c.tc : Thread Cert.ProjF.nD Cert.ProjF.τ).loc Cert.ProjF.main_arg2)
      ∧ r.2.mem ((c.tc : Thread Cert.ProjF.nD Cert.ProjF.τ).loc Cert.ProjF.main_arg3) = m ((c.tc : Thread Cert.ProjF.nD Cert.ProjF.τ).loc Cert.ProjF.main_arg3))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1)
      ∧ r.2.mem ((c.tc : Thread Cert.ProjFIdeal.nD Cert.ProjFIdeal.τ).loc Cert.ProjFIdeal.main_arg2) = m ((c.tc : Thread Cert.ProjFIdeal.nD Cert.ProjFIdeal.τ).loc Cert.ProjFIdeal.main_arg2)
      ∧ r.2.mem ((c.tc : Thread Cert.ProjFIdeal.nD Cert.ProjFIdeal.τ).loc Cert.ProjFIdeal.main_arg3) = m ((c.tc : Thread Cert.ProjFIdeal.nD Cert.ProjFIdeal.τ).loc Cert.ProjFIdeal.main_arg3))
      ∧ r.2.sem = fun _ => 0)

def quiescent_ProjFRefIdeal [hProjFRefIdeal : Cert.ProjFRefIdeal.Facts] : Prop :=
  ∀ (m : (ℓ : Loc Cert.ProjFRefIdeal.nD Cert.ProjFRefIdeal.τ Cert.ProjFRefIdeal.sig) → Buf (Elt Ideal) ℓ) (g : Dev Cert.ProjFRefIdeal.nD → PrngReg), Pre_ProjFRefIdeal m →
    θ_run (Cert.ProjFRefIdeal.defs (F := Ideal)) (onTc (τ := Cert.ProjFRefIdeal.τ) (Cert.ProjFRefIdeal.main (F := Ideal))) ⟨m, fun _ => 0, g⟩ (fun r => (∀ c : Dev Cert.ProjFRefIdeal.nD,
      r.2.mem ((c.tc : Thread Cert.ProjFRefIdeal.nD Cert.ProjFRefIdeal.τ).loc Cert.ProjFRefIdeal.main_arg0) = m ((c.tc : Thread Cert.ProjFRefIdeal.nD Cert.ProjFRefIdeal.τ).loc Cert.ProjFRefIdeal.main_arg0)
      ∧ r.2.mem ((c.tc : Thread Cert.ProjFRefIdeal.nD Cert.ProjFRefIdeal.τ).loc Cert.ProjFRefIdeal.main_arg1) = m ((c.tc : Thread Cert.ProjFRefIdeal.nD Cert.ProjFRefIdeal.τ).loc Cert.ProjFRefIdeal.main_arg1)
      ∧ r.2.mem ((c.tc : Thread Cert.ProjFRefIdeal.nD Cert.ProjFRefIdeal.τ).loc Cert.ProjFRefIdeal.main_arg2) = m ((c.tc : Thread Cert.ProjFRefIdeal.nD Cert.ProjFRefIdeal.τ).loc Cert.ProjFRefIdeal.main_arg2)
      ∧ r.2.mem ((c.tc : Thread Cert.ProjFRefIdeal.nD Cert.ProjFRefIdeal.τ).loc Cert.ProjFRefIdeal.main_arg3) = m ((c.tc : Thread Cert.ProjFRefIdeal.nD Cert.ProjFRefIdeal.τ).loc Cert.ProjFRefIdeal.main_arg3))
      ∧ r.2.sem = fun _ => 0)

def quiescent_AdaB [hAdaB : Cert.AdaB.Facts] : Prop :=
  ∀ (m : (ℓ : Loc Cert.AdaB.nD Cert.AdaB.τ Cert.AdaB.sig) → Buf (Elt Bits) ℓ) (g : Dev Cert.AdaB.nD → PrngReg), Pre_AdaB m →
    θ_run (Cert.AdaB.defs (F := Bits)) (onTc (τ := Cert.AdaB.τ) (Cert.AdaB.main (F := Bits))) ⟨m, fun _ => 0, g⟩ (fun r => (∀ c : Dev Cert.AdaB.nD,
      r.2.mem ((c.tc : Thread Cert.AdaB.nD Cert.AdaB.τ).loc Cert.AdaB.main_arg0) = m ((c.tc : Thread Cert.AdaB.nD Cert.AdaB.τ).loc Cert.AdaB.main_arg0)
      ∧ r.2.mem ((c.tc : Thread Cert.AdaB.nD Cert.AdaB.τ).loc Cert.AdaB.main_arg1) = m ((c.tc : Thread Cert.AdaB.nD Cert.AdaB.τ).loc Cert.AdaB.main_arg1)
      ∧ r.2.mem ((c.tc : Thread Cert.AdaB.nD Cert.AdaB.τ).loc Cert.AdaB.main_arg2) = m ((c.tc : Thread Cert.AdaB.nD Cert.AdaB.τ).loc Cert.AdaB.main_arg2)
      ∧ r.2.mem ((c.tc : Thread Cert.AdaB.nD Cert.AdaB.τ).loc Cert.AdaB.main_arg3) = m ((c.tc : Thread Cert.AdaB.nD Cert.AdaB.τ).loc Cert.AdaB.main_arg3))
      ∧ r.2.sem = fun _ => 0)

def quiescent_AdaBIdeal [hAdaBIdeal : Cert.AdaBIdeal.Facts] : Prop :=
  ∀ (m : (ℓ : Loc Cert.AdaBIdeal.nD Cert.AdaBIdeal.τ Cert.AdaBIdeal.sig) → Buf (Elt Ideal) ℓ) (g : Dev Cert.AdaBIdeal.nD → PrngReg), Pre_AdaBIdeal m →
    θ_run (Cert.AdaBIdeal.defs (F := Ideal)) (onTc (τ := Cert.AdaBIdeal.τ) (Cert.AdaBIdeal.main (F := Ideal))) ⟨m, fun _ => 0, g⟩ (fun r => (∀ c : Dev Cert.AdaBIdeal.nD,
      r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
      ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
      ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2)
      ∧ r.2.mem ((c.tc : Thread Cert.AdaBIdeal.nD Cert.AdaBIdeal.τ).loc Cert.AdaBIdeal.main_arg3) = m ((c.tc : Thread Cert.AdaBIdeal.nD Cert.AdaBIdeal.τ).loc Cert.AdaBIdeal.main_arg3))
      ∧ r.2.sem = fun _ => 0)

def quiescent_AdaBRefIdeal [hAdaBRefIdeal : Cert.AdaBRefIdeal.Facts] : Prop :=
  ∀ (m : (ℓ : Loc Cert.AdaBRefIdeal.nD Cert.AdaBRefIdeal.τ Cert.AdaBRefIdeal.sig) → Buf (Elt Ideal) ℓ) (g : Dev Cert.AdaBRefIdeal.nD → PrngReg), Pre_AdaBRefIdeal m →
    θ_run (Cert.AdaBRefIdeal.defs (F := Ideal)) (onTc (τ := Cert.AdaBRefIdeal.τ) (Cert.AdaBRefIdeal.main (F := Ideal))) ⟨m, fun _ => 0, g⟩ (fun r => (∀ c : Dev Cert.AdaBRefIdeal.nD,
      r.2.mem ((c.tc : Thread Cert.AdaBRefIdeal.nD Cert.AdaBRefIdeal.τ).loc Cert.AdaBRefIdeal.main_arg0) = m ((c.tc : Thread Cert.AdaBRefIdeal.nD Cert.AdaBRefIdeal.τ).loc Cert.AdaBRefIdeal.main_arg0)
      ∧ r.2.mem ((c.tc : Thread Cert.AdaBRefIdeal.nD Cert.AdaBRefIdeal.τ).loc Cert.AdaBRefIdeal.main_arg1) = m ((c.tc : Thread Cert.AdaBRefIdeal.nD Cert.AdaBRefIdeal.τ).loc Cert.AdaBRefIdeal.main_arg1)
      ∧ r.2.mem ((c.tc : Thread Cert.AdaBRefIdeal.nD Cert.AdaBRefIdeal.τ).loc Cert.AdaBRefIdeal.main_arg2) = m ((c.tc : Thread Cert.AdaBRefIdeal.nD Cert.AdaBRefIdeal.τ).loc Cert.AdaBRefIdeal.main_arg2)
      ∧ r.2.mem ((c.tc : Thread Cert.AdaBRefIdeal.nD Cert.AdaBRefIdeal.τ).loc Cert.AdaBRefIdeal.main_arg3) = m ((c.tc : Thread Cert.AdaBRefIdeal.nD Cert.AdaBRefIdeal.τ).loc Cert.AdaBRefIdeal.main_arg3))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_SumConv [hSumConv : Cert.SumConv.Facts] : Prop :=
  ∀ (m : (ℓ : Loc Cert.SumConv.nD Cert.SumConv.τ Cert.SumConv.sig) → Buf (Elt Bits) ℓ) (g : Dev Cert.SumConv.nD → PrngReg), Pre_SumConv m →
    θ_run (Cert.SumConv.defs (F := Bits)) (onTc (τ := Cert.SumConv.τ) (Cert.SumConv.main (F := Bits))) ⟨m, fun _ => 0, g⟩ (fun r => (∀ c : Dev Cert.SumConv.nD,
      r.2.mem ((c.tc : Thread Cert.SumConv.nD Cert.SumConv.τ).loc Cert.SumConv.main_arg0) = m ((c.tc : Thread Cert.SumConv.nD Cert.SumConv.τ).loc Cert.SumConv.main_arg0))
      ∧ r.2.sem = fun _ => 0)

def quiescent_SumConvIdeal [hSumConvIdeal : Cert.SumConvIdeal.Facts] : Prop :=
  ∀ (m : (ℓ : Loc Cert.SumConvIdeal.nD Cert.SumConvIdeal.τ Cert.SumConvIdeal.sig) → Buf (Elt Ideal) ℓ) (g : Dev Cert.SumConvIdeal.nD → PrngReg), Pre_SumConvIdeal m →
    θ_run (Cert.SumConvIdeal.defs (F := Ideal)) (onTc (τ := Cert.SumConvIdeal.τ) (Cert.SumConvIdeal.main (F := Ideal))) ⟨m, fun _ => 0, g⟩ (fun r => (∀ c : Dev Cert.SumConvIdeal.nD,
      r.2.mem ((c.tc : Thread Cert.SumConvIdeal.nD Cert.SumConvIdeal.τ).loc Cert.SumConvIdeal.main_arg0) = m ((c.tc : Thread Cert.SumConvIdeal.nD Cert.SumConvIdeal.τ).loc Cert.SumConvIdeal.main_arg0))
      ∧ r.2.sem = fun _ => 0)

def quiescent_SumConvRefIdeal [hSumConvRefIdeal : Cert.SumConvRefIdeal.Facts] : Prop :=
  ∀ (m : (ℓ : Loc Cert.SumConvRefIdeal.nD Cert.SumConvRefIdeal.τ Cert.SumConvRefIdeal.sig) → Buf (Elt Ideal) ℓ) (g : Dev Cert.SumConvRefIdeal.nD → PrngReg), Pre_SumConvRefIdeal m →
    θ_run (Cert.SumConvRefIdeal.defs (F := Ideal)) (onTc (τ := Cert.SumConvRefIdeal.τ) (Cert.SumConvRefIdeal.main (F := Ideal))) ⟨m, fun _ => 0, g⟩ (fun r => (∀ c : Dev Cert.SumConvRefIdeal.nD,
      r.2.mem ((c.tc : Thread Cert.SumConvRefIdeal.nD Cert.SumConvRefIdeal.τ).loc Cert.SumConvRefIdeal.main_arg0) = m ((c.tc : Thread Cert.SumConvRefIdeal.nD Cert.SumConvRefIdeal.τ).loc Cert.SumConvRefIdeal.main_arg0))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1)
      ∧ r.2.mem ((c.tc : Thread Cert.Tn.nD Cert.Tn.τ).loc Cert.Tn.main_arg2) = m ((c.tc : Thread Cert.Tn.nD Cert.Tn.τ).loc Cert.Tn.main_arg2))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
      ∧ r.2.mem ((c.tc : Thread Cert.TnIdeal.nD Cert.TnIdeal.τ).loc Cert.TnIdeal.main_arg2) = m ((c.tc : Thread Cert.TnIdeal.nD Cert.TnIdeal.τ).loc Cert.TnIdeal.main_arg2))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1)
      ∧ r.2.mem ((c.tc : Thread Cert.TnRefIdeal.nD Cert.TnRefIdeal.τ).loc Cert.TnRefIdeal.main_arg2) = m ((c.tc : Thread Cert.TnRefIdeal.nD Cert.TnRefIdeal.τ).loc Cert.TnRefIdeal.main_arg2))
      ∧ r.2.sem = fun _ => 0)

def quiescent_Far [hFar : Cert.Far.Facts] : Prop :=
  ∀ (m : (ℓ : Loc Cert.Far.nD Cert.Far.τ Cert.Far.sig) → Buf (Elt Bits) ℓ) (g : Dev Cert.Far.nD → PrngReg), Pre_Far m →
    θ_run (Cert.Far.defs (F := Bits)) (onTc (τ := Cert.Far.τ) (Cert.Far.main (F := Bits))) ⟨m, fun _ => 0, g⟩ (fun r => (∀ c : Dev Cert.Far.nD,
      r.2.mem ((c.tc : Thread Cert.Far.nD Cert.Far.τ).loc Cert.Far.main_arg0) = m ((c.tc : Thread Cert.Far.nD Cert.Far.τ).loc Cert.Far.main_arg0)
      ∧ r.2.mem ((c.tc : Thread Cert.Far.nD Cert.Far.τ).loc Cert.Far.main_arg1) = m ((c.tc : Thread Cert.Far.nD Cert.Far.τ).loc Cert.Far.main_arg1)
      ∧ r.2.mem ((c.tc : Thread Cert.Far.nD Cert.Far.τ).loc Cert.Far.main_arg2) = m ((c.tc : Thread Cert.Far.nD Cert.Far.τ).loc Cert.Far.main_arg2)
      ∧ r.2.mem ((c.tc : Thread Cert.Far.nD Cert.Far.τ).loc Cert.Far.main_arg3) = m ((c.tc : Thread Cert.Far.nD Cert.Far.τ).loc Cert.Far.main_arg3)
      ∧ r.2.mem ((c.tc : Thread Cert.Far.nD Cert.Far.τ).loc Cert.Far.main_arg4) = m ((c.tc : Thread Cert.Far.nD Cert.Far.τ).loc Cert.Far.main_arg4))
      ∧ r.2.sem = fun _ => 0)

def quiescent_FarIdeal [hFarIdeal : Cert.FarIdeal.Facts] : Prop :=
  ∀ (m : (ℓ : Loc Cert.FarIdeal.nD Cert.FarIdeal.τ Cert.FarIdeal.sig) → Buf (Elt Ideal) ℓ) (g : Dev Cert.FarIdeal.nD → PrngReg), Pre_FarIdeal m →
    θ_run (Cert.FarIdeal.defs (F := Ideal)) (onTc (τ := Cert.FarIdeal.τ) (Cert.FarIdeal.main (F := Ideal))) ⟨m, fun _ => 0, g⟩ (fun r => (∀ c : Dev Cert.FarIdeal.nD,
      r.2.mem ((c.tc : Thread Cert.FarIdeal.nD Cert.FarIdeal.τ).loc Cert.FarIdeal.main_arg0) = m ((c.tc : Thread Cert.FarIdeal.nD Cert.FarIdeal.τ).loc Cert.FarIdeal.main_arg0)
      ∧ r.2.mem ((c.tc : Thread Cert.FarIdeal.nD Cert.FarIdeal.τ).loc Cert.FarIdeal.main_arg1) = m ((c.tc : Thread Cert.FarIdeal.nD Cert.FarIdeal.τ).loc Cert.FarIdeal.main_arg1)
      ∧ r.2.mem ((c.tc : Thread Cert.FarIdeal.nD Cert.FarIdeal.τ).loc Cert.FarIdeal.main_arg2) = m ((c.tc : Thread Cert.FarIdeal.nD Cert.FarIdeal.τ).loc Cert.FarIdeal.main_arg2)
      ∧ r.2.mem ((c.tc : Thread Cert.FarIdeal.nD Cert.FarIdeal.τ).loc Cert.FarIdeal.main_arg3) = m ((c.tc : Thread Cert.FarIdeal.nD Cert.FarIdeal.τ).loc Cert.FarIdeal.main_arg3)
      ∧ r.2.mem ((c.tc : Thread Cert.FarIdeal.nD Cert.FarIdeal.τ).loc Cert.FarIdeal.main_arg4) = m ((c.tc : Thread Cert.FarIdeal.nD Cert.FarIdeal.τ).loc Cert.FarIdeal.main_arg4))
      ∧ r.2.sem = fun _ => 0)

def quiescent_FarRefIdeal [hFarRefIdeal : Cert.FarRefIdeal.Facts] : Prop :=
  ∀ (m : (ℓ : Loc Cert.FarRefIdeal.nD Cert.FarRefIdeal.τ Cert.FarRefIdeal.sig) → Buf (Elt Ideal) ℓ) (g : Dev Cert.FarRefIdeal.nD → PrngReg), Pre_FarRefIdeal m →
    θ_run (Cert.FarRefIdeal.defs (F := Ideal)) (onTc (τ := Cert.FarRefIdeal.τ) (Cert.FarRefIdeal.main (F := Ideal))) ⟨m, fun _ => 0, g⟩ (fun r => (∀ c : Dev Cert.FarRefIdeal.nD,
      r.2.mem ((c.tc : Thread Cert.FarRefIdeal.nD Cert.FarRefIdeal.τ).loc Cert.FarRefIdeal.main_arg0) = m ((c.tc : Thread Cert.FarRefIdeal.nD Cert.FarRefIdeal.τ).loc Cert.FarRefIdeal.main_arg0)
      ∧ r.2.mem ((c.tc : Thread Cert.FarRefIdeal.nD Cert.FarRefIdeal.τ).loc Cert.FarRefIdeal.main_arg1) = m ((c.tc : Thread Cert.FarRefIdeal.nD Cert.FarRefIdeal.τ).loc Cert.FarRefIdeal.main_arg1)
      ∧ r.2.mem ((c.tc : Thread Cert.FarRefIdeal.nD Cert.FarRefIdeal.τ).loc Cert.FarRefIdeal.main_arg2) = m ((c.tc : Thread Cert.FarRefIdeal.nD Cert.FarRefIdeal.τ).loc Cert.FarRefIdeal.main_arg2)
      ∧ r.2.mem ((c.tc : Thread Cert.FarRefIdeal.nD Cert.FarRefIdeal.τ).loc Cert.FarRefIdeal.main_arg3) = m ((c.tc : Thread Cert.FarRefIdeal.nD Cert.FarRefIdeal.τ).loc Cert.FarRefIdeal.main_arg3)
      ∧ r.2.mem ((c.tc : Thread Cert.FarRefIdeal.nD Cert.FarRefIdeal.τ).loc Cert.FarRefIdeal.main_arg4) = m ((c.tc : Thread Cert.FarRefIdeal.nD Cert.FarRefIdeal.τ).loc Cert.FarRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v8_0)) (v1 : (c : Dev Cert.ConvIdeal.nD) → Buf (Elt Ideal) ((c.tc : Thread Cert.ConvIdeal.nD Cert.ConvIdeal.τ).loc Cert.ConvIdeal.main_v8_1)) (v2 : (c : Dev Cert.ConvIdeal.nD) → Buf (Elt Ideal) ((c.tc : Thread Cert.ConvIdeal.nD Cert.ConvIdeal.τ).loc Cert.ConvIdeal.main_v8_2)) (v3 : (c : Dev Cert.ConvIdeal.nD) → Buf (Elt Ideal) ((c.tc : Thread Cert.ConvIdeal.nD Cert.ConvIdeal.τ).loc Cert.ConvIdeal.main_v8_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8_0) = v0 c
          ∧ r.2.mem ((c.tc : Thread Cert.ConvIdeal.nD Cert.ConvIdeal.τ).loc Cert.ConvIdeal.main_v8_1) = v1 c
          ∧ r.2.mem ((c.tc : Thread Cert.ConvIdeal.nD Cert.ConvIdeal.τ).loc Cert.ConvIdeal.main_v8_2) = v2 c
          ∧ r.2.mem ((c.tc : Thread Cert.ConvIdeal.nD Cert.ConvIdeal.τ).loc Cert.ConvIdeal.main_v8_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v63) = v0 c
          ∧ r.2.mem ((c.tc : Thread Cert.ConvRefIdeal.nD Cert.ConvRefIdeal.τ).loc Cert.ConvRefIdeal.main_v65) = v1 c
          ∧ r.2.mem ((c.tc : Thread Cert.ConvRefIdeal.nD Cert.ConvRefIdeal.τ).loc Cert.ConvRefIdeal.main_v67) = v2 c
          ∧ r.2.mem ((c.tc : Thread Cert.ConvRefIdeal.nD Cert.ConvRefIdeal.τ).loc Cert.ConvRefIdeal.main_v57) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v32_0)) (v1 : (c : Dev Cert.FfnIdeal.nD) → Buf (Elt Ideal) ((c.tc : Thread Cert.FfnIdeal.nD Cert.FfnIdeal.τ).loc Cert.FfnIdeal.main_v32_1)) (v2 : (c : Dev Cert.FfnIdeal.nD) → Buf (Elt Ideal) ((c.tc : Thread Cert.FfnIdeal.nD Cert.FfnIdeal.τ).loc Cert.FfnIdeal.main_v32_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v32_0) = v0 c
          ∧ r.2.mem ((c.tc : Thread Cert.FfnIdeal.nD Cert.FfnIdeal.τ).loc Cert.FfnIdeal.main_v32_1) = v1 c
          ∧ r.2.mem ((c.tc : Thread Cert.FfnIdeal.nD Cert.FfnIdeal.τ).loc Cert.FfnIdeal.main_v32_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_v37) = v1 c
          ∧ r.2.mem ((c.tc : Thread Cert.FfnRefIdeal.nD Cert.FfnRefIdeal.τ).loc Cert.FfnRefIdeal.main_v42) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Out_OutIdeal : Prop :=
  True

def algebraic_OutIdeal_OutRefIdeal_pre_finite_out [hOutIdeal : Cert.OutIdeal.Facts] [hOutRefIdeal : Cert.OutRefIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_out m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v17_0)) (v1 : (c : Dev Cert.OutIdeal.nD) → Buf (Elt Ideal) ((c.tc : Thread Cert.OutIdeal.nD Cert.OutIdeal.τ).loc Cert.OutIdeal.main_v17_1)) (v2 : (c : Dev Cert.OutIdeal.nD) → Buf (Elt Ideal) ((c.tc : Thread Cert.OutIdeal.nD Cert.OutIdeal.τ).loc Cert.OutIdeal.main_v17_2)) (v3 : (c : Dev Cert.OutIdeal.nD) → Buf (Elt Ideal) ((c.tc : Thread Cert.OutIdeal.nD Cert.OutIdeal.τ).loc Cert.OutIdeal.main_v17_3)) (v4 : (c : Dev Cert.OutIdeal.nD) → Buf (Elt Ideal) ((c.tc : Thread Cert.OutIdeal.nD Cert.OutIdeal.τ).loc Cert.OutIdeal.main_v17_4)) (v5 : (c : Dev Cert.OutIdeal.nD) → Buf (Elt Ideal) ((c.tc : Thread Cert.OutIdeal.nD Cert.OutIdeal.τ).loc Cert.OutIdeal.main_v17_5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v17_0) = v0 c
          ∧ r.2.mem ((c.tc : Thread Cert.OutIdeal.nD Cert.OutIdeal.τ).loc Cert.OutIdeal.main_v17_1) = v1 c
          ∧ r.2.mem ((c.tc : Thread Cert.OutIdeal.nD Cert.OutIdeal.τ).loc Cert.OutIdeal.main_v17_2) = v2 c
          ∧ r.2.mem ((c.tc : Thread Cert.OutIdeal.nD Cert.OutIdeal.τ).loc Cert.OutIdeal.main_v17_3) = v3 c
          ∧ r.2.mem ((c.tc : Thread Cert.OutIdeal.nD Cert.OutIdeal.τ).loc Cert.OutIdeal.main_v17_4) = v4 c
          ∧ r.2.mem ((c.tc : Thread Cert.OutIdeal.nD Cert.OutIdeal.τ).loc Cert.OutIdeal.main_v17_5) = v5 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v84) = v0 c
          ∧ r.2.mem ((c.tc : Thread Cert.OutRefIdeal.nD Cert.OutRefIdeal.τ).loc Cert.OutRefIdeal.main_v86) = v1 c
          ∧ r.2.mem ((c.tc : Thread Cert.OutRefIdeal.nD Cert.OutRefIdeal.τ).loc Cert.OutRefIdeal.main_v88) = v2 c
          ∧ r.2.mem ((c.tc : Thread Cert.OutRefIdeal.nD Cert.OutRefIdeal.τ).loc Cert.OutRefIdeal.main_v90) = v3 c
          ∧ r.2.mem ((c.tc : Thread Cert.OutRefIdeal.nD Cert.OutRefIdeal.τ).loc Cert.OutRefIdeal.main_v91) = v4 c
          ∧ r.2.mem ((c.tc : Thread Cert.OutRefIdeal.nD Cert.OutRefIdeal.τ).loc Cert.OutRefIdeal.main_v78) = v5 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_ProjB_ProjBIdeal : Prop :=
  True

def algebraic_ProjBIdeal_ProjRefIdeal_pre_finite_proj [hProjBIdeal : Cert.ProjBIdeal.Facts] [hProjRefIdeal : Cert.ProjRefIdeal.Facts] [hPre_finite_proj : Cert.Pre_finite_proj.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjBIdeal_finite_proj m →
    (∀ c : Dev Cert.ProjBIdeal.nD,
      m' ((c.tc : Thread Cert.ProjRefIdeal.nD Cert.ProjRefIdeal.τ).loc Cert.ProjRefIdeal.main_arg0) = m ((c.tc : Thread Cert.ProjBIdeal.nD Cert.ProjBIdeal.τ).loc Cert.ProjBIdeal.main_arg0)
      ∧ m' ((c.tc : Thread Cert.ProjRefIdeal.nD Cert.ProjRefIdeal.τ).loc Cert.ProjRefIdeal.main_arg1) = m ((c.tc : Thread Cert.ProjBIdeal.nD Cert.ProjBIdeal.τ).loc Cert.ProjBIdeal.main_arg1)
      ∧ m' ((c.tc : Thread Cert.ProjRefIdeal.nD Cert.ProjRefIdeal.τ).loc Cert.ProjRefIdeal.main_arg2) = m ((c.tc : Thread Cert.ProjBIdeal.nD Cert.ProjBIdeal.τ).loc Cert.ProjBIdeal.main_arg2)
      ∧ m' ((c.tc : Thread Cert.ProjRefIdeal.nD Cert.ProjRefIdeal.τ).loc Cert.ProjRefIdeal.main_arg3) = m ((c.tc : Thread Cert.ProjBIdeal.nD Cert.ProjBIdeal.τ).loc Cert.ProjBIdeal.main_arg3)
      ∧ m' ((c.tc : Thread Cert.ProjRefIdeal.nD Cert.ProjRefIdeal.τ).loc Cert.ProjRefIdeal.main_arg4) = m ((c.tc : Thread Cert.ProjBIdeal.nD Cert.ProjBIdeal.τ).loc Cert.ProjBIdeal.main_arg4)
      ∧ m' ((c.tc : Thread Cert.ProjRefIdeal.nD Cert.ProjRefIdeal.τ).loc Cert.ProjRefIdeal.main_arg5) = m ((c.tc : Thread Cert.ProjBIdeal.nD Cert.ProjBIdeal.τ).loc Cert.ProjBIdeal.main_arg5)
      ∧ m' ((c.tc : Thread Cert.ProjRefIdeal.nD Cert.ProjRefIdeal.τ).loc Cert.ProjRefIdeal.main_arg6) = m ((c.tc : Thread Cert.ProjBIdeal.nD Cert.ProjBIdeal.τ).loc Cert.ProjBIdeal.main_arg6)
      ∧ m' ((c.tc : Thread Cert.ProjRefIdeal.nD Cert.ProjRefIdeal.τ).loc Cert.ProjRefIdeal.main_arg7) = m ((c.tc : Thread Cert.ProjBIdeal.nD Cert.ProjBIdeal.τ).loc Cert.ProjBIdeal.main_arg7)
      ∧ m' ((c.tc : Thread Cert.ProjRefIdeal.nD Cert.ProjRefIdeal.τ).loc Cert.ProjRefIdeal.main_arg8) = m ((c.tc : Thread Cert.ProjBIdeal.nD Cert.ProjBIdeal.τ).loc Cert.ProjBIdeal.main_arg8)
      ∧ m' ((c.tc : Thread Cert.ProjRefIdeal.nD Cert.ProjRefIdeal.τ).loc Cert.ProjRefIdeal.main_arg9) = m ((c.tc : Thread Cert.ProjBIdeal.nD Cert.ProjBIdeal.τ).loc Cert.ProjBIdeal.main_arg9)
      ∧ m' ((c.tc : Thread Cert.ProjRefIdeal.nD Cert.ProjRefIdeal.τ).loc Cert.ProjRefIdeal.main_arg10) = m ((c.tc : Thread Cert.ProjBIdeal.nD Cert.ProjBIdeal.τ).loc Cert.ProjBIdeal.main_arg10)
      ∧ m' ((c.tc : Thread Cert.ProjRefIdeal.nD Cert.ProjRefIdeal.τ).loc Cert.ProjRefIdeal.main_arg11) = m ((c.tc : Thread Cert.ProjBIdeal.nD Cert.ProjBIdeal.τ).loc Cert.ProjBIdeal.main_arg11)
      ∧ m' ((c.tc : Thread Cert.ProjRefIdeal.nD Cert.ProjRefIdeal.τ).loc Cert.ProjRefIdeal.main_arg12) = m ((c.tc : Thread Cert.ProjBIdeal.nD Cert.ProjBIdeal.τ).loc Cert.ProjBIdeal.main_arg12)
      ∧ m' ((c.tc : Thread Cert.ProjRefIdeal.nD Cert.ProjRefIdeal.τ).loc Cert.ProjRefIdeal.main_arg13) = m ((c.tc : Thread Cert.ProjBIdeal.nD Cert.ProjBIdeal.τ).loc Cert.ProjBIdeal.main_arg13)
      ∧ m' ((c.tc : Thread Cert.ProjRefIdeal.nD Cert.ProjRefIdeal.τ).loc Cert.ProjRefIdeal.main_arg14) = m ((c.tc : Thread Cert.ProjBIdeal.nD Cert.ProjBIdeal.τ).loc Cert.ProjBIdeal.main_arg14)) →
    ∃ (v0 : (c : Dev Cert.ProjBIdeal.nD) → Buf (Elt Ideal) ((c.tc : Thread Cert.ProjBIdeal.nD Cert.ProjBIdeal.τ).loc Cert.ProjBIdeal.main_v50_0)) (v1 : (c : Dev Cert.ProjBIdeal.nD) → Buf (Elt Ideal) ((c.tc : Thread Cert.ProjBIdeal.nD Cert.ProjBIdeal.τ).loc Cert.ProjBIdeal.main_v50_1)) (v2 : (c : Dev Cert.ProjBIdeal.nD) → Buf (Elt Ideal) ((c.tc : Thread Cert.ProjBIdeal.nD Cert.ProjBIdeal.τ).loc Cert.ProjBIdeal.main_v50_2)) (v3 : (c : Dev Cert.ProjBIdeal.nD) → Buf (Elt Ideal) ((c.tc : Thread Cert.ProjBIdeal.nD Cert.ProjBIdeal.τ).loc Cert.ProjBIdeal.main_v50_3)) (v4 : (c : Dev Cert.ProjBIdeal.nD) → Buf (Elt Ideal) ((c.tc : Thread Cert.ProjBIdeal.nD Cert.ProjBIdeal.τ).loc Cert.ProjBIdeal.main_v50_4)) (v5 : (c : Dev Cert.ProjBIdeal.nD) → Buf (Elt Ideal) ((c.tc : Thread Cert.ProjBIdeal.nD Cert.ProjBIdeal.τ).loc Cert.ProjBIdeal.main_v50_5)) (v6 : (c : Dev Cert.ProjBIdeal.nD) → Buf (Elt Ideal) ((c.tc : Thread Cert.ProjBIdeal.nD Cert.ProjBIdeal.τ).loc Cert.ProjBIdeal.main_v50_6)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v50_0) = v0 c
          ∧ r.2.mem ((c.tc : Thread Cert.ProjBIdeal.nD Cert.ProjBIdeal.τ).loc Cert.ProjBIdeal.main_v50_1) = v1 c
          ∧ r.2.mem ((c.tc : Thread Cert.ProjBIdeal.nD Cert.ProjBIdeal.τ).loc Cert.ProjBIdeal.main_v50_2) = v2 c
          ∧ r.2.mem ((c.tc : Thread Cert.ProjBIdeal.nD Cert.ProjBIdeal.τ).loc Cert.ProjBIdeal.main_v50_3) = v3 c
          ∧ r.2.mem ((c.tc : Thread Cert.ProjBIdeal.nD Cert.ProjBIdeal.τ).loc Cert.ProjBIdeal.main_v50_4) = v4 c
          ∧ r.2.mem ((c.tc : Thread Cert.ProjBIdeal.nD Cert.ProjBIdeal.τ).loc Cert.ProjBIdeal.main_v50_5) = v5 c
          ∧ r.2.mem ((c.tc : Thread Cert.ProjBIdeal.nD Cert.ProjBIdeal.τ).loc Cert.ProjBIdeal.main_v50_6) = v6 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
          ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4)
          ∧ r.2.mem ((c.tc : Thread Cert.ProjBIdeal.nD Cert.ProjBIdeal.τ).loc Cert.ProjBIdeal.main_arg5) = m ((c.tc : Thread Cert.ProjBIdeal.nD Cert.ProjBIdeal.τ).loc Cert.ProjBIdeal.main_arg5)
          ∧ r.2.mem ((c.tc : Thread Cert.ProjBIdeal.nD Cert.ProjBIdeal.τ).loc Cert.ProjBIdeal.main_arg6) = m ((c.tc : Thread Cert.ProjBIdeal.nD Cert.ProjBIdeal.τ).loc Cert.ProjBIdeal.main_arg6)
          ∧ r.2.mem ((c.tc : Thread Cert.ProjBIdeal.nD Cert.ProjBIdeal.τ).loc Cert.ProjBIdeal.main_arg7) = m ((c.tc : Thread Cert.ProjBIdeal.nD Cert.ProjBIdeal.τ).loc Cert.ProjBIdeal.main_arg7)
          ∧ r.2.mem ((c.tc : Thread Cert.ProjBIdeal.nD Cert.ProjBIdeal.τ).loc Cert.ProjBIdeal.main_arg8) = m ((c.tc : Thread Cert.ProjBIdeal.nD Cert.ProjBIdeal.τ).loc Cert.ProjBIdeal.main_arg8)
          ∧ r.2.mem ((c.tc : Thread Cert.ProjBIdeal.nD Cert.ProjBIdeal.τ).loc Cert.ProjBIdeal.main_arg9) = m ((c.tc : Thread Cert.ProjBIdeal.nD Cert.ProjBIdeal.τ).loc Cert.ProjBIdeal.main_arg9)
          ∧ r.2.mem ((c.tc : Thread Cert.ProjBIdeal.nD Cert.ProjBIdeal.τ).loc Cert.ProjBIdeal.main_arg10) = m ((c.tc : Thread Cert.ProjBIdeal.nD Cert.ProjBIdeal.τ).loc Cert.ProjBIdeal.main_arg10)
          ∧ r.2.mem ((c.tc : Thread Cert.ProjBIdeal.nD Cert.ProjBIdeal.τ).loc Cert.ProjBIdeal.main_arg11) = m ((c.tc : Thread Cert.ProjBIdeal.nD Cert.ProjBIdeal.τ).loc Cert.ProjBIdeal.main_arg11)
          ∧ r.2.mem ((c.tc : Thread Cert.ProjBIdeal.nD Cert.ProjBIdeal.τ).loc Cert.ProjBIdeal.main_arg12) = m ((c.tc : Thread Cert.ProjBIdeal.nD Cert.ProjBIdeal.τ).loc Cert.ProjBIdeal.main_arg12)
          ∧ r.2.mem ((c.tc : Thread Cert.ProjBIdeal.nD Cert.ProjBIdeal.τ).loc Cert.ProjBIdeal.main_arg13) = m ((c.tc : Thread Cert.ProjBIdeal.nD Cert.ProjBIdeal.τ).loc Cert.ProjBIdeal.main_arg13)
          ∧ r.2.mem ((c.tc : Thread Cert.ProjBIdeal.nD Cert.ProjBIdeal.τ).loc Cert.ProjBIdeal.main_arg14) = m ((c.tc : Thread Cert.ProjBIdeal.nD Cert.ProjBIdeal.τ).loc Cert.ProjBIdeal.main_arg14))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v104) = v0 c
          ∧ r.2.mem ((c.tc : Thread Cert.ProjRefIdeal.nD Cert.ProjRefIdeal.τ).loc Cert.ProjRefIdeal.main_v106) = v1 c
          ∧ r.2.mem ((c.tc : Thread Cert.ProjRefIdeal.nD Cert.ProjRefIdeal.τ).loc Cert.ProjRefIdeal.main_v108) = v2 c
          ∧ r.2.mem ((c.tc : Thread Cert.ProjRefIdeal.nD Cert.ProjRefIdeal.τ).loc Cert.ProjRefIdeal.main_v110) = v3 c
          ∧ r.2.mem ((c.tc : Thread Cert.ProjRefIdeal.nD Cert.ProjRefIdeal.τ).loc Cert.ProjRefIdeal.main_v111) = v4 c
          ∧ r.2.mem ((c.tc : Thread Cert.ProjRefIdeal.nD Cert.ProjRefIdeal.τ).loc Cert.ProjRefIdeal.main_v112) = v5 c
          ∧ r.2.mem ((c.tc : Thread Cert.ProjRefIdeal.nD Cert.ProjRefIdeal.τ).loc Cert.ProjRefIdeal.main_v102) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11)
          ∧ r.2.mem ((c.tc : Thread Cert.ProjRefIdeal.nD Cert.ProjRefIdeal.τ).loc Cert.ProjRefIdeal.main_arg12) = m' ((c.tc : Thread Cert.ProjRefIdeal.nD Cert.ProjRefIdeal.τ).loc Cert.ProjRefIdeal.main_arg12)
          ∧ r.2.mem ((c.tc : Thread Cert.ProjRefIdeal.nD Cert.ProjRefIdeal.τ).loc Cert.ProjRefIdeal.main_arg13) = m' ((c.tc : Thread Cert.ProjRefIdeal.nD Cert.ProjRefIdeal.τ).loc Cert.ProjRefIdeal.main_arg13)
          ∧ r.2.mem ((c.tc : Thread Cert.ProjRefIdeal.nD Cert.ProjRefIdeal.τ).loc Cert.ProjRefIdeal.main_arg14) = m' ((c.tc : Thread Cert.ProjRefIdeal.nD Cert.ProjRefIdeal.τ).loc Cert.ProjRefIdeal.main_arg14))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)) (v3 : (c : Dev Cert.LossIdeal.nD) → Buf (Elt Ideal) ((c.tc : Thread Cert.LossIdeal.nD Cert.LossIdeal.τ).loc Cert.LossIdeal.main_v6_3)) (v4 : (c : Dev Cert.LossIdeal.nD) → Buf (Elt Ideal) ((c.tc : Thread Cert.LossIdeal.nD Cert.LossIdeal.τ).loc Cert.LossIdeal.main_v6_4)) (v5 : (c : Dev Cert.LossIdeal.nD) → Buf (Elt Ideal) ((c.tc : Thread Cert.LossIdeal.nD Cert.LossIdeal.τ).loc Cert.LossIdeal.main_v6_5)) (v6 : (c : Dev Cert.LossIdeal.nD) → Buf (Elt Ideal) ((c.tc : Thread Cert.LossIdeal.nD Cert.LossIdeal.τ).loc Cert.LossIdeal.main_v6_6)) (v7 : (c : Dev Cert.LossIdeal.nD) → Buf (Elt Ideal) ((c.tc : Thread Cert.LossIdeal.nD Cert.LossIdeal.τ).loc Cert.LossIdeal.main_v6_7)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_v6_3) = v3 c
          ∧ r.2.mem ((c.tc : Thread Cert.LossIdeal.nD Cert.LossIdeal.τ).loc Cert.LossIdeal.main_v6_4) = v4 c
          ∧ r.2.mem ((c.tc : Thread Cert.LossIdeal.nD Cert.LossIdeal.τ).loc Cert.LossIdeal.main_v6_5) = v5 c
          ∧ r.2.mem ((c.tc : Thread Cert.LossIdeal.nD Cert.LossIdeal.τ).loc Cert.LossIdeal.main_v6_6) = v6 c
          ∧ r.2.mem ((c.tc : Thread Cert.LossIdeal.nD Cert.LossIdeal.τ).loc Cert.LossIdeal.main_v6_7) = v7 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v107) = v0 c
          ∧ r.2.mem ((c.tc : Thread Cert.LossRefIdeal.nD Cert.LossRefIdeal.τ).loc Cert.LossRefIdeal.main_v109) = v1 c
          ∧ r.2.mem ((c.tc : Thread Cert.LossRefIdeal.nD Cert.LossRefIdeal.τ).loc Cert.LossRefIdeal.main_v114) = v2 c
          ∧ r.2.mem ((c.tc : Thread Cert.LossRefIdeal.nD Cert.LossRefIdeal.τ).loc Cert.LossRefIdeal.main_v116) = v3 c
          ∧ r.2.mem ((c.tc : Thread Cert.LossRefIdeal.nD Cert.LossRefIdeal.τ).loc Cert.LossRefIdeal.main_v118) = v4 c
          ∧ r.2.mem ((c.tc : Thread Cert.LossRefIdeal.nD Cert.LossRefIdeal.τ).loc Cert.LossRefIdeal.main_v119) = v5 c
          ∧ r.2.mem ((c.tc : Thread Cert.LossRefIdeal.nD Cert.LossRefIdeal.τ).loc Cert.LossRefIdeal.main_v120) = v6 c
          ∧ r.2.mem ((c.tc : Thread Cert.LossRefIdeal.nD Cert.LossRefIdeal.τ).loc Cert.LossRefIdeal.main_v106) = v7 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8))

def preserves_MixF_MixFIdeal : Prop :=
  True

def algebraic_MixFIdeal_MixFRefIdeal [hMixFIdeal : Cert.MixFIdeal.Facts] [hMixFRefIdeal : Cert.MixFRefIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)
      ∧ m' ((c.tc : Thread Cert.MixFRefIdeal.nD Cert.MixFRefIdeal.τ).loc Cert.MixFRefIdeal.main_arg5) = m ((c.tc : Thread Cert.MixFIdeal.nD Cert.MixFIdeal.τ).loc Cert.MixFIdeal.main_arg5)
      ∧ m' ((c.tc : Thread Cert.MixFRefIdeal.nD Cert.MixFRefIdeal.τ).loc Cert.MixFRefIdeal.main_arg6) = m ((c.tc : Thread Cert.MixFIdeal.nD Cert.MixFIdeal.τ).loc Cert.MixFIdeal.main_arg6)) →
    ∃ (v0 : (c : Dev Cert.MixFIdeal.nD) → Buf (Elt Ideal) ((c.tc : Thread Cert.MixFIdeal.nD Cert.MixFIdeal.τ).loc Cert.MixFIdeal.main_v6_0)) (v1 : (c : Dev Cert.MixFIdeal.nD) → Buf (Elt Ideal) ((c.tc : Thread Cert.MixFIdeal.nD Cert.MixFIdeal.τ).loc Cert.MixFIdeal.main_v6_1)) (v2 : (c : Dev Cert.MixFIdeal.nD) → Buf (Elt Ideal) ((c.tc : Thread Cert.MixFIdeal.nD Cert.MixFIdeal.τ).loc Cert.MixFIdeal.main_v6_2)) (v3 : (c : Dev Cert.MixFIdeal.nD) → Buf (Elt Ideal) ((c.tc : Thread Cert.MixFIdeal.nD Cert.MixFIdeal.τ).loc Cert.MixFIdeal.main_v6_3)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v6_0) = v0 c
          ∧ r.2.mem ((c.tc : Thread Cert.MixFIdeal.nD Cert.MixFIdeal.τ).loc Cert.MixFIdeal.main_v6_1) = v1 c
          ∧ r.2.mem ((c.tc : Thread Cert.MixFIdeal.nD Cert.MixFIdeal.τ).loc Cert.MixFIdeal.main_v6_2) = v2 c
          ∧ r.2.mem ((c.tc : Thread Cert.MixFIdeal.nD Cert.MixFIdeal.τ).loc Cert.MixFIdeal.main_v6_3) = v3 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
          ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v35) = v0 c
          ∧ r.2.mem ((c.tc : Thread Cert.MixFRefIdeal.nD Cert.MixFRefIdeal.τ).loc Cert.MixFRefIdeal.main_v36) = v1 c
          ∧ r.2.mem ((c.tc : Thread Cert.MixFRefIdeal.nD Cert.MixFRefIdeal.τ).loc Cert.MixFRefIdeal.main_v38) = v2 c
          ∧ r.2.mem ((c.tc : Thread Cert.MixFRefIdeal.nD Cert.MixFRefIdeal.τ).loc Cert.MixFRefIdeal.main_v40) = v3 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4)
          ∧ r.2.mem ((c.tc : Thread Cert.MixFRefIdeal.nD Cert.MixFRefIdeal.τ).loc Cert.MixFRefIdeal.main_arg5) = m' ((c.tc : Thread Cert.MixFRefIdeal.nD Cert.MixFRefIdeal.τ).loc Cert.MixFRefIdeal.main_arg5)
          ∧ r.2.mem ((c.tc : Thread Cert.MixFRefIdeal.nD Cert.MixFRefIdeal.τ).loc Cert.MixFRefIdeal.main_arg6) = m' ((c.tc : Thread Cert.MixFRefIdeal.nD Cert.MixFRefIdeal.τ).loc Cert.MixFRefIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v14) = v0 c
          ∧ r.2.mem ((c.tc : Thread Cert.UpRefIdeal.nD Cert.UpRefIdeal.τ).loc Cert.UpRefIdeal.main_v18) = v1 c
          ∧ r.2.mem ((c.tc : Thread Cert.UpRefIdeal.nD Cert.UpRefIdeal.τ).loc Cert.UpRefIdeal.main_v20) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_TapF_TapFIdeal : Prop :=
  True

def algebraic_TapFIdeal_TapFRefIdeal [hTapFIdeal : Cert.TapFIdeal.Facts] [hTapFRefIdeal : Cert.TapFRefIdeal.Facts] : Prop :=
  ∀ (m : (ℓ : Loc Cert.TapFIdeal.nD Cert.TapFIdeal.τ Cert.TapFIdeal.sig) → Buf (Elt Ideal) ℓ) (g : Dev Cert.TapFIdeal.nD → PrngReg)
    (m' : (ℓ : Loc Cert.TapFRefIdeal.nD Cert.TapFRefIdeal.τ Cert.TapFRefIdeal.sig) → Buf (Elt Ideal) ℓ) (g' : Dev Cert.TapFRefIdeal.nD → PrngReg), Pre_TapFIdeal m →
    (∀ c : Dev Cert.TapFIdeal.nD,
      m' ((c.tc : Thread Cert.TapFRefIdeal.nD Cert.TapFRefIdeal.τ).loc Cert.TapFRefIdeal.main_arg0) = m ((c.tc : Thread Cert.TapFIdeal.nD Cert.TapFIdeal.τ).loc Cert.TapFIdeal.main_arg0)
      ∧ m' ((c.tc : Thread Cert.TapFRefIdeal.nD Cert.TapFRefIdeal.τ).loc Cert.TapFRefIdeal.main_arg1) = m ((c.tc : Thread Cert.TapFIdeal.nD Cert.TapFIdeal.τ).loc Cert.TapFIdeal.main_arg1)
      ∧ m' ((c.tc : Thread Cert.TapFRefIdeal.nD Cert.TapFRefIdeal.τ).loc Cert.TapFRefIdeal.main_arg2) = m ((c.tc : Thread Cert.TapFIdeal.nD Cert.TapFIdeal.τ).loc Cert.TapFIdeal.main_arg2)
      ∧ m' ((c.tc : Thread Cert.TapFRefIdeal.nD Cert.TapFRefIdeal.τ).loc Cert.TapFRefIdeal.main_arg3) = m ((c.tc : Thread Cert.TapFIdeal.nD Cert.TapFIdeal.τ).loc Cert.TapFIdeal.main_arg3)) →
    ∃ (v0 : (c : Dev Cert.TapFIdeal.nD) → Buf (Elt Ideal) ((c.tc : Thread Cert.TapFIdeal.nD Cert.TapFIdeal.τ).loc Cert.TapFIdeal.main_v6)),
      θ_run (Cert.TapFIdeal.defs (F := Ideal)) (onTc (τ := Cert.TapFIdeal.τ) (Cert.TapFIdeal.main (F := Ideal))) ⟨m, fun _ => 0, g⟩ (fun r => ∀ c : Dev Cert.TapFIdeal.nD,
          r.2.mem ((c.tc : Thread Cert.TapFIdeal.nD Cert.TapFIdeal.τ).loc Cert.TapFIdeal.main_v6) = v0 c
          ∧ r.2.mem ((c.tc : Thread Cert.TapFIdeal.nD Cert.TapFIdeal.τ).loc Cert.TapFIdeal.main_arg0) = m ((c.tc : Thread Cert.TapFIdeal.nD Cert.TapFIdeal.τ).loc Cert.TapFIdeal.main_arg0)
          ∧ r.2.mem ((c.tc : Thread Cert.TapFIdeal.nD Cert.TapFIdeal.τ).loc Cert.TapFIdeal.main_arg1) = m ((c.tc : Thread Cert.TapFIdeal.nD Cert.TapFIdeal.τ).loc Cert.TapFIdeal.main_arg1)
          ∧ r.2.mem ((c.tc : Thread Cert.TapFIdeal.nD Cert.TapFIdeal.τ).loc Cert.TapFIdeal.main_arg2) = m ((c.tc : Thread Cert.TapFIdeal.nD Cert.TapFIdeal.τ).loc Cert.TapFIdeal.main_arg2)
          ∧ r.2.mem ((c.tc : Thread Cert.TapFIdeal.nD Cert.TapFIdeal.τ).loc Cert.TapFIdeal.main_arg3) = m ((c.tc : Thread Cert.TapFIdeal.nD Cert.TapFIdeal.τ).loc Cert.TapFIdeal.main_arg3))
      ∧ θ_run (Cert.TapFRefIdeal.defs (F := Ideal)) (onTc (τ := Cert.TapFRefIdeal.τ) (Cert.TapFRefIdeal.main (F := Ideal))) ⟨m', fun _ => 0, g'⟩ (fun r => ∀ c : Dev Cert.TapFRefIdeal.nD,
          r.2.mem ((c.tc : Thread Cert.TapFRefIdeal.nD Cert.TapFRefIdeal.τ).loc Cert.TapFRefIdeal.main_v25) = v0 c
          ∧ r.2.mem ((c.tc : Thread Cert.TapFRefIdeal.nD Cert.TapFRefIdeal.τ).loc Cert.TapFRefIdeal.main_arg0) = m' ((c.tc : Thread Cert.TapFRefIdeal.nD Cert.TapFRefIdeal.τ).loc Cert.TapFRefIdeal.main_arg0)
          ∧ r.2.mem ((c.tc : Thread Cert.TapFRefIdeal.nD Cert.TapFRefIdeal.τ).loc Cert.TapFRefIdeal.main_arg1) = m' ((c.tc : Thread Cert.TapFRefIdeal.nD Cert.TapFRefIdeal.τ).loc Cert.TapFRefIdeal.main_arg1)
          ∧ r.2.mem ((c.tc : Thread Cert.TapFRefIdeal.nD Cert.TapFRefIdeal.τ).loc Cert.TapFRefIdeal.main_arg2) = m' ((c.tc : Thread Cert.TapFRefIdeal.nD Cert.TapFRefIdeal.τ).loc Cert.TapFRefIdeal.main_arg2)
          ∧ r.2.mem ((c.tc : Thread Cert.TapFRefIdeal.nD Cert.TapFRefIdeal.τ).loc Cert.TapFRefIdeal.main_arg3) = m' ((c.tc : Thread Cert.TapFRefIdeal.nD Cert.TapFRefIdeal.τ).loc Cert.TapFRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v6_0)) (v1 : (c : Dev Cert.DownIdeal.nD) → Buf (Elt Ideal) ((c.tc : Thread Cert.DownIdeal.nD Cert.DownIdeal.τ).loc Cert.DownIdeal.main_v6_1)) (v2 : (c : Dev Cert.DownIdeal.nD) → Buf (Elt Ideal) ((c.tc : Thread Cert.DownIdeal.nD Cert.DownIdeal.τ).loc Cert.DownIdeal.main_v6_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6_0) = v0 c
          ∧ r.2.mem ((c.tc : Thread Cert.DownIdeal.nD Cert.DownIdeal.τ).loc Cert.DownIdeal.main_v6_1) = v1 c
          ∧ r.2.mem ((c.tc : Thread Cert.DownIdeal.nD Cert.DownIdeal.τ).loc Cert.DownIdeal.main_v6_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v38) = v0 c
          ∧ r.2.mem ((c.tc : Thread Cert.DownRefIdeal.nD Cert.DownRefIdeal.τ).loc Cert.DownRefIdeal.main_v39) = v1 c
          ∧ r.2.mem ((c.tc : Thread Cert.DownRefIdeal.nD Cert.DownRefIdeal.τ).loc Cert.DownRefIdeal.main_v41) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_ProjF_ProjFIdeal : Prop :=
  True

def algebraic_ProjFIdeal_ProjFRefIdeal [hProjFIdeal : Cert.ProjFIdeal.Facts] [hProjFRefIdeal : Cert.ProjFRefIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFRefIdeal.nD Cert.ProjFRefIdeal.τ Cert.ProjFRefIdeal.sig) → Buf (Elt Ideal) ℓ) (g' : Dev Cert.ProjFRefIdeal.nD → PrngReg), Pre_ProjFIdeal m →
    (∀ c : Dev Cert.ProjFIdeal.nD,
      m' ((c.tc : Thread Cert.ProjFRefIdeal.nD Cert.ProjFRefIdeal.τ).loc Cert.ProjFRefIdeal.main_arg0) = m ((c.tc : Thread Cert.ProjFIdeal.nD Cert.ProjFIdeal.τ).loc Cert.ProjFIdeal.main_arg0)
      ∧ m' ((c.tc : Thread Cert.ProjFRefIdeal.nD Cert.ProjFRefIdeal.τ).loc Cert.ProjFRefIdeal.main_arg1) = m ((c.tc : Thread Cert.ProjFIdeal.nD Cert.ProjFIdeal.τ).loc Cert.ProjFIdeal.main_arg1)
      ∧ m' ((c.tc : Thread Cert.ProjFRefIdeal.nD Cert.ProjFRefIdeal.τ).loc Cert.ProjFRefIdeal.main_arg2) = m ((c.tc : Thread Cert.ProjFIdeal.nD Cert.ProjFIdeal.τ).loc Cert.ProjFIdeal.main_arg2)
      ∧ m' ((c.tc : Thread Cert.ProjFRefIdeal.nD Cert.ProjFRefIdeal.τ).loc Cert.ProjFRefIdeal.main_arg3) = m ((c.tc : Thread Cert.ProjFIdeal.nD Cert.ProjFIdeal.τ).loc Cert.ProjFIdeal.main_arg3)) →
    ∃ (v0 : (c : Dev Cert.ProjFIdeal.nD) → Buf (Elt Ideal) ((c.tc : Thread Cert.ProjFIdeal.nD Cert.ProjFIdeal.τ).loc Cert.ProjFIdeal.main_v3_0)) (v1 : (c : Dev Cert.ProjFIdeal.nD) → Buf (Elt Ideal) ((c.tc : Thread Cert.ProjFIdeal.nD Cert.ProjFIdeal.τ).loc Cert.ProjFIdeal.main_v3_1)) (v2 : (c : Dev Cert.ProjFIdeal.nD) → Buf (Elt Ideal) ((c.tc : Thread Cert.ProjFIdeal.nD Cert.ProjFIdeal.τ).loc Cert.ProjFIdeal.main_v3_2)) (v3 : (c : Dev Cert.ProjFIdeal.nD) → Buf (Elt Ideal) ((c.tc : Thread Cert.ProjFIdeal.nD Cert.ProjFIdeal.τ).loc Cert.ProjFIdeal.main_v3_3)) (v4 : (c : Dev Cert.ProjFIdeal.nD) → Buf (Elt Ideal) ((c.tc : Thread Cert.ProjFIdeal.nD Cert.ProjFIdeal.τ).loc Cert.ProjFIdeal.main_v3_4)) (v5 : (c : Dev Cert.ProjFIdeal.nD) → Buf (Elt Ideal) ((c.tc : Thread Cert.ProjFIdeal.nD Cert.ProjFIdeal.τ).loc Cert.ProjFIdeal.main_v3_5)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v3_0) = v0 c
          ∧ r.2.mem ((c.tc : Thread Cert.ProjFIdeal.nD Cert.ProjFIdeal.τ).loc Cert.ProjFIdeal.main_v3_1) = v1 c
          ∧ r.2.mem ((c.tc : Thread Cert.ProjFIdeal.nD Cert.ProjFIdeal.τ).loc Cert.ProjFIdeal.main_v3_2) = v2 c
          ∧ r.2.mem ((c.tc : Thread Cert.ProjFIdeal.nD Cert.ProjFIdeal.τ).loc Cert.ProjFIdeal.main_v3_3) = v3 c
          ∧ r.2.mem ((c.tc : Thread Cert.ProjFIdeal.nD Cert.ProjFIdeal.τ).loc Cert.ProjFIdeal.main_v3_4) = v4 c
          ∧ r.2.mem ((c.tc : Thread Cert.ProjFIdeal.nD Cert.ProjFIdeal.τ).loc Cert.ProjFIdeal.main_v3_5) = v5 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1)
          ∧ r.2.mem ((c.tc : Thread Cert.ProjFIdeal.nD Cert.ProjFIdeal.τ).loc Cert.ProjFIdeal.main_arg2) = m ((c.tc : Thread Cert.ProjFIdeal.nD Cert.ProjFIdeal.τ).loc Cert.ProjFIdeal.main_arg2)
          ∧ r.2.mem ((c.tc : Thread Cert.ProjFIdeal.nD Cert.ProjFIdeal.τ).loc Cert.ProjFIdeal.main_arg3) = m ((c.tc : Thread Cert.ProjFIdeal.nD Cert.ProjFIdeal.τ).loc Cert.ProjFIdeal.main_arg3))
      ∧ θ_run (Cert.ProjFRefIdeal.defs (F := Ideal)) (onTc (τ := Cert.ProjFRefIdeal.τ) (Cert.ProjFRefIdeal.main (F := Ideal))) ⟨m', fun _ => 0, g'⟩ (fun r => ∀ c : Dev Cert.ProjFRefIdeal.nD,
          r.2.mem ((c.tc : Thread Cert.ProjFRefIdeal.nD Cert.ProjFRefIdeal.τ).loc Cert.ProjFRefIdeal.main_v13) = v0 c
          ∧ r.2.mem ((c.tc : Thread Cert.ProjFRefIdeal.nD Cert.ProjFRefIdeal.τ).loc Cert.ProjFRefIdeal.main_v14) = v1 c
          ∧ r.2.mem ((c.tc : Thread Cert.ProjFRefIdeal.nD Cert.ProjFRefIdeal.τ).loc Cert.ProjFRefIdeal.main_v15) = v2 c
          ∧ r.2.mem ((c.tc : Thread Cert.ProjFRefIdeal.nD Cert.ProjFRefIdeal.τ).loc Cert.ProjFRefIdeal.main_v19) = v3 c
          ∧ r.2.mem ((c.tc : Thread Cert.ProjFRefIdeal.nD Cert.ProjFRefIdeal.τ).loc Cert.ProjFRefIdeal.main_v20) = v4 c
          ∧ r.2.mem ((c.tc : Thread Cert.ProjFRefIdeal.nD Cert.ProjFRefIdeal.τ).loc Cert.ProjFRefIdeal.main_v21) = v5 c
          ∧ r.2.mem ((c.tc : Thread Cert.ProjFRefIdeal.nD Cert.ProjFRefIdeal.τ).loc Cert.ProjFRefIdeal.main_arg0) = m' ((c.tc : Thread Cert.ProjFRefIdeal.nD Cert.ProjFRefIdeal.τ).loc Cert.ProjFRefIdeal.main_arg0)
          ∧ r.2.mem ((c.tc : Thread Cert.ProjFRefIdeal.nD Cert.ProjFRefIdeal.τ).loc Cert.ProjFRefIdeal.main_arg1) = m' ((c.tc : Thread Cert.ProjFRefIdeal.nD Cert.ProjFRefIdeal.τ).loc Cert.ProjFRefIdeal.main_arg1)
          ∧ r.2.mem ((c.tc : Thread Cert.ProjFRefIdeal.nD Cert.ProjFRefIdeal.τ).loc Cert.ProjFRefIdeal.main_arg2) = m' ((c.tc : Thread Cert.ProjFRefIdeal.nD Cert.ProjFRefIdeal.τ).loc Cert.ProjFRefIdeal.main_arg2)
          ∧ r.2.mem ((c.tc : Thread Cert.ProjFRefIdeal.nD Cert.ProjFRefIdeal.τ).loc Cert.ProjFRefIdeal.main_arg3) = m' ((c.tc : Thread Cert.ProjFRefIdeal.nD Cert.ProjFRefIdeal.τ).loc Cert.ProjFRefIdeal.main_arg3))

def preserves_AdaB_AdaBIdeal : Prop :=
  True

def algebraic_AdaBIdeal_AdaBRefIdeal [hAdaBIdeal : Cert.AdaBIdeal.Facts] [hAdaBRefIdeal : Cert.AdaBRefIdeal.Facts] : Prop :=
  ∀ (m : (ℓ : Loc Cert.AdaBIdeal.nD Cert.AdaBIdeal.τ Cert.AdaBIdeal.sig) → Buf (Elt Ideal) ℓ) (g : Dev Cert.AdaBIdeal.nD → PrngReg)
    (m' : (ℓ : Loc Cert.AdaBRefIdeal.nD Cert.AdaBRefIdeal.τ Cert.AdaBRefIdeal.sig) → Buf (Elt Ideal) ℓ) (g' : Dev Cert.AdaBRefIdeal.nD → PrngReg), Pre_AdaBIdeal m →
    (∀ c : Dev Cert.AdaBIdeal.nD,
      m' ((c.tc : Thread Cert.AdaBRefIdeal.nD Cert.AdaBRefIdeal.τ).loc Cert.AdaBRefIdeal.main_arg0) = m ((c.tc : Thread Cert.AdaBIdeal.nD Cert.AdaBIdeal.τ).loc Cert.AdaBIdeal.main_arg0)
      ∧ m' ((c.tc : Thread Cert.AdaBRefIdeal.nD Cert.AdaBRefIdeal.τ).loc Cert.AdaBRefIdeal.main_arg1) = m ((c.tc : Thread Cert.AdaBIdeal.nD Cert.AdaBIdeal.τ).loc Cert.AdaBIdeal.main_arg1)
      ∧ m' ((c.tc : Thread Cert.AdaBRefIdeal.nD Cert.AdaBRefIdeal.τ).loc Cert.AdaBRefIdeal.main_arg2) = m ((c.tc : Thread Cert.AdaBIdeal.nD Cert.AdaBIdeal.τ).loc Cert.AdaBIdeal.main_arg2)
      ∧ m' ((c.tc : Thread Cert.AdaBRefIdeal.nD Cert.AdaBRefIdeal.τ).loc Cert.AdaBRefIdeal.main_arg3) = m ((c.tc : Thread Cert.AdaBIdeal.nD Cert.AdaBIdeal.τ).loc Cert.AdaBIdeal.main_arg3)) →
    ∃ (v0 : (c : Dev Cert.AdaBIdeal.nD) → Buf (Elt Ideal) ((c.tc : Thread Cert.AdaBIdeal.nD Cert.AdaBIdeal.τ).loc Cert.AdaBIdeal.main_v10_0)) (v1 : (c : Dev Cert.AdaBIdeal.nD) → Buf (Elt Ideal) ((c.tc : Thread Cert.AdaBIdeal.nD Cert.AdaBIdeal.τ).loc Cert.AdaBIdeal.main_v10_1)),
      θ_run (Cert.AdaBIdeal.defs (F := Ideal)) (onTc (τ := Cert.AdaBIdeal.τ) (Cert.AdaBIdeal.main (F := Ideal))) ⟨m, fun _ => 0, g⟩ (fun r => ∀ c : Dev Cert.AdaBIdeal.nD,
          r.2.mem ((c.tc : Thread Cert.AdaBIdeal.nD Cert.AdaBIdeal.τ).loc Cert.AdaBIdeal.main_v10_0) = v0 c
          ∧ r.2.mem ((c.tc : Thread Cert.AdaBIdeal.nD Cert.AdaBIdeal.τ).loc Cert.AdaBIdeal.main_v10_1) = v1 c
          ∧ r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
          ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
          ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2)
          ∧ r.2.mem ((c.tc : Thread Cert.AdaBIdeal.nD Cert.AdaBIdeal.τ).loc Cert.AdaBIdeal.main_arg3) = m ((c.tc : Thread Cert.AdaBIdeal.nD Cert.AdaBIdeal.τ).loc Cert.AdaBIdeal.main_arg3))
      ∧ θ_run (Cert.AdaBRefIdeal.defs (F := Ideal)) (onTc (τ := Cert.AdaBRefIdeal.τ) (Cert.AdaBRefIdeal.main (F := Ideal))) ⟨m', fun _ => 0, g'⟩ (fun r => ∀ c : Dev Cert.AdaBRefIdeal.nD,
          r.2.mem ((c.tc : Thread Cert.AdaBRefIdeal.nD Cert.AdaBRefIdeal.τ).loc Cert.AdaBRefIdeal.main_v8) = v0 c
          ∧ r.2.mem ((c.tc : Thread Cert.AdaBRefIdeal.nD Cert.AdaBRefIdeal.τ).loc Cert.AdaBRefIdeal.main_v6) = v1 c
          ∧ r.2.mem ((c.tc : Thread Cert.AdaBRefIdeal.nD Cert.AdaBRefIdeal.τ).loc Cert.AdaBRefIdeal.main_arg0) = m' ((c.tc : Thread Cert.AdaBRefIdeal.nD Cert.AdaBRefIdeal.τ).loc Cert.AdaBRefIdeal.main_arg0)
          ∧ r.2.mem ((c.tc : Thread Cert.AdaBRefIdeal.nD Cert.AdaBRefIdeal.τ).loc Cert.AdaBRefIdeal.main_arg1) = m' ((c.tc : Thread Cert.AdaBRefIdeal.nD Cert.AdaBRefIdeal.τ).loc Cert.AdaBRefIdeal.main_arg1)
          ∧ r.2.mem ((c.tc : Thread Cert.AdaBRefIdeal.nD Cert.AdaBRefIdeal.τ).loc Cert.AdaBRefIdeal.main_arg2) = m' ((c.tc : Thread Cert.AdaBRefIdeal.nD Cert.AdaBRefIdeal.τ).loc Cert.AdaBRefIdeal.main_arg2)
          ∧ r.2.mem ((c.tc : Thread Cert.AdaBRefIdeal.nD Cert.AdaBRefIdeal.τ).loc Cert.AdaBRefIdeal.main_arg3) = m' ((c.tc : Thread Cert.AdaBRefIdeal.nD Cert.AdaBRefIdeal.τ).loc Cert.AdaBRefIdeal.main_arg3))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v0_0)) (v1 : (c : Dev Cert.StepIdeal.nD) → Buf (Elt Ideal) ((c.tc : Thread Cert.StepIdeal.nD Cert.StepIdeal.τ).loc Cert.StepIdeal.main_v0_1)) (v2 : (c : Dev Cert.StepIdeal.nD) → Buf (Elt Ideal) ((c.tc : Thread Cert.StepIdeal.nD Cert.StepIdeal.τ).loc Cert.StepIdeal.main_v0_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v0_0) = v0 c
          ∧ r.2.mem ((c.tc : Thread Cert.StepIdeal.nD Cert.StepIdeal.τ).loc Cert.StepIdeal.main_v0_1) = v1 c
          ∧ r.2.mem ((c.tc : Thread Cert.StepIdeal.nD Cert.StepIdeal.τ).loc Cert.StepIdeal.main_v0_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v23) = v0 c
          ∧ r.2.mem ((c.tc : Thread Cert.StepRefIdeal.nD Cert.StepRefIdeal.τ).loc Cert.StepRefIdeal.main_v4) = v1 c
          ∧ r.2.mem ((c.tc : Thread Cert.StepRefIdeal.nD Cert.StepRefIdeal.τ).loc Cert.StepRefIdeal.main_v10) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0_0)) (v1 : (c : Dev Cert.SumIdeal.nD) → Buf (Elt Ideal) ((c.tc : Thread Cert.SumIdeal.nD Cert.SumIdeal.τ).loc Cert.SumIdeal.main_v0_1)) (v2 : (c : Dev Cert.SumIdeal.nD) → Buf (Elt Ideal) ((c.tc : Thread Cert.SumIdeal.nD Cert.SumIdeal.τ).loc Cert.SumIdeal.main_v0_2)) (v3 : (c : Dev Cert.SumIdeal.nD) → Buf (Elt Ideal) ((c.tc : Thread Cert.SumIdeal.nD Cert.SumIdeal.τ).loc Cert.SumIdeal.main_v0_3)) (v4 : (c : Dev Cert.SumIdeal.nD) → Buf (Elt Ideal) ((c.tc : Thread Cert.SumIdeal.nD Cert.SumIdeal.τ).loc Cert.SumIdeal.main_v0_4)) (v5 : (c : Dev Cert.SumIdeal.nD) → Buf (Elt Ideal) ((c.tc : Thread Cert.SumIdeal.nD Cert.SumIdeal.τ).loc Cert.SumIdeal.main_v0_5)) (v6 : (c : Dev Cert.SumIdeal.nD) → Buf (Elt Ideal) ((c.tc : Thread Cert.SumIdeal.nD Cert.SumIdeal.τ).loc Cert.SumIdeal.main_v0_6)) (v7 : (c : Dev Cert.SumIdeal.nD) → Buf (Elt Ideal) ((c.tc : Thread Cert.SumIdeal.nD Cert.SumIdeal.τ).loc Cert.SumIdeal.main_v0_7)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0_0) = v0 c
          ∧ r.2.mem ((c.tc : Thread Cert.SumIdeal.nD Cert.SumIdeal.τ).loc Cert.SumIdeal.main_v0_1) = v1 c
          ∧ r.2.mem ((c.tc : Thread Cert.SumIdeal.nD Cert.SumIdeal.τ).loc Cert.SumIdeal.main_v0_2) = v2 c
          ∧ r.2.mem ((c.tc : Thread Cert.SumIdeal.nD Cert.SumIdeal.τ).loc Cert.SumIdeal.main_v0_3) = v3 c
          ∧ r.2.mem ((c.tc : Thread Cert.SumIdeal.nD Cert.SumIdeal.τ).loc Cert.SumIdeal.main_v0_4) = v4 c
          ∧ r.2.mem ((c.tc : Thread Cert.SumIdeal.nD Cert.SumIdeal.τ).loc Cert.SumIdeal.main_v0_5) = v5 c
          ∧ r.2.mem ((c.tc : Thread Cert.SumIdeal.nD Cert.SumIdeal.τ).loc Cert.SumIdeal.main_v0_6) = v6 c
          ∧ r.2.mem ((c.tc : Thread Cert.SumIdeal.nD Cert.SumIdeal.τ).loc Cert.SumIdeal.main_v0_7) = v7 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v1) = v0 c
          ∧ r.2.mem ((c.tc : Thread Cert.SumRefIdeal.nD Cert.SumRefIdeal.τ).loc Cert.SumRefIdeal.main_v2) = v1 c
          ∧ r.2.mem ((c.tc : Thread Cert.SumRefIdeal.nD Cert.SumRefIdeal.τ).loc Cert.SumRefIdeal.main_v3) = v2 c
          ∧ r.2.mem ((c.tc : Thread Cert.SumRefIdeal.nD Cert.SumRefIdeal.τ).loc Cert.SumRefIdeal.main_v4) = v3 c
          ∧ r.2.mem ((c.tc : Thread Cert.SumRefIdeal.nD Cert.SumRefIdeal.τ).loc Cert.SumRefIdeal.main_v5) = v4 c
          ∧ r.2.mem ((c.tc : Thread Cert.SumRefIdeal.nD Cert.SumRefIdeal.τ).loc Cert.SumRefIdeal.main_v6) = v5 c
          ∧ r.2.mem ((c.tc : Thread Cert.SumRefIdeal.nD Cert.SumRefIdeal.τ).loc Cert.SumRefIdeal.main_v7) = v6 c
          ∧ r.2.mem ((c.tc : Thread Cert.SumRefIdeal.nD Cert.SumRefIdeal.τ).loc Cert.SumRefIdeal.main_v8) = v7 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_SumConv_SumConvIdeal : Prop :=
  True

def algebraic_SumConvIdeal_SumConvRefIdeal [hSumConvIdeal : Cert.SumConvIdeal.Facts] [hSumConvRefIdeal : Cert.SumConvRefIdeal.Facts] : Prop :=
  ∀ (m : (ℓ : Loc Cert.SumConvIdeal.nD Cert.SumConvIdeal.τ Cert.SumConvIdeal.sig) → Buf (Elt Ideal) ℓ) (g : Dev Cert.SumConvIdeal.nD → PrngReg)
    (m' : (ℓ : Loc Cert.SumConvRefIdeal.nD Cert.SumConvRefIdeal.τ Cert.SumConvRefIdeal.sig) → Buf (Elt Ideal) ℓ) (g' : Dev Cert.SumConvRefIdeal.nD → PrngReg), Pre_SumConvIdeal m →
    (∀ c : Dev Cert.SumConvIdeal.nD,
      m' ((c.tc : Thread Cert.SumConvRefIdeal.nD Cert.SumConvRefIdeal.τ).loc Cert.SumConvRefIdeal.main_arg0) = m ((c.tc : Thread Cert.SumConvIdeal.nD Cert.SumConvIdeal.τ).loc Cert.SumConvIdeal.main_arg0)) →
    ∃ (v0 : (c : Dev Cert.SumConvIdeal.nD) → Buf (Elt Ideal) ((c.tc : Thread Cert.SumConvIdeal.nD Cert.SumConvIdeal.τ).loc Cert.SumConvIdeal.main_v0)),
      θ_run (Cert.SumConvIdeal.defs (F := Ideal)) (onTc (τ := Cert.SumConvIdeal.τ) (Cert.SumConvIdeal.main (F := Ideal))) ⟨m, fun _ => 0, g⟩ (fun r => ∀ c : Dev Cert.SumConvIdeal.nD,
          r.2.mem ((c.tc : Thread Cert.SumConvIdeal.nD Cert.SumConvIdeal.τ).loc Cert.SumConvIdeal.main_v0) = v0 c
          ∧ r.2.mem ((c.tc : Thread Cert.SumConvIdeal.nD Cert.SumConvIdeal.τ).loc Cert.SumConvIdeal.main_arg0) = m ((c.tc : Thread Cert.SumConvIdeal.nD Cert.SumConvIdeal.τ).loc Cert.SumConvIdeal.main_arg0))
      ∧ θ_run (Cert.SumConvRefIdeal.defs (F := Ideal)) (onTc (τ := Cert.SumConvRefIdeal.τ) (Cert.SumConvRefIdeal.main (F := Ideal))) ⟨m', fun _ => 0, g'⟩ (fun r => ∀ c : Dev Cert.SumConvRefIdeal.nD,
          r.2.mem ((c.tc : Thread Cert.SumConvRefIdeal.nD Cert.SumConvRefIdeal.τ).loc Cert.SumConvRefIdeal.main_v0) = v0 c
          ∧ r.2.mem ((c.tc : Thread Cert.SumConvRefIdeal.nD Cert.SumConvRefIdeal.τ).loc Cert.SumConvRefIdeal.main_arg0) = m' ((c.tc : Thread Cert.SumConvRefIdeal.nD Cert.SumConvRefIdeal.τ).loc Cert.SumConvRefIdeal.main_arg0))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)
      ∧ m' ((c.tc : Thread Cert.TnRefIdeal.nD Cert.TnRefIdeal.τ).loc Cert.TnRefIdeal.main_arg2) = m ((c.tc : Thread Cert.TnIdeal.nD Cert.TnIdeal.τ).loc Cert.TnIdeal.main_arg2)) →
    ∃ (v0 : (c : Dev Cert.TnIdeal.nD) → Buf (Elt Ideal) ((c.tc : Thread Cert.TnIdeal.nD Cert.TnIdeal.τ).loc Cert.TnIdeal.main_v3)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v3) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
          ∧ r.2.mem ((c.tc : Thread Cert.TnIdeal.nD Cert.TnIdeal.τ).loc Cert.TnIdeal.main_arg2) = m ((c.tc : Thread Cert.TnIdeal.nD Cert.TnIdeal.τ).loc Cert.TnIdeal.main_arg2))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v5) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1)
          ∧ r.2.mem ((c.tc : Thread Cert.TnRefIdeal.nD Cert.TnRefIdeal.τ).loc Cert.TnRefIdeal.main_arg2) = m' ((c.tc : Thread Cert.TnRefIdeal.nD Cert.TnRefIdeal.τ).loc Cert.TnRefIdeal.main_arg2))

def preserves_Far_FarIdeal : Prop :=
  True

def algebraic_FarIdeal_FarRefIdeal [hFarIdeal : Cert.FarIdeal.Facts] [hFarRefIdeal : Cert.FarRefIdeal.Facts] : Prop :=
  ∀ (m : (ℓ : Loc Cert.FarIdeal.nD Cert.FarIdeal.τ Cert.FarIdeal.sig) → Buf (Elt Ideal) ℓ) (g : Dev Cert.FarIdeal.nD → PrngReg)
    (m' : (ℓ : Loc Cert.FarRefIdeal.nD Cert.FarRefIdeal.τ Cert.FarRefIdeal.sig) → Buf (Elt Ideal) ℓ) (g' : Dev Cert.FarRefIdeal.nD → PrngReg), Pre_FarIdeal m →
    (∀ c : Dev Cert.FarIdeal.nD,
      m' ((c.tc : Thread Cert.FarRefIdeal.nD Cert.FarRefIdeal.τ).loc Cert.FarRefIdeal.main_arg0) = m ((c.tc : Thread Cert.FarIdeal.nD Cert.FarIdeal.τ).loc Cert.FarIdeal.main_arg0)
      ∧ m' ((c.tc : Thread Cert.FarRefIdeal.nD Cert.FarRefIdeal.τ).loc Cert.FarRefIdeal.main_arg1) = m ((c.tc : Thread Cert.FarIdeal.nD Cert.FarIdeal.τ).loc Cert.FarIdeal.main_arg1)
      ∧ m' ((c.tc : Thread Cert.FarRefIdeal.nD Cert.FarRefIdeal.τ).loc Cert.FarRefIdeal.main_arg2) = m ((c.tc : Thread Cert.FarIdeal.nD Cert.FarIdeal.τ).loc Cert.FarIdeal.main_arg2)
      ∧ m' ((c.tc : Thread Cert.FarRefIdeal.nD Cert.FarRefIdeal.τ).loc Cert.FarRefIdeal.main_arg3) = m ((c.tc : Thread Cert.FarIdeal.nD Cert.FarIdeal.τ).loc Cert.FarIdeal.main_arg3)
      ∧ m' ((c.tc : Thread Cert.FarRefIdeal.nD Cert.FarRefIdeal.τ).loc Cert.FarRefIdeal.main_arg4) = m ((c.tc : Thread Cert.FarIdeal.nD Cert.FarIdeal.τ).loc Cert.FarIdeal.main_arg4)) →
    ∃ (v0 : (c : Dev Cert.FarIdeal.nD) → Buf (Elt Ideal) ((c.tc : Thread Cert.FarIdeal.nD Cert.FarIdeal.τ).loc Cert.FarIdeal.main_v0_0)) (v1 : (c : Dev Cert.FarIdeal.nD) → Buf (Elt Ideal) ((c.tc : Thread Cert.FarIdeal.nD Cert.FarIdeal.τ).loc Cert.FarIdeal.main_v0_1)) (v2 : (c : Dev Cert.FarIdeal.nD) → Buf (Elt Ideal) ((c.tc : Thread Cert.FarIdeal.nD Cert.FarIdeal.τ).loc Cert.FarIdeal.main_v0_2)) (v3 : (c : Dev Cert.FarIdeal.nD) → Buf (Elt Ideal) ((c.tc : Thread Cert.FarIdeal.nD Cert.FarIdeal.τ).loc Cert.FarIdeal.main_v0_3)),
      θ_run (Cert.FarIdeal.defs (F := Ideal)) (onTc (τ := Cert.FarIdeal.τ) (Cert.FarIdeal.main (F := Ideal))) ⟨m, fun _ => 0, g⟩ (fun r => ∀ c : Dev Cert.FarIdeal.nD,
          r.2.mem ((c.tc : Thread Cert.FarIdeal.nD Cert.FarIdeal.τ).loc Cert.FarIdeal.main_v0_0) = v0 c
          ∧ r.2.mem ((c.tc : Thread Cert.FarIdeal.nD Cert.FarIdeal.τ).loc Cert.FarIdeal.main_v0_1) = v1 c
          ∧ r.2.mem ((c.tc : Thread Cert.FarIdeal.nD Cert.FarIdeal.τ).loc Cert.FarIdeal.main_v0_2) = v2 c
          ∧ r.2.mem ((c.tc : Thread Cert.FarIdeal.nD Cert.FarIdeal.τ).loc Cert.FarIdeal.main_v0_3) = v3 c
          ∧ r.2.mem ((c.tc : Thread Cert.FarIdeal.nD Cert.FarIdeal.τ).loc Cert.FarIdeal.main_arg0) = m ((c.tc : Thread Cert.FarIdeal.nD Cert.FarIdeal.τ).loc Cert.FarIdeal.main_arg0)
          ∧ r.2.mem ((c.tc : Thread Cert.FarIdeal.nD Cert.FarIdeal.τ).loc Cert.FarIdeal.main_arg1) = m ((c.tc : Thread Cert.FarIdeal.nD Cert.FarIdeal.τ).loc Cert.FarIdeal.main_arg1)
          ∧ r.2.mem ((c.tc : Thread Cert.FarIdeal.nD Cert.FarIdeal.τ).loc Cert.FarIdeal.main_arg2) = m ((c.tc : Thread Cert.FarIdeal.nD Cert.FarIdeal.τ).loc Cert.FarIdeal.main_arg2)
          ∧ r.2.mem ((c.tc : Thread Cert.FarIdeal.nD Cert.FarIdeal.τ).loc Cert.FarIdeal.main_arg3) = m ((c.tc : Thread Cert.FarIdeal.nD Cert.FarIdeal.τ).loc Cert.FarIdeal.main_arg3)
          ∧ r.2.mem ((c.tc : Thread Cert.FarIdeal.nD Cert.FarIdeal.τ).loc Cert.FarIdeal.main_arg4) = m ((c.tc : Thread Cert.FarIdeal.nD Cert.FarIdeal.τ).loc Cert.FarIdeal.main_arg4))
      ∧ θ_run (Cert.FarRefIdeal.defs (F := Ideal)) (onTc (τ := Cert.FarRefIdeal.τ) (Cert.FarRefIdeal.main (F := Ideal))) ⟨m', fun _ => 0, g'⟩ (fun r => ∀ c : Dev Cert.FarRefIdeal.nD,
          r.2.mem ((c.tc : Thread Cert.FarRefIdeal.nD Cert.FarRefIdeal.τ).loc Cert.FarRefIdeal.main_v2) = v0 c
          ∧ r.2.mem ((c.tc : Thread Cert.FarRefIdeal.nD Cert.FarRefIdeal.τ).loc Cert.FarRefIdeal.main_v26) = v1 c
          ∧ r.2.mem ((c.tc : Thread Cert.FarRefIdeal.nD Cert.FarRefIdeal.τ).loc Cert.FarRefIdeal.main_v7) = v2 c
          ∧ r.2.mem ((c.tc : Thread Cert.FarRefIdeal.nD Cert.FarRefIdeal.τ).loc Cert.FarRefIdeal.main_v13) = v3 c
          ∧ r.2.mem ((c.tc : Thread Cert.FarRefIdeal.nD Cert.FarRefIdeal.τ).loc Cert.FarRefIdeal.main_arg0) = m' ((c.tc : Thread Cert.FarRefIdeal.nD Cert.FarRefIdeal.τ).loc Cert.FarRefIdeal.main_arg0)
          ∧ r.2.mem ((c.tc : Thread Cert.FarRefIdeal.nD Cert.FarRefIdeal.τ).loc Cert.FarRefIdeal.main_arg1) = m' ((c.tc : Thread Cert.FarRefIdeal.nD Cert.FarRefIdeal.τ).loc Cert.FarRefIdeal.main_arg1)
          ∧ r.2.mem ((c.tc : Thread Cert.FarRefIdeal.nD Cert.FarRefIdeal.τ).loc Cert.FarRefIdeal.main_arg2) = m' ((c.tc : Thread Cert.FarRefIdeal.nD Cert.FarRefIdeal.τ).loc Cert.FarRefIdeal.main_arg2)
          ∧ r.2.mem ((c.tc : Thread Cert.FarRefIdeal.nD Cert.FarRefIdeal.τ).loc Cert.FarRefIdeal.main_arg3) = m' ((c.tc : Thread Cert.FarRefIdeal.nD Cert.FarRefIdeal.τ).loc Cert.FarRefIdeal.main_arg3)
          ∧ r.2.mem ((c.tc : Thread Cert.FarRefIdeal.nD Cert.FarRefIdeal.τ).loc Cert.FarRefIdeal.main_arg4) = m' ((c.tc : Thread Cert.FarRefIdeal.nD Cert.FarRefIdeal.τ).loc Cert.FarRefIdeal.main_arg4))

def preserves_Attn_AttnIdeal : Prop :=
  True

def Claim : Prop :=
  ∃ (hConv : Cert.Conv.Facts) (hConvIdeal : Cert.ConvIdeal.Facts) (hConvRefIdeal : Cert.ConvRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hProjB : Cert.ProjB.Facts) (hProjBIdeal : Cert.ProjBIdeal.Facts) (hProjRefIdeal : Cert.ProjRefIdeal.Facts) (hLoss : Cert.Loss.Facts) (hLossIdeal : Cert.LossIdeal.Facts) (hLossRefIdeal : Cert.LossRefIdeal.Facts) (hMixF : Cert.MixF.Facts) (hMixFIdeal : Cert.MixFIdeal.Facts) (hMixFRefIdeal : Cert.MixFRefIdeal.Facts) (hUp : Cert.Up.Facts) (hUpIdeal : Cert.UpIdeal.Facts) (hUpRefIdeal : Cert.UpRefIdeal.Facts) (hTapF : Cert.TapF.Facts) (hTapFIdeal : Cert.TapFIdeal.Facts) (hTapFRefIdeal : Cert.TapFRefIdeal.Facts) (hDown : Cert.Down.Facts) (hDownIdeal : Cert.DownIdeal.Facts) (hDownRefIdeal : Cert.DownRefIdeal.Facts) (hProjF : Cert.ProjF.Facts) (hProjFIdeal : Cert.ProjFIdeal.Facts) (hProjFRefIdeal : Cert.ProjFRefIdeal.Facts) (hAdaB : Cert.AdaB.Facts) (hAdaBIdeal : Cert.AdaBIdeal.Facts) (hAdaBRefIdeal : Cert.AdaBRefIdeal.Facts) (hStep : Cert.Step.Facts) (hStepIdeal : Cert.StepIdeal.Facts) (hStepRefIdeal : Cert.StepRefIdeal.Facts) (hSum : Cert.Sum.Facts) (hSumIdeal : Cert.SumIdeal.Facts) (hSumRefIdeal : Cert.SumRefIdeal.Facts) (hSumConv : Cert.SumConv.Facts) (hSumConvIdeal : Cert.SumConvIdeal.Facts) (hSumConvRefIdeal : Cert.SumConvRefIdeal.Facts) (hTn : Cert.Tn.Facts) (hTnIdeal : Cert.TnIdeal.Facts) (hTnRefIdeal : Cert.TnRefIdeal.Facts) (hFar : Cert.Far.Facts) (hFarIdeal : Cert.FarIdeal.Facts) (hFarRefIdeal : Cert.FarRefIdeal.Facts) (hAttn : Cert.Attn.Facts) (hAttnIdeal : Cert.AttnIdeal.Facts) (hAttnRefIdeal : Cert.AttnRefIdeal.Facts) (hPre_finite_ffn : Cert.Pre_finite_ffn.Facts) (hPre_finite_out : Cert.Pre_finite_out.Facts) (hPre_finite_proj : Cert.Pre_finite_proj.Facts) (hPre_finite_loss : Cert.Pre_finite_loss.Facts),
    quiescent_Conv (hConv := hConv)
    ∧ quiescent_ConvIdeal (hConvIdeal := hConvIdeal)
    ∧ quiescent_ConvRefIdeal (hConvRefIdeal := hConvRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Out (hOut := hOut)
    ∧ quiescent_OutIdeal (hOutIdeal := hOutIdeal)
    ∧ quiescent_OutIdeal_pre_finite_out (hOutIdeal := hOutIdeal) (hPre_finite_out := hPre_finite_out)
    ∧ quiescent_OutRefIdeal (hOutRefIdeal := hOutRefIdeal)
    ∧ quiescent_OutRefIdeal_pre_finite_out (hOutRefIdeal := hOutRefIdeal) (hPre_finite_out := hPre_finite_out)
    ∧ quiescent_ProjB (hProjB := hProjB)
    ∧ quiescent_ProjBIdeal (hProjBIdeal := hProjBIdeal)
    ∧ quiescent_ProjBIdeal_pre_finite_proj (hProjBIdeal := hProjBIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_MixF (hMixF := hMixF)
    ∧ quiescent_MixFIdeal (hMixFIdeal := hMixFIdeal)
    ∧ quiescent_MixFRefIdeal (hMixFRefIdeal := hMixFRefIdeal)
    ∧ quiescent_Up (hUp := hUp)
    ∧ quiescent_UpIdeal (hUpIdeal := hUpIdeal)
    ∧ quiescent_UpRefIdeal (hUpRefIdeal := hUpRefIdeal)
    ∧ quiescent_TapF (hTapF := hTapF)
    ∧ quiescent_TapFIdeal (hTapFIdeal := hTapFIdeal)
    ∧ quiescent_TapFRefIdeal (hTapFRefIdeal := hTapFRefIdeal)
    ∧ quiescent_Down (hDown := hDown)
    ∧ quiescent_DownIdeal (hDownIdeal := hDownIdeal)
    ∧ quiescent_DownRefIdeal (hDownRefIdeal := hDownRefIdeal)
    ∧ quiescent_ProjF (hProjF := hProjF)
    ∧ quiescent_ProjFIdeal (hProjFIdeal := hProjFIdeal)
    ∧ quiescent_ProjFRefIdeal (hProjFRefIdeal := hProjFRefIdeal)
    ∧ quiescent_AdaB (hAdaB := hAdaB)
    ∧ quiescent_AdaBIdeal (hAdaBIdeal := hAdaBIdeal)
    ∧ quiescent_AdaBRefIdeal (hAdaBRefIdeal := hAdaBRefIdeal)
    ∧ quiescent_Step (hStep := hStep)
    ∧ quiescent_StepIdeal (hStepIdeal := hStepIdeal)
    ∧ quiescent_StepRefIdeal (hStepRefIdeal := hStepRefIdeal)
    ∧ quiescent_Sum (hSum := hSum)
    ∧ quiescent_SumIdeal (hSumIdeal := hSumIdeal)
    ∧ quiescent_SumRefIdeal (hSumRefIdeal := hSumRefIdeal)
    ∧ quiescent_SumConv (hSumConv := hSumConv)
    ∧ quiescent_SumConvIdeal (hSumConvIdeal := hSumConvIdeal)
    ∧ quiescent_SumConvRefIdeal (hSumConvRefIdeal := hSumConvRefIdeal)
    ∧ quiescent_Tn (hTn := hTn)
    ∧ quiescent_TnIdeal (hTnIdeal := hTnIdeal)
    ∧ quiescent_TnRefIdeal (hTnRefIdeal := hTnRefIdeal)
    ∧ quiescent_Far (hFar := hFar)
    ∧ quiescent_FarIdeal (hFarIdeal := hFarIdeal)
    ∧ quiescent_FarRefIdeal (hFarRefIdeal := hFarRefIdeal)
    ∧ quiescent_Attn (hAttn := hAttn)
    ∧ quiescent_AttnIdeal (hAttnIdeal := hAttnIdeal)
    ∧ quiescent_AttnRefIdeal (hAttnRefIdeal := hAttnRefIdeal)
    ∧ preserves_Conv_ConvIdeal
    ∧ algebraic_ConvIdeal_ConvRefIdeal (hConvIdeal := hConvIdeal) (hConvRefIdeal := hConvRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Out_OutIdeal
    ∧ algebraic_OutIdeal_OutRefIdeal_pre_finite_out (hOutIdeal := hOutIdeal) (hOutRefIdeal := hOutRefIdeal) (hPre_finite_out := hPre_finite_out)
    ∧ preserves_ProjB_ProjBIdeal
    ∧ algebraic_ProjBIdeal_ProjRefIdeal_pre_finite_proj (hProjBIdeal := hProjBIdeal) (hProjRefIdeal := hProjRefIdeal) (hPre_finite_proj := hPre_finite_proj)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_MixF_MixFIdeal
    ∧ algebraic_MixFIdeal_MixFRefIdeal (hMixFIdeal := hMixFIdeal) (hMixFRefIdeal := hMixFRefIdeal)
    ∧ preserves_Up_UpIdeal
    ∧ algebraic_UpIdeal_UpRefIdeal (hUpIdeal := hUpIdeal) (hUpRefIdeal := hUpRefIdeal)
    ∧ preserves_TapF_TapFIdeal
    ∧ algebraic_TapFIdeal_TapFRefIdeal (hTapFIdeal := hTapFIdeal) (hTapFRefIdeal := hTapFRefIdeal)
    ∧ preserves_Down_DownIdeal
    ∧ algebraic_DownIdeal_DownRefIdeal (hDownIdeal := hDownIdeal) (hDownRefIdeal := hDownRefIdeal)
    ∧ preserves_ProjF_ProjFIdeal
    ∧ algebraic_ProjFIdeal_ProjFRefIdeal (hProjFIdeal := hProjFIdeal) (hProjFRefIdeal := hProjFRefIdeal)
    ∧ preserves_AdaB_AdaBIdeal
    ∧ algebraic_AdaBIdeal_AdaBRefIdeal (hAdaBIdeal := hAdaBIdeal) (hAdaBRefIdeal := hAdaBRefIdeal)
    ∧ preserves_Step_StepIdeal
    ∧ algebraic_StepIdeal_StepRefIdeal (hStepIdeal := hStepIdeal) (hStepRefIdeal := hStepRefIdeal)
    ∧ preserves_Sum_SumIdeal
    ∧ algebraic_SumIdeal_SumRefIdeal (hSumIdeal := hSumIdeal) (hSumRefIdeal := hSumRefIdeal)
    ∧ preserves_SumConv_SumConvIdeal
    ∧ algebraic_SumConvIdeal_SumConvRefIdeal (hSumConvIdeal := hSumConvIdeal) (hSumConvRefIdeal := hSumConvRefIdeal)
    ∧ preserves_Tn_TnIdeal
    ∧ algebraic_TnIdeal_TnRefIdeal (hTnIdeal := hTnIdeal) (hTnRefIdeal := hTnRefIdeal)
    ∧ preserves_Far_FarIdeal
    ∧ algebraic_FarIdeal_FarRefIdeal (hFarIdeal := hFarIdeal) (hFarRefIdeal := hFarRefIdeal)
    ∧ preserves_Attn_AttnIdeal
-- ==== Pre_finite_ffn.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x5632 .f32) (main_arg5 : FVec F S2816x1024 .f32) (main_arg6 : FVec F S2x2048x1024 .f32) (main_v3 : IVec S_ 1) (main_v7 : IVec S_ 1) (main_v11 : IVec S_ 1) (main_v15 : IVec S_ 1) : IVec S_ 1 :=
  let main_v16 : FVec F S1024x5632 .f32 := Host.absf main_arg4
  let main_cst_6 : FVec F S_ .f32 := constant S_ .f32 0x7F800000#32
  let main_v17 : FVec F S1024x5632 .f32 := broadcastInDim S1024x5632 ![] bcast_S_S1024x5632 main_cst_6
  let main_v18 : IVec S1024x5632 1 := cmpf .olt main_v16 main_v17
  let main_c_7 : IVec S_ 1 := constantI S_ 1 1#1
  let main_v19 : IVec S_ 1 := (fun x v => Host.reduce IntOp.andi x v reducesTo_S1024x5632_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : FVec F S2x2048x1024 .f32 := Host.absf main_arg6
  let main_cst_10 : FVec F S_ .f32 := constant S_ .f32 0x7F800000#32
  let main_v25 : FVec F S2x2048x1024 .f32 := broadcastInDim S2x2048x1024 ![] bcast_S_S2x2048x1024 main_cst_10
  let main_v26 : IVec S2x2048x1024 1 := cmpf .olt main_v24 main_v25
  let main_c_11 : IVec S_ 1 := constantI S_ 1 1#1
  let main_v27 : IVec S_ 1 := (fun x v => Host.reduce IntOp.andi x v reducesTo_S2x2048x1024_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x2048x1024 .f32) (main_arg1 : FVec F S2x1x1024 .f32) (main_arg2 : FVec F S2x1x1024 .f32) (main_arg3 : FVec F S2x1x1024 .f32) (main_arg4 : FVec F S1024x5632 .f32) (main_arg5 : FVec F S2816x1024 .f32) (main_arg6 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x1x1024 .f32 := Host.absf main_arg1
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S2x1x1024 .f32 := Host.absf main_arg3
  let main_cst_4 : FVec F S_ .f32 := constant S_ .f32 0x7F800000#32
  let main_v13 : FVec F S2x1x1024 .f32 := broadcastInDim S2x1x1024 ![] bcast_S_S2x1x1024 main_cst_4
  let main_v14 : IVec S2x1x1024 1 := cmpf .olt main_v12 main_v13
  let main_c_5 : IVec S_ 1 := constantI S_ 1 1#1
  let main_v15 : IVec S_ 1 := (fun x v => Host.reduce IntOp.andi x v reducesTo_S2x1x1024_S_d0_1_2 h_S_) main_v14 main_c_5
  fn_part1 (F := F) main_arg4 main_arg5 main_arg6 main_v3 main_v7 main_v11 main_v15
-- ==== Pre_finite_loss.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S2x2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x2048x1024 .f32 := Host.absf main_arg8
  let main_cst_14 : FVec F S_ .f32 := constant S_ .f32 0x7F800000#32
  let main_v33 : FVec F S2x2048x1024 .f32 := broadcastInDim S2x2048x1024 ![] bcast_S_S2x2048x1024 main_cst_14
  let main_v34 : IVec S2x2048x1024 1 := cmpf .olt main_v32 main_v33
  let main_c_15 : IVec S_ 1 := constantI S_ 1 1#1
  let main_v35 : IVec S_ 1 := (fun x v => Host.reduce IntOp.andi x v reducesTo_S2x2048x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1024x5632 .f32) (main_arg5 : FVec F S2816x1024 .f32) (main_arg6 : FVec F S1x1024 .f32) (main_arg7 : FVec F S1x1024 .f32) (main_arg8 : FVec F S2x2048x1024 .f32) (main_v3 : IVec S_ 1) (main_v7 : IVec S_ 1) (main_v11 : IVec S_ 1) (main_v15 : IVec S_ 1) : IVec S_ 1 :=
  let main_v16 : FVec F S1024x5632 .f32 := Host.absf main_arg4
  let main_cst_6 : FVec F S_ .f32 := constant S_ .f32 0x7F800000#32
  let main_v17 : FVec F S1024x5632 .f32 := broadcastInDim S1024x5632 ![] bcast_S_S1024x5632 main_cst_6
  let main_v18 : IVec S1024x5632 1 := cmpf .olt main_v16 main_v17
  let main_c_7 : IVec S_ 1 := constantI S_ 1 1#1
  let main_v19 : IVec S_ 1 := (fun x v => Host.reduce IntOp.andi x v reducesTo_S1024x5632_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_v3 main_v7 main_v11 main_v15 main_v19 main_v23 main_v27 main_v31

def fn {F : FTy → Type} [FloatOps F] (main_arg0 : FVec F S2x2048x1024 .f32) (main_arg1 : FVec F S2x1x1024 .f32) (main_arg2 : FVec F S2x1x1024 .f32) (main_arg3 : FVec F S2x1x1024 .f32) (main_arg4 : FVec F S1024x5632 .f32) (main_arg5 : FVec F S2816x1024 .f32) (main_arg6 : FVec F S1x1024 .f32) (main_arg7 : FVec F S1x1024 .f32) (main_arg8 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x1x1024 .f32 := Host.absf main_arg1
  let main_cst_0 : FVec F S_ .f32 := constant S_ .f32 0x7F800000#32
  let main_v5 : FVec F S2x1x1024 .f32 := broadcastInDim S2x1x1024 ![] bcast_S_S2x1x1024 main_cst_0
  let main_v6 : IVec S2x1x1024 1 := cmpf .olt main_v4 main_v5
  let main_c_1 : IVec S_ 1 := constantI S_ 1 1#1
  let main_v7 : IVec S_ 1 := (fun x v => Host.reduce IntOp.andi x v reducesTo_S2x1x1024_S_d0_1_2 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S2x1x1024 .f32 := Host.absf main_arg3
  let main_cst_4 : FVec F S_ .f32 := constant S_ .f32 0x7F800000#32
  let main_v13 : FVec F S2x1x1024 .f32 := broadcastInDim S2x1x1024 ![] bcast_S_S2x1x1024 main_cst_4
  let main_v14 : IVec S2x1x1024 1 := cmpf .olt main_v12 main_v13
  let main_c_5 : IVec S_ 1 := constantI S_ 1 1#1
  let main_v15 : IVec S_ 1 := (fun x v => Host.reduce IntOp.andi x v reducesTo_S2x1x1024_S_d0_1_2 h_S_) main_v14 main_c_5
  fn_part1 (F := F) main_arg4 main_arg5 main_arg6 main_arg7 main_arg8 main_v3 main_v7 main_v11 main_v15
-- ==== Pre_finite_out.lean ====
abbrev S2x2048x1024 : Shape := ⟨3, ![2, 2048, 1024]⟩
abbrev S2x2048x512 : Shape := ⟨3, ![2, 2048, 512]⟩
abbrev S2x1x1024 : Shape := ⟨3, ![2, 1, 1024]⟩
abbrev S1024x1024 : Shape := ⟨2, ![1024, 1024]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1024x1024 .f32) (main_arg5 : FVec F S1x1024 .f32) (main_arg7 : FVec F S2x2048x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S2x2048x1024 .f32 := Host.absf main_arg7
  let main_cst_10 : FVec F S_ .f32 := constant S_ .f32 0x7F800000#32
  let main_v25 : FVec F S2x2048x1024 .f32 := broadcastInDim S2x2048x1024 ![] bcast_S_S2x2048x1024 main_cst_10
  let main_v26 : IVec S2x2048x1024 1 := cmpf .olt main_v24 main_v25
  let main_c_11 : IVec S_ 1 := constantI S_ 1 1#1
  let main_v27 : IVec S_ 1 := (fun x v => Host.reduce IntOp.andi x v reducesTo_S2x2048x1024_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x2048x1024 .f32) (main_arg1 : FVec F S2x2048x512 .f32) (main_arg2 : FVec F S2x2048x512 .f32) (main_arg3 : FVec F S2x1x1024 .f32) (main_arg4 : FVec F S1024x1024 .f32) (main_arg5 : FVec F S1x1024 .f32) (main_arg6 : FVec F S1x1024 .f32) (main_arg7 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S2x2048x512 .f32 := Host.absf main_arg2
  let main_cst_2 : FVec F S_ .f32 := constant S_ .f32 0x7F800000#32
  let main_v9 : FVec F S2x2048x512 .f32 := broadcastInDim S2x2048x512 ![] bcast_S_S2x2048x512 main_cst_2
  let main_v10 : IVec S2x2048x512 1 := cmpf .olt main_v8 main_v9
  let main_c_3 : IVec S_ 1 := constantI S_ 1 1#1
  let main_v11 : IVec S_ 1 := (fun x v => Host.reduce IntOp.andi x v reducesTo_S2x2048x512_S_d0_1_2 h_S_) main_v10 main_c_3
  let main_v12 : FVec F S2x1x1024 .f32 := Host.absf main_arg3
  let main_cst_4 : FVec F S_ .f32 := constant S_ .f32 0x7F800000#32
  let main_v13 : FVec F S2x1x1024 .f32 := broadcastInDim S2x1x1024 ![] bcast_S_S2x1x1024 main_cst_4
  let main_v14 : IVec S2x1x1024 1 := cmpf .olt main_v12 main_v13
  let main_c_5 : IVec S_ 1 := constantI S_ 1 1#1
  let main_v15 : IVec S_ 1 := (fun x v => Host.reduce IntOp.andi x v reducesTo_S2x1x1024_S_d0_1_2 h_S_) main_v14 main_c_5
  fn_part1 (F := F) main_arg4 main_arg5 main_arg7 main_v3 main_v7 main_v11 main_v15
-- ==== Pre_finite_proj.lean ====
abbrev S2x2048x1024 : Shape := ⟨3, ![2, 2048, 1024]⟩
abbrev S2x1x1024 : Shape := ⟨3, ![2, 1, 1024]⟩
abbrev S1x1024 : Shape := ⟨2, ![1, 1024]⟩
abbrev S1024x2304 : Shape := ⟨2, ![1024, 2304]⟩
abbrev S2x2048x512 : Shape := ⟨3, ![2, 2048, 512]⟩
abbrev S2x2048x128 : Shape := ⟨3, ![2, 2048, 128]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1x1024 : S_.BroadcastsInDim S2x1x1024 (![] : Fin 0 → Fin S2x1x1024.rank)
  reducesTo_S2x1x1024_S_d0_1_2 : S2x1x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x2304 : S_.BroadcastsInDim S1024x2304 (![] : Fin 0 → Fin S1024x2304.rank)
  reducesTo_S1024x2304_S_d0_1 : S1024x2304.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x128 : S_.BroadcastsInDim S2x2048x128 (![] : Fin 0 → Fin S2x2048x128.rank)
  reducesTo_S2x2048x128_S_d0_1_2 : S2x2048x128.ReducesTo [0, 1, 2] S_

variable [Facts]

def fn_part3 {F : FTy → Type} [FloatOps F] (main_arg14 : FVec F S2x2048x512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S2x2048x512 .f32 := Host.absf main_arg14
  let main_cst_22 : FVec F S_ .f32 := constant S_ .f32 0x7F800000#32
  let main_v49 : FVec F S2x2048x512 .f32 := broadcastInDim S2x2048x512 ![] bcast_S_S2x2048x512 main_cst_22
  let main_v50 : IVec S2x2048x512 1 := cmpf .olt main_v48 main_v49
  let main_c_23 : IVec S_ 1 := constantI S_ 1 1#1
  let main_v51 : IVec S_ 1 := (fun x v => Host.reduce IntOp.andi x v reducesTo_S2x2048x512_S_d0_1_2 h_S_) main_v50 main_c_23
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v35
  let main_v60 : IVec S_ 1 := andi main_v59 main_v39
  let main_v61 : IVec S_ 1 := andi main_v60 main_v43
  let main_v62 : IVec S_ 1 := andi main_v61 main_v47
  let main_v63 : IVec S_ 1 := andi main_v62 main_v51
  main_v63

def fn_part2 {F : FTy → Type} [FloatOps F] (main_arg10 : FVec F S2x2048x128 .f32) (main_arg11 : FVec F S2x2048x128 .f32) (main_arg12 : FVec F S2x2048x512 .f32) (main_arg13 : FVec F S2x2048x512 .f32) (main_arg14 : FVec F S2x2048x512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x2048x128 .f32 := Host.absf main_arg10
  let main_cst_14 : FVec F S_ .f32 := constant S_ .f32 0x7F800000#32
  let main_v33 : FVec F S2x2048x128 .f32 := broadcastInDim S2x2048x128 ![] bcast_S_S2x2048x128 main_cst_14
  let main_v34 : IVec S2x2048x128 1 := cmpf .olt main_v32 main_v33
  let main_c_15 : IVec S_ 1 := constantI S_ 1 1#1
  let main_v35 : IVec S_ 1 := (fun x v => Host.reduce IntOp.andi x v reducesTo_S2x2048x128_S_d0_1_2 h_S_) main_v34 main_c_15
  let main_v36 : FVec F S2x2048x128 .f32 := Host.absf main_arg11
  let main_cst_16 : FVec F S_ .f32 := constant S_ .f32 0x7F800000#32
  let main_v37 : FVec F S2x2048x128 .f32 := broadcastInDim S2x2048x128 ![] bcast_S_S2x2048x128 main_cst_16
  let main_v38 : IVec S2x2048x128 1 := cmpf .olt main_v36 main_v37
  let main_c_17 : IVec S_ 1 := constantI S_ 1 1#1
  let main_v39 : IVec S_ 1 := (fun x v => Host.reduce IntOp.andi x v reducesTo_S2x2048x128_S_d0_1_2 h_S_) main_v38 main_c_17
  let main_v40 : FVec F S2x2048x512 .f32 := Host.absf main_arg12
  let main_cst_18 : FVec F S_ .f32 := constant S_ .f32 0x7F800000#32
  let main_v41 : FVec F S2x2048x512 .f32 := broadcastInDim S2x2048x512 ![] bcast_S_S2x2048x512 main_cst_18
  let main_v42 : IVec S2x2048x512 1 := cmpf .olt main_v40 main_v41
  let main_c_19 : IVec S_ 1 := constantI S_ 1 1#1
  let main_v43 : IVec S_ 1 := (fun x v => Host.reduce IntOp.andi x v reducesTo_S2x2048x512_S_d0_1_2 h_S_) main_v42 main_c_19
  let main_v44 : FVec F S2x2048x512 .f32 := Host.absf main_arg13
  let main_cst_20 : FVec F S_ .f32 := constant S_ .f32 0x7F800000#32
  let main_v45 : FVec F S2x2048x512 .f32 := broadcastInDim S2x2048x512 ![] bcast_S_S2x2048x512 main_cst_20
  let main_v46 : IVec S2x2048x512 1 := cmpf .olt main_v44 main_v45
  let main_c_21 : IVec S_ 1 := constantI S_ 1 1#1
  let main_v47 : IVec S_ 1 := (fun x v => Host.reduce IntOp.andi x v reducesTo_S2x2048x512_S_d0_1_2 h_S_) main_v46 main_c_21
  fn_part3 (F := F) main_arg14 main_v3 main_v7 main_v11 main_v15 main_v19 main_v23 main_v27 main_v31 main_v35 main_v39 main_v43 main_v47

def fn_part1 {F : FTy → Type} [FloatOps F] (main_arg6 : FVec F S2x1x1024 .f32) (main_arg7 : FVec F S1024x2304 .f32) (main_arg8 : FVec F S2x2048x1024 .f32) (main_arg9 : FVec F S2x2048x512 .f32) (main_arg10 : FVec F S2x2048x128 .f32) (main_arg11 : FVec F S2x2048x128 .f32) (main_arg12 : FVec F S2x2048x512 .f32) (main_arg13 : FVec F S2x2048x512 .f32) (main_arg14 : FVec F S2x2048x512 .f32) (main_v3 : IVec S_ 1) (main_v7 : IVec S_ 1) (main_v11 : IVec S_ 1) (main_v15 : IVec S_ 1) : IVec S_ 1 :=
  let main_v16 : FVec F S2x1x1024 .f32 := Host.absf main_arg6
  let main_cst_6 : FVec F S_ .f32 := constant S_ .f32 0x7F800000#32
  let main_v17 : FVec F S2x1x1024 .f32 := broadcastInDim S2x1x1024 ![] bcast_S_S2x1x1024 main_cst_6
  let main_v18 : IVec S2x1x1024 1 := cmpf .olt main_v16 main_v17
  let main_c_7 : IVec S_ 1 := constantI S_ 1 1#1
  let main_v19 : IVec S_ 1 := (fun x v => Host.reduce IntOp.andi x v reducesTo_S2x1x1024_S_d0_1_2 h_S_) main_v18 main_c_7
  let main_v20 : FVec F S1024x2304 .f32 := Host.absf main_arg7
  let main_cst_8 : FVec F S_ .f32 := constant S_ .f32 0x7F800000#32
  let main_v21 : FVec F S1024x2304 .f32 := broadcastInDim S1024x2304 ![] bcast_S_S1024x2304 main_cst_8
  let main_v22 : IVec S1024x2304 1 := cmpf .olt main_v20 main_v21
  let main_c_9 : IVec S_ 1 := constantI S_ 1 1#1
  let main_v23 : IVec S_ 1 := (fun x v => Host.reduce IntOp.andi x v reducesTo_S1024x2304_S_d0_1 h_S_) main_v22 main_c_9
  let main_v24 : FVec F S2x2048x1024 .f32 := Host.absf main_arg8
  let main_cst_10 : FVec F S_ .f32 := constant S_ .f32 0x7F800000#32
  let main_v25 : FVec F S2x2048x1024 .f32 := broadcastInDim S2x2048x1024 ![] bcast_S_S2x2048x1024 main_cst_10
  let main_v26 : IVec S2x2048x1024 1 := cmpf .olt main_v24 main_v25
  let main_c_11 : IVec S_ 1 := constantI S_ 1 1#1
  let main_v27 : IVec S_ 1 := (fun x v => Host.reduce IntOp.andi x v reducesTo_S2x2048x1024_S_d0_1_2 h_S_) main_v26 main_c_11
  let main_v28 : FVec F S2x2048x512 .f32 := Host.absf main_arg9
  let main_cst_12 : FVec F S_ .f32 := constant S_ .f32 0x7F800000#32
  let main_v29 : FVec F S2x2048x512 .f32 := broadcastInDim S2x2048x512 ![] bcast_S_S2x2048x512 main_cst_12
  let main_v30 : IVec S2x2048x512 1 := cmpf .olt main_v28 main_v29
  let main_c_13 : IVec S_ 1 := constantI S_ 1 1#1
  let main_v31 : IVec S_ 1 := (fun x v => Host.reduce IntOp.andi x v reducesTo_S2x2048x512_S_d0_1_2 h_S_) main_v30 main_c_13
  fn_part2 (F := F) main_arg10 main_arg11 main_arg12 main_arg13 main_arg14 main_v3 main_v7 main_v11 main_v15 main_v19 main_v23 main_v27 main_v31

def fn {F : FTy → Type} [FloatOps F] (main_arg0 : FVec F S2x2048x1024 .f32) (main_arg1 : FVec F S2x2048x1024 .f32) (main_arg2 : FVec F S2x1x1024 .f32) (main_arg3 : FVec F S1x1024 .f32) (main_arg4 : FVec F S1x1024 .f32) (main_arg5 : FVec F S2x1x1024 .f32) (main_arg6 : FVec F S2x1x1024 .f32) (main_arg7 : FVec F S1024x2304 .f32) (main_arg8 : FVec F S2x2048x1024 .f32) (main_arg9 : FVec F S2x2048x512 .f32) (main_arg10 : FVec F S2x2048x128 .f32) (main_arg11 : FVec F S2x2048x128 .f32) (main_arg12 : FVec F S2x2048x512 .f32) (main_arg13 : FVec F S2x2048x512 .f32) (main_arg14 : FVec F S2x2048x512 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg6 main_arg7 main_arg8 main_arg9 main_arg10 main_arg11 main_arg12 main_arg13 main_arg14 main_v3 main_v7 main_v11 main_v15
-- ==== Conv.lean ====
abbrev S2x2048x512 : Shape := ⟨3, ![2, 2048, 512]⟩
abbrev S3x512 : Shape := ⟨2, ![3, 512]⟩
abbrev S4096x512 : Shape := ⟨2, ![4096, 512]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 17
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S3x512, .f32⟩
  | .hbm, ⟨4, _⟩ => ⟨S2x2048x512, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S3x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S3x128, .f32⟩
  | .local _ .vmem, ⟨9, _⟩ => ⟨S3x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRefIdeal.lean ====
abbrev S2x2048x512 : Shape := ⟨3, ![2, 2048, 512]⟩
abbrev S3x512 : Shape := ⟨2, ![3, 512]⟩
abbrev S_ : Shape := ⟨0, ![]⟩
abbrev S2x2x512 : Shape := ⟨3, ![2, 2, 512]⟩
abbrev S2x2050x512 : Shape := ⟨3, ![2, 2050, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S3x512, .f32⟩
  | .hbm, ⟨4, _⟩ => ⟨S2x2048x512, .f32⟩
  | .hbm, ⟨5, _⟩ => ⟨S2x2048x512, .f32⟩
  | .hbm, ⟨6, _⟩ => ⟨S_, .f32⟩
  | .hbm, ⟨7, _⟩ => ⟨S2x2x512, .f32⟩
  | .hbm, ⟨8, _⟩ => ⟨S2x2050x512, .f32⟩
  | .hbm, ⟨9, _⟩ => ⟨S_, .f32⟩
  | .hbm, ⟨10, _⟩ => ⟨S2x2x512, .f32⟩
  | .hbm, ⟨11, _⟩ => ⟨S1x512, .f32⟩
  | .hbm, ⟨12, _⟩ => ⟨S512, .f32⟩
  | .hbm, ⟨13, _⟩ => ⟨S2x2048x512, .f32⟩
  | .hbm, ⟨14, _⟩ => ⟨S1x1x512, .f32⟩
  | .hbm, ⟨15, _⟩ => ⟨S2x2048x512, .f32⟩
  | .hbm, ⟨16, _⟩ => ⟨S2x2048x512, .f32⟩
  | .hbm, ⟨17, _⟩ => ⟨S1x512, .f32⟩
  | .hbm, ⟨18, _⟩ => ⟨S512, .f32⟩
  | .hbm, ⟨19, _⟩ => ⟨S2x2048x512, .f32⟩
  | .hbm, ⟨20, _⟩ => ⟨S1x1x512, .f32⟩
  | .hbm, ⟨21, _⟩ => ⟨S2x2048x512, .f32⟩
  | .hbm, ⟨22, _⟩ => ⟨S2x2048x512, .f32⟩
  | .hbm, ⟨23, _⟩ => ⟨S2x2048x512, .f32⟩
  | .hbm, ⟨24, _⟩ => ⟨S1x512, .f32⟩
  | .hbm, ⟨25, _⟩ => ⟨S512, .f32⟩
  | .hbm, ⟨26, _⟩ => ⟨S2x2048x512, .f32⟩
  | .hbm, ⟨27, _⟩ => ⟨S1x1x512, .f32⟩
  | .hbm, ⟨28, _⟩ => ⟨S2x2048x512, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S_, .f32⟩
  | .hbm, ⟨38, _⟩ => ⟨S512, .f32⟩
  | .hbm, ⟨39, _⟩ => ⟨S1x1x512, .f32⟩
  | .hbm, ⟨40, _⟩ => ⟨S_, .f32⟩
  | .hbm, ⟨41, _⟩ => ⟨S512, .f32⟩
  | .hbm, ⟨42, _⟩ => ⟨S_, .f32⟩
  | .hbm, ⟨43, _⟩ => ⟨S2x2050x512, .f32⟩
  | .hbm, ⟨44, _⟩ => ⟨S1x512, .f32⟩
  | .hbm, ⟨45, _⟩ => ⟨S_, .f32⟩
  | .hbm, ⟨46, _⟩ => ⟨S3x512, .f32⟩
  | .hbm, ⟨47, _⟩ => ⟨S2x2048x512, .f32⟩
  | .hbm, ⟨48, _⟩ => ⟨S2x2048x512, .f32⟩
  | .hbm, ⟨49, _⟩ => ⟨S2x2048x512, .f32⟩
  | .hbm, ⟨50, _⟩ => ⟨S_, .f32⟩
  | .hbm, ⟨51, _⟩ => ⟨S512, .f32⟩
  | .hbm, ⟨52, _⟩ => ⟨S1x1x512, .f32⟩
  | .hbm, ⟨53, _⟩ => ⟨S_, .f32⟩
  | .hbm, ⟨54, _⟩ => ⟨S512, .f32⟩
  | .hbm, ⟨55, _⟩ => ⟨S_, .f32⟩
  | .hbm, ⟨56, _⟩ => ⟨S2x2050x512, .f32⟩
  | .hbm, ⟨57, _⟩ => ⟨S2x2050x512, .f32⟩
  | .hbm, ⟨58, _⟩ => ⟨S1x512, .f32⟩
  | .hbm, ⟨59, _⟩ => ⟨S_, .f32⟩
  | .hbm, ⟨60, _⟩ => ⟨S3x512, .f32⟩
  | .hbm, ⟨61, _⟩ => ⟨S3x512, .f32⟩
  | .hbm, ⟨62, _⟩ => ⟨S2x2048x512, .f32⟩
  | .hbm, ⟨63, _⟩ => ⟨S2x2048x512, .f32⟩
  | .hbm, ⟨64, _⟩ => ⟨S2x2048x512, .f32⟩
  | .hbm, ⟨65, _⟩ => ⟨S_, .f32⟩
  | .hbm, ⟨66, _⟩ => ⟨S512, .f32⟩
  | .hbm, ⟨67, _⟩ => ⟨S1x1x512, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S2x2050x512, .f32⟩
  | .hbm, ⟨72, _⟩ => ⟨S2x2050x512, .f32⟩
  | .hbm, ⟨73, _⟩ => ⟨S1x512, .f32⟩
  | .hbm, ⟨74, _⟩ => ⟨S_, .f32⟩
  | .hbm, ⟨75, _⟩ => ⟨S3x512, .f32⟩
  | .hbm, ⟨76, _⟩ => ⟨S3x512, .f32⟩
  | .hbm, ⟨77, _⟩ => ⟨S2x2x512, .f32⟩
  | .hbm, ⟨78, _⟩ => ⟨S2x2048x512, .f32⟩
  | .hbm, ⟨79, _⟩ => ⟨S2x2048x512, .f32⟩
  | .hbm, ⟨80, _⟩ => ⟨S2x2048x512, .f32⟩
  | .hbm, ⟨81, _⟩ => ⟨S4096x512, .f32⟩
  | .hbm, ⟨82, _⟩ => ⟨S4096x512, .bf16⟩
  | .hbm, ⟨83, _⟩ => ⟨S4096x512, .f32⟩
  | .hbm, ⟨84, _⟩ => ⟨S4096x512, .bf16⟩
  | .hbm, ⟨85, _⟩ => ⟨S4096x512, .f32⟩
  | .hbm, ⟨86, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Ffn.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S_ : Shape := ⟨0, ![]⟩
abbrev S2x2048x5632 : Shape := ⟨3, ![2, 2048, 5632]⟩
abbrev S2x2048x2816 : Shape := ⟨3, ![2, 2048, 2816]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x1024 : Shape := ⟨2, ![4096, 1024]⟩
abbrev S5632x1024 : Shape := ⟨2, ![5632, 1024]⟩
abbrev S2x2816x1024 : Shape := ⟨3, ![2, 2816, 1024]⟩
abbrev S2x2x1024 : Shape := ⟨3, ![2, 2, 1024]⟩
abbrev S512x1024 : Shape := ⟨2, ![512, 1024]⟩
abbrev S2x512x2816 : Shape := ⟨3, ![2, 512, 2816]⟩
abbrev S1x1x1024 : Shape := ⟨3, ![1, 1, 1024]⟩
abbrev S1x2x1024 : Shape := ⟨3, ![1, 2, 1024]⟩
abbrev S1024x1024 : Shape := ⟨2, ![1024, 1024]⟩
abbrev S1x512x1024 : Shape := ⟨3, ![1, 512, 1024]⟩
abbrev S1x1024x1024 : Shape := ⟨3, ![1, 1024, 1024]⟩
abbrev S768x1024 : Shape := ⟨2, ![768, 1024]⟩
abbrev S512x768 : Shape := ⟨2, ![512, 768]⟩
abbrev S1x512x768 : Shape := ⟨3, ![1, 512, 768]⟩
abbrev S1x768x1024 : Shape := ⟨3, ![1, 768, 1024]⟩
abbrev S1x1024 : Shape := ⟨2, ![1, 1024]⟩
abbrev S1024 : Shape := ⟨1, ![1024]⟩

abbrev nBuf : Space → Nat
  | .hbm => 45
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S2x2048x1024, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .bf16⟩
  | .hbm, ⟨15, _⟩ => ⟨S2x2048x1024, .f32⟩
  | .hbm, ⟨16, _⟩ => ⟨S1024x5632, .bf16⟩
  | .hbm, ⟨17, _⟩ => ⟨S1024x5632, .f32⟩
  | .hbm, ⟨18, _⟩ => ⟨S2x2048x5632, .f32⟩
  | .hbm, ⟨19, _⟩ => ⟨S2x2048x5632, .bf16⟩
  | .hbm, ⟨20, _⟩ => ⟨S2x2048x2816, .bf16⟩
  | .hbm, ⟨21, _⟩ => ⟨S2x2048x2816, .bf16⟩
  | .hbm, ⟨22, _⟩ => ⟨S1x2x2048x2816, .bf16⟩
  | .hbm, ⟨23, _⟩ => ⟨S1x2x2048x2816, .bf16⟩
  | .hbm, ⟨24, _⟩ => ⟨S2x2x2048x2816, .bf16⟩
  | .hbm, ⟨25, _⟩ => ⟨S2x4096x2816, .bf16⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S2x2048x1024, .bf16⟩
  | .hbm, ⟨35, _⟩ => ⟨S4096x1024, .bf16⟩
  | .hbm, ⟨36, _⟩ => ⟨S5632x1024, .f32⟩
  | .hbm, ⟨37, _⟩ => ⟨S5632x1024, .bf16⟩
  | .hbm, ⟨38, _⟩ => ⟨S2x2816x1024, .bf16⟩
  | .hbm, ⟨39, _⟩ => ⟨S4096x1024, .f32⟩
  | .hbm, ⟨40, _⟩ => ⟨S4096x1024, .f32⟩
  | .hbm, ⟨41, _⟩ => ⟨S2816x1024, .bf16⟩
  | .hbm, ⟨42, _⟩ => ⟨S4096x1024, .f32⟩
  | .hbm, ⟨43, _⟩ => ⟨S2x4096x2816, .bf16⟩
  | .hbm, ⟨44, _⟩ => ⟨S2x2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S2x512x2816, .bf16⟩
  | .local _ .vmem, ⟨7, _⟩ => ⟨S2x512x2816, .bf16⟩
  | .local _ .vmem, ⟨8, _⟩ => ⟨S1x1x1024, .f32⟩
  | .local _ .vmem, ⟨9, _⟩ => ⟨S1x1x1024, .f32⟩
  | .local _ .vmem, ⟨10, _⟩ => ⟨S2x2816x1024, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S2x512x2816, .bf16⟩
  | .local _ .vmem, ⟨15, _⟩ => ⟨S2x512x2816, .bf16⟩
  | .local _ .vmem, ⟨16, _⟩ => ⟨S1x2x1024, .f32⟩
  | .local _ .vmem, ⟨17, _⟩ => ⟨S1x2x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S_ : Shape := ⟨0, ![]⟩
abbrev S2x2048x5632 : Shape := ⟨3, ![2, 2048, 5632]⟩
abbrev S2x2048x2816 : Shape := ⟨3, ![2, 2048, 2816]⟩
abbrev S2x1024 : Shape := ⟨2, ![2, 1024]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x1024 : Shape := ⟨2, ![4096, 1024]⟩
abbrev S2x2x1024 : Shape := ⟨3, ![2, 2, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S2x2048x1024, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x5632, .f32⟩
  | .hbm, ⟨15, _⟩ => ⟨S2x2048x2816, .f32⟩
  | .hbm, ⟨16, _⟩ => ⟨S2x2048x2816, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S_, .f32⟩
  | .hbm, ⟨21, _⟩ => ⟨S2x1x1024, .f32⟩
  | .hbm, ⟨22, _⟩ => ⟨S2x1x1024, .f32⟩
  | .hbm, ⟨23, _⟩ => ⟨S2x2048x2816, .f32⟩
  | .hbm, ⟨24, _⟩ => ⟨S2x2048x2816, .f32⟩
  | .hbm, ⟨25, _⟩ => ⟨S_, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S_, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x5632, .f32⟩
  | .hbm, ⟨50, _⟩ => ⟨S2x2048x1024, .f32⟩
  | .hbm, ⟨51, _⟩ => ⟨S_, .f32⟩
  | .hbm, ⟨52, _⟩ => ⟨S2x1024, .f32⟩
  | .hbm, ⟨53, _⟩ => ⟨S2x1x1024, .f32⟩
  | .hbm, ⟨54, _⟩ => ⟨S2x2048x1024, .f32⟩
  | .hbm, ⟨55, _⟩ => ⟨S_, .f32⟩
  | .hbm, ⟨56, _⟩ => ⟨S2x1024, .f32⟩
  | .hbm, ⟨57, _⟩ => ⟨S2x1x1024, .f32⟩
  | .hbm, ⟨58, _⟩ => ⟨S2x2048x1024, .f32⟩
  | .hbm, ⟨59, _⟩ => ⟨S2x2048x1024, .f32⟩
  | .hbm, ⟨60, _⟩ => ⟨S1x2x2048x2816, .f32⟩
  | .hbm, ⟨61, _⟩ => ⟨S1x2x2048x2816, .f32⟩
  | .hbm, ⟨62, _⟩ => ⟨S2x2x2048x2816, .f32⟩
  | .hbm, ⟨63, _⟩ => ⟨S2x4096x2816, .f32⟩
  | .hbm, ⟨64, _⟩ => ⟨S2x4096x2816, .bf16⟩
  | .hbm, ⟨65, _⟩ => ⟨S_, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S4096x1024, .f32⟩
  | .hbm, ⟨70, _⟩ => ⟨S2x2x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v13_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v13_1 : Ref sig .tc := ⟨.hbm, 34, rfl⟩
abbrev main_v13_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Out.lean ====
abbrev S2x2048x1024 : Shape := ⟨3, ![2, 2048, 1024]⟩
abbrev S2x2048x512 : Shape := ⟨3, ![2, 2048, 512]⟩
abbrev S2x1x1024 : Shape := ⟨3, ![2, 1, 1024]⟩
abbrev S1024x1024 : Shape := ⟨2, ![1024, 1024]⟩
abbrev S1x1024 : Shape := ⟨2, ![1, 1024]⟩
abbrev S_ : Shape := ⟨0, ![]⟩
abbrev S4096x1024 : Shape := ⟨2, ![4096, 1024]⟩
abbrev S4096x512 : Shape := ⟨2, ![4096, 512]⟩
abbrev S2x1024 : Shape := ⟨2, ![2, 1024]⟩
abbrev S512x1024 : Shape := ⟨2, ![512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 33
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x1x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S2x2048x1024, .f32⟩
  | .hbm, ⟨8, _⟩ => ⟨S1024x1024, .bf16⟩
  | .hbm, ⟨9, _⟩ => ⟨S2x2048x1024, .f32⟩
  | .hbm, ⟨10, _⟩ => ⟨S2x2048x1024, .bf16⟩
  | .hbm, ⟨11, _⟩ => ⟨S2x2048x1024, .f32⟩
  | .hbm, ⟨12, _⟩ => ⟨S1024x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4096x1024, .f32⟩
  | .hbm, ⟨28, _⟩ => ⟨S4096x512, .bf16⟩
  | .hbm, ⟨29, _⟩ => ⟨S4096x512, .bf16⟩
  | .hbm, ⟨30, _⟩ => ⟨S4096x1024, .bf16⟩
  | .hbm, ⟨31, _⟩ => ⟨S2x1024, .f32⟩
  | .hbm, ⟨32, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S2x1024, .f32⟩
  | .local _ .vmem, ⟨19, _⟩ => ⟨S1x1x1024, .f32⟩
  | .local _ .vmem, ⟨20, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutRefIdeal.lean ====
abbrev S2x2048x1024 : Shape := ⟨3, ![2, 2048, 1024]⟩
abbrev S2x2048x512 : Shape := ⟨3, ![2, 2048, 512]⟩
abbrev S2x1x1024 : Shape := ⟨3, ![2, 1, 1024]⟩
abbrev S1024x1024 : Shape := ⟨2, ![1024, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024 : Shape := ⟨1, ![1024]⟩
abbrev S2x1024 : Shape := ⟨2, ![2, 1024]⟩
abbrev S4096x1024 : Shape := ⟨2, ![4096, 1024]⟩
abbrev S4096x512 : Shape := ⟨2, ![4096, 512]⟩

abbrev nBuf : Space → Nat
  | .hbm => 122
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x1x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1024, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S2x2048x1024, .f32⟩
  | .hbm, ⟨67, _⟩ => ⟨S2x2048x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S2x2048x1024, .f32⟩
  | .hbm, ⟨72, _⟩ => ⟨S_, .f32⟩
  | .hbm, ⟨73, _⟩ => ⟨S2x2048, .f32⟩
  | .hbm, ⟨74, _⟩ => ⟨S2x2048x1, .f32⟩
  | .hbm, ⟨75, _⟩ => ⟨S2x2048x1024, .f32⟩
  | .hbm, ⟨76, _⟩ => ⟨S2x2048x1024, .f32⟩
  | .hbm, ⟨77, _⟩ => ⟨S2x2048x1, .f32⟩
  | .hbm, ⟨78, _⟩ => ⟨S2x2048x1024, .f32⟩
  | .hbm, ⟨79, _⟩ => ⟨S_, .f32⟩
  | .hbm, ⟨80, _⟩ => ⟨S2x2048, .f32⟩
  | .hbm, ⟨81, _⟩ => ⟨S2x2048x1, .f32⟩
  | .hbm, ⟨82, _⟩ => ⟨S_, .f32⟩
  | .hbm, ⟨83, _⟩ => ⟨S2x2048x1, .f32⟩
  | .hbm, ⟨84, _⟩ => ⟨S2x2048x1, .f32⟩
  | .hbm, ⟨85, _⟩ => ⟨S_, .f32⟩
  | .hbm, ⟨86, _⟩ => ⟨S2x2048, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S_, .f32⟩
  | .hbm, ⟨91, _⟩ => ⟨S2x2048, .f32⟩
  | .hbm, ⟨92, _⟩ => ⟨S2x2048x1, .f32⟩
  | .hbm, ⟨93, _⟩ => ⟨S2x2048x1024, .f32⟩
  | .hbm, ⟨94, _⟩ => ⟨S2x2048x1, .f32⟩
  | .hbm, ⟨95, _⟩ => ⟨S_, .f32⟩
  | .hbm, ⟨96, _⟩ => ⟨S2x2048x1, .f32⟩
  | .hbm, ⟨97, _⟩ => ⟨S2x2048x1, .f32⟩
  | .hbm, ⟨98, _⟩ => ⟨S_, .f32⟩
  | .hbm, ⟨99, _⟩ => ⟨S2x2048, .f32⟩
  | .hbm, ⟨100, _⟩ => ⟨S2x2048x1024, .f32⟩
  | .hbm, ⟨101, _⟩ => ⟨S2x2048x1024, .f32⟩
  | .hbm, ⟨102, _⟩ => ⟨S2x2048x1024, .f32⟩
  | .hbm, ⟨103, _⟩ => ⟨S2x2048x1024, .f32⟩
  | .hbm, ⟨104, _⟩ => ⟨S2x2048x1024, .f32⟩
  | .hbm, ⟨105, _⟩ => ⟨S_, .f32⟩
  | .hbm, ⟨106, _⟩ => ⟨S2x1024, .f32⟩
  | .hbm, ⟨107, _⟩ => ⟨S2x1x1024, .f32⟩
  | .hbm, ⟨108, _⟩ => ⟨S_, .f32⟩
  | .hbm, ⟨109, _⟩ => ⟨S2x2048x1024, .f32⟩
  | .hbm, ⟨110, _⟩ => ⟨S2x2048x1024, .f32⟩
  | .hbm, ⟨111, _⟩ => ⟨S2x2048x1024, .f32⟩
  | .hbm, ⟨112, _⟩ => ⟨S2x2048x512, .f32⟩
  | .hbm, ⟨113, _⟩ => ⟨S2x2048x512, .f32⟩
  | .hbm, ⟨114, _⟩ => ⟨S4096x1024, .f32⟩
  | .hbm, ⟨115, _⟩ => ⟨S4096x512, .f32⟩
  | .hbm, ⟨116, _⟩ => ⟨S4096x512, .bf16⟩
  | .hbm, ⟨117, _⟩ => ⟨S4096x512, .f32⟩
  | .hbm, ⟨118, _⟩ => ⟨S4096x512, .bf16⟩
  | .hbm, ⟨119, _⟩ => ⟨S4096x1024, .f32⟩
  | .hbm, ⟨120, _⟩ => ⟨S4096x1024, .bf16⟩
  | .hbm, ⟨121, _⟩ => ⟨S2x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_cst_20 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== ProjB.lean ====
abbrev S2x2048x1024 : Shape := ⟨3, ![2, 2048, 1024]⟩
abbrev S2x1x1024 : Shape := ⟨3, ![2, 1, 1024]⟩
abbrev S1x1024 : Shape := ⟨2, ![1, 1024]⟩
abbrev S1024x2304 : Shape := ⟨2, ![1024, 2304]⟩
abbrev S2x2048x512 : Shape := ⟨3, ![2, 2048, 512]⟩
abbrev S2x2048x128 : Shape := ⟨3, ![2, 2048, 128]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x512 : Shape := ⟨2, ![4096, 512]⟩
abbrev S4096x128 : Shape := ⟨2, ![4096, 128]⟩
abbrev S4096x1024 : Shape := ⟨2, ![4096, 1024]⟩
abbrev S2304x1024 : Shape := ⟨2, ![2304, 1024]⟩
abbrev S4096x2304 : Shape := ⟨2, ![4096, 2304]⟩
abbrev S2x2x1024 : Shape := ⟨3, ![2, 2, 1024]⟩
abbrev S2x1024 : Shape := ⟨2, ![2, 1024]⟩
abbrev S512x512 : Shape := ⟨2, ![512, 512]⟩
abbrev S512x128 : Shape := ⟨2, ![512, 128]⟩
abbrev S512x1024 : Shape := ⟨2, ![512, 1024]⟩
abbrev S512x2304 : Shape := ⟨2, ![512, 2304]⟩
abbrev S1x2x1024 : Shape := ⟨3, ![1, 2, 1024]⟩
abbrev S512 : Shape := ⟨1, ![512]⟩
abbrev S512x1 : Shape := ⟨2, ![512, 1]⟩
abbrev S1024 : Shape := ⟨1, ![1024]⟩

abbrev nBuf : Space → Nat
  | .hbm => 80
  | .vmem => 41
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S1024x2304, .f32⟩
  | .hbm, ⟨8, _⟩ => ⟨S2x2048x1024, .f32⟩
  | .hbm, ⟨9, _⟩ => ⟨S2x2048x512, .f32⟩
  | .hbm, ⟨10, _⟩ => ⟨S2x2048x128, .f32⟩
  | .hbm, ⟨11, _⟩ => ⟨S2x2048x128, .f32⟩
  | .hbm, ⟨12, _⟩ => ⟨S2x2048x512, .f32⟩
  | .hbm, ⟨13, _⟩ => ⟨S2x2048x512, .f32⟩
  | .hbm, ⟨14, _⟩ => ⟨S2x2048x512, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S4096x512, .f32⟩
  | .hbm, ⟨57, _⟩ => ⟨S4096x512, .bf16⟩
  | .hbm, ⟨58, _⟩ => ⟨S4096x128, .f32⟩
  | .hbm, ⟨59, _⟩ => ⟨S4096x128, .f32⟩
  | .hbm, ⟨60, _⟩ => ⟨S4096x512, .f32⟩
  | .hbm, ⟨61, _⟩ => ⟨S4096x512, .bf16⟩
  | .hbm, ⟨62, _⟩ => ⟨S4096x512, .f32⟩
  | .hbm, ⟨63, _⟩ => ⟨S4096x512, .bf16⟩
  | .hbm, ⟨64, _⟩ => ⟨S4096x512, .f32⟩
  | .hbm, ⟨65, _⟩ => ⟨S4096x512, .bf16⟩
  | .hbm, ⟨66, _⟩ => ⟨S4096x1024, .f32⟩
  | .hbm, ⟨67, _⟩ => ⟨S4096x1024, .f32⟩
  | .hbm, ⟨68, _⟩ => ⟨S2304x1024, .f32⟩
  | .hbm, ⟨69, _⟩ => ⟨S2304x1024, .bf16⟩
  | .hbm, ⟨70, _⟩ => ⟨S4096x1024, .f32⟩
  | .hbm, ⟨71, _⟩ => ⟨S4096x1024, .f32⟩
  | .hbm, ⟨72, _⟩ => ⟨S4096x1024, .bf16⟩
  | .hbm, ⟨73, _⟩ => ⟨S4096x1024, .f32⟩
  | .hbm, ⟨74, _⟩ => ⟨S4096x1024, .bf16⟩
  | .hbm, ⟨75, _⟩ => ⟨S4096x2304, .bf16⟩
  | .hbm, ⟨76, _⟩ => ⟨S4096x1024, .bf16⟩
  | .hbm, ⟨77, _⟩ => ⟨S2x2x1024, .f32⟩
  | .hbm, ⟨78, _⟩ => ⟨S2x1024, .f32⟩
  | .hbm, ⟨79, _⟩ => ⟨S2x1x1024, .f32⟩
  | .local _ .vmem, ⟨0, _⟩ => ⟨S512x512, .bf16⟩
  | .local _ .vmem, ⟨1, _⟩ => ⟨S512x512, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S2304x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S1x1x1024, .f32⟩
  | .local _ .vmem, ⟨26, _⟩ => ⟨S1x1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | .local _ .vmem, ⟨32, _⟩ => ⟨S512x2304, .bf16⟩
  | .local _ .vmem, ⟨33, _⟩ => ⟨S512x2304, .bf16⟩
  | .local _ .vmem, ⟨34, _⟩ => ⟨S512x1024, .bf16⟩
  | .local _ .vmem, ⟨35, _⟩ => ⟨S512x1024, .bf16⟩
  | .local _ .vmem, ⟨36, _⟩ => ⟨S1x2x1024, .f32⟩
  | .local _ .vmem, ⟨37, _⟩ => ⟨S1x2x1024, .f32⟩
  | .local _ .vmem, ⟨38, _⟩ => ⟨S2x1024, .f32⟩
  | .local _ .vmem, ⟨39, _⟩ => ⟨S1x1x1024, .f32⟩
  | .local _ .vmem, ⟨40, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50_0 : Ref sig .tc := ⟨.hbm, 73, rfl⟩
abbrev main_v50_1 : Ref sig .tc := ⟨.hbm, 74, rfl⟩
abbrev main_v50_2 : Ref sig .tc := ⟨.hbm, 75, rfl⟩
abbrev main_v50_3 : Ref sig .tc := ⟨.hbm, 76, rfl⟩
abbrev main_v50_4 : Ref sig .tc := ⟨.hbm, 77, rfl⟩
abbrev main_v50_5 : Ref sig .tc := ⟨.hbm, 78, rfl⟩
abbrev main_v50_6 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg21_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2304x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2304 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x1x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S1024x2304 : Shape := ⟨2, ![1024, 2304]⟩
abbrev S2x2048x512 : Shape := ⟨3, ![2, 2048, 512]⟩
abbrev S2x2048x128 : Shape := ⟨3, ![2, 2048, 128]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2304 : Shape := ⟨3, ![2, 2048, 2304]⟩
abbrev S2x1024 : Shape := ⟨2, ![2, 1024]⟩
abbrev S1024 : Shape := ⟨1, ![1024]⟩
abbrev S4096x1024 : Shape := ⟨2, ![4096, 1024]⟩
abbrev S4096x2304 : Shape := ⟨2, ![4096, 2304]⟩
abbrev S2x2x1024 : Shape := ⟨3, ![2, 2, 1024]⟩

abbrev nBuf : Space → Nat
  | .hbm => 154
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x1x1024, .f32⟩
  | 3 => ⟨S1x1024, .f32⟩
  | 4 => ⟨S1x1024, .f32⟩
  | 5 => ⟨S2x1x1024, .f32⟩
  | 6 => ⟨S2x1x1024, .f32⟩
  | 7 => ⟨S1024x2304, .f32⟩
  | 8 => ⟨S2x2048x1024, .f32⟩
  | 9 => ⟨S2x2048x512, .f32⟩
  | 10 => ⟨S2x2048x128, .f32⟩
  | 11 => ⟨S2x2048x128, .f32⟩
  | 12 => ⟨S2x2048x512, .f32⟩
  | 13 => ⟨S2x2048x512, .f32⟩
  | 14 => ⟨S2x2048x512, .f32⟩
  | 15 => ⟨S_, .f32⟩
  | 16 => ⟨S2x2048x1024, .f32⟩
  | 17 => ⟨S2x2048x1024, .f32⟩
  | 18 => ⟨S_, .f32⟩
  | 19 => ⟨S2x1x1024, .f32⟩
  | 20 => ⟨S2x1x1024, .f32⟩
  | 21 => ⟨S_, .f32⟩
  | 22 => ⟨S2x1x1024, .f32⟩
  | 23 => ⟨S2x1x1024, .f32⟩
  | 24 => ⟨S2x2048x1024, .f32⟩
  | 25 => ⟨S2x2048x1024, .f32⟩
  | 26 => ⟨S2x2048x1024, .f32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S2x2048x1024, .f32⟩
  | 34 => ⟨S2x2048x1024, .f32⟩
  | 35 => ⟨S2x2048x1024, .f32⟩
  | 36 => ⟨S_, .f32⟩
  | 37 => ⟨S2x2048x1024, .f32⟩
  | 38 => ⟨S2x2048x1024, .f32⟩
  | 39 => ⟨S_, .f32⟩
  | 40 => ⟨S2x2048, .f32⟩
  | 41 => ⟨S2x2048x1, .f32⟩
  | 42 => ⟨S_, .f32⟩
  | 43 => ⟨S2x2048x1, .f32⟩
  | 44 => ⟨S2x2048x1, .f32⟩
  | 45 => ⟨S2x2048x1024, .f32⟩
  | 46 => ⟨S2x2048x1024, .f32⟩
  | 47 => ⟨S_, .f32⟩
  | 48 => ⟨S2x2048x1, .f32⟩
  | 49 => ⟨S2x2048x1, .f32⟩
  | 50 => ⟨S2x2048x1, .f32⟩
  | 51 => ⟨S2x2048x1, .f32⟩
  | 52 => ⟨S_, .f32⟩
  | 53 => ⟨S2x2048x1, .f32⟩
  | 54 => ⟨S2x2048x1, .f32⟩
  | 55 => ⟨S2x2048x1024, .f32⟩
  | 56 => ⟨S2x2048x1024, .f32⟩
  | 57 => ⟨S1x1x1024, .f32⟩
  | 58 => ⟨S2x2048x1024, .f32⟩
  | 59 => ⟨S2x2048x1024, .f32⟩
  | 60 => ⟨S1x1x1024, .f32⟩
  | 61 => ⟨S2x2048x1024, .f32⟩
  | 62 => ⟨S2x2048x1024, .f32⟩
  | 63 => ⟨S_, .f32⟩
  | 64 => ⟨S2x1x1024, .f32⟩
  | 65 => ⟨S2x1x1024, .f32⟩
  | 66 => ⟨S2x2048x1024, .f32⟩
  | 67 => ⟨S2x2048x1024, .f32⟩
  | 68 => ⟨S2x2048x1024, .f32⟩
  | 69 => ⟨S2x2048x1024, .f32⟩
  | 70 => ⟨S2x2048x2304, .f32⟩
  | 71 => ⟨S2x2048x512, .f32⟩
  | 72 => ⟨S2x2048x128, .f32⟩
  | 73 => ⟨S2x2048x128, .f32⟩
  | 74 => ⟨S2x2048x512, .f32⟩
  | 75 => ⟨S2x2048x512, .f32⟩
  | 76 => ⟨S2x2048x512, .f32⟩
  | 77 => ⟨S2x2048x2304, .f32⟩
  | 78 => ⟨S2x2048x1024, .f32⟩
  | 79 => ⟨S_, .f32⟩
  | 80 => ⟨S2x1024, .f32⟩
  | 81 => ⟨S2x1x1024, .f32⟩
  | 82 => ⟨S2x2048x1024, .f32⟩
  | 83 => ⟨S_, .f32⟩
  | 84 => ⟨S2x1024, .f32⟩
  | 85 => ⟨S2x1x1024, .f32⟩
  | 86 => ⟨S2x2048x1024, .f32⟩
  | 87 => ⟨S2x2048x1024, .f32⟩
  | 88 => ⟨S2x2048x1024, .f32⟩
  | 89 => ⟨S_, .f32⟩
  | 90 => ⟨S1024, .f32⟩
  | 91 => ⟨S1x1x1024, .f32⟩
  | 92 => ⟨S_, .f32⟩
  | 93 => ⟨S1024, .f32⟩
  | 94 => ⟨S1x1024, .f32⟩
  | 95 => ⟨S2x2048x1024, .f32⟩
  | 96 => ⟨S_, .f32⟩
  | 97 => ⟨S1024, .f32⟩
  | 98 => ⟨S1x1x1024, .f32⟩
  | 99 => ⟨S2x2048x1024, .f32⟩
  | 100 => ⟨S2x2048x1024, .f32⟩
  | 101 => ⟨S_, .f32⟩
  | 102 => ⟨S1024, .f32⟩
  | 103 => ⟨S1x1024, .f32⟩
  | 104 => ⟨S2x2048x1024, .f32⟩
  | 105 => ⟨S_, .f32⟩
  | 106 => ⟨S2x2048, .f32⟩
  | 107 => ⟨S2x2048x1, .f32⟩
  | 108 => ⟨S2x2048x1024, .f32⟩
  | 109 => ⟨S2x2048x1024, .f32⟩
  | 110 => ⟨S2x2048x1, .f32⟩
  | 111 => ⟨S2x2048x1024, .f32⟩
  | 112 => ⟨S_, .f32⟩
  | 113 => ⟨S2x2048, .f32⟩
  | 114 => ⟨S2x2048x1, .f32⟩
  | 115 => ⟨S_, .f32⟩
  | 116 => ⟨S2x2048x1, .f32⟩
  | 117 => ⟨S2x2048x1, .f32⟩
  | 118 => ⟨S_, .f32⟩
  | 119 => ⟨S2x2048, .f32⟩
  | 120 => ⟨S2x2048x1024, .f32⟩
  | 121 => ⟨S2x2048x1024, .f32⟩
  | 122 => ⟨S2x2048x1024, .f32⟩
  | 123 => ⟨S_, .f32⟩
  | 124 => ⟨S2x2048, .f32⟩
  | 125 => ⟨S2x2048x1, .f32⟩
  | 126 => ⟨S2x2048x1024, .f32⟩
  | 127 => ⟨S2x2048x1, .f32⟩
  | _ => ⟨S2x2048x1024, .f32⟩

abbrev hbmTy0_1 (i : Nat) : BufTy := match i % 128 with
  | 0 => ⟨S_, .f32⟩
  | 1 => ⟨S2x2048x1, .f32⟩
  | 2 => ⟨S2x2048x1, .f32⟩
  | 3 => ⟨S_, .f32⟩
  | 4 => ⟨S2x2048, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S_, .f32⟩
  | 11 => ⟨S2x1024, .f32⟩
  | 12 => ⟨S2x1x1024, .f32⟩
  | 13 => ⟨S_, .f32⟩
  | 14 => ⟨S2x1x1024, .f32⟩
  | 15 => ⟨S2x1x1024, .f32⟩
  | 16 => ⟨S2x2048x2304, .f32⟩
  | 17 => ⟨S4096x1024, .f32⟩
  | 18 => ⟨S4096x1024, .f32⟩
  | 19 => ⟨S4096x1024, .bf16⟩
  | 20 => ⟨S4096x2304, .f32⟩
  | 21 => ⟨S4096x2304, .bf16⟩
  | 22 => ⟨S4096x1024, .f32⟩
  | 23 => ⟨S4096x1024, .bf16⟩
  | 24 => ⟨S2x2x1024, .f32⟩
  | 25 => ⟨S2x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_cst_18 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_cst_22 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_23 : Ref sig .tc := ⟨.hbm, 138, rfl⟩
abbrev main_v99 : Ref sig .tc := ⟨.hbm, 139, rfl⟩
abbrev main_v100 : Ref sig .tc := ⟨.hbm, 140, rfl⟩
abbrev main_cst_24 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩

abbrev nD : Nat := 1
abbrev τ : Topo := Topo.v7x

variable {F : FTy → Type} [FloatOps F]
-- ==== Loss.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1024 : Shape := ⟨2, ![1, 1024]⟩
abbrev S4096x1024 : Shape := ⟨2, ![4096, 1024]⟩
abbrev S5632x1024 : Shape := ⟨2, ![5632, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S1x128 : Shape := ⟨2, ![1, 128]⟩
abbrev S2x1024 : Shape := ⟨2, ![2, 1024]⟩
abbrev S512x1024 : Shape := ⟨2, ![512, 1024]⟩
abbrev S1x1x1024 : Shape := ⟨3, ![1, 1, 1024]⟩
abbrev S2x512x2816 : Shape := ⟨3, ![2, 512, 2816]⟩
abbrev S512x2816 : Shape := ⟨2, ![512, 2816]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x768x1024 : Shape := ⟨3, ![1, 768, 1024]⟩
abbrev S768x1024 : Shape := ⟨2, ![768, 1024]⟩
abbrev S512x768 : Shape := ⟨2, ![512, 768]⟩
abbrev S1x512x768 : Shape := ⟨3, ![1, 512, 768]⟩
abbrev S512 : Shape := ⟨1, ![512]⟩
abbrev S512x1 : Shape := ⟨2, ![512, 1]⟩
abbrev S1024 : Shape := ⟨1, ![1024]⟩
abbrev S1 : Shape := ⟨1, ![1]⟩
abbrev S1x1x1 : Shape := ⟨3, ![1, 1, 1]⟩

abbrev nBuf : Space → Nat
  | .hbm => 23
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S2x2048x1024, .f32⟩
  | .hbm, ⟨9, _⟩ => ⟨S4096x1024, .f32⟩
  | .hbm, ⟨10, _⟩ => ⟨S5632x1024, .f32⟩
  | .hbm, ⟨11, _⟩ => ⟨S5632x1024, .bf16⟩
  | .hbm, ⟨12, _⟩ => ⟨S2x2816x1024, .bf16⟩
  | .hbm, ⟨13, _⟩ => ⟨S2816x1024, .bf16⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S2x4096x2816, .bf16⟩
  | .hbm, ⟨18, _⟩ => ⟨S4096x2816, .bf16⟩
  | .hbm, ⟨19, _⟩ => ⟨S4096x1024, .bf16⟩
  | .hbm, ⟨20, _⟩ => ⟨S1x128, .f32⟩
  | .hbm, ⟨21, _⟩ => ⟨S2x1024, .f32⟩
  | .hbm, ⟨22, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S2x2816x1024, .bf16⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S2x512x2816, .bf16⟩
  | .local _ .vmem, ⟨19, _⟩ => ⟨S2x512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x1024, .bf16⟩
  | .local _ .vmem, ⟨23, _⟩ => ⟨S512x1024, .bf16⟩
  | .local _ .vmem, ⟨24, _⟩ => ⟨S1x128, .f32⟩
  | .local _ .vmem, ⟨25, _⟩ => ⟨S2x1024, .f32⟩
  | .local _ .vmem, ⟨26, _⟩ => ⟨S1x1x1024, .f32⟩
  | .local _ .vmem, ⟨27, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== LossRefIdeal.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2x2048x5632 : Shape := ⟨3, ![2, 2048, 5632]⟩
abbrev S2x2048x2816 : Shape := ⟨3, ![2, 2048, 2816]⟩
abbrev S2x2048 : Shape := ⟨2, ![2, 2048]⟩
abbrev S2x2048x1 : Shape := ⟨3, ![2, 2048, 1]⟩
abbrev S1x1x1024 : Shape := ⟨3, ![1, 1, 1024]⟩
abbrev S1024 : Shape := ⟨1, ![1024]⟩
abbrev S2x1024 : Shape := ⟨2, ![2, 1024]⟩
abbrev S4096x1024 : Shape := ⟨2, ![4096, 1024]⟩
abbrev S1x2x2048x2816 : Shape := ⟨4, ![1, 2, 2048, 2816]⟩
abbrev S2x2x2048x2816 : Shape := ⟨4, ![2, 2, 2048, 2816]⟩
abbrev S2x4096x2816 : Shape := ⟨3, ![2, 4096, 2816]⟩
abbrev S4096x2816 : Shape := ⟨2, ![4096, 2816]⟩
abbrev S1x128 : Shape := ⟨2, ![1, 128]⟩

abbrev nBuf : Space → Nat
  | .hbm => 170
  | .vmem => 0
  | .smem => 0
  | _ => 0

abbrev hbmTy0_0 (i : Nat) : BufTy := match i % 128 with
  | 0 => ⟨S2x2048x1024, .f32⟩
  | 1 => ⟨S2x1x1024, .f32⟩
  | 2 => ⟨S2x1x1024, .f32⟩
  | 3 => ⟨S2x1x1024, .f32⟩
  | 4 => ⟨S1024x5632, .f32⟩
  | 5 => ⟨S2816x1024, .f32⟩
  | 6 => ⟨S1x1024, .f32⟩
  | 7 => ⟨S1x1024, .f32⟩
  | 8 => ⟨S2x2048x1024, .f32⟩
  | 9 => ⟨S_, .f32⟩
  | 10 => ⟨S2x1x1024, .f32⟩
  | 11 => ⟨S2x1x1024, .f32⟩
  | 12 => ⟨S2x2048x1024, .f32⟩
  | 13 => ⟨S2x2048x1024, .f32⟩
  | 14 => ⟨S2x2048x1024, .f32⟩
  | 15 => ⟨S2x2048x1024, .f32⟩
  | 16 => ⟨S2x2048x5632, .f32⟩
  | 17 => ⟨S2x2048x2816, .f32⟩
  | 18 => ⟨S2x2048x2816, .f32⟩
  | 19 => ⟨S2x2048x2816, .f32⟩
  | 20 => ⟨S2x2048x2816, .f32⟩
  | 21 => ⟨S_, .f32⟩
  | 22 => ⟨S2x2048x2816, .f32⟩
  | 23 => ⟨S2x2048x2816, .f32⟩
  | 24 => ⟨S_, .f32⟩
  | 25 => ⟨S2x2048x2816, .f32⟩
  | 26 => ⟨S2x2048x2816, .f32⟩
  | 27 => ⟨S2x2048x2816, .f32⟩
  | 28 => ⟨S2x2048x2816, .f32⟩
  | 29 => ⟨S2x2048x1024, .f32⟩
  | 30 => ⟨S_, .f32⟩
  | 31 => ⟨S2x2048x1024, .f32⟩
  | 32 => ⟨S2x2048x1024, .f32⟩
  | 33 => ⟨S_, .f32⟩
  | 34 => ⟨S2x1x1024, .f32⟩
  | 35 => ⟨S2x1x1024, .f32⟩
  | 36 => ⟨S_, .f32⟩
  | 37 => ⟨S2x1x1024, .f32⟩
  | 38 => ⟨S2x1x1024, .f32⟩
  | 39 => ⟨S2x2048x1024, .f32⟩
  | 40 => ⟨S2x2048x1024, .f32⟩
  | 41 => ⟨S2x2048x1024, .f32⟩
  | 42 => ⟨S_, .f32⟩
  | 43 => ⟨S2x2048, .f32⟩
  | 44 => ⟨S2x2048x1, .f32⟩
  | 45 => ⟨S_, .f32⟩
  | 46 => ⟨S2x2048x1, .f32⟩
  | 47 => ⟨S2x2048x1, .f32⟩
  | 48 => ⟨S2x2048x1024, .f32⟩
  | 49 => ⟨S2x2048x1024, .f32⟩
  | 50 => ⟨S2x2048x1024, .f32⟩
  | 51 => ⟨S_, .f32⟩
  | 52 => ⟨S2x2048x1024, .f32⟩
  | 53 => ⟨S2x2048x1024, .f32⟩
  | 54 => ⟨S_, .f32⟩
  | 55 => ⟨S2x2048, .f32⟩
  | 56 => ⟨S2x2048x1, .f32⟩
  | 57 => ⟨S_, .f32⟩
  | 58 => ⟨S2x2048x1, .f32⟩
  | 59 => ⟨S2x2048x1, .f32⟩
  | 60 => ⟨S2x2048x1024, .f32⟩
  | 61 => ⟨S2x2048x1024, .f32⟩
  | 62 => ⟨S_, .f32⟩
  | 63 => ⟨S2x2048x1, .f32⟩
  | 64 => ⟨S2x2048x1, .f32⟩
  | 65 => ⟨S2x2048x1, .f32⟩
  | 66 => ⟨S2x2048x1, .f32⟩
  | 67 => ⟨S_, .f32⟩
  | 68 => ⟨S2x2048x1, .f32⟩
  | 69 => ⟨S2x2048x1, .f32⟩
  | 70 => ⟨S2x2048x1024, .f32⟩
  | 71 => ⟨S2x2048x1024, .f32⟩
  | 72 => ⟨S1x1x1024, .f32⟩
  | 73 => ⟨S2x2048x1024, .f32⟩
  | 74 => ⟨S2x2048x1024, .f32⟩
  | 75 => ⟨S1x1x1024, .f32⟩
  | 76 => ⟨S2x2048x1024, .f32⟩
  | 77 => ⟨S2x2048x1024, .f32⟩
  | 78 => ⟨S2x2048x1024, .f32⟩
  | 79 => ⟨S2x2048x1024, .f32⟩
  | 80 => ⟨S_, .f32⟩
  | 81 => ⟨S2x2048x1024, .f32⟩
  | 82 => ⟨S2x2048x1024, .f32⟩
  | 83 => ⟨S_, .f32⟩
  | 84 => ⟨S2x2048, .f32⟩
  | 85 => ⟨S_, .f32⟩
  | 86 => ⟨S2x2048, .f32⟩
  | 87 => ⟨S2x2048, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S2x2048, .f32⟩
  | 96 => ⟨S_, .f32⟩
  | 97 => ⟨S2x2048, .f32⟩
  | 98 => ⟨S2x2048, .f32⟩
  | 99 => ⟨S2x2048x1024, .f32⟩
  | 100 => ⟨S2x2048x1024, .f32⟩
  | 101 => ⟨S_, .f32⟩
  | 102 => ⟨S1024, .f32⟩
  | 103 => ⟨S1x1x1024, .f32⟩
  | 104 => ⟨S_, .f32⟩
  | 105 => ⟨S1024, .f32⟩
  | 106 => ⟨S1x1024, .f32⟩
  | 107 => ⟨S2x2048x1024, .f32⟩
  | 108 => ⟨S_, .f32⟩
  | 109 => ⟨S1024, .f32⟩
  | 110 => ⟨S1x1x1024, .f32⟩
  | 111 => ⟨S2x2048x1024, .f32⟩
  | 112 => ⟨S2x2048x1024, .f32⟩
  | 113 => ⟨S_, .f32⟩
  | 114 => ⟨S1024, .f32⟩
  | 115 => ⟨S1x1024, .f32⟩
  | 116 => ⟨S2x2048x1024, .f32⟩
  | 117 => ⟨S_, .f32⟩
  | 118 => ⟨S2x2048, .f32⟩
  | 119 => ⟨S2x2048x1, .f32⟩
  | 120 => ⟨S2x2048x1024, .f32⟩
  | 121 => ⟨S2x2048x1024, .f32⟩
  | 122 => ⟨S2x2048x1, .f32⟩
  | 123 => ⟨S2x2048x1024, .f32⟩
  | 124 => ⟨S_, .f32⟩
  | 125 => ⟨S2x2048, .f32⟩
  | 126 => ⟨S2x2048x1, .f32⟩
  | 127 => ⟨S_, .f32⟩
  | _ => ⟨S2x2048x1024, .f32⟩

abbrev hbmTy0_1 (i : Nat) : BufTy := match i % 128 with
  | 0 => ⟨S2x2048x1, .f32⟩
  | 1 => ⟨S2x2048x1, .f32⟩
  | 2 => ⟨S_, .f32⟩
  | 3 => ⟨S2x2048, .f32⟩
  | 4 => ⟨S2x2048x1024, .f32⟩
  | 5 => ⟨S2x2048x1024, .f32⟩
  | 6 => ⟨S2x2048x1024, .f32⟩
  | 7 => ⟨S_, .f32⟩
  | 8 => ⟨S2x2048, .f32⟩
  | 9 => ⟨S2x2048x1, .f32⟩
  | 10 => ⟨S2x2048x1024, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048, .f32⟩
  | 17 => ⟨S2x2048x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S_, .f32⟩
  | 23 => ⟨S2x1024, .f32⟩
  | 24 => ⟨S2x1x1024, .f32⟩
  | 25 => ⟨S_, .f32⟩
  | 26 => ⟨S2x1x1024, .f32⟩
  | 27 => ⟨S2x1x1024, .f32⟩
  | 28 => ⟨S4096x1024, .f32⟩
  | 29 => ⟨S4096x1024, .f32⟩
  | 30 => ⟨S4096x1024, .bf16⟩
  | 31 => ⟨S1x2x2048x2816, .f32⟩
  | 32 => ⟨S1x2x2048x2816, .f32⟩
  | 33 => ⟨S2x2x2048x2816, .f32⟩
  | 34 => ⟨S2x4096x2816, .f32⟩
  | 35 => ⟨S2x4096x2816, .bf16⟩
  | 36 => ⟨S4096x2816, .f32⟩
  | 37 => ⟨S4096x2816, .bf16⟩
  | 38 => ⟨S4096x1024, .f32⟩
  | 39 => ⟨S4096x1024, .bf16⟩
  | 40 => ⟨S1x128, .f32⟩
  | 41 => ⟨S2x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_cst_15 : Ref sig .tc := ⟨.hbm, 92, rfl⟩
abbrev main_cst_16 : Ref sig .tc := ⟨.hbm, 93, rfl⟩
abbrev main_v59 : Ref sig .tc := ⟨.hbm, 94, rfl⟩
abbrev main_v60 : Ref sig .tc := ⟨.hbm, 95, rfl⟩
abbrev main_cst_17 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_18 : Ref sig .tc := ⟨.hbm, 101, rfl⟩
abbrev main_v65 : Ref sig .tc := ⟨.hbm, 102, rfl⟩
abbrev main_v66 : Ref sig .tc := ⟨.hbm, 103, rfl⟩
abbrev main_cst_19 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_20 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_21 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_22 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_23 : Ref sig .tc := ⟨.hbm, 124, rfl⟩
abbrev main_v83 : Ref sig .tc := ⟨.hbm, 125, rfl⟩
abbrev main_v84 : Ref sig .tc := ⟨.hbm, 126, rfl⟩
abbrev main_cst_24 : Ref sig .tc := ⟨.hbm, 127, rfl⟩
abbrev main_v85 : Ref sig .tc := ⟨.hbm, 128, rfl⟩
abbrev main_v86 : Ref sig .tc := ⟨.hbm, 129, rfl⟩
abbrev main_cst_25 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_26 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_27 : Ref sig .tc := ⟨.hbm, 140, rfl⟩
abbrev main_v95 : Ref sig .tc := ⟨.hbm, 141, rfl⟩
abbrev main_v96 : Ref sig .tc := ⟨.hbm, 142, rfl⟩
abbrev main_cst_28 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_29 : Ref sig .tc := ⟨.hbm, 150, rfl⟩
abbrev main_v103 : Ref sig .tc := ⟨.hbm, 151, rfl⟩
abbrev main_v104 : Ref sig .tc := ⟨.hbm, 152, rfl⟩
abbrev main_cst_30 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩

abbrev nD : Nat := 1
abbrev τ : Topo := Topo.v7x

variable {F : FTy → Type} [FloatOps F]
-- ==== MixF.lean ====
abbrev S2x2048x1024 : Shape := ⟨3, ![2, 2048, 1024]⟩
abbrev S2x2048x512 : Shape := ⟨3, ![2, 2048, 512]⟩
abbrev S2x1x1024 : Shape := ⟨3, ![2, 1, 1024]⟩
abbrev S1024x1024 : Shape := ⟨2, ![1024, 1024]⟩
abbrev S1x1024 : Shape := ⟨2, ![1, 1024]⟩
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x1x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x512, .f32⟩
  | .hbm, ⟨9, _⟩ => ⟨S4096x512, .bf16⟩
  | .hbm, ⟨10, _⟩ => ⟨S4096x512, .f32⟩
  | .hbm, ⟨11, _⟩ => ⟨S4096x512, .bf16⟩
  | .hbm, ⟨12, _⟩ => ⟨S1024x1024, .bf16⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixFRefIdeal.lean ====
abbrev S2x2048x1024 : Shape := ⟨3, ![2, 2048, 1024]⟩
abbrev S2x2048x512 : Shape := ⟨3, ![2, 2048, 512]⟩
abbrev S2x1x1024 : Shape := ⟨3, ![2, 1, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x1x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S2x2048, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048, .f32⟩
  | .hbm, ⟨31, _⟩ => ⟨S2x2048x1, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S1x1x1024, .f32⟩
  | .hbm, ⟨47, _⟩ => ⟨S2x2048x1024, .f32⟩
  | .hbm, ⟨48, _⟩ => ⟨S2x2048x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .f32⟩
  | .hbm, ⟨54, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Up.lean ====
abbrev S2x2048x1024 : Shape := ⟨3, ![2, 2048, 1024]⟩
abbrev S2x1x1024 : Shape := ⟨3, ![2, 1, 1024]⟩
abbrev S1024x5632 : Shape := ⟨2, ![1024, 5632]⟩
abbrev S5632x1024 : Shape := ⟨2, ![5632, 1024]⟩
abbrev S2x2816x1024 : Shape := ⟨3, ![2, 2816, 1024]⟩
abbrev S4096x1024 : Shape := ⟨2, ![4096, 1024]⟩
abbrev S2x4096x2816 : Shape := ⟨3, ![2, 4096, 2816]⟩
abbrev S4096x2816 : Shape := ⟨2, ![4096, 2816]⟩
abbrev S512x1024 : Shape := ⟨2, ![512, 1024]⟩
abbrev S1x1x1024 : Shape := ⟨3, ![1, 1, 1024]⟩
abbrev S2x512x2816 : Shape := ⟨3, ![2, 512, 2816]⟩
abbrev S512x2816 : Shape := ⟨2, ![512, 2816]⟩
abbrev S1x1024 : Shape := ⟨2, ![1, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x768x1024 : Shape := ⟨3, ![1, 768, 1024]⟩
abbrev S768x1024 : Shape := ⟨2, ![768, 1024]⟩
abbrev S512x768 : Shape := ⟨2, ![512, 768]⟩
abbrev S1x512x768 : Shape := ⟨3, ![1, 512, 768]⟩

abbrev nBuf : Space → Nat
  | .hbm => 11
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1024x5632, .f32⟩
  | .hbm, ⟨4, _⟩ => ⟨S5632x1024, .f32⟩
  | .hbm, ⟨5, _⟩ => ⟨S5632x1024, .bf16⟩
  | .hbm, ⟨6, _⟩ => ⟨S2x2816x1024, .bf16⟩
  | .hbm, ⟨7, _⟩ => ⟨S4096x1024, .f32⟩
  | .hbm, ⟨8, _⟩ => ⟨S2x4096x2816, .bf16⟩
  | .hbm, ⟨9, _⟩ => ⟨S4096x2816, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S2x2816x1024, .bf16⟩
  | .local _ .vmem, ⟨7, _⟩ => ⟨S2x512x2816, .bf16⟩
  | .local _ .vmem, ⟨8, _⟩ => ⟨S2x512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x1024, .bf16⟩
  | .local _ .vmem, ⟨12, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpRefIdeal.lean ====
abbrev S2x2048x1024 : Shape := ⟨3, ![2, 2048, 1024]⟩
abbrev S2x1x1024 : Shape := ⟨3, ![2, 1, 1024]⟩
abbrev S1024x5632 : Shape := ⟨2, ![1024, 5632]⟩
abbrev S_ : Shape := ⟨0, ![]⟩
abbrev S2x2048x5632 : Shape := ⟨3, ![2, 2048, 5632]⟩
abbrev S2x2048x2816 : Shape := ⟨3, ![2, 2048, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4096x1024 : Shape := ⟨2, ![4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1024x5632, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x5632, .f32⟩
  | .hbm, ⟨12, _⟩ => ⟨S2x2048x2816, .f32⟩
  | .hbm, ⟨13, _⟩ => ⟨S2x2048x2816, .f32⟩
  | .hbm, ⟨14, _⟩ => ⟨S4096x2816, .f32⟩
  | .hbm, ⟨15, _⟩ => ⟨S4096x2816, .f32⟩
  | .hbm, ⟨16, _⟩ => ⟨S1x4096x2816, .f32⟩
  | .hbm, ⟨17, _⟩ => ⟨S1x4096x2816, .f32⟩
  | .hbm, ⟨18, _⟩ => ⟨S2x4096x2816, .f32⟩
  | .hbm, ⟨19, _⟩ => ⟨S2x4096x2816, .bf16⟩
  | .hbm, ⟨20, _⟩ => ⟨S2x2048x2816, .f32⟩
  | .hbm, ⟨21, _⟩ => ⟨S2x2048x2816, .f32⟩
  | .hbm, ⟨22, _⟩ => ⟨S_, .f32⟩
  | .hbm, ⟨23, _⟩ => ⟨S2x2048x2816, .f32⟩
  | .hbm, ⟨24, _⟩ => ⟨S2x2048x2816, .f32⟩
  | .hbm, ⟨25, _⟩ => ⟨S_, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S4096x2816, .f32⟩
  | .hbm, ⟨31, _⟩ => ⟨S4096x2816, .bf16⟩
  | .hbm, ⟨32, _⟩ => ⟨S4096x1024, .f32⟩
  | .hbm, ⟨33, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== TapF.lean ====
abbrev S2x2048x512 : Shape := ⟨3, ![2, 2048, 512]⟩
abbrev S3x512 : Shape := ⟨2, ![3, 512]⟩
abbrev S4096x512 : Shape := ⟨2, ![4096, 512]⟩
abbrev S2048x128 : Shape := ⟨2, ![2048, 128]⟩
abbrev S3x128 : Shape := ⟨2, ![3, 128]⟩
abbrev S1x128 : Shape := ⟨2, ![1, 128]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S3x512, .f32⟩
  | .hbm, ⟨4, _⟩ => ⟨S4096x512, .f32⟩
  | .hbm, ⟨5, _⟩ => ⟨S4096x512, .bf16⟩
  | .hbm, ⟨6, _⟩ => ⟨S4096x512, .f32⟩
  | .hbm, ⟨7, _⟩ => ⟨S4096x512, .bf16⟩
  | .hbm, ⟨8, _⟩ => ⟨S4096x512, .f32⟩
  | .hbm, ⟨9, _⟩ => ⟨S4096x512, .bf16⟩
  | .hbm, ⟨10, _⟩ => ⟨S4096x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== TapFRefIdeal.lean ====
abbrev S2x2048x512 : Shape := ⟨3, ![2, 2048, 512]⟩
abbrev S3x512 : Shape := ⟨2, ![3, 512]⟩
abbrev S_ : Shape := ⟨0, ![]⟩
abbrev S2x2x512 : Shape := ⟨3, ![2, 2, 512]⟩
abbrev S2x2050x512 : Shape := ⟨3, ![2, 2050, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S3x512, .f32⟩
  | .hbm, ⟨4, _⟩ => ⟨S2x2048x512, .f32⟩
  | .hbm, ⟨5, _⟩ => ⟨S_, .f32⟩
  | .hbm, ⟨6, _⟩ => ⟨S2x2x512, .f32⟩
  | .hbm, ⟨7, _⟩ => ⟨S2x2050x512, .f32⟩
  | .hbm, ⟨8, _⟩ => ⟨S1x512, .f32⟩
  | .hbm, ⟨9, _⟩ => ⟨S512, .f32⟩
  | .hbm, ⟨10, _⟩ => ⟨S2x2048x512, .f32⟩
  | .hbm, ⟨11, _⟩ => ⟨S1x1x512, .f32⟩
  | .hbm, ⟨12, _⟩ => ⟨S2x2048x512, .f32⟩
  | .hbm, ⟨13, _⟩ => ⟨S2x2048x512, .f32⟩
  | .hbm, ⟨14, _⟩ => ⟨S1x512, .f32⟩
  | .hbm, ⟨15, _⟩ => ⟨S512, .f32⟩
  | .hbm, ⟨16, _⟩ => ⟨S2x2048x512, .f32⟩
  | .hbm, ⟨17, _⟩ => ⟨S1x1x512, .f32⟩
  | .hbm, ⟨18, _⟩ => ⟨S2x2048x512, .f32⟩
  | .hbm, ⟨19, _⟩ => ⟨S2x2048x512, .f32⟩
  | .hbm, ⟨20, _⟩ => ⟨S2x2048x512, .f32⟩
  | .hbm, ⟨21, _⟩ => ⟨S1x512, .f32⟩
  | .hbm, ⟨22, _⟩ => ⟨S512, .f32⟩
  | .hbm, ⟨23, _⟩ => ⟨S2x2048x512, .f32⟩
  | .hbm, ⟨24, _⟩ => ⟨S1x1x512, .f32⟩
  | .hbm, ⟨25, _⟩ => ⟨S2x2048x512, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S4096x512, .f32⟩
  | .hbm, ⟨30, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Down.lean ====
abbrev S2x2048x1024 : Shape := ⟨3, ![2, 2048, 1024]⟩
abbrev S2x2048x2816 : Shape := ⟨3, ![2, 2048, 2816]⟩
abbrev S2x1x1024 : Shape := ⟨3, ![2, 1, 1024]⟩
abbrev S2816x1024 : Shape := ⟨2, ![2816, 1024]⟩
abbrev S1x1024 : Shape := ⟨2, ![1, 1024]⟩
abbrev S_ : Shape := ⟨0, ![]⟩
abbrev S4096x2816 : Shape := ⟨2, ![4096, 2816]⟩
abbrev S4096x1024 : Shape := ⟨2, ![4096, 1024]⟩
abbrev S512x1024 : Shape := ⟨2, ![512, 1024]⟩
abbrev S512x2816 : Shape := ⟨2, ![512, 2816]⟩
abbrev S1x1x1024 : Shape := ⟨3, ![1, 1, 1024]⟩
abbrev S1024x1024 : Shape := ⟨2, ![1024, 1024]⟩
abbrev S512x768 : Shape := ⟨2, ![512, 768]⟩
abbrev S768x1024 : Shape := ⟨2, ![768, 1024]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2x1x1024, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S4096x2816, .f32⟩
  | .hbm, ⟨18, _⟩ => ⟨S4096x2816, .bf16⟩
  | .hbm, ⟨19, _⟩ => ⟨S4096x1024, .f32⟩
  | .hbm, ⟨20, _⟩ => ⟨S2816x1024, .bf16⟩
  | .hbm, ⟨21, _⟩ => ⟨S4096x1024, .f32⟩
  | .hbm, ⟨22, _⟩ => ⟨S4096x1024, .f32⟩
  | .hbm, ⟨23, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x1x1024, .f32⟩
  | .local _ .vmem, ⟨5, _⟩ => ⟨S1x1x1024, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownRefIdeal.lean ====
abbrev S2x2048x1024 : Shape := ⟨3, ![2, 2048, 1024]⟩
abbrev S2x2048x2816 : Shape := ⟨3, ![2, 2048, 2816]⟩
abbrev S2x1x1024 : Shape := ⟨3, ![2, 1, 1024]⟩
abbrev S2816x1024 : Shape := ⟨2, ![2816, 1024]⟩
abbrev S1x1024 : Shape := ⟨2, ![1, 1024]⟩
abbrev S_ : Shape := ⟨0, ![]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S2x1x1024, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S2x2048, .f32⟩
  | .hbm, ⟨34, _⟩ => ⟨S2x2048x1, .f32⟩
  | .hbm, ⟨35, _⟩ => ⟨S_, .f32⟩
  | .hbm, ⟨36, _⟩ => ⟨S2x2048x1, .f32⟩
  | .hbm, ⟨37, _⟩ => ⟨S2x2048x1, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S2x2048x1, .f32⟩
  | .hbm, ⟨53, _⟩ => ⟨S2x2048x1024, .f32⟩
  | .hbm, ⟨54, _⟩ => ⟨S2x2048x1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== ProjF.lean ====
abbrev S2x2048x1024 : Shape := ⟨3, ![2, 2048, 1024]⟩
abbrev S2x1x1024 : Shape := ⟨3, ![2, 1, 1024]⟩
abbrev S1024x2304 : Shape := ⟨2, ![1024, 2304]⟩
abbrev S4096x1024 : Shape := ⟨2, ![4096, 1024]⟩
abbrev S2304x1024 : Shape := ⟨2, ![2304, 1024]⟩
abbrev S4096x512 : Shape := ⟨2, ![4096, 512]⟩
abbrev S4096x128 : Shape := ⟨2, ![4096, 128]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S1x1024 : Shape := ⟨2, ![1, 1024]⟩
abbrev S512x2304 : Shape := ⟨2, ![512, 2304]⟩

abbrev nBuf : Space → Nat
  | .hbm => 13
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1024x2304, .f32⟩
  | .hbm, ⟨4, _⟩ => ⟨S4096x1024, .f32⟩
  | .hbm, ⟨5, _⟩ => ⟨S2304x1024, .f32⟩
  | .hbm, ⟨6, _⟩ => ⟨S2304x1024, .bf16⟩
  | .hbm, ⟨7, _⟩ => ⟨S4096x512, .f32⟩
  | .hbm, ⟨8, _⟩ => ⟨S4096x128, .f32⟩
  | .hbm, ⟨9, _⟩ => ⟨S4096x128, .f32⟩
  | .hbm, ⟨10, _⟩ => ⟨S4096x512, .bf16⟩
  | .hbm, ⟨11, _⟩ => ⟨S4096x512, .bf16⟩
  | .hbm, ⟨12, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S2304x1024, .bf16⟩
  | .local _ .vmem, ⟨7, _⟩ => ⟨S512x512, .f32⟩
  | .local _ .vmem, ⟨8, _⟩ => ⟨S512x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjFRefIdeal.lean ====
abbrev S2x2048x1024 : Shape := ⟨3, ![2, 2048, 1024]⟩
abbrev S2x1x1024 : Shape := ⟨3, ![2, 1, 1024]⟩
abbrev S1024x2304 : Shape := ⟨2, ![1024, 2304]⟩
abbrev S_ : Shape := ⟨0, ![]⟩
abbrev S2x2048x2304 : Shape := ⟨3, ![2, 2048, 2304]⟩
abbrev S2x2048x512 : Shape := ⟨3, ![2, 2048, 512]⟩
abbrev S2x2048x128 : Shape := ⟨3, ![2, 2048, 128]⟩
abbrev S4096x512 : Shape := ⟨2, ![4096, 512]⟩
abbrev S4096x128 : Shape := ⟨2, ![4096, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1024x2304, .f32⟩
  | .hbm, ⟨4, _⟩ => ⟨S_, .f32⟩
  | .hbm, ⟨5, _⟩ => ⟨S2x1x1024, .f32⟩
  | .hbm, ⟨6, _⟩ => ⟨S2x1x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x2304, .f32⟩
  | .hbm, ⟨12, _⟩ => ⟨S2x2048x512, .f32⟩
  | .hbm, ⟨13, _⟩ => ⟨S2x2048x128, .f32⟩
  | .hbm, ⟨14, _⟩ => ⟨S2x2048x128, .f32⟩
  | .hbm, ⟨15, _⟩ => ⟨S2x2048x512, .f32⟩
  | .hbm, ⟨16, _⟩ => ⟨S2x2048x512, .f32⟩
  | .hbm, ⟨17, _⟩ => ⟨S2x2048x512, .f32⟩
  | .hbm, ⟨18, _⟩ => ⟨S4096x512, .f32⟩
  | .hbm, ⟨19, _⟩ => ⟨S4096x128, .f32⟩
  | .hbm, ⟨20, _⟩ => ⟨S4096x128, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .bf16⟩
  | .hbm, ⟨25, _⟩ => ⟨S4096x512, .bf16⟩
  | .hbm, ⟨26, _⟩ => ⟨S4096x512, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== AdaB.lean ====
abbrev S16x1024 : Shape := ⟨2, ![16, 1024]⟩
abbrev S1024x1152 : Shape := ⟨2, ![1024, 1152]⟩
abbrev S1x1152 : Shape := ⟨2, ![1, 1152]⟩
abbrev S16x1152 : Shape := ⟨2, ![16, 1152]⟩
abbrev S_ : Shape := ⟨0, ![]⟩
abbrev S1152 : Shape := ⟨1, ![1152]⟩

abbrev nBuf : Space → Nat
  | .hbm => 18
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x1152, .f32⟩
  | .hbm, ⟨2, _⟩ => ⟨S1x1152, .f32⟩
  | .hbm, ⟨3, _⟩ => ⟨S16x1152, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024, .bf16⟩
  | .hbm, ⟨10, _⟩ => ⟨S_, .bf16⟩
  | .hbm, ⟨11, _⟩ => ⟨S16x1024, .bf16⟩
  | .hbm, ⟨12, _⟩ => ⟨S16x1024, .bf16⟩
  | .hbm, ⟨13, _⟩ => ⟨S16x1024, .f32⟩
  | .hbm, ⟨14, _⟩ => ⟨S16x1024, .f32⟩
  | .hbm, ⟨15, _⟩ => ⟨S16x1024, .bf16⟩
  | .hbm, ⟨16, _⟩ => ⟨S1024x1152, .f32⟩
  | .hbm, ⟨17, _⟩ => ⟨S1x1152, .f32⟩
  | .local _ .vmem, ⟨0, _⟩ => ⟨S16x1024, .bf16⟩
  | .local _ .vmem, ⟨1, _⟩ => ⟨S16x1152, .f32⟩
  | .local _ .vmem, ⟨2, _⟩ => ⟨S1024x1152, .f32⟩
  | .local _ .vmem, ⟨3, _⟩ => ⟨S1x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaBRefIdeal.lean ====
abbrev S16x1024 : Shape := ⟨2, ![16, 1024]⟩
abbrev S1024x1152 : Shape := ⟨2, ![1024, 1152]⟩
abbrev S1x1152 : Shape := ⟨2, ![1, 1152]⟩
abbrev S16x1152 : Shape := ⟨2, ![16, 1152]⟩
abbrev S_ : Shape := ⟨0, ![]⟩
abbrev S1152 : Shape := ⟨1, ![1152]⟩
abbrev S1152x1024 : Shape := ⟨2, ![1152, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1152, .f32⟩
  | .hbm, ⟨2, _⟩ => ⟨S1x1152, .f32⟩
  | .hbm, ⟨3, _⟩ => ⟨S16x1152, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1152, .f32⟩
  | .hbm, ⟨14, _⟩ => ⟨S16x1152, .f32⟩
  | .hbm, ⟨15, _⟩ => ⟨S16x1152, .f32⟩
  | .hbm, ⟨16, _⟩ => ⟨S16x1152, .f32⟩
  | .hbm, ⟨17, _⟩ => ⟨S_, .f32⟩
  | .hbm, ⟨18, _⟩ => ⟨S1152, .f32⟩
  | .hbm, ⟨19, _⟩ => ⟨S1x1152, .f32⟩
  | .hbm, ⟨20, _⟩ => ⟨S1152x1024, .f32⟩
  | .hbm, ⟨21, _⟩ => ⟨S1024x1152, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Step.lean ====
abbrev S1024x1152 : Shape := ⟨2, ![1024, 1152]⟩
abbrev S512x1152 : Shape := ⟨2, ![512, 1152]⟩

abbrev nBuf : Space → Nat
  | .hbm => 7
  | .vmem => 14
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .local _ .vmem, ⟨0, _⟩ => ⟨S512x1152, .f32⟩
  | .local _ .vmem, ⟨1, _⟩ => ⟨S512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepRefIdeal.lean ====
abbrev S1024x1152 : Shape := ⟨2, ![1024, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S_, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S_, .f32⟩
  | .hbm, ⟨12, _⟩ => ⟨S1024x1152, .f32⟩
  | .hbm, ⟨13, _⟩ => ⟨S1024x1152, .f32⟩
  | .hbm, ⟨14, _⟩ => ⟨S1024x1152, .f32⟩
  | .hbm, ⟨15, _⟩ => ⟨S_, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S_, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S8x8x1024 : Shape := ⟨3, ![8, 8, 1024]⟩
abbrev S1x1024 : Shape := ⟨2, ![1, 1024]⟩
abbrev S1x8 : Shape := ⟨2, ![1, 8]⟩
abbrev S1x1 : Shape := ⟨2, ![1, 1]⟩
abbrev S1x8x1024 : Shape := ⟨3, ![1, 8, 1024]⟩
abbrev S8x1024 : Shape := ⟨2, ![8, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x8, .f32⟩
  | .hbm, ⟨8, _⟩ => ⟨S1x1, .f32⟩
  | .local _ .vmem, ⟨0, _⟩ => ⟨S8x8x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x8, .f32⟩
  | .local _ .vmem, ⟨8, _⟩ => ⟨S1x1, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev main_v0_7 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SumRefIdeal.lean ====
abbrev S8x8x1024 : Shape := ⟨3, ![8, 8, 1024]⟩
abbrev S_ : Shape := ⟨0, ![]⟩
abbrev S8x1024 : Shape := ⟨2, ![8, 1024]⟩
abbrev S1x1024 : Shape := ⟨2, ![1, 1024]⟩
abbrev S1x8 : Shape := ⟨2, ![1, 8]⟩
abbrev S1x1 : Shape := ⟨2, ![1, 1]⟩

abbrev nBuf : Space → Nat
  | .hbm => 11
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x8, .f32⟩
  | .hbm, ⟨10, _⟩ => ⟨S1x1, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== SumConv.lean ====
abbrev S8x3x1024 : Shape := ⟨3, ![8, 3, 1024]⟩
abbrev S3x1024 : Shape := ⟨2, ![3, 1024]⟩
abbrev S1x3x1024 : Shape := ⟨3, ![1, 3, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x3x1024, .f32⟩
  | .hbm, ⟨1, _⟩ => ⟨S3x1024, .f32⟩
  | .local _ .vmem, ⟨0, _⟩ => ⟨S8x3x1024, .f32⟩
  | .local _ .vmem, ⟨1, _⟩ => ⟨S3x1024, .f32⟩
  | _, _ => ⟨S8x3x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumConvRefIdeal.lean ====
abbrev S8x3x1024 : Shape := ⟨3, ![8, 3, 1024]⟩
abbrev S_ : Shape := ⟨0, ![]⟩
abbrev S3x1024 : Shape := ⟨2, ![3, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x3x1024, .f32⟩
  | .hbm, ⟨1, _⟩ => ⟨S_, .f32⟩
  | .hbm, ⟨2, _⟩ => ⟨S3x1024, .f32⟩
  | _, _ => ⟨S8x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Tn.lean ====
abbrev S4096x1024 : Shape := ⟨2, ![4096, 1024]⟩
abbrev S2x2816x1024 : Shape := ⟨3, ![2, 2816, 1024]⟩
abbrev S2x4096x2816 : Shape := ⟨3, ![2, 4096, 2816]⟩
abbrev S1x4096x1024 : Shape := ⟨3, ![1, 4096, 1024]⟩
abbrev S2x2x1x1408x1024 : Shape := ⟨5, ![2, 2, 1, 1408, 1024]⟩
abbrev S1x2048x1408 : Shape := ⟨3, ![1, 2048, 1408]⟩
abbrev S1x2048x1024 : Shape := ⟨3, ![1, 2048, 1024]⟩
abbrev S1x1x1x1408x1024 : Shape := ⟨5, ![1, 1, 1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x2816x1024, .f32⟩
  | .hbm, ⟨2, _⟩ => ⟨S2x4096x2816, .f32⟩
  | .hbm, ⟨3, _⟩ => ⟨S2x4096x2816, .bf16⟩
  | .hbm, ⟨4, _⟩ => ⟨S4096x1024, .bf16⟩
  | .hbm, ⟨5, _⟩ => ⟨S1x4096x1024, .bf16⟩
  | .hbm, ⟨6, _⟩ => ⟨S2x2x1x1408x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1x1408x1024, .bf16⟩
  | .local _ .vmem, ⟨5, _⟩ => ⟨S1x1x1x1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== TnRefIdeal.lean ====
abbrev S4096x1024 : Shape := ⟨2, ![4096, 1024]⟩
abbrev S2x2816x1024 : Shape := ⟨3, ![2, 2816, 1024]⟩
abbrev S2x4096x2816 : Shape := ⟨3, ![2, 4096, 2816]⟩
abbrev S2x2816x4096 : Shape := ⟨3, ![2, 2816, 4096]⟩
abbrev S2x2x1x1408x1024 : Shape := ⟨5, ![2, 2, 1, 1408, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x2816x1024, .f32⟩
  | .hbm, ⟨2, _⟩ => ⟨S2x4096x2816, .f32⟩
  | .hbm, ⟨3, _⟩ => ⟨S2x2816x4096, .f32⟩
  | .hbm, ⟨4, _⟩ => ⟨S2x4096x2816, .f32⟩
  | .hbm, ⟨5, _⟩ => ⟨S2x2816x4096, .f32⟩
  | .hbm, ⟨6, _⟩ => ⟨S2x2816x1024, .f32⟩
  | .hbm, ⟨7, _⟩ => ⟨S2x2x1x1408x1024, .f32⟩
  | .hbm, ⟨8, _⟩ => ⟨S2x2x1x1408x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Far.lean ====
abbrev S352x1024 : Shape := ⟨2, ![352, 1024]⟩
abbrev S3x352x1024 : Shape := ⟨3, ![3, 352, 1024]⟩
abbrev S1x352x1024 : Shape := ⟨3, ![1, 352, 1024]⟩

abbrev nBuf : Space → Nat
  | .hbm => 9
  | .vmem => 9
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S3x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S3x352x1024, .bf16⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FarRefIdeal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S3x352x1024, .bf16⟩
  | .hbm, ⟨3, _⟩ => ⟨S352x1024, .f32⟩
  | .hbm, ⟨4, _⟩ => ⟨S352x1024, .f32⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Attn.lean ====
abbrev S2x2048x512 : Shape := ⟨3, ![2, 2048, 512]⟩
abbrev S2x2048x128 : Shape := ⟨3, ![2, 2048, 128]⟩
abbrev S8 : Shape := ⟨1, ![8]⟩
abbrev S2x2048 : Shape := ⟨2, ![2, 2048]⟩
abbrev S128 : Shape := ⟨1, ![128]⟩
abbrev S1x128 : Shape := ⟨2, ![1, 128]⟩
abbrev S4096 : Shape := ⟨1, ![4096]⟩
abbrev S4096x1 : Shape := ⟨2, ![4096, 1]⟩
abbrev S4096x128 : Shape := ⟨2, ![4096, 128]⟩
abbrev S2x2048x8x64 : Shape := ⟨4, ![2, 2048, 8, 64]⟩
abbrev S2x2048x2x64 : Shape := ⟨4, ![2, 2048, 2, 64]⟩
abbrev S2x2048x10x64 : Shape := ⟨4, ![2, 2048, 10, 64]⟩
abbrev S2x2048x10x8 : Shape := ⟨4, ![2, 2048, 10, 8]⟩
abbrev S_ : Shape := ⟨0, ![]⟩
abbrev S2x2048x10x48 : Shape := ⟨4, ![2, 2048, 10, 48]⟩
abbrev S4096x64 : Shape := ⟨2, ![4096, 64]⟩
abbrev S2x2048x1x64 : Shape := ⟨4, ![2, 2048, 1, 64]⟩
abbrev S2x16x128x2x4x64 : Shape := ⟨6, ![2, 16, 128, 2, 4, 64]⟩
abbrev S2x128x2x64 : Shape := ⟨4, ![2, 128, 2, 64]⟩
abbrev S2x2176x2x64 : Shape := ⟨4, ![2, 2176, 2, 64]⟩
abbrev S2x17x128x2x64 : Shape := ⟨5, ![2, 17, 128, 2, 64]⟩
abbrev S2x16x128x2x64 : Shape := ⟨5, ![2, 16, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S2x4 : Shape := ⟨2, ![2, 4]⟩
abbrev S1x1x2x4x1x1 : Shape := ⟨6, ![1, 1, 2, 4, 1, 1]⟩
abbrev S2x16x2x4x128x1 : Shape := ⟨6, ![2, 16, 2, 4, 128, 1]⟩
abbrev S2x16x2x4x128x257 : Shape := ⟨6, ![2, 16, 2, 4, 128, 257]⟩
abbrev S2x16x2x4x128 : Shape := ⟨5, ![2, 16, 2, 4, 128]⟩
abbrev S2x2x16x4x128x256 : Shape := ⟨6, ![2, 2, 16, 4, 128, 256]⟩
abbrev S2x2x16x512x256 : Shape := ⟨5, ![2, 2, 16, 512, 256]⟩
abbrev S2x2x1x512x128 : Shape := ⟨5, ![2, 2, 1, 512, 128]⟩
abbrev S2x2x1x512x256 : Shape := ⟨5, ![2, 2, 1, 512, 256]⟩
abbrev S2x2x15x512x256 : Shape := ⟨5, ![2, 2, 15, 512, 256]⟩
abbrev S2x2x4x128x16 : Shape := ⟨5, ![2, 2, 4, 128, 16]⟩
abbrev S2x2x512x16 : Shape := ⟨4, ![2, 2, 512, 16]⟩
abbrev S2x2x512x112 : Shape := ⟨4, ![2, 2, 512, 112]⟩
abbrev S2x2x512x128 : Shape := ⟨4, ![2, 2, 512, 128]⟩
abbrev S4096x512 : Shape := ⟨2, ![4096, 512]⟩
abbrev S2x2x512x1 : Shape := ⟨4, ![2, 2, 512, 1]⟩
abbrev S2048x256 : Shape := ⟨2, ![2048, 256]⟩
abbrev S2048x128 : Shape := ⟨2, ![2048, 128]⟩
abbrev S1x1x16x512x256 : Shape := ⟨5, ![1, 1, 16, 512, 256]⟩
abbrev S1x1x512x128 : Shape := ⟨4, ![1, 1, 512, 128]⟩
abbrev S1x1x512x1 : Shape := ⟨4, ![1, 1, 512, 1]⟩
abbrev S512x128 : Shape := ⟨2, ![512, 128]⟩
abbrev S128x128 : Shape := ⟨2, ![128, 128]⟩
abbrev S256x128 : Shape := ⟨2, ![256, 128]⟩
abbrev S1x1x1x512x256 : Shape := ⟨5, ![1, 1, 1, 512, 256]⟩
abbrev S512x256 : Shape := ⟨2, ![512, 256]⟩
abbrev S512 : Shape := ⟨1, ![512]⟩
abbrev S512x1 : Shape := ⟨2, ![512, 1]⟩
abbrev S2x8x128 : Shape := ⟨3, ![2, 8, 128]⟩

abbrev nBuf : Space → Nat
  | .hbm => 127
  | .vmem => 29
  | .smem => 0
  | _ => 0

abbrev bufTy : (tb : Table) → Fin (tcTables nBuf tb) → BufTy
  | .hbm, ⟨0, _⟩ => ⟨S2x2048x512, .f32⟩
  | .hbm, ⟨1, _⟩ => ⟨S2x2048x128, .f32⟩
  | .hbm, ⟨2, _⟩ => ⟨S2x2048x128, .f32⟩
  | .hbm, ⟨3, _⟩ => ⟨S8, .f32⟩
  | .hbm, ⟨4, _⟩ => ⟨S2x2048, .i32⟩
  | .hbm, ⟨5, _⟩ => ⟨S2x2048x512, .f32⟩
  | .hbm, ⟨6, _⟩ => ⟨S128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S4096, .i32⟩
  | .hbm, ⟨11, _⟩ => ⟨S4096, .f32⟩
  | .hbm, ⟨12, _⟩ => ⟨S4096x1, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S2x2048x8x64, .f32⟩
  | .hbm, ⟨21, _⟩ => ⟨S2x2048x2x64, .f32⟩
  | .hbm, ⟨22, _⟩ => ⟨S2x2048x10x64, .f32⟩
  | .hbm, ⟨23, _⟩ => ⟨S2x2048x10x8, .f32⟩
  | .hbm, ⟨24, _⟩ => ⟨S2x2048x10x8, .f32⟩
  | .hbm, ⟨25, _⟩ => ⟨S_, .f32⟩
  | .hbm, ⟨26, _⟩ => ⟨S2x2048x10x48, .f32⟩
  | .hbm, ⟨27, _⟩ => ⟨S2x2048x10x64, .f32⟩
  | .hbm, ⟨28, _⟩ => ⟨S4096x64, .f32⟩
  | .hbm, ⟨29, _⟩ => ⟨S2x2048x1x64, .f32⟩
  | .hbm, ⟨30, _⟩ => ⟨S2x2048x10x64, .f32⟩
  | .hbm, ⟨31, _⟩ => ⟨S2x2048x10x64, .f32⟩
  | .hbm, ⟨32, _⟩ => ⟨S4096x64, .f32⟩
  | .hbm, ⟨33, _⟩ => ⟨S2x2048x1x64, .f32⟩
  | .hbm, ⟨34, _⟩ => ⟨S2x2048x10x64, .f32⟩
  | .hbm, ⟨35, _⟩ => ⟨S2x2048x10x64, .f32⟩
  | .hbm, ⟨36, _⟩ => ⟨S2x2048x10x64, .f32⟩
  | .hbm, ⟨37, _⟩ => ⟨S2x2048x8x64, .f32⟩
  | .hbm, ⟨38, _⟩ => ⟨S2x2048x2x64, .f32⟩
  | .hbm, ⟨39, _⟩ => ⟨S2x16x128x2x4x64, .f32⟩
  | .hbm, ⟨40, _⟩ => ⟨S_, .f32⟩
  | .hbm, ⟨41, _⟩ => ⟨S2x128x2x64, .f32⟩
  | .hbm, ⟨42, _⟩ => ⟨S2x2176x2x64, .f32⟩
  | .hbm, ⟨43, _⟩ => ⟨S2x17x128x2x64, .f32⟩
  | .hbm, ⟨44, _⟩ => ⟨S2x16x128x2x64, .f32⟩
  | .hbm, ⟨45, _⟩ => ⟨S2x16x128x2x64, .f32⟩
  | .hbm, ⟨46, _⟩ => ⟨S2x16x256x2x64, .f32⟩
  | .hbm, ⟨47, _⟩ => ⟨S2x16x2x256x128x4, .f32⟩
  | .hbm, ⟨48, _⟩ => ⟨S2x16x2x4x128x256, .f32⟩
  | .hbm, ⟨49, _⟩ => ⟨S_, .f32⟩
  | .hbm, ⟨50, _⟩ => ⟨S2x16x2x4x128x256, .f32⟩
  | .hbm, ⟨51, _⟩ => ⟨S2x16x2x4x128x256, .f32⟩
  | .hbm, ⟨52, _⟩ => ⟨S2x16x2x4x128x256, .i32⟩
  | .hbm, ⟨53, _⟩ => ⟨S2x16x2x4x128x256, .i32⟩
  | .hbm, ⟨54, _⟩ => ⟨S2x16x2x4x128x256, .i32⟩
  | .hbm, ⟨55, _⟩ => ⟨S_, .i32⟩
  | .hbm, ⟨56, _⟩ => ⟨S2x16x2x4x128x256, .i32⟩
  | .hbm, ⟨57, _⟩ => ⟨S2x16x2x4x128x256, .i32⟩
  | .hbm, ⟨58, _⟩ => ⟨S2x16x2x4x128x256, .i32⟩
  | .hbm, ⟨59, _⟩ => ⟨S_, .i32⟩
  | .hbm, ⟨60, _⟩ => ⟨S2x16x2x4x128x256, .i32⟩
  | .hbm, ⟨61, _⟩ => ⟨S2x16x2x4x128x256, .i32⟩
  | .hbm, ⟨62, _⟩ => ⟨S_, .i32⟩
  | .hbm, ⟨63, _⟩ => ⟨S2x16x2x4x128x256, .i32⟩
  | .hbm, ⟨64, _⟩ => ⟨S2x16x2x4x128x256, .i32⟩
  | .hbm, ⟨65, _⟩ => ⟨S2x16x2x4x128x256, .i32⟩
  | .hbm, ⟨66, _⟩ => ⟨S_, .i32⟩
  | .hbm, ⟨67, _⟩ => ⟨S2x16x2x4x128x256, .i32⟩
  | .hbm, ⟨68, _⟩ => ⟨S2x16x2x4x128x256, .i1⟩
  | .hbm, ⟨69, _⟩ => ⟨S_, .i32⟩
  | .hbm, ⟨70, _⟩ => ⟨S2x16x2x4x128x256, .i32⟩
  | .hbm, ⟨71, _⟩ => ⟨S2x16x2x4x128x256, .i1⟩
  | .hbm, ⟨72, _⟩ => ⟨S2x16x2x4x128x256, .i1⟩
  | .hbm, ⟨73, _⟩ => ⟨S_, .i32⟩
  | .hbm, ⟨74, _⟩ => ⟨S2x16x2x4x128x256, .i32⟩
  | .hbm, ⟨75, _⟩ => ⟨S2x16x2x4x128x256, .i1⟩
  | .hbm, ⟨76, _⟩ => ⟨S2x16x2x4x128x256, .i1⟩
  | .hbm, ⟨77, _⟩ => ⟨S_, .f32⟩
  | .hbm, ⟨78, _⟩ => ⟨S2x16x2x4x128x256, .f32⟩
  | .hbm, ⟨79, _⟩ => ⟨S2x16x2x4x128x256, .f32⟩
  | .hbm, ⟨80, _⟩ => ⟨S2x4, .f32⟩
  | .hbm, ⟨81, _⟩ => ⟨S1x1x2x4x1x1, .f32⟩
  | .hbm, ⟨82, _⟩ => ⟨S2x16x2x4x128x1, .f32⟩
  | .hbm, ⟨83, _⟩ => ⟨S2x16x2x4x128x257, .f32⟩
  | .hbm, ⟨84, _⟩ => ⟨S_, .f32⟩
  | .hbm, ⟨85, _⟩ => ⟨S2x16x2x4x128, .f32⟩
  | .hbm, ⟨86, _⟩ => ⟨S_, .f32⟩
  | .hbm, ⟨87, _⟩ => ⟨S2x16x2x4x128, .f32⟩
  | .hbm, ⟨88, _⟩ => ⟨S2x16x2x4x128, .f32⟩
  | .hbm, ⟨89, _⟩ => ⟨S2x16x2x4x128x1, .f32⟩
  | .hbm, ⟨90, _⟩ => ⟨S2x16x2x4x128x257, .f32⟩
  | .hbm, ⟨91, _⟩ => ⟨S2x16x2x4x128x257, .f32⟩
  | .hbm, ⟨92, _⟩ => ⟨S2x16x2x4x128x257, .f32⟩
  | .hbm, ⟨93, _⟩ => ⟨S_, .f32⟩
  | .hbm, ⟨94, _⟩ => ⟨S2x16x2x4x128, .f32⟩
  | .hbm, ⟨95, _⟩ => ⟨S2x16x2x4x128x1, .f32⟩
  | .hbm, ⟨96, _⟩ => ⟨S2x16x2x4x128x257, .f32⟩
  | .hbm, ⟨97, _⟩ => ⟨S2x16x2x4x128x257, .f32⟩
  | .hbm, ⟨98, _⟩ => ⟨S2x16x2x4x128x256, .f32⟩
  | .hbm, ⟨99, _⟩ => ⟨S2x2x16x4x128x256, .f32⟩
  | .hbm, ⟨100, _⟩ => ⟨S2x2x16x512x256, .f32⟩
  | .hbm, ⟨101, _⟩ => ⟨S2x2x1x512x128, .f32⟩
  | .hbm, ⟨102, _⟩ => ⟨S2x2x1x512x128, .f32⟩
  | .hbm, ⟨103, _⟩ => ⟨S2x2x1x512x256, .f32⟩
  | .hbm, ⟨104, _⟩ => ⟨S2x2x15x512x256, .f32⟩
  | .hbm, ⟨105, _⟩ => ⟨S2x2x16x512x256, .f32⟩
  | .hbm, ⟨106, _⟩ => ⟨S2x16x2x4x128x1, .f32⟩
  | .hbm, ⟨107, _⟩ => ⟨S2x16x2x4x128, .f32⟩
  | .hbm, ⟨108, _⟩ => ⟨S2x2x4x128x16, .f32⟩
  | .hbm, ⟨109, _⟩ => ⟨S2x2x512x16, .f32⟩
  | .hbm, ⟨110, _⟩ => ⟨S_, .f32⟩
  | .hbm, ⟨111, _⟩ => ⟨S2x2x512x112, .f32⟩
  | .hbm, ⟨112, _⟩ => ⟨S2x2x512x128, .f32⟩
  | .hbm, ⟨113, _⟩ => ⟨S4096x512, .f32⟩
  | .hbm, ⟨114, _⟩ => ⟨S4096x512, .bf16⟩
  | .hbm, ⟨115, _⟩ => ⟨S4096x128, .f32⟩
  | .hbm, ⟨116, _⟩ => ⟨S4096x128, .f32⟩
  | .hbm, ⟨117, _⟩ => ⟨S4096x512, .f32⟩
  | .hbm, ⟨118, _⟩ => ⟨S4096x512, .bf16⟩
  | .hbm, ⟨119, _⟩ => ⟨S2x2x16x512x256, .bf16⟩
  | .hbm, ⟨120, _⟩ => ⟨S4096x512, .bf16⟩
  | .hbm, ⟨121, _⟩ => ⟨S4096x128, .f32⟩
  | .hbm, ⟨122, _⟩ => ⟨S4096x128, .f32⟩
  | .hbm, ⟨123, _⟩ => ⟨S2x2x512x1, .f32⟩
  | .hbm, ⟨124, _⟩ => ⟨S2x8x128, .f32⟩
  | .hbm, ⟨125, _⟩ => ⟨S_, .f32⟩
  | .hbm, ⟨126, _⟩ => ⟨S8, .f32⟩
  | .local _ .vmem, ⟨0, _⟩ => ⟨S2048x256, .bf16⟩
  | .local _ .vmem, ⟨1, _⟩ => ⟨S2048x256, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x256, .bf16⟩
  | .local _ .vmem, ⟨7, _⟩ => ⟨S2048x256, .bf16⟩
  | .local _ .vmem, ⟨8, _⟩ => ⟨S1x1x16x512x256, .bf16⟩
  | .local _ .vmem, ⟨9, _⟩ => ⟨S1x1x16x512x256, .bf16⟩
  | .local _ .vmem, ⟨10, _⟩ => ⟨S1x1x512x128, .f32⟩
  | .local _ .vmem, ⟨11, _⟩ => ⟨S1x1x512x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x256, .bf16⟩
  | .local _ .vmem, ⟨17, _⟩ => ⟨S2048x256, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x1x512x1, .f32⟩
  | .local _ .vmem, ⟨23, _⟩ => ⟨S1x1x512x1, .f32⟩
  | .local _ .vmem, ⟨24, _⟩ => ⟨S2048x128, .bf16⟩
  | .local _ .vmem, ⟨25, _⟩ => ⟨S2048x128, .bf16⟩
  | .local _ .vmem, ⟨26, _⟩ => ⟨S2048x128, .f32⟩
  | .local _ .vmem, ⟨27, _⟩ => ⟨S2048x128, .f32⟩
  | .local _ .vmem, ⟨28, _⟩ => ⟨S512x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_4 : Ref sig .tc := ⟨.hbm, 59, rfl⟩
abbrev main_v47 : Ref sig .tc := ⟨.hbm, 60, rfl⟩
abbrev main_v48 : Ref sig .tc := ⟨.hbm, 61, rfl⟩
abbrev main_c_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_6 : Ref sig .tc := ⟨.hbm, 66, rfl⟩
abbrev main_v52 : Ref sig .tc := ⟨.hbm, 67, rfl⟩
abbrev main_v53 : Ref sig .tc := ⟨.hbm, 68, rfl⟩
abbrev main_c_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_13 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98_0 : Ref sig .tc := ⟨.hbm, 120, rfl⟩
abbrev main_v98_1 : Ref sig .tc := ⟨.hbm, 121, rfl⟩
abbrev main_v98_2 : Ref sig .tc := ⟨.hbm, 122, rfl⟩
abbrev main_v98_3 : Ref sig .tc := ⟨.hbm, 123, rfl⟩
abbrev main_v99 : Ref sig .tc := ⟨.hbm, 124, rfl⟩
abbrev main_cst_14 : Ref sig .tc := ⟨.hbm, 125, rfl⟩
abbrev main_v100 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32_40 : BitVec 32 := 0#32
  let c8_i32_41 : BitVec 32 := 8#32
  let v116 : BitVec 32 := Scalar.addi c0_i32_40 c8_i32_41
  let c1_i32_42 : BitVec 32 := 1#32
  ⟨c0_i32_40, v116, c1_i32_42⟩
def k0_mult1 (k0_t1 : Fin k0_t1_loop.trips) : BitVec 32 :=
  let c2_i32_94 : BitVec 32 := 2#32
  let c0_i32_40 : BitVec 32 := 0#32
  let c1_i32_42 : BitVec 32 := 1#32
  let arg19 : BitVec 32 := Scf.iv c0_i32_40 c1_i32_42 k0_t1
  let v230 : BitVec 32 := Scalar.muli c2_i32_94 arg19
  let c128_i32 : BitVec 32 := 128#32
  let v231 : BitVec 32 := Scalar.muli v230 c128_i32
  v231
def k0_mult2 (k0_t1 : Fin k0_t1_loop.trips) : BitVec 32 :=
  let c2_i32_94 : BitVec 32 := 2#32
  let c0_i32_40 : BitVec 32 := 0#32
  let c1_i32_42 : BitVec 32 := 1#32
  let arg19 : BitVec 32 := Scf.iv c0_i32_40 c1_i32_42 k0_t1
  let v230 : BitVec 32 := Scalar.muli c2_i32_94 arg19
  let c1_i32_95 : BitVec 32 := 1#32
  let v233 : BitVec 32 := Scalar.subi v230 c1_i32_95
  let c0_i32_96 : BitVec 32 := 0#32
  let v234 : BitVec 32 := Scalar.maxsi v233 c0_i32_96
  let c128_i32_97 : BitVec 32 := 128#32
  let v235 : BitVec 32 := Scalar.muli v234 c128_i32_97
  v235
def k0_off1 (k0_t1 : Fin k0_t1_loop.trips) : Fin 2 → Nat :=
  let c2_i32_94 : BitVec 32 := 2#32
  let c0_i32_40 : BitVec 32 := 0#32
  let c1_i32_42 : BitVec 32 := 1#32
  let arg19 : BitVec 32 := Scf.iv c0_i32_40 c1_i32_42 k0_t1
  let v230 : BitVec 32 := Scalar.muli c2_i32_94 arg19
  let c128_i32 : BitVec 32 := 128#32
  let v231 : BitVec 32 := Scalar.muli v230 c128_i32
  let v232 : BitVec 32 := v231
  let v237 : Index := Scalar.indexCast v232
  let c0_98 : Index := 0#32
  ![v237.toNat, 0]
def k0_off2 (k0_t1 : Fin k0_t1_loop.trips) : Fin 2 → Nat :=
  let c2_i32_94 : BitVec 32 := 2#32
  let c0_i32_40 : BitVec 32 := 0#32
  let c1_i32_42 : BitVec 32 := 1#32
  let arg19 : BitVec 32 := Scf.iv c0_i32_40 c1_i32_42 k0_t1
  let v230 : BitVec 32 := Scalar.muli c2_i32_94 arg19
  let c128_i32 : BitVec 32 := 128#32
  let v231 : BitVec 32 := Scalar.muli v230 c128_i32
  let v232 : BitVec 32 := v231
  let v240 : Index := Scalar.indexCast v232
  let c128 : Index := 128#32
  ![v240.toNat, 128]
def k0_off3 (k0_t1 : Fin k0_t1_loop.trips) : Fin 2 → Nat :=
  let c2_i32_94 : BitVec 32 := 2#32
  let c0_i32_40 : BitVec 32 := 0#32
  let c1_i32_42 : BitVec 32 := 1#32
  let arg19 : BitVec 32 := Scf.iv c0_i32_40 c1_i32_42 k0_t1
  let v230 : BitVec 32 := Scalar.muli c2_i32_94 arg19
  let c1_i32_95 : BitVec 32 := 1#32
  let v233 : BitVec 32 := Scalar.subi v230 c1_i32_95
  let c0_i32_96 : BitVec 32 := 0#32
  let v234 : BitVec 32 := Scalar.maxsi v233 c0_i32_96
  let c128_i32_97 : BitVec 32 := 128#32
  let v235 : BitVec 32 := Scalar.muli v234 c128_i32_97
  let v236 : BitVec 32 := v235
  let v391 : Index := Scalar.indexCast v236
  let c0_145 : Index := 0#32
  ![v391.toNat, 0]
def k0_off4 (k0_t1 : Fin k0_t1_loop.trips) : Fin 5 → Nat :=
  let c0_147 : Index := 0#32
  let c0_148 : Index := 0#32
  let c2_i32_94 : BitVec 32 := 2#32
  let c0_i32_40 : BitVec 32 := 0#32
  let c1_i32_42 : BitVec 32 := 1#32
  let arg19 : BitVec 32 := Scf.iv c0_i32_40 c1_i32_42 k0_t1
  let v230 : BitVec 32 := Scalar.muli c2_i32_94 arg19
  let v395 : Index := Scalar.indexCast v230
  let c0_149 : Index := 0#32
  let c0_150 : Index := 0#32
  ![0, 0, v395.toNat, 0, 0]
def k0_off5 (k0_t1 : Fin k0_t1_loop.trips) : Fin 2 → Nat :=
  let c2_i32_94 : BitVec 32 := 2#32
  let c0_i32_40 : BitVec 32 := 0#32
  let c1_i32_42 : BitVec 32 := 1#32
  let arg19 : BitVec 32 := Scf.iv c0_i32_40 c1_i32_42 k0_t1
  let v230 : BitVec 32 := Scalar.muli c2_i32_94 arg19
  let c128_i32 : BitVec 32 := 128#32
  let v231 : BitVec 32 := Scalar.muli v230 c128_i32
  let v232 : BitVec 32 := v231
  let v428 : Index := Scalar.indexCast v232
  let c0_162 : Index := 0#32
  ![v428.toNat, 0]
def k0_mult3 (k0_t1 : Fin k0_t1_loop.trips) : BitVec 32 :=
  let c2_i32 : BitVec 32 := 2#32
  let c0_i32_40 : BitVec 32 := 0#32
  let c1_i32_42 : BitVec 32 := 1#32
  let arg19 : BitVec 32 := Scf.iv c0_i32_40 c1_i32_42 k0_t1
  let v228 : BitVec 32 := Scalar.muli c2_i32 arg19
  let c1_i32_93 : BitVec 32 := 1#32
  let v229 : BitVec 32 := Scalar.addi v228 c1_i32_93
  let c128_i32_213 : BitVec 32 := 128#32
  let v571 : BitVec 32 := Scalar.muli v229 c128_i32_213
  v571
def k0_mult4 (k0_t1 : Fin k0_t1_loop.trips) : BitVec 32 :=
  let c2_i32 : BitVec 32 := 2#32
  let c0_i32_40 : BitVec 32 := 0#32
  let c1_i32_42 : BitVec 32 := 1#32
  let arg19 : BitVec 32 := Scf.iv c0_i32_40 c1_i32_42 k0_t1
  let v228 : BitVec 32 := Scalar.muli c2_i32 arg19
  let c1_i32_93 : BitVec 32 := 1#32
  let v229 : BitVec 32 := Scalar.addi v228 c1_i32_93
  let c1_i32_214 : BitVec 32 := 1#32
  let v573 : BitVec 32 := Scalar.subi v229 c1_i32_214
  let c0_i32_215 : BitVec 32 := 0#32
  let v574 : BitVec 32 := Scalar.maxsi v573 c0_i32_215
  let c128_i32_216 : BitVec 32 := 128#32
  let v575 : BitVec 32 := Scalar.muli v574 c128_i32_216
  v575
def k0_off6 (k0_t1 : Fin k0_t1_loop.trips) : Fin 2 → Nat :=
  let c2_i32 : BitVec 32 := 2#32
  let c0_i32_40 : BitVec 32 := 0#32
  let c1_i32_42 : BitVec 32 := 1#32
  let arg19 : BitVec 32 := Scf.iv c0_i32_40 c1_i32_42 k0_t1
  let v228 : BitVec 32 := Scalar.muli c2_i32 arg19
  let c1_i32_93 : BitVec 32 := 1#32
  let v229 : BitVec 32 := Scalar.addi v228 c1_i32_93
  let c128_i32_213 : BitVec 32 := 128#32
  let v571 : BitVec 32 := Scalar.muli v229 c128_i32_213
  let v572 : BitVec 32 := v571
  let v577 : Index := Scalar.indexCast v572
  let c0_217 : Index := 0#32
  ![v577.toNat, 0]
def k0_off7 (k0_t1 : Fin k0_t1_loop.trips) : Fin 2 → Nat :=
  let c2_i32 : BitVec 32 := 2#32
  let c0_i32_40 : BitVec 32 := 0#32
  let c1_i32_42 : BitVec 32 := 1#32
  let arg19 : BitVec 32 := Scf.iv c0_i32_40 c1_i32_42 k0_t1
  let v228 : BitVec 32 := Scalar.muli c2_i32 arg19
  let c1_i32_93 : BitVec 32 := 1#32
  let v229 : BitVec 32 := Scalar.addi v228 c1_i32_93
  let c128_i32_213 : BitVec 32 := 128#32
  let v571 : BitVec 32 := Scalar.muli v229 c128_i32_213
  let v572 : BitVec 32 := v571
  let v580 : Index := Scalar.indexCast v572
  let c128_218 : Index := 128#32
  ![v580.toNat, 128]
def k0_off8 (k0_t1 : Fin k0_t1_loop.trips) : Fin 2 → Nat :=
  let c2_i32 : BitVec 32 := 2#32
  let c0_i32_40 : BitVec 32 := 0#32
  let c1_i32_42 : BitVec 32 := 1#32
  let arg19 : BitVec 32 := Scf.iv c0_i32_40 c1_i32_42 k0_t1
  let v228 : BitVec 32 := Scalar.muli c2_i32 arg19
  let c1_i32_93 : BitVec 32 := 1#32
  let v229 : BitVec 32 := Scalar.addi v228 c1_i32_93
  let c1_i32_214 : BitVec 32 := 1#32
  let v573 : BitVec 32 := Scalar.subi v229 c1_i32_214
  let c0_i32_215 : BitVec 32 := 0#32
  let v574 : BitVec 32 := Scalar.maxsi v573 c0_i32_215
  let c128_i32_216 : BitVec 32 := 128#32
  let v575 : BitVec 32 := Scalar.muli v574 c128_i32_216
  let v576 : BitVec 32 := v575
  let v731 : Index := Scalar.indexCast v576
  let c0_265 : Index := 0#32
  ![v731.toNat, 0]
def k0_off9 (k0_t1 : Fin k0_t1_loop.trips) : Fin 5 → Nat :=
  let c0_267 : Index := 0#32
  let c0_268 : Index := 0#32
  let c2_i32 : BitVec 32 := 2#32
  let c0_i32_40 : BitVec 32 := 0#32
  let c1_i32_42 : BitVec 32 := 1#32
  let arg19 : BitVec 32 := Scf.iv c0_i32_40 c1_i32_42 k0_t1
  let v228 : BitVec 32 := Scalar.muli c2_i32 arg19
  let c1_i32_93 : BitVec 32 := 1#32
  let v229 : BitVec 32 := Scalar.addi v228 c1_i32_93
  let v735 : Index := Scalar.indexCast v229
  let c0_269 : Index := 0#32
  let c0_270 : Index := 0#32
  ![0, 0, v735.toNat, 0, 0]
def k0_off10 (k0_t1 : Fin k0_t1_loop.trips) : Fin 2 → Nat :=
  let c2_i32 : BitVec 32 := 2#32
  let c0_i32_40 : BitVec 32 := 0#32
  let c1_i32_42 : BitVec 32 := 1#32
  let arg19 : BitVec 32 := Scf.iv c0_i32_40 c1_i32_42 k0_t1
  let v228 : BitVec 32 := Scalar.muli c2_i32 arg19
  let c1_i32_93 : BitVec 32 := 1#32
  let v229 : BitVec 32 := Scalar.addi v228 c1_i32_93
  let c128_i32_213 : BitVec 32 := 128#32
  let v571 : BitVec 32 := Scalar.muli v229 c128_i32_213
  let v572 : BitVec 32 := v571
  let v768 : Index := Scalar.indexCast v572
  let c0_282 : Index := 0#32
  ![v768.toNat, 0]
def k0_cond1 (i : grid0.Coords) : BitVec 1 :=
  let arg1 : BitVec 32 := BitVec.ofNat 32 (i 1).val
  let c0_i32_89 : BitVec 32 := 0#32
  let v222 : BitVec 1 := Scalar.cmpi .eq arg1 c0_i32_89
  let v223 : BitVec 32 := Scalar.extui v222
  let c0_i32_90 : BitVec 32 := 0#32
  let v224 : BitVec 1 := Scalar.cmpi .ne v223 c0_i32_90
  v224

def k0_cond2 (i : grid0.Coords) : BitVec 1 :=
  let arg1 : BitVec 32 := BitVec.ofNat 32 (i 1).val
  let c0_i32_91 : BitVec 32 := 0#32
  let v225 : BitVec 1 := Scalar.cmpi .ne arg1 c0_i32_91
  let v226 : BitVec 32 := Scalar.extui v225
  let c0_i32_92 : BitVec 32 := 0#32
  let v227 : BitVec 1 := Scalar.cmpi .ne v226 c0_i32_92
  v227

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnRefIdeal.lean ====
abbrev S2x2048x512 : Shape := ⟨3, ![2, 2048, 512]⟩
abbrev S2x2048x128 : Shape := ⟨3, ![2, 2048, 128]⟩
abbrev S8 : Shape := ⟨1, ![8]⟩
abbrev S2x2048 : Shape := ⟨2, ![2, 2048]⟩
abbrev S2x2048x1 : Shape := ⟨3, ![2, 2048, 1]⟩
abbrev S1x1x8 : Shape := ⟨3, ![1, 1, 8]⟩
abbrev S2x2048x8 : Shape := ⟨3, ![2, 2048, 8]⟩
abbrev S2x2048x1x8 : Shape := ⟨4, ![2, 2048, 1, 8]⟩
abbrev S2x2048x2x64 : Shape := ⟨4, ![2, 2048, 2, 64]⟩
abbrev S_ : Shape := ⟨0, ![]⟩
abbrev S2x128x2x64 : Shape := ⟨4, ![2, 128, 2, 64]⟩
abbrev S2x2176x2x64 : Shape := ⟨4, ![2, 2176, 2, 64]⟩
abbrev S2x17x128x2x64 : Shape := ⟨5, ![2, 17, 128, 2, 64]⟩
abbrev S2x16x128x2x64 : Shape := ⟨5, ![2, 16, 128, 2, 64]⟩
abbrev S2x16x256x2x64 : Shape := ⟨5, ![2, 16, 256, 2, 64]⟩
abbrev S2x2048x8x64 : Shape := ⟨4, ![2, 2048, 8, 64]⟩
abbrev S2x2048x8x8 : Shape := ⟨4, ![2, 2048, 8, 8]⟩
abbrev S2x2048x8x48 : Shape := ⟨4, ![2, 2048, 8, 48]⟩
abbrev S2x2048x2x8 : Shape := ⟨4, ![2, 2048, 2, 8]⟩
abbrev S2x2048x2x48 : Shape := ⟨4, ![2, 2048, 2, 48]⟩
abbrev S2x16x128x2x4x64 : Shape := ⟨6, ![2, 16, 128, 2, 4, 64]⟩
abbrev S2x16x2x256x128x4 : Shape := ⟨6, ![2, 16, 2, 256, 128, 4]⟩
abbrev S2x16x2x4x128x256 : Shape := ⟨6, ![2, 16, 2, 4, 128, 256]⟩
abbrev S2x4 : Shape := ⟨2, ![2, 4]⟩
abbrev S1x1x2x4x1x1 : Shape := ⟨6, ![1, 1, 2, 4, 1, 1]⟩
abbrev S2x16x2x4x128x1 : Shape := ⟨6, ![2, 16, 2, 4, 128, 1]⟩
abbrev S2x16x2x4x128x257 : Shape := ⟨6, ![2, 16, 2, 4, 128, 257]⟩
abbrev S2x16x2x4x128 : Shape := ⟨5, ![2, 16, 2, 4, 128]⟩
abbrev S2x16x2x64x4x128 : Shape := ⟨6, ![2, 16, 2, 64, 4, 128]⟩
abbrev S2x16x2x64x256 : Shape := ⟨5, ![2, 16, 2, 64, 256]⟩
abbrev S2x16x2x128x4x64 : Shape := ⟨6, ![2, 16, 2, 128, 4, 64]⟩
abbrev S2x16x2x256x64 : Shape := ⟨5, ![2, 16, 2, 256, 64]⟩
abbrev S4096x512 : Shape := ⟨2, ![4096, 512]⟩
abbrev S4096x128 : Shape := ⟨2, ![4096, 128]⟩

abbrev nBuf : Space → Nat
  | .hbm => 260
  | .vmem => 0
  | .smem => 0
  | _ => 0

abbrev hbmTy0_0 (i : Nat) : BufTy := match i % 128 with
  | 0 => ⟨S2x2048x512, .f32⟩
  | 1 => ⟨S2x2048x128, .f32⟩
  | 2 => ⟨S2x2048x128, .f32⟩
  | 3 => ⟨S8, .f32⟩
  | 4 => ⟨S2x2048, .i32⟩
  | 5 => ⟨S2x2048x512, .f32⟩
  | 6 => ⟨S8, .f32⟩
  | 7 => ⟨S2x2048, .f32⟩
  | 8 => ⟨S2x2048x1, .f32⟩
  | 9 => ⟨S1x1x8, .f32⟩
  | 10 => ⟨S2x2048x8, .f32⟩
  | 11 => ⟨S2x2048x8, .f32⟩
  | 12 => ⟨S2x2048x8, .f32⟩
  | 13 => ⟨S2x2048x8, .f32⟩
  | 14 => ⟨S2x2048x1x8, .f32⟩
  | 15 => ⟨S2x2048x8, .f32⟩
  | 16 => ⟨S2x2048x1x8, .f32⟩
  | 17 => ⟨S2x2048x2x64, .f32⟩
  | 18 => ⟨S_, .f32⟩
  | 19 => ⟨S2x128x2x64, .f32⟩
  | 20 => ⟨S2x2176x2x64, .f32⟩
  | 21 => ⟨S_, .f32⟩
  | 22 => ⟨S2x128x2x64, .f32⟩
  | 23 => ⟨S2x17x128x2x64, .f32⟩
  | 24 => ⟨S2x16x128x2x64, .f32⟩
  | 25 => ⟨S2x16x128x2x64, .f32⟩
  | 26 => ⟨S2x16x256x2x64, .f32⟩
  | 27 => ⟨S2x2048x8x64, .f32⟩
  | 28 => ⟨S2x2048x8x8, .f32⟩
  | 29 => ⟨S2x2048x8x8, .f32⟩
  | 30 => ⟨S2x2048x8x48, .f32⟩
  | 31 => ⟨S2x2048x8x8, .f32⟩
  | 32 => ⟨S2x2048x8x8, .f32⟩
  | 33 => ⟨S2x2048x8x8, .f32⟩
  | 34 => ⟨S2x2048x8x8, .f32⟩
  | 35 => ⟨S2x2048x8x8, .f32⟩
  | 36 => ⟨S2x2048x8x8, .f32⟩
  | 37 => ⟨S2x2048x8x8, .f32⟩
  | 38 => ⟨S2x2048x8x8, .f32⟩
  | 39 => ⟨S2x2048x8x8, .f32⟩
  | 40 => ⟨S2x2048x8x8, .f32⟩
  | 41 => ⟨S2x2048x8x64, .f32⟩
  | 42 => ⟨S2x2048x2x64, .f32⟩
  | 43 => ⟨S2x2048x2x8, .f32⟩
  | 44 => ⟨S2x2048x2x8, .f32⟩
  | 45 => ⟨S2x2048x2x48, .f32⟩
  | 46 => ⟨S2x2048x2x8, .f32⟩
  | 47 => ⟨S2x2048x2x8, .f32⟩
  | 48 => ⟨S2x2048x2x8, .f32⟩
  | 49 => ⟨S2x2048x2x8, .f32⟩
  | 50 => ⟨S2x2048x2x8, .f32⟩
  | 51 => ⟨S2x2048x2x8, .f32⟩
  | 52 => ⟨S2x2048x2x8, .f32⟩
  | 53 => ⟨S2x2048x2x8, .f32⟩
  | 54 => ⟨S2x2048x2x8, .f32⟩
  | 55 => ⟨S2x2048x2x8, .f32⟩
  | 56 => ⟨S2x2048x2x64, .f32⟩
  | 57 => ⟨S2x16x128x2x4x64, .f32⟩
  | 58 => ⟨S_, .f32⟩
  | 59 => ⟨S2x128x2x64, .f32⟩
  | 60 => ⟨S2x2176x2x64, .f32⟩
  | 61 => ⟨S_, .f32⟩
  | 62 => ⟨S2x128x2x64, .f32⟩
  | 63 => ⟨S2x17x128x2x64, .f32⟩
  | 64 => ⟨S2x16x128x2x64, .f32⟩
  | 65 => ⟨S2x16x128x2x64, .f32⟩
  | 66 => ⟨S2x16x256x2x64, .f32⟩
  | 67 => ⟨S2x16x2x256x128x4, .f32⟩
  | 68 => ⟨S2x16x2x4x128x256, .f32⟩
  | 69 => ⟨S_, .f32⟩
  | 70 => ⟨S2x16x2x4x128x256, .f32⟩
  | 71 => ⟨S2x16x2x4x128x256, .f32⟩
  | 72 => ⟨S2x16x2x4x128x256, .i32⟩
  | 73 => ⟨S2x16x2x4x128x256, .i32⟩
  | 74 => ⟨S2x16x2x4x128x256, .i32⟩
  | 75 => ⟨S_, .i32⟩
  | 76 => ⟨S2x16x2x4x128x256, .i32⟩
  | 77 => ⟨S2x16x2x4x128x256, .i32⟩
  | 78 => ⟨S2x16x2x4x128x256, .i32⟩
  | 79 => ⟨S_, .i32⟩
  | 80 => ⟨S2x16x2x4x128x256, .i32⟩
  | 81 => ⟨S2x16x2x4x128x256, .i32⟩
  | 82 => ⟨S_, .i32⟩
  | 83 => ⟨S2x16x2x4x128x256, .i32⟩
  | 84 => ⟨S2x16x2x4x128x256, .i32⟩
  | 85 => ⟨S2x16x2x4x128x256, .i32⟩
  | 86 => ⟨S_, .i32⟩
  | 87 => ⟨S2x16x2x4x128x256, .i32⟩
  | 88 => ⟨S2x16x2x4x128x256, .i1⟩
  | 89 => ⟨S_, .i32⟩
  | 90 => ⟨S2x16x2x4x128x256, .i32⟩
  | 91 => ⟨S2x16x2x4x128x256, .i1⟩
  | 92 => ⟨S2x16x2x4x128x256, .i1⟩
  | 93 => ⟨S_, .i32⟩
  | 94 => ⟨S2x16x2x4x128x256, .i32⟩
  | 95 => ⟨S2x16x2x4x128x256, .i1⟩
  | 96 => ⟨S2x16x2x4x128x256, .i1⟩
  | 97 => ⟨S_, .f32⟩
  | 98 => ⟨S2x16x2x4x128x256, .f32⟩
  | 99 => ⟨S2x16x2x4x128x256, .f32⟩
  | 100 => ⟨S_, .f32⟩
  | 101 => ⟨S2x16x2x4x128x256, .f32⟩
  | 102 => ⟨S2x4, .f32⟩
  | 103 => ⟨S1x1x2x4x1x1, .f32⟩
  | 104 => ⟨S2x16x2x4x128x1, .f32⟩
  | 105 => ⟨S2x16x2x4x128x257, .f32⟩
  | 106 => ⟨S_, .f32⟩
  | 107 => ⟨S2x16x2x4x128, .f32⟩
  | 108 => ⟨S2x16x2x4x128x1, .f32⟩
  | 109 => ⟨S2x16x2x4x128x257, .f32⟩
  | 110 => ⟨S2x16x2x4x128x257, .i1⟩
  | 111 => ⟨S2x16x2x4x128x257, .f32⟩
  | 112 => ⟨S_, .f32⟩
  | 113 => ⟨S2x16x2x4x128, .f32⟩
  | 114 => ⟨S_, .f32⟩
  | 115 => ⟨S2x16x2x4x128, .f32⟩
  | 116 => ⟨S2x16x2x4x128, .f32⟩
  | 117 => ⟨S_, .f32⟩
  | 118 => ⟨S2x16x2x4x128, .f32⟩
  | 119 => ⟨S2x16x2x4x128, .i1⟩
  | 120 => ⟨S_, .f32⟩
  | 121 => ⟨S2x16x2x4x128, .f32⟩
  | 122 => ⟨S2x16x2x4x128, .i1⟩
  | 123 => ⟨S_, .f32⟩
  | 124 => ⟨S2x16x2x4x128, .f32⟩
  | 125 => ⟨S_, .f32⟩
  | 126 => ⟨S2x16x2x4x128, .f32⟩
  | 127 => ⟨S_, .f32⟩
  | _ => ⟨S2x2048x512, .f32⟩

abbrev hbmTy0_1 (i : Nat) : BufTy := match i % 128 with
  | 0 => ⟨S2x16x2x4x128, .f32⟩
  | 1 => ⟨S2x16x2x4x128, .f32⟩
  | 2 => ⟨S2x16x2x4x128, .f32⟩
  | 3 => ⟨S2x16x2x4x128x1, .f32⟩
  | 4 => ⟨S2x16x2x4x128x257, .f32⟩
  | 5 => ⟨S2x16x2x4x128x257, .f32⟩
  | 6 => ⟨S2x16x2x4x128x257, .f32⟩
  | 7 => ⟨S_, .f32⟩
  | 8 => ⟨S2x16x2x4x128, .f32⟩
  | 9 => ⟨S2x16x2x4x128x1, .f32⟩
  | 10 => ⟨S2x16x2x4x128x257, .f32⟩
  | 11 => ⟨S2x16x2x4x128x257, .f32⟩
  | 12 => ⟨S2x16x2x4x128x1, .f32⟩
  | 13 => ⟨S_, .f32⟩
  | 14 => ⟨S2x16x2x4x128x1, .f32⟩
  | 15 => ⟨S2x16x2x4x128x1, .f32⟩
  | 16 => ⟨S2x16x2x4x128x256, .f32⟩
  | 17 => ⟨S2x16x2x64x4x128, .f32⟩
  | 18 => ⟨S2x16x128x2x4x64, .f32⟩
  | 19 => ⟨S2x2048x512, .f32⟩
  | 20 => ⟨S2x16x128x2x4x64, .f32⟩
  | 21 => ⟨S2x16x2x64x4x128, .f32⟩
  | 22 => ⟨S2x16x2x4x128x256, .f32⟩
  | 23 => ⟨S2x16x2x64x256, .f32⟩
  | 24 => ⟨S2x16x256x2x64, .f32⟩
  | 25 => ⟨S_, .f32⟩
  | 26 => ⟨S2x16x2x4x128x257, .f32⟩
  | 27 => ⟨S2x16x2x4x128x257, .f32⟩
  | 28 => ⟨S2x16x2x4x128x257, .f32⟩
  | 29 => ⟨S2x16x2x4x128x257, .f32⟩
  | 30 => ⟨S_, .f32⟩
  | 31 => ⟨S2x16x2x4x128, .f32⟩
  | 32 => ⟨S2x16x2x4x128x1, .f32⟩
  | 33 => ⟨S2x16x2x4x128x1, .f32⟩
  | 34 => ⟨S2x16x2x4x128x257, .f32⟩
  | 35 => ⟨S2x16x2x4x128x257, .f32⟩
  | 36 => ⟨S_, .f32⟩
  | 37 => ⟨S2x16x2x4x128, .f32⟩
  | 38 => ⟨S2x16x2x4x128x257, .f32⟩
  | 39 => ⟨S2x16x2x4x128x257, .f32⟩
  | 40 => ⟨S2x16x2x4x128x257, .f32⟩
  | 41 => ⟨S2x16x2x4x128x256, .f32⟩
  | 42 => ⟨S2x16x2x4x128x1, .f32⟩
  | 43 => ⟨S_, .f32⟩
  | 44 => ⟨S2x4, .f32⟩
  | 45 => ⟨S1x1x2x4x1x1, .f32⟩
  | 46 => ⟨S_, .f32⟩
  | 47 => ⟨S2x4, .f32⟩
  | 48 => ⟨S8, .f32⟩
  | 49 => ⟨S_, .f32⟩
  | 50 => ⟨S2x16x2x4x128x256, .f32⟩
  | 51 => ⟨S2x16x2x4x128x256, .f32⟩
  | 52 => ⟨S_, .f32⟩
  | 53 => ⟨S2x16x2x4x128x256, .f32⟩
  | 54 => ⟨S2x16x2x4x128x256, .f32⟩
  | 55 => ⟨S2x16x2x256x128x4, .f32⟩
  | 56 => ⟨S2x16x2x128x4x64, .f32⟩
  | 57 => ⟨S2x16x128x2x4x64, .f32⟩
  | 58 => ⟨S2x16x2x256x64, .f32⟩
  | 59 => ⟨S2x16x256x2x64, .f32⟩
  | 60 => ⟨S2x16x128x2x64, .f32⟩
  | 61 => ⟨S2x16x128x2x64, .f32⟩
  | 62 => ⟨S_, .f32⟩
  | 63 => ⟨S2x17x128x2x64, .f32⟩
  | 64 => ⟨S_, .f32⟩
  | 65 => ⟨S2x17x128x2x64, .f32⟩
  | 66 => ⟨S2x17x128x2x64, .f32⟩
  | 67 => ⟨S2x2176x2x64, .f32⟩
  | 68 => ⟨S2x128x2x64, .f32⟩
  | 69 => ⟨S2x2048x2x64, .f32⟩
  | 70 => ⟨S2x2048x8x64, .f32⟩
  | 71 => ⟨S2x2048x2x8, .f32⟩
  | 72 => ⟨S2x2048x2x8, .f32⟩
  | 73 => ⟨S2x2048x2x48, .f32⟩
  | 74 => ⟨S2x2048x2x8, .f32⟩
  | 75 => ⟨S2x2048x2x8, .f32⟩
  | 76 => ⟨S2x2048x2x8, .f32⟩
  | 77 => ⟨S2x2048x2x8, .f32⟩
  | 78 => ⟨S2x2048x2x8, .f32⟩
  | 79 => ⟨S2x2048x2x8, .f32⟩
  | 80 => ⟨S2x2048x2x8, .f32⟩
  | 81 => ⟨S2x2048x2x8, .f32⟩
  | 82 => ⟨S2x2048x2x8, .f32⟩
  | 83 => ⟨S2x2048x2x8, .f32⟩
  | 84 => ⟨S2x2048x2x8, .f32⟩
  | 85 => ⟨S_, .f32⟩
  | 86 => ⟨S2x2048x2x64, .f32⟩
  | 87 => ⟨S_, .f32⟩
  | 88 => ⟨S2x2048x2x64, .f32⟩
  | 89 => ⟨S2x2048x2x64, .f32⟩
  | 90 => ⟨S_, .f32⟩
  | 91 => ⟨S2x2048x2x64, .f32⟩
  | 92 => ⟨S2x2048x2x64, .f32⟩
  | 93 => ⟨S2x2048x128, .f32⟩
  | 94 => ⟨S2x2048x8x8, .f32⟩
  | 95 => ⟨S2x2048x8x8, .f32⟩
  | 96 => ⟨S2x2048x8x48, .f32⟩
  | 97 => ⟨S2x2048x8x8, .f32⟩
  | 98 => ⟨S2x2048x8x8, .f32⟩
  | 99 => ⟨S2x2048x8x8, .f32⟩
  | 100 => ⟨S2x2048x8x8, .f32⟩
  | 101 => ⟨S2x2048x8x8, .f32⟩
  | 102 => ⟨S2x2048x8x8, .f32⟩
  | 103 => ⟨S2x2048x8x8, .f32⟩
  | 104 => ⟨S2x2048x8x8, .f32⟩
  | 105 => ⟨S2x2048x8x8, .f32⟩
  | 106 => ⟨S2x2048x8x8, .f32⟩
  | 107 => ⟨S2x2048x8x8, .f32⟩
  | 108 => ⟨S_, .f32⟩
  | 109 => ⟨S2x2048x8x64, .f32⟩
  | 110 => ⟨S_, .f32⟩
  | 111 => ⟨S2x2048x8x64, .f32⟩
  | 112 => ⟨S2x2048x8x64, .f32⟩
  | 113 => ⟨S_, .f32⟩
  | 114 => ⟨S2x2048x8x64, .f32⟩
  | 115 => ⟨S2x2048x8x64, .f32⟩
  | 116 => ⟨S2x2048x512, .f32⟩
  | 117 => ⟨S2x16x128x2x64, .f32⟩
  | 118 => ⟨S2x16x128x2x64, .f32⟩
  | 119 => ⟨S_, .f32⟩
  | 120 => ⟨S2x17x128x2x64, .f32⟩
  | 121 => ⟨S_, .f32⟩
  | 122 => ⟨S2x17x128x2x64, .f32⟩
  | 123 => ⟨S2x17x128x2x64, .f32⟩
  | 124 => ⟨S2x2176x2x64, .f32⟩
  | 125 => ⟨S2x128x2x64, .f32⟩
  | 126 => ⟨S2x2048x2x64, .f32⟩
  | 127 => ⟨S2x2048x128, .f32⟩
  | _ => ⟨S2x2048x512, .f32⟩

abbrev hbmTy0_2 (i : Nat) : BufTy := match i % 128 with
  | 0 => ⟨S4096x512, .f32⟩
  | 1 => ⟨S4096x512, .bf16⟩
  | 2 => ⟨S4096x128, .f32⟩
  | 3 => ⟨S4096x128, .f32⟩
  | _ => ⟨S2x2048x512, .f32⟩

abbrev hbmTy (i : Nat) : BufTy := match i / 128 with
  | 0 => hbmTy0_0 i
  | 1 => hbmTy0_1 i
  | 2 => hbmTy0_2 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_4 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_c : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_5 : Ref sig .tc := ⟨.hbm, 79, rfl⟩
abbrev main_v66 : Ref sig .tc := ⟨.hbm, 80, rfl⟩
abbrev main_v67 : Ref sig .tc := ⟨.hbm, 81, rfl⟩
abbrev main_c_6 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_c_7 : Ref sig .tc := ⟨.hbm, 86, rfl⟩
abbrev main_v71 : Ref sig .tc := ⟨.hbm, 87, rfl⟩
abbrev main_v72 : Ref sig .tc := ⟨.hbm, 88, rfl⟩
abbrev main_c_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_13 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_v97 : Ref sig .tc := ⟨.hbm, 122, rfl⟩
abbrev main_cst_17 : Ref sig .tc := ⟨.hbm, 123, rfl⟩
abbrev main_v98 : Ref sig .tc := ⟨.hbm, 124, rfl⟩
abbrev main_cst_18 : Ref sig .tc := ⟨.hbm, 125, rfl⟩
abbrev main_v99 : Ref sig .tc := ⟨.hbm, 126, rfl⟩
abbrev main_cst_19 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_20 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_21 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_22 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_24 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_25 : Ref sig .tc := ⟨.hbm, 171, rfl⟩
abbrev main_v138 : Ref sig .tc := ⟨.hbm, 172, rfl⟩
abbrev main_v139 : Ref sig .tc := ⟨.hbm, 173, rfl⟩
abbrev main_cst_26 : Ref sig .tc := ⟨.hbm, 174, rfl⟩
abbrev main_v140 : Ref sig .tc := ⟨.hbm, 175, rfl⟩
abbrev main_v141 : Ref sig .tc := ⟨.hbm, 176, rfl⟩
abbrev main_cst_27 : Ref sig .tc := ⟨.hbm, 177, rfl⟩
abbrev main_v142 : Ref sig .tc := ⟨.hbm, 178, rfl⟩
abbrev main_v143 : Ref sig .tc := ⟨.hbm, 179, rfl⟩
abbrev main_cst_28 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_29 : Ref sig .tc := ⟨.hbm, 190, rfl⟩
abbrev main_v153 : Ref sig .tc := ⟨.hbm, 191, rfl⟩
abbrev main_cst_30 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_cst_31 : Ref sig .tc := ⟨.hbm, 213, rfl⟩
abbrev main_v174 : Ref sig .tc := ⟨.hbm, 214, rfl⟩
abbrev main_cst_32 : Ref sig .tc := ⟨.hbm, 215, rfl⟩
abbrev main_v175 : Ref sig .tc := ⟨.hbm, 216, rfl⟩
abbrev main_v176 : Ref sig .tc := ⟨.hbm, 217, rfl⟩
abbrev main_cst_33 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_cst_34 : Ref sig .tc := ⟨.hbm, 236, rfl⟩
abbrev main_v194 : Ref sig .tc := ⟨.hbm, 237, rfl⟩
abbrev main_cst_35 : Ref sig .tc := ⟨.hbm, 238, rfl⟩
abbrev main_v195 : Ref sig .tc := ⟨.hbm, 239, rfl⟩
abbrev main_v196 : Ref sig .tc := ⟨.hbm, 240, rfl⟩
abbrev main_cst_36 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_cst_37 : Ref sig .tc := ⟨.hbm, 247, rfl⟩
abbrev main_v202 : Ref sig .tc := ⟨.hbm, 248, rfl⟩
abbrev main_cst_38 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩

abbrev nD : Nat := 1
abbrev τ : Topo := Topo.v7x

variable {F : FTy → Type} [FloatOps F]
-- ==== Proof.Tools.lean ====
/- Small facts about words and conditions, shared by the value proofs. -/
module

public import Idealize.ShloMosaic.Lib.WordCmp
public import Idealize.ShloMosaic.Lib.Pointwise

@[expose] public section

namespace Cert.Tools

open Idealize.ShloMosaic

variable {α : Type}

/-- A choice by "less than" between two small words is the choice by "less than" between their numbers. -/
theorem select_slt (n k : ℕ) (hn : n < 2147483648) (hk : k < 2147483648) (a b : α) :
    Scalar.select (IntOp.cmpi .slt (BitVec.ofNat 32 n) (BitVec.ofNat 32 k)) a b = if n < k then a else b := by
  rw [WordCmp.cmpi_slt_ofNat (by simpa using hn) (by simpa using hk)]
  by_cases h : n < k <;> simp [h, Scalar.select]

/-- A choice by "at least" between two small words is the choice by "at least" between their numbers. -/
theorem select_sge (n k : ℕ) (hn : n < 2147483648) (hk : k < 2147483648) (a b : α) :
    Scalar.select (IntOp.cmpi .sge (BitVec.ofNat 32 n) (BitVec.ofNat 32 k)) a b = if k ≤ n then a else b := by
  rw [WordCmp.cmpi_sge_ofNat (by simpa using hn) (by simpa using hk)]
  by_cases h : k ≤ n <;> simp [h, Scalar.select]

section lead3

variable {n0 n1 n2 : ℕ} {t : Shape}

theorem lead3_rank (h : (⟨3, ![n0, n1, n2]⟩ : Shape).ReducesTo [0, 1] t) : t.rank = 1 := h.1

theorem lead3_pos (h : (⟨3, ![n0, n1, n2]⟩ : Shape).ReducesTo [0, 1] t) : 0 < t.rank := lead3_rank h ▸ (by decide)

theorem lead3_size (h : (⟨3, ![n0, n1, n2]⟩ : Shape).ReducesTo [0, 1] t) : t.size ⟨0, lead3_pos h⟩ = n2 := h.2 ⟨0, lead3_pos h⟩

/-- A host sum over the two leading axes of a rank 3 array, read at a result index. -/
@[pointwise] theorem hostReduceAdd_lead3 (h : (⟨3, ![n0, n1, n2]⟩ : Shape).ReducesTo [0, 1] t)
    (v : (⟨3, ![n0, n1, n2]⟩ : Shape).Idx → EReal) (init : EReal) (j : t.Idx) :
    Ideal.hostReduceAdd h v init j = init + ∑ a : Fin n0, ∑ b : Fin n1,
      v (ix3 a b ⟨(j ⟨0, lead3_pos h⟩).val, Shape.coordLt (j ⟨0, lead3_pos h⟩) (lead3_size h)⟩) := by
  refine congrArg (init + ·) ?_
  refine (Finset.sum_filter_eq_sum_of_fiber _ (fun k : Fin n0 × Fin n1 => ix3 k.1 k.2
      ⟨(j ⟨0, lead3_pos h⟩).val, Shape.coordLt (j ⟨0, lead3_pos h⟩) (lead3_size h)⟩)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, lead3_pos h⟩)).symm
    · rintro ⟨k, rfl⟩
      funext b
      apply Fin.ext
      match b with
      | ⟨0, _⟩ => rfl
      | ⟨_ + 1, hb⟩ => exact absurd hb (by have := lead3_rank h; omega)
  · simp only [Fintype.sum_prod_type]

end lead3

end Cert.Tools

end
-- ==== Proof.Taps.lean ====
/- A three-tap convolution along one column, and its transpose, as plain sums of products. -/
module

public import Idealize.ShloMosaic.Lib.Pipeline.ValueKit

@[expose] public section

noncomputable section

open Idealize.ShloMosaic

namespace Cert.ConvSpec

/-- A column of 2048 numbers continued by zeros. -/
def col (x : Fin 2048 → EReal) (k : ℕ) : EReal := if h : k < 2048 then x ⟨k, h⟩ else 0

theorem col_val (x : Fin 2048 → EReal) (s : Fin 2048) : col x s.val = x s := by simp [col]

/-- The three-tap convolution of a column, looking back. -/
def back (w : Fin 3 → EReal) (z : Fin 2048 → EReal) (s : ℕ) : EReal :=
  w 2 * col z s + w 1 * (if 1 ≤ s then col z (s - 1) else 0) + w 0 * (if 2 ≤ s then col z (s - 2) else 0)

/-- The transpose of that convolution, looking ahead. -/
def ahead (w : Fin 3 → EReal) (z : Fin 2048 → EReal) (s : ℕ) : EReal :=
  w 2 * col z s + w 1 * col z (s + 1) + w 0 * col z (s + 2)

/-- A column moved down by some tokens, with zeros before its start. -/
def delayed (z : Fin 2048 → EReal) (by' : ℕ) (s : ℕ) : EReal := if by' ≤ s then col z (s - by') else 0

end Cert.ConvSpec

end
-- ==== Proof.ConvSpec.lean ====
/- The gradient of the short gated convolution along one column, as plain sums of products, and what one block of the
   kernel computes, read at a row and a column of the block. -/
module

public import proofs.«01_k».proof.Proof.Gen.ConvIdeal.Skeleton
public import proofs.«01_k».proof.Proof.Tools
public import proofs.«01_k».proof.Proof.Taps
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvIdeal.Block

open Cert.ConvIdeal Cert.ConvIdeal.Gen Cert.ConvSpec Cert.Tools

variable (d u g q : FVec Ideal S2048x128 .bf16) (w : FVec Ideal S3x128 .f32) (s : Fin 2048) (l : Fin 128)

/-- The three rows of the weights, loaded one by one. -/
abbrev row0 : Vec Ideal S1x128 .f32 := View.ld w (Rect.unit (s := S3x128) ![0, 0] ![1, 128] inb_S3x128_S1x128_0_0)
abbrev row1 : Vec Ideal S1x128 .f32 := View.ld w (Rect.unit (s := S3x128) ![1, 0] ![1, 128] inb_S3x128_S1x128_1_0)
abbrev row2 : Vec Ideal S1x128 .f32 := View.ld w (Rect.unit (s := S3x128) ![2, 0] ![1, 128] inb_S3x128_S1x128_2_0)

/-- The gradient of the product of gate and input, at a row and a column of a block. -/
theorem pay12_at : (k0_pay12 (k0_pay6 d) g (row2 w) (row1 w) (row0 w) (ix2 s l) : EReal)
      = ahead (fun i => w (ix2 i l)) (fun k => d (ix2 k l) * g (ix2 k l)) s.val := by
  have hs : s.val < 2048 := s.isLt
  unfold_payloads
  pointwise [row0, row1, row2]
  rw [select_slt _ 2047 (by omega) (by omega), select_slt _ 2046 (by omega) (by omega)]
  unfold ahead
  rw [col_val]
  congr 1
  · congr 1
    unfold col
    split_ifs with h1 h2 h2
    · simp only [show (s.val + 2048 - 2047) % 2048 = s.val + 1 by omega]
    · omega
    · omega
    · exact (mul_zero _).symm
  · unfold col
    split_ifs with h1 h2 h2
    · simp only [show (s.val + 2048 - 2046) % 2048 = s.val + 2 by omega]
    · omega
    · omega
    · exact (mul_zero _).symm

/-- What the block stores of the gradient of the input, of the gate before the convolution, and of the gate after it. -/
theorem pay13_at : (k0_pay13 (k0_pay5 q) (k0_pay6 d) g (row2 w) (row1 w) (row0 w) (ix2 s l) : EReal)
      = ahead (fun i => w (ix2 i l)) (fun k => d (ix2 k l) * g (ix2 k l)) s.val * q (ix2 s l) := by
  rw [← pay12_at]; unfold k0_pay13; pointwise [k0_pay5]

theorem pay14_at : (k0_pay14 (k0_pay4 u) (k0_pay6 d) g (row2 w) (row1 w) (row0 w) (ix2 s l) : EReal)
      = ahead (fun i => w (ix2 i l)) (fun k => d (ix2 k l) * g (ix2 k l)) s.val * u (ix2 s l) := by
  rw [← pay12_at]; unfold k0_pay14; pointwise [k0_pay4]

theorem shift1_at : (k0_pay8 (F := Ideal) u q (ix2 s l) : EReal)
      = if 1 ≤ s.val then col (fun k => q (ix2 k l) * u (ix2 k l)) (s.val - 1) else 0 := by
  have hs : s.val < 2048 := s.isLt
  unfold_payloads
  pointwise
  rw [select_sge _ 1 (by omega) (by omega)]
  unfold col
  split_ifs with h1 h2
  · simp only [show (s.val + 2048 - 1) % 2048 = s.val - 1 by omega]
  · omega
  · rfl

theorem shift2_at : (k0_pay9 (F := Ideal) u q (ix2 s l) : EReal)
      = if 2 ≤ s.val then col (fun k => q (ix2 k l) * u (ix2 k l)) (s.val - 2) else 0 := by
  have hs : s.val < 2048 := s.isLt
  unfold_payloads
  pointwise
  rw [select_sge _ 2 (by omega) (by omega)]
  unfold col
  split_ifs with h1 h2
  · simp only [show (s.val + 2048 - 2) % 2048 = s.val - 2 by omega]
  · omega
  · rfl

theorem pay10_at : (k0_pay10 u q d (row2 w) (row1 w) (row0 w) (ix2 s l) : EReal)
      = d (ix2 s l) * back (fun i => w (ix2 i l)) (fun k => q (ix2 k l) * u (ix2 k l)) s.val := by
  unfold back
  rw [← shift1_at, ← shift2_at, col_val]
  unfold k0_pay10; pointwise [k0_pay6, k0_pay7, k0_pay5, k0_pay4, row0, row1, row2]

/-- What the block adds to the three rows of the gradient of the weights. -/
theorem pay1_at (v : Vec Ideal S1x128 .f32) (z : Fin 1) : (k0_pay1 (k0_pay9 u q) (k0_pay11 (k0_pay6 d) g) v (ix2 z l) : EReal)
      = v (ix2 z l) + ∑ k : Fin 2048, d (ix2 k l) * g (ix2 k l)
          * (if 2 ≤ k.val then col (fun k => q (ix2 k l) * u (ix2 k l)) (k.val - 2) else 0) := by
  simp only [← shift2_at]
  unfold k0_pay1; pointwise [k0_pay6, k0_pay11]

theorem pay2_at (v : Vec Ideal S1x128 .f32) (z : Fin 1) : (k0_pay2 (k0_pay8 u q) (k0_pay11 (k0_pay6 d) g) v (ix2 z l) : EReal)
      = v (ix2 z l) + ∑ k : Fin 2048, d (ix2 k l) * g (ix2 k l)
          * (if 1 ≤ k.val then col (fun k => q (ix2 k l) * u (ix2 k l)) (k.val - 1) else 0) := by
  simp only [← shift1_at]
  unfold k0_pay2; pointwise [k0_pay6, k0_pay11]

theorem pay3_at (v : Vec Ideal S1x128 .f32) (z : Fin 1) : (k0_pay3 (k0_pay7 u q) (k0_pay11 (k0_pay6 d) g) v (ix2 z l) : EReal)
      = v (ix2 z l) + ∑ k : Fin 2048, d (ix2 k l) * g (ix2 k l)
          * col (fun k => q (ix2 k l) * u (ix2 k l)) k.val := by
  simp only [col_val]
  unfold k0_pay3; pointwise [k0_pay6, k0_pay11, k0_pay7, k0_pay5, k0_pay4]

/-- What one block adds to row `i` of the gradient of the weights. -/
def part (d u g q : FVec Ideal S2048x128 .bf16) (l : Fin 128) (i : ℕ) : EReal := ∑ k : Fin 2048, d (ix2 k l) * g (ix2 k l)
    * delayed (fun k => q (ix2 k l) * u (ix2 k l)) (2 - i) k.val

variable (v : Vec Ideal S1x128 .f32) (z : Fin 1)

theorem add1_at : (k0_pay1 (k0_pay9 u q) (k0_pay11 (k0_pay6 d) g) v (ix2 z l) : EReal) = v (ix2 z l) + part d u g q l 0 := by
  rw [pay1_at]; rfl

theorem add2_at : (k0_pay2 (k0_pay8 u q) (k0_pay11 (k0_pay6 d) g) v (ix2 z l) : EReal) = v (ix2 z l) + part d u g q l 1 := by
  rw [pay2_at]; rfl

theorem add3_at : (k0_pay3 (k0_pay7 u q) (k0_pay11 (k0_pay6 d) g) v (ix2 z l) : EReal) = v (ix2 z l) + part d u g q l 2 := by
  rw [pay3_at]; rfl

end Cert.ConvIdeal.Block

end
-- ==== Proof.ConvRef.lean ====
/- What the reference of the short gated convolution computes, read at an index: the same sums of products, over the
   argument arrays. -/
module

public import proofs.«01_k».proof.Proof.Gen.ConvRefIdeal.Read
public import proofs.«01_k».proof.Proof.ConvSpec

@[expose] public section

set_option maxRecDepth 16384

noncomputable section

open Idealize.ShloMosaic Idealize.ShloMosaic.TcCoe Idealize.SL.Sem

namespace Cert.ConvRefIdeal.At

open Cert.ConvRefIdeal Cert.ConvRefIdeal.Gen Cert.ConvRefIdeal.Read Cert.ConvSpec

variable (u g q d : FVec Ideal S2x2048x512 .f32) (w : FVec Ideal S3x512 .f32) (b : Fin 2) (s : Fin 2048) (l : Fin 512)

/-- The gradient of the product of gate and input. -/
theorem v59_at : (val_main_v59 (F := Ideal) g w d (ix3 b s l) : EReal)
      = ahead (fun i => w (ix2 i l)) (fun k => g (ix3 b k l) * d (ix3 b k l)) s.val := by
  have hs : s.val < 2048 := s.isLt
  have hb : b.val < 2 := b.isLt
  unfold val_main_v59 val_main_v54 val_main_v53 val_main_v43 val_main_v42 val_main_v33 val_main_v28 val_main_v37 val_main_v48 val_main_v27 val_main_v36 val_main_v47 val_main_v20 val_main_v13 val_main_v7 val_main_v18 val_main_v11 val_main_v5 val_main_v4 val_main_v10 val_main_v17 val_main_v25 val_main_cst_3 val_main_cst_7 val_main_cst_11
  pointwise
  unfold ahead
  rw [col_val]
  unfold col
  split_ifs
  all_goals first | omega | skip
  · simp only [Nat.add_comm 2 s.val]
    rfl
  all_goals simp only [show 2 + s.val - 1 = s.val + 1 by omega, mul_zero]

/-- The input two tokens earlier. -/
theorem v6_at : (val_main_v6 (F := Ideal) u q (ix3 b s l) : EReal)
      = if 2 ≤ s.val then col (fun k => q (ix3 b k l) * u (ix3 b k l)) (s.val - 2) else 0 := by
  have hs : s.val < 2048 := s.isLt
  unfold val_main_v6 val_main_v2 val_main_v0 val_main_v1 val_main_cst
  pointwise
  unfold col
  by_cases h : s.val < 2
  · simp [h, show ¬ 2 ≤ s.val by omega]
  · simp [h, show 2 ≤ s.val by omega, show s.val - 2 < 2048 by omega]

/-- The input one token earlier. -/
theorem v12_at : (val_main_v12 (F := Ideal) u q (ix3 b s l) : EReal)
      = if 1 ≤ s.val then col (fun k => q (ix3 b k l) * u (ix3 b k l)) (s.val - 1) else 0 := by
  have hs : s.val < 2048 := s.isLt
  unfold val_main_v12 val_main_v2 val_main_v0 val_main_v1 val_main_cst
  pointwise
  unfold col
  by_cases h : s.val < 1
  · simp [show 1 + s.val < 2 by omega, show ¬ 1 ≤ s.val by omega]
  · simp [show ¬ 1 + s.val < 2 by omega, show 1 ≤ s.val by omega, show s.val - 1 < 2048 by omega, show 1 + s.val - 2 = s.val - 1 by omega]

/-- The input itself. -/
theorem v19_at : (val_main_v19 (F := Ideal) u q (ix3 b s l) : EReal)
      = col (fun k => q (ix3 b k l) * u (ix3 b k l)) s.val := by
  rw [col_val]
  unfold val_main_v19 val_main_v2 val_main_v0 val_main_v1 val_main_cst
  pointwise

/-- The convolution. -/
theorem v23_at : (val_main_v23 (F := Ideal) u q w (ix3 b s l) : EReal)
      = back (fun i => w (ix2 i l)) (fun k => q (ix3 b k l) * u (ix3 b k l)) s.val := by
  unfold val_main_v23 val_main_v22 val_main_v21 val_main_v20 val_main_v18 val_main_v17 val_main_v16 val_main_v15 val_main_v14 val_main_v13 val_main_v11 val_main_v10 val_main_v9 val_main_v8 val_main_v7 val_main_v5 val_main_v4
  pointwise
  rw [v6_at, v12_at, v19_at]
  unfold back
  rw [add_comm, add_comm (w (ix2 0 l) * _), add_assoc]

/-- What one sequence adds to the gradient of the weights. -/
def share (i : ℕ) : EReal := ∑ k : Fin 2048, d (ix3 b k l) * g (ix3 b k l)
    * delayed (fun k => q (ix3 b k l) * u (ix3 b k l)) (2 - i) k.val

/-- The gradient of the weights. -/
theorem v57_at (i : Fin 3) : (val_main_v57 (F := Ideal) u g q d (ix2 i l) : EReal)
      = ∑ b : Fin 2, share u g q d b l i.val := by
  unfold share
  unfold val_main_v57 val_main_v56 val_main_v55 val_main_v52 val_main_v51 val_main_v50 val_main_v49 val_main_v46 val_main_v45 val_main_v44 val_main_v41 val_main_v40 val_main_v39 val_main_v38 val_main_v35 val_main_v34 val_main_v32 val_main_v31 val_main_v30 val_main_v29 val_main_v25
  unfold val_main_cst_1 val_main_cst_2 val_main_cst_4 val_main_cst_5 val_main_cst_6 val_main_cst_8 val_main_cst_9 val_main_cst_10 val_main_cst_12
  pointwise
  simp only [v6_at, v12_at, v19_at, Finset.univ_unique, Finset.sum_const, Finset.card_singleton, one_smul]
  simp only [fun (b : Fin 2) (k : Fin 2048) => mul_comm (d (ix3 b k l) : EReal) (g (ix3 b k l))]
  unfold delayed
  match i with
  | ⟨0, _⟩ => simp
  | ⟨1, _⟩ => simp
  | ⟨2, _⟩ => simp

/-- A row of the array of all tokens: the sequence and the place in it. -/
abbrev row (b : Fin 2) (s : Fin 2048) : Fin 4096 := ⟨b.val * 2048 + s.val, by omega⟩

/-- The gradient of the input. -/
theorem v63_at : (val_main_v63 (F := Ideal) g q w d (ix2 (row b s) l) : EReal)
      = ahead (fun i => w (ix2 i l)) (fun k => d (ix3 b k l) * g (ix3 b k l)) s.val * q (ix3 b s l) := by
  rw [funext fun k => mul_comm (d (ix3 b k l) : EReal) (g (ix3 b k l)), ← v59_at]
  unfold val_main_v63 val_main_v62 val_main_v60
  pointwise
  simp only [show (b.val * 2048 + s.val) / 2048 = b.val by omega, show (b.val * 2048 + s.val) % 2048 = s.val by omega]
  exact mul_comm _ _

/-- The gradient of the outer gate. -/
theorem v65_at : (val_main_v65 (F := Ideal) u q w d (ix2 (row b s) l) : EReal)
      = d (ix3 b s l) * back (fun i => w (ix2 i l)) (fun k => q (ix3 b k l) * u (ix3 b k l)) s.val := by
  rw [← v23_at]
  unfold val_main_v65 val_main_v64 val_main_v26
  pointwise
  simp only [show (b.val * 2048 + s.val) / 2048 = b.val by omega, show (b.val * 2048 + s.val) % 2048 = s.val by omega]

/-- The gradient of the inner gate. -/
theorem v67_at : (val_main_v67 (F := Ideal) u g w d (ix2 (row b s) l) : EReal)
      = ahead (fun i => w (ix2 i l)) (fun k => d (ix3 b k l) * g (ix3 b k l)) s.val * u (ix3 b s l) := by
  rw [funext fun k => mul_comm (d (ix3 b k l) : EReal) (g (ix3 b k l)), ← v59_at]
  unfold val_main_v67 val_main_v66 val_main_v61
  pointwise
  simp only [show (b.val * 2048 + s.val) / 2048 = b.val by omega, show (b.val * 2048 + s.val) % 2048 = s.val by omega]

end Cert.ConvRefIdeal.At

end
-- ==== Proof.ConvValue.lean ====
/- What the arrays of the gradient of the short gated convolution hold after the kernel, in the terms of the reference. -/
module

public import proofs.«01_k».proof.Proof.Gen.ConvIdeal.Value
public import proofs.«01_k».proof.Proof.ConvRef
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen Cert.ConvIdeal.Block Cert.ConvSpec Cert.ConvRefIdeal.At Cert.ConvRefIdeal.Read

variable (m : (ℓ : Loc nD τ sig) → Buf (Elt Ideal) ℓ)

theorem idx : ∀ t : Fin cfg0.N, win0_0.index t = ![t.val % 2, t.val / 2] ∧ win0_1.index t = ![t.val % 2, t.val / 2]
    ∧ win0_2.index t = ![t.val % 2, t.val / 2] ∧ win0_3.index t = ![t.val % 2, t.val / 2] ∧ win0_4.index t = ![0, t.val / 2]
    ∧ win0_5.index t = ![t.val % 2, t.val / 2] ∧ win0_6.index t = ![t.val % 2, t.val / 2]
    ∧ win0_7.index t = ![t.val % 2, t.val / 2] ∧ win0_8.index t = ![0, t.val / 2] :=
  (by decide +kernel : ∀ t : Fin grid0.N, _)

/-- The sequence a grid point works on. -/
abbrev seqOf (t : Fin cfg0.N) : Fin 2 := ⟨t.val % 2, Nat.mod_lt _ (by decide)⟩

/-- The column of the array a lane of a grid point's block stands for. -/
abbrev colOf (t : Fin cfg0.N) (l : Fin 128) : Fin 512 :=
  ⟨t.val / 2 * 128 + l.val, by have := lt_of_lt_of_eq t.isLt N_0; omega⟩

theorem blk0 (c : Dev nD) (t : Fin cfg0.N) (s : Fin 2048) (l : Fin 128) :
    iblk m c 0 t (ix2 s l) = m ((c : Thread nD τ).loc main_arg4) (ix3 (seqOf t) s (colOf t l)) := by
  blk_point [iblk, V, idx t]

theorem blk1 (c : Dev nD) (t : Fin cfg0.N) (s : Fin 2048) (l : Fin 128) :
    iblk m c 1 t (ix2 s l) = m ((c : Thread nD τ).loc main_arg0) (ix3 (seqOf t) s (colOf t l)) := by
  blk_point [iblk, V, idx t]

theorem blk2 (c : Dev nD) (t : Fin cfg0.N) (s : Fin 2048) (l : Fin 128) :
    iblk m c 2 t (ix2 s l) = m ((c : Thread nD τ).loc main_arg1) (ix3 (seqOf t) s (colOf t l)) := by
  blk_point [iblk, V, idx t]

theorem blk3 (c : Dev nD) (t : Fin cfg0.N) (s : Fin 2048) (l : Fin 128) :
    iblk m c 3 t (ix2 s l) = m ((c : Thread nD τ).loc main_arg2) (ix3 (seqOf t) s (colOf t l)) := by
  blk_point [iblk, V, idx t]

theorem blk4 (c : Dev nD) (t : Fin cfg0.N) (s : Fin 3) (l : Fin 128) :
    iblk m c 4 t (ix2 s l) = m ((c : Thread nD τ).loc main_arg3) (ix2 s (colOf t l)) := by
  blk_point [iblk, V, idx t]

/-- The place in the whole array of a place in a block of the first result. -/
theorem emb5 (t : Fin cfg0.N) (s : Fin 2048) (l : Fin 128) :
    ((cfg0.win 5).blk t).view.emb (ix2 s l) = ix2 (row (seqOf t) s) (colOf t l) := by
  funext a
  apply Fin.ext
  match a with
  | ⟨0, _⟩ => blk_simp [idx t]
  | ⟨1, _⟩ => blk_simp [idx t]

theorem emb6 (t : Fin cfg0.N) (s : Fin 2048) (l : Fin 128) :
    ((cfg0.win 6).blk t).view.emb (ix2 s l) = ix2 (row (seqOf t) s) (colOf t l) := by
  funext a
  apply Fin.ext
  match a with
  | ⟨0, _⟩ => blk_simp [idx t]
  | ⟨1, _⟩ => blk_simp [idx t]

theorem emb7 (t : Fin cfg0.N) (s : Fin 2048) (l : Fin 128) :
    ((cfg0.win 7).blk t).view.emb (ix2 s l) = ix2 (row (seqOf t) s) (colOf t l) := by
  funext a
  apply Fin.ext
  match a with
  | ⟨0, _⟩ => blk_simp [idx t]
  | ⟨1, _⟩ => blk_simp [idx t]

theorem emb8 (t : Fin cfg0.N) (s : Fin 3) (l : Fin 128) :
    ((cfg0.win 8).blk t).view.emb (ix2 s l) = ix2 s (colOf t l) := by
  funext a
  apply Fin.ext
  match a with
  | ⟨0, _⟩ => blk_simp [idx t]
  | ⟨1, _⟩ => blk_simp [idx t]

section results

variable (c : Dev nD) (t : Fin cfg0.N) (s : Fin 2048) (l : Fin 128)

theorem out5 : (outsAt0 m c t.val t.isLt).1 (ix2 s l) = val_main_v63 (F := Ideal)
    (m ((c : Thread nD τ).loc main_arg1)) (m ((c : Thread nD τ).loc main_arg2)) (m ((c : Thread nD τ).loc main_arg3)) (m ((c : Thread nD τ).loc main_arg4))
    (ix2 (row (seqOf t) s) (colOf t l)) := by
  have key := pay13_at (iblk m c 0 t) (iblk m c 2 t) (iblk m c 3 t) (iblk m c 4 t) s l
  simp only [blk0, blk2, blk3, blk4] at key
  rw [v63_at, ← key]
  by_cases h : t.val % 2 = 0
  · rw [outsAt0_A m c t h]
    frame_out
  · rw [outsAt0_B m c t h]
    frame_out

theorem out6 : (outsAt0 m c t.val t.isLt).2.1 (ix2 s l) = val_main_v65 (F := Ideal)
    (m ((c : Thread nD τ).loc main_arg0)) (m ((c : Thread nD τ).loc main_arg2)) (m ((c : Thread nD τ).loc main_arg3)) (m ((c : Thread nD τ).loc main_arg4))
    (ix2 (row (seqOf t) s) (colOf t l)) := by
  have key := pay10_at (iblk m c 0 t) (iblk m c 1 t) (iblk m c 3 t) (iblk m c 4 t) s l
  simp only [blk0, blk1, blk3, blk4] at key
  rw [v65_at, ← key]
  by_cases h : t.val % 2 = 0
  · rw [outsAt0_A m c t h]
    frame_out
  · rw [outsAt0_B m c t h]
    frame_out

theorem out7 : (outsAt0 m c t.val t.isLt).2.2.1 (ix2 s l) = val_main_v67 (F := Ideal)
    (m ((c : Thread nD τ).loc main_arg0)) (m ((c : Thread nD τ).loc main_arg1)) (m ((c : Thread nD τ).loc main_arg3)) (m ((c : Thread nD τ).loc main_arg4))
    (ix2 (row (seqOf t) s) (colOf t l)) := by
  have key := pay14_at (iblk m c 0 t) (iblk m c 1 t) (iblk m c 2 t) (iblk m c 4 t) s l
  simp only [blk0, blk1, blk2, blk4] at key
  rw [v67_at, ← key]
  by_cases h : t.val % 2 = 0
  · rw [outsAt0_A m c t h]
    frame_out
  · rw [outsAt0_B m c t h]
    frame_out

theorem stepA (h : t.val % 2 = 0) (i : Fin 3) : ((outsAt0 m c t.val t.isLt).2.2.2 (ix2 i l) : EReal) = part (iblk m c 0 t) (iblk m c 1 t) (iblk m c 2 t) (iblk m c 3 t) l i.val := by
  rw [outsAt0_A m c t h]
  frame_out
  simp (disch := decide) only [↓ View.readCov_skip, ↓ View.readCov_cons_toLoadRect, ↓ View.readCov_fill]
  refine View.canon_append_of_piecesOf (Val := Elt Ideal) (s := S3x128) (e := .f32)
    (fun y => part (iblk m c 0 t) (iblk m c 1 t) (iblk m c 2 t) (iblk m c 3 t) (y 1) (y 0).val) [_] [_, _, _]
    ⟨fun x => ?_, fun x => ?_, fun x => ?_, trivial⟩ (ix2 i l) ?_
  rotate_left 3
  · exact View.cover_of_tiledL _ ![1, 128] rfl _
  all_goals
    obtain ⟨z, k, rfl⟩ : ∃ z k, x = ix2 z k := ⟨_, _, ValueIdx.eq_ix2 x⟩
    obtain rfl : z = 0 := Subsingleton.elim _ _
  · refine (add3_at _ _ _ _ k _ 0).trans ?_
    refine Eq.trans ?_ (congrArg₂ (part _ _ _ _) (Fin.ext ?_ : k = _) (?_ : 2 = _))
    · pointwise [k0_pay15]
    · show k.val = 0 + 1 * k.val; omega
    · rfl
  · refine (add2_at _ _ _ _ k _ 0).trans ?_
    refine Eq.trans ?_ (congrArg₂ (part _ _ _ _) (Fin.ext ?_ : k = _) (?_ : 1 = _))
    · pointwise [k0_pay15]
    · show k.val = 0 + 1 * k.val; omega
    · rfl
  · refine (add1_at _ _ _ _ k _ 0).trans ?_
    refine Eq.trans ?_ (congrArg₂ (part _ _ _ _) (Fin.ext ?_ : k = _) (?_ : 0 = _))
    · pointwise [k0_pay15]
    · show k.val = 0 + 1 * k.val; omega
    · rfl

theorem stepB (h : ¬ t.val % 2 = 0) (i : Fin 3) : ((outsAt0 m c t.val t.isLt).2.2.2 (ix2 i l) : EReal)
      = (outsAt0 m c (t.val - 1) (Nat.lt_of_le_of_lt (Nat.sub_le _ _) t.isLt)).2.2.2 (ix2 i l) + part (iblk m c 0 t) (iblk m c 1 t) (iblk m c 2 t) (iblk m c 3 t) l i.val := by
  rw [outsAt0_B m c t h]
  frame_out
  canon_tiles x h
  case piece0 =>
    obtain ⟨z, k, rfl⟩ : ∃ z k, x = ix2 z k := ⟨_, _, ValueIdx.eq_ix2 x⟩
    obtain rfl : l = k := Fin.ext h1
    obtain rfl : z = 0 := Subsingleton.elim _ _
    obtain rfl : i = 2 := Fin.ext h0
    rw [add3_at]
    pointwise
  case piece1 =>
    obtain ⟨z, k, rfl⟩ : ∃ z k, x = ix2 z k := ⟨_, _, ValueIdx.eq_ix2 x⟩
    obtain rfl : l = k := Fin.ext h1
    obtain rfl : z = 0 := Subsingleton.elim _ _
    obtain rfl : i = 1 := Fin.ext h0
    rw [add2_at]
    pointwise
  case piece2 =>
    obtain ⟨z, k, rfl⟩ : ∃ z k, x = ix2 z k := ⟨_, _, ValueIdx.eq_ix2 x⟩
    obtain rfl : l = k := Fin.ext h1
    obtain rfl : z = 0 := Subsingleton.elim _ _
    obtain rfl : i = 0 := Fin.ext h0
    rw [add1_at]
    pointwise

theorem part_eq (b : Fin 2) (hb : t.val % 2 = b.val) (j : Fin 512) (hj : j.val = t.val / 2 * 128 + l.val) (i : ℕ) :
    part (iblk m c 0 t) (iblk m c 1 t) (iblk m c 2 t) (iblk m c 3 t) l i = share (m ((c : Thread nD τ).loc main_arg0))
      (m ((c : Thread nD τ).loc main_arg1)) (m ((c : Thread nD τ).loc main_arg2)) (m ((c : Thread nD τ).loc main_arg4)) b j i := by
  obtain rfl : b = seqOf t := Fin.ext hb.symm
  obtain rfl : j = colOf t l := Fin.ext hj
  unfold part share
  simp only [blk0, blk1, blk2, blk3]

theorem out8 (h : t.val % 2 = 1) (i : Fin 3) : (outsAt0 m c t.val t.isLt).2.2.2 (ix2 i l) = val_main_v57 (F := Ideal)
    (m ((c : Thread nD τ).loc main_arg0)) (m ((c : Thread nD τ).loc main_arg1)) (m ((c : Thread nD τ).loc main_arg2)) (m ((c : Thread nD τ).loc main_arg4))
    (ix2 i (colOf t l)) := by
  have h' : ¬ t.val % 2 = 0 := by omega
  have hp : (t.val - 1) % 2 = 0 := by omega
  have hq : (t.val - 1) / 2 = t.val / 2 := by omega
  have hs := stepA m c ⟨t.val - 1, Nat.lt_of_le_of_lt (Nat.sub_le _ _) t.isLt⟩ l hp i
  rw [v57_at]
  refine (stepB m c t l h' i).trans ?_
  rw [Fin.sum_univ_two]
  refine congrArg₂ (· + ·) (hs.trans ?_) ?_
  · exact part_eq m c ⟨t.val - 1, Nat.lt_of_le_of_lt (Nat.sub_le _ _) t.isLt⟩ l 0 hp (colOf t l) (by show t.val / 2 * 128 + _ = (t.val - 1) / 2 * 128 + _; rw [hq]) i.val
  · exact part_eq m c t l 1 h (colOf t l) rfl i.val

end results

/-- The gradient of the input, whole. -/
theorem final5 (c : Dev nD) : (dats m 0 c).arrAt 5 (cfgs 0).N = val_main_v63 (F := Ideal)
    (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, ValueIdx.eq_ix2 y]
  exact (out5 m c t _ _).trans (congrArg _ (emb5 t _ _).symm)

/-- The gradient of the outer gate, whole. -/
theorem final6 (c : Dev nD) : (dats m 0 c).arrAt 6 (cfgs 0).N = val_main_v65 (F := Ideal)
    (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, ValueIdx.eq_ix2 y]
  exact (out6 m c t _ _).trans (congrArg _ (emb6 t _ _).symm)

/-- The gradient of the inner gate, whole. -/
theorem final7 (c : Dev nD) : (dats m 0 c).arrAt 7 (cfgs 0).N = val_main_v67 (F := Ideal)
    (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7, ValueIdx.eq_ix2 y]
  exact (out7 m c t _ _).trans (congrArg _ (emb7 t _ _).symm)

/-- The gradient of the weights, whole. -/
theorem final8 (c : Dev nD) : (dats m 0 c).arrAt 8 (cfgs 0).N = val_main_v57 (F := Ideal)
    (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8, ValueIdx.eq_ix2 y]
  exact (out8 m c t _ ((flush0_8 t).mp hf) _).trans (congrArg _ (emb8 t _ _).symm)

end Cert.ConvIdeal.Value

end
-- ==== Proof.ConvClaim.lean ====
/- The gradient of the short gated convolution: kernel and reference leave the same four arrays. -/
module

public import proofs.«01_k».proof.Defs
public import proofs.«01_k».proof.Proof.Gen.ConvRefIdeal.Run
public import proofs.«01_k».proof.Proof.ConvValue

@[expose] public section

noncomputable section

open Idealize.ShloMosaic Idealize.SL.Sem

namespace Cert.ConvClaim

open Cert.ConvRefIdeal.Read

/-- The reference ends, leaves its arguments alone and has no counters. -/
theorem frame_ref : @Cert.quiescent_ConvRefIdeal Cert.ConvRefIdeal.Gen.facts := fun m ρ _ =>
  (θ_run Cert.ConvRefIdeal.defs _ _).mono (fun r h => ⟨fun c => (h c).2.2.2.2, sem_eq_zero_of_no_sems (by decide) r.2⟩)
    (Cert.ConvRefIdeal.Value.run (F := Ideal) m ρ)

/-- The value claim. -/
theorem value : @Cert.algebraic_ConvIdeal_ConvRefIdeal Cert.ConvIdeal.Gen.facts Cert.ConvRefIdeal.Gen.facts := by
  intro m g m' g' _ hm
  refine ⟨fun c => (Cert.ConvIdeal.Gen.dats m 0 c).arrAt 5 (Cert.ConvIdeal.cfgs 0).N, fun c => (Cert.ConvIdeal.Gen.dats m 0 c).arrAt 6 (Cert.ConvIdeal.cfgs 0).N,
    fun c => (Cert.ConvIdeal.Gen.dats m 0 c).arrAt 7 (Cert.ConvIdeal.cfgs 0).N, fun c => (Cert.ConvIdeal.Gen.dats m 0 c).arrAt 8 (Cert.ConvIdeal.cfgs 0).N,
    Cert.ConvIdeal.Value.run_blocks m g, ?_⟩
  refine (θ_run Cert.ConvRefIdeal.defs _ _).mono (fun r h c => ?_) (Cert.ConvRefIdeal.Value.run m' g')
  obtain ⟨h0, h1, h2, h3, hk⟩ := h c
  obtain ⟨e0, e1, e2, e3, e4⟩ := hm c
  have f0 := Cert.ConvIdeal.Value.final5 m c
  have f1 := Cert.ConvIdeal.Value.final6 m c
  have f2 := Cert.ConvIdeal.Value.final7 m c
  have f3 := Cert.ConvIdeal.Value.final8 m c
  rw [val_main_v63_eq] at h0
  rw [val_main_v65_eq] at h1
  rw [val_main_v67_eq] at h2
  rw [val_main_v57_eq] at h3
  rw [e1, e2, e3, e4] at h0
  rw [e0, e2, e3, e4] at h1
  rw [e0, e1, e3, e4] at h2
  rw [e0, e1, e2, e4] at h3
  exact ⟨h0.trans f0.symm, h1.trans f1.symm, h2.trans f2.symm, h3.trans f3.symm, hk⟩

end Cert.ConvClaim

end
-- ==== Proof.AttnLoop.lean ====
module

public import proofs.«01_k».proof.Proof.Gen.AttnIdeal.Launch
public import proofs.«01_k».proof.Proof.Gen.AttnIdeal.Skeleton
public import proofs.«01_k».proof.Proof.Gen.AttnIdeal.Loops
public import proofs.«01_k».proof.Proof.Gen.AttnIdeal.Points
public import proofs.«01_k».proof.Proof.Gen.AttnIdeal.Frame
public import Idealize.ShloMosaic.Lib.Pipeline.FrameBody
public import Idealize.ShloMosaic.Lib.Tactic

/-! The loop over the eight pairs of key blocks of the attention gradient: it keeps what it reads, and leaves the four
    buffers it writes at some contents. -/

@[expose] public section

set_option maxRecDepth 16384

noncomputable section

namespace Cert.AttnLoop

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where trip `t` of the loop places the window of its first query block: the rows from `256 t - 128`, the first window
    clamped to row 0. -/
theorem off3_eq : ∀ t, k0_off3 t = ![256 * t.val - 128, 0] := by decide +kernel
instance (t : _) : ClosedOff (k0_off3 t) := ⟨_, off3_eq t⟩

variable (arg2 : Memref sig .tc .vmem S2048x256 .bf16) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x256 .bf16) (harg5 : arg5.IsWhole)
  (arg6 : Memref sig .tc .vmem S1x1x16x512x256 .bf16) (harg6 : arg6.IsWhole)
  (arg7 : Memref sig .tc .vmem S1x1x512x128 .f32) (harg7 : arg7.IsWhole)
  (arg8 : Memref sig .tc .vmem S2048x128 .f32) (harg8 : arg8.IsWhole)
  (arg9 : Memref sig .tc .vmem S2048x128 .f32) (harg9 : arg9.IsWhole)
  (arg10 : Memref sig .tc .vmem S2048x256 .bf16) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S1x1x512x1 .f32) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .f32) (harg16 : arg16.IsWhole)
  (arg17 : Memref sig .tc .vmem S2048x128 .f32) (harg17 : arg17.IsWhole)
  (arg18 : Memref sig .tc .vmem S512x128 .f32) (harg18 : arg18.IsWhole)

/-- Before every trip the buffers the loop reads hold what they held at its entry, and the four it writes hold something. -/
abbrev inv (c : Dev nD) (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (X15 : BufTy.Contents (Elt F) arg15.view.ty) (_k : ℕ) (_u : PUnit) : sProp 𝕄 :=
  iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg15.view.loc (c : Thread nD τ) ↦[arg15.view.set]{fullShare} X15) ∗ (∃ f, arg10.view.loc (c : Thread nD τ) ↦[arg10.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f))

set_option maxHeartbeats 4000000 in
/-- One trip keeps `inv`. -/
@[sl_loop] def loopInv (𝒱 : Variants) (c : Dev nD) (bd : Option 𝒱.V) (E : Set ℕ) (i : grid0.Coords) (arg1 : BitVec 32) (v69 : FVec F S2048x128 .f32) (v70 : IVec S2048x128 32) (c64_i32_21 : BitVec 32) (v72 : IVec S2048x128 32) (v79 : IVec S2048x128 32) (v81 : BitVec 32) (v82 : BitVec 1) (v115 : IVec S512x128 32)
    (X2 : BufTy.Contents (Elt F) arg2.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (X15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v69 v70 c64_i32_21 v72 v79 v81 v82 v115 where
  inv := inv (arg2 := arg2) (arg5 := arg5) (arg6 := arg6) (arg7 := arg7) (arg8 := arg8) (arg9 := arg9) (arg14 := arg14) (arg15 := arg15) (arg10 := arg10) (arg16 := arg16) (arg17 := arg17) (arg18 := arg18) c X2 X5 X6 X7 X8 X9 X14 X15
  step k acc := by
    unfold inv k0_t1_body
    have hk : k.val < 8 := Nat.lt_of_lt_of_le k.isLt k0_t1_abs.2.1
    iintro ⟨H2, H5, H6, H7, H8, H9, H14, H15, ⟨%f10, H10⟩, ⟨%f16, H16⟩, ⟨%f17, H17⟩, ⟨%f18, H18⟩⟩
    sl_exec
    sl_step
    sl_close

end Cert.AttnLoop

end
-- ==== Proof.AttnRun.lean ====
module

public import proofs.«01_k».proof.Proof.Gen.AttnIdeal.Launch
public import proofs.«01_k».proof.Proof.Gen.AttnIdeal.Skeleton
public import proofs.«01_k».proof.Proof.Gen.AttnIdeal.Loops
public import proofs.«01_k».proof.Proof.Gen.AttnIdeal.Points
public import proofs.«01_k».proof.Proof.Gen.AttnIdeal.Frame
public import Idealize.ShloMosaic.Lib.Pipeline.FrameBody
public import Idealize.ShloMosaic.Lib.Tactic
public import proofs.«01_k».proof.Proof.AttnLoop

/-! What one call of the attention gradient's body does to its buffers. -/

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg2 : Memref sig .tc .vmem S2048x256 .bf16) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x256 .bf16) (harg5 : arg5.IsWhole)
  (arg6 : Memref sig .tc .vmem S1x1x16x512x256 .bf16) (harg6 : arg6.IsWhole)
  (arg7 : Memref sig .tc .vmem S1x1x512x128 .f32) (harg7 : arg7.IsWhole)
  (arg8 : Memref sig .tc .vmem S2048x128 .f32) (harg8 : arg8.IsWhole)
  (arg9 : Memref sig .tc .vmem S2048x128 .f32) (harg9 : arg9.IsWhole)
  (arg10 : Memref sig .tc .vmem S2048x256 .bf16) (harg10 : arg10.IsWhole)
  (arg11 : Memref sig .tc .vmem S2048x128 .f32) (harg11 : arg11.IsWhole)
  (arg12 : Memref sig .tc .vmem S2048x128 .f32) (harg12 : arg12.IsWhole)
  (arg13 : Memref sig .tc .vmem S1x1x512x1 .f32) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .f32) (harg16 : arg16.IsWhole)
  (arg17 : Memref sig .tc .vmem S2048x128 .f32) (harg17 : arg17.IsWhole)
  (arg18 : Memref sig .tc .vmem S512x128 .f32) (harg18 : arg18.IsWhole)

/-- The buffers of one call: the eight inputs at their contents, the four outputs and the five scratch buffers at some. -/
abbrev bufs (c : Dev nD) (x2 : Vec F S2048x256 .bf16) (x3 : Vec F S2048x128 .f32) (x4 : Vec F S2048x128 .f32) (x5 : Vec F S2048x256 .bf16) (x6 : Vec F S1x1x16x512x256 .bf16) (x7 : Vec F S1x1x512x128 .f32) (x8 : Vec F S2048x128 .f32) (x9 : Vec F S2048x128 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))

set_option maxHeartbeats 4000000 in
/-- The body gives back the buffers it was called with, the inputs unchanged; in both of its cases, the first head group
    of a sequence, which stores the key and value gradients, and the second, which adds to them. -/
theorem run (c : Dev nD) (i : grid0.Coords) (x2 : Vec F S2048x256 .bf16) (x3 : Vec F S2048x128 .f32) (x4 : Vec F S2048x128 .f32) (x5 : Vec F S2048x256 .bf16) (x6 : Vec F S1x1x16x512x256 .bf16) (x7 : Vec F S1x1x512x128 .f32) (x8 : Vec F S2048x128 .f32) (x9 : Vec F S2048x128 .f32) (E : Set ℕ) (K : PUnit → sProp 𝕄) :
    iprop(bufs (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) c x2 x3 x4 x5 x6 x7 x8 x9 ∗ (bufs (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) c x2 x3 x4 x5 x6 x7 x8 x9 -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_attn_bwd_eq_skeleton]; unfold cc0_attn_bwd_skel
  simp only [k0_part16_eq_skeleton, k0_part17_eq_skeleton, k0_part18_eq_skeleton, k0_part19_eq_skeleton, k0_part20_eq_skeleton]
  unfold bufs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  by_cases h1 : k0_cond1 i = 1#1 <;> by_cases h2 : k0_cond2 i = 1#1
  all_goals
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.AttnRun

end
-- ==== Proof.AttnFrame.lean ====
module

public import proofs.«01_k».proof.Proof.Gen.AttnIdeal.Launch
public import proofs.«01_k».proof.Proof.Gen.AttnIdeal.Skeleton
public import proofs.«01_k».proof.Proof.Gen.AttnIdeal.Loops
public import proofs.«01_k».proof.Proof.Gen.AttnIdeal.Points
public import proofs.«01_k».proof.Proof.Gen.AttnIdeal.Frame
public import Idealize.ShloMosaic.Lib.Pipeline.FrameBody
public import Idealize.ShloMosaic.Lib.Tactic
public import proofs.«01_k».proof.Proof.AttnRun

/-! The attention gradient's program runs from any memory and leaves its arguments as it found them. -/

@[expose] public section

set_option maxRecDepth 16384

noncomputable section

namespace Cert.AttnFrame

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of whose contents nothing is said. -/
def forgets : Fin 12 → Bool := fun w => 8 ≤ w.val

/-- The pipeline's proof data on core `c`: the arrays as the region finds them, every input's buffer at its block after the
    body, and nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the kernel's own state is between two points: its five scratch buffers at some contents, and the generator register. -/
theorem between (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, between]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (AttnRun.run _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) Set.univ _)
  unfold AttnRun.bufs
  isplitr [Ho Hg]
  · (isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7)
    (isplitl [H8]; · iexists _; iexact H8); (isplitl [H9]; · iexists _; iexact H9); (isplitl [H10]; · iexists _; iexact H10); (isplitl [H11]; · iexists _; iexact H11)
    (isplitl [S0]; · iexact S0); (isplitl [S1]; · iexact S1); (isplitl [S2]; · iexact S2); (isplitl [S3]; · iexact S3)
    iexact S4
  iintro ⟨H0, H1, H2, H3, H4, H5, H6, H7, H8, H9, H10, H11, S0, S1, S2, S3, S4⟩
  isplitl [S0 S1 S2 S3 S4 Hg]
  · isplitr [Hg]
    · (isplitl [S0]; · iexact S0); (isplitl [S1]; · iexact S1); (isplitl [S2]; · iexact S2); (isplitl [S3]; · iexact S3)
      iexact S4
    iexact Hg
  isplitl [Ho]; · iexact Ho
  (isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10)
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- The buffers the three host operations after the region write: the sink gradient's reshape, the zero, and the sum. -/
def written : Finset (Ref sig .tc) := {main_v99, main_cst_14, main_v100}

theorem writes_only : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl
  all_goals
    simp only [StableHlo.nullary_writes, StableHlo.binary_writes, StableHlo.reshape_writes, Finset.mem_singleton] at hb
    have := Proc.devRef_injective _ hb
    subst this
    simp [written]

set_option backward.isDefEq.respectTransparency.types false in
/-- The program runs from any memory; at the end every buffer but the outputs' and those written after the region is as at
    the region's entry, and every semaphore counter is zero. -/
theorem run_main : θ_run defs (onTc (τ := τ) (main (F := F))) (s₀ m ρ)
    (fun r => Pipeline.RDat.FramePostR (cfgs 0) (fun c => (dats m 0 c).toRForget forgets) written (V m) r ∧ r.2.sem = fun _ => 0) :=
  Pipeline.θ_run_frame_around_T_forget (Q' := _) cfgs (dats m) (0 : Fin 1) launch0 defs₀ Variants.none forgets written m ρ main
    (fun c => (body_obligation m c).loose) (fun c => (dats m 0 c).share_full fun _ => rfl)
    (fun _ _ => rfl) (V0 m) [hostOps1] sfx_sub sfx_fresh sfx_keeps writes_only (hmain m Variants.none) (A_eq m) (fun _ _ => rfl)
    (fun _ h => h)

/-- The frame: every argument is unchanged at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩)
    (run_main m ρ)

end Cert.AttnFrame

end
-- ==== Proof.AttnClaim.lean ====
/- The gradient of the attention: the frames of the kernel and of the reference. -/
module

public import proofs.«01_k».proof.Defs
public import proofs.«01_k».proof.Proof.Gen.Attn
public import proofs.«01_k».proof.Proof.Gen.AttnRefIdeal.Run
public import proofs.«01_k».proof.Proof.AttnFrame

@[expose] public section

noncomputable section

open Idealize.ShloMosaic Idealize.ShloMosaic.TcCoe Idealize.SL.Sem Idealize.SL

namespace Cert.AttnClaim

open Cert.AttnIdeal in
/-- The kernel over bit patterns runs, leaves its arguments alone, and its counters end at zero. -/
def BitsFrame : Prop := ∀ (m : (ℓ : Loc nD τ sig) → Buf (Elt Bits) ℓ) (g : Dev nD → PrngReg), True →
  θ_run (Cert.AttnIdeal.defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The two printed programs are the same text, so the frame of the one over bit patterns is the frame of the other. -/
theorem bits_eq : @Cert.quiescent_Attn Cert.Attn.Gen.facts = BitsFrame := by sl_kernel_rfl

theorem bits : @Cert.quiescent_Attn Cert.Attn.Gen.facts := by
  rw [bits_eq]
  exact fun m ρ _ => Cert.AttnFrame.frame (F := Bits) m ρ

theorem ideal : @Cert.quiescent_AttnIdeal Cert.AttnIdeal.Gen.facts := fun m ρ _ => Cert.AttnFrame.frame (F := Ideal) m ρ

/-- The reference ends, leaves its arguments alone and has no counters. -/
theorem frame_ref : @Cert.quiescent_AttnRefIdeal Cert.AttnRefIdeal.Gen.facts := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)

end Cert.AttnClaim

end
-- ==== Proof.Reals.lean ====
/- Values that are real numbers: what keeps them real, and how a precondition on arrays says that they are. -/
module

public import Idealize.ShloMosaic.PureOps
public import Idealize.ShloMosaic.Lib.ReduceAll
public import Idealize.ShloMosaic.Lib.Pointwise

@[expose] public section

noncomputable section

namespace Cert.Reals

open Idealize.ShloMosaic

/-- The value is a real number: neither infinity. -/
def IsR (x : EReal) : Prop := ∃ r : ℝ, x = (r : EReal)

/-- The pattern of the single-precision infinity. -/
theorem ofBits_inf : Ideal.ofBits .f32 0x7F800000#32 = ⊤ := by simp [Ideal.ofBits, Ideal.ieee]

theorem IsR.coe (r : ℝ) : IsR (r : EReal) := ⟨r, rfl⟩

theorem IsR.zero : IsR 0 := ⟨0, rfl⟩

theorem IsR.one : IsR 1 := ⟨1, rfl⟩

theorem IsR.add {x y : EReal} : IsR x → IsR y → IsR (x + y)
  | ⟨a, ha⟩, ⟨b, hb⟩ => ⟨a + b, by rw [ha, hb, EReal.coe_add]⟩

theorem IsR.sub {x y : EReal} : IsR x → IsR y → IsR (x - y)
  | ⟨a, ha⟩, ⟨b, hb⟩ => ⟨a - b, by rw [ha, hb, EReal.coe_sub]⟩

theorem IsR.mul {x y : EReal} : IsR x → IsR y → IsR (x * y)
  | ⟨a, ha⟩, ⟨b, hb⟩ => ⟨a * b, by rw [ha, hb, EReal.coe_mul]⟩

theorem IsR.neg {x : EReal} : IsR x → IsR (-x)
  | ⟨a, ha⟩ => ⟨-a, by rw [ha, EReal.coe_neg]⟩

theorem IsR.sum {ι : Type} (s : Finset ι) {f : ι → EReal} (h : ∀ i, IsR (f i)) : IsR (∑ i ∈ s, f i) := by
  classical
  induction s using Finset.induction_on with
  | empty => exact IsR.zero
  | insert a s ha ih => rw [Finset.sum_insert ha]; exact (h a).add ih

/-- A value whose absolute value lies below infinity is a real number. -/
theorem isR_of_abs_lt {x : EReal} (h : max x (-x) < ⊤) : IsR x := by
  obtain ⟨h1, h2⟩ := max_lt_iff.1 h
  refine ⟨x.toReal, (EReal.coe_toReal h1.ne ?_).symm⟩
  rintro rfl
  exact absurd h2 (by simp)

/-- An array whose elements all lie below infinity in absolute value, as a precondition says it. -/
theorem isR_of_all {s t u : Shape} {axes : List (Fin s.rank)} [Subsingleton t.Idx] (a : FVec Ideal s .f32)
    (b : FVec Ideal s .f32) (hb : ∀ i, (b i : EReal) = ⊤) (init : u.Idx → BitVec 1) (h : s.ReducesTo axes t) (hu : 0 < u.numel)
    (j : t.Idx) (e : Host.reduce IntOp.andi (cmpf .olt (Host.absf a) b) init h hu j = 1#1) (i : s.Idx) : IsR (a i) := by
  have e1 := Host.reduce_andi_all _ _ h hu j e i
  refine isR_of_abs_lt ?_
  have e2 : BitVec.ofBool (decide ((max (a i : EReal) (-(a i : EReal))) < (b i : EReal))) = 1#1 := e1
  rw [hb i] at e2
  by_contra hn
  rw [decide_eq_false hn] at e2
  exact absurd e2 (by decide)

end Cert.Reals

end
-- ==== Proof.FfnPre.lean ====
/- What the precondition on the arguments of the gated unit's gradient says: every argument holds real numbers. -/
module

public import proofs.«01_k».proof.Pre_finite_ffn
public import proofs.«01_k».proof.Proof.Gen.Pre_finite_ffn
public import proofs.«01_k».proof.Proof.Reals
public import Idealize.ShloMosaic.Lib.WordCmp

@[expose] public section

noncomputable section

namespace Cert.Pre_finite_ffn

open Idealize.ShloMosaic Cert.Reals

/-- Every argument of the gated unit's gradient holds real numbers. -/
structure Real (x : FVec Ideal S2x2048x1024 .f32) (sh sc gt : FVec Ideal S2x1x1024 .f32) (w : FVec Ideal S1024x5632 .f32)
    (wd : FVec Ideal S2816x1024 .f32) (dr : FVec Ideal S2x2048x1024 .f32) : Prop where
  x : ∀ i, IsR (x i)
  sh : ∀ i, IsR (sh i)
  sc : ∀ i, IsR (sc i)
  gt : ∀ i, IsR (gt i)
  w : ∀ i, IsR (w i)
  wd : ∀ i, IsR (wd i)
  dr : ∀ i, IsR (dr i)

variable [Facts]

instance : Subsingleton S_.Idx := ⟨fun i j => funext fun a => a.elim0⟩

theorem real_of (x : FVec Ideal S2x2048x1024 .f32) (sh sc gt : FVec Ideal S2x1x1024 .f32) (w : FVec Ideal S1024x5632 .f32)
    (wd : FVec Ideal S2816x1024 .f32) (dr : FVec Ideal S2x2048x1024 .f32) (i : S_.Idx)
    (e : fn (F := Ideal) x sh sc gt w wd dr i = 1#1) : Real x sh sc gt w wd dr := by
  unfold fn at e
  try unfold fn_part1 at e
  simp only [WordCmp.andi_at] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨isR_of_all _ _ (fun _ => by pointwise [ofBits_inf]) _ _ _ _ e1, isR_of_all _ _ (fun _ => by pointwise [ofBits_inf]) _ _ _ _ e2,
    isR_of_all _ _ (fun _ => by pointwise [ofBits_inf]) _ _ _ _ e3, isR_of_all _ _ (fun _ => by pointwise [ofBits_inf]) _ _ _ _ e4,
    isR_of_all _ _ (fun _ => by pointwise [ofBits_inf]) _ _ _ _ e5, isR_of_all _ _ (fun _ => by pointwise [ofBits_inf]) _ _ _ _ e6,
    isR_of_all _ _ (fun _ => by pointwise [ofBits_inf]) _ _ _ _ e7⟩

end Cert.Pre_finite_ffn

end
-- ==== Proof.Gated.lean ====
/- The logistic function, and the hidden columns of the gated feed-forward unit in three chunks. -/
module

public import proofs.«01_k».proof.Proof.Reals

@[expose] public section

noncomputable section

namespace Cert.Gated

open Idealize.ShloMosaic Cert.Reals

/-- The logistic function, as the kernel computes it. -/
def sg (g : EReal) : EReal := Ideal.div 1 (1 + Ideal.exp (0 - g))

/-- The logistic function of a real number is real. -/
theorem isR_sg {g : EReal} : IsR g → IsR (sg g)
  | ⟨r, hr⟩ => by
    have h : (1 + Real.exp (0 - r)) ≠ 0 := by positivity
    refine ⟨1 * (1 / (1 + Real.exp (0 - r))), ?_⟩
    unfold sg
    rw [hr, ← EReal.coe_zero, ← EReal.coe_sub, Ideal.exp_coe, ← EReal.coe_one, ← EReal.coe_add, Ideal.div_coe h, ← EReal.coe_mul]

/-- The hidden columns of the three chunks. -/
abbrev c0 (j : Fin 1024) : Fin 2816 := ⟨j.val, by omega⟩
abbrev c1 (j : Fin 1024) : Fin 2816 := ⟨1024 + j.val, by omega⟩
abbrev c2 (j : Fin 768) : Fin 2816 := ⟨2048 + j.val, by omega⟩

/-- A sum over the hidden columns, chunk by chunk. -/
theorem sum3 (f : Fin 2816 → EReal) : ∑ j, f j = ∑ j, f (c0 j) + ∑ j, f (c1 j) + ∑ j, f (c2 j) := by
  rw [show (∑ j, f j) = ∑ j : Fin (1024 + 1024 + 768), f (Fin.cast (by decide) j) from
    (Fintype.sum_equiv (finCongr (by decide)) _ _ fun _ => rfl), Fin.sum_univ_add, Fin.sum_univ_add]
  rfl

end Cert.Gated

end
-- ==== Proof.FfnSpec.lean ====
/- What one block of the gradient of the gated feed-forward unit computes, in plain formulas over the arrays it loads. -/
module

public import proofs.«01_k».proof.Proof.Gen.FfnIdeal.Value
public import proofs.«01_k».proof.Proof.Gated
public import Idealize.ShloMosaic.Lib.Pointwise

@[expose] public section

set_option maxRecDepth 16384

noncomputable section

namespace Cert.FfnSpec

open Idealize.ShloMosaic Idealize.ShloMosaic.TcCoe Cert.FfnIdeal Cert.FfnIdeal.Gen Cert.Reals Cert.Gated

/-- The gradient by the gate: `a` is the gradient by the gated product, `u` the linear half, `g` the gate. -/
def dgOf (a u g : EReal) : EReal := (a * u) * (sg g * (1 + g * (1 - sg g)))

/-- The gradient by the linear half. -/
def duOf (a g : EReal) : EReal := a * (g * sg g)

/-- The gradient by the gated product at hidden column `j`: one row of the incoming gradient against a row of the weights. -/
def daOf (D : Fin 1024 → EReal) (W : Fin 2816 → Fin 1024 → EReal) (j : Fin 2816) : EReal := ∑ k, D k * W j k

/-- The gradient by one entry of the unit's input: both halves of the hidden columns against their weights. -/
def dhOf (D : Fin 1024 → EReal) (W : Fin 2816 → Fin 1024 → EReal) (g u P Q : Fin 2816 → EReal) : EReal :=
  ∑ j, dgOf (daOf D W j) (u j) (g j) * P j + ∑ j, duOf (daOf D W j) (g j) * Q j

/-- The gate's gradient, multiplied out. -/
theorem gate_eq {a u g : EReal} (ha : IsR a) (hu : IsR u) (hg : IsR g) :
    a * u * sg g + g * (a * u) * (sg g * (1 - sg g)) = dgOf a u g := by
  obtain ⟨q, hq⟩ := isR_sg hg
  obtain ⟨a, rfl⟩ := ha
  obtain ⟨u, rfl⟩ := hu
  obtain ⟨g, rfl⟩ := hg
  unfold dgOf
  rw [hq, ← EReal.coe_one]
  norm_cast
  ring

variable (v13 : Vec Ideal S512x1024 .bf16) (v16 v57 : Vec Ideal S1024x1024 .bf16) (v98 : Vec Ideal S768x1024 .bf16)
  (v19 v22 v60 v63 : Vec Ideal S1x512x1024 .bf16) (v101 v104 : Vec Ideal S1x512x768 .bf16)
  (v49 v53 v90 v94 : Vec Ideal S1x1024x1024 .bf16) (v131 v135 : Vec Ideal S1x768x1024 .bf16) (r : Fin 512)

theorem pay11_at (k : Fin 1024) : (k0_pay11 (k0_pay6 v19) (k0_pay7 v19) (k0_pay9 v13 v16 v22) (FloatOps.ofBits .f32 1065353216#32) (ix3 0 r k) : EReal)
    = dgOf (∑ x : Fin 1024, v13 (ix2 r x) * v16 (ix2 k x)) (v22 (ix3 0 r k)) (v19 (ix3 0 r k)) := by
  unfold k0_pay11 k0_pay10 dgOf sg
  pointwise [k0_pay6, k0_pay7, k0_pay9, k0_pay5, k0_pay3]

theorem pay12_at (k : Fin 1024) : (k0_pay12 (k0_pay8 v13 v16 v19) (ix3 0 r k) : EReal)
    = duOf (∑ x : Fin 1024, v13 (ix2 r x) * v16 (ix2 k x)) (v19 (ix3 0 r k)) := by
  unfold k0_pay12 k0_pay8 duOf sg
  pointwise [k0_pay6, k0_pay7, k0_pay9, k0_pay5, k0_pay3]

theorem pay21_at (k : Fin 1024) : (k0_pay21 (k0_pay14 (k0_pay3 v13) v57) (k0_pay15 v60) (k0_pay16 v63) (k0_pay17 v60) (ix3 0 r k) : EReal)
    = dgOf (∑ x : Fin 1024, v13 (ix2 r x) * v57 (ix2 k x)) (v63 (ix3 0 r k)) (v60 (ix3 0 r k)) := by
  unfold k0_pay21 k0_pay20 dgOf sg
  pointwise [k0_pay14, k0_pay15, k0_pay16, k0_pay17, k0_pay18, k0_pay3]

theorem pay22_at (k : Fin 1024) : (k0_pay22 (k0_pay14 (k0_pay3 v13) v57) (k0_pay15 v60) (k0_pay17 v60) (ix3 0 r k) : EReal)
    = duOf (∑ x : Fin 1024, v13 (ix2 r x) * v57 (ix2 k x)) (v60 (ix3 0 r k)) := by
  unfold k0_pay22 k0_pay19 duOf sg
  pointwise [k0_pay14, k0_pay15, k0_pay16, k0_pay17, k0_pay18, k0_pay3]

theorem pay30_at (k : Fin 768) : (k0_pay30 (k0_pay24 (k0_pay3 v13) v98) (k0_pay25 v101) v104 (ix3 0 r k) : EReal)
    = dgOf (∑ x : Fin 1024, v13 (ix2 r x) * v98 (ix2 k x)) (v104 (ix3 0 r k)) (v101 (ix3 0 r k)) := by
  unfold k0_pay30 k0_pay29 dgOf sg
  pointwise [k0_pay24, k0_pay25, k0_pay26, k0_pay27, k0_pay3]

theorem pay31_at (k : Fin 768) : (k0_pay31 (k0_pay24 (k0_pay3 v13) v98) (k0_pay25 v101) (ix3 0 r k) : EReal)
    = duOf (∑ x : Fin 1024, v13 (ix2 r x) * v98 (ix2 k x)) (v101 (ix3 0 r k)) := by
  unfold k0_pay31 k0_pay28 duOf sg
  pointwise [k0_pay24, k0_pay25, k0_pay26, k0_pay27, k0_pay3]

theorem pay13_at (v15 v21 v30 v34 : FVec Ideal S512x1024 .f32) (v33 : FVec Ideal S512x1024 .bf16) (o : Ideal .f32) (k : Fin 1024) :
    (k0_pay13 v15 v21 v30 v33 v34 o v49 v53 (ix2 r k) : EReal)
    = v15 (ix2 r k) + ∑ x : Fin 1024, k0_pay11 v21 v30 v34 o (ix3 0 r x) * v49 (ix3 0 x k) + ∑ x : Fin 1024, k0_pay12 v33 (ix3 0 r x) * v53 (ix3 0 x k) := by
  unfold k0_pay13 k0_pay11 k0_pay12
  pointwise

theorem pay23_at (v56 v59 v62 v65 v67 : FVec Ideal S512x1024 .f32) (k : Fin 1024) :
    (k0_pay23 v56 v59 v62 v65 v67 v90 v94 (ix2 r k) : EReal)
    = v56 (ix2 r k) + ∑ x : Fin 1024, k0_pay21 v59 v62 v65 v67 (ix3 0 r x) * v90 (ix3 0 x k) + ∑ x : Fin 1024, k0_pay22 v59 v62 v67 (ix3 0 r x) * v94 (ix3 0 x k) := by
  unfold k0_pay23 k0_pay21 k0_pay22
  pointwise

theorem pay32_at (v97 : FVec Ideal S512x1024 .f32) (v100 : FVec Ideal S512x768 .f32) (v102 : FVec Ideal S512x768 .bf16) (k : Fin 1024) :
    (k0_pay32 v97 v100 v102 v104 v131 v135 (ix2 r k) : EReal)
    = v97 (ix2 r k) + ∑ x : Fin 768, k0_pay30 v100 v102 v104 (ix3 0 r x) * v131 (ix3 0 x k) + ∑ x : Fin 768, k0_pay31 v100 v102 (ix3 0 r x) * v135 (ix3 0 x k) := by
  unfold k0_pay32 k0_pay30 k0_pay31
  pointwise

theorem pay4_at (i : S512x1024.Idx) : (k0_pay4 (F := Ideal) i : EReal) = 0 := by unfold k0_pay4; pointwise

variable (v138 : FVec Ideal S512x1024 .f32) (a2 : Vec Ideal S512x1024 .f32) (p : Vec Ideal S1x1x1024 .f32) in
theorem pay34_at (k : Fin 1024) : (k0_pay34 v138 p (ix3 0 0 k) : EReal) = p (ix3 0 0 k) + ∑ r : Fin 512, v138 (ix2 r k) := by
  unfold k0_pay34
  pointwise

variable (v138 : FVec Ideal S512x1024 .f32) (a2 : Vec Ideal S512x1024 .f32) (p : Vec Ideal S1x1x1024 .f32) in
theorem pay35_at (k : Fin 1024) : (k0_pay1 (k0_pay35 v138 p a2) (ix3 0 0 k) : EReal) = p (ix3 0 0 k) + ∑ r : Fin 512, v138 (ix2 r k) * a2 (ix2 r k) := by
  unfold k0_pay1 k0_pay35
  pointwise

theorem pay2_at (i : S1x2x1024.Idx) : (k0_pay2 (F := Ideal) i : EReal) = 0 := by unfold k0_pay2; pointwise

theorem pay33_at (v138 : FVec Ideal S512x1024 .f32) (a0 : Vec Ideal S512x1024 .f32) (a4 : Vec Ideal S1x1x1024 .f32) (k : Fin 1024) :
    (k0_pay33 v138 a0 a4 (ix2 r k) : EReal) = Ideal.ofBits .f32 1066940400#32 * a0 (ix2 r k) + v138 (ix2 r k) * (1 + a4 (ix3 0 0 k)) := by
  unfold k0_pay33
  pointwise

/-- The gradient by the unit's input, from the chunks that hold the hidden columns. -/
theorem dh_at (k : Fin 1024) (D : Fin 1024 → EReal) (W : Fin 2816 → Fin 1024 → EReal) (g u P Q : Fin 2816 → EReal)
    (hD : ∀ x, v13 (ix2 r x) = D x)
    (h16 : ∀ j x, v16 (ix2 j x) = W (c0 j) x) (h57 : ∀ j x, v57 (ix2 j x) = W (c1 j) x) (h98 : ∀ j x, v98 (ix2 j x) = W (c2 j) x)
    (h19 : ∀ j, v19 (ix3 0 r j) = g (c0 j)) (h60 : ∀ j, v60 (ix3 0 r j) = g (c1 j)) (h101 : ∀ j, v101 (ix3 0 r j) = g (c2 j))
    (h22 : ∀ j, v22 (ix3 0 r j) = u (c0 j)) (h63 : ∀ j, v63 (ix3 0 r j) = u (c1 j)) (h104 : ∀ j, v104 (ix3 0 r j) = u (c2 j))
    (h49 : ∀ j, v49 (ix3 0 j k) = P (c0 j)) (h90 : ∀ j, v90 (ix3 0 j k) = P (c1 j)) (h131 : ∀ j, v131 (ix3 0 j k) = P (c2 j))
    (h53 : ∀ j, v53 (ix3 0 j k) = Q (c0 j)) (h94 : ∀ j, v94 (ix3 0 j k) = Q (c1 j)) (h135 : ∀ j, v135 (ix3 0 j k) = Q (c2 j)) :
    (k0_pay32 (k0_pay23 (k0_pay13 k0_pay4 (k0_pay6 v19) (k0_pay7 v19) (k0_pay8 v13 v16 v19) (k0_pay9 v13 v16 v22)
        (FloatOps.ofBits .f32 1065353216#32) v49 v53) (k0_pay14 (k0_pay3 v13) v57) (k0_pay15 v60) (k0_pay16 v63) (k0_pay17 v60) v90 v94)
      (k0_pay24 (k0_pay3 v13) v98) (k0_pay25 v101) v104 v131 v135 (ix2 r k) : EReal) = dhOf D W g u P Q := by
  rw [pay32_at, pay23_at, pay13_at, pay4_at]
  simp only [pay11_at, pay12_at, pay21_at, pay22_at, pay30_at, pay31_at, hD, h16, h57, h98, h19, h60, h101, h22, h63, h104, h49, h90,
    h131, h53, h94, h135]
  unfold dhOf
  rw [sum3 fun j => dgOf (daOf D W j) (u j) (g j) * P j, sum3 fun j => duOf (daOf D W j) (g j) * Q j, zero_add]
  unfold daOf
  abel

end Cert.FfnSpec

end
-- ==== Proof.FfnRef.lean ====
/- What the reference of the gated feed-forward unit's gradient computes, read at an index. -/
module

public import proofs.«01_k».proof.Proof.Gen.FfnRefIdeal.Read
public import proofs.«01_k».proof.Proof.FfnPre
public import proofs.«01_k».proof.Proof.FfnSpec

@[expose] public section

set_option maxRecDepth 16384

noncomputable section

namespace Cert.FfnRefIdeal.At

open Idealize.ShloMosaic Idealize.ShloMosaic.TcCoe
open Cert.FfnRefIdeal Cert.FfnRefIdeal.Gen Cert.FfnRefIdeal.Read Cert.FfnSpec Cert.Gated Cert.Reals

variable (x : FVec Ideal S2x2048x1024 .f32) (sh sc gt : FVec Ideal S2x1x1024 .f32) (w : FVec Ideal S1024x5632 .f32)
  (wd : FVec Ideal S2816x1024 .f32) (dr : FVec Ideal S2x2048x1024 .f32) (b : Fin 2) (s : Fin 2048)

/-- The columns of the joint weight array that make the gate, and those that make the linear half. -/
abbrev lo (j : Fin 2816) : Fin 5632 := ⟨j.val, by omega⟩
abbrev hi (j : Fin 2816) : Fin 5632 := ⟨2816 + j.val, by omega⟩

/-- The product of the modulated input with one column of the joint weight array. -/
def up (j : Fin 5632) : EReal := ∑ k : Fin 1024, (x (ix3 b s k) * (1 + sc (ix3 b 0 k)) + sh (ix3 b 0 k)) * w (ix2 k j)

/-- The gradient by the unit's output. -/
def down (k : Fin 1024) : EReal := Ideal.ofBits .f32 1056964608#32 * (1 + gt (ix3 b 0 k)) * dr (ix3 b s k)

/-- The gradient by the gated product. -/
def da (j : Fin 2816) : EReal := daOf (down gt dr b s) (fun j k => wd (ix2 j k)) j

/-- The gradient by the unit's input. -/
def dh (k : Fin 1024) : EReal := dhOf (down gt dr b s) (fun j k => wd (ix2 j k)) (fun j => up x sh sc w b s (lo j))
  (fun j => up x sh sc w b s (hi j)) (fun j => w (ix2 k (lo j))) (fun j => w (ix2 k (hi j)))

theorem v6_at (j : Fin 5632) : (val_main_v6 (F := Ideal) x sh sc w (ix3 b s j) : EReal) = up x sh sc w b s j := by
  unfold val_main_v6 val_main_v5 val_main_v4 val_main_v3 val_main_v2 val_main_v1 val_main_v0 val_main_cst up
  pointwise

theorem v7_at (j : Fin 2816) : (val_main_v7 (F := Ideal) x sh sc w (ix3 b s j) : EReal) = up x sh sc w b s (lo j) := by
  rw [← v6_at]
  unfold val_main_v7
  pointwise

theorem v8_at (j : Fin 2816) : (val_main_v8 (F := Ideal) x sh sc w (ix3 b s j) : EReal) = up x sh sc w b s (hi j) := by
  rw [← v6_at]
  unfold val_main_v8
  pointwise

theorem v20_at (j : Fin 2816) : (val_main_v20 (F := Ideal) gt wd dr (ix3 b s j) : EReal) = da gt wd dr b s j := by
  unfold val_main_v20 val_main_v19 val_main_v18 val_main_v12 val_main_v11 val_main_v10 val_main_v9 val_main_cst_0 val_main_cst_1 da daOf down
  pointwise

theorem v13_2_at (j : Fin 2816) : (val_main_v13_2 (F := Ideal) x sh sc w (ix3 b s j) : EReal) = sg (up x sh sc w b s (lo j)) := by
  rw [← v7_at]
  unfold val_main_v13_2 val_main_call0_v4 val_main_call0_v3 val_main_call0_v2 val_main_call0_v1 val_main_call0_v0 val_main_call0_cst val_main_call0_cst_0 sg
  pointwise
  rw [zero_sub]

theorem v21_at (j : Fin 2816) : (val_main_v21 (F := Ideal) x sh sc gt w wd dr (ix3 b s j) : EReal)
   = duOf (da gt wd dr b s j) (up x sh sc w b s (lo j)) := by
  unfold val_main_v21 val_main_v13_0 duOf
  pointwise [v20_at, v13_2_at, v7_at]
  rw [mul_comm]

/-- The halves of a sum over the joint columns. -/
theorem sum2 (f : Fin 5632 → EReal) : ∑ j, f j = ∑ j, f (lo j) + ∑ j, f (hi j) := by
  rw [show (∑ j, f j) = ∑ j : Fin (2816 + 2816), f (Fin.cast (by decide) j) from
    (Fintype.sum_equiv (finCongr (by decide)) _ _ fun _ => rfl), Fin.sum_univ_add]
  rfl

theorem isR_half : IsR (Ideal.ofBits .f32 1056964608#32) := ⟨1 / 2, by simp [Ideal.ofBits, Ideal.ieee, -EReal.coe_mul]; norm_num⟩

variable {x sh sc gt w wd dr}

theorem isR_up (hr : Pre_finite_ffn.Real x sh sc gt w wd dr) (j : Fin 5632) : IsR (up x sh sc w b s j) :=
  IsR.sum _ fun _ => (((hr.x _).mul (IsR.one.add (hr.sc _))).add (hr.sh _)).mul (hr.w _)

theorem isR_da (hr : Pre_finite_ffn.Real x sh sc gt w wd dr) (j : Fin 2816) : IsR (da gt wd dr b s j) := by
  unfold da daOf down
  exact IsR.sum _ fun _ => ((isR_half.mul (IsR.one.add (hr.gt _))).mul (hr.dr _)).mul (hr.wd _)

/-- The gradient by the gate. -/
theorem v23_at (hr : Pre_finite_ffn.Real x sh sc gt w wd dr) (j : Fin 2816) :
    (val_main_v23 (F := Ideal) x sh sc gt w wd dr (ix3 b s j) : EReal)
      = dgOf (da gt wd dr b s j) (up x sh sc w b s (hi j)) (up x sh sc w b s (lo j)) := by
  rw [← gate_eq (isR_da b s hr j) (isR_up b s hr _) (isR_up b s hr _)]
  unfold val_main_v23 val_main_call1_v2 val_main_call1_v1 val_main_call1_v0 val_main_v22 val_main_v13_1 val_main_call0_v7 val_main_call0_v6 val_main_call0_cst_1
  pointwise [v20_at, v13_2_at, v7_at, v8_at]

theorem v24_lo (j : Fin 2816) : (val_main_v24 (F := Ideal) x sh sc gt w wd dr (ix3 b s (lo j)) : EReal)
    = val_main_v23 (F := Ideal) x sh sc gt w wd dr (ix3 b s j) := by
  unfold val_main_v24
  pointwise

theorem v24_hi (j : Fin 2816) : (val_main_v24 (F := Ideal) x sh sc gt w wd dr (ix3 b s (hi j)) : EReal)
    = val_main_v21 (F := Ideal) x sh sc gt w wd dr (ix3 b s j) := by
  unfold val_main_v24
  pointwise

/-- The gradient by the unit's input. -/
theorem v25_at (hr : Pre_finite_ffn.Real x sh sc gt w wd dr) (k : Fin 1024) :
    (val_main_v25 (F := Ideal) x sh sc gt w wd dr (ix3 b s k) : EReal) = dh x sh sc gt w wd dr b s k := by
  unfold val_main_v25
  pointwise
  rw [sum2]
  simp only [v24_lo, v24_hi, v21_at, v23_at _ _ hr]
  rfl

/-- The token of a sequence, in the array of all tokens. -/
abbrev row (b : Fin 2) (s : Fin 2048) : Fin 4096 := ⟨b.val * 2048 + s.val, by omega⟩

/-- The gradient by the block's input. -/
theorem v41_at (hr : Pre_finite_ffn.Real x sh sc gt w wd dr) (k : Fin 1024) :
    (val_main_v41 (F := Ideal) x sh sc gt w wd dr (ix2 (row b s) k) : EReal)
      = Ideal.ofBits .f32 1066940400#32 * dr (ix3 b s k) + dh x sh sc gt w wd dr b s k * (1 + sc (ix3 b 0 k)) := by
  have hs : s.val < 2048 := s.isLt
  have hb : b.val < 2 := b.isLt
  have e : (val_main_v40 (F := Ideal) x sh sc gt w wd dr (ix3 b s k) : EReal)
      = Ideal.ofBits .f32 1066940400#32 * dr (ix3 b s k) + dh x sh sc gt w wd dr b s k * (1 + sc (ix3 b 0 k)) := by
    rw [← v25_at b s hr]
    unfold val_main_v40 val_main_v39 val_main_v38 val_main_v32 val_main_v31 val_main_v1 val_main_v0 val_main_cst val_main_cst_4
    generalize val_main_v25 (F := Ideal) x sh sc gt w wd dr = X
    pointwise
  rw [← e]
  unfold val_main_v41
  generalize val_main_v40 (F := Ideal) x sh sc gt w wd dr = X
  pointwise
  simp only [show (b.val * 2048 + s.val) / 2048 = b.val by omega, show (b.val * 2048 + s.val) % 2048 = s.val by omega]

/-- The gradient by the shift: a sum over the tokens. -/
theorem v42_at0 (hr : Pre_finite_ffn.Real x sh sc gt w wd dr) (k : Fin 1024) :
    (val_main_v42 (F := Ideal) x sh sc gt w wd dr (ix3 b 0 k) : EReal) = ∑ s, dh x sh sc gt w wd dr b s k := by
  simp only [← v25_at _ _ hr]
  unfold val_main_v42 val_main_v27 val_main_v26 val_main_cst_2
  generalize val_main_v30 (F := Ideal) x sh sc gt w wd dr = Y
  generalize val_main_v25 (F := Ideal) x sh sc gt w wd dr = X
  pointwise

/-- The gradient by the scale. -/
theorem v42_at1 (hr : Pre_finite_ffn.Real x sh sc gt w wd dr) (k : Fin 1024) :
    (val_main_v42 (F := Ideal) x sh sc gt w wd dr (ix3 b 1 k) : EReal) = ∑ s, dh x sh sc gt w wd dr b s k * x (ix3 b s k) := by
  simp only [← v25_at _ _ hr, mul_comm _ (x _)]
  unfold val_main_v42 val_main_v30 val_main_v29 val_main_v28 val_main_cst_3
  generalize val_main_v27 (F := Ideal) x sh sc gt w wd dr = Y
  generalize val_main_v25 (F := Ideal) x sh sc gt w wd dr = X
  pointwise

/-- The gradients by the hidden columns: the gate's. -/
theorem v37_at0 (hr : Pre_finite_ffn.Real x sh sc gt w wd dr) (j : Fin 2816) :
    (val_main_v37 (F := Ideal) x sh sc gt w wd dr (ix3 0 (row b s) j) : EReal)
      = dgOf (da gt wd dr b s j) (up x sh sc w b s (hi j)) (up x sh sc w b s (lo j)) := by
  have hs : s.val < 2048 := s.isLt
  have hb : b.val < 2 := b.isLt
  rw [← v23_at b s hr]
  unfold val_main_v37 val_main_v36 val_main_v35 val_main_v34 val_main_v33
  generalize val_main_v23 (F := Ideal) x sh sc gt w wd dr = X
  generalize val_main_v21 (F := Ideal) x sh sc gt w wd dr = Y
  pointwise
  simp only [show (b.val * 2048 + s.val) / 2048 = b.val by omega, show (b.val * 2048 + s.val) % 2048 = s.val by omega]

/-- The gradients by the hidden columns: the linear half's. -/
theorem v37_at1 (j : Fin 2816) :
    (val_main_v37 (F := Ideal) x sh sc gt w wd dr (ix3 1 (row b s) j) : EReal)
      = duOf (da gt wd dr b s j) (up x sh sc w b s (lo j)) := by
  have hs : s.val < 2048 := s.isLt
  have hb : b.val < 2 := b.isLt
  rw [← v21_at]
  unfold val_main_v37 val_main_v36 val_main_v35 val_main_v34 val_main_v33
  generalize val_main_v23 (F := Ideal) x sh sc gt w wd dr = X
  generalize val_main_v21 (F := Ideal) x sh sc gt w wd dr = Y
  pointwise
  simp only [show (b.val * 2048 + s.val) / 2048 = b.val by omega, show (b.val * 2048 + s.val) % 2048 = s.val by omega]

end Cert.FfnRefIdeal.At

end
-- ==== Proof.FfnHost.lean ====
/- What the arrays that the kernel of the gated unit's gradient reads hold, in the terms of the reference. -/
module

public import proofs.«01_k».proof.Proof.Gen.FfnIdeal.Value
public import proofs.«01_k».proof.Proof.FfnRef
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.FfnIdeal.Value

open Cert.FfnIdeal Cert.FfnIdeal.Gen Cert.FfnRefIdeal.At Cert.FfnSpec Cert.Gated

variable (m : (ℓ : Loc nD τ sig) → Buf (Elt Ideal) ℓ) (c : Dev nD) (b : Fin 2) (s : Fin 2048)

/-- The arguments: input, shift, scale, gate, the two weight arrays, and the gradient that comes in. -/
abbrev X : FVec Ideal S2x2048x1024 .f32 := m ((c : Thread nD τ).loc main_arg0)
abbrev Sh : FVec Ideal S2x1x1024 .f32 := m ((c : Thread nD τ).loc main_arg1)
abbrev Sc : FVec Ideal S2x1x1024 .f32 := m ((c : Thread nD τ).loc main_arg2)
abbrev Gt : FVec Ideal S2x1x1024 .f32 := m ((c : Thread nD τ).loc main_arg3)
abbrev W : FVec Ideal S1024x5632 .f32 := m ((c : Thread nD τ).loc main_arg4)
abbrev Wd : FVec Ideal S2816x1024 .f32 := m ((c : Thread nD τ).loc main_arg5)
abbrev Dr : FVec Ideal S2x2048x1024 .f32 := m ((c : Thread nD τ).loc main_arg6)

/-- The hidden columns the kernel reads: the gate, and the linear half. -/
theorem v17_lo (j : Fin 2816) : (V m c main_v17 (ix3 0 (row b s) j) : EReal) = up (X m c) (Sh m c) (Sc m c) (W m c) b s (lo j) := by
  have hs : s.val < 2048 := s.isLt
  have hb : b.val < 2 := b.isLt
  entry_read
  pointwise
  simp only [show (b.val * 2048 + s.val) / 2048 = b.val by omega, show (b.val * 2048 + s.val) % 2048 = s.val by omega]
  rfl

theorem v17_hi (j : Fin 2816) : (V m c main_v17 (ix3 1 (row b s) j) : EReal) = up (X m c) (Sh m c) (Sc m c) (W m c) b s (hi j) := by
  have hs : s.val < 2048 := s.isLt
  have hb : b.val < 2 := b.isLt
  entry_read
  pointwise
  simp only [show (b.val * 2048 + s.val) / 2048 = b.val by omega, show (b.val * 2048 + s.val) % 2048 = s.val by omega]
  rfl

/-- The gradient by the unit's output, computed before the kernel. -/
theorem v25_in (k : Fin 1024) : (V m c main_v25 (ix2 (row b s) k) : EReal) = down (Gt m c) (Dr m c) b s k := by
  have hs : s.val < 2048 := s.isLt
  have hb : b.val < 2 := b.isLt
  entry_read
  pointwise
  simp only [show (b.val * 2048 + s.val) / 2048 = b.val by omega, show (b.val * 2048 + s.val) % 2048 = s.val by omega]
  rfl

theorem v31_in (j : Fin 2816) (k : Fin 1024) : (V m c main_v31 (ix2 j k) : EReal) = Wd m c (ix2 j k) := by
  entry_read
  pointwise

theorem v29_in (k : Fin 1024) : (V m c main_v29 (ix2 (row b s) k) : EReal) = Dr m c (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

theorem v30_in (k : Fin 1024) : (V m c main_v30 (ix2 (row b s) k) : EReal) = X m c (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

/-- The weights, transposed and split before the kernel. -/
theorem v28_lo (j : Fin 2816) (k : Fin 1024) : (V m c main_v28 (ix3 0 j k) : EReal) = W m c (ix2 k (lo j)) := by
  have hj : j.val < 2816 := j.isLt
  entry_read
  pointwise

theorem v28_hi (j : Fin 2816) (k : Fin 1024) : (V m c main_v28 (ix3 1 j k) : EReal) = W m c (ix2 k (hi j)) := by
  have hj : j.val < 2816 := j.isLt
  entry_read
  pointwise

end Cert.FfnIdeal.Value

end
-- ==== Proof.FfnBlocks.lean ====
/- What the blocks of the kernel of the gated unit's gradient hold at each grid point, and where its results land. -/
module

public import proofs.«01_k».proof.Proof.FfnHost

@[expose] public section

set_option maxRecDepth 16384

noncomputable section

open Idealize.ShloMosaic Idealize.ShloMosaic.TcCoe Idealize.SL.Sem

namespace Cert.FfnIdeal.Value

open Cert.FfnIdeal Cert.FfnIdeal.Gen Cert.FfnRefIdeal.At Cert.FfnSpec Cert.Gated

variable (m : (ℓ : Loc nD τ sig) → Buf (Elt Ideal) ℓ) (c : Dev nD) (t : Fin cfg0.N) (s : Fin 512)

theorem idx : ∀ t : Fin cfg0.N, win0_0.index t = ![t.val, 0] ∧ win0_1.index t = ![t.val, 0]
    ∧ win0_2.index t = ![t.val, 0] ∧ win0_3.index t = ![0, t.val, 0] ∧ win0_4.index t = ![t.val / 4, 0, 0]
    ∧ win0_5.index t = ![0, 0, 0] ∧ win0_6.index t = ![0, 0]
    ∧ win0_7.index t = ![t.val, 0] ∧ win0_8.index t = ![0, t.val, 0] ∧ win0_9.index t = ![t.val / 4, 0, 0] :=
  (by decide +kernel : ∀ t : Fin grid0.N, _)

/-- The token a row of a grid point's block stands for. -/
abbrev tokOf (t : Fin cfg0.N) (s : Fin 512) : Fin 4096 :=
  ⟨t.val * 512 + s.val, by have := lt_of_lt_of_eq t.isLt N_0; omega⟩

/-- The sequence a grid point works on. -/
abbrev seqOf (t : Fin cfg0.N) : Fin 2 := ⟨t.val / 4, by have := lt_of_lt_of_eq t.isLt N_0; omega⟩

/-- The place of a row in its sequence. -/
abbrev pos (t : Fin cfg0.N) (s : Fin 512) : Fin 2048 := ⟨t.val % 4 * 512 + s.val, by omega⟩

theorem tokOf_eq : tokOf t s = row (seqOf t) (pos t s) := Fin.ext (by show t.val * 512 + s.val = t.val / 4 * 2048 + (t.val % 4 * 512 + s.val); omega)

theorem blk0 (k : Fin 1024) : (iblk m c 0 t (ix2 s k) : EReal) = Dr m c (ix3 (seqOf t) (pos t s) k) := by
  rw [← v29_in, ← tokOf_eq]
  blk_point [iblk, idx t]

theorem blk1 (k : Fin 1024) : (iblk m c 1 t (ix2 s k) : EReal) = down (Gt m c) (Dr m c) (seqOf t) (pos t s) k := by
  rw [← v25_in, ← tokOf_eq]
  blk_point [iblk, idx t]

theorem blk2 (k : Fin 1024) : (iblk m c 2 t (ix2 s k) : EReal) = X m c (ix3 (seqOf t) (pos t s) k) := by
  rw [← v30_in, ← tokOf_eq]
  blk_point [iblk, idx t]

theorem blk4 (k : Fin 1024) : (iblk m c 4 t (ix3 0 0 k) : EReal) = Sc m c (ix3 (seqOf t) 0 k) := by
  blk_point [iblk, V, idx t]

theorem blk5 (i : Fin 2) (j : Fin 2816) (k : Fin 1024) : (iblk m c 5 t (ix3 i j k) : EReal) = V m c main_v28 (ix3 i j k) := by
  blk_point [iblk, idx t]

theorem blk6 (j : Fin 2816) (k : Fin 1024) : (iblk m c 6 t (ix2 j k) : EReal) = Wd m c (ix2 j k) := by
  rw [← v31_in]
  blk_point [iblk, idx t]

theorem emb3 (i : Fin 2) (j : Fin 2816) : ((cfg0.win 3).blk t).view.emb (ix3 i s j) = ix3 i (tokOf t s) j := by
  funext a
  apply Fin.ext
  match a with
  | ⟨0, _⟩ => blk_simp [idx t]
  | ⟨1, _⟩ => blk_simp [idx t]
  | ⟨2, _⟩ => blk_simp [idx t]

theorem blk3 (i : Fin 2) (j : Fin 2816) : (iblk m c 3 t (ix3 i s j) : EReal) = V m c main_v17 (ix3 i (row (seqOf t) (pos t s)) j) := by
  rw [← tokOf_eq]
  unfold iblk
  rw [View.read_apply, emb3]
  refine (cast_eq _ _).trans ?_
  rfl

theorem emb7 (k : Fin 1024) : ((cfg0.win 7).blk t).view.emb (ix2 s k) = ix2 (row (seqOf t) (pos t s)) k := by
  rw [← tokOf_eq]
  funext a
  apply Fin.ext
  match a with
  | ⟨0, _⟩ => blk_simp [idx t]
  | ⟨1, _⟩ => blk_simp [idx t]

theorem emb8 (i : Fin 2) (j : Fin 2816) : ((cfg0.win 8).blk t).view.emb (ix3 i s j) = ix3 i (row (seqOf t) (pos t s)) j := by
  rw [← tokOf_eq]
  funext a
  apply Fin.ext
  match a with
  | ⟨0, _⟩ => blk_simp [idx t]
  | ⟨1, _⟩ => blk_simp [idx t]
  | ⟨2, _⟩ => blk_simp [idx t]

theorem emb9 (z : Fin 1) (i : Fin 2) (k : Fin 1024) : ((cfg0.win 9).blk t).view.emb (ix3 z i k) = ix3 (seqOf t) i k := by
  obtain rfl : z = 0 := Subsingleton.elim _ _
  funext a
  apply Fin.ext
  match a with
  | ⟨0, _⟩ => blk_simp [idx t]; rfl
  | ⟨1, _⟩ => blk_simp [idx t]
  | ⟨2, _⟩ => blk_simp [idx t]

end Cert.FfnIdeal.Value

end
-- ==== Proof.FfnValue.lean ====
/- What the results of the gated unit's gradient hold after the kernel, in the terms of the reference. -/
module

public import proofs.«01_k».proof.Proof.FfnBlocks

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnRefIdeal.At Cert.FfnSpec Cert.Gated

variable (m : (ℓ : Loc nD τ sig) → Buf (Elt Ideal) ℓ) (c : Dev nD) (t : Fin cfg0.N) (s : Fin 512)

/-- The gradient by the unit's input, at a row of the block. -/
abbrev Dh (b : Fin 2) (r : Fin 2048) (k : Fin 1024) : EReal := dh (X m c) (Sh m c) (Sc m c) (Gt m c) (W m c) (Wd m c) (Dr m c) b r k

/-- The gradient by the unit's input, from the chunks the kernel loads of its blocks. -/
theorem dh_block (v16 v57 : Vec Ideal S1024x1024 .bf16) (v98 : Vec Ideal S768x1024 .bf16)
    (v19 v22 v60 v63 : Vec Ideal S1x512x1024 .bf16) (v101 v104 : Vec Ideal S1x512x768 .bf16)
    (v49 v53 v90 v94 : Vec Ideal S1x1024x1024 .bf16) (v131 v135 : Vec Ideal S1x768x1024 .bf16)
    (h16 : ∀ j x, (v16 (ix2 j x) : EReal) = iblk m c 6 t (ix2 (c0 j) x)) (h57 : ∀ j x, (v57 (ix2 j x) : EReal) = iblk m c 6 t (ix2 (c1 j) x))
    (h98 : ∀ j x, (v98 (ix2 j x) : EReal) = iblk m c 6 t (ix2 (c2 j) x))
    (h19 : ∀ s j, (v19 (ix3 0 s j) : EReal) = iblk m c 3 t (ix3 0 s (c0 j))) (h60 : ∀ s j, (v60 (ix3 0 s j) : EReal) = iblk m c 3 t (ix3 0 s (c1 j)))
    (h101 : ∀ s j, (v101 (ix3 0 s j) : EReal) = iblk m c 3 t (ix3 0 s (c2 j)))
    (h22 : ∀ s j, (v22 (ix3 0 s j) : EReal) = iblk m c 3 t (ix3 1 s (c0 j))) (h63 : ∀ s j, (v63 (ix3 0 s j) : EReal) = iblk m c 3 t (ix3 1 s (c1 j)))
    (h104 : ∀ s j, (v104 (ix3 0 s j) : EReal) = iblk m c 3 t (ix3 1 s (c2 j)))
    (h49 : ∀ j k, (v49 (ix3 0 j k) : EReal) = iblk m c 5 t (ix3 0 (c0 j) k)) (h90 : ∀ j k, (v90 (ix3 0 j k) : EReal) = iblk m c 5 t (ix3 0 (c1 j) k))
    (h131 : ∀ j k, (v131 (ix3 0 j k) : EReal) = iblk m c 5 t (ix3 0 (c2 j) k))
    (h53 : ∀ j k, (v53 (ix3 0 j k) : EReal) = iblk m c 5 t (ix3 1 (c0 j) k)) (h94 : ∀ j k, (v94 (ix3 0 j k) : EReal) = iblk m c 5 t (ix3 1 (c1 j) k))
    (h135 : ∀ j k, (v135 (ix3 0 j k) : EReal) = iblk m c 5 t (ix3 1 (c2 j) k)) (k : Fin 1024) :
    (k0_pay32 (k0_pay23 (k0_pay13 k0_pay4 (k0_pay6 v19) (k0_pay7 v19) (k0_pay8 (iblk m c 1 t) v16 v19) (k0_pay9 (iblk m c 1 t) v16 v22)
        (FloatOps.ofBits .f32 1065353216#32) v49 v53) (k0_pay14 (k0_pay3 (iblk m c 1 t)) v57) (k0_pay15 v60) (k0_pay16 v63) (k0_pay17 v60) v90 v94)
      (k0_pay24 (k0_pay3 (iblk m c 1 t)) v98) (k0_pay25 v101) v104 v131 v135 (ix2 s k) : EReal) = Dh m c (seqOf t) (pos t s) k := by
  refine dh_at _ _ _ _ _ _ _ _ _ _ _ _ _ _ _ _ s k _ (fun j k => Wd m c (ix2 j k)) _ _ _ _ (fun x => blk1 m c t s x)
    (fun j x => (h16 j x).trans (blk6 ..)) (fun j x => (h57 j x).trans (blk6 ..)) (fun j x => (h98 j x).trans (blk6 ..))
    (fun j => (h19 s j).trans ((blk3 ..).trans (v17_lo ..))) (fun j => (h60 s j).trans ((blk3 ..).trans (v17_lo ..)))
    (fun j => (h101 s j).trans ((blk3 ..).trans (v17_lo ..)))
    (fun j => (h22 s j).trans ((blk3 ..).trans (v17_hi ..))) (fun j => (h63 s j).trans ((blk3 ..).trans (v17_hi ..)))
    (fun j => (h104 s j).trans ((blk3 ..).trans (v17_hi ..)))
    (fun j => (h49 j k).trans ((blk5 ..).trans (v28_lo ..))) (fun j => (h90 j k).trans ((blk5 ..).trans (v28_lo ..)))
    (fun j => (h131 j k).trans ((blk5 ..).trans (v28_lo ..)))
    (fun j => (h53 j k).trans ((blk5 ..).trans (v28_hi ..))) (fun j => (h94 j k).trans ((blk5 ..).trans (v28_hi ..)))
    (fun j => (h135 j k).trans ((blk5 ..).trans (v28_hi ..)))

/-- The gradient by the block's input, at a row of the block. -/
theorem dx_at (k : Fin 1024) (v : FVec Ideal S512x1024 .f32) (h : (v (ix2 s k) : EReal) = Dh m c (seqOf t) (pos t s) k) :
    (k0_pay33 v (iblk m c 0 t) (iblk m c 4 t) (ix2 s k) : EReal) = Ideal.ofBits .f32 1066940400#32 * Dr m c (ix3 (seqOf t) (pos t s) k)
      + Dh m c (seqOf t) (pos t s) k * (1 + Sc m c (ix3 (seqOf t) 0 k)) := by
  rw [pay33_at, h, blk0, blk4]

theorem out7 (k : Fin 1024) : ((outsAt0 m c t.val t.isLt).1 (ix2 s k) : EReal)
    = Ideal.ofBits .f32 1066940400#32 * Dr m c (ix3 (seqOf t) (pos t s) k) + Dh m c (seqOf t) (pos t s) k * (1 + Sc m c (ix3 (seqOf t) 0 k)) := by
  by_cases h : t.val % 4 = 0
  · rw [outsAt0_A m c t h]
    frame_out
    refine dx_at m c t s k _ (dh_block m c t s _ _ _ _ _ _ _ _ _ _ _ _ _ _ _ ?_ ?_ ?_ ?_ ?_ ?_ ?_ ?_ ?_ ?_ ?_ ?_ ?_ ?_ ?_ k)
    all_goals
      intro a b
      pointwise
  · rw [outsAt0_B m c t h]
    frame_out
    refine dx_at m c t s k _ (dh_block m c t s _ _ _ _ _ _ _ _ _ _ _ _ _ _ _ ?_ ?_ ?_ ?_ ?_ ?_ ?_ ?_ ?_ ?_ ?_ ?_ ?_ ?_ ?_ k)
    all_goals
      intro a b
      pointwise

/-- The gradients by the hidden columns, the gate's and the linear half's. -/
def dgu (b : Fin 2) (r : Fin 2048) (i : Fin 2) (j : Fin 2816) : EReal :=
  if i = 0 then dgOf (da (Gt m c) (Wd m c) (Dr m c) b r j) (up (X m c) (Sh m c) (Sc m c) (W m c) b r (hi j)) (up (X m c) (Sh m c) (Sc m c) (W m c) b r (lo j))
  else duOf (da (Gt m c) (Wd m c) (Dr m c) b r j) (up (X m c) (Sh m c) (Sc m c) (W m c) b r (lo j))

theorem da_block (D V : Fin 1024 → EReal) (j : Fin 2816) (hD : ∀ x, D x = iblk m c 1 t (ix2 s x)) (hV : ∀ x, V x = iblk m c 6 t (ix2 j x)) :
    ∑ x : Fin 1024, D x * V x = da (Gt m c) (Wd m c) (Dr m c) (seqOf t) (pos t s) j :=
  Finset.sum_congr rfl fun x _ => congrArg₂ (· * ·) ((hD x).trans (blk1 m c t s x)) ((hV x).trans (blk6 m c t j x))

/-- The gate's gradient, from what a chunk of the hidden columns loads. -/
theorem dg_block (D V : Fin 1024 → EReal) (u g : EReal) (j : Fin 2816) (hD : ∀ x, D x = iblk m c 1 t (ix2 s x)) (hV : ∀ x, V x = iblk m c 6 t (ix2 j x))
    (hu : u = iblk m c 3 t (ix3 1 s j)) (hg : g = iblk m c 3 t (ix3 0 s j)) : dgOf (∑ x : Fin 1024, D x * V x) u g = dgu m c (seqOf t) (pos t s) 0 j := by
  rw [hu, hg, da_block m c t s D V j hD hV, blk3, blk3, v17_lo, v17_hi]
  rfl

/-- The linear half's gradient, likewise. -/
theorem du_block (D V : Fin 1024 → EReal) (g : EReal) (j : Fin 2816) (hD : ∀ x, D x = iblk m c 1 t (ix2 s x)) (hV : ∀ x, V x = iblk m c 6 t (ix2 j x))
    (hg : g = iblk m c 3 t (ix3 0 s j)) : duOf (∑ x : Fin 1024, D x * V x) g = dgu m c (seqOf t) (pos t s) 1 j := by
  rw [hg, da_block m c t s D V j hD hV, blk3, v17_lo]
  rfl

theorem out8 (i : Fin 2) (j : Fin 2816) : ((outsAt0 m c t.val t.isLt).2.1 (ix3 i s j) : EReal) = dgu m c (seqOf t) (pos t s) i j := by
  by_cases h : t.val % 4 = 0
  on_goal 1 => rw [outsAt0_A m c t h]
  on_goal 2 => rw [outsAt0_B m c t h]
  all_goals
    frame_out
    canon_tiles x h using (View.cover_of_tiledBy (s := S2x512x2816) _ ![1,512,256] (by sl_kernel_rfl) _)
    all_goals
      obtain ⟨z, r, k, rfl⟩ : ∃ z r k, x = ix3 z r k := ⟨_, _, _, ValueIdx.eq_ix3 x⟩
      obtain rfl : s = r := Fin.ext h1
      obtain rfl : z = 0 := Subsingleton.elim _ _
    case piece0 =>
      obtain rfl : i = 1 := Fin.ext h0
      obtain rfl : j = c2 k := Fin.ext h2
      rw [pay31_at]
      refine du_block m c t s _ _ _ _ (fun _ => rfl) (fun x => ?_) ?_
      all_goals exact View.ld_unit_apply_of _ _ _ _ _ _ (by intro d; fin_cases d <;> simp)
    case piece1 =>
      obtain rfl : i = 0 := Fin.ext h0
      obtain rfl : j = c2 k := Fin.ext h2
      rw [pay30_at]
      refine dg_block m c t s _ _ _ _ _ (fun _ => rfl) (fun x => ?_) ?_ ?_
      all_goals exact View.ld_unit_apply_of _ _ _ _ _ _ (by intro d; fin_cases d <;> simp)
    case piece2 =>
      obtain rfl : i = 1 := Fin.ext h0
      obtain rfl : j = c1 k := Fin.ext h2
      rw [pay22_at]
      refine du_block m c t s _ _ _ _ (fun _ => rfl) (fun x => ?_) ?_
      all_goals exact View.ld_unit_apply_of _ _ _ _ _ _ (by intro d; fin_cases d <;> simp)
    case piece3 =>
      obtain rfl : i = 0 := Fin.ext h0
      obtain rfl : j = c1 k := Fin.ext h2
      rw [pay21_at]
      refine dg_block m c t s _ _ _ _ _ (fun _ => rfl) (fun x => ?_) ?_ ?_
      all_goals exact View.ld_unit_apply_of _ _ _ _ _ _ (by intro d; fin_cases d <;> simp)
    case piece4 =>
      obtain rfl : i = 1 := Fin.ext h0
      obtain rfl : j = c0 k := Fin.ext h2
      rw [pay12_at]
      refine du_block m c t s _ _ _ _ (fun _ => rfl) (fun x => ?_) ?_
      all_goals exact View.ld_unit_apply_of _ _ _ _ _ _ (by intro d; fin_cases d <;> simp)
    case piece5 =>
      obtain rfl : i = 0 := Fin.ext h0
      obtain rfl : j = c0 k := Fin.ext h2
      rw [pay11_at]
      refine dg_block m c t s _ _ _ _ _ (fun _ => rfl) (fun x => ?_) ?_ ?_
      all_goals exact View.ld_unit_apply_of _ _ _ _ _ _ (by intro d; fin_cases d <;> simp)

/-- What a row of the block adds to the sums over a sequence: to the gradient by the shift, and to that by the scale. -/
def part (b : Fin 2) (r : Fin 2048) (i : Fin 2) (k : Fin 1024) : EReal := if i = 0 then Dh m c b r k else Dh m c b r k * X m c (ix3 b r k)

theorem row0 (k : Fin 1024) (v : FVec Ideal S512x1024 .f32) (p : Vec Ideal S1x1x1024 .f32) (q : EReal)
    (h : ∀ r, (v (ix2 r k) : EReal) = Dh m c (seqOf t) (pos t r) k) (hp : (p (ix3 0 0 k) : EReal) = q) :
    (k0_pay34 v p (ix3 0 0 k) : EReal) = q + ∑ r : Fin 512, part m c (seqOf t) (pos t r) 0 k := by
  rw [pay34_at, hp]
  exact congrArg (q + ·) (Finset.sum_congr rfl fun r _ => h r)

theorem row1 (k : Fin 1024) (v : FVec Ideal S512x1024 .f32) (p : Vec Ideal S1x1x1024 .f32) (q : EReal)
    (h : ∀ r, (v (ix2 r k) : EReal) = Dh m c (seqOf t) (pos t r) k) (hp : (p (ix3 0 0 k) : EReal) = q) :
    (k0_pay1 (k0_pay35 v p (iblk m c 2 t)) (ix3 0 0 k) : EReal) = q + ∑ r : Fin 512, part m c (seqOf t) (pos t r) 1 k := by
  rw [pay35_at, hp]
  exact congrArg (q + ·) (Finset.sum_congr rfl fun r _ => congrArg₂ (· * ·) (h r) (blk2 m c t r k))

/-- A tile that goes on with a sequence adds its rows to what the tile before left. -/
theorem stepB (h : ¬ t.val % 4 = 0) (i : Fin 2) (k : Fin 1024) : ((outsAt0 m c t.val t.isLt).2.2 (ix3 0 i k) : EReal)
      = (outsAt0 m c (t.val - 1) (Nat.lt_of_le_of_lt (Nat.sub_le _ _) t.isLt)).2.2 (ix3 0 i k) + ∑ r : Fin 512, part m c (seqOf t) (pos t r) i k := by
  rw [outsAt0_B m c t h]
  frame_out
  canon_tiles x h
  all_goals
    obtain ⟨z, z', k', rfl⟩ : ∃ z z' k', x = ix3 z z' k' := ⟨_, _, _, ValueIdx.eq_ix3 x⟩
    obtain rfl : k = k' := Fin.ext h2
    obtain rfl : z = 0 := Subsingleton.elim _ _
    obtain rfl : z' = 0 := Subsingleton.elim _ _
  case piece0 =>
    obtain rfl : i = 1 := Fin.ext h1
    refine row1 m c t k _ _ _ (fun r => dh_block m c t r _ _ _ _ _ _ _ _ _ _ _ _ _ _ _ ?_ ?_ ?_ ?_ ?_ ?_ ?_ ?_ ?_ ?_ ?_ ?_ ?_ ?_ ?_ k) ?_
    all_goals
      intros
      pointwise
  case piece1 =>
    obtain rfl : i = 0 := Fin.ext h1
    refine row0 m c t k _ _ _ (fun r => dh_block m c t r _ _ _ _ _ _ _ _ _ _ _ _ _ _ _ ?_ ?_ ?_ ?_ ?_ ?_ ?_ ?_ ?_ ?_ ?_ ?_ ?_ ?_ ?_ k) ?_
    all_goals
      intros
      pointwise

/-- A tile that begins a sequence starts its sums. -/
theorem stepA (h : t.val % 4 = 0) (i : Fin 2) (k : Fin 1024) : ((outsAt0 m c t.val t.isLt).2.2 (ix3 0 i k) : EReal)
      = ∑ r : Fin 512, part m c (seqOf t) (pos t r) i k := by
  rw [outsAt0_A m c t h]
  frame_out
  simp (disch := decide) only [↓ View.readCov_skip, ↓ View.readCov_cons_toLoadRect, ↓ View.readCov_fill]
  refine View.canon_append_of_piecesOf (Val := Elt Ideal) (s := S1x2x1024) (e := .f32)
    (fun y => ∑ r : Fin 512, part m c (seqOf t) (pos t r) (y 1) (y 2)) [_] [_, _]
    ⟨fun x => ?_, fun x => ?_, trivial⟩ (ix3 0 i k) ?_
  rotate_left 2
  · exact View.cover_of_tiledL _ ![1, 1, 1024] rfl _
  all_goals
    obtain ⟨z, z', k', rfl⟩ : ∃ z z' k', x = ix3 z z' k' := ⟨_, _, _, ValueIdx.eq_ix3 x⟩
    obtain rfl : z = 0 := Subsingleton.elim _ _
    obtain rfl : z' = 0 := Subsingleton.elim _ _
  · refine (row1 m c t k' _ _ 0 (fun r => dh_block m c t r _ _ _ _ _ _ _ _ _ _ _ _ _ _ _ ?_ ?_ ?_ ?_ ?_ ?_ ?_ ?_ ?_ ?_ ?_ ?_ ?_ ?_ ?_ k') ?_).trans ?_
    rotate_right 1
    · rw [zero_add]
      exact congrArg₂ (fun a b => ∑ r : Fin 512, part m c (seqOf t) (pos t r) a b) (rfl : (1 : Fin 2) = _) (Fin.ext (by show k'.val = 0 + 1 * k'.val; omega) : k' = _)
    all_goals
      intros
      pointwise [k0_pay2]
  · refine (row0 m c t k' _ _ 0 (fun r => dh_block m c t r _ _ _ _ _ _ _ _ _ _ _ _ _ _ _ ?_ ?_ ?_ ?_ ?_ ?_ ?_ ?_ ?_ ?_ ?_ ?_ ?_ ?_ ?_ k') ?_).trans ?_
    rotate_right 1
    · rw [zero_add]
      exact congrArg₂ (fun a b => ∑ r : Fin 512, part m c (seqOf t) (pos t r) a b) (rfl : (0 : Fin 2) = _) (Fin.ext (by show k'.val = 0 + 1 * k'.val; omega) : k' = _)
    all_goals
      intros
      pointwise [k0_pay2]

/-- A sum over a sequence, tile by tile. -/
theorem sum_tiles (f : Fin 2048 → EReal) : ∑ k : Fin 4, ∑ r : Fin 512, f ⟨k.val * 512 + r.val, by omega⟩ = ∑ s, f s := by
  rw [← Fintype.sum_prod_type']
  exact Fintype.sum_equiv (finProdFinEquiv.trans (finCongr (by decide))) _ _
    fun ⟨k, r⟩ => congrArg f (Fin.ext (by show k.val * 512 + r.val = r.val + 512 * k.val; omega))

/-- The two sums over a sequence, at the grid point that stores them. -/
theorem out9 (h : t.val % 4 = 3) (z : Fin 1) (i : Fin 2) (k : Fin 1024) : ((outsAt0 m c t.val t.isLt).2.2 (ix3 z i k) : EReal)
    = ∑ r : Fin 2048, part m c (seqOf t) r i k := by
  obtain rfl : z = 0 := Subsingleton.elim _ _
  have ht : t.val < 8 := lt_of_lt_of_eq t.isLt N_0
  have e := Pipeline.eq_sum_of_reset_step_of_mod (M := EReal) (N := cfg0.N) (fun n hn => (outsAt0 m c n hn).2.2 (ix3 0 i k)) 4 0
    (fun n => ∑ r : Fin 512, part m c ⟨n / 4 % 2, Nat.mod_lt _ (by decide)⟩ ⟨n % 4 * 512 + r.val, by omega⟩ i k)
    (fun u hu => by
      have hu8 : u.val < 8 := lt_of_lt_of_eq u.isLt N_0
      refine (stepA m c u hu i k).trans ((Finset.sum_congr rfl fun r _ => ?_).trans (zero_add _).symm)
      exact congrArg (fun b => part m c b (pos u r) i k) (Fin.ext (by show u.val / 4 = u.val / 4 % 2; omega)))
    (fun u hu => by
      have hu8 : u.val < 8 := lt_of_lt_of_eq u.isLt N_0
      refine (stepB m c u hu i k).trans (congrArg (_ + ·) (Finset.sum_congr rfl fun r _ => ?_))
      exact congrArg (fun b => part m c b (pos u r) i k) (Fin.ext (by show u.val / 4 = u.val / 4 % 2; omega)))
    t h
  refine e.trans ?_
  rw [zero_add, Finset.sum_range, ← sum_tiles]
  refine Finset.sum_congr rfl fun q _ => Finset.sum_congr rfl fun r _ => ?_
  exact congrArg₂ (fun a b => part m c a b i k) (Fin.ext (by show (4 * (t.val / 4) + q.val) / 4 % 2 = t.val / 4; omega))
    (Fin.ext (by show (4 * (t.val / 4) + q.val) % 4 * 512 + r.val = q.val * 512 + r.val; omega))

variable (hr : Pre_finite_ffn.Real (X m c) (Sh m c) (Sc m c) (Gt m c) (W m c) (Wd m c) (Dr m c))

include hr

/-- The gradient by the block's input, whole. -/
theorem final7 : (dats m 0 c).arrAt 7 (cfgs 0).N = FfnRefIdeal.Read.val_main_v41 (F := Ideal) (X m c) (Sh m c) (Sc m c) (Gt m c) (W m c) (Wd m c) (Dr m c) := by
  refine (dats m 0 c).arrAt_eq_of_covers 7 _ (by decide +kernel) fun t hf y => ?_
  blk_simp
  rw [after0_7, ValueIdx.eq_ix2 y]
  exact (out7 m c t _ _).trans ((v41_at _ _ hr _).symm.trans (congrArg _ (emb7 t _ _).symm))

theorem dgu_eq (b : Fin 2) (r : Fin 2048) (i : Fin 2) (j : Fin 2816) : dgu m c b r i j
    = FfnRefIdeal.Read.val_main_v37 (F := Ideal) (X m c) (Sh m c) (Sc m c) (Gt m c) (W m c) (Wd m c) (Dr m c) (ix3 i (row b r) j) := by
  match i with
  | 0 => exact (v37_at0 _ _ hr _).symm
  | 1 => exact (v37_at1 _ _ _).symm

theorem part_eq (b : Fin 2) (i : Fin 2) (k : Fin 1024) : ∑ r : Fin 2048, part m c b r i k
    = FfnRefIdeal.Read.val_main_v42 (F := Ideal) (X m c) (Sh m c) (Sc m c) (Gt m c) (W m c) (Wd m c) (Dr m c) (ix3 b i k) := by
  match i with
  | 0 => exact (v42_at0 _ hr _).symm
  | 1 => exact (v42_at1 _ hr _).symm

/-- The gradients by the hidden columns, whole. -/
theorem final8 : (dats m 0 c).arrAt 8 (cfgs 0).N = FfnRefIdeal.Read.val_main_v37 (F := Ideal) (X m c) (Sh m c) (Sc m c) (Gt m c) (W m c) (Wd m c) (Dr m c) := by
  refine (dats m 0 c).arrAt_eq_of_covers 8 _ (by decide +kernel) fun t hf y => ?_
  blk_simp
  rw [after0_8, ValueIdx.eq_ix3 y]
  exact (out8 m c t _ _ _).trans ((dgu_eq m c hr _ _ _ _).trans (congrArg _ (emb8 t _ _ _).symm))

/-- The gradients by the shift and by the scale, whole. -/
theorem final9 : (dats m 0 c).arrAt 9 (cfgs 0).N = FfnRefIdeal.Read.val_main_v42 (F := Ideal) (X m c) (Sh m c) (Sc m c) (Gt m c) (W m c) (Wd m c) (Dr m c) := by
  refine (dats m 0 c).arrAt_eq_of_covers 9 _ (by decide +kernel) fun t hf y => ?_
  blk_simp
  rw [after0_9, ValueIdx.eq_ix3 y]
  exact (out9 m c t ((flush0_9 t).mp hf) _ _ _).trans ((part_eq m c hr _ _ _).trans (congrArg _ (emb9 t _ _ _).symm))

end Cert.FfnIdeal.Value

end
-- ==== Proof.FfnClaim.lean ====
/- The gradient of the gated feed-forward unit: kernel and reference leave the same three arrays. -/
module

public import proofs.«01_k».proof.Defs
public import proofs.«01_k».proof.Proof.Gen.FfnRefIdeal.Run
public import proofs.«01_k».proof.Proof.FfnValue

@[expose] public section

noncomputable section

open Idealize.ShloMosaic Idealize.SL.Sem

namespace Cert.FfnClaim

open Cert.FfnRefIdeal.Read

/-- The reference ends, leaves its arguments alone and has no counters. -/
theorem frame_ref : @Cert.quiescent_FfnRefIdeal Cert.FfnRefIdeal.Gen.facts := fun m ρ _ =>
  (θ_run Cert.FfnRefIdeal.defs _ _).mono (fun r h => ⟨fun c => (h c).2.2.2, sem_eq_zero_of_no_sems (by decide) r.2⟩)
    (Cert.FfnRefIdeal.Value.run (F := Ideal) m ρ)

/-- The value claim. -/
theorem value : @Cert.algebraic_FfnIdeal_FfnRefIdeal_pre_finite_ffn Cert.FfnIdeal.Gen.facts Cert.FfnRefIdeal.Gen.facts Cert.Pre_finite_ffn.Gen.facts := by
  intro m g m' g' hp hm
  refine ⟨fun c => (Cert.FfnIdeal.Gen.dats m 0 c).arrAt 7 (Cert.FfnIdeal.cfgs 0).N, fun c => (Cert.FfnIdeal.Gen.dats m 0 c).arrAt 8 (Cert.FfnIdeal.cfgs 0).N,
    fun c => (Cert.FfnIdeal.Gen.dats m 0 c).arrAt 9 (Cert.FfnIdeal.cfgs 0).N, Cert.FfnIdeal.Value.run_blocks m g, ?_⟩
  refine (θ_run Cert.FfnRefIdeal.defs _ _).mono (fun r h c => ?_) (Cert.FfnRefIdeal.Value.run m' g')
  obtain ⟨h0, h1, h2, hk⟩ := h c
  obtain ⟨e0, e1, e2, e3, e4, e5, e6⟩ := hm c
  have hr := @Cert.Pre_finite_ffn.real_of Cert.Pre_finite_ffn.Gen.facts _ _ _ _ _ _ _ (fun a => a.elim0) (congrFun (hp c) _)
  have f0 := Cert.FfnIdeal.Value.final7 m c hr
  have f1 := Cert.FfnIdeal.Value.final8 m c hr
  have f2 := Cert.FfnIdeal.Value.final9 m c hr
  rw [val_main_v41_eq] at h0
  rw [val_main_v37_eq] at h1
  rw [val_main_v42_eq] at h2
  rw [e0, e1, e2, e3, e4, e5, e6] at h0 h1 h2
  exact ⟨h0.trans f0.symm, h1.trans f1.symm, h2.trans f2.symm, hk⟩

end Cert.FfnClaim

end
-- ==== Proof.Norm.lean ====
module

public import proofs.«01_k».proof.Proof.Reals

@[expose] public section

noncomputable section

namespace Cert.Norm

open Idealize.ShloMosaic Cert.Reals

/-- The row's length, and the number added to the variance, as the programs write them. -/
abbrev len : EReal := Ideal.ofBits .f32 1149239296#32
abbrev eps : EReal := Ideal.ofBits .f32 925353388#32
abbrev two : EReal := Ideal.ofBits .f32 1073741824#32
abbrev mhalf : EReal := Ideal.ofBits .f32 3204448256#32

theorem len_eq : len = ((1024 : ℝ) : EReal) := by simp [len, Ideal.ofBits, Ideal.ieee, -EReal.coe_mul]; norm_num
theorem two_eq : two = ((2 : ℝ) : EReal) := by simp [two, Ideal.ofBits, Ideal.ieee, -EReal.coe_mul]; norm_num
theorem mhalf_eq : mhalf = ((-(1/2) : ℝ) : EReal) := by simp [mhalf, Ideal.ofBits, Ideal.ieee, -EReal.coe_mul]; norm_num
theorem eps_eq : ∃ e : ℝ, 0 < e ∧ eps = (e : EReal) := by
  refine ⟨_, ?_, by simp [eps, Ideal.ofBits, Ideal.ieee, -EReal.coe_mul]; rfl⟩
  norm_num

/-- The mean of a row. -/
def mean (f : Fin 1024 → EReal) : EReal := Ideal.div (∑ i, f i) len

/-- A row less its mean. -/
def ctr (r : Fin 1024 → EReal) (i : Fin 1024) : EReal := r i - mean r

/-- The variance of a row, with the small number added. -/
def vare (r : Fin 1024 → EReal) : EReal := mean (fun i => ctr r i * ctr r i) + eps

/-- One over the deviation of a row. -/
def rstd (r : Fin 1024 → EReal) : EReal := Ideal.rsqrt (vare r)

/-- The normalised row. -/
def xhat (r : Fin 1024 → EReal) (i : Fin 1024) : EReal := ctr r i * rstd r

/-- The gradient by the row, as the kernel computes it: `w` is the gradient by the normalised row. -/
def bwd (w r : Fin 1024 → EReal) (i : Fin 1024) : EReal :=
  rstd r * (w i - mean w - xhat r i * mean (fun j => w j * xhat r j))

/-- The gradient by the variance over the row's length, as differentiation writes it. -/
def refVar (w r : Fin 1024 → EReal) : EReal := Ideal.div ((∑ j, ctr r j * w j) * (mhalf * Ideal.div (rstd r) (vare r))) len

/-- The gradient by the row, as differentiation writes it. -/
def refBwd (w r : Fin 1024 → EReal) (i : Fin 1024) : EReal :=
  w i * rstd r + refVar w r * (two * ctr r i)
    + Ideal.div (∑ j, -(w j * rstd r) + ∑ j, -(refVar w r * (two * ctr r j))) len

theorem norm_real {ι : Type} [Fintype ι] (N q v : ℝ) (d w : ι → ℝ) (hd : ∑ j, d j = 0) (hq : q * q * v = 1) (i : ι) :
    w i * q + ((∑ j, d j * w j) * (-(1 / 2) * (q * (1 / v)))) * (1 / N) * (2 * d i)
        + (∑ j, -(w j * q) + ∑ j, -(((∑ k, d k * w k) * (-(1 / 2) * (q * (1 / v)))) * (1 / N) * (2 * d j))) * (1 / N)
      = q * (w i - (∑ j, w j) * (1 / N) - d i * q * ((∑ j, w j * (d j * q)) * (1 / N))) := by
  have hv : v ≠ 0 := by rintro rfl; simp at hq
  have e : q * (1 / v) = q * q * q := by field_simp; linear_combination (-q) * hq
  have e1 : ∑ j, w j * (d j * q) = (∑ j, d j * w j) * q := by
    rw [Finset.sum_mul]; exact Finset.sum_congr rfl fun j _ => by ring
  have e2 : ∀ c : ℝ, ∑ j, -(c * (2 * d j)) = 0 := by
    intro c
    have : ∑ j, -(c * (2 * d j)) = (-(c * 2)) * ∑ j, d j := by
      rw [Finset.mul_sum]; exact Finset.sum_congr rfl fun j _ => by ring
    rw [this, hd, mul_zero]
  have e3 : ∑ j, -(w j * q) = -((∑ j, w j) * q) := by rw [Finset.sum_mul, Finset.sum_neg_distrib]
  rw [e1, e2, e3, e]
  ring

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_len (x : ℝ) : Ideal.div (x : EReal) len = ((x * (1 / 1024) : ℝ) : EReal) := by
  rw [len_eq, Ideal.div_coe (by norm_num), ← EReal.coe_mul]

theorem mean_coe (f : Fin 1024 → ℝ) : mean (fun i => (f i : EReal)) = (((∑ i, f i) * (1 / 1024) : ℝ) : EReal) := by
  unfold mean
  rw [coe_sum, div_len]

/-- A row of real numbers: its deviations sum to zero, and what stands under the root is positive. -/
theorem row_real (r : Fin 1024 → ℝ) : ∃ (d : Fin 1024 → ℝ) (v q : ℝ), (∀ i, ctr (fun i => (r i : EReal)) i = (d i : EReal)) ∧ ∑ i, d i = 0
    ∧ vare (fun i => (r i : EReal)) = (v : EReal) ∧ rstd (fun i => (r i : EReal)) = (q : EReal) ∧ v ≠ 0 ∧ q * q * v = 1 := by
  obtain ⟨e, he, hee⟩ := eps_eq
  have hd : ∀ i, ctr (fun i => (r i : EReal)) i = ((r i - (∑ i, r i) * (1 / 1024) : ℝ) : EReal) := fun i => by
    unfold ctr
    rw [mean_coe, ← EReal.coe_sub]
  have hv : vare (fun i => (r i : EReal)) = (((∑ i, (r i - (∑ i, r i) * (1 / 1024)) * (r i - (∑ i, r i) * (1 / 1024))) * (1 / 1024) + e : ℝ) : EReal) := by
    unfold vare
    rw [show (fun i => ctr (fun i => (r i : EReal)) i * ctr (fun i => (r i : EReal)) i)
      = fun i => (((r i - (∑ i, r i) * (1 / 1024)) * (r i - (∑ i, r i) * (1 / 1024)) : ℝ) : EReal) from funext fun i => by rw [hd, ← EReal.coe_mul],
      mean_coe, hee, ← EReal.coe_add]
  set v := (∑ i, (r i - (∑ i, r i) * (1 / 1024)) * (r i - (∑ i, r i) * (1 / 1024))) * (1 / 1024) + e with hvd
  have hp : 0 < v :=
    add_pos_of_nonneg_of_pos (mul_nonneg (Finset.sum_nonneg fun i _ => mul_self_nonneg _) (by norm_num)) he
  refine ⟨_, _, (Real.sqrt v)⁻¹, hd, ?_, hv, ?_, hp.ne', ?_⟩
  · rw [Finset.sum_sub_distrib]
    simp
    ring
  · unfold rstd
    rw [hv, Ideal.rsqrt_coe, if_neg hp.le.not_gt, if_neg hp.ne']
  · rw [← mul_inv, Real.mul_self_sqrt hp.le, inv_mul_cancel₀ hp.ne']

/-- Both ways of writing the gradient agree on rows of real numbers. -/
theorem refBwd_eq (w r : Fin 1024 → EReal) (hw : ∀ i, IsR (w i)) (hr : ∀ i, IsR (r i)) (i : Fin 1024) : refBwd w r i = bwd w r i := by
  choose w' hw' using hw
  choose r' hr' using hr
  obtain rfl : w = fun i => (w' i : EReal) := funext hw'
  obtain rfl : r = fun i => (r' i : EReal) := funext hr'
  obtain ⟨d, v, q, hd, h0, hv, hq, hv0, hqv⟩ := row_real r'
  have key := norm_real 1024 q v d w' h0 hqv i
  unfold refBwd refVar bwd xhat
  simp only [hd, hv, hq, two_eq, mhalf_eq]
  rw [Ideal.div_coe hv0]
  simp only [← EReal.coe_mul, ← EReal.coe_neg, coe_sum, ← EReal.coe_add, div_len, mean_coe, ← EReal.coe_sub]
  exact congrArg _ key

/-- The normalised row of real numbers is real. -/
theorem isR_xhat (r : Fin 1024 → EReal) (hr : ∀ i, IsR (r i)) (i : Fin 1024) : IsR (xhat r i) := by
  choose r' hr' using hr
  obtain rfl : r = fun i => (r' i : EReal) := funext hr'
  obtain ⟨d, v, q, hd, h0, hv, hq, hv0, hqv⟩ := row_real r'
  unfold xhat
  rw [hd, hq]
  exact ⟨d i * q, (EReal.coe_mul _ _).symm⟩

theorem isR_mean (f : Fin 1024 → EReal) (hf : ∀ i, IsR (f i)) : IsR (Ideal.div (∑ i, f i) len) := by
  choose g hg using hf
  obtain rfl : f = fun i => (g i : EReal) := funext hg
  exact ⟨_, mean_coe g⟩

/-- The gradient by a row of real numbers is real. -/
theorem isR_bwd (w r : Fin 1024 → EReal) (hw : ∀ i, IsR (w i)) (hr : ∀ i, IsR (r i)) (i : Fin 1024) : IsR (bwd w r i) := by
  have hq : IsR (rstd r) := by
    choose r' hr' using hr
    obtain rfl : r = fun i => (r' i : EReal) := funext hr'
    obtain ⟨d, v, q, hd, h0, hv, hq, hv0, hqv⟩ := row_real r'
    exact ⟨q, hq⟩
  exact hq.mul (((hw i).sub (isR_mean _ hw)).sub ((isR_xhat r hr i).mul (isR_mean _ fun j => (hw j).mul (isR_xhat r hr j))))

end Cert.Norm
end
-- ==== Proof.OutSpec.lean ====
/- What one block of the mixer's output gradient computes, in plain formulas over the arrays it loads. -/
module

public import proofs.«01_k».proof.Proof.Gen.OutIdeal.Value
public import proofs.«01_k».proof.Proof.Norm
public import Idealize.ShloMosaic.Lib.Pointwise

@[expose] public section

set_option maxRecDepth 16384

noncomputable section

namespace Cert.OutSpec

open Idealize.ShloMosaic Idealize.ShloMosaic.TcCoe Cert.OutIdeal Cert.OutIdeal.Gen Cert.Norm

variable (dy r : Vec Ideal S512x1024 .f32) (lg : Vec Ideal S1x1024 .f32) (s : Fin 512)

theorem ctr_at (i : Fin 1024) : (k0_pay8 r (ix2 s i) : EReal) = ctr (fun j => r (ix2 s j)) i := by
  unfold k0_pay8 ctr mean
  pointwise

theorem rstd_at (z : Fin 1) : (k0_pay9 r (ix2 s z) : EReal) = rstd (fun j => r (ix2 s j)) := by
  unfold k0_pay9 rstd vare mean
  pointwise [ctr_at]

theorem xhat_at (i : Fin 1024) : (k0_pay10 r (ix2 s i) : EReal) = xhat (fun j => r (ix2 s j)) i := by
  unfold k0_pay10 xhat
  pointwise [ctr_at, rstd_at]

/-- The gradient by the row that was normalised. -/
theorem dr_at (i : Fin 1024) : (k0_pay11 dy r lg (ix2 s i) : EReal)
    = bwd (fun j => dy (ix2 s j) * lg (ix2 0 j)) (fun j => r (ix2 s j)) i := by
  unfold k0_pay11 bwd mean
  pointwise [rstd_at, xhat_at, k0_pay7]

/-- A block's part of the gradient by the gain. -/
theorem dgain_at (i : Fin 1024) : (k0_pay12 dy r (ix2 0 i) : EReal) = ∑ s : Fin 512, dy (ix2 s i) * xhat (fun j => r (ix2 s j)) i := by
  unfold k0_pay12
  pointwise [xhat_at, k0_pay7]

theorem pay15_at (v : FVec Ideal S1x1024 .f32) (p : Vec Ideal S1x1024 .f32) (i : Fin 1024) :
    (k0_pay15 v p (ix2 0 i) : EReal) = p (ix2 0 i) + v (ix2 0 i) := by
  unfold k0_pay15
  pointwise

theorem pay16_at (v : FVec Ideal S512x1024 .f32) (p : Vec Ideal S1x1024 .f32) (i : Fin 1024) :
    (k0_pay16 v p (ix2 0 i) : EReal) = p (ix2 0 i) + ∑ s : Fin 512, v (ix2 s i) := by
  unfold k0_pay16
  pointwise

theorem pay2_at (v : FVec Ideal S512x1024 .f32) (i : Fin 1024) :
    (k0_pay2 v (ix2 s i) : EReal) = Ideal.ofBits .f32 1066940400#32 * v (ix2 s i) := by
  unfold k0_pay2
  pointwise

theorem pay3_at (v : FVec Ideal S512x1024 .f32) (g : Vec Ideal S1x1x1024 .f32) (i : Fin 1024) :
    (k0_pay3 v g (ix2 s i) : EReal) = (1 + g (ix3 0 0 i)) * v (ix2 s i) := by
  unfold k0_pay3
  pointwise

theorem pay5_at (v : FVec Ideal S512x1024 .f32) (g : Vec Ideal S1x1x1024 .f32) (w : Vec Ideal S1024x1024 .bf16) (i : Fin 512) :
    (k0_pay5 v g w (ix2 s i) : EReal) = ∑ k : Fin 1024, (1 + g (ix3 0 0 k)) * v (ix2 s k) * w (ix2 ⟨i.val, by omega⟩ k) := by
  unfold k0_pay5 k0_pay4
  pointwise [pay3_at]

theorem pay6_at (v : FVec Ideal S512x1024 .f32) (g : Vec Ideal S1x1x1024 .f32) (w : Vec Ideal S1024x1024 .bf16) (i : Fin 512) :
    (k0_pay6 v g w (ix2 s i) : EReal) = ∑ k : Fin 1024, (1 + g (ix3 0 0 k)) * v (ix2 s k) * w (ix2 ⟨512 + i.val, by omega⟩ k) := by
  unfold k0_pay6 k0_pay4
  pointwise [pay3_at]

/-- A block's addition to the gradient by the gate. -/
theorem pay1_at (v : FVec Ideal S512x1024 .f32) (mix : Vec Ideal S512x1024 .bf16) (p : Vec Ideal S1x1x1024 .f32) (i : Fin 1024) :
    (k0_pay1 (k0_pay17 p) (k0_pay18 v mix) (ix3 0 0 i) : EReal) = p (ix3 0 0 i) + ∑ s : Fin 512, v (ix2 s i) * mix (ix2 s i) := by
  unfold k0_pay1 k0_pay17 k0_pay18
  pointwise

end Cert.OutSpec

end
-- ==== Proof.OutPre.lean ====
/- What the precondition on the arguments of the mixer's output gradient says: every argument holds real numbers. -/
module

public import proofs.«01_k».proof.Pre_finite_out
public import proofs.«01_k».proof.Proof.Reals
public import Idealize.ShloMosaic.Lib.WordCmp

@[expose] public section

noncomputable section

namespace Cert.Pre_finite_out

open Idealize.ShloMosaic Cert.Reals

/-- The arguments of the mixer's output gradient that enter its normalisation hold real numbers. -/
structure Real (x1 : FVec Ideal S2x2048x1024 .f32) (at_ cv : FVec Ideal S2x2048x512 .f32) (gt : FVec Ideal S2x1x1024 .f32)
    (w : FVec Ideal S1024x1024 .f32) (lg : FVec Ideal S1x1024 .f32) (dy : FVec Ideal S2x2048x1024 .f32) : Prop where
  x1 : ∀ i, IsR (x1 i)
  at_ : ∀ i, IsR (at_ i)
  cv : ∀ i, IsR (cv i)
  gt : ∀ i, IsR (gt i)
  w : ∀ i, IsR (w i)
  lg : ∀ i, IsR (lg i)
  dy : ∀ i, IsR (dy i)

variable [Facts]

instance : Subsingleton S_.Idx := ⟨fun i j => funext fun a => a.elim0⟩

theorem real_of (x1 : FVec Ideal S2x2048x1024 .f32) (at_ cv : FVec Ideal S2x2048x512 .f32) (gt : FVec Ideal S2x1x1024 .f32)
    (w : FVec Ideal S1024x1024 .f32) (lg lb : FVec Ideal S1x1024 .f32) (dy : FVec Ideal S2x2048x1024 .f32) (i : S_.Idx)
    (e : fn (F := Ideal) x1 at_ cv gt w lg lb dy i = 1#1) : Real x1 at_ cv gt w lg dy := by
  unfold fn at e
  try unfold fn_part1 at e
  simp only [WordCmp.andi_at] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨isR_of_all _ _ (fun _ => by pointwise [ofBits_inf]) _ _ _ _ e1, isR_of_all _ _ (fun _ => by pointwise [ofBits_inf]) _ _ _ _ e2,
    isR_of_all _ _ (fun _ => by pointwise [ofBits_inf]) _ _ _ _ e3, isR_of_all _ _ (fun _ => by pointwise [ofBits_inf]) _ _ _ _ e4,
    isR_of_all _ _ (fun _ => by pointwise [ofBits_inf]) _ _ _ _ e5, isR_of_all _ _ (fun _ => by pointwise [ofBits_inf]) _ _ _ _ e6,
    isR_of_all _ _ (fun _ => by pointwise [ofBits_inf]) _ _ _ _ e7⟩

end Cert.Pre_finite_out

end
-- ==== Proof.OutRef.lean ====
/- What the reference of the mixer's output gradient computes, read at an index. -/
module

public import proofs.«01_k».proof.Proof.Gen.OutRefIdeal.Read
public import proofs.«01_k».proof.Proof.OutPre
public import proofs.«01_k».proof.Proof.Norm
public import proofs.«01_k».proof.Proof.Tools

@[expose] public section

set_option maxRecDepth 16384

noncomputable section

namespace Cert.OutRefIdeal.At

open Idealize.ShloMosaic Idealize.ShloMosaic.TcCoe
open Cert.OutRefIdeal Cert.OutRefIdeal.Gen Cert.OutRefIdeal.Read Cert.Norm Cert.Reals

variable (x1 : FVec Ideal S2x2048x1024 .f32) (at_ cv : FVec Ideal S2x2048x512 .f32) (gt : FVec Ideal S2x1x1024 .f32)
  (w : FVec Ideal S1024x1024 .f32) (lg : FVec Ideal S1x1024 .f32) (dy : FVec Ideal S2x2048x1024 .f32) (b : Fin 2) (s : Fin 2048)

/-- The scale of the branch that bypasses the mixer. -/
abbrev alpha : EReal := Ideal.ofBits .f32 1066940400#32

/-- The two halves of the mixer's columns. -/
abbrev lo (i : Fin 512) : Fin 1024 := ⟨i.val, by omega⟩
abbrev hi (i : Fin 512) : Fin 1024 := ⟨512 + i.val, by omega⟩

/-- The mixer's output. -/
def mix (k : Fin 1024) : EReal := ∑ i : Fin 512, at_ (ix3 b s i) * w (ix2 (lo i) k) + ∑ i : Fin 512, cv (ix3 b s i) * w (ix2 (hi i) k)

/-- The row that the reference normalises. -/
def row (k : Fin 1024) : EReal := alpha * x1 (ix3 b s k) + (1 + gt (ix3 b 0 k)) * mix at_ cv w b s k

/-- The gradient by the normalised row. -/
def dxh (k : Fin 1024) : EReal := dy (ix3 b s k) * lg (ix2 0 k)

theorem v1_at (k : Fin 1024) : (val_main_v1 (F := Ideal) at_ cv w (ix3 b s k) : EReal) = mix at_ cv w b s k := by
  unfold val_main_v1 val_main_v0 mix
  pointwise

theorem v8_at (k : Fin 1024) : (val_main_v8 (F := Ideal) x1 at_ cv gt w (ix3 b s k) : EReal) = row x1 at_ cv gt w b s k := by
  unfold val_main_v8 val_main_v7 val_main_v6 val_main_v5 val_main_v4 val_main_v3 val_main_v2 val_main_cst val_main_cst_0 row
  pointwise [v1_at]

theorem v12_at (z : Fin 1) : (val_main_v12 (F := Ideal) x1 at_ cv gt w (ix3 b s z) : EReal) = mean (row x1 at_ cv gt w b s) := by
  unfold val_main_v12 val_main_v11 val_main_v10 val_main_v9 val_main_cst_1 val_main_cst_2 mean
  pointwise [v8_at]

theorem v14_at (k : Fin 1024) : (val_main_v14 (F := Ideal) x1 at_ cv gt w (ix3 b s k) : EReal) = ctr (row x1 at_ cv gt w b s) k := by
  unfold val_main_v14 val_main_v13 ctr
  pointwise [v8_at, v12_at]

theorem v23_at (k : Fin 1024) : (val_main_v23 (F := Ideal) x1 at_ cv gt w (ix3 b s k) : EReal) = ctr (row x1 at_ cv gt w b s) k := by
  unfold val_main_v23 val_main_v22 ctr
  pointwise [v8_at, v12_at]

theorem v25_at (z : Fin 1) : (val_main_v25 (F := Ideal) x1 at_ cv gt w (ix3 b s z) : EReal) = vare (row x1 at_ cv gt w b s) := by
  unfold val_main_v25 val_main_v24 val_main_v21 val_main_v20 val_main_v19 val_main_v18 val_main_v15 val_main_cst_4 val_main_cst_5 val_main_cst_6 vare mean
  pointwise [v14_at]

theorem v26_at (z : Fin 1) : (val_main_v26 (F := Ideal) x1 at_ cv gt w (ix3 b s z) : EReal) = rstd (row x1 at_ cv gt w b s) := by
  unfold val_main_v26 rstd
  pointwise [v25_at]

theorem v31_at (k : Fin 1024) : (val_main_v31 (F := Ideal) x1 at_ cv gt w (ix3 b s k) : EReal) = xhat (row x1 at_ cv gt w b s) k := by
  unfold val_main_v31 val_main_v30 xhat
  pointwise [v23_at, v26_at]

theorem v47_at (k : Fin 1024) : (val_main_v47 (F := Ideal) lg dy (ix3 b s k) : EReal) = dxh lg dy b s k := by
  unfold val_main_v47 val_main_v46 val_main_v38 val_main_v32 dxh
  pointwise

theorem v60_at (z : Fin 1) : (val_main_v60 (F := Ideal) x1 at_ cv gt w lg dy (ix3 b s z) : EReal)
    = refVar (dxh lg dy b s) (row x1 at_ cv gt w b s) := by
  unfold val_main_v60 val_main_v59 val_main_v55 val_main_v52 val_main_v51 val_main_v50 val_main_v29 val_main_v28 val_main_v27
    val_main_cst_7 val_main_cst_12 val_main_cst_14 refVar
  pointwise [v47_at, v23_at, v25_at, v26_at]

theorem v63_at (k : Fin 1024) : (val_main_v63 (F := Ideal) x1 at_ cv gt w lg dy (ix3 b s k) : EReal)
    = refVar (dxh lg dy b s) (row x1 at_ cv gt w b s) * (two * ctr (row x1 at_ cv gt w b s) k) := by
  unfold val_main_v63 val_main_v62 val_main_v61 val_main_v17 val_main_v16 val_main_cst_3 val_main_cst_15
  pointwise [v60_at, v14_at]
  rw [Fin.sum_univ_one]

theorem v54_at (k : Fin 1024) : (val_main_v54 (F := Ideal) x1 at_ cv gt w lg dy (ix3 b s k) : EReal)
    = dxh lg dy b s k * rstd (row x1 at_ cv gt w b s) := by
  unfold val_main_v54 val_main_v53
  pointwise [v47_at, v26_at]

theorem v70_at (z : Fin 1) : (val_main_v70 (F := Ideal) x1 at_ cv gt w lg dy (ix3 b s z) : EReal)
    = Ideal.div (∑ j, -(dxh lg dy b s j * rstd (row x1 at_ cv gt w b s))
      + ∑ j, -(refVar (dxh lg dy b s) (row x1 at_ cv gt w b s) * (two * ctr (row x1 at_ cv gt w b s) j))) len := by
  unfold val_main_v70 val_main_v69 val_main_v68 val_main_v66 val_main_v65 val_main_v64 val_main_v58 val_main_v57 val_main_v56
    val_main_cst_13 val_main_cst_16 val_main_cst_17
  pointwise [v54_at, v63_at]

/-- The gradient by the row that was normalised, as differentiation writes it. -/
theorem v73_ref (k : Fin 1024) : (val_main_v73 (F := Ideal) x1 at_ cv gt w lg dy (ix3 b s k) : EReal)
    = refBwd (dxh lg dy b s) (row x1 at_ cv gt w b s) k := by
  unfold val_main_v73 val_main_v72 val_main_v71 val_main_v67 val_main_cst_18 refBwd
  pointwise [v54_at, v63_at, v70_at]
  rw [Fin.sum_univ_one]

variable {x1 at_ cv gt w lg dy}

theorem isR_alpha : IsR alpha := ⟨9975792 / 8388608, by simp [alpha, Ideal.ofBits, Ideal.ieee, -EReal.coe_mul]; norm_num⟩

theorem isR_row (hr : Pre_finite_out.Real x1 at_ cv gt w lg dy) (k : Fin 1024) : IsR (row x1 at_ cv gt w b s k) :=
  (isR_alpha.mul (hr.x1 _)).add ((IsR.one.add (hr.gt _)).mul
    ((IsR.sum _ fun _ => (hr.at_ _).mul (hr.w _)).add (IsR.sum _ fun _ => (hr.cv _).mul (hr.w _))))

theorem isR_dxh (hr : Pre_finite_out.Real x1 at_ cv gt w lg dy) (k : Fin 1024) : IsR (dxh lg dy b s k) := (hr.dy _).mul (hr.lg _)

/-- The gradient by the row that was normalised. -/
def dr (x1 : FVec Ideal S2x2048x1024 .f32) (at_ cv : FVec Ideal S2x2048x512 .f32) (gt : FVec Ideal S2x1x1024 .f32)
    (w : FVec Ideal S1024x1024 .f32) (lg : FVec Ideal S1x1024 .f32) (dy : FVec Ideal S2x2048x1024 .f32) (b : Fin 2) (s : Fin 2048)
    (k : Fin 1024) : EReal := bwd (dxh lg dy b s) (row x1 at_ cv gt w b s) k

theorem v73_at (hr : Pre_finite_out.Real x1 at_ cv gt w lg dy) (k : Fin 1024) :
    (val_main_v73 (F := Ideal) x1 at_ cv gt w lg dy (ix3 b s k) : EReal) = dr x1 at_ cv gt w lg dy b s k :=
  (v73_ref ..).trans (refBwd_eq _ _ (isR_dxh b s hr) (isR_row b s hr) k)

/-- The token of a sequence, in the array of all tokens. -/
abbrev tok (b : Fin 2) (s : Fin 2048) : Fin 4096 := ⟨b.val * 2048 + s.val, by omega⟩

theorem v75_at (hr : Pre_finite_out.Real x1 at_ cv gt w lg dy) (k : Fin 1024) :
    (val_main_v75 (F := Ideal) x1 at_ cv gt w lg dy (ix3 b s k) : EReal) = (1 + gt (ix3 b 0 k)) * dr x1 at_ cv gt w lg dy b s k := by
  unfold val_main_v75 val_main_v74 val_main_v5 val_main_v4 val_main_cst_0
  pointwise [v73_at b s hr]

theorem v81_at (hr : Pre_finite_out.Real x1 at_ cv gt w lg dy) (i : Fin 1024) :
    (val_main_v81 (F := Ideal) x1 at_ cv gt w lg dy (ix3 b s i) : EReal)
      = ∑ k : Fin 1024, (1 + gt (ix3 b 0 k)) * dr x1 at_ cv gt w lg dy b s k * w (ix2 i k) := by
  unfold val_main_v81
  pointwise [v75_at b s hr]

/-- The gradient by the bypass. -/
theorem v84_at (hr : Pre_finite_out.Real x1 at_ cv gt w lg dy) (k : Fin 1024) :
    (val_main_v84 (F := Ideal) x1 at_ cv gt w lg dy (ix2 (tok b s) k) : EReal) = alpha * dr x1 at_ cv gt w lg dy b s k := by
  have hs : s.val < 2048 := s.isLt
  have hb : b.val < 2 := b.isLt
  rw [← v73_at b s hr]
  unfold val_main_v84 val_main_v80 val_main_v79 val_main_cst_20
  generalize val_main_v73 (F := Ideal) x1 at_ cv gt w lg dy = X
  pointwise
  simp only [show (b.val * 2048 + s.val) / 2048 = b.val by omega, show (b.val * 2048 + s.val) % 2048 = s.val by omega]

/-- The gradients by the two halves of the mixer's input. -/
theorem v86_at (hr : Pre_finite_out.Real x1 at_ cv gt w lg dy) (i : Fin 512) :
    (val_main_v86 (F := Ideal) x1 at_ cv gt w lg dy (ix2 (tok b s) i) : EReal)
      = ∑ k : Fin 1024, (1 + gt (ix3 b 0 k)) * dr x1 at_ cv gt w lg dy b s k * w (ix2 (lo i) k) := by
  have hs : s.val < 2048 := s.isLt
  have hb : b.val < 2 := b.isLt
  rw [← v81_at b s hr]
  unfold val_main_v86 val_main_v85 val_main_v82
  generalize val_main_v81 (F := Ideal) x1 at_ cv gt w lg dy = X
  pointwise
  simp only [show (b.val * 2048 + s.val) / 2048 = b.val by omega, show (b.val * 2048 + s.val) % 2048 = s.val by omega]

theorem v88_at (hr : Pre_finite_out.Real x1 at_ cv gt w lg dy) (i : Fin 512) :
    (val_main_v88 (F := Ideal) x1 at_ cv gt w lg dy (ix2 (tok b s) i) : EReal)
      = ∑ k : Fin 1024, (1 + gt (ix3 b 0 k)) * dr x1 at_ cv gt w lg dy b s k * w (ix2 (hi i) k) := by
  have hs : s.val < 2048 := s.isLt
  have hb : b.val < 2 := b.isLt
  rw [← v81_at b s hr]
  unfold val_main_v88 val_main_v87 val_main_v83
  generalize val_main_v81 (F := Ideal) x1 at_ cv gt w lg dy = X
  pointwise
  simp only [show (b.val * 2048 + s.val) / 2048 = b.val by omega, show (b.val * 2048 + s.val) % 2048 = s.val by omega]

/-- The gradient by the mixer's output. -/
theorem v90_at (hr : Pre_finite_out.Real x1 at_ cv gt w lg dy) (k : Fin 1024) :
    (val_main_v90 (F := Ideal) x1 at_ cv gt w lg dy (ix2 (tok b s) k) : EReal) = (1 + gt (ix3 b 0 k)) * dr x1 at_ cv gt w lg dy b s k := by
  have hs : s.val < 2048 := s.isLt
  have hb : b.val < 2 := b.isLt
  rw [← v75_at b s hr]
  unfold val_main_v90 val_main_v89
  generalize val_main_v75 (F := Ideal) x1 at_ cv gt w lg dy = X
  pointwise
  simp only [show (b.val * 2048 + s.val) / 2048 = b.val by omega, show (b.val * 2048 + s.val) % 2048 = s.val by omega]

/-- The gradient by the gain. -/
theorem v91_at0 (k : Fin 1024) : (val_main_v91 (F := Ideal) x1 at_ cv gt w dy (ix2 0 k) : EReal)
    = ∑ b : Fin 2, ∑ s : Fin 2048, dy (ix3 b s k) * xhat (row x1 at_ cv gt w b s) k := by
  unfold val_main_v91 val_main_v49 val_main_v48 val_main_v45 val_main_v44 val_main_v43 val_main_v38 val_main_cst_10 val_main_cst_11
  pointwise [v31_at, Tools.hostReduceAdd_lead3]
  simp only [Fin.sum_univ_one, mul_comm]

/-- The gradient by the bias. -/
theorem v91_at1 (k : Fin 1024) : (val_main_v91 (F := Ideal) x1 at_ cv gt w dy (ix2 1 k) : EReal)
    = ∑ b : Fin 2, ∑ s : Fin 2048, dy (ix3 b s k) := by
  unfold val_main_v91 val_main_v42 val_main_v41 val_main_v40 val_main_v39 val_main_cst_8 val_main_cst_9
  pointwise [Tools.hostReduceAdd_lead3]
  simp only [Fin.sum_univ_one]

/-- The gradient by the gate. -/
theorem v78_at (hr : Pre_finite_out.Real x1 at_ cv gt w lg dy) (z : Fin 1) (k : Fin 1024) :
    (val_main_v78 (F := Ideal) x1 at_ cv gt w lg dy (ix3 b z k) : EReal)
      = ∑ s : Fin 2048, dr x1 at_ cv gt w lg dy b s k * mix at_ cv w b s k := by
  unfold val_main_v78 val_main_v77 val_main_v76 val_main_cst_19
  pointwise [v73_at b _ hr, v1_at]

end Cert.OutRefIdeal.At

end
-- ==== Proof.OutHost.lean ====
/- What the arrays that the kernel of the mixer's output gradient reads hold, in the terms of the reference. -/
module

public import proofs.«01_k».proof.Proof.OutSpec
public import proofs.«01_k».proof.Proof.OutRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.OutIdeal.Value

open Cert.OutIdeal Cert.OutIdeal.Gen Cert.OutRefIdeal.At

variable (m : (ℓ : Loc nD τ sig) → Buf (Elt Ideal) ℓ) (c : Dev nD) (b : Fin 2) (s : Fin 2048)

/-- The arguments: the block's input, the two halves of the mixer's input, the gate, the mixer's weights, the gain, and the
    gradient that comes in. -/
abbrev X1 : FVec Ideal S2x2048x1024 .f32 := m ((c : Thread nD τ).loc main_arg0)
abbrev At : FVec Ideal S2x2048x512 .f32 := m ((c : Thread nD τ).loc main_arg1)
abbrev Cv : FVec Ideal S2x2048x512 .f32 := m ((c : Thread nD τ).loc main_arg2)
abbrev Gt : FVec Ideal S2x1x1024 .f32 := m ((c : Thread nD τ).loc main_arg3)
abbrev W : FVec Ideal S1024x1024 .f32 := m ((c : Thread nD τ).loc main_arg4)
abbrev Lg : FVec Ideal S1x1024 .f32 := m ((c : Thread nD τ).loc main_arg5)
abbrev Dy : FVec Ideal S2x2048x1024 .f32 := m ((c : Thread nD τ).loc main_arg7)

theorem v13_in (k : Fin 1024) : (V m c main_v13 (ix2 (tok b s) k) : EReal) = Dy m c (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

/-- The row to normalise, computed before the kernel. -/
theorem v14_in (k : Fin 1024) : (V m c main_v14 (ix2 (tok b s) k) : EReal) = row (X1 m c) (At m c) (Cv m c) (Gt m c) (W m c) b s k := by
  have hs : s.val < 2048 := s.isLt
  have hb : b.val < 2 := b.isLt
  entry_read
  pointwise
  simp only [show (b.val * 2048 + s.val) / 2048 = b.val by omega, show (b.val * 2048 + s.val) % 2048 = s.val by omega]
  rfl

/-- The mixer's output, computed before the kernel. -/
theorem v16_in (k : Fin 1024) : (V m c main_v16 (ix2 (tok b s) k) : EReal) = mix (At m c) (Cv m c) (W m c) b s k := by
  have hs : s.val < 2048 := s.isLt
  have hb : b.val < 2 := b.isLt
  entry_read
  pointwise
  simp only [show (b.val * 2048 + s.val) / 2048 = b.val by omega, show (b.val * 2048 + s.val) % 2048 = s.val by omega]
  rfl

theorem v0_in (i k : Fin 1024) : (V m c main_v0 (ix2 i k) : EReal) = W m c (ix2 i k) := by
  entry_read
  pointwise

end Cert.OutIdeal.Value

end
-- ==== Proof.OutBlocks.lean ====
/- What the blocks of the kernel of the mixer's output gradient hold at each grid point, and where its results land. -/
module

public import proofs.«01_k».proof.Proof.OutHost

@[expose] public section

set_option maxRecDepth 16384

noncomputable section

open Idealize.ShloMosaic Idealize.ShloMosaic.TcCoe Idealize.SL.Sem

namespace Cert.OutIdeal.Value

open Cert.OutIdeal Cert.OutIdeal.Gen Cert.OutRefIdeal.At Cert.Norm

variable (m : (ℓ : Loc nD τ sig) → Buf (Elt Ideal) ℓ) (c : Dev nD) (t : Fin cfg0.N) (s : Fin 512)

theorem idx : ∀ t : Fin cfg0.N, win0_0.index t = ![t.val, 0] ∧ win0_1.index t = ![t.val, 0]
    ∧ win0_2.index t = ![t.val, 0] ∧ win0_3.index t = ![t.val / 4, 0, 0] ∧ win0_4.index t = ![0, 0]
    ∧ win0_5.index t = ![0, 0] ∧ win0_6.index t = ![t.val, 0]
    ∧ win0_7.index t = ![t.val, 0] ∧ win0_8.index t = ![t.val, 0] ∧ win0_9.index t = ![t.val, 0]
    ∧ win0_10.index t = ![0, 0] ∧ win0_11.index t = ![t.val / 4, 0, 0] :=
  (by decide +kernel : ∀ t : Fin grid0.N, _)

/-- The token a row of a grid point's block stands for. -/
abbrev tokOf (t : Fin cfg0.N) (s : Fin 512) : Fin 4096 :=
  ⟨t.val * 512 + s.val, by have := lt_of_lt_of_eq t.isLt N_0; omega⟩

/-- The sequence a grid point works on. -/
abbrev seqOf (t : Fin cfg0.N) : Fin 2 := ⟨t.val / 4, by have := lt_of_lt_of_eq t.isLt N_0; omega⟩

/-- The place of a row in its sequence. -/
abbrev pos (t : Fin cfg0.N) (s : Fin 512) : Fin 2048 := ⟨t.val % 4 * 512 + s.val, by omega⟩

theorem tokOf_eq : tokOf t s = tok (seqOf t) (pos t s) := Fin.ext (by show t.val * 512 + s.val = t.val / 4 * 2048 + (t.val % 4 * 512 + s.val); omega)

theorem blk0 (k : Fin 1024) : (iblk m c 0 t (ix2 s k) : EReal) = Dy m c (ix3 (seqOf t) (pos t s) k) := by
  rw [← v13_in, ← tokOf_eq]
  blk_point [iblk, idx t]

theorem blk1 (k : Fin 1024) : (iblk m c 1 t (ix2 s k) : EReal) = row (X1 m c) (At m c) (Cv m c) (Gt m c) (W m c) (seqOf t) (pos t s) k := by
  rw [← v14_in, ← tokOf_eq]
  blk_point [iblk, idx t]

theorem blk2 (k : Fin 1024) : (iblk m c 2 t (ix2 s k) : EReal) = mix (At m c) (Cv m c) (W m c) (seqOf t) (pos t s) k := by
  rw [← v16_in, ← tokOf_eq]
  blk_point [iblk, idx t]

theorem blk3 (k : Fin 1024) : (iblk m c 3 t (ix3 0 0 k) : EReal) = Gt m c (ix3 (seqOf t) 0 k) := by
  blk_point [iblk, V, idx t]

theorem blk4 (i k : Fin 1024) : (iblk m c 4 t (ix2 i k) : EReal) = W m c (ix2 i k) := by
  rw [← v0_in]
  blk_point [iblk, idx t]

theorem blk5 (k : Fin 1024) : (iblk m c 5 t (ix2 0 k) : EReal) = Lg m c (ix2 0 k) := by
  blk_point [iblk, V, idx t]

theorem emb6 (k : Fin 1024) : ((cfg0.win 6).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb7 (k : Fin 512) : ((cfg0.win 7).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb8 (k : Fin 512) : ((cfg0.win 8).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb9 (k : Fin 1024) : ((cfg0.win 9).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb10 (i : Fin 2) (k : Fin 1024) : ((cfg0.win 10).blk t).view.emb (ix2 i k) = ix2 i k := by
  funext a
  apply Fin.ext
  match a with
  | ⟨0, _⟩ => blk_simp [idx t]
  | ⟨1, _⟩ => blk_simp [idx t]

theorem emb11 (z z' : Fin 1) (k : Fin 1024) : ((cfg0.win 11).blk t).view.emb (ix3 z z' k) = ix3 (seqOf t) z' k := by
  obtain rfl : z = 0 := Subsingleton.elim _ _
  obtain rfl : z' = 0 := Subsingleton.elim _ _
  funext a
  apply Fin.ext
  match a with
  | ⟨0, _⟩ => blk_simp [idx t]; rfl
  | ⟨1, _⟩ => blk_simp [idx t]
  | ⟨2, _⟩ => blk_simp [idx t]

end Cert.OutIdeal.Value

end
-- ==== Proof.Tiles.lean ====
/- Sums gathered tile by tile: eight tiles of 512 rows make two sequences of 2048. -/
module

public import proofs.«01_k».proof.Proof.Reals
public import Idealize.ShloMosaic.Lib.Pipeline.ValueKit

@[expose] public section

noncomputable section

namespace Cert.Tiles

open Idealize.ShloMosaic

/-- The sequence of a tile, and the place in it of one of the tile's rows. -/
abbrev seq {N : ℕ} (hN : N = 8) (t : Fin N) : Fin 2 := ⟨t.val / 4, by omega⟩
abbrev place {N : ℕ} (t : Fin N) (r : Fin 512) : Fin 2048 := ⟨t.val % 4 * 512 + r.val, by omega⟩

/-- A sum over a sequence, tile by tile. -/
theorem sum_seq (f : Fin 2048 → EReal) : ∑ k : Fin 4, ∑ r : Fin 512, f ⟨k.val * 512 + r.val, by omega⟩ = ∑ s, f s := by
  rw [← Fintype.sum_prod_type']
  exact Fintype.sum_equiv (finProdFinEquiv.trans (finCongr (by decide))) _ _
    fun ⟨k, r⟩ => congrArg f (Fin.ext (by show k.val * 512 + r.val = r.val + 512 * k.val; omega))

/-- A sum over all tiles, sequence by sequence. -/
theorem sum_two (f : Fin 8 → EReal) : ∑ t, f t = ∑ b : Fin 2, ∑ k : Fin 4, f ⟨b.val * 4 + k.val, by omega⟩ := by
  rw [← Fintype.sum_prod_type']
  exact (Fintype.sum_equiv (finProdFinEquiv.trans (finCongr (by decide))) _ _
    fun ⟨b, k⟩ => congrArg f (Fin.ext (by show b.val * 4 + k.val = k.val + 4 * b.val; omega))).symm

variable {N : ℕ} (hN : N = 8) (f : (n : ℕ) → n < N → EReal) (part : Fin 2 → Fin 2048 → EReal)

include hN in
/-- A sum that restarts with each sequence holds the whole sequence at its last tile. -/
theorem of_seq
    (hA : ∀ t : Fin N, t.val % 4 = 0 → f t.val t.isLt = ∑ r : Fin 512, part (seq hN t) (place t r))
    (hB : ∀ t : Fin N, ¬ t.val % 4 = 0 → f t.val t.isLt
      = f (t.val - 1) (Nat.lt_of_le_of_lt (Nat.sub_le _ _) t.isLt) + ∑ r : Fin 512, part (seq hN t) (place t r))
    (t : Fin N) (h : t.val % 4 = 3) : f t.val t.isLt = ∑ s : Fin 2048, part (seq hN t) s := by
  have ht : t.val < 8 := lt_of_lt_of_eq t.isLt hN
  have e := Pipeline.eq_sum_of_reset_step_of_mod (M := EReal) (N := N) f 4 0
    (fun n => ∑ r : Fin 512, part ⟨n / 4 % 2, Nat.mod_lt _ (by decide)⟩ ⟨n % 4 * 512 + r.val, by omega⟩)
    (fun u hu => by
      have hu8 : u.val < 8 := lt_of_lt_of_eq u.isLt hN
      refine (hA u hu).trans ((Finset.sum_congr rfl fun r _ => ?_).trans (zero_add _).symm)
      exact congrArg (fun b => part b (place u r)) (Fin.ext (by show u.val / 4 = u.val / 4 % 2; omega)))
    (fun u hu => by
      have hu8 : u.val < 8 := lt_of_lt_of_eq u.isLt hN
      refine (hB u hu).trans (congrArg (_ + ·) (Finset.sum_congr rfl fun r _ => ?_))
      exact congrArg (fun b => part b (place u r)) (Fin.ext (by show u.val / 4 = u.val / 4 % 2; omega)))
    t h
  refine e.trans ?_
  rw [zero_add, Finset.sum_range, ← sum_seq]
  refine Finset.sum_congr rfl fun q _ => Finset.sum_congr rfl fun r _ => ?_
  exact congrArg₂ (fun a b => part a b) (Fin.ext (by show (4 * (t.val / 4) + q.val) / 4 % 2 = t.val / 4; omega))
    (Fin.ext (by show (4 * (t.val / 4) + q.val) % 4 * 512 + r.val = q.val * 512 + r.val; omega))

include hN in
/-- A sum that starts at the first tile and goes on holds all rows at the last one. -/
theorem of_all
    (hA : ∀ t : Fin N, t.val % 8 = 0 → f t.val t.isLt = ∑ r : Fin 512, part (seq hN t) (place t r))
    (hB : ∀ t : Fin N, ¬ t.val % 8 = 0 → f t.val t.isLt
      = f (t.val - 1) (Nat.lt_of_le_of_lt (Nat.sub_le _ _) t.isLt) + ∑ r : Fin 512, part (seq hN t) (place t r))
    (t : Fin N) (h : t.val % 8 = 7) : f t.val t.isLt = ∑ b : Fin 2, ∑ s : Fin 2048, part b s := by
  have e := Pipeline.eq_sum_of_reset_step_single_of_mod (M := EReal) (N := N) f 8 0
    (fun n => ∑ r : Fin 512, part ⟨n / 4 % 2, Nat.mod_lt _ (by decide)⟩ ⟨n % 4 * 512 + r.val, by omega⟩)
    (fun u hu => by
      have hu8 : u.val < 8 := lt_of_lt_of_eq u.isLt hN
      refine (hA u hu).trans ((Finset.sum_congr rfl fun r _ => ?_).trans (zero_add _).symm)
      exact congrArg (fun b => part b (place u r)) (Fin.ext (by show u.val / 4 = u.val / 4 % 2; omega)))
    (fun u hu => by
      have hu8 : u.val < 8 := lt_of_lt_of_eq u.isLt hN
      refine (hB u hu).trans (congrArg (_ + ·) (Finset.sum_congr rfl fun r _ => ?_))
      exact congrArg (fun b => part b (place u r)) (Fin.ext (by show u.val / 4 = u.val / 4 % 2; omega)))
    hN.le t h
  refine e.trans ?_
  rw [zero_add, Finset.sum_range]
  refine (sum_two _).trans (Finset.sum_congr rfl fun b _ => ?_)
  rw [← sum_seq]
  refine Finset.sum_congr rfl fun q _ => Finset.sum_congr rfl fun r _ => ?_
  exact congrArg₂ (fun a b => part a b) (Fin.ext (by show (b.val * 4 + q.val) / 4 % 2 = b.val; omega))
    (Fin.ext (by show (b.val * 4 + q.val) % 4 * 512 + r.val = q.val * 512 + r.val; omega))

end Cert.Tiles

end
-- ==== Proof.OutValue.lean ====
/- What the results of the mixer's output gradient hold after the kernel, in the terms of the reference. -/
module

public import proofs.«01_k».proof.Proof.OutBlocks
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen Cert.OutRefIdeal.At Cert.OutSpec Cert.Norm

variable (m : (ℓ : Loc nD τ sig) → Buf (Elt Ideal) ℓ) (c : Dev nD) (t : Fin cfg0.N) (s : Fin 512)

/-- The row that is normalised, the mixer's output, and the gradient by that row, of one token. -/
abbrev Row (b : Fin 2) (r : Fin 2048) : Fin 1024 → EReal := row (X1 m c) (At m c) (Cv m c) (Gt m c) (W m c) b r
abbrev Mix (b : Fin 2) (r : Fin 2048) : Fin 1024 → EReal := mix (At m c) (Cv m c) (W m c) b r
abbrev Dr (b : Fin 2) (r : Fin 2048) : Fin 1024 → EReal := dr (X1 m c) (At m c) (Cv m c) (Gt m c) (W m c) (Lg m c) (Dy m c) b r

theorem row_block : (fun j => (iblk m c 1 t (ix2 s j) : EReal)) = Row m c (seqOf t) (pos t s) := funext fun j => blk1 m c t s j

theorem dr_block (k : Fin 1024) : (k0_pay11 (iblk m c 0 t) (iblk m c 1 t) (iblk m c 5 t) (ix2 s k) : EReal) = Dr m c (seqOf t) (pos t s) k :=
  (dr_at _ _ _ s k).trans (congrArg₂ (fun w r => bwd w r k) (funext fun j => congrArg₂ (· * ·) (blk0 m c t s j) (blk5 m c t j))
    (row_block m c t s))

/-- At the first tile of all, at one that goes on with a sequence, and at one that begins the second sequence. -/
theorem cases3 : (t.val % 8 = 0 ∧ t.val % 4 = 0) ∨ (¬ t.val % 8 = 0 ∧ ¬ t.val % 4 = 0) ∨ (¬ t.val % 8 = 0 ∧ t.val % 4 = 0) := by omega

theorem out6 (k : Fin 1024) : ((outsAt0 m c t.val t.isLt).1 (ix2 s k) : EReal) = alpha * Dr m c (seqOf t) (pos t s) k := by
  rcases cases3 t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    exact (pay2_at s _ k).trans (congrArg (alpha * ·) (dr_block m c t s k))

/-- The gradient by the mixer's output, at a row of the block. -/
abbrev Dm (b : Fin 2) (r : Fin 2048) (k : Fin 1024) : EReal := (1 + Gt m c (ix3 b 0 k)) * Dr m c b r k

theorem out9 (k : Fin 1024) : ((outsAt0 m c t.val t.isLt).2.2.2.1 (ix2 s k) : EReal) = Dm m c (seqOf t) (pos t s) k := by
  rcases cases3 t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    exact (pay3_at s _ _ k).trans (congrArg₂ (fun g d => (1 + g) * d) (blk3 m c t k) (dr_block m c t s k))

theorem dmw_block (i k : Fin 1024) : (1 + iblk m c 3 t (ix3 0 0 k) : EReal) * k0_pay11 (iblk m c 0 t) (iblk m c 1 t) (iblk m c 5 t) (ix2 s k) * iblk m c 4 t (ix2 i k)
    = Dm m c (seqOf t) (pos t s) k * W m c (ix2 i k) := by
  rw [blk3, dr_block, blk4]

theorem out7 (i : Fin 512) : ((outsAt0 m c t.val t.isLt).2.1 (ix2 s i) : EReal) = ∑ k : Fin 1024, Dm m c (seqOf t) (pos t s) k * W m c (ix2 (lo i) k) := by
  rcases cases3 t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    exact (pay5_at s _ _ _ i).trans (Finset.sum_congr rfl fun k _ => dmw_block m c t s (lo i) k)

theorem out8 (i : Fin 512) : ((outsAt0 m c t.val t.isLt).2.2.1 (ix2 s i) : EReal) = ∑ k : Fin 1024, Dm m c (seqOf t) (pos t s) k * W m c (ix2 (hi i) k) := by
  rcases cases3 t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    exact (pay6_at s _ _ _ i).trans (Finset.sum_congr rfl fun k _ => dmw_block m c t s (hi i) k)

/-- What a row adds to the gradient by the gate. -/
def gpart (k : Fin 1024) (b : Fin 2) (r : Fin 2048) : EReal := Dr m c b r k * Mix m c b r k

theorem gate_block (k : Fin 1024) (p : Vec Ideal S1x1x1024 .f32) (q : EReal) (hp : (p (ix3 0 0 k) : EReal) = q) :
    (k0_pay1 (k0_pay17 p) (k0_pay18 (k0_pay11 (iblk m c 0 t) (iblk m c 1 t) (iblk m c 5 t)) (iblk m c 2 t)) (ix3 0 0 k) : EReal)
      = q + ∑ r : Fin 512, gpart m c k (seqOf t) (pos t r) := by
  rw [pay1_at, hp]
  exact congrArg (q + ·) (Finset.sum_congr rfl fun r _ => congrArg₂ (· * ·) (dr_block m c t r k) (blk2 m c t r k))

theorem gateB (h : ¬ t.val % 4 = 0) (k : Fin 1024) : ((outsAt0 m c t.val t.isLt).2.2.2.2.2 (ix3 0 0 k) : EReal)
      = (outsAt0 m c (t.val - 1) (Nat.lt_of_le_of_lt (Nat.sub_le _ _) t.isLt)).2.2.2.2.2 (ix3 0 0 k)
        + ∑ r : Fin 512, gpart m c k (seqOf t) (pos t r) := by
  rw [outsAt0_B m c t (by omega) h]
  frame_out
  refine gate_block m c t k _ _ ?_
  pointwise

theorem gateA (h : t.val % 4 = 0) (k : Fin 1024) : ((outsAt0 m c t.val t.isLt).2.2.2.2.2 (ix3 0 0 k) : EReal)
      = ∑ r : Fin 512, gpart m c k (seqOf t) (pos t r) := by
  by_cases h0 : t.val % 8 = 0
  on_goal 1 => rw [outsAt0_A m c t h0 h]
  on_goal 2 => rw [outsAt0_C m c t h0 h]
  all_goals
    frame_out
    refine (gate_block m c t k _ 0 ?_).trans (zero_add _)
    pointwise [k0_pay14]

/-- What a row adds to the gradients by the gain and by the bias. -/
def npart (i : Fin 2) (k : Fin 1024) (b : Fin 2) (r : Fin 2048) : EReal :=
  if i = 0 then Dy m c (ix3 b r k) * xhat (Row m c b r) k else Dy m c (ix3 b r k)

theorem gain_block (k : Fin 1024) (p : Vec Ideal S1x1024 .f32) (q : EReal) (hp : (p (ix2 0 k) : EReal) = q) :
    (k0_pay15 (k0_pay12 (iblk m c 0 t) (iblk m c 1 t)) p (ix2 0 k) : EReal) = q + ∑ r : Fin 512, npart m c 0 k (seqOf t) (pos t r) := by
  rw [pay15_at, hp, dgain_at]
  exact congrArg (q + ·) (Finset.sum_congr rfl fun r _ => congrArg₂ (fun a f => a * xhat f k) (blk0 m c t r k) (row_block m c t r))

theorem bias_block (k : Fin 1024) (p : Vec Ideal S1x1024 .f32) (q : EReal) (hp : (p (ix2 0 k) : EReal) = q) :
    (k0_pay16 (k0_pay7 (iblk m c 0 t)) p (ix2 0 k) : EReal) = q + ∑ r : Fin 512, npart m c 1 k (seqOf t) (pos t r) := by
  rw [pay16_at, hp]
  refine congrArg (q + ·) (Finset.sum_congr rfl fun r _ => Eq.trans ?_ (blk0 m c t r k))
  unfold k0_pay7
  pointwise

theorem normB (h : ¬ t.val % 8 = 0) (i : Fin 2) (k : Fin 1024) : ((outsAt0 m c t.val t.isLt).2.2.2.2.1 (ix2 i k) : EReal)
      = (outsAt0 m c (t.val - 1) (Nat.lt_of_le_of_lt (Nat.sub_le _ _) t.isLt)).2.2.2.2.1 (ix2 i k)
        + ∑ r : Fin 512, npart m c i k (seqOf t) (pos t r) := by
  by_cases h1 : t.val % 4 = 0
  on_goal 1 => rw [outsAt0_C m c t h h1]
  on_goal 2 => rw [outsAt0_B m c t h h1]
  all_goals
    frame_out
    canon_tiles x h
    all_goals
      obtain ⟨z, k', rfl⟩ : ∃ z k', x = ix2 z k' := ⟨_, _, ValueIdx.eq_ix2 x⟩
      obtain rfl : k = k' := Fin.ext h1
      obtain rfl : z = 0 := Subsingleton.elim _ _
    case piece0 =>
      obtain rfl : i = 1 := Fin.ext h0
      refine bias_block m c t k _ _ ?_
      pointwise
    case piece1 =>
      obtain rfl : i = 0 := Fin.ext h0
      refine gain_block m c t k _ _ ?_
      pointwise

theorem normA (h : t.val % 8 = 0) (i : Fin 2) (k : Fin 1024) : ((outsAt0 m c t.val t.isLt).2.2.2.2.1 (ix2 i k) : EReal)
      = ∑ r : Fin 512, npart m c i k (seqOf t) (pos t r) := by
  rw [outsAt0_A m c t h (by omega)]
  frame_out
  simp (disch := decide) only [↓ View.readCov_skip, ↓ View.readCov_cons_toLoadRect, ↓ View.readCov_fill]
  refine View.canon_append_of_piecesOf (Val := Elt Ideal) (s := S2x1024) (e := .f32)
    (fun y => ∑ r : Fin 512, npart m c (y 0) (y 1) (seqOf t) (pos t r)) [_] [_, _]
    ⟨fun x => ?_, fun x => ?_, trivial⟩ (ix2 i k) ?_
  rotate_left 2
  · exact View.cover_of_tiledL _ ![1, 1024] rfl _
  all_goals
    obtain ⟨z, k', rfl⟩ : ∃ z k', x = ix2 z k' := ⟨_, _, ValueIdx.eq_ix2 x⟩
    obtain rfl : z = 0 := Subsingleton.elim _ _
  · refine (bias_block m c t k' _ 0 ?_).trans ?_
    · pointwise [k0_pay13]
    · rw [zero_add]
      exact congrArg₂ (fun a b => ∑ r : Fin 512, npart m c a b (seqOf t) (pos t r)) (rfl : (1 : Fin 2) = _) (Fin.ext (by show k'.val = 0 + 1 * k'.val; omega) : k' = _)
  · refine (gain_block m c t k' _ 0 ?_).trans ?_
    · pointwise [k0_pay13]
    · rw [zero_add]
      exact congrArg₂ (fun a b => ∑ r : Fin 512, npart m c a b (seqOf t) (pos t r)) (rfl : (0 : Fin 2) = _) (Fin.ext (by show k'.val = 0 + 1 * k'.val; omega) : k' = _)

theorem out10 (h : t.val % 8 = 7) (i : Fin 2) (k : Fin 1024) : ((outsAt0 m c t.val t.isLt).2.2.2.2.1 (ix2 i k) : EReal)
    = ∑ b : Fin 2, ∑ r : Fin 2048, npart m c i k b r :=
  Tiles.of_all N_0 (fun n hn => (outsAt0 m c n hn).2.2.2.2.1 (ix2 i k)) (npart m c i k) (fun u hu => normA m c u hu i k)
    (fun u hu => normB m c u hu i k) t h

theorem out11 (h : t.val % 4 = 3) (z z' : Fin 1) (k : Fin 1024) : ((outsAt0 m c t.val t.isLt).2.2.2.2.2 (ix3 z z' k) : EReal)
    = ∑ r : Fin 2048, gpart m c k (seqOf t) r := by
  obtain rfl : z = 0 := Subsingleton.elim _ _
  obtain rfl : z' = 0 := Subsingleton.elim _ _
  exact Tiles.of_seq N_0 (fun n hn => (outsAt0 m c n hn).2.2.2.2.2 (ix3 0 0 k)) (gpart m c k) (fun u hu => gateA m c u hu k)
    (fun u hu => gateB m c u hu k) t h

theorem npart_eq (i : Fin 2) (k : Fin 1024) : ∑ b : Fin 2, ∑ r : Fin 2048, npart m c i k b r
    = OutRefIdeal.Read.val_main_v91 (F := Ideal) (X1 m c) (At m c) (Cv m c) (Gt m c) (W m c) (Dy m c) (ix2 i k) := by
  match i with
  | 0 => exact (v91_at0 _).symm
  | 1 => exact (v91_at1 _).symm

/-- The gradients by the gain and by the bias, whole. -/
theorem final10 : (dats m 0 c).arrAt 10 (cfgs 0).N = OutRefIdeal.Read.val_main_v91 (F := Ideal) (X1 m c) (At m c) (Cv m c) (Gt m c) (W m c) (Dy m c) := by
  refine (dats m 0 c).arrAt_eq_of_covers 10 _ (by decide +kernel) fun t hf y => ?_
  blk_simp
  rw [after0_10, ValueIdx.eq_ix2 y]
  exact (out10 m c t ((flush0_10 t).mp hf) _ _).trans ((npart_eq m c _ _).trans (congrArg _ (emb10 t _ _).symm))

variable (hr : Pre_finite_out.Real (X1 m c) (At m c) (Cv m c) (Gt m c) (W m c) (Lg m c) (Dy m c))

include hr

/-- The gradient by the bypass, whole. -/
theorem final6 : (dats m 0 c).arrAt 6 (cfgs 0).N
    = OutRefIdeal.Read.val_main_v84 (F := Ideal) (X1 m c) (At m c) (Cv m c) (Gt m c) (W m c) (Lg m c) (Dy m c) := by
  refine (dats m 0 c).arrAt_eq_of_covers 6 _ (by decide +kernel) fun t hf y => ?_
  blk_simp
  rw [after0_6, ValueIdx.eq_ix2 y]
  exact (out6 m c t _ _).trans ((v84_at _ _ hr _).symm.trans (congrArg _ (emb6 t _ _).symm))

/-- The gradient by the first half of the mixer's input, whole. -/
theorem final7 : (dats m 0 c).arrAt 7 (cfgs 0).N
    = OutRefIdeal.Read.val_main_v86 (F := Ideal) (X1 m c) (At m c) (Cv m c) (Gt m c) (W m c) (Lg m c) (Dy m c) := by
  refine (dats m 0 c).arrAt_eq_of_covers 7 _ (by decide +kernel) fun t hf y => ?_
  blk_simp
  rw [after0_7, ValueIdx.eq_ix2 y]
  exact (out7 m c t _ _).trans ((v86_at _ _ hr _).symm.trans (congrArg _ (emb7 t _ _).symm))

/-- The gradient by the second half of the mixer's input, whole. -/
theorem final8 : (dats m 0 c).arrAt 8 (cfgs 0).N
    = OutRefIdeal.Read.val_main_v88 (F := Ideal) (X1 m c) (At m c) (Cv m c) (Gt m c) (W m c) (Lg m c) (Dy m c) := by
  refine (dats m 0 c).arrAt_eq_of_covers 8 _ (by decide +kernel) fun t hf y => ?_
  blk_simp
  rw [after0_8, ValueIdx.eq_ix2 y]
  exact (out8 m c t _ _).trans ((v88_at _ _ hr _).symm.trans (congrArg _ (emb8 t _ _).symm))

/-- The gradient by the mixer's output, whole. -/
theorem final9 : (dats m 0 c).arrAt 9 (cfgs 0).N
    = OutRefIdeal.Read.val_main_v90 (F := Ideal) (X1 m c) (At m c) (Cv m c) (Gt m c) (W m c) (Lg m c) (Dy m c) := by
  refine (dats m 0 c).arrAt_eq_of_covers 9 _ (by decide +kernel) fun t hf y => ?_
  blk_simp
  rw [after0_9, ValueIdx.eq_ix2 y]
  exact (out9 m c t _ _).trans ((v90_at _ _ hr _).symm.trans (congrArg _ (emb9 t _ _).symm))

/-- The gradient by the gate, whole. -/
theorem final11 : (dats m 0 c).arrAt 11 (cfgs 0).N
    = OutRefIdeal.Read.val_main_v78 (F := Ideal) (X1 m c) (At m c) (Cv m c) (Gt m c) (W m c) (Lg m c) (Dy m c) := by
  refine (dats m 0 c).arrAt_eq_of_covers 11 _ (by decide +kernel) fun t hf y => ?_
  blk_simp
  rw [after0_11, ValueIdx.eq_ix3 y]
  exact (out11 m c t ((flush0_11 t).mp hf) _ _ _).trans ((v78_at _ hr _ _).symm.trans (congrArg _ (emb11 t _ _ _).symm))

end Cert.OutIdeal.Value

end
-- ==== Proof.OutClaim.lean ====
/- The gradient of the mixer's output projection and its norm: kernel and reference leave the same six arrays. -/
module

public import proofs.«01_k».proof.Defs
public import proofs.«01_k».proof.Proof.Gen.OutRefIdeal.Run
public import proofs.«01_k».proof.Proof.Gen.Pre_finite_out
public import proofs.«01_k».proof.Proof.OutValue

@[expose] public section

noncomputable section

open Idealize.ShloMosaic Idealize.SL.Sem

namespace Cert.OutClaim

open Cert.OutRefIdeal.Read

/-- The reference ends, leaves its arguments alone and has no counters. -/
theorem frame_ref : @Cert.quiescent_OutRefIdeal Cert.OutRefIdeal.Gen.facts := fun m ρ _ =>
  (θ_run Cert.OutRefIdeal.defs _ _).mono (fun r h => ⟨fun c => (h c).2.2.2.2.2.2, sem_eq_zero_of_no_sems (by decide) r.2⟩)
    (Cert.OutRefIdeal.Value.run (F := Ideal) m ρ)

set_option maxHeartbeats 2000000 in
/-- The value claim. -/
theorem value : @Cert.algebraic_OutIdeal_OutRefIdeal_pre_finite_out Cert.OutIdeal.Gen.facts Cert.OutRefIdeal.Gen.facts Cert.Pre_finite_out.Gen.facts := by
  intro m g m' g' hp hm
  refine ⟨fun c => (Cert.OutIdeal.Gen.dats m 0 c).arrAt 6 (Cert.OutIdeal.cfgs 0).N, fun c => (Cert.OutIdeal.Gen.dats m 0 c).arrAt 7 (Cert.OutIdeal.cfgs 0).N,
    fun c => (Cert.OutIdeal.Gen.dats m 0 c).arrAt 8 (Cert.OutIdeal.cfgs 0).N, fun c => (Cert.OutIdeal.Gen.dats m 0 c).arrAt 9 (Cert.OutIdeal.cfgs 0).N,
    fun c => (Cert.OutIdeal.Gen.dats m 0 c).arrAt 10 (Cert.OutIdeal.cfgs 0).N, fun c => (Cert.OutIdeal.Gen.dats m 0 c).arrAt 11 (Cert.OutIdeal.cfgs 0).N,
    Cert.OutIdeal.Value.run_blocks m g, ?_⟩
  refine (θ_run Cert.OutRefIdeal.defs _ _).mono (fun r h c => ?_) (Cert.OutRefIdeal.Value.run m' g')
  obtain ⟨h0, h1, h2, h3, h4, h5, hk⟩ := h c
  obtain ⟨e0, e1, e2, e3, e4, e5, e6, e7⟩ := hm c
  have hr := @Cert.Pre_finite_out.real_of Cert.Pre_finite_out.Gen.facts _ _ _ _ _ _ _ _ (fun a => a.elim0) (congrFun (hp c) _)
  have f0 := Cert.OutIdeal.Value.final6 m c hr
  have f1 := Cert.OutIdeal.Value.final7 m c hr
  have f2 := Cert.OutIdeal.Value.final8 m c hr
  have f3 := Cert.OutIdeal.Value.final9 m c hr
  have f4 := Cert.OutIdeal.Value.final10 m c
  have f5 := Cert.OutIdeal.Value.final11 m c hr
  rw [val_main_v84_eq] at h0
  rw [val_main_v86_eq] at h1
  rw [val_main_v88_eq] at h2
  rw [val_main_v90_eq] at h3
  rw [val_main_v91_eq] at h4
  rw [val_main_v78_eq] at h5
  rw [e0, e1, e2, e3, e4, e5, e7] at h0 h1 h2 h3 h5
  rw [e0, e1, e2, e3, e4, e7] at h4
  exact ⟨h0.trans f0.symm, h1.trans f1.symm, h2.trans f2.symm, h3.trans f3.symm, h4.trans f4.symm, h5.trans f5.symm, hk⟩

end Cert.OutClaim

end
-- ==== Proof.LossPre.lean ====
/- What the precondition on the arguments of the loss and its gradient says: every argument holds real numbers. -/
module

public import proofs.«01_k».proof.Pre_finite_loss
public import proofs.«01_k».proof.Proof.Reals
public import Idealize.ShloMosaic.Lib.WordCmp

@[expose] public section

noncomputable section

namespace Cert.Pre_finite_loss

open Idealize.ShloMosaic Cert.Reals

/-- The arguments of the loss and its gradient hold real numbers. -/
structure Real (x : FVec Ideal S2x2048x1024 .f32) (sh sc gt : FVec Ideal S2x1x1024 .f32) (w : FVec Ideal S1024x5632 .f32)
    (wd : FVec Ideal S2816x1024 .f32) (lg lb : FVec Ideal S1x1024 .f32) (tg : FVec Ideal S2x2048x1024 .f32) : Prop where
  x : ∀ i, IsR (x i)
  sh : ∀ i, IsR (sh i)
  sc : ∀ i, IsR (sc i)
  gt : ∀ i, IsR (gt i)
  w : ∀ i, IsR (w i)
  wd : ∀ i, IsR (wd i)
  lg : ∀ i, IsR (lg i)
  lb : ∀ i, IsR (lb i)
  tg : ∀ i, IsR (tg i)

variable [Facts]

instance : Subsingleton S_.Idx := ⟨fun i j => funext fun a => a.elim0⟩

theorem real_of (x : FVec Ideal S2x2048x1024 .f32) (sh sc gt : FVec Ideal S2x1x1024 .f32) (w : FVec Ideal S1024x5632 .f32)
    (wd : FVec Ideal S2816x1024 .f32) (lg lb : FVec Ideal S1x1024 .f32) (tg : FVec Ideal S2x2048x1024 .f32) (i : S_.Idx)
    (e : fn (F := Ideal) x sh sc gt w wd lg lb tg i = 1#1) : Real x sh sc gt w wd lg lb tg := by
  unfold fn at e
  try unfold fn_part1 at e
  try unfold fn_part2 at e
  simp only [WordCmp.andi_at] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨isR_of_all _ _ (fun _ => by pointwise [ofBits_inf]) _ _ _ _ e1, isR_of_all _ _ (fun _ => by pointwise [ofBits_inf]) _ _ _ _ e2,
    isR_of_all _ _ (fun _ => by pointwise [ofBits_inf]) _ _ _ _ e3, isR_of_all _ _ (fun _ => by pointwise [ofBits_inf]) _ _ _ _ e4,
    isR_of_all _ _ (fun _ => by pointwise [ofBits_inf]) _ _ _ _ e5, isR_of_all _ _ (fun _ => by pointwise [ofBits_inf]) _ _ _ _ e6,
    isR_of_all _ _ (fun _ => by pointwise [ofBits_inf]) _ _ _ _ e7, isR_of_all _ _ (fun _ => by pointwise [ofBits_inf]) _ _ _ _ e8,
    isR_of_all _ _ (fun _ => by pointwise [ofBits_inf]) _ _ _ _ e9⟩

end Cert.Pre_finite_loss

end
-- ==== Proof.LossSpec.lean ====
/- What one block of the loss and its gradient computes, in plain formulas over the arrays it loads. -/
module

public import proofs.«01_k».proof.Proof.Gen.LossIdeal.Value
public import proofs.«01_k».proof.Proof.Norm
public import proofs.«01_k».proof.Proof.Gated
public import Idealize.ShloMosaic.Lib.Pointwise

@[expose] public section

set_option maxRecDepth 16384

noncomputable section

namespace Cert.LossSpec

open Idealize.ShloMosaic Idealize.ShloMosaic.TcCoe Cert.LossIdeal Cert.LossIdeal.Gen Cert.Norm Cert.Gated

/-- The scale of the branch that bypasses the unit, one half, and one over the row's length. -/
abbrev alpha : EReal := Ideal.ofBits .f32 1066940400#32
abbrev half : EReal := Ideal.ofBits .f32 1056964608#32
abbrev ilen : EReal := Ideal.ofBits .f32 981467136#32

/-- A gated hidden column, from the two products it is made of. -/
def actOf (g u : EReal) : EReal := g * sg g * u

/-- The unit's output at one column: the hidden columns, gated, against the column's weights. -/
def accOf (H : Fin 1024 → EReal) (G U : Fin 2816 → Fin 1024 → EReal) (D : Fin 2816 → EReal) : EReal :=
  ∑ j, actOf (∑ k, H k * G j k) (∑ k, H k * U j k) * D j

section Unit

variable (v0 : Vec Ideal S512x1024 .f32) (v2 v8 : Vec Ideal S1x1x1024 .f32) (v15 v18 v43 v46 : Vec Ideal S1x1024x1024 .bf16)
  (v71 v74 : Vec Ideal S1x768x1024 .bf16) (v39 v67 : Vec Ideal S1024x1024 .bf16) (v95 : Vec Ideal S768x1024 .bf16)
  (v12 : FVec Ideal S512x1024 .bf16) (s : Fin 512)

theorem pay2_at (k : Fin 1024) : (k0_pay2 v0 (ix2 s k) : EReal) = v0 (ix2 s k) := by
  unfold k0_pay2
  pointwise

/-- The modulated input. -/
theorem pay3_at (k : Fin 1024) : (k0_pay3 v0 v2 v8 (ix2 s k) : EReal) = v0 (ix2 s k) * (1 + v2 (ix3 0 0 k)) + v8 (ix3 0 0 k) := by
  unfold k0_pay3
  pointwise [pay2_at]

theorem pay5_at (j : Fin 1024) : (k0_pay5 v0 v2 v8 v15 (ix2 s j) : EReal) = ∑ k : Fin 1024, k0_pay3 v0 v2 v8 (ix2 s k) * v15 (ix3 0 j k) := by
  unfold k0_pay5
  pointwise

theorem pay6_at (j : Fin 1024) : (k0_pay6 v0 v2 v8 v18 (ix2 s j) : EReal) = ∑ k : Fin 1024, k0_pay3 v0 v2 v8 (ix2 s k) * v18 (ix3 0 j k) := by
  unfold k0_pay6
  pointwise

theorem pay7_at (j : Fin 1024) : (k0_pay7 v0 v2 v8 v15 (ix3 0 s j) : EReal) = ∑ k : Fin 1024, k0_pay3 v0 v2 v8 (ix2 s k) * v15 (ix3 0 j k) := by
  unfold k0_pay7
  pointwise [pay5_at]

theorem pay8_at (j : Fin 1024) : (k0_pay8 v0 v2 v8 v18 (ix3 0 s j) : EReal) = ∑ k : Fin 1024, k0_pay3 v0 v2 v8 (ix2 s k) * v18 (ix3 0 j k) := by
  unfold k0_pay8
  pointwise [pay6_at]

theorem pay9_at (g u : FVec Ideal S512x1024 .f32) (j : Fin 1024) :
    (k0_pay9 g u (FloatOps.ofBits .f32 0#32) (ix2 s j) : EReal) = actOf (g (ix2 s j)) (u (ix2 s j)) := by
  unfold k0_pay9 actOf sg
  pointwise

theorem pay10_at (v14 g u : FVec Ideal S512x1024 .f32) (k : Fin 1024) :
    (k0_pay10 v14 g u (FloatOps.ofBits .f32 0#32) v39 (ix2 s k) : EReal)
      = v14 (ix2 s k) + ∑ j : Fin 1024, actOf (g (ix2 s j)) (u (ix2 s j)) * v39 (ix2 j k) := by
  unfold k0_pay10 k0_pay9 actOf sg
  pointwise

theorem pay11_at (j : Fin 1024) : (k0_pay11 v12 v43 (ix2 s j) : EReal) = ∑ k : Fin 1024, v12 (ix2 s k) * v43 (ix3 0 j k) := by
  unfold k0_pay11
  pointwise

theorem pay12_at (j : Fin 1024) : (k0_pay12 v12 v46 (ix2 s j) : EReal) = ∑ k : Fin 1024, v12 (ix2 s k) * v46 (ix3 0 j k) := by
  unfold k0_pay12
  pointwise

theorem pay13_at (j : Fin 1024) : (k0_pay13 v12 v43 (ix3 0 s j) : EReal) = ∑ k : Fin 1024, v12 (ix2 s k) * v43 (ix3 0 j k) := by
  unfold k0_pay13
  pointwise [pay11_at]

theorem pay14_at (j : Fin 1024) : (k0_pay14 v12 v46 (ix3 0 s j) : EReal) = ∑ k : Fin 1024, v12 (ix2 s k) * v46 (ix3 0 j k) := by
  unfold k0_pay14
  pointwise [pay12_at]

theorem pay16_at (j : Fin 1024) : (k0_pay16 (k0_pay12 v12 v46) (k0_pay15 v12 v43) (ix2 s j) : EReal)
    = actOf (∑ k : Fin 1024, v12 (ix2 s k) * v43 (ix3 0 j k)) (∑ k : Fin 1024, v12 (ix2 s k) * v46 (ix3 0 j k)) := by
  unfold k0_pay16 k0_pay15 actOf sg
  pointwise [pay11_at, pay12_at]

theorem pay17_at (v42 : FVec Ideal S512x1024 .f32) (k : Fin 1024) : (k0_pay17 v42 (k0_pay12 v12 v46) (k0_pay15 v12 v43) v67 (ix2 s k) : EReal)
    = v42 (ix2 s k) + ∑ j : Fin 1024, actOf (∑ k : Fin 1024, v12 (ix2 s k) * v43 (ix3 0 j k)) (∑ k : Fin 1024, v12 (ix2 s k) * v46 (ix3 0 j k)) * v67 (ix2 j k) := by
  unfold k0_pay17
  pointwise [pay16_at]

theorem pay18_at (j : Fin 768) : (k0_pay18 v12 v71 (ix2 s j) : EReal) = ∑ k : Fin 1024, v12 (ix2 s k) * v71 (ix3 0 j k) := by
  unfold k0_pay18
  pointwise

theorem pay19_at (j : Fin 768) : (k0_pay19 v12 v74 (ix2 s j) : EReal) = ∑ k : Fin 1024, v12 (ix2 s k) * v74 (ix3 0 j k) := by
  unfold k0_pay19
  pointwise

theorem pay20_at (j : Fin 768) : (k0_pay20 v12 v71 (ix3 0 s j) : EReal) = ∑ k : Fin 1024, v12 (ix2 s k) * v71 (ix3 0 j k) := by
  unfold k0_pay20
  pointwise [pay18_at]

theorem pay21_at (j : Fin 768) : (k0_pay21 v12 v74 (ix3 0 s j) : EReal) = ∑ k : Fin 1024, v12 (ix2 s k) * v74 (ix3 0 j k) := by
  unfold k0_pay21
  pointwise [pay19_at]

theorem pay22_at (j : Fin 768) : (k0_pay22 v12 v71 v74 (ix2 s j) : EReal)
    = actOf (∑ k : Fin 1024, v12 (ix2 s k) * v71 (ix3 0 j k)) (∑ k : Fin 1024, v12 (ix2 s k) * v74 (ix3 0 j k)) := by
  unfold k0_pay22 actOf sg
  pointwise [pay18_at, pay19_at]

theorem pay23_at (v70 : FVec Ideal S512x1024 .f32) (v93 : FVec Ideal S512x768 .bf16) (k : Fin 1024) : (k0_pay23 v70 v93 v95 (ix2 s k) : EReal)
    = v70 (ix2 s k) + ∑ j : Fin 768, v93 (ix2 s j) * v95 (ix2 j k) := by
  unfold k0_pay23
  pointwise

theorem pay4_at (i : S512x1024.Idx) : (k0_pay4 (F := Ideal) i : EReal) = 0 := by unfold k0_pay4; pointwise

/-- The unit's output, from the chunks that hold the weights. -/
theorem acc_at (k : Fin 1024) (H : Fin 1024 → EReal) (G U : Fin 2816 → Fin 1024 → EReal) (D : Fin 2816 → EReal)
    (hH : ∀ x, k0_pay3 v0 v2 v8 (ix2 s x) = H x)
    (h15 : ∀ j x, v15 (ix3 0 j x) = G (c0 j) x) (h43 : ∀ j x, v43 (ix3 0 j x) = G (c1 j) x) (h71 : ∀ j x, v71 (ix3 0 j x) = G (c2 j) x)
    (h18 : ∀ j x, v18 (ix3 0 j x) = U (c0 j) x) (h46 : ∀ j x, v46 (ix3 0 j x) = U (c1 j) x) (h74 : ∀ j x, v74 (ix3 0 j x) = U (c2 j) x)
    (h39 : ∀ j, v39 (ix2 j k) = D (c0 j)) (h67 : ∀ j, v67 (ix2 j k) = D (c1 j)) (h95 : ∀ j, v95 (ix2 j k) = D (c2 j)) :
    (k0_pay23 (k0_pay17 (k0_pay10 k0_pay4 (k0_pay5 v0 v2 v8 v15) (k0_pay6 v0 v2 v8 v18) (FloatOps.ofBits .f32 0#32) v39)
        (k0_pay12 (k0_pay3 v0 v2 v8) v46) (k0_pay15 (k0_pay3 v0 v2 v8) v43) v67) (k0_pay22 (k0_pay3 v0 v2 v8) v71 v74) v95 (ix2 s k) : EReal)
      = accOf H G U D := by
  rw [pay23_at, pay17_at, pay10_at, pay4_at]
  simp only [pay5_at, pay6_at, pay22_at, hH, h15, h43, h71, h18, h46, h74, h39, h67, h95]
  unfold accOf
  rw [sum3 fun j => actOf (∑ k, H k * G j k) (∑ k, H k * U j k) * D j, zero_add]

end Unit

section Norm

variable (v1 v70 : FVec Ideal S512x1024 .f32) (v93 : FVec Ideal S512x768 .bf16) (v95 : Vec Ideal S768x1024 .bf16) (v99 : Vec Ideal S1x1x1024 .f32)
  (lg lb : Vec Ideal S1x1024 .f32) (tg : Vec Ideal S512x1024 .f32) (s : Fin 512)

/-- The row that is normalised. -/
def rowOf (k : Fin 1024) : EReal := alpha * v1 (ix2 s k) + half * (1 + v99 (ix3 0 0 k)) * k0_pay23 v70 v93 v95 (ix2 s k)

theorem ctr_at (i : Fin 1024) : (k0_pay25 v1 v70 v93 v95 v99 (ix2 s i) : EReal) = ctr (rowOf v1 v70 v93 v95 v99 s) i := by
  unfold k0_pay25 k0_pay24 ctr mean rowOf
  pointwise

theorem rstd_at (z : Fin 1) : (k0_pay26 v1 v70 v93 v95 v99 (ix2 s z) : EReal) = rstd (rowOf v1 v70 v93 v95 v99 s) := by
  unfold k0_pay26 rstd vare mean
  pointwise [ctr_at]

theorem xhat_at (i : Fin 1024) : (k0_pay27 v1 v70 v93 v95 v99 (ix2 s i) : EReal) = xhat (rowOf v1 v70 v93 v95 v99 s) i := by
  unfold k0_pay27 xhat
  pointwise [ctr_at, rstd_at]

/-- The distance from the target. -/
theorem err_at (i : Fin 1024) : (k0_pay28 v1 v70 v93 v95 v99 lg lb tg (ix2 s i) : EReal)
    = xhat (rowOf v1 v70 v93 v95 v99 s) i * lg (ix2 0 i) + lb (ix2 0 i) - tg (ix2 s i) := by
  unfold k0_pay28
  pointwise [xhat_at]

theorem pay30_at (e : FVec Ideal S512x1024 .f32) (i : Fin 1024) : (k0_pay30 e k0_pay29 (ix2 s i) : EReal) = e (ix2 s i) * ilen := by
  unfold k0_pay30 k0_pay29
  pointwise

/-- The gradient by the row that was normalised. -/
theorem dr_at (e : FVec Ideal S512x1024 .f32) (i : Fin 1024) :
    (k0_pay31 (k0_pay26 v1 v70 v93 v95 v99) (k0_pay27 v1 v70 v93 v95 v99) e k0_pay29 lg (ix2 s i) : EReal)
      = bwd (fun j => e (ix2 s j) * ilen * lg (ix2 0 j)) (rowOf v1 v70 v93 v95 v99 s) i := by
  unfold k0_pay31 bwd mean
  pointwise [rstd_at, xhat_at, pay30_at]

theorem pay32_at (x e : FVec Ideal S512x1024 .f32) (i : Fin 1024) : (k0_pay32 x e k0_pay29 (ix2 0 i) : EReal)
    = ∑ s : Fin 512, e (ix2 s i) * ilen * x (ix2 s i) := by
  unfold k0_pay32
  pointwise [pay30_at]

theorem pay33_at (e : FVec Ideal S512x1024 .f32) (i : Fin 1024) : (k0_pay33 e k0_pay29 (ix2 0 i) : EReal)
    = ∑ s : Fin 512, e (ix2 s i) * ilen := by
  unfold k0_pay33
  pointwise [pay30_at]

theorem pay24_at (i : Fin 1024) : (k0_pay24 v99 (ix2 0 i) : EReal) = half * (1 + v99 (ix3 0 0 i)) := by
  unfold k0_pay24
  pointwise

theorem pay34_at (g : FVec Ideal S1x1024 .f32) (a : FVec Ideal S512x1 .f32) (b e d : FVec Ideal S512x1024 .f32) (i : Fin 1024) :
    (k0_pay34 g a b e d lg (ix2 s i) : EReal) = g (ix2 0 i) * k0_pay31 a b e d lg (ix2 s i) := by
  unfold k0_pay34
  pointwise

theorem pay39_at (a : FVec Ideal S1x1024 .f32) (p : Vec Ideal S1x1024 .f32) (i : Fin 1024) :
    (k0_pay39 a p (ix2 0 i) : EReal) = p (ix2 0 i) + a (ix2 0 i) := by
  unfold k0_pay39
  pointwise

theorem pay40_at (a : FVec Ideal S1x1024 .f32) (p : Vec Ideal S1x1024 .f32) (i : Fin 1024) :
    (k0_pay40 a p (ix2 0 i) : EReal) = p (ix2 0 i) + a (ix2 0 i) := by
  unfold k0_pay40
  pointwise

/-- A block's addition to the gradient by the gate. -/
theorem pay1_at (acc dr : FVec Ideal S512x1024 .f32) (p : Vec Ideal S1x1x1024 .f32) (i : Fin 1024) :
    (k0_pay1 (k0_pay41 p) (k0_pay42 acc dr) (ix3 0 0 i) : EReal) = p (ix3 0 0 i) + ∑ s : Fin 512, dr (ix2 s i) * (half * acc (ix2 s i)) := by
  unfold k0_pay1 k0_pay41 k0_pay42
  pointwise

theorem pay38_at (e : FVec Ideal S512x1024 .f32) (p : Vec Ideal S1x128 .f32) (i : Fin 128) :
    (k0_pay38 e p (ix2 0 i) : EReal) = p (ix2 0 i) + Ideal.ofBits .f32 973078528#32 * ∑ s : Fin 512, ∑ k : Fin 1024, e (ix2 s k) * e (ix2 s k) := by
  unfold k0_pay38
  pointwise

end Norm

end Cert.LossSpec

end
-- ==== Proof.LossRef.lean ====
/- What the reference of the loss and its gradient computes, read at an index. -/
module

public import proofs.«01_k».proof.Proof.Gen.LossRefIdeal.Read
public import proofs.«01_k».proof.Proof.LossPre
public import proofs.«01_k».proof.Proof.LossSpec
public import proofs.«01_k».proof.Proof.Tools

@[expose] public section

set_option maxRecDepth 16384

noncomputable section

namespace Cert.LossRefIdeal.At

open Idealize.ShloMosaic Idealize.ShloMosaic.TcCoe
open Cert.LossRefIdeal Cert.LossRefIdeal.Gen Cert.LossRefIdeal.Read Cert.Norm Cert.Reals Cert.Gated Cert.LossSpec

variable (x : FVec Ideal S2x2048x1024 .f32) (sh sc gt : FVec Ideal S2x1x1024 .f32) (w : FVec Ideal S1024x5632 .f32)
  (wd : FVec Ideal S2816x1024 .f32) (lg lb : FVec Ideal S1x1024 .f32) (tg : FVec Ideal S2x2048x1024 .f32) (b : Fin 2) (s : Fin 2048)

/-- The columns of the joint weight array that make the gate, and those that make the linear half. -/
abbrev lo (j : Fin 2816) : Fin 5632 := ⟨j.val, by omega⟩
abbrev hi (j : Fin 2816) : Fin 5632 := ⟨2816 + j.val, by omega⟩

/-- The modulated input. -/
def hid (k : Fin 1024) : EReal := x (ix3 b s k) * (1 + sc (ix3 b 0 k)) + sh (ix3 b 0 k)

/-- The product of the modulated input with one column of the joint weight array. -/
def up (j : Fin 5632) : EReal := ∑ k : Fin 1024, hid x sh sc b s k * w (ix2 k j)

/-- A gated hidden column. -/
def act (j : Fin 2816) : EReal := actOf (up x sh sc w b s (lo j)) (up x sh sc w b s (hi j))

/-- The unit's output. -/
def acc (k : Fin 1024) : EReal := ∑ j : Fin 2816, act x sh sc w b s j * wd (ix2 j k)

/-- The row that the reference normalises. -/
def row (k : Fin 1024) : EReal := alpha * x (ix3 b s k) + half * (1 + gt (ix3 b 0 k)) * acc x sh sc w wd b s k

/-- The distance from the target. -/
def err (k : Fin 1024) : EReal := xhat (row x sh sc gt w wd b s) k * lg (ix2 0 k) + lb (ix2 0 k) - tg (ix3 b s k)

/-- The gradient by the normalised row. -/
def dxh (k : Fin 1024) : EReal := err x sh sc gt w wd lg lb tg b s k * ilen * lg (ix2 0 k)

theorem v5_at (k : Fin 1024) : (val_main_v5 (F := Ideal) x sh sc (ix3 b s k) : EReal) = hid x sh sc b s k := by
  unfold val_main_v5 val_main_v4 val_main_v3 val_main_v2 val_main_v1 val_main_v0 val_main_cst hid
  pointwise

theorem v6_at (j : Fin 5632) : (val_main_v6 (F := Ideal) x sh sc w (ix3 b s j) : EReal) = up x sh sc w b s j := by
  unfold val_main_v6 up
  pointwise [v5_at]

theorem v7_at (j : Fin 2816) : (val_main_v7 (F := Ideal) x sh sc w (ix3 b s j) : EReal) = up x sh sc w b s (lo j) := by
  rw [← v6_at]
  unfold val_main_v7
  pointwise

theorem v8_at (j : Fin 2816) : (val_main_v8 (F := Ideal) x sh sc w (ix3 b s j) : EReal) = up x sh sc w b s (hi j) := by
  rw [← v6_at]
  unfold val_main_v8
  pointwise

theorem v10_at (j : Fin 2816) : (val_main_v10 (F := Ideal) x sh sc w (ix3 b s j) : EReal) = act x sh sc w b s j := by
  unfold val_main_v10 val_main_v9 val_main_call0_v5 val_main_call0_v4 val_main_call0_v3 val_main_call0_v2 val_main_call0_v1 val_main_call0_v0 val_main_call0_cst val_main_call0_cst_0 act actOf sg
  pointwise [v7_at, v8_at]
  rw [zero_sub]

theorem v11_at (k : Fin 1024) : (val_main_v11 (F := Ideal) x sh sc w wd (ix3 b s k) : EReal) = acc x sh sc w wd b s k := by
  unfold val_main_v11 acc
  pointwise [v10_at]

theorem v20_at (k : Fin 1024) : (val_main_v20 (F := Ideal) x sh sc gt w wd (ix3 b s k) : EReal) = row x sh sc gt w wd b s k := by
  unfold val_main_v20 val_main_v19 val_main_v18 val_main_v17 val_main_v16 val_main_v15 val_main_v14 val_main_v13 val_main_v12 val_main_cst_0 val_main_cst_1 val_main_cst_2 row
  pointwise [v11_at]

theorem v24_at (z : Fin 1) : (val_main_v24 (F := Ideal) x sh sc gt w wd (ix3 b s z) : EReal) = mean (row x sh sc gt w wd b s) := by
  unfold val_main_v24 val_main_v23 val_main_v22 val_main_v21 val_main_cst_3 val_main_cst_4 mean
  pointwise [v20_at]

theorem v26_at (k : Fin 1024) : (val_main_v26 (F := Ideal) x sh sc gt w wd (ix3 b s k) : EReal) = ctr (row x sh sc gt w wd b s) k := by
  unfold val_main_v26 val_main_v25 ctr
  pointwise [v20_at, v24_at]

theorem v35_at (k : Fin 1024) : (val_main_v35 (F := Ideal) x sh sc gt w wd (ix3 b s k) : EReal) = ctr (row x sh sc gt w wd b s) k := by
  unfold val_main_v35 val_main_v34 ctr
  pointwise [v20_at, v24_at]

theorem v37_at (z : Fin 1) : (val_main_v37 (F := Ideal) x sh sc gt w wd (ix3 b s z) : EReal) = vare (row x sh sc gt w wd b s) := by
  unfold val_main_v37 val_main_v36 val_main_v33 val_main_v32 val_main_v31 val_main_v30 val_main_v27 val_main_cst_6 val_main_cst_7 val_main_cst_8 vare mean
  pointwise [v26_at]

theorem v38_at (z : Fin 1) : (val_main_v38 (F := Ideal) x sh sc gt w wd (ix3 b s z) : EReal) = rstd (row x sh sc gt w wd b s) := by
  unfold val_main_v38 rstd
  pointwise [v37_at]

theorem v43_at (k : Fin 1024) : (val_main_v43 (F := Ideal) x sh sc gt w wd (ix3 b s k) : EReal) = xhat (row x sh sc gt w wd b s) k := by
  unfold val_main_v43 val_main_v42 xhat
  pointwise [v35_at, v38_at]

theorem v50_at (k : Fin 1024) : (val_main_v50 (F := Ideal) x sh sc gt w wd lg lb tg (ix3 b s k) : EReal) = err x sh sc gt w wd lg lb tg b s k := by
  unfold val_main_v50 val_main_v49 val_main_v48 val_main_v47 val_main_v46 val_main_v45 val_main_v44 err
  pointwise [v43_at]

theorem half_eq : half = ((1 / 2 : ℝ) : EReal) := by simp [half, Ideal.ofBits, Ideal.ieee, -EReal.coe_mul]; norm_num
theorem ilen_eq : ilen = ((1 / 1024 : ℝ) : EReal) := by simp [ilen, Ideal.ofBits, Ideal.ieee, -EReal.coe_mul]; norm_num

/-- Half of twice the distance over the row's length. -/
theorem scale (e : EReal) : Ideal.div (half * 1) len * (two * e) = e * ilen := by
  rw [half_eq, two_eq, ilen_eq, mul_one, div_len, ← mul_assoc, ← EReal.coe_mul, mul_comm]
  congr 2
  norm_num

theorem v64_at (k : Fin 1024) : (val_main_v64 (F := Ideal) x sh sc gt w wd lg lb tg (ix3 b s k) : EReal) = err x sh sc gt w wd lg lb tg b s k * ilen := by
  rw [← scale]
  unfold val_main_v64 val_main_v63 val_main_v62 val_main_v61 val_main_v60 val_main_v59 val_main_v53 val_main_v52 val_main_cst_10 val_main_cst_15 val_main_cst_16 val_main_cst_17
  pointwise [v50_at]

theorem v73_at (k : Fin 1024) : (val_main_v73 (F := Ideal) x sh sc gt w wd lg lb tg (ix3 b s k) : EReal) = dxh x sh sc gt w wd lg lb tg b s k := by
  unfold val_main_v73 val_main_v72 val_main_v44 dxh
  pointwise [v64_at]

theorem v86_at (z : Fin 1) : (val_main_v86 (F := Ideal) x sh sc gt w wd lg lb tg (ix3 b s z) : EReal)
    = refVar (dxh x sh sc gt w wd lg lb tg b s) (row x sh sc gt w wd b s) := by
  unfold val_main_v86 val_main_v85 val_main_v81 val_main_v78 val_main_v77 val_main_v76 val_main_v41 val_main_v40 val_main_v39
    val_main_cst_9 val_main_cst_22 val_main_cst_24 refVar
  pointwise [v73_at, v35_at, v37_at, v38_at]

theorem v89_at (k : Fin 1024) : (val_main_v89 (F := Ideal) x sh sc gt w wd lg lb tg (ix3 b s k) : EReal)
    = refVar (dxh x sh sc gt w wd lg lb tg b s) (row x sh sc gt w wd b s) * (two * ctr (row x sh sc gt w wd b s) k) := by
  unfold val_main_v89 val_main_v88 val_main_v87 val_main_v29 val_main_v28 val_main_cst_5 val_main_cst_25
  pointwise [v86_at, v26_at]
  rw [Fin.sum_univ_one]

theorem v80_at (k : Fin 1024) : (val_main_v80 (F := Ideal) x sh sc gt w wd lg lb tg (ix3 b s k) : EReal)
    = dxh x sh sc gt w wd lg lb tg b s k * rstd (row x sh sc gt w wd b s) := by
  unfold val_main_v80 val_main_v79
  pointwise [v73_at, v38_at]

theorem v96_at (z : Fin 1) : (val_main_v96 (F := Ideal) x sh sc gt w wd lg lb tg (ix3 b s z) : EReal)
    = Ideal.div (∑ j, -(dxh x sh sc gt w wd lg lb tg b s j * rstd (row x sh sc gt w wd b s))
      + ∑ j, -(refVar (dxh x sh sc gt w wd lg lb tg b s) (row x sh sc gt w wd b s) * (two * ctr (row x sh sc gt w wd b s) j))) len := by
  unfold val_main_v96 val_main_v95 val_main_v94 val_main_v92 val_main_v91 val_main_v90 val_main_v84 val_main_v83 val_main_v82
    val_main_cst_23 val_main_cst_26 val_main_cst_27
  pointwise [v80_at, v89_at]

/-- The gradient by the row that was normalised, as differentiation writes it. -/
theorem v99_ref (k : Fin 1024) : (val_main_v99 (F := Ideal) x sh sc gt w wd lg lb tg (ix3 b s k) : EReal)
    = refBwd (dxh x sh sc gt w wd lg lb tg b s) (row x sh sc gt w wd b s) k := by
  unfold val_main_v99 val_main_v98 val_main_v97 val_main_v93 val_main_cst_28 refBwd
  pointwise [v80_at, v89_at, v96_at]
  rw [Fin.sum_univ_one]

/-- The gradient by the row that was normalised. -/
def dr (k : Fin 1024) : EReal := bwd (dxh x sh sc gt w wd lg lb tg b s) (row x sh sc gt w wd b s) k

variable {x sh sc gt w wd lg lb tg}

theorem isR_alpha : IsR alpha := ⟨9975792 / 8388608, by simp [alpha, Ideal.ofBits, Ideal.ieee, -EReal.coe_mul]; norm_num⟩

theorem isR_up (hr : Pre_finite_loss.Real x sh sc gt w wd lg lb tg) (j : Fin 5632) : IsR (up x sh sc w b s j) :=
  IsR.sum _ fun _ => (((hr.x _).mul (IsR.one.add (hr.sc _))).add (hr.sh _)).mul (hr.w _)

theorem isR_acc (hr : Pre_finite_loss.Real x sh sc gt w wd lg lb tg) (k : Fin 1024) : IsR (acc x sh sc w wd b s k) :=
  IsR.sum _ fun _ => (((isR_up b s hr _).mul (isR_sg (isR_up b s hr _))).mul (isR_up b s hr _)).mul (hr.wd _)

theorem isR_row (hr : Pre_finite_loss.Real x sh sc gt w wd lg lb tg) (k : Fin 1024) : IsR (row x sh sc gt w wd b s k) :=
  (isR_alpha.mul (hr.x _)).add (((show IsR half from ⟨_, half_eq⟩).mul (IsR.one.add (hr.gt _))).mul (isR_acc b s hr k))

theorem isR_err (hr : Pre_finite_loss.Real x sh sc gt w wd lg lb tg) (k : Fin 1024) : IsR (err x sh sc gt w wd lg lb tg b s k) :=
  (((isR_xhat _ (isR_row b s hr) k).mul (hr.lg _)).add (hr.lb _)).sub (hr.tg _)

theorem isR_dxh (hr : Pre_finite_loss.Real x sh sc gt w wd lg lb tg) (k : Fin 1024) : IsR (dxh x sh sc gt w wd lg lb tg b s k) :=
  ((isR_err b s hr k).mul ⟨_, ilen_eq⟩).mul (hr.lg _)

theorem isR_dr (hr : Pre_finite_loss.Real x sh sc gt w wd lg lb tg) (k : Fin 1024) : IsR (dr x sh sc gt w wd lg lb tg b s k) :=
  isR_bwd _ _ (isR_dxh b s hr) (isR_row b s hr) k

theorem v99_at (hr : Pre_finite_loss.Real x sh sc gt w wd lg lb tg) (k : Fin 1024) :
    (val_main_v99 (F := Ideal) x sh sc gt w wd lg lb tg (ix3 b s k) : EReal) = dr x sh sc gt w wd lg lb tg b s k :=
  (v99_ref ..).trans (refBwd_eq _ _ (isR_dxh b s hr) (isR_row b s hr) k)

/-- The token of a sequence, in the array of all tokens. -/
abbrev tok (b : Fin 2) (s : Fin 2048) : Fin 4096 := ⟨b.val * 2048 + s.val, by omega⟩

/-- The gradient by the row. -/
theorem v107_at (hr : Pre_finite_loss.Real x sh sc gt w wd lg lb tg) (k : Fin 1024) :
    (val_main_v107 (F := Ideal) x sh sc gt w wd lg lb tg (ix2 (tok b s) k) : EReal) = dr x sh sc gt w wd lg lb tg b s k := by
  have hs : s.val < 2048 := s.isLt
  have hb : b.val < 2 := b.isLt
  rw [← v99_at b s hr]
  unfold val_main_v107
  generalize val_main_v99 (F := Ideal) x sh sc gt w wd lg lb tg = X
  pointwise
  simp only [show (b.val * 2048 + s.val) / 2048 = b.val by omega, show (b.val * 2048 + s.val) % 2048 = s.val by omega]

/-- The gradient by the unit's output. -/
theorem v109_at (hr : Pre_finite_loss.Real x sh sc gt w wd lg lb tg) (k : Fin 1024) :
    (val_main_v109 (F := Ideal) x sh sc gt w wd lg lb tg (ix2 (tok b s) k) : EReal)
      = half * (1 + gt (ix3 b 0 k)) * dr x sh sc gt w wd lg lb tg b s k := by
  have hs : s.val < 2048 := s.isLt
  have hb : b.val < 2 := b.isLt
  rw [← v99_at b s hr]
  unfold val_main_v109 val_main_v108 val_main_v101 val_main_v100 val_main_v17 val_main_v16 val_main_v15 val_main_v14 val_main_cst_1 val_main_cst_2
  generalize val_main_v99 (F := Ideal) x sh sc gt w wd lg lb tg = X
  pointwise
  simp only [show (b.val * 2048 + s.val) / 2048 = b.val by omega, show (b.val * 2048 + s.val) % 2048 = s.val by omega]

/-- The hidden columns: the gate's, and the linear half's. -/
theorem v114_at0 (j : Fin 2816) : (val_main_v114 (F := Ideal) x sh sc w (ix3 0 (tok b s) j) : EReal) = up x sh sc w b s (lo j) := by
  have hs : s.val < 2048 := s.isLt
  have hb : b.val < 2 := b.isLt
  rw [← v7_at]
  unfold val_main_v114 val_main_v113 val_main_v112 val_main_v111 val_main_v110
  generalize val_main_v7 (F := Ideal) x sh sc w = X
  generalize val_main_v8 (F := Ideal) x sh sc w = Y
  pointwise
  simp only [show (b.val * 2048 + s.val) / 2048 = b.val by omega, show (b.val * 2048 + s.val) % 2048 = s.val by omega]

theorem v114_at1 (j : Fin 2816) : (val_main_v114 (F := Ideal) x sh sc w (ix3 1 (tok b s) j) : EReal) = up x sh sc w b s (hi j) := by
  have hs : s.val < 2048 := s.isLt
  have hb : b.val < 2 := b.isLt
  rw [← v8_at]
  unfold val_main_v114 val_main_v113 val_main_v112 val_main_v111 val_main_v110
  generalize val_main_v7 (F := Ideal) x sh sc w = X
  generalize val_main_v8 (F := Ideal) x sh sc w = Y
  pointwise
  simp only [show (b.val * 2048 + s.val) / 2048 = b.val by omega, show (b.val * 2048 + s.val) % 2048 = s.val by omega]

/-- The gated hidden columns. -/
theorem v116_at (j : Fin 2816) : (val_main_v116 (F := Ideal) x sh sc w (ix2 (tok b s) j) : EReal) = act x sh sc w b s j := by
  have hs : s.val < 2048 := s.isLt
  have hb : b.val < 2 := b.isLt
  rw [← v10_at]
  unfold val_main_v116 val_main_v115
  generalize val_main_v10 (F := Ideal) x sh sc w = X
  pointwise
  simp only [show (b.val * 2048 + s.val) / 2048 = b.val by omega, show (b.val * 2048 + s.val) % 2048 = s.val by omega]

/-- The modulated input. -/
theorem v118_at (k : Fin 1024) : (val_main_v118 (F := Ideal) x sh sc (ix2 (tok b s) k) : EReal) = hid x sh sc b s k := by
  have hs : s.val < 2048 := s.isLt
  have hb : b.val < 2 := b.isLt
  rw [← v5_at]
  unfold val_main_v118 val_main_v117
  generalize val_main_v5 (F := Ideal) x sh sc = X
  pointwise
  simp only [show (b.val * 2048 + s.val) / 2048 = b.val by omega, show (b.val * 2048 + s.val) % 2048 = s.val by omega]

/-- A constant of real numbers moves into a sum of them. -/
theorem mul_sum_isR {n : ℕ} (c : EReal) (f : Fin n → EReal) (hc : IsR c) (hf : ∀ i, IsR (f i)) : c * ∑ i, f i = ∑ i, c * f i := by
  obtain ⟨c, rfl⟩ := hc
  choose g hg using hf
  obtain rfl : f = fun i => (g i : EReal) := funext hg
  simp only [coe_sum, ← EReal.coe_mul, Finset.mul_sum]

/-- Half of one over the row's length, the weight of a squared distance in the loss. -/
abbrev hinv : EReal := Ideal.ofBits .f32 973078528#32
theorem hinv_eq : hinv = ((1 / 2048 : ℝ) : EReal) := by simp [hinv, Ideal.ofBits, Ideal.ieee, -EReal.coe_mul]; norm_num

/-- What a token adds to the loss. -/
def lpart (x : FVec Ideal S2x2048x1024 .f32) (sh sc gt : FVec Ideal S2x1x1024 .f32) (w : FVec Ideal S1024x5632 .f32)
    (wd : FVec Ideal S2816x1024 .f32) (lg lb : FVec Ideal S1x1024 .f32) (tg : FVec Ideal S2x2048x1024 .f32) (b : Fin 2) (s : Fin 2048) : EReal :=
  hinv * ∑ k : Fin 1024, err x sh sc gt w wd lg lb tg b s k * err x sh sc gt w wd lg lb tg b s k

theorem half_mean (f : Fin 1024 → EReal) (hf : ∀ i, IsR (f i)) : half * Ideal.div (∑ k, f k) len = hinv * ∑ k, f k := by
  choose g hg using hf
  obtain rfl : f = fun i => (g i : EReal) := funext hg
  rw [coe_sum, div_len, half_eq, hinv_eq, ← EReal.coe_mul, ← EReal.coe_mul]
  congr 1
  ring

/-- The loss. -/
theorem v119_at (hr : Pre_finite_loss.Real x sh sc gt w wd lg lb tg) (z : Fin 1) (k : Fin 128) :
    (val_main_v119 (F := Ideal) x sh sc gt w wd lg lb tg (ix2 z k) : EReal) = ∑ b : Fin 2, ∑ s : Fin 2048, lpart x sh sc gt w wd lg lb tg b s := by
  have hm : ∀ b s, IsR (Ideal.div (∑ k : Fin 1024, err x sh sc gt w wd lg lb tg b s k * err x sh sc gt w wd lg lb tg b s k) len) := fun b s =>
    isR_mean _ fun k => (isR_err b s hr k).mul (isR_err b s hr k)
  have e : (val_main_v119 (F := Ideal) x sh sc gt w wd lg lb tg (ix2 z k) : EReal)
      = half * ∑ b : Fin 2, ∑ s : Fin 2048, Ideal.div (∑ k : Fin 1024, err x sh sc gt w wd lg lb tg b s k * err x sh sc gt w wd lg lb tg b s k) len := by
    unfold val_main_v119 val_main_v58 val_main_v57 val_main_v56 val_main_v55 val_main_v54 val_main_v51 val_main_cst_11 val_main_cst_12 val_main_cst_13 val_main_cst_14
    pointwise [v50_at]
  rw [e, mul_sum_isR _ _ ⟨_, half_eq⟩ fun b => IsR.sum _ fun s => hm b s]
  refine Finset.sum_congr rfl fun b _ => ?_
  rw [mul_sum_isR _ _ ⟨_, half_eq⟩ fun s => hm b s]
  exact Finset.sum_congr rfl fun s _ => half_mean _ fun k => (isR_err b s hr k).mul (isR_err b s hr k)

/-- The gradient by the gain. -/
theorem v120_at0 (k : Fin 1024) : (val_main_v120 (F := Ideal) x sh sc gt w wd lg lb tg (ix2 0 k) : EReal)
    = ∑ b : Fin 2, ∑ s : Fin 2048, err x sh sc gt w wd lg lb tg b s k * ilen * xhat (row x sh sc gt w wd b s) k := by
  unfold val_main_v120 val_main_v75 val_main_v74 val_main_v71 val_main_v70 val_main_v69 val_main_cst_20 val_main_cst_21
  pointwise [v43_at, v64_at, Tools.hostReduceAdd_lead3]
  simp only [Fin.sum_univ_one, mul_comm (xhat _ _)]

/-- The gradient by the bias. -/
theorem v120_at1 (k : Fin 1024) : (val_main_v120 (F := Ideal) x sh sc gt w wd lg lb tg (ix2 1 k) : EReal)
    = ∑ b : Fin 2, ∑ s : Fin 2048, err x sh sc gt w wd lg lb tg b s k * ilen := by
  unfold val_main_v120 val_main_v68 val_main_v67 val_main_v66 val_main_v65 val_main_cst_18 val_main_cst_19
  pointwise [v64_at, Tools.hostReduceAdd_lead3]
  simp only [Fin.sum_univ_one]

/-- The gradient by the gate. -/
theorem v106_at (hr : Pre_finite_loss.Real x sh sc gt w wd lg lb tg) (z : Fin 1) (k : Fin 1024) :
    (val_main_v106 (F := Ideal) x sh sc gt w wd lg lb tg (ix3 b z k) : EReal)
      = ∑ s : Fin 2048, dr x sh sc gt w wd lg lb tg b s k * (half * acc x sh sc w wd b s k) := by
  have e : (val_main_v106 (F := Ideal) x sh sc gt w wd lg lb tg (ix3 b z k) : EReal)
      = half * ∑ s : Fin 2048, dr x sh sc gt w wd lg lb tg b s k * acc x sh sc w wd b s k := by
    unfold val_main_v106 val_main_v105 val_main_v104 val_main_v103 val_main_v102 val_main_cst_29 val_main_cst_30
    pointwise [v99_at b _ hr, v11_at]
  rw [e, mul_sum_isR _ _ ⟨_, half_eq⟩ fun s => (isR_dr b s hr k).mul (isR_acc b s hr k)]
  exact Finset.sum_congr rfl fun s _ => mul_left_comm _ _ _

end Cert.LossRefIdeal.At

end
-- ==== Proof.LossHost.lean ====
/- What the arrays that the kernel of the loss reads hold, in the terms of the reference. -/
module

public import proofs.«01_k».proof.Proof.LossRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.LossIdeal.Value

open Cert.LossIdeal Cert.LossIdeal.Gen Cert.LossRefIdeal.At

variable (m : (ℓ : Loc nD τ sig) → Buf (Elt Ideal) ℓ) (c : Dev nD) (b : Fin 2) (s : Fin 2048)

/-- The arguments: input, shift, scale, gate, the two weight arrays, gain, bias, and the target. -/
abbrev X : FVec Ideal S2x2048x1024 .f32 := m ((c : Thread nD τ).loc main_arg0)
abbrev Sh : FVec Ideal S2x1x1024 .f32 := m ((c : Thread nD τ).loc main_arg1)
abbrev Sc : FVec Ideal S2x1x1024 .f32 := m ((c : Thread nD τ).loc main_arg2)
abbrev Gt : FVec Ideal S2x1x1024 .f32 := m ((c : Thread nD τ).loc main_arg3)
abbrev W : FVec Ideal S1024x5632 .f32 := m ((c : Thread nD τ).loc main_arg4)
abbrev Wd : FVec Ideal S2816x1024 .f32 := m ((c : Thread nD τ).loc main_arg5)
abbrev Lg : FVec Ideal S1x1024 .f32 := m ((c : Thread nD τ).loc main_arg6)
abbrev Lb : FVec Ideal S1x1024 .f32 := m ((c : Thread nD τ).loc main_arg7)
abbrev Tg : FVec Ideal S2x2048x1024 .f32 := m ((c : Thread nD τ).loc main_arg8)

theorem v0_in (k : Fin 1024) : (V m c main_v0 (ix2 (tok b s) k) : EReal) = X m c (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

theorem v5_in (k : Fin 1024) : (V m c main_v5 (ix2 (tok b s) k) : EReal) = Tg m c (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

/-- The weights, transposed and split before the kernel. -/
theorem v3_lo (j : Fin 2816) (k : Fin 1024) : (V m c main_v3 (ix3 0 j k) : EReal) = W m c (ix2 k (lo j)) := by
  have hj : j.val < 2816 := j.isLt
  entry_read
  pointwise

theorem v3_hi (j : Fin 2816) (k : Fin 1024) : (V m c main_v3 (ix3 1 j k) : EReal) = W m c (ix2 k (hi j)) := by
  have hj : j.val < 2816 := j.isLt
  entry_read
  pointwise

theorem v4_in (j : Fin 2816) (k : Fin 1024) : (V m c main_v4 (ix2 j k) : EReal) = Wd m c (ix2 j k) := by
  entry_read
  pointwise

end Cert.LossIdeal.Value

end
-- ==== Proof.LossBlocks.lean ====
/- What the blocks of the kernel of the loss hold at each grid point, and where its results land. -/
module

public import proofs.«01_k».proof.Proof.LossHost

@[expose] public section

set_option maxRecDepth 16384

noncomputable section

open Idealize.ShloMosaic Idealize.ShloMosaic.TcCoe Idealize.SL.Sem

namespace Cert.LossIdeal.Value

open Cert.LossIdeal Cert.LossIdeal.Gen Cert.LossRefIdeal.At

variable (m : (ℓ : Loc nD τ sig) → Buf (Elt Ideal) ℓ) (c : Dev nD) (t : Fin cfg0.N) (s : Fin 512)

theorem idx : ∀ t : Fin cfg0.N, win0_0.index t = ![t.val, 0] ∧ win0_1.index t = ![t.val / 4, 0, 0]
    ∧ win0_2.index t = ![t.val / 4, 0, 0] ∧ win0_3.index t = ![t.val / 4, 0, 0] ∧ win0_4.index t = ![0, 0, 0]
    ∧ win0_5.index t = ![0, 0] ∧ win0_6.index t = ![0, 0]
    ∧ win0_7.index t = ![0, 0] ∧ win0_8.index t = ![t.val, 0] ∧ win0_9.index t = ![t.val, 0]
    ∧ win0_10.index t = ![t.val, 0] ∧ win0_11.index t = ![0, t.val, 0] ∧ win0_12.index t = ![t.val, 0]
    ∧ win0_13.index t = ![t.val, 0] ∧ win0_14.index t = ![0, 0] ∧ win0_15.index t = ![0, 0] ∧ win0_16.index t = ![t.val / 4, 0, 0] :=
  (by decide +kernel : ∀ t : Fin grid0.N, _)

/-- The token a row of a grid point's block stands for. -/
abbrev tokOf (t : Fin cfg0.N) (s : Fin 512) : Fin 4096 :=
  ⟨t.val * 512 + s.val, by have := lt_of_lt_of_eq t.isLt N_0; omega⟩

/-- The sequence a grid point works on. -/
abbrev seqOf (t : Fin cfg0.N) : Fin 2 := ⟨t.val / 4, by have := lt_of_lt_of_eq t.isLt N_0; omega⟩

/-- The place of a row in its sequence. -/
abbrev pos (t : Fin cfg0.N) (s : Fin 512) : Fin 2048 := ⟨t.val % 4 * 512 + s.val, by omega⟩

theorem tokOf_eq : tokOf t s = tok (seqOf t) (pos t s) := Fin.ext (by show t.val * 512 + s.val = t.val / 4 * 2048 + (t.val % 4 * 512 + s.val); omega)

theorem blk0 (k : Fin 1024) : (iblk m c 0 t (ix2 s k) : EReal) = X m c (ix3 (seqOf t) (pos t s) k) := by
  rw [← v0_in, ← tokOf_eq]
  blk_point [iblk, idx t]

theorem blk1 (k : Fin 1024) : (iblk m c 1 t (ix3 0 0 k) : EReal) = Sh m c (ix3 (seqOf t) 0 k) := by
  blk_point [iblk, V, idx t]

theorem blk2 (k : Fin 1024) : (iblk m c 2 t (ix3 0 0 k) : EReal) = Sc m c (ix3 (seqOf t) 0 k) := by
  blk_point [iblk, V, idx t]

theorem blk3 (k : Fin 1024) : (iblk m c 3 t (ix3 0 0 k) : EReal) = Gt m c (ix3 (seqOf t) 0 k) := by
  blk_point [iblk, V, idx t]

theorem blk4_lo (j : Fin 2816) (k : Fin 1024) : (iblk m c 4 t (ix3 0 j k) : EReal) = W m c (ix2 k (lo j)) := by
  rw [← v3_lo]
  blk_point [iblk, idx t]

theorem blk4_hi (j : Fin 2816) (k : Fin 1024) : (iblk m c 4 t (ix3 1 j k) : EReal) = W m c (ix2 k (hi j)) := by
  rw [← v3_hi]
  blk_point [iblk, idx t]

theorem blk5 (j : Fin 2816) (k : Fin 1024) : (iblk m c 5 t (ix2 j k) : EReal) = Wd m c (ix2 j k) := by
  rw [← v4_in]
  blk_point [iblk, idx t]

theorem blk6 (k : Fin 1024) : (iblk m c 6 t (ix2 0 k) : EReal) = Lg m c (ix2 0 k) := by
  blk_point [iblk, V, idx t]

theorem blk7 (k : Fin 1024) : (iblk m c 7 t (ix2 0 k) : EReal) = Lb m c (ix2 0 k) := by
  blk_point [iblk, V, idx t]

theorem blk8 (k : Fin 1024) : (iblk m c 8 t (ix2 s k) : EReal) = Tg m c (ix3 (seqOf t) (pos t s) k) := by
  rw [← v5_in, ← tokOf_eq]
  blk_point [iblk, idx t]

theorem emb9 (k : Fin 1024) : ((cfg0.win 9).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb10 (k : Fin 1024) : ((cfg0.win 10).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb11 (i : Fin 2) (j : Fin 2816) : ((cfg0.win 11).blk t).view.emb (ix3 i s j) = ix3 i (tok (seqOf t) (pos t s)) j := by
  rw [← tokOf_eq]
  funext a
  apply Fin.ext
  match a with
  | ⟨0, _⟩ => blk_simp [idx t]
  | ⟨1, _⟩ => blk_simp [idx t]
  | ⟨2, _⟩ => blk_simp [idx t]

theorem emb12 (j : Fin 2816) : ((cfg0.win 12).blk t).view.emb (ix2 s j) = ix2 (tok (seqOf t) (pos t s)) j := by
  rw [← tokOf_eq]
  funext a
  apply Fin.ext
  match a with
  | ⟨0, _⟩ => blk_simp [idx t]
  | ⟨1, _⟩ => blk_simp [idx t]

theorem emb13 (k : Fin 1024) : ((cfg0.win 13).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb14 (z : Fin 1) (k : Fin 128) : ((cfg0.win 14).blk t).view.emb (ix2 z k) = ix2 z k := by
  funext a
  apply Fin.ext
  match a with
  | ⟨0, _⟩ => blk_simp [idx t]
  | ⟨1, _⟩ => blk_simp [idx t]

theorem emb15 (i : Fin 2) (k : Fin 1024) : ((cfg0.win 15).blk t).view.emb (ix2 i k) = ix2 i k := by
  funext a
  apply Fin.ext
  match a with
  | ⟨0, _⟩ => blk_simp [idx t]
  | ⟨1, _⟩ => blk_simp [idx t]

theorem emb16 (z z' : Fin 1) (k : Fin 1024) : ((cfg0.win 16).blk t).view.emb (ix3 z z' k) = ix3 (seqOf t) z' k := by
  obtain rfl : z = 0 := Subsingleton.elim _ _
  obtain rfl : z' = 0 := Subsingleton.elim _ _
  funext a
  apply Fin.ext
  match a with
  | ⟨0, _⟩ => blk_simp [idx t]; rfl
  | ⟨1, _⟩ => blk_simp [idx t]
  | ⟨2, _⟩ => blk_simp [idx t]

end Cert.LossIdeal.Value

end
-- ==== Proof.LossValue.lean ====
/- What the results of the loss and its gradient hold after the kernel, in the terms of the reference. -/
module

public import proofs.«01_k».proof.Proof.LossBlocks
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen Cert.LossRefIdeal.At Cert.LossSpec Cert.Norm Cert.Gated Cert.Reals

variable (m : (ℓ : Loc nD τ sig) → Buf (Elt Ideal) ℓ) (c : Dev nD) (t : Fin cfg0.N) (s : Fin 512)

/-- Of one token: the modulated input, the hidden columns, the unit's output, the row that is normalised, the distance from
the target, and the gradient by the row. -/
abbrev Hid (b : Fin 2) (r : Fin 2048) : Fin 1024 → EReal := hid (X m c) (Sh m c) (Sc m c) b r
abbrev Up (b : Fin 2) (r : Fin 2048) : Fin 5632 → EReal := up (X m c) (Sh m c) (Sc m c) (W m c) b r
abbrev Acc (b : Fin 2) (r : Fin 2048) : Fin 1024 → EReal := acc (X m c) (Sh m c) (Sc m c) (W m c) (Wd m c) b r
abbrev Row (b : Fin 2) (r : Fin 2048) : Fin 1024 → EReal := row (X m c) (Sh m c) (Sc m c) (Gt m c) (W m c) (Wd m c) b r
abbrev Er (b : Fin 2) (r : Fin 2048) : Fin 1024 → EReal := err (X m c) (Sh m c) (Sc m c) (Gt m c) (W m c) (Wd m c) (Lg m c) (Lb m c) (Tg m c) b r
abbrev Dr (b : Fin 2) (r : Fin 2048) : Fin 1024 → EReal := dr (X m c) (Sh m c) (Sc m c) (Gt m c) (W m c) (Wd m c) (Lg m c) (Lb m c) (Tg m c) b r

/-- The block's modulated input. -/
abbrev H : FVec Ideal S512x1024 .bf16 := k0_pay3 (iblk m c 0 t) (iblk m c 2 t) (iblk m c 1 t)

theorem hid_block (k : Fin 1024) : (H m c t (ix2 s k) : EReal) = Hid m c (seqOf t) (pos t s) k := by
  refine (pay3_at _ _ _ s k).trans ?_
  rw [blk0, blk1, blk2]
  rfl

section Chunks

variable (v15 v18 v43 v46 : Vec Ideal S1x1024x1024 .bf16) (v71 v74 : Vec Ideal S1x768x1024 .bf16)
  (v39 v67 : Vec Ideal S1024x1024 .bf16) (v95 : Vec Ideal S768x1024 .bf16)

/-- The chunks of the two weight arrays that the body loads are the three parts of its blocks. -/
structure Loaded : Prop where
  h15 : ∀ j x, (v15 (ix3 0 j x) : EReal) = iblk m c 4 t (ix3 0 (c0 j) x)
  h18 : ∀ j x, (v18 (ix3 0 j x) : EReal) = iblk m c 4 t (ix3 1 (c0 j) x)
  h43 : ∀ j x, (v43 (ix3 0 j x) : EReal) = iblk m c 4 t (ix3 0 (c1 j) x)
  h46 : ∀ j x, (v46 (ix3 0 j x) : EReal) = iblk m c 4 t (ix3 1 (c1 j) x)
  h71 : ∀ j x, (v71 (ix3 0 j x) : EReal) = iblk m c 4 t (ix3 0 (c2 j) x)
  h74 : ∀ j x, (v74 (ix3 0 j x) : EReal) = iblk m c 4 t (ix3 1 (c2 j) x)
  h39 : ∀ j x, (v39 (ix2 j x) : EReal) = iblk m c 5 t (ix2 (c0 j) x)
  h67 : ∀ j x, (v67 (ix2 j x) : EReal) = iblk m c 5 t (ix2 (c1 j) x)
  h95 : ∀ j x, (v95 (ix2 j x) : EReal) = iblk m c 5 t (ix2 (c2 j) x)

/-- The unit's output up to the last chunk, and the last chunk's hidden columns. -/
abbrev V70 : FVec Ideal S512x1024 .f32 :=
  k0_pay17 (k0_pay10 k0_pay4 (k0_pay5 (iblk m c 0 t) (iblk m c 2 t) (iblk m c 1 t) v15) (k0_pay6 (iblk m c 0 t) (iblk m c 2 t) (iblk m c 1 t) v18)
    (FloatOps.ofBits .f32 0#32) v39) (k0_pay12 (H m c t) v46) (k0_pay15 (H m c t) v43) v67
abbrev V93 : FVec Ideal S512x768 .bf16 := k0_pay22 (H m c t) v71 v74

/-- The normalised row's distance from the target, and the gradient by the row. -/
abbrev E : FVec Ideal S512x1024 .f32 :=
  k0_pay28 (k0_pay2 (iblk m c 0 t)) (V70 m c t v15 v18 v43 v46 v39 v67) (V93 m c t v71 v74) v95 (iblk m c 3 t) (iblk m c 6 t) (iblk m c 7 t) (iblk m c 8 t)
abbrev D : FVec Ideal S512x1024 .f32 :=
  k0_pay31 (k0_pay26 (k0_pay2 (iblk m c 0 t)) (V70 m c t v15 v18 v43 v46 v39 v67) (V93 m c t v71 v74) v95 (iblk m c 3 t))
    (k0_pay27 (k0_pay2 (iblk m c 0 t)) (V70 m c t v15 v18 v43 v46 v39 v67) (V93 m c t v71 v74) v95 (iblk m c 3 t))
    (E m c t v15 v18 v43 v46 v71 v74 v39 v67 v95) k0_pay29 (iblk m c 6 t)

variable (L : Loaded m c t v15 v18 v43 v46 v71 v74 v39 v67 v95)
include L

theorem acc_block (k : Fin 1024) : (k0_pay23 (V70 m c t v15 v18 v43 v46 v39 v67) (V93 m c t v71 v74) v95 (ix2 s k) : EReal)
    = Acc m c (seqOf t) (pos t s) k :=
  acc_at _ _ _ _ _ _ _ _ _ _ _ _ s k (Hid m c (seqOf t) (pos t s)) (fun j x => W m c (ix2 x (lo j))) (fun j x => W m c (ix2 x (hi j)))
    (fun j => Wd m c (ix2 j k)) (hid_block m c t s)
    (fun j x => (L.h15 j x).trans (blk4_lo ..)) (fun j x => (L.h43 j x).trans (blk4_lo ..)) (fun j x => (L.h71 j x).trans (blk4_lo ..))
    (fun j x => (L.h18 j x).trans (blk4_hi ..)) (fun j x => (L.h46 j x).trans (blk4_hi ..)) (fun j x => (L.h74 j x).trans (blk4_hi ..))
    (fun j => (L.h39 j k).trans (blk5 ..)) (fun j => (L.h67 j k).trans (blk5 ..)) (fun j => (L.h95 j k).trans (blk5 ..))

theorem row_block : rowOf (k0_pay2 (iblk m c 0 t)) (V70 m c t v15 v18 v43 v46 v39 v67) (V93 m c t v71 v74) v95 (iblk m c 3 t) s
    = Row m c (seqOf t) (pos t s) := by
  funext k
  unfold rowOf
  rw [pay2_at, acc_block m c t s _ _ _ _ _ _ _ _ _ L, blk0, blk3]
  rfl

theorem err_block (k : Fin 1024) : (E m c t v15 v18 v43 v46 v71 v74 v39 v67 v95 (ix2 s k) : EReal) = Er m c (seqOf t) (pos t s) k := by
  refine (err_at _ _ _ _ _ _ _ _ s k).trans ?_
  rw [row_block m c t s _ _ _ _ _ _ _ _ _ L, blk6, blk7, blk8]
  rfl

theorem dr_block (k : Fin 1024) : (D m c t v15 v18 v43 v46 v71 v74 v39 v67 v95 (ix2 s k) : EReal) = Dr m c (seqOf t) (pos t s) k := by
  refine (dr_at _ _ _ _ _ _ s _ k).trans ?_
  rw [row_block m c t s _ _ _ _ _ _ _ _ _ L]
  simp only [err_block m c t s _ _ _ _ _ _ _ _ _ L, blk6]
  rfl

/-- The gradient by the unit's output. -/
theorem df_block (k : Fin 1024) : (k0_pay24 (F := Ideal) (iblk m c 3 t) (ix2 0 k) : EReal) * D m c t v15 v18 v43 v46 v71 v74 v39 v67 v95 (ix2 s k)
    = half * (1 + Gt m c (ix3 (seqOf t) 0 k)) * Dr m c (seqOf t) (pos t s) k := by
  rw [pay24_at, blk3, dr_block m c t s _ _ _ _ _ _ _ _ _ L]

/-- A block's addition to the gradient by the gate. -/
theorem gate_block (k : Fin 1024) (p : Vec Ideal S1x1x1024 .f32) (q : EReal) (hp : (p (ix3 0 0 k) : EReal) = q) :
    (k0_pay1 (k0_pay41 p) (k0_pay42 (k0_pay23 (V70 m c t v15 v18 v43 v46 v39 v67) (V93 m c t v71 v74) v95)
        (D m c t v15 v18 v43 v46 v71 v74 v39 v67 v95)) (ix3 0 0 k) : EReal)
      = q + ∑ r : Fin 512, Dr m c (seqOf t) (pos t r) k * (half * Acc m c (seqOf t) (pos t r) k) := by
  rw [pay1_at, hp]
  exact congrArg (q + ·) (Finset.sum_congr rfl fun r _ => congrArg₂ (fun d a => d * (half * a)) (dr_block m c t r _ _ _ _ _ _ _ _ _ L k)
    (acc_block m c t r _ _ _ _ _ _ _ _ _ L k))

/-- A block's addition to the gradient by the gain. -/
theorem gain_block (k : Fin 1024) (p : Vec Ideal S1x1024 .f32) (q : EReal) (hp : (p (ix2 0 k) : EReal) = q) :
    (k0_pay39 (k0_pay32 (k0_pay27 (k0_pay2 (iblk m c 0 t)) (V70 m c t v15 v18 v43 v46 v39 v67) (V93 m c t v71 v74) v95 (iblk m c 3 t))
        (E m c t v15 v18 v43 v46 v71 v74 v39 v67 v95) k0_pay29) p (ix2 0 k) : EReal)
      = q + ∑ r : Fin 512, Er m c (seqOf t) (pos t r) k * ilen * xhat (Row m c (seqOf t) (pos t r)) k := by
  rw [pay39_at, hp, pay32_at]
  refine congrArg (q + ·) (Finset.sum_congr rfl fun r _ => ?_)
  rw [err_block m c t r _ _ _ _ _ _ _ _ _ L, xhat_at, row_block m c t r _ _ _ _ _ _ _ _ _ L]

/-- A block's addition to the gradient by the bias. -/
theorem bias_block (k : Fin 1024) (p : Vec Ideal S1x1024 .f32) (q : EReal) (hp : (p (ix2 0 k) : EReal) = q) :
    (k0_pay40 (k0_pay33 (E m c t v15 v18 v43 v46 v71 v74 v39 v67 v95) k0_pay29) p (ix2 0 k) : EReal)
      = q + ∑ r : Fin 512, Er m c (seqOf t) (pos t r) k * ilen := by
  rw [pay40_at, hp, pay33_at]
  exact congrArg (q + ·) (Finset.sum_congr rfl fun r _ => congrArg (· * ilen) (err_block m c t r _ _ _ _ _ _ _ _ _ L k))

/-- A block's addition to the loss. -/
theorem loss_block (k : Fin 128) (p : Vec Ideal S1x128 .f32) (q : EReal) (hp : (p (ix2 0 k) : EReal) = q) :
    (k0_pay38 (E m c t v15 v18 v43 v46 v71 v74 v39 v67 v95) p (ix2 0 k) : EReal)
      = q + hinv * ∑ r : Fin 512, ∑ k : Fin 1024, Er m c (seqOf t) (pos t r) k * Er m c (seqOf t) (pos t r) k := by
  rw [pay38_at, hp]
  refine congrArg (fun z => q + hinv * z) (Finset.sum_congr rfl fun r _ => Finset.sum_congr rfl fun k _ => ?_)
  rw [err_block m c t r _ _ _ _ _ _ _ _ _ L]

end Chunks

/-- At the first tile of all, at one that goes on with a sequence, and at one that begins the second sequence. -/
theorem cases3 : (t.val % 8 = 0 ∧ t.val % 4 = 0) ∨ (¬ t.val % 8 = 0 ∧ ¬ t.val % 4 = 0) ∨ (¬ t.val % 8 = 0 ∧ t.val % 4 = 0) := by omega

theorem out9 (k : Fin 1024) : ((outsAt0 m c t.val t.isLt).1 (ix2 s k) : EReal) = Dr m c (seqOf t) (pos t s) k := by
  rcases cases3 t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    refine dr_block m c t s _ _ _ _ _ _ _ _ _ ⟨?_, ?_, ?_, ?_, ?_, ?_, ?_, ?_, ?_⟩ k
    all_goals
      intros
      pointwise

theorem out10 (k : Fin 1024) : ((outsAt0 m c t.val t.isLt).2.1 (ix2 s k) : EReal)
    = half * (1 + Gt m c (ix3 (seqOf t) 0 k)) * Dr m c (seqOf t) (pos t s) k := by
  rcases cases3 t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    refine (pay34_at _ s _ _ _ _ _ k).trans (df_block m c t s _ _ _ _ _ _ _ _ _ ⟨?_, ?_, ?_, ?_, ?_, ?_, ?_, ?_, ?_⟩ k)
    all_goals
      intros
      pointwise

theorem out13 (k : Fin 1024) : ((outsAt0 m c t.val t.isLt).2.2.2.2.1 (ix2 s k) : EReal) = Hid m c (seqOf t) (pos t s) k := by
  rcases cases3 t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    exact hid_block m c t s k

/-- The hidden columns of a chunk. -/
theorem up_lo (V : Fin 1024 → EReal) (j : Fin 2816) (hV : ∀ x, V x = iblk m c 4 t (ix3 0 j x)) :
    ∑ x : Fin 1024, H m c t (ix2 s x) * V x = Up m c (seqOf t) (pos t s) (lo j) :=
  Finset.sum_congr rfl fun x _ => congrArg₂ (· * ·) (hid_block m c t s x) ((hV x).trans (blk4_lo m c t j x))

theorem up_hi (V : Fin 1024 → EReal) (j : Fin 2816) (hV : ∀ x, V x = iblk m c 4 t (ix3 1 j x)) :
    ∑ x : Fin 1024, H m c t (ix2 s x) * V x = Up m c (seqOf t) (pos t s) (hi j) :=
  Finset.sum_congr rfl fun x _ => congrArg₂ (· * ·) (hid_block m c t s x) ((hV x).trans (blk4_hi m c t j x))

/-- The two halves of the hidden columns. -/
def half2 (b : Fin 2) (r : Fin 2048) (i : Fin 2) (j : Fin 2816) : EReal := if i = 0 then Up m c b r (lo j) else Up m c b r (hi j)

theorem out11 (i : Fin 2) (j : Fin 2816) : ((outsAt0 m c t.val t.isLt).2.2.1 (ix3 i s j) : EReal) = half2 m c (seqOf t) (pos t s) i j := by
  rcases cases3 t with ⟨u0, u1⟩ | ⟨u0, u1⟩ | ⟨u0, u1⟩
  on_goal 1 => rw [outsAt0_A m c t u0 u1]
  on_goal 2 => rw [outsAt0_B m c t u0 u1]
  on_goal 3 => rw [outsAt0_C m c t u0 u1]
  all_goals
    frame_out
    canon_tiles x h using (View.cover_of_tiledBy (s := S2x512x2816) _ ![1,512,256] (by sl_kernel_rfl) _)
    all_goals
      obtain ⟨z, r, k, rfl⟩ : ∃ z r k, x = ix3 z r k := ⟨_, _, _, ValueIdx.eq_ix3 x⟩
      obtain rfl : s = r := Fin.ext h1
      obtain rfl : z = 0 := Subsingleton.elim _ _
    case piece0 =>
      obtain rfl : i = 1 := Fin.ext h0
      obtain rfl : j = c2 k := Fin.ext h2
      refine (pay21_at _ _ s k).trans (up_hi m c t s _ _ fun x => ?_)
      exact View.ld_unit_apply_of _ _ _ _ _ _ (by intro d; fin_cases d <;> simp)
    case piece1 =>
      obtain rfl : i = 0 := Fin.ext h0
      obtain rfl : j = c2 k := Fin.ext h2
      refine (pay20_at _ _ s k).trans (up_lo m c t s _ _ fun x => ?_)
      exact View.ld_unit_apply_of _ _ _ _ _ _ (by intro d; fin_cases d <;> simp)
    case piece2 =>
      obtain rfl : i = 1 := Fin.ext h0
      obtain rfl : j = c1 k := Fin.ext h2
      refine (pay14_at _ _ s k).trans (up_hi m c t s _ _ fun x => ?_)
      exact View.ld_unit_apply_of _ _ _ _ _ _ (by intro d; fin_cases d <;> simp)
    case piece3 =>
      obtain rfl : i = 0 := Fin.ext h0
      obtain rfl : j = c1 k := Fin.ext h2
      refine (pay13_at _ _ s k).trans (up_lo m c t s _ _ fun x => ?_)
      exact View.ld_unit_apply_of _ _ _ _ _ _ (by intro d; fin_cases d <;> simp)
    case piece4 =>
      obtain rfl : i = 1 := Fin.ext h0
      obtain rfl : j = c0 k := Fin.ext h2
      refine (pay8_at _ _ _ _ s k).trans (up_hi m c t s _ _ fun x => ?_)
      exact View.ld_unit_apply_of _ _ _ _ _ _ (by intro d; fin_cases d <;> simp)
    case piece5 =>
      obtain rfl : i = 0 := Fin.ext h0
      obtain rfl : j = c0 k := Fin.ext h2
      refine (pay7_at _ _ _ _ s k).trans (up_lo m c t s _ _ fun x => ?_)
      exact View.ld_unit_apply_of _ _ _ _ _ _ (by intro d; fin_cases d <;> simp)

theorem act_block (g u : EReal) (j : Fin 2816) (hg : g = Up m c (seqOf t) (pos t s) (lo j)) (hu : u = Up m c (seqOf t) (pos t s) (hi j)) :
    actOf g u = act (X m c) (Sh m c) (Sc m c) (W m c) (seqOf t) (pos t s) j := by
  rw [hg, hu]
  rfl

theorem out12 (j : Fin 2816) : ((outsAt0 m c t.val t.isLt).2.2.2.1 (ix2 s j) : EReal)
    = act (X m c) (Sh m c) (Sc m c) (W m c) (seqOf t) (pos t s) j := by
  rcases cases3 t with ⟨u0, u1⟩ | ⟨u0, u1⟩ | ⟨u0, u1⟩
  on_goal 1 => rw [outsAt0_A m c t u0 u1]
  on_goal 2 => rw [outsAt0_B m c t u0 u1]
  on_goal 3 => rw [outsAt0_C m c t u0 u1]
  all_goals
    frame_out
    canon_tiles x h using (View.cover_of_tiledBy (s := S512x2816) _ ![512,256] (by sl_kernel_rfl) _)
    all_goals
      obtain ⟨r, k, rfl⟩ : ∃ r k, x = ix2 r k := ⟨_, _, ValueIdx.eq_ix2 x⟩
      obtain rfl : s = r := Fin.ext h0
    case piece0 =>
      obtain rfl : j = c2 k := Fin.ext h1
      refine (pay22_at _ _ _ s k).trans (act_block m c t s _ _ _ (up_lo m c t s _ _ fun x => ?_) (up_hi m c t s _ _ fun x => ?_))
      all_goals exact View.ld_unit_apply_of _ _ _ _ _ _ (by intro d; fin_cases d <;> simp)
    case piece1 =>
      obtain rfl : j = c1 k := Fin.ext h1
      refine (pay16_at _ _ _ s k).trans (act_block m c t s _ _ _ (up_lo m c t s _ _ fun x => ?_) (up_hi m c t s _ _ fun x => ?_))
      all_goals exact View.ld_unit_apply_of _ _ _ _ _ _ (by intro d; fin_cases d <;> simp)
    case piece2 =>
      obtain rfl : j = c0 k := Fin.ext h1
      refine (pay9_at s _ _ k).trans (act_block m c t s _ _ _ ((pay5_at _ _ _ _ s k).trans (up_lo m c t s _ _ fun x => ?_))
        ((pay6_at _ _ _ _ s k).trans (up_hi m c t s _ _ fun x => ?_)))
      all_goals exact View.ld_unit_apply_of _ _ _ _ _ _ (by intro d; fin_cases d <;> simp)

/-- What a row adds to the gradient by the gate. -/
def gpart (k : Fin 1024) (b : Fin 2) (r : Fin 2048) : EReal := Dr m c b r k * (half * Acc m c b r k)

theorem gateB (h : ¬ t.val % 4 = 0) (k : Fin 1024) : ((outsAt0 m c t.val t.isLt).2.2.2.2.2.2.2 (ix3 0 0 k) : EReal)
      = (outsAt0 m c (t.val - 1) (Nat.lt_of_le_of_lt (Nat.sub_le _ _) t.isLt)).2.2.2.2.2.2.2 (ix3 0 0 k)
        + ∑ r : Fin 512, gpart m c k (seqOf t) (pos t r) := by
  rw [outsAt0_B m c t (by omega) h]
  frame_out
  refine gate_block m c t _ _ _ _ _ _ _ _ _ ⟨?_, ?_, ?_, ?_, ?_, ?_, ?_, ?_, ?_⟩ k _ _ ?_
  all_goals
    intros
    pointwise

theorem gateA (h : t.val % 4 = 0) (k : Fin 1024) : ((outsAt0 m c t.val t.isLt).2.2.2.2.2.2.2 (ix3 0 0 k) : EReal)
      = ∑ r : Fin 512, gpart m c k (seqOf t) (pos t r) := by
  by_cases h0 : t.val % 8 = 0
  on_goal 1 => rw [outsAt0_A m c t h0 h]
  on_goal 2 => rw [outsAt0_C m c t h0 h]
  all_goals
    frame_out
    refine (gate_block m c t _ _ _ _ _ _ _ _ _ ⟨?_, ?_, ?_, ?_, ?_, ?_, ?_, ?_, ?_⟩ k _ 0 ?_).trans (zero_add _)
    all_goals
      intros
      pointwise [k0_pay37]

/-- What a row adds to the loss. -/
def epart (b : Fin 2) (r : Fin 2048) : EReal := ∑ k : Fin 1024, Er m c b r k * Er m c b r k

theorem lossB (h : ¬ t.val % 8 = 0) (k : Fin 128) : ((outsAt0 m c t.val t.isLt).2.2.2.2.2.1 (ix2 0 k) : EReal)
      = (outsAt0 m c (t.val - 1) (Nat.lt_of_le_of_lt (Nat.sub_le _ _) t.isLt)).2.2.2.2.2.1 (ix2 0 k)
        + hinv * ∑ r : Fin 512, epart m c (seqOf t) (pos t r) := by
  by_cases h1 : t.val % 4 = 0
  on_goal 1 => rw [outsAt0_C m c t h h1]
  on_goal 2 => rw [outsAt0_B m c t h h1]
  all_goals
    frame_out
    refine loss_block m c t _ _ _ _ _ _ _ _ _ ⟨?_, ?_, ?_, ?_, ?_, ?_, ?_, ?_, ?_⟩ k _ _ ?_
    all_goals
      intros
      pointwise

theorem lossA (h : t.val % 8 = 0) (k : Fin 128) : ((outsAt0 m c t.val t.isLt).2.2.2.2.2.1 (ix2 0 k) : EReal)
      = hinv * ∑ r : Fin 512, epart m c (seqOf t) (pos t r) := by
  rw [outsAt0_A m c t h (by omega)]
  frame_out
  refine (loss_block m c t _ _ _ _ _ _ _ _ _ ⟨?_, ?_, ?_, ?_, ?_, ?_, ?_, ?_, ?_⟩ k _ 0 ?_).trans (zero_add _)
  all_goals
    intros
    pointwise [k0_pay35]

/-- What a row adds to the gradients by the gain and by the bias. -/
def npart (i : Fin 2) (k : Fin 1024) (b : Fin 2) (r : Fin 2048) : EReal :=
  if i = 0 then Er m c b r k * ilen * xhat (Row m c b r) k else Er m c b r k * ilen

theorem normB (h : ¬ t.val % 8 = 0) (i : Fin 2) (k : Fin 1024) : ((outsAt0 m c t.val t.isLt).2.2.2.2.2.2.1 (ix2 i k) : EReal)
      = (outsAt0 m c (t.val - 1) (Nat.lt_of_le_of_lt (Nat.sub_le _ _) t.isLt)).2.2.2.2.2.2.1 (ix2 i k)
        + ∑ r : Fin 512, npart m c i k (seqOf t) (pos t r) := by
  by_cases h1 : t.val % 4 = 0
  on_goal 1 => rw [outsAt0_C m c t h h1]
  on_goal 2 => rw [outsAt0_B m c t h h1]
  all_goals
    frame_out
    canon_tiles x h
    all_goals
      obtain ⟨z, k', rfl⟩ : ∃ z k', x = ix2 z k' := ⟨_, _, ValueIdx.eq_ix2 x⟩
      obtain rfl : k = k' := Fin.ext h1
      obtain rfl : z = 0 := Subsingleton.elim _ _
    case piece0 =>
      obtain rfl : i = 1 := Fin.ext h0
      refine bias_block m c t _ _ _ _ _ _ _ _ _ ⟨?_, ?_, ?_, ?_, ?_, ?_, ?_, ?_, ?_⟩ k _ _ ?_
      all_goals
        intros
        pointwise
    case piece1 =>
      obtain rfl : i = 0 := Fin.ext h0
      refine gain_block m c t _ _ _ _ _ _ _ _ _ ⟨?_, ?_, ?_, ?_, ?_, ?_, ?_, ?_, ?_⟩ k _ _ ?_
      all_goals
        intros
        pointwise

theorem normA (h : t.val % 8 = 0) (i : Fin 2) (k : Fin 1024) : ((outsAt0 m c t.val t.isLt).2.2.2.2.2.2.1 (ix2 i k) : EReal)
      = ∑ r : Fin 512, npart m c i k (seqOf t) (pos t r) := by
  rw [outsAt0_A m c t h (by omega)]
  frame_out
  simp (disch := decide) only [↓ View.readCov_skip, ↓ View.readCov_cons_toLoadRect, ↓ View.readCov_fill]
  refine View.canon_append_of_piecesOf (Val := Elt Ideal) (s := S2x1024) (e := .f32)
    (fun y => ∑ r : Fin 512, npart m c (y 0) (y 1) (seqOf t) (pos t r)) [_] [_, _]
    ⟨fun x => ?_, fun x => ?_, trivial⟩ (ix2 i k) ?_
  rotate_left 2
  · exact View.cover_of_tiledL _ ![1, 1024] rfl _
  all_goals
    obtain ⟨z, k', rfl⟩ : ∃ z k', x = ix2 z k' := ⟨_, _, ValueIdx.eq_ix2 x⟩
    obtain rfl : z = 0 := Subsingleton.elim _ _
  · refine (bias_block m c t _ _ _ _ _ _ _ _ _ ⟨?_, ?_, ?_, ?_, ?_, ?_, ?_, ?_, ?_⟩ k' _ 0 ?_).trans ?_
    rotate_right
    · rw [zero_add]
      exact congrArg₂ (fun a b => ∑ r : Fin 512, npart m c a b (seqOf t) (pos t r)) (rfl : (1 : Fin 2) = _) (Fin.ext (by show k'.val = 0 + 1 * k'.val; omega) : k' = _)
    all_goals
      intros
      pointwise [k0_pay36]
  · refine (gain_block m c t _ _ _ _ _ _ _ _ _ ⟨?_, ?_, ?_, ?_, ?_, ?_, ?_, ?_, ?_⟩ k' _ 0 ?_).trans ?_
    rotate_right
    · rw [zero_add]
      exact congrArg₂ (fun a b => ∑ r : Fin 512, npart m c a b (seqOf t) (pos t r)) (rfl : (0 : Fin 2) = _) (Fin.ext (by show k'.val = 0 + 1 * k'.val; omega) : k' = _)
    all_goals
      intros
      pointwise [k0_pay36]

theorem out15 (h : t.val % 8 = 7) (i : Fin 2) (k : Fin 1024) : ((outsAt0 m c t.val t.isLt).2.2.2.2.2.2.1 (ix2 i k) : EReal)
    = ∑ b : Fin 2, ∑ r : Fin 2048, npart m c i k b r :=
  Tiles.of_all N_0 (fun n hn => (outsAt0 m c n hn).2.2.2.2.2.2.1 (ix2 i k)) (npart m c i k) (fun u hu => normA m c u hu i k)
    (fun u hu => normB m c u hu i k) t h

theorem out16 (h : t.val % 4 = 3) (z z' : Fin 1) (k : Fin 1024) : ((outsAt0 m c t.val t.isLt).2.2.2.2.2.2.2 (ix3 z z' k) : EReal)
    = ∑ r : Fin 2048, gpart m c k (seqOf t) r := by
  obtain rfl : z = 0 := Subsingleton.elim _ _
  obtain rfl : z' = 0 := Subsingleton.elim _ _
  exact Tiles.of_seq N_0 (fun n hn => (outsAt0 m c n hn).2.2.2.2.2.2.2 (ix3 0 0 k)) (gpart m c k) (fun u hu => gateA m c u hu k)
    (fun u hu => gateB m c u hu k) t h

theorem half2_eq (i : Fin 2) (b : Fin 2) (r : Fin 2048) (j : Fin 2816) : half2 m c b r i j
    = LossRefIdeal.Read.val_main_v114 (F := Ideal) (X m c) (Sh m c) (Sc m c) (W m c) (ix3 i (tok b r) j) := by
  match i with
  | 0 => exact (v114_at0 ..).symm
  | 1 => exact (v114_at1 ..).symm

theorem npart_eq (i : Fin 2) (k : Fin 1024) : ∑ b : Fin 2, ∑ r : Fin 2048, npart m c i k b r
    = LossRefIdeal.Read.val_main_v120 (F := Ideal) (X m c) (Sh m c) (Sc m c) (Gt m c) (W m c) (Wd m c) (Lg m c) (Lb m c) (Tg m c) (ix2 i k) := by
  match i with
  | 0 => exact (v120_at0 ..).symm
  | 1 => exact (v120_at1 ..).symm

/-- The hidden columns, whole. -/
theorem final11 : (dats m 0 c).arrAt 11 (cfgs 0).N = LossRefIdeal.Read.val_main_v114 (F := Ideal) (X m c) (Sh m c) (Sc m c) (W m c) := by
  refine (dats m 0 c).arrAt_eq_of_covers 11 _ (by decide +kernel) fun t hf y => ?_
  blk_simp
  rw [after0_11, ValueIdx.eq_ix3 y]
  exact (out11 m c t _ _ _).trans ((half2_eq m c _ _ _ _).trans (congrArg _ (emb11 t _ _ _).symm))

/-- The gated hidden columns, whole. -/
theorem final12 : (dats m 0 c).arrAt 12 (cfgs 0).N = LossRefIdeal.Read.val_main_v116 (F := Ideal) (X m c) (Sh m c) (Sc m c) (W m c) := by
  refine (dats m 0 c).arrAt_eq_of_covers 12 _ (by decide +kernel) fun t hf y => ?_
  blk_simp
  rw [after0_12, ValueIdx.eq_ix2 y]
  exact (out12 m c t _ _).trans (((v116_at ..).symm).trans (congrArg _ (emb12 t _ _).symm))

/-- The modulated input, whole. -/
theorem final13 : (dats m 0 c).arrAt 13 (cfgs 0).N = LossRefIdeal.Read.val_main_v118 (F := Ideal) (X m c) (Sh m c) (Sc m c) := by
  refine (dats m 0 c).arrAt_eq_of_covers 13 _ (by decide +kernel) fun t hf y => ?_
  blk_simp
  rw [after0_13, ValueIdx.eq_ix2 y]
  exact (out13 m c t _ _).trans (((v118_at ..).symm).trans (congrArg _ (emb13 t _ _).symm))

/-- The gradients by the gain and by the bias, whole. -/
theorem final15 : (dats m 0 c).arrAt 15 (cfgs 0).N = LossRefIdeal.Read.val_main_v120 (F := Ideal) (X m c) (Sh m c) (Sc m c) (Gt m c) (W m c) (Wd m c) (Lg m c) (Lb m c) (Tg m c) := by
  refine (dats m 0 c).arrAt_eq_of_covers 15 _ (by decide +kernel) fun t hf y => ?_
  blk_simp
  rw [after0_15, ValueIdx.eq_ix2 y]
  exact (out15 m c t ((flush0_15 t).mp hf) _ _).trans ((npart_eq m c _ _).trans (congrArg _ (emb15 t _ _).symm))

variable (hr : Pre_finite_loss.Real (X m c) (Sh m c) (Sc m c) (Gt m c) (W m c) (Wd m c) (Lg m c) (Lb m c) (Tg m c))

include hr

theorem lsum (f : Fin 512 → Fin 2048) (b : Fin 2) : hinv * ∑ r : Fin 512, epart m c b (f r) = ∑ r : Fin 512, lpart (X m c) (Sh m c) (Sc m c) (Gt m c) (W m c) (Wd m c) (Lg m c) (Lb m c) (Tg m c) b (f r) :=
  mul_sum_isR _ _ ⟨_, hinv_eq⟩ fun r => IsR.sum _ fun k => (isR_err b (f r) hr k).mul (isR_err b (f r) hr k)

theorem out14 (h : t.val % 8 = 7) (z : Fin 1) (k : Fin 128) : ((outsAt0 m c t.val t.isLt).2.2.2.2.2.1 (ix2 z k) : EReal)
    = ∑ b : Fin 2, ∑ r : Fin 2048, lpart (X m c) (Sh m c) (Sc m c) (Gt m c) (W m c) (Wd m c) (Lg m c) (Lb m c) (Tg m c) b r := by
  obtain rfl : z = 0 := Subsingleton.elim _ _
  exact Tiles.of_all N_0 (fun n hn => (outsAt0 m c n hn).2.2.2.2.2.1 (ix2 0 k)) (lpart (X m c) (Sh m c) (Sc m c) (Gt m c) (W m c) (Wd m c) (Lg m c) (Lb m c) (Tg m c))
    (fun u hu => (lossA m c u hu k).trans (lsum m c hr _ _)) (fun u hu => (lossB m c u hu k).trans (congrArg (_ + ·) (lsum m c hr _ _))) t h

/-- The gradient by the row that is normalised, whole. -/
theorem final9 : (dats m 0 c).arrAt 9 (cfgs 0).N = LossRefIdeal.Read.val_main_v107 (F := Ideal) (X m c) (Sh m c) (Sc m c) (Gt m c) (W m c) (Wd m c) (Lg m c) (Lb m c) (Tg m c) := by
  refine (dats m 0 c).arrAt_eq_of_covers 9 _ (by decide +kernel) fun t hf y => ?_
  blk_simp
  rw [after0_9, ValueIdx.eq_ix2 y]
  exact (out9 m c t _ _).trans (((v107_at _ _ hr _).symm).trans (congrArg _ (emb9 t _ _).symm))

/-- The gradient by the unit's output, whole. -/
theorem final10 : (dats m 0 c).arrAt 10 (cfgs 0).N = LossRefIdeal.Read.val_main_v109 (F := Ideal) (X m c) (Sh m c) (Sc m c) (Gt m c) (W m c) (Wd m c) (Lg m c) (Lb m c) (Tg m c) := by
  refine (dats m 0 c).arrAt_eq_of_covers 10 _ (by decide +kernel) fun t hf y => ?_
  blk_simp
  rw [after0_10, ValueIdx.eq_ix2 y]
  exact (out10 m c t _ _).trans (((v109_at _ _ hr _).symm).trans (congrArg _ (emb10 t _ _).symm))

/-- The loss, whole. -/
theorem final14 : (dats m 0 c).arrAt 14 (cfgs 0).N = LossRefIdeal.Read.val_main_v119 (F := Ideal) (X m c) (Sh m c) (Sc m c) (Gt m c) (W m c) (Wd m c) (Lg m c) (Lb m c) (Tg m c) := by
  refine (dats m 0 c).arrAt_eq_of_covers 14 _ (by decide +kernel) fun t hf y => ?_
  blk_simp
  rw [after0_14, ValueIdx.eq_ix2 y]
  exact (out14 m c t hr ((flush0_14 t).mp hf) _ _).trans (((v119_at hr _ _).symm).trans (congrArg _ (emb14 t _ _).symm))

/-- The gradient by the gate, whole. -/
theorem final16 : (dats m 0 c).arrAt 16 (cfgs 0).N = LossRefIdeal.Read.val_main_v106 (F := Ideal) (X m c) (Sh m c) (Sc m c) (Gt m c) (W m c) (Wd m c) (Lg m c) (Lb m c) (Tg m c) := by
  refine (dats m 0 c).arrAt_eq_of_covers 16 _ (by decide +kernel) fun t hf y => ?_
  blk_simp
  rw [after0_16, ValueIdx.eq_ix3 y]
  exact (out16 m c t ((flush0_16 t).mp hf) _ _ _).trans (((v106_at _ hr _ _).symm).trans (congrArg _ (emb16 t _ _ _).symm))

end Cert.LossIdeal.Value

end
-- ==== Proof.LossClaim.lean ====
/- The loss and its gradient: kernel and reference leave the same eight arrays. -/
module

public import proofs.«01_k».proof.Defs
public import proofs.«01_k».proof.Proof.Gen.LossRefIdeal.Run
public import proofs.«01_k».proof.Proof.Gen.Pre_finite_loss
public import proofs.«01_k».proof.Proof.LossValue

@[expose] public section

noncomputable section

open Idealize.ShloMosaic Idealize.SL.Sem

namespace Cert.LossClaim

open Cert.LossRefIdeal.Read

/-- The reference ends, leaves its arguments alone and has no counters. -/
theorem frame_ref : @Cert.quiescent_LossRefIdeal Cert.LossRefIdeal.Gen.facts := fun m ρ _ =>
  (θ_run Cert.LossRefIdeal.defs _ _).mono (fun r h => ⟨fun c => (h c).2.2.2.2.2.2.2.2, sem_eq_zero_of_no_sems (by decide) r.2⟩)
    (Cert.LossRefIdeal.Value.run (F := Ideal) m ρ)

set_option maxHeartbeats 2000000 in
/-- The value claim. -/
theorem value : @Cert.algebraic_LossIdeal_LossRefIdeal_pre_finite_loss Cert.LossIdeal.Gen.facts Cert.LossRefIdeal.Gen.facts Cert.Pre_finite_loss.Gen.facts := by
  intro m g m' g' hp hm
  refine ⟨fun c => (Cert.LossIdeal.Gen.dats m 0 c).arrAt 9 (Cert.LossIdeal.cfgs 0).N, fun c => (Cert.LossIdeal.Gen.dats m 0 c).arrAt 10 (Cert.LossIdeal.cfgs 0).N,
    fun c => (Cert.LossIdeal.Gen.dats m 0 c).arrAt 11 (Cert.LossIdeal.cfgs 0).N, fun c => (Cert.LossIdeal.Gen.dats m 0 c).arrAt 12 (Cert.LossIdeal.cfgs 0).N,
    fun c => (Cert.LossIdeal.Gen.dats m 0 c).arrAt 13 (Cert.LossIdeal.cfgs 0).N, fun c => (Cert.LossIdeal.Gen.dats m 0 c).arrAt 14 (Cert.LossIdeal.cfgs 0).N,
    fun c => (Cert.LossIdeal.Gen.dats m 0 c).arrAt 15 (Cert.LossIdeal.cfgs 0).N, fun c => (Cert.LossIdeal.Gen.dats m 0 c).arrAt 16 (Cert.LossIdeal.cfgs 0).N,
    Cert.LossIdeal.Value.run_blocks m g, ?_⟩
  refine (θ_run Cert.LossRefIdeal.defs _ _).mono (fun r h c => ?_) (Cert.LossRefIdeal.Value.run m' g')
  obtain ⟨h0, h1, h2, h3, h4, h5, h6, h7, hk⟩ := h c
  obtain ⟨e0, e1, e2, e3, e4, e5, e6, e7, e8⟩ := hm c
  have a0 : StableHlo.launchContents m' c (Proc.devRef .tc Cert.LossRefIdeal.main_arg0) = Cert.LossIdeal.Value.X m c := e0
  have a1 : StableHlo.launchContents m' c (Proc.devRef .tc Cert.LossRefIdeal.main_arg1) = Cert.LossIdeal.Value.Sh m c := e1
  have a2 : StableHlo.launchContents m' c (Proc.devRef .tc Cert.LossRefIdeal.main_arg2) = Cert.LossIdeal.Value.Sc m c := e2
  have a3 : StableHlo.launchContents m' c (Proc.devRef .tc Cert.LossRefIdeal.main_arg3) = Cert.LossIdeal.Value.Gt m c := e3
  have a4 : StableHlo.launchContents m' c (Proc.devRef .tc Cert.LossRefIdeal.main_arg4) = Cert.LossIdeal.Value.W m c := e4
  have a5 : StableHlo.launchContents m' c (Proc.devRef .tc Cert.LossRefIdeal.main_arg5) = Cert.LossIdeal.Value.Wd m c := e5
  have a6 : StableHlo.launchContents m' c (Proc.devRef .tc Cert.LossRefIdeal.main_arg6) = Cert.LossIdeal.Value.Lg m c := e6
  have a7 : StableHlo.launchContents m' c (Proc.devRef .tc Cert.LossRefIdeal.main_arg7) = Cert.LossIdeal.Value.Lb m c := e7
  have a8 : StableHlo.launchContents m' c (Proc.devRef .tc Cert.LossRefIdeal.main_arg8) = Cert.LossIdeal.Value.Tg m c := e8
  have hr := @Cert.Pre_finite_loss.real_of Cert.Pre_finite_loss.Gen.facts _ _ _ _ _ _ _ _ _ (fun a => a.elim0) (congrFun (hp c) _)
  have f0 := Cert.LossIdeal.Value.final9 m c hr
  have f1 := Cert.LossIdeal.Value.final10 m c hr
  have f2 := Cert.LossIdeal.Value.final11 m c
  have f3 := Cert.LossIdeal.Value.final12 m c
  have f4 := Cert.LossIdeal.Value.final13 m c
  have f5 := Cert.LossIdeal.Value.final14 m c hr
  have f6 := Cert.LossIdeal.Value.final15 m c
  have f7 := Cert.LossIdeal.Value.final16 m c hr
  clear hp hm e0 e1 e2 e3 e4 e5 e6 e7 e8
  refine ⟨?_, ?_, ?_, ?_, ?_, ?_, ?_, ?_, hk⟩ <;> clear hk
  · clear h1 f1 h2 f2 h3 f3 h4 f4 h5 f5 h6 f6 h7 f7
    rw [val_main_v107_eq, a0, a1, a2, a3, a4, a5, a6, a7, a8] at h0
    exact h0.trans f0.symm
  · clear h0 f0 h2 f2 h3 f3 h4 f4 h5 f5 h6 f6 h7 f7
    rw [val_main_v109_eq, a0, a1, a2, a3, a4, a5, a6, a7, a8] at h1
    exact h1.trans f1.symm
  · clear h0 f0 h1 f1 h3 f3 h4 f4 h5 f5 h6 f6 h7 f7
    rw [val_main_v114_eq, a0, a1, a2, a4] at h2
    exact h2.trans f2.symm
  · clear h0 f0 h1 f1 h2 f2 h4 f4 h5 f5 h6 f6 h7 f7
    rw [val_main_v116_eq, a0, a1, a2, a4] at h3
    exact h3.trans f3.symm
  · clear h0 f0 h1 f1 h2 f2 h3 f3 h5 f5 h6 f6 h7 f7
    rw [val_main_v118_eq, a0, a1, a2] at h4
    exact h4.trans f4.symm
  · clear h0 f0 h1 f1 h2 f2 h3 f3 h4 f4 h6 f6 h7 f7
    rw [val_main_v119_eq, a0, a1, a2, a3, a4, a5, a6, a7, a8] at h5
    exact h5.trans f5.symm
  · clear h0 f0 h1 f1 h2 f2 h3 f3 h4 f4 h5 f5 h7 f7
    rw [val_main_v120_eq, a0, a1, a2, a3, a4, a5, a6, a7, a8] at h6
    exact h6.trans f6.symm
  · clear h0 f0 h1 f1 h2 f2 h3 f3 h4 f4 h5 f5 h6 f6
    rw [val_main_v106_eq, a0, a1, a2, a3, a4, a5, a6, a7, a8] at h7
    exact h7.trans f7.symm

end Cert.LossClaim

end
-- ==== Proof.ProjIns.lean ====
module

public import proofs.«01_k».proof.Proof.Gen.ProjBIdeal.Frame.Runs
public import Idealize.ShloMosaic.Lib.Pipeline.ReadBack
public import Idealize.ShloMosaic.Lib.Pipeline.ValueKit

/-! What one call of the body of the kernel of the input projection's gradient does to its buffers. -/

@[expose] public section

set_option maxRecDepth 16384

noncomputable section

namespace Cert.ProjRun

open Cert.ProjBIdeal Cert.ProjBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The blocks one call reads: the six parts of the gradient by the projection, the gradient from the bypass, the row it
    modulated, the shift and the scale, the weight, the row that was normalised, the other branch, its gate, and the gain. -/
structure Ins (F : FTy → Type) where
  dq : Vec F S512x512 .bf16
  dk : Vec F S512x128 .f32
  dv : Vec F S512x128 .f32
  du : Vec F S512x512 .bf16
  db : Vec F S512x512 .bf16
  dc : Vec F S512x512 .bf16
  dres : Vec F S512x1024 .f32
  x1 : Vec F S512x1024 .f32
  sh : Vec F S1x1x1024 .f32
  sc : Vec F S1x1x1024 .f32
  w : Vec F S2304x1024 .bf16
  r : Vec F S512x1024 .f32
  f : Vec F S512x1024 .bf16
  gt : Vec F S1x1x1024 .f32
  lg : Vec F S1x1024 .f32

/-- The blocks it leaves: the gradients by the row and by the branch, the six parts side by side, the modulated row, and
    three that add up over the calls: the gradients by shift and scale, by gain and bias, and by the gate. -/
structure Outs (F : FTy → Type) where
  dr : Vec F S512x1024 .f32
  df : Vec F S512x1024 .bf16
  dproj : Vec F S512x2304 .bf16
  h : Vec F S512x1024 .bf16
  mod : Vec F S1x2x1024 .f32
  norm : Vec F S2x1024 .f32
  gate : Vec F S1x1x1024 .f32

namespace Ins

variable (X : Ins F)

/-- The gradient by the modulated row. -/
def dh : FVec F S512x1024 .f32 := k0_pay3 X.dq X.dk X.dv X.du X.db X.dc X.w
/-- The gradient by the normalised row, and the norm's two backward factors and its two sums. -/
def dy : FVec F S512x1024 .f32 := k0_pay7 X.dh (k0_pay5 X.sc) X.dres
def centred : FVec F S512x1024 .f32 := k0_pay11 X.dh (k0_pay5 X.sc) X.dres X.r X.lg
def dgain : FVec F S1x1024 .f32 := k0_pay14 X.dy (k0_pay10 X.r)
def dbias : FVec F S1x1024 .f32 := k0_pay15 X.dy
/-- The gradients by the row and by the branch, the six parts side by side, and the modulated row. -/
def dr : FVec F S512x1024 .f32 := k0_pay13 X.centred (k0_pay12 X.r)
def df : FVec F S512x1024 .bf16 := k0_pay16 X.centred (k0_pay12 X.r) X.gt
def dproj : FVec F S512x2304 .bf16 := k0_pay2 X.dq X.dk X.dv X.du X.db X.dc
def h : FVec F S512x1024 .bf16 := k0_pay6 X.x1 X.sc X.sh

/-- What a call leaves of the gradients by shift and scale, when it finds `p`, -/
def mod (p : Vec F S1x2x1024 .f32) : Vec F S1x2x1024 .f32 :=
  View.canon [(⟨Rect.unit ![0, 1, 0] S1x1x1024.size inb_S1x2x1024_S1x1x1024_0_1_0, k0_pay21 X.dh (k0_pay4 X.x1) (View.ld p (Rect.unit ![0, 1, 0] S1x1x1024.size inb_S1x2x1024_S1x1x1024_0_1_0))⟩ : View.Piece (Elt F) S1x2x1024 .f32),
    ⟨Rect.unit ![0, 0, 0] S1x1x1024.size inb_S1x2x1024_S1x1x1024_0_0_0, k0_pay20 X.dh (View.ld p (Rect.unit ![0, 0, 0] S1x1x1024.size inb_S1x2x1024_S1x1x1024_0_0_0))⟩]
/-- of those by gain and bias, -/
def norm (p : Vec F S2x1024 .f32) : Vec F S2x1024 .f32 :=
  View.canon [(⟨Rect.unit ![1, 0] S1x1024.size inb_S2x1024_S1x1024_1_0, k0_pay23 X.dbias (View.ld p (Rect.unit ![1, 0] S1x1024.size inb_S2x1024_S1x1024_1_0))⟩ : View.Piece (Elt F) S2x1024 .f32),
    ⟨Rect.unit ![0, 0] S1x1024.size inb_S2x1024_S1x1024_0_0, k0_pay22 X.dgain (View.ld p (Rect.unit ![0, 0] S1x1024.size inb_S2x1024_S1x1024_0_0))⟩]
/-- and of that by the gate. -/
def gate (p : Vec F S1x1x1024 .f32) : Vec F S1x1x1024 .f32 :=
  k0_pay1 X.dr (k0_pay24 p) (k0_pay25 X.f) (Scalar.ofBits .f32 0x3F000000#32)

open Classical in
/-- What a call leaves, at the first tile of all (`first`), at the first tile of a sequence (`start`), or elsewhere. -/
def step (first start : Prop) (Y : Outs F) : Outs F where
  dr := X.dr
  df := X.df
  dproj := X.dproj
  h := X.h
  mod := X.mod (if start then k0_pay18 else Y.mod)
  norm := X.norm (if first then k0_pay17 else Y.norm)
  gate := X.gate (if start then k0_pay19 else Y.gate)

variable {X : Ins F} {first start : Prop} {Y : Outs F}

theorem mod_start (h : start) : (X.step first start Y).mod = X.mod k0_pay18 := by
  unfold step; simp only [if_pos h]
theorem mod_on (h : ¬ start) : (X.step first start Y).mod = X.mod Y.mod := by
  unfold step; simp only [if_neg h]
theorem norm_first (h : first) : (X.step first start Y).norm = X.norm k0_pay17 := by
  unfold step; simp only [if_pos h]
theorem norm_on (h : ¬ first) : (X.step first start Y).norm = X.norm Y.norm := by
  unfold step; simp only [if_neg h]
theorem gate_start (h : start) : (X.step first start Y).gate = X.gate k0_pay19 := by
  unfold step; simp only [if_pos h]
theorem gate_on (h : ¬ start) : (X.step first start Y).gate = X.gate Y.gate := by
  unfold step; simp only [if_neg h]

/-- What the first call of all leaves. -/
def fresh (X : Ins F) : Outs F := ⟨X.dr, X.df, X.dproj, X.h, X.mod k0_pay18, X.norm k0_pay17, X.gate k0_pay19⟩

theorem step_fresh (h₁ : first) (h₂ : start) : X.step first start Y = X.fresh := by
  unfold step fresh; rw [if_pos h₁, if_pos h₂, if_pos h₂]

/-- A call does not depend on a sum it fills. -/
theorem step_congr {Y' : Outs F} (hm : ¬ start → Y.mod = Y'.mod) (hn : ¬ first → Y.norm = Y'.norm) (hg : ¬ start → Y.gate = Y'.gate) :
    X.step first start Y = X.step first start Y' := by
  unfold step
  by_cases h₁ : first <;> by_cases h₂ : start <;> simp only [h₁, h₂, if_true, if_false, not_false_eq_true, hm, hn, hg]

end Ins

/-- Where the last stores of a list cover an index, the earlier ones do not show there. -/
theorem canon_last {s : Shape} {e : EltTy} (L' : List (View.Piece (Elt F) s e)) (y : s.Idx) :
    ∀ L : List (View.Piece (Elt F) s e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      exact (View.canon_cons_emb r w _ x).trans (View.canon_cons_emb r w L x).symm
    · rw [List.cons_append, View.canon_cons_of_not_mem p _ hy, View.canon_cons_of_not_mem p L hy]
      obtain ⟨q, hm, hq⟩ := h
      rcases List.mem_cons.mp hm with rfl | hm
      · exact absurd hq hy
      · exact canon_last L' y L ⟨q, hm, hq⟩

theorem canon_two {s : Shape} {e : EltTy} (a b l : View.Piece (Elt F) s e) (h : ∀ y : s.Idx, ∃ p ∈ [a, b], y ∈ p.1.set) :
    View.canon [a, b, l] = View.canon [a, b] := funext fun y => canon_last [l] y [a, b] (h y)

end Cert.ProjRun

end
-- ==== Proof.ProjPre.lean ====
/- The arguments of the input projection's gradient, and what the precondition on them says: they hold real numbers. -/
module

public import proofs.«01_k».proof.Pre_finite_proj
public import proofs.«01_k».proof.Proof.Reals
public import Idealize.ShloMosaic.Lib.WordCmp

@[expose] public section

noncomputable section

namespace Cert.Pre_finite_proj

open Idealize.ShloMosaic Cert.Reals

/-- The arguments: the block's input, the other branch and its gate, the norm's gain and bias, the shift and the scale, the
    projection's weights, the gradient from the bypass, and the gradients by the six parts of the projection. -/
structure Args where
  x : FVec Ideal S2x2048x1024 .f32
  f : FVec Ideal S2x2048x1024 .f32
  gt : FVec Ideal S2x1x1024 .f32
  lg : FVec Ideal S1x1024 .f32
  lb : FVec Ideal S1x1024 .f32
  sh : FVec Ideal S2x1x1024 .f32
  sc : FVec Ideal S2x1x1024 .f32
  w : FVec Ideal S1024x2304 .f32
  dres : FVec Ideal S2x2048x1024 .f32
  dq : FVec Ideal S2x2048x512 .f32
  dk : FVec Ideal S2x2048x128 .f32
  dv : FVec Ideal S2x2048x128 .f32
  du : FVec Ideal S2x2048x512 .f32
  db : FVec Ideal S2x2048x512 .f32
  dc : FVec Ideal S2x2048x512 .f32

/-- The arguments that enter the norm's gradient hold real numbers. -/
structure Real (A : Args) : Prop where
  x : ∀ i, IsR (A.x i)
  f : ∀ i, IsR (A.f i)
  gt : ∀ i, IsR (A.gt i)
  lg : ∀ i, IsR (A.lg i)
  sc : ∀ i, IsR (A.sc i)
  w : ∀ i, IsR (A.w i)
  dres : ∀ i, IsR (A.dres i)
  dq : ∀ i, IsR (A.dq i)
  dk : ∀ i, IsR (A.dk i)
  dv : ∀ i, IsR (A.dv i)
  du : ∀ i, IsR (A.du i)
  db : ∀ i, IsR (A.db i)
  dc : ∀ i, IsR (A.dc i)

variable [Facts]

instance : Subsingleton S_.Idx := ⟨fun i j => funext fun a => a.elim0⟩

theorem real_of (A : Args) (i : S_.Idx)
    (e : fn (F := Ideal) A.x A.f A.gt A.lg A.lb A.sh A.sc A.w A.dres A.dq A.dk A.dv A.du A.db A.dc i = 1#1) : Real A := by
  unfold fn at e
  try unfold fn_part1 at e
  try unfold fn_part2 at e
  simp only [WordCmp.andi_at] at e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨isR_of_all _ _ (fun _ => by pointwise [ofBits_inf]) _ _ _ _ e1, isR_of_all _ _ (fun _ => by pointwise [ofBits_inf]) _ _ _ _ e2,
    isR_of_all _ _ (fun _ => by pointwise [ofBits_inf]) _ _ _ _ e3, isR_of_all _ _ (fun _ => by pointwise [ofBits_inf]) _ _ _ _ e4,
    isR_of_all _ _ (fun _ => by pointwise [ofBits_inf]) _ _ _ _ e5, isR_of_all _ _ (fun _ => by pointwise [ofBits_inf]) _ _ _ _ e6,
    isR_of_all _ _ (fun _ => by pointwise [ofBits_inf]) _ _ _ _ e7, isR_of_all _ _ (fun _ => by pointwise [ofBits_inf]) _ _ _ _ e8,
    isR_of_all _ _ (fun _ => by pointwise [ofBits_inf]) _ _ _ _ e9, isR_of_all _ _ (fun _ => by pointwise [ofBits_inf]) _ _ _ _ e10,
    isR_of_all _ _ (fun _ => by pointwise [ofBits_inf]) _ _ _ _ e11, isR_of_all _ _ (fun _ => by pointwise [ofBits_inf]) _ _ _ _ e12,
    isR_of_all _ _ (fun _ => by pointwise [ofBits_inf]) _ _ _ _ e13⟩

end Cert.Pre_finite_proj

end
-- ==== Proof.Parts.lean ====
/- Six rows side by side, as the input projection lays them out. -/
module

public import proofs.«01_k».proof.Proof.Reals

@[expose] public section

noncomputable section

namespace Cert.Parts

open Cert.Reals

/-- Rows of 512, 128, 128, 512, 512 and 512 numbers, side by side. -/
def beside (a : Fin 512 → EReal) (b c : Fin 128 → EReal) (d e f : Fin 512 → EReal) (j : Fin 2304) : EReal :=
  if h1 : j.val < 512 then a ⟨j.val, h1⟩
  else if h2 : j.val - 512 < 128 then b ⟨j.val - 512, h2⟩
  else if h3 : j.val - 512 - 128 < 128 then c ⟨j.val - 512 - 128, h3⟩
  else if h4 : j.val - 512 - 128 - 128 < 512 then d ⟨j.val - 512 - 128 - 128, h4⟩
  else if h5 : j.val - 512 - 128 - 128 - 512 < 512 then e ⟨j.val - 512 - 128 - 128 - 512, h5⟩
  else f ⟨j.val - 512 - 128 - 128 - 512 - 512, by omega⟩

theorem beside_congr {a a' d d' e e' f f' : Fin 512 → EReal} {b b' c c' : Fin 128 → EReal} (ha : ∀ i, a i = a' i) (hb : ∀ i, b i = b' i)
    (hc : ∀ i, c i = c' i) (hd : ∀ i, d i = d' i) (he : ∀ i, e i = e' i) (hf : ∀ i, f i = f' i) (j : Fin 2304) :
    beside a b c d e f j = beside a' b' c' d' e' f' j := by
  rw [funext ha, funext hb, funext hc, funext hd, funext he, funext hf]

theorem isR_beside {a d e f : Fin 512 → EReal} {b c : Fin 128 → EReal} (ha : ∀ i, IsR (a i)) (hb : ∀ i, IsR (b i)) (hc : ∀ i, IsR (c i))
    (hd : ∀ i, IsR (d i)) (he : ∀ i, IsR (e i)) (hf : ∀ i, IsR (f i)) (j : Fin 2304) : IsR (beside a b c d e f j) := by
  unfold beside
  split_ifs
  · exact ha _
  · exact hb _
  · exact hc _
  · exact hd _
  · exact he _
  · exact hf _

/-- A half of a sum is the sum of the halves. -/
theorem mul_sum {ι : Type} (s : Finset ι) (h : EReal) (h0 : 0 ≤ h) (ht : h ≠ ⊤) (f : ι → EReal) : h * ∑ i ∈ s, f i = ∑ i ∈ s, h * f i := by
  classical
  induction s using Finset.induction_on with
  | empty => simp
  | insert a s ha ih => rw [Finset.sum_insert ha, Finset.sum_insert ha, EReal.left_distrib_of_nonneg_of_ne_top h0 ht, ih]

end Cert.Parts

end
-- ==== Proof.ProjRef.lean ====
/- What the reference of the input projection's gradient computes, read at an index. -/
module

public import proofs.«01_k».proof.Proof.Gen.ProjRefIdeal.Read
public import proofs.«01_k».proof.Proof.ProjPre
public import proofs.«01_k».proof.Proof.Parts
public import proofs.«01_k».proof.Proof.Norm
public import proofs.«01_k».proof.Proof.Tools

@[expose] public section

set_option maxRecDepth 16384

noncomputable section

namespace Cert.ProjRefIdeal.At

open Idealize.ShloMosaic Idealize.ShloMosaic.TcCoe
open Cert.ProjRefIdeal Cert.ProjRefIdeal.Gen Cert.ProjRefIdeal.Read Cert.Norm Cert.Reals Cert.Parts
open Cert.Pre_finite_proj (Args Real)

variable (A : Args) (b : Fin 2) (s : Fin 2048)

/-- The scale of the bypass, and a half. -/
abbrev alpha : EReal := Ideal.ofBits .f32 1066940400#32
abbrev half : EReal := Ideal.ofBits .f32 1056964608#32

/-- The gate of the other branch. -/
def gate (k : Fin 1024) : EReal := half * (1 + A.gt (ix3 b 0 k))

/-- The row that the reference normalises, the normalised row with gain and bias, and that row shifted and scaled. -/
def row (k : Fin 1024) : EReal := alpha * A.x (ix3 b s k) + gate A b k * A.f (ix3 b s k)
def x1 (k : Fin 1024) : EReal := xhat (row A b s) k * A.lg (ix2 0 k) + A.lb (ix2 0 k)
def h (k : Fin 1024) : EReal := x1 A b s k * (1 + A.sc (ix3 b 0 k)) + A.sh (ix3 b 0 k)

/-- The gradients by the projection, by its input, by the normalised row with gain and bias, and by the normalised row. -/
def dproj (j : Fin 2304) : EReal := beside (fun i => A.dq (ix3 b s i)) (fun i => A.dk (ix3 b s i)) (fun i => A.dv (ix3 b s i))
  (fun i => A.du (ix3 b s i)) (fun i => A.db (ix3 b s i)) (fun i => A.dc (ix3 b s i)) j
def dh (k : Fin 1024) : EReal := ∑ j : Fin 2304, dproj A b s j * A.w (ix2 k j)
def dy (k : Fin 1024) : EReal := A.dres (ix3 b s k) + dh A b s k * (1 + A.sc (ix3 b 0 k))
def dxh (k : Fin 1024) : EReal := dy A b s k * A.lg (ix2 0 k)
/-- The gradient by the row that was normalised. -/
def dr (k : Fin 1024) : EReal := bwd (dxh A b s) (row A b s) k

theorem v5_at (z : Fin 1) (k : Fin 1024) : (val_main_v5 (F := Ideal) A.gt (ix3 b z k) : EReal) = gate A b k := by
  obtain rfl : z = 0 := Subsingleton.elim _ _
  unfold val_main_v5 val_main_v4 val_main_v3 val_main_v2 val_main_cst_0 val_main_cst_1 gate
  pointwise

theorem v8_at (k : Fin 1024) : (val_main_v8 (F := Ideal) A.x A.f A.gt (ix3 b s k) : EReal) = row A b s k := by
  unfold val_main_v8 val_main_v7 val_main_v6 val_main_v1 val_main_v0 val_main_cst row
  pointwise [v5_at]

theorem v12_at (z : Fin 1) : (val_main_v12 (F := Ideal) A.x A.f A.gt (ix3 b s z) : EReal) = mean (row A b s) := by
  unfold val_main_v12 val_main_v11 val_main_v10 val_main_v9 val_main_cst_2 val_main_cst_3 mean
  pointwise [v8_at]

theorem v14_at (k : Fin 1024) : (val_main_v14 (F := Ideal) A.x A.f A.gt (ix3 b s k) : EReal) = ctr (row A b s) k := by
  unfold val_main_v14 val_main_v13 ctr
  pointwise [v8_at, v12_at]

theorem v23_at (k : Fin 1024) : (val_main_v23 (F := Ideal) A.x A.f A.gt (ix3 b s k) : EReal) = ctr (row A b s) k := by
  unfold val_main_v23 val_main_v22 ctr
  pointwise [v8_at, v12_at]

theorem v25_at (z : Fin 1) : (val_main_v25 (F := Ideal) A.x A.f A.gt (ix3 b s z) : EReal) = vare (row A b s) := by
  unfold val_main_v25 val_main_v24 val_main_v21 val_main_v20 val_main_v19 val_main_v18 val_main_v15 val_main_cst_5 val_main_cst_6 val_main_cst_7 vare mean
  pointwise [v14_at]

theorem v26_at (z : Fin 1) : (val_main_v26 (F := Ideal) A.x A.f A.gt (ix3 b s z) : EReal) = rstd (row A b s) := by
  unfold val_main_v26 rstd
  pointwise [v25_at]

theorem v31_at (k : Fin 1024) : (val_main_v31 (F := Ideal) A.x A.f A.gt (ix3 b s k) : EReal) = xhat (row A b s) k := by
  unfold val_main_v31 val_main_v30 xhat
  pointwise [v23_at, v26_at]

theorem v37_at (k : Fin 1024) : (val_main_v37 (F := Ideal) A.x A.f A.gt A.lg A.lb (ix3 b s k) : EReal) = x1 A b s k := by
  unfold val_main_v37 val_main_v36 val_main_v35 val_main_v34 val_main_v33 val_main_v32 x1
  pointwise [v31_at]

theorem v43_at (k : Fin 1024) : (val_main_v43 (F := Ideal) A.x A.f A.gt A.lg A.lb A.sh A.sc (ix3 b s k) : EReal) = h A b s k := by
  unfold val_main_v43 val_main_v42 val_main_v41 val_main_v40 val_main_v39 val_main_v38 val_main_cst_9 h
  pointwise [v37_at]

theorem v51_at (j : Fin 2304) : (val_main_v51 (F := Ideal) A.dq A.dk A.dv A.du A.db A.dc (ix3 b s j) : EReal) = dproj A b s j := by
  unfold val_main_v51 dproj beside
  pointwise

theorem v103_at (j : Fin 2304) : (val_main_v103 (F := Ideal) A.dq A.dk A.dv A.du A.db A.dc (ix3 b s j) : EReal) = dproj A b s j :=
  v51_at A b s j

theorem v52_at (k : Fin 1024) : (val_main_v52 (F := Ideal) A.w A.dq A.dk A.dv A.du A.db A.dc (ix3 b s k) : EReal) = dh A b s k := by
  unfold val_main_v52 dh
  pointwise [v51_at]

theorem v60_at (k : Fin 1024) : (val_main_v60 (F := Ideal) A.sc A.w A.dres A.dq A.dk A.dv A.du A.db A.dc (ix3 b s k) : EReal) = dy A b s k := by
  unfold val_main_v60 val_main_v59 val_main_v58 val_main_v39 val_main_v38 val_main_cst_9 dy
  pointwise [v52_at]

theorem v69_at (k : Fin 1024) : (val_main_v69 (F := Ideal) A.lg A.sc A.w A.dres A.dq A.dk A.dv A.du A.db A.dc (ix3 b s k) : EReal) = dxh A b s k := by
  unfold val_main_v69 val_main_v68 val_main_v32 dxh
  pointwise [v60_at]

theorem v82_at (z : Fin 1) : (val_main_v82 (F := Ideal) A.x A.f A.gt A.lg A.sc A.w A.dres A.dq A.dk A.dv A.du A.db A.dc (ix3 b s z) : EReal)
    = refVar (dxh A b s) (row A b s) := by
  unfold val_main_v82 val_main_v81 val_main_v77 val_main_v74 val_main_v73 val_main_v72 val_main_v29 val_main_v28 val_main_v27
    val_main_cst_8 val_main_cst_16 val_main_cst_18 refVar
  pointwise [v69_at, v23_at, v25_at, v26_at]

theorem v85_at (k : Fin 1024) : (val_main_v85 (F := Ideal) A.x A.f A.gt A.lg A.sc A.w A.dres A.dq A.dk A.dv A.du A.db A.dc (ix3 b s k) : EReal)
    = refVar (dxh A b s) (row A b s) * (two * ctr (row A b s) k) := by
  unfold val_main_v85 val_main_v84 val_main_v83 val_main_v17 val_main_v16 val_main_cst_4 val_main_cst_19
  pointwise [v82_at, v14_at]
  rw [Fin.sum_univ_one]

theorem v76_at (k : Fin 1024) : (val_main_v76 (F := Ideal) A.x A.f A.gt A.lg A.sc A.w A.dres A.dq A.dk A.dv A.du A.db A.dc (ix3 b s k) : EReal)
    = dxh A b s k * rstd (row A b s) := by
  unfold val_main_v76 val_main_v75
  pointwise [v69_at, v26_at]

theorem v92_at (z : Fin 1) : (val_main_v92 (F := Ideal) A.x A.f A.gt A.lg A.sc A.w A.dres A.dq A.dk A.dv A.du A.db A.dc (ix3 b s z) : EReal)
    = Ideal.div (∑ j, -(dxh A b s j * rstd (row A b s)) + ∑ j, -(refVar (dxh A b s) (row A b s) * (two * ctr (row A b s) j))) len := by
  unfold val_main_v92 val_main_v91 val_main_v90 val_main_v88 val_main_v87 val_main_v86 val_main_v80 val_main_v79 val_main_v78
    val_main_cst_17 val_main_cst_20 val_main_cst_21
  pointwise [v76_at, v85_at]

/-- The gradient by the row that was normalised, as differentiation writes it. -/
theorem v95_ref (k : Fin 1024) : (val_main_v95 (F := Ideal) A.x A.f A.gt A.lg A.sc A.w A.dres A.dq A.dk A.dv A.du A.db A.dc (ix3 b s k) : EReal)
    = refBwd (dxh A b s) (row A b s) k := by
  unfold val_main_v95 val_main_v94 val_main_v93 val_main_v89 val_main_cst_22 refBwd
  pointwise [v76_at, v85_at, v92_at]
  rw [Fin.sum_univ_one]

theorem isR_alpha : IsR alpha := ⟨9975792 / 8388608, by simp [alpha, Ideal.ofBits, Ideal.ieee, -EReal.coe_mul]; norm_num⟩
theorem half_eq : half = ((1 / 2 : ℝ) : EReal) := by simp [half, Ideal.ofBits, Ideal.ieee, -EReal.coe_mul]; norm_num
theorem isR_half : IsR half := ⟨_, half_eq⟩

variable {A}

theorem isR_row (hr : Real A) (k : Fin 1024) : IsR (row A b s k) :=
  (isR_alpha.mul (hr.x _)).add ((isR_half.mul (IsR.one.add (hr.gt _))).mul (hr.f _))

theorem isR_dxh (hr : Real A) (k : Fin 1024) : IsR (dxh A b s k) :=
  ((hr.dres _).add ((IsR.sum _ fun _ => (isR_beside (fun _ => hr.dq _) (fun _ => hr.dk _) (fun _ => hr.dv _) (fun _ => hr.du _)
    (fun _ => hr.db _) (fun _ => hr.dc _) _).mul (hr.w _)).mul (IsR.one.add (hr.sc _)))).mul (hr.lg _)

theorem v95_at (hr : Real A) (k : Fin 1024) :
    (val_main_v95 (F := Ideal) A.x A.f A.gt A.lg A.sc A.w A.dres A.dq A.dk A.dv A.du A.db A.dc (ix3 b s k) : EReal) = dr A b s k :=
  (v95_ref A b s k).trans (refBwd_eq _ _ (isR_dxh b s hr) (isR_row b s hr) k)

/-- The token of a sequence, in the array of all tokens. -/
abbrev tok (b : Fin 2) (s : Fin 2048) : Fin 4096 := ⟨b.val * 2048 + s.val, by omega⟩

/-- The gradient by the row, laid out by tokens. -/
theorem v104_at (hr : Real A) (k : Fin 1024) :
    (val_main_v104 (F := Ideal) A.x A.f A.gt A.lg A.sc A.w A.dres A.dq A.dk A.dv A.du A.db A.dc (ix2 (tok b s) k) : EReal) = dr A b s k := by
  have hs : s.val < 2048 := s.isLt
  have hb : b.val < 2 := b.isLt
  rw [← v95_at b s hr]
  unfold val_main_v104
  generalize val_main_v95 (F := Ideal) A.x A.f A.gt A.lg A.sc A.w A.dres A.dq A.dk A.dv A.du A.db A.dc = X
  pointwise
  simp only [show (b.val * 2048 + s.val) / 2048 = b.val by omega, show (b.val * 2048 + s.val) % 2048 = s.val by omega]

theorem v97_at (hr : Real A) (k : Fin 1024) :
    (val_main_v97 (F := Ideal) A.x A.f A.gt A.lg A.sc A.w A.dres A.dq A.dk A.dv A.du A.db A.dc (ix3 b s k) : EReal) = gate A b k * dr A b s k := by
  unfold val_main_v97 val_main_v96
  pointwise [v5_at, v95_at b s hr]

/-- The gradient by the other branch. -/
theorem v106_at (hr : Real A) (k : Fin 1024) :
    (val_main_v106 (F := Ideal) A.x A.f A.gt A.lg A.sc A.w A.dres A.dq A.dk A.dv A.du A.db A.dc (ix2 (tok b s) k) : EReal)
      = gate A b k * dr A b s k := by
  have hs : s.val < 2048 := s.isLt
  have hb : b.val < 2 := b.isLt
  rw [← v97_at b s hr]
  unfold val_main_v106 val_main_v105
  generalize val_main_v97 (F := Ideal) A.x A.f A.gt A.lg A.sc A.w A.dres A.dq A.dk A.dv A.du A.db A.dc = X
  pointwise
  simp only [show (b.val * 2048 + s.val) / 2048 = b.val by omega, show (b.val * 2048 + s.val) % 2048 = s.val by omega]

/-- The gradient by the projection. -/
theorem v108_at (j : Fin 2304) : (val_main_v108 (F := Ideal) A.dq A.dk A.dv A.du A.db A.dc (ix2 (tok b s) j) : EReal) = dproj A b s j := by
  have hs : s.val < 2048 := s.isLt
  have hb : b.val < 2 := b.isLt
  rw [← v103_at]
  unfold val_main_v108 val_main_v107
  generalize val_main_v103 (F := Ideal) A.dq A.dk A.dv A.du A.db A.dc = X
  pointwise
  simp only [show (b.val * 2048 + s.val) / 2048 = b.val by omega, show (b.val * 2048 + s.val) % 2048 = s.val by omega]

/-- The projection's input. -/
theorem v110_at (k : Fin 1024) :
    (val_main_v110 (F := Ideal) A.x A.f A.gt A.lg A.lb A.sh A.sc (ix2 (tok b s) k) : EReal) = h A b s k := by
  have hs : s.val < 2048 := s.isLt
  have hb : b.val < 2 := b.isLt
  rw [← v43_at]
  unfold val_main_v110 val_main_v109
  generalize val_main_v43 (F := Ideal) A.x A.f A.gt A.lg A.lb A.sh A.sc = X
  pointwise
  simp only [show (b.val * 2048 + s.val) / 2048 = b.val by omega, show (b.val * 2048 + s.val) % 2048 = s.val by omega]

/-- The gradients by the shift and by the scale. -/
theorem v54_at (z : Fin 1) (k : Fin 1024) : (val_main_v54 (F := Ideal) A.w A.dq A.dk A.dv A.du A.db A.dc (ix3 b z k) : EReal)
    = ∑ s : Fin 2048, dh A b s k := by
  unfold val_main_v54 val_main_v53 val_main_cst_10
  pointwise [v52_at]

theorem v57_at (z : Fin 1) (k : Fin 1024) :
    (val_main_v57 (F := Ideal) A.x A.f A.gt A.lg A.lb A.w A.dq A.dk A.dv A.du A.db A.dc (ix3 b z k) : EReal)
    = ∑ s : Fin 2048, dh A b s k * x1 A b s k := by
  unfold val_main_v57 val_main_v56 val_main_v55 val_main_cst_11
  pointwise [v37_at, v52_at]
  simp only [mul_comm]

theorem v111_at0 (k : Fin 1024) :
    (val_main_v111 (F := Ideal) A.x A.f A.gt A.lg A.lb A.w A.dq A.dk A.dv A.du A.db A.dc (ix3 b 0 k) : EReal) = ∑ s : Fin 2048, dh A b s k := by
  unfold val_main_v111
  pointwise [v54_at]

theorem v111_at1 (k : Fin 1024) :
    (val_main_v111 (F := Ideal) A.x A.f A.gt A.lg A.lb A.w A.dq A.dk A.dv A.du A.db A.dc (ix3 b 1 k) : EReal)
      = ∑ s : Fin 2048, dh A b s k * x1 A b s k := by
  unfold val_main_v111
  pointwise [v57_at]

/-- The gradients by the gain and by the bias. -/
theorem v112_at0 (k : Fin 1024) :
    (val_main_v112 (F := Ideal) A.x A.f A.gt A.sc A.w A.dres A.dq A.dk A.dv A.du A.db A.dc (ix2 0 k) : EReal)
      = ∑ b : Fin 2, ∑ s : Fin 2048, dy A b s k * xhat (row A b s) k := by
  unfold val_main_v112 val_main_v71 val_main_v70 val_main_v67 val_main_v66 val_main_v65 val_main_cst_14 val_main_cst_15
  pointwise [v31_at, v60_at, Tools.hostReduceAdd_lead3]
  simp only [Fin.sum_univ_one, mul_comm]

theorem v112_at1 (k : Fin 1024) :
    (val_main_v112 (F := Ideal) A.x A.f A.gt A.sc A.w A.dres A.dq A.dk A.dv A.du A.db A.dc (ix2 1 k) : EReal)
      = ∑ b : Fin 2, ∑ s : Fin 2048, dy A b s k := by
  unfold val_main_v112 val_main_v64 val_main_v63 val_main_v62 val_main_v61 val_main_cst_12 val_main_cst_13
  pointwise [v60_at, Tools.hostReduceAdd_lead3]
  simp only [Fin.sum_univ_one]

/-- The gradient by the gate. -/
theorem v102_at (hr : Real A) (z : Fin 1) (k : Fin 1024) :
    (val_main_v102 (F := Ideal) A.x A.f A.gt A.lg A.sc A.w A.dres A.dq A.dk A.dv A.du A.db A.dc (ix3 b z k) : EReal)
      = ∑ s : Fin 2048, dr A b s k * (half * A.f (ix3 b s k)) := by
  unfold val_main_v102 val_main_v101 val_main_v100 val_main_v99 val_main_v98 val_main_cst_23 val_main_cst_24
  pointwise [v95_at b _ hr]
  refine (mul_sum _ half ?_ ?_ _).trans (Finset.sum_congr rfl fun s _ => mul_left_comm _ _ _)
  · rw [half_eq]; exact EReal.coe_nonneg.mpr (by norm_num)
  · rw [half_eq]; exact EReal.coe_ne_top _

end Cert.ProjRefIdeal.At

end
-- ==== Proof.ProjHost.lean ====
/- What the arrays that the kernel of the input projection's gradient reads hold, in the terms of the reference. -/
module

public import proofs.«01_k».proof.Proof.ProjIns
public import proofs.«01_k».proof.Proof.ProjRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.ProjValue

open Cert.ProjBIdeal Cert.ProjBIdeal.Gen Cert.ProjRefIdeal.At
open Cert.Pre_finite_proj (Args Real)

variable (m : (ℓ : Loc nD τ sig) → Buf (Elt Ideal) ℓ) (c : Dev nD) (b : Fin 2) (s : Fin 2048)

/-- The arguments, as the program finds them. -/
abbrev args : Args where
  x := m ((c : Thread nD τ).loc main_arg0)
  f := m ((c : Thread nD τ).loc main_arg1)
  gt := m ((c : Thread nD τ).loc main_arg2)
  lg := m ((c : Thread nD τ).loc main_arg3)
  lb := m ((c : Thread nD τ).loc main_arg4)
  sh := m ((c : Thread nD τ).loc main_arg5)
  sc := m ((c : Thread nD τ).loc main_arg6)
  w := m ((c : Thread nD τ).loc main_arg7)
  dres := m ((c : Thread nD τ).loc main_arg8)
  dq := m ((c : Thread nD τ).loc main_arg9)
  dk := m ((c : Thread nD τ).loc main_arg10)
  dv := m ((c : Thread nD τ).loc main_arg11)
  du := m ((c : Thread nD τ).loc main_arg12)
  db := m ((c : Thread nD τ).loc main_arg13)
  dc := m ((c : Thread nD τ).loc main_arg14)

theorem v34_in (k : Fin 512) : (V m c main_v34 (ix2 (tok b s) k) : EReal) = (args m c).dq (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

theorem v35_in (k : Fin 128) : (V m c main_v35 (ix2 (tok b s) k) : EReal) = (args m c).dk (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

theorem v36_in (k : Fin 128) : (V m c main_v36 (ix2 (tok b s) k) : EReal) = (args m c).dv (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

theorem v38_in (k : Fin 512) : (V m c main_v38 (ix2 (tok b s) k) : EReal) = (args m c).du (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

theorem v40_in (k : Fin 512) : (V m c main_v40 (ix2 (tok b s) k) : EReal) = (args m c).db (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

theorem v42_in (k : Fin 512) : (V m c main_v42 (ix2 (tok b s) k) : EReal) = (args m c).dc (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

theorem v43_in (k : Fin 1024) : (V m c main_v43 (ix2 (tok b s) k) : EReal) = (args m c).dres (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

/-- The normalised row with gain and bias, computed before the kernel. -/
theorem v44_in (k : Fin 1024) : (V m c main_v44 (ix2 (tok b s) k) : EReal) = x1 (args m c) b s k := by
  have hs : s.val < 2048 := s.isLt
  have hb : b.val < 2 := b.isLt
  entry_read
  pointwise
  simp only [show (b.val * 2048 + s.val) / 2048 = b.val by omega, show (b.val * 2048 + s.val) % 2048 = s.val by omega]
  rfl

theorem v46_in (j : Fin 2304) (k : Fin 1024) : (V m c main_v46 (ix2 j k) : EReal) = (args m c).w (ix2 k j) := by
  entry_read
  pointwise

/-- The row that is normalised, computed before the kernel. -/
theorem v47_in (k : Fin 1024) : (V m c main_v47 (ix2 (tok b s) k) : EReal) = row (args m c) b s k := by
  have hs : s.val < 2048 := s.isLt
  have hb : b.val < 2 := b.isLt
  entry_read
  pointwise
  simp only [show (b.val * 2048 + s.val) / 2048 = b.val by omega, show (b.val * 2048 + s.val) % 2048 = s.val by omega]
  rfl

theorem v49_in (k : Fin 1024) : (V m c main_v49 (ix2 (tok b s) k) : EReal) = (args m c).f (ix3 b s k) := by
  have hs : s.val < 2048 := s.isLt
  have hb : b.val < 2 := b.isLt
  entry_read
  pointwise
  simp only [show (b.val * 2048 + s.val) / 2048 = b.val by omega, show (b.val * 2048 + s.val) % 2048 = s.val by omega]

end Cert.ProjValue

end
-- ==== Proof.ProjBlocks.lean ====
/- What the blocks of the kernel of the input projection's gradient hold at each grid point, and where its results land. -/
module

public import proofs.«01_k».proof.Proof.ProjHost

@[expose] public section

set_option maxRecDepth 16384

noncomputable section

open Idealize.ShloMosaic Idealize.ShloMosaic.TcCoe Idealize.SL.Sem

namespace Cert.ProjValue

open Cert.ProjBIdeal Cert.ProjBIdeal.Gen Cert.ProjRefIdeal.At Cert.Norm

variable (m : (ℓ : Loc nD τ sig) → Buf (Elt Ideal) ℓ) (c : Dev nD) (t : Fin cfg0.N) (s : Fin 512)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val / 4, 0, 0] ∧ win0_9.index t = ![t.val / 4, 0, 0] ∧ win0_10.index t = ![0, 0]
    ∧ win0_11.index t = ![t.val, 0] ∧ win0_12.index t = ![t.val, 0] ∧ win0_13.index t = ![t.val / 4, 0, 0]
    ∧ win0_14.index t = ![0, 0] ∧ win0_15.index t = ![t.val, 0] ∧ win0_16.index t = ![t.val, 0]
    ∧ win0_17.index t = ![t.val, 0] ∧ win0_18.index t = ![t.val, 0] ∧ win0_19.index t = ![t.val / 4, 0, 0]
    ∧ win0_20.index t = ![0, 0] ∧ win0_21.index t = ![t.val / 4, 0, 0] :=
  (by decide +kernel : ∀ t : Fin grid0.N, _)

/-- The token a row of a grid point's block stands for. -/
abbrev tokOf (t : Fin cfg0.N) (s : Fin 512) : Fin 4096 :=
  ⟨t.val * 512 + s.val, by have := lt_of_lt_of_eq t.isLt N_0; omega⟩

/-- The sequence a grid point works on. -/
abbrev seqOf (t : Fin cfg0.N) : Fin 2 := ⟨t.val / 4, by have := lt_of_lt_of_eq t.isLt N_0; omega⟩

/-- The place of a row in its sequence. -/
abbrev pos (t : Fin cfg0.N) (s : Fin 512) : Fin 2048 := ⟨t.val % 4 * 512 + s.val, by omega⟩

theorem tokOf_eq : tokOf t s = tok (seqOf t) (pos t s) := Fin.ext (by show t.val * 512 + s.val = t.val / 4 * 2048 + (t.val % 4 * 512 + s.val); omega)

theorem blk0 (k : Fin 512) : (iblk m c 0 t (ix2 s k) : EReal) = (args m c).dq (ix3 (seqOf t) (pos t s) k) := by
  rw [← v34_in, ← tokOf_eq]
  blk_point [iblk, idx t]

theorem blk1 (k : Fin 128) : (iblk m c 1 t (ix2 s k) : EReal) = (args m c).dk (ix3 (seqOf t) (pos t s) k) := by
  rw [← v35_in, ← tokOf_eq]
  blk_point [iblk, idx t]

theorem blk2 (k : Fin 128) : (iblk m c 2 t (ix2 s k) : EReal) = (args m c).dv (ix3 (seqOf t) (pos t s) k) := by
  rw [← v36_in, ← tokOf_eq]
  blk_point [iblk, idx t]

theorem blk3 (k : Fin 512) : (iblk m c 3 t (ix2 s k) : EReal) = (args m c).du (ix3 (seqOf t) (pos t s) k) := by
  rw [← v38_in, ← tokOf_eq]
  blk_point [iblk, idx t]

theorem blk4 (k : Fin 512) : (iblk m c 4 t (ix2 s k) : EReal) = (args m c).db (ix3 (seqOf t) (pos t s) k) := by
  rw [← v40_in, ← tokOf_eq]
  blk_point [iblk, idx t]

theorem blk5 (k : Fin 512) : (iblk m c 5 t (ix2 s k) : EReal) = (args m c).dc (ix3 (seqOf t) (pos t s) k) := by
  rw [← v42_in, ← tokOf_eq]
  blk_point [iblk, idx t]

theorem blk6 (k : Fin 1024) : (iblk m c 6 t (ix2 s k) : EReal) = (args m c).dres (ix3 (seqOf t) (pos t s) k) := by
  rw [← v43_in, ← tokOf_eq]
  blk_point [iblk, idx t]

theorem blk7 (k : Fin 1024) : (iblk m c 7 t (ix2 s k) : EReal) = x1 (args m c) (seqOf t) (pos t s) k := by
  rw [← v44_in, ← tokOf_eq]
  blk_point [iblk, idx t]

theorem blk11 (k : Fin 1024) : (iblk m c 11 t (ix2 s k) : EReal) = row (args m c) (seqOf t) (pos t s) k := by
  rw [← v47_in, ← tokOf_eq]
  blk_point [iblk, idx t]

theorem blk12 (k : Fin 1024) : (iblk m c 12 t (ix2 s k) : EReal) = (args m c).f (ix3 (seqOf t) (pos t s) k) := by
  rw [← v49_in, ← tokOf_eq]
  blk_point [iblk, idx t]

theorem blk10 (j : Fin 2304) (k : Fin 1024) : (iblk m c 10 t (ix2 j k) : EReal) = (args m c).w (ix2 k j) := by
  rw [← v46_in]
  blk_point [iblk, idx t]

theorem blk8 (k : Fin 1024) : (iblk m c 8 t (ix3 0 0 k) : EReal) = (args m c).sh (ix3 (seqOf t) 0 k) := by
  blk_point [iblk, V, idx t]

theorem blk9 (k : Fin 1024) : (iblk m c 9 t (ix3 0 0 k) : EReal) = (args m c).sc (ix3 (seqOf t) 0 k) := by
  blk_point [iblk, V, idx t]

theorem blk13 (k : Fin 1024) : (iblk m c 13 t (ix3 0 0 k) : EReal) = (args m c).gt (ix3 (seqOf t) 0 k) := by
  blk_point [iblk, V, idx t]

theorem blk14 (k : Fin 1024) : (iblk m c 14 t (ix2 0 k) : EReal) = (args m c).lg (ix2 0 k) := by
  blk_point [iblk, V, idx t]

theorem emb15 (k : Fin 1024) : ((cfg0.win 15).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb16 (k : Fin 1024) : ((cfg0.win 16).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb17 (k : Fin 2304) : ((cfg0.win 17).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb18 (k : Fin 1024) : ((cfg0.win 18).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb19 (z : Fin 1) (i : Fin 2) (k : Fin 1024) : ((cfg0.win 19).blk t).view.emb (ix3 z i k) = ix3 (seqOf t) i k := by
  obtain rfl : z = 0 := Subsingleton.elim _ _
  funext a
  apply Fin.ext
  match a with
  | ⟨0, _⟩ => blk_simp [idx t]; rfl
  | ⟨1, _⟩ => blk_simp [idx t]
  | ⟨2, _⟩ => blk_simp [idx t]

theorem emb20 (i : Fin 2) (k : Fin 1024) : ((cfg0.win 20).blk t).view.emb (ix2 i k) = ix2 i k := by
  funext a
  apply Fin.ext
  match a with
  | ⟨0, _⟩ => blk_simp [idx t]
  | ⟨1, _⟩ => blk_simp [idx t]

theorem emb21 (z z' : Fin 1) (k : Fin 1024) : ((cfg0.win 21).blk t).view.emb (ix3 z z' k) = ix3 (seqOf t) z' k := by
  obtain rfl : z = 0 := Subsingleton.elim _ _
  obtain rfl : z' = 0 := Subsingleton.elim _ _
  funext a
  apply Fin.ext
  match a with
  | ⟨0, _⟩ => blk_simp [idx t]; rfl
  | ⟨1, _⟩ => blk_simp [idx t]
  | ⟨2, _⟩ => blk_simp [idx t]

end Cert.ProjValue

end
-- ==== Proof.ProjSpec.lean ====
/- What one block of the input projection's gradient computes, in plain formulas over the arrays it loads. -/
module

public import proofs.«01_k».proof.Proof.ProjIns
public import proofs.«01_k».proof.Proof.Parts
public import proofs.«01_k».proof.Proof.Norm
public import Idealize.ShloMosaic.Lib.Pointwise

@[expose] public section

set_option maxRecDepth 16384

noncomputable section

namespace Cert.ProjSpec

open Idealize.ShloMosaic Idealize.ShloMosaic.TcCoe Cert.ProjBIdeal Cert.ProjBIdeal.Gen Cert.Norm Cert.Parts Cert.ProjRun

variable (X : Ins Ideal) (s : Fin 512)

/-- One over two, as the programs write it. -/
abbrev half : EReal := Ideal.ofBits .f32 1056964608#32

/-- The gradient by the projection, of a row of the block. -/
def part (j : Fin 2304) : EReal := beside (fun i => X.dq (ix2 s i)) (fun i => X.dk (ix2 s i)) (fun i => X.dv (ix2 s i))
  (fun i => X.du (ix2 s i)) (fun i => X.db (ix2 s i)) (fun i => X.dc (ix2 s i)) j

theorem pay2_at (j : Fin 2304) : (k0_pay2 X.dq X.dk X.dv X.du X.db X.dc (ix2 s j) : EReal) = part X s j := by
  unfold k0_pay2 part beside
  pointwise

theorem dproj_at (j : Fin 2304) : (X.dproj (ix2 s j) : EReal) = part X s j := pay2_at X s j

theorem dh_at (k : Fin 1024) : (X.dh (ix2 s k) : EReal) = ∑ j : Fin 2304, part X s j * X.w (ix2 j k) := by
  unfold Ins.dh k0_pay3
  pointwise [pay2_at]

theorem pay5_at (v : Vec Ideal S1x1x1024 .f32) (k : Fin 1024) : (k0_pay5 v (ix2 0 k) : EReal) = 1 + v (ix3 0 0 k) := by
  unfold k0_pay5
  pointwise

theorem h_at (k : Fin 1024) : (X.h (ix2 s k) : EReal) = X.x1 (ix2 s k) * (1 + X.sc (ix3 0 0 k)) + X.sh (ix3 0 0 k) := by
  unfold Ins.h k0_pay6 k0_pay4
  pointwise [pay5_at]

theorem dy_at (k : Fin 1024) : (X.dy (ix2 s k) : EReal) = X.dres (ix2 s k) + X.dh (ix2 s k) * (1 + X.sc (ix3 0 0 k)) := by
  unfold Ins.dy k0_pay7
  generalize X.dh = D
  pointwise [pay5_at]

/-- The row that was normalised. -/
def row (k : Fin 1024) : EReal := X.r (ix2 s k)

theorem ctr_at (k : Fin 1024) : (k0_pay8 X.r (ix2 s k) : EReal) = ctr (row X s) k := by
  unfold k0_pay8 ctr mean row
  pointwise

theorem rstd_at (z : Fin 1) : (k0_pay9 X.r (ix2 s z) : EReal) = rstd (row X s) := by
  unfold k0_pay9 rstd vare mean
  pointwise [ctr_at]

theorem xhat_at (k : Fin 1024) : (k0_pay10 X.r (ix2 s k) : EReal) = xhat (row X s) k := by
  unfold k0_pay10 xhat
  pointwise [ctr_at, rstd_at]

/-- The gradient by the row that was normalised. -/
theorem dr_at (k : Fin 1024) : (X.dr (ix2 s k) : EReal) = bwd (fun j => X.dy (ix2 s j) * X.lg (ix2 0 j)) (row X s) k := by
  unfold Ins.dr Ins.centred k0_pay13 k0_pay12 k0_pay11
  change _ = bwd (fun j => k0_pay7 X.dh (k0_pay5 X.sc) X.dres (ix2 s j) * X.lg (ix2 0 j)) (row X s) k
  generalize k0_pay7 X.dh (k0_pay5 X.sc) X.dres = D
  unfold bwd mean
  pointwise [rstd_at, xhat_at]

theorem df_at (k : Fin 1024) : (X.df (ix2 s k) : EReal) = half * (1 + X.gt (ix3 0 0 k)) * X.dr (ix2 s k) := by
  unfold Ins.df Ins.dr k0_pay16
  generalize k0_pay13 X.centred (k0_pay12 X.r) = D
  pointwise

/-- A block's part of the gradients by the gain and by the bias. -/
theorem dgain_at (k : Fin 1024) : (X.dgain (ix2 0 k) : EReal) = ∑ s : Fin 512, X.dy (ix2 s k) * xhat (row X s) k := by
  unfold Ins.dgain k0_pay14
  generalize X.dy = D
  pointwise [xhat_at]

theorem dbias_at (k : Fin 1024) : (X.dbias (ix2 0 k) : EReal) = ∑ s : Fin 512, X.dy (ix2 s k) := by
  unfold Ins.dbias k0_pay15
  generalize X.dy = D
  pointwise

theorem pay20_at (D : FVec Ideal S512x1024 .f32) (p : Vec Ideal S1x1x1024 .f32) (k : Fin 1024) :
    (k0_pay20 D p (ix3 0 0 k) : EReal) = p (ix3 0 0 k) + ∑ s : Fin 512, D (ix2 s k) := by
  unfold k0_pay20
  pointwise

theorem pay21_at (D E : FVec Ideal S512x1024 .f32) (p : Vec Ideal S1x1x1024 .f32) (k : Fin 1024) :
    (k0_pay21 D (k0_pay4 E) p (ix3 0 0 k) : EReal) = p (ix3 0 0 k) + ∑ s : Fin 512, D (ix2 s k) * E (ix2 s k) := by
  unfold k0_pay21 k0_pay4
  pointwise

theorem pay22_at (v p : FVec Ideal S1x1024 .f32) (k : Fin 1024) : (k0_pay22 v p (ix2 0 k) : EReal) = p (ix2 0 k) + v (ix2 0 k) := by
  unfold k0_pay22
  pointwise

theorem pay23_at (v p : FVec Ideal S1x1024 .f32) (k : Fin 1024) : (k0_pay23 v p (ix2 0 k) : EReal) = p (ix2 0 k) + v (ix2 0 k) := by
  unfold k0_pay23
  pointwise

/-- What a block adds to the gradients by the shift and by the scale. -/
theorem mod_at (p : Vec Ideal S1x2x1024 .f32) (i : Fin 2) (k : Fin 1024) : (X.mod p (ix3 0 i k) : EReal)
    = p (ix3 0 i k) + ∑ s : Fin 512, if i = 0 then X.dh (ix2 s k) else X.dh (ix2 s k) * X.x1 (ix2 s k) := by
  unfold Ins.mod
  canon_tiles x h
  all_goals
    obtain ⟨z, z', k', rfl⟩ : ∃ z z' k', x = ix3 z z' k' := ⟨_, _, _, ValueIdx.eq_ix3 x⟩
    obtain rfl : k = k' := Fin.ext h2
    obtain rfl : z = 0 := Subsingleton.elim _ _
    obtain rfl : z' = 0 := Subsingleton.elim _ _
  case piece0 =>
    obtain rfl : i = 1 := Fin.ext h1
    refine (pay21_at _ _ _ k).trans (congrArg₂ (· + ·) ?_ rfl)
    pointwise
  case piece1 =>
    obtain rfl : i = 0 := Fin.ext h1
    refine (pay20_at _ _ k).trans (congrArg₂ (· + ·) ?_ rfl)
    pointwise

/-- What a block adds to the gradients by the gain and by the bias. -/
theorem norm_at (p : Vec Ideal S2x1024 .f32) (i : Fin 2) (k : Fin 1024) : (X.norm p (ix2 i k) : EReal)
    = p (ix2 i k) + ∑ s : Fin 512, if i = 0 then X.dy (ix2 s k) * xhat (row X s) k else X.dy (ix2 s k) := by
  unfold Ins.norm
  canon_tiles x h
  all_goals
    obtain ⟨z, k', rfl⟩ : ∃ z k', x = ix2 z k' := ⟨_, _, ValueIdx.eq_ix2 x⟩
    obtain rfl : k = k' := Fin.ext h1
    obtain rfl : z = 0 := Subsingleton.elim _ _
  case piece0 =>
    obtain rfl : i = 1 := Fin.ext h0
    refine (pay23_at _ _ k).trans (congrArg₂ (· + ·) ?_ (dbias_at X k))
    pointwise
  case piece1 =>
    obtain rfl : i = 0 := Fin.ext h0
    refine (pay22_at _ _ k).trans (congrArg₂ (· + ·) ?_ (dgain_at X k))
    pointwise

/-- What a block adds to the gradient by the gate. -/
theorem gate_at (p : Vec Ideal S1x1x1024 .f32) (k : Fin 1024) : (X.gate p (ix3 0 0 k) : EReal)
    = p (ix3 0 0 k) + ∑ s : Fin 512, X.dr (ix2 s k) * (half * X.f (ix2 s k)) := by
  unfold Ins.gate k0_pay1 k0_pay24 k0_pay25
  generalize X.dr = D
  pointwise

end Cert.ProjSpec

end
-- ==== Proof.ProjRun.lean ====
module

public import proofs.«01_k».proof.Proof.ProjIns

@[expose] public section

set_option maxRecDepth 16384

noncomputable section

namespace Cert.ProjRun

open Cert.ProjBIdeal Cert.ProjBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (arg1 : Memref sig .tc .vmem S512x512 .bf16) (harg1 : arg1.IsWhole) (arg2 : Memref sig .tc .vmem S512x128 .f32) (harg2
  : arg2.IsWhole) (arg3 : Memref sig .tc .vmem S512x128 .f32) (harg3 : arg3.IsWhole) (arg4 : Memref sig .tc .vmem
  S512x512 .bf16) (harg4 : arg4.IsWhole) (arg5 : Memref sig .tc .vmem S512x512 .bf16) (harg5 : arg5.IsWhole) (arg6 :
  Memref sig .tc .vmem S512x512 .bf16) (harg6 : arg6.IsWhole) (arg7 : Memref sig .tc .vmem S512x1024 .f32) (harg7 :
  arg7.IsWhole) (arg8 : Memref sig .tc .vmem S512x1024 .f32) (harg8 : arg8.IsWhole) (arg9 : Memref sig .tc .vmem
  S1x1x1024 .f32) (harg9 : arg9.IsWhole) (arg10 : Memref sig .tc .vmem S1x1x1024 .f32) (harg10 : arg10.IsWhole) (arg11 :
  Memref sig .tc .vmem S2304x1024 .bf16) (harg11 : arg11.IsWhole) (arg12 : Memref sig .tc .vmem S512x1024 .f32) (harg12
  : arg12.IsWhole) (arg13 : Memref sig .tc .vmem S512x1024 .bf16) (harg13 : arg13.IsWhole) (arg14 : Memref sig .tc .vmem
  S1x1x1024 .f32) (harg14 : arg14.IsWhole) (arg15 : Memref sig .tc .vmem S1x1024 .f32) (harg15 : arg15.IsWhole) (arg16 :
  Memref sig .tc .vmem S512x1024 .f32) (harg16 : arg16.IsWhole) (arg17 : Memref sig .tc .vmem S512x1024 .bf16) (harg17 :
  arg17.IsWhole) (arg18 : Memref sig .tc .vmem S512x2304 .bf16) (harg18 : arg18.IsWhole) (arg19 : Memref sig .tc .vmem
  S512x1024 .bf16) (harg19 : arg19.IsWhole) (arg20 : Memref sig .tc .vmem S1x2x1024 .f32) (harg20 : arg20.IsWhole)
  (arg21 : Memref sig .tc .vmem S2x1024 .f32) (harg21 : arg21.IsWhole) (arg22 : Memref sig .tc .vmem S1x1x1024 .f32)
  (harg22 : arg22.IsWhole)

/-- The buffers of one call: the fifteen inputs and the seven outputs at their contents. -/
abbrev bufs (c : Dev nD) (X : Ins F) (Y : Outs F) : sProp 𝕄 :=
  iprop(owns (c : Thread nD τ) arg1 fullShare X.dq ∗ owns (c : Thread nD τ) arg2 fullShare X.dk ∗ owns (c : Thread nD τ) arg3
    fullShare X.dv ∗ owns (c : Thread nD τ) arg4 fullShare X.du ∗ owns (c : Thread nD τ) arg5 fullShare X.db ∗ owns (c :
    Thread nD τ) arg6 fullShare X.dc ∗ owns (c : Thread nD τ) arg7 fullShare X.dres ∗ owns (c : Thread nD τ) arg8
    fullShare X.x1 ∗ owns (c : Thread nD τ) arg9 fullShare X.sh ∗ owns (c : Thread nD τ) arg10 fullShare X.sc ∗ owns (c :
    Thread nD τ) arg11 fullShare X.w ∗ owns (c : Thread nD τ) arg12 fullShare X.r ∗ owns (c : Thread nD τ) arg13 fullShare
    X.f ∗ owns (c : Thread nD τ) arg14 fullShare X.gt ∗ owns (c : Thread nD τ) arg15 fullShare X.lg ∗ owns (c : Thread nD
    τ) arg16 fullShare Y.dr ∗ owns (c : Thread nD τ) arg17 fullShare Y.df ∗ owns (c : Thread nD τ) arg18 fullShare Y.dproj
    ∗ owns (c : Thread nD τ) arg19 fullShare Y.h ∗ owns (c : Thread nD τ) arg20 fullShare Y.mod ∗ owns (c : Thread nD τ)
    arg21 fullShare Y.norm ∗ owns (c : Thread nD τ) arg22 fullShare Y.gate)

/-- The conditions of the body's two branches at a grid point. -/
abbrev first (i : grid0.Coords) : Prop := cond0_0 i
abbrev start (i : grid0.Coords) : Prop := cond0_1 i

set_option maxHeartbeats 4000000 in
/-- One call of the body, in each of its cases. -/
theorem run (c : Dev nD) (i : grid0.Coords) (X : Ins F) (Y : Outs F) (E : Set ℕ) (K : PUnit → sProp 𝕄) :
    iprop(bufs (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) (arg22 := arg22) c X Y ∗ (bufs (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) (arg22 := arg22) c X (X.step (first i) (start i) Y) -∗ K ⟨⟩))
      ⊢ wp frame (wpE (defs₀ (F := F)) Variants.none c none) E (cc0_proj_bwd i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18 harg18
        arg19 harg19 arg20 harg20 arg21 harg21 arg22 harg22) K := by
  simp only [cc0_proj_bwd_eq_skeleton]; unfold cc0_proj_bwd_skel
  simp only [k0_part1_eq_skeleton, k0_part2_eq_skeleton, k0_part3_eq_skeleton, k0_part4_eq_skeleton]
  unfold bufs owns
  obtain ⟨x1, x2, x3, x4, x5, x6, x7, x8, x9, x10, x11, x12, x13, x14, x15⟩ := X
  obtain ⟨y1, y2, y3, y4, y5, y6, y7⟩ := Y
  dsimp only
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7,
    H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩, ⟨%f19, %hf19,
    H19⟩, ⟨%f20, %hf20, H20⟩, ⟨%f21, %hf21, H21⟩, ⟨%f22, %hf22, H22⟩⟩, Hk⟩
  obtain rfl := harg1.eq_unread hf1; obtain rfl := harg2.eq_unread hf2; obtain rfl := harg3.eq_unread hf3; obtain rfl :=
  harg4.eq_unread hf4; obtain rfl := harg5.eq_unread hf5; obtain rfl := harg6.eq_unread hf6; obtain rfl :=
  harg7.eq_unread hf7; obtain rfl := harg8.eq_unread hf8; obtain rfl := harg9.eq_unread hf9; obtain rfl :=
  harg10.eq_unread hf10; obtain rfl := harg11.eq_unread hf11; obtain rfl := harg12.eq_unread hf12; obtain rfl :=
  harg13.eq_unread hf13; obtain rfl := harg14.eq_unread hf14; obtain rfl := harg15.eq_unread hf15; obtain rfl :=
  harg16.eq_unread hf16; obtain rfl := harg17.eq_unread hf17; obtain rfl := harg18.eq_unread hf18; obtain rfl :=
  harg19.eq_unread hf19; obtain rfl := harg20.eq_unread hf20; obtain rfl := harg21.eq_unread hf21; obtain rfl :=
  harg22.eq_unread hf22
  by_cases h1 : cond0_0 i <;> by_cases h2 : cond0_1 i
  all_goals
    sl_exec (disch := first | sl_exact h1 | sl_exact h2)
    sl_step
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro; exact harg10.read_unread _
    isplitl [H11]
    · iexists _; isplitr; swap; · iexact H11
      ipureintro; exact harg11.read_unread _
    isplitl [H12]
    · iexists _; isplitr; swap; · iexact H12
      ipureintro; exact harg12.read_unread _
    isplitl [H13]
    · iexists _; isplitr; swap; · iexact H13
      ipureintro; exact harg13.read_unread _
    isplitl [H14]
    · iexists _; isplitr; swap; · iexact H14
      ipureintro; exact harg14.read_unread _
    isplitl [H15]
    · iexists _; isplitr; swap; · iexact H15
      ipureintro; exact harg15.read_unread _
    isplitl [H16]
    · iexists _; isplitr; swap; · iexact H16
      ipureintro; refine (View.read_writes_eq_canon _ _ _ (View.cover_of_tiledL _ S512x1024.size (by sl_kernel_rfl))).trans ?_
      frame_out
      rfl
    isplitl [H17]
    · iexists _; isplitr; swap; · iexact H17
      ipureintro; refine (View.read_writes_eq_canon _ _ _ (View.cover_of_tiledL _ S512x1024.size (by sl_kernel_rfl))).trans ?_
      frame_out
      rfl
    isplitl [H18]
    · iexists _; isplitr; swap; · iexact H18
      ipureintro; refine (View.read_writes_eq_canon _ _ _ (View.cover_of_tiledL _ S512x2304.size (by sl_kernel_rfl))).trans ?_
      frame_out
      rfl
    isplitl [H19]
    · iexists _; isplitr; swap; · iexact H19
      ipureintro; refine (View.read_writes_eq_canon _ _ _ (View.cover_of_tiledL _ S512x1024.size (by sl_kernel_rfl))).trans ?_
      frame_out
      rfl
    isplitl [H20]
    · iexists _; isplitr; swap; · iexact H20
      ipureintro; refine (View.read_writes_eq_canon _ _ _ (View.cover_of_tiledL _ ![1, 1, 1024] (by sl_kernel_rfl))).trans ?_
      frame_out
      try simp (disch := decide) only [↓ View.readCov_skip, ↓ View.readCov_cons_toLoadRect, ↓ View.readCov_fill]
      first
        | rw [canon_two _ _ _ (View.cover_of_tiledL _ ![1, 1, 1024] (by sl_kernel_rfl)), Ins.mod_start h2]; unfold Ins.mod Ins.dh; with_reducible rfl
        | rw [Ins.mod_on h2]; unfold Ins.mod Ins.dh; with_reducible rfl
    isplitl [H21]
    · iexists _; isplitr; swap; · iexact H21
      ipureintro; refine (View.read_writes_eq_canon _ _ _ (View.cover_of_tiledL _ ![1, 1024] (by sl_kernel_rfl))).trans ?_
      frame_out
      try simp (disch := decide) only [↓ View.readCov_skip, ↓ View.readCov_cons_toLoadRect, ↓ View.readCov_fill]
      first
        | rw [canon_two _ _ _ (View.cover_of_tiledL _ ![1, 1024] (by sl_kernel_rfl)), Ins.norm_first h1]; unfold Ins.norm Ins.dgain Ins.dbias Ins.dy Ins.dh; with_reducible rfl
        | rw [Ins.norm_on h1]; unfold Ins.norm Ins.dgain Ins.dbias Ins.dy Ins.dh; with_reducible rfl
    iexists _; isplitr; swap; · iexact H22
    ipureintro; refine (View.read_writes_eq_canon _ _ _ (View.cover_of_tiledL _ S1x1x1024.size (by sl_kernel_rfl))).trans ?_
    frame_out
    try simp (disch := decide) only [↓ View.readCov_skip, ↓ View.readCov_cons_toLoadRect, ↓ View.readCov_fill]
    first
      | rw [Ins.gate_on h2]; unfold Ins.gate Ins.dr Ins.centred Ins.dh; with_reducible rfl
      | rw [Ins.gate_start h2]; unfold Ins.gate Ins.dr Ins.centred Ins.dh; with_reducible rfl
      | rw [Ins.gate_on h2]; rfl
      | rw [Ins.gate_start h2]; rfl

end Cert.ProjRun

end
-- ==== Proof.ProjFrame.lean ====
module

public import proofs.«01_k».proof.Proof.ProjRun
public import Idealize.ShloMosaic.Lib.Pipeline.FrameBody

/-! The program of the input projection's gradient runs from any memory; at its end every array holds what its calls left there. -/

@[expose] public section

set_option maxRecDepth 16384

noncomputable section

namespace Cert.ProjFrame

open Cert.ProjBIdeal Cert.ProjBIdeal.Gen Cert.ProjRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the call at point `t` reads. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- What the calls leave, point by point: the first fills the three sums, the first of a sequence fills two of them again. -/
def outsAt (c : Dev nD) : (n : ℕ) → n < cfg0.N → Outs F
  | 0, h => (ins m c ⟨0, h⟩).fresh
  | n + 1, h => (ins m c ⟨n + 1, h⟩).step False ((n + 1) % 4 = 0) (outsAt c n (Nat.lt_of_succ_lt h))

/-- What the call at point `t` leaves, where it finds in the three sums what the point before left. -/
theorem step_at (c : Dev nD) (t : Fin cfg0.N) (Y : Outs F)
    (h19 : t.val % 4 ≠ 0 → Y.mod = (outsAt m c (t.val - 1) (Nat.lt_of_le_of_lt (Nat.sub_le _ _) t.isLt)).mod)
    (h20 : t.val % 8 ≠ 0 → Y.norm = (outsAt m c (t.val - 1) (Nat.lt_of_le_of_lt (Nat.sub_le _ _) t.isLt)).norm)
    (h21 : t.val % 4 ≠ 0 → Y.gate = (outsAt m c (t.val - 1) (Nat.lt_of_le_of_lt (Nat.sub_le _ _) t.isLt)).gate) :
    (ins m c t).step (first (grid0.coords t)) (start (grid0.coords t)) Y = outsAt m c t.val t.isLt := by
  have hN : t.val < 8 := lt_of_lt_of_eq t.isLt (show cfg0.N = 8 from N_0)
  have a : first (grid0.coords t) ↔ t.val % 8 = 0 := hcond0_0 t
  have b : start (grid0.coords t) ↔ t.val % 4 = 0 := hcond0_1 t
  generalize grid0.coords t = i at a b
  obtain ⟨n, hn⟩ := t
  cases n with
  | zero => exact Ins.step_fresh (a.mpr rfl) (b.mpr rfl)
  | succ n =>
    dsimp only at a b hN h19 h20 h21
    rw [show first i = False from propext ⟨fun h => by have := a.mp h; omega, False.elim⟩, show start i = ((n + 1) % 4 = 0) from propext b]
    exact Ins.step_congr h19 (fun _ => h20 (by omega)) h21

/-- The pipeline's proof data on core `c`: the arrays as the region finds them, and the buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt m c t.val t.isLt).dr
    | ⟨16, _⟩ => (outsAt m c t.val t.isLt).df
    | ⟨17, _⟩ => (outsAt m c t.val t.isLt).dproj
    | ⟨18, _⟩ => (outsAt m c t.val t.isLt).h
    | ⟨19, _⟩ => (outsAt m c t.val t.isLt).mod
    | ⟨20, _⟩ => (outsAt m c t.val t.isLt).norm
    | ⟨21, _⟩ => (outsAt m c t.val t.isLt).gate
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = (outsAt m c t.val t.isLt).dr := by dsimp only [dats]
theorem after_16 (c : Dev nD) (t : Fin cfg0.N) : (dats m 0 c).after 16 t = (outsAt m c t.val t.isLt).df := by dsimp only [dats]
theorem after_17 (c : Dev nD) (t : Fin cfg0.N) : (dats m 0 c).after 17 t = (outsAt m c t.val t.isLt).dproj := by dsimp only [dats]
theorem after_18 (c : Dev nD) (t : Fin cfg0.N) : (dats m 0 c).after 18 t = (outsAt m c t.val t.isLt).h := by dsimp only [dats]
theorem after_19 (c : Dev nD) (t : Fin cfg0.N) : (dats m 0 c).after 19 t = (outsAt m c t.val t.isLt).mod := by dsimp only [dats]
theorem after_20 (c : Dev nD) (t : Fin cfg0.N) : (dats m 0 c).after 20 t = (outsAt m c t.val t.isLt).norm := by dsimp only [dats]
theorem after_21 (c : Dev nD) (t : Fin cfg0.N) : (dats m 0 c).after 21 t = (outsAt m c t.val t.isLt).gate := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-- Each of the three sums is kept between the points that do not fill it. -/
theorem before_19 (c : Dev nD) (t : Fin cfg0.N) (h : t.val % 4 ≠ 0) (d) :
    (dats m 0 c).before 19 t d = (outsAt m c (t.val - 1) (Nat.lt_of_le_of_lt (Nat.sub_le _ _) t.isLt)).mod := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]
theorem before_20 (c : Dev nD) (t : Fin cfg0.N) (h : t.val % 8 ≠ 0) (d) :
    (dats m 0 c).before 20 t d = (outsAt m c (t.val - 1) (Nat.lt_of_le_of_lt (Nat.sub_le _ _) t.isLt)).norm := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]
theorem before_21 (c : Dev nD) (t : Fin cfg0.N) (h : t.val % 4 ≠ 0) (d) :
    (dats m 0 c).before 21 t d = (outsAt m c (t.val - 1) (Nat.lt_of_le_of_lt (Nat.sub_le _ _) t.isLt)).gate := by
  have hN : t.val < 8 := lt_of_lt_of_eq t.isLt (show cfg0.N = 8 from N_0)
  rw [Dat.before_out_kept _ 21 rfl t (by omega) (Bool.eq_false_iff.mpr fun h => by have := (flush0_21 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t)
    ∗ owns (c : Thread nD τ) (ms0_1 t) fullShare ((dats m 0 c).after 1 t) ∗ owns (c : Thread nD τ) (ms0_2 t) fullShare ((dats m 0 c).after 2 t)
    ∗ owns (c : Thread nD τ) (ms0_3 t) fullShare ((dats m 0 c).after 3 t) ∗ owns (c : Thread nD τ) (ms0_4 t) fullShare ((dats m 0 c).after 4 t)
    ∗ owns (c : Thread nD τ) (ms0_5 t) fullShare ((dats m 0 c).after 5 t) ∗ owns (c : Thread nD τ) (ms0_6 t) fullShare ((dats m 0 c).after 6 t)
    ∗ owns (c : Thread nD τ) (ms0_7 t) fullShare ((dats m 0 c).after 7 t) ∗ owns (c : Thread nD τ) (ms0_8 t) fullShare ((dats m 0 c).after 8 t)
    ∗ owns (c : Thread nD τ) (ms0_9 t) fullShare ((dats m 0 c).after 9 t) ∗ owns (c : Thread nD τ) (ms0_10 t) fullShare ((dats m 0 c).after 10 t)
    ∗ owns (c : Thread nD τ) (ms0_11 t) fullShare ((dats m 0 c).after 11 t) ∗ owns (c : Thread nD τ) (ms0_12 t) fullShare ((dats m 0 c).after 12 t)
    ∗ owns (c : Thread nD τ) (ms0_13 t) fullShare ((dats m 0 c).after 13 t) ∗ owns (c : Thread nD τ) (ms0_14 t) fullShare ((dats m 0 c).after 14 t)
    ∗ owns (c : Thread nD τ) (ms0_15 t) fullShare ((dats m 0 c).after 15 t) ∗ owns (c : Thread nD τ) (ms0_16 t) fullShare ((dats m 0 c).after 16 t)
    ∗ owns (c : Thread nD τ) (ms0_17 t) fullShare ((dats m 0 c).after 17 t) ∗ owns (c : Thread nD τ) (ms0_18 t) fullShare ((dats m 0 c).after 18 t)
    ∗ owns (c : Thread nD τ) (ms0_19 t) fullShare ((dats m 0 c).after 19 t) ∗ owns (c : Thread nD τ) (ms0_20 t) fullShare ((dats m 0 c).after 20 t)
    ∗ owns (c : Thread nD τ) (ms0_21 t) fullShare ((dats m 0 c).after 21 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21]
  iintro ⟨Hphi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  have e := step_at m c t ⟨(dats m 0 c).before 15 t d15, (dats m 0 c).before 16 t d16, (dats m 0 c).before 17 t d17, (dats m 0 c).before 18 t d18, (dats m 0 c).before 19 t d19, (dats m 0 c).before 20 t d20, (dats m 0 c).before 21 t d21⟩
    (fun h => before_19 m c t h d19) (fun h => before_20 m c t h d20) (fun h => before_21 m c t h d21)
  have R := fun K => ProjRun.run _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) c (grid0.coords t) (ins m c t)
    ⟨(dats m 0 c).before 15 t d15, (dats m 0 c).before 16 t d16, (dats m 0 c).before 17 t d17, (dats m 0 c).before 18 t d18, (dats m 0 c).before 19 t d19, (dats m 0 c).before 20 t d20, (dats m 0 c).before 21 t d21⟩ Set.univ K
  rw [e] at R
  iapply (R _)
  unfold ProjRun.bufs
  isplitr [Ho Hphi]
  · (isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10); (isplitl [H11]; · iexact H11); (isplitl [H12]; · iexact H12); (isplitl [H13]; · iexact H13); (isplitl [H14]; · iexact H14); (isplitl [H15]; · iexact H15); (isplitl [H16]; · iexact H16); (isplitl [H17]; · iexact H17); (isplitl [H18]; · iexact H18); (isplitl [H19]; · iexact H19); (isplitl [H20]; · iexact H20)
    iexact H21
  iintro ⟨H0, H1, H2, H3, H4, H5, H6, H7, H8, H9, H10, H11, H12, H13, H14, H15, H16, H17, H18, H19, H20, H21⟩
  isplitl [Hphi]; · iexact Hphi
  isplitl [Ho]; · iexact Ho
  (isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10); (isplitl [H11]; · iexact H11); (isplitl [H12]; · iexact H12); (isplitl [H13]; · iexact H13); (isplitl [H14]; · iexact H14); (isplitl [H15]; · iexact H15); (isplitl [H16]; · iexact H16); (isplitl [H17]; · iexact H17); (isplitl [H18]; · iexact H18); (isplitl [H19]; · iexact H19); (isplitl [H20]; · iexact H20)
  iexact H21

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs from any memory; at the end every array is as the points left it, and every semaphore counter is zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument is unchanged at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ProjFrame

end
-- ==== Proof.ProjValue.lean ====
/- What the results of the input projection's gradient hold after the kernel, in the terms of the reference. -/
module

public import proofs.«01_k».proof.Proof.ProjBlocks
public import proofs.«01_k».proof.Proof.ProjSpec
public import proofs.«01_k».proof.Proof.ProjFrame
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.ProjValue

open Cert.ProjBIdeal Cert.ProjBIdeal.Gen Cert.ProjRefIdeal.At Cert.Norm Cert.Parts Cert.ProjRun Cert.ProjFrame

variable (m : (ℓ : Loc nD τ sig) → Buf (Elt Ideal) ℓ) (c : Dev nD) (t : Fin cfg0.N) (s : Fin 512)

/-- The blocks of a grid point, by name. -/
theorem ins_dq : (ins m c t).dq = iblk m c 0 t := rfl
theorem ins_dk : (ins m c t).dk = iblk m c 1 t := rfl
theorem ins_dv : (ins m c t).dv = iblk m c 2 t := rfl
theorem ins_du : (ins m c t).du = iblk m c 3 t := rfl
theorem ins_db : (ins m c t).db = iblk m c 4 t := rfl
theorem ins_dc : (ins m c t).dc = iblk m c 5 t := rfl
theorem ins_dres : (ins m c t).dres = iblk m c 6 t := rfl
theorem ins_x1 : (ins m c t).x1 = iblk m c 7 t := rfl
theorem ins_sh : (ins m c t).sh = iblk m c 8 t := rfl
theorem ins_sc : (ins m c t).sc = iblk m c 9 t := rfl
theorem ins_w : (ins m c t).w = iblk m c 10 t := rfl
theorem ins_r : (ins m c t).r = iblk m c 11 t := rfl
theorem ins_f : (ins m c t).f = iblk m c 12 t := rfl
theorem ins_gt : (ins m c t).gt = iblk m c 13 t := rfl
theorem ins_lg : (ins m c t).lg = iblk m c 14 t := rfl

/-- The blocks of a grid point, in the terms of the reference. -/
theorem part_block (j : Fin 2304) : (ProjSpec.part (ins m c t) s j : EReal) = dproj (args m c) (seqOf t) (pos t s) j := by
  unfold ProjSpec.part dproj
  rw [ins_dq, ins_dk, ins_dv, ins_du, ins_db, ins_dc]
  exact beside_congr (fun i => blk0 m c t s i) (fun i => blk1 m c t s i) (fun i => blk2 m c t s i) (fun i => blk3 m c t s i)
    (fun i => blk4 m c t s i) (fun i => blk5 m c t s i) j

theorem dh_block (k : Fin 1024) : ((ins m c t).dh (ix2 s k) : EReal) = dh (args m c) (seqOf t) (pos t s) k :=
  (ProjSpec.dh_at _ s k).trans (Finset.sum_congr rfl fun j _ => congrArg₂ (· * ·) (part_block m c t s j) (blk10 m c t j k))

theorem dy_block (k : Fin 1024) : ((ins m c t).dy (ix2 s k) : EReal) = dy (args m c) (seqOf t) (pos t s) k :=
  (ProjSpec.dy_at _ s k).trans (congrArg₂ (· + ·) (blk6 m c t s k) (congrArg₂ (fun d g => d * (1 + g)) (dh_block m c t s k) (blk9 m c t k)))

theorem row_block : ProjSpec.row (ins m c t) s = row (args m c) (seqOf t) (pos t s) := funext (blk11 m c t s)

theorem dr_block (k : Fin 1024) : ((ins m c t).dr (ix2 s k) : EReal) = dr (args m c) (seqOf t) (pos t s) k :=
  (ProjSpec.dr_at _ s k).trans (congrArg₂ (fun w r => bwd w r k)
    (funext fun j => congrArg₂ (· * ·) (dy_block m c t s j) (blk14 m c t j)) (row_block m c t s))

theorem df_block (k : Fin 1024) : ((ins m c t).df (ix2 s k) : EReal) = gate (args m c) (seqOf t) k * dr (args m c) (seqOf t) (pos t s) k :=
  (ProjSpec.df_at _ s k).trans (congrArg₂ (fun g d => half * (1 + g) * d) (blk13 m c t k) (dr_block m c t s k))

theorem h_block (k : Fin 1024) : ((ins m c t).h (ix2 s k) : EReal) = h (args m c) (seqOf t) (pos t s) k := by
  unfold h
  rw [ProjSpec.h_at, ins_x1, ins_sc, ins_sh, blk7, blk8, blk9]

/-- What every point leaves of the four arrays laid out by tokens. -/
theorem outs_dr (n : ℕ) (hn : n < cfg0.N) : (outsAt m c n hn).dr = (ins m c ⟨n, hn⟩).dr := by cases n <;> rfl
theorem outs_df (n : ℕ) (hn : n < cfg0.N) : (outsAt m c n hn).df = (ins m c ⟨n, hn⟩).df := by cases n <;> rfl
theorem outs_dproj (n : ℕ) (hn : n < cfg0.N) : (outsAt m c n hn).dproj = (ins m c ⟨n, hn⟩).dproj := by cases n <;> rfl
theorem outs_h (n : ℕ) (hn : n < cfg0.N) : (outsAt m c n hn).h = (ins m c ⟨n, hn⟩).h := by cases n <;> rfl

/-- What the first point leaves of the sums. -/
theorem fresh_mod {F : FTy → Type} [FloatOps F] (X : Ins F) : X.fresh.mod = X.mod k0_pay18 := by unfold Ins.fresh; with_reducible rfl
theorem fresh_norm {F : FTy → Type} [FloatOps F] (X : Ins F) : X.fresh.norm = X.norm k0_pay17 := by unfold Ins.fresh; with_reducible rfl
theorem outs_zero (hn : 0 < cfg0.N) : outsAt m c 0 hn = (ins m c ⟨0, hn⟩).fresh := rfl

/-- What a point leaves of the three sums, where it fills them and where it goes on. -/
theorem mod_fill (h : t.val % 4 = 0) : (outsAt m c t.val t.isLt).mod = (ins m c t).mod (k0_pay18 (F := Ideal)) := by
  obtain ⟨n, hn⟩ := t
  cases n with
  | zero => rw [outs_zero, fresh_mod]
  | succ n => exact Ins.mod_start h
theorem mod_go (h : ¬ t.val % 4 = 0) : (outsAt m c t.val t.isLt).mod
    = (ins m c t).mod (outsAt m c (t.val - 1) (Nat.lt_of_le_of_lt (Nat.sub_le _ _) t.isLt)).mod := by
  obtain ⟨n, hn⟩ := t
  cases n with
  | zero => exact absurd rfl h
  | succ n => exact Ins.mod_on h
theorem gate_fill (h : t.val % 4 = 0) : (outsAt m c t.val t.isLt).gate = (ins m c t).gate (k0_pay19 (F := Ideal)) := by
  obtain ⟨n, hn⟩ := t
  cases n with
  | zero => rfl
  | succ n => exact Ins.gate_start h
theorem gate_go (h : ¬ t.val % 4 = 0) : (outsAt m c t.val t.isLt).gate
    = (ins m c t).gate (outsAt m c (t.val - 1) (Nat.lt_of_le_of_lt (Nat.sub_le _ _) t.isLt)).gate := by
  obtain ⟨n, hn⟩ := t
  cases n with
  | zero => exact absurd rfl h
  | succ n => exact Ins.gate_on h
theorem norm_fill (h : t.val % 8 = 0) : (outsAt m c t.val t.isLt).norm = (ins m c t).norm (k0_pay17 (F := Ideal)) := by
  have hN : t.val < 8 := lt_of_lt_of_eq t.isLt N_0
  obtain ⟨n, hn⟩ := t
  cases n with
  | zero => rw [outs_zero, fresh_norm]
  | succ n => exact absurd h (by dsimp only at hN ⊢; omega)
theorem norm_go (h : ¬ t.val % 8 = 0) : (outsAt m c t.val t.isLt).norm
    = (ins m c t).norm (outsAt m c (t.val - 1) (Nat.lt_of_le_of_lt (Nat.sub_le _ _) t.isLt)).norm := by
  obtain ⟨n, hn⟩ := t
  cases n with
  | zero => exact absurd rfl h
  | succ n => exact Ins.norm_on not_false

/-- What a row adds to the gradients by the shift and by the scale. -/
def mpart (i : Fin 2) (k : Fin 1024) (b : Fin 2) (r : Fin 2048) : EReal :=
  if i = 0 then dh (args m c) b r k else dh (args m c) b r k * x1 (args m c) b r k

theorem mod_block (i : Fin 2) (k : Fin 1024) (p : Vec Ideal S1x2x1024 .f32) : ((ins m c t).mod p (ix3 0 i k) : EReal)
    = p (ix3 0 i k) + ∑ r : Fin 512, mpart m c i k (seqOf t) (pos t r) := by
  rw [ProjSpec.mod_at]
  refine congrArg (_ + ·) (Finset.sum_congr rfl fun r _ => ?_)
  unfold mpart
  split
  · exact dh_block m c t r k
  · exact congrArg₂ (· * ·) (dh_block m c t r k) (blk7 m c t r k)

theorem modA (h : t.val % 4 = 0) (i : Fin 2) (k : Fin 1024) : ((outsAt m c t.val t.isLt).mod (ix3 0 i k) : EReal)
    = ∑ r : Fin 512, mpart m c i k (seqOf t) (pos t r) := by
  rw [mod_fill m c t h, mod_block, show (k0_pay18 (F := Ideal) (ix3 0 i k) : EReal) = 0 by pointwise [k0_pay18]]
  exact zero_add _

theorem modB (h : ¬ t.val % 4 = 0) (i : Fin 2) (k : Fin 1024) : ((outsAt m c t.val t.isLt).mod (ix3 0 i k) : EReal)
    = (outsAt m c (t.val - 1) (Nat.lt_of_le_of_lt (Nat.sub_le _ _) t.isLt)).mod (ix3 0 i k)
      + ∑ r : Fin 512, mpart m c i k (seqOf t) (pos t r) := by
  rw [mod_go m c t h, mod_block]

/-- What a row adds to the gradients by the gain and by the bias. -/
def npart (i : Fin 2) (k : Fin 1024) (b : Fin 2) (r : Fin 2048) : EReal :=
  if i = 0 then dy (args m c) b r k * xhat (row (args m c) b r) k else dy (args m c) b r k

theorem norm_block (i : Fin 2) (k : Fin 1024) (p : Vec Ideal S2x1024 .f32) : ((ins m c t).norm p (ix2 i k) : EReal)
    = p (ix2 i k) + ∑ r : Fin 512, npart m c i k (seqOf t) (pos t r) := by
  rw [ProjSpec.norm_at]
  refine congrArg (_ + ·) (Finset.sum_congr rfl fun r _ => ?_)
  unfold npart
  split
  · exact congrArg₂ (fun d f => d * xhat f k) (dy_block m c t r k) (row_block m c t r)
  · exact dy_block m c t r k

theorem normA (h : t.val % 8 = 0) (i : Fin 2) (k : Fin 1024) : ((outsAt m c t.val t.isLt).norm (ix2 i k) : EReal)
    = ∑ r : Fin 512, npart m c i k (seqOf t) (pos t r) := by
  rw [norm_fill m c t h, norm_block, show (k0_pay17 (F := Ideal) (ix2 i k) : EReal) = 0 by pointwise [k0_pay17]]
  exact zero_add _

theorem normB (h : ¬ t.val % 8 = 0) (i : Fin 2) (k : Fin 1024) : ((outsAt m c t.val t.isLt).norm (ix2 i k) : EReal)
    = (outsAt m c (t.val - 1) (Nat.lt_of_le_of_lt (Nat.sub_le _ _) t.isLt)).norm (ix2 i k)
      + ∑ r : Fin 512, npart m c i k (seqOf t) (pos t r) := by
  rw [norm_go m c t h, norm_block]

/-- What a row adds to the gradient by the gate. -/
def gpart (k : Fin 1024) (b : Fin 2) (r : Fin 2048) : EReal := dr (args m c) b r k * (half * (args m c).f (ix3 b r k))

theorem gate_block (k : Fin 1024) (p : Vec Ideal S1x1x1024 .f32) : ((ins m c t).gate p (ix3 0 0 k) : EReal)
    = p (ix3 0 0 k) + ∑ r : Fin 512, gpart m c k (seqOf t) (pos t r) := by
  rw [ProjSpec.gate_at]
  exact congrArg (_ + ·) (Finset.sum_congr rfl fun r _ => congrArg₂ (fun d f => d * (half * f)) (dr_block m c t r k) (blk12 m c t r k))

theorem gateA (h : t.val % 4 = 0) (k : Fin 1024) : ((outsAt m c t.val t.isLt).gate (ix3 0 0 k) : EReal)
    = ∑ r : Fin 512, gpart m c k (seqOf t) (pos t r) := by
  rw [gate_fill m c t h, gate_block, show (k0_pay19 (F := Ideal) (ix3 0 0 k) : EReal) = 0 by pointwise [k0_pay19]]
  exact zero_add _

theorem gateB (h : ¬ t.val % 4 = 0) (k : Fin 1024) : ((outsAt m c t.val t.isLt).gate (ix3 0 0 k) : EReal)
    = (outsAt m c (t.val - 1) (Nat.lt_of_le_of_lt (Nat.sub_le _ _) t.isLt)).gate (ix3 0 0 k)
      + ∑ r : Fin 512, gpart m c k (seqOf t) (pos t r) := by
  rw [gate_go m c t h, gate_block]

theorem out19 (h : t.val % 4 = 3) (z : Fin 1) (i : Fin 2) (k : Fin 1024) : ((outsAt m c t.val t.isLt).mod (ix3 z i k) : EReal)
    = ∑ r : Fin 2048, mpart m c i k (seqOf t) r := by
  obtain rfl : z = 0 := Subsingleton.elim _ _
  exact Tiles.of_seq N_0 (fun n hn => (outsAt m c n hn).mod (ix3 0 i k)) (mpart m c i k) (fun u hu => modA m c u hu i k)
    (fun u hu => modB m c u hu i k) t h

theorem out20 (h : t.val % 8 = 7) (i : Fin 2) (k : Fin 1024) : ((outsAt m c t.val t.isLt).norm (ix2 i k) : EReal)
    = ∑ b : Fin 2, ∑ r : Fin 2048, npart m c i k b r :=
  Tiles.of_all N_0 (fun n hn => (outsAt m c n hn).norm (ix2 i k)) (npart m c i k) (fun u hu => normA m c u hu i k)
    (fun u hu => normB m c u hu i k) t h

theorem out21 (h : t.val % 4 = 3) (z z' : Fin 1) (k : Fin 1024) : ((outsAt m c t.val t.isLt).gate (ix3 z z' k) : EReal)
    = ∑ r : Fin 2048, gpart m c k (seqOf t) r := by
  obtain rfl : z = 0 := Subsingleton.elim _ _
  obtain rfl : z' = 0 := Subsingleton.elim _ _
  exact Tiles.of_seq N_0 (fun n hn => (outsAt m c n hn).gate (ix3 0 0 k)) (gpart m c k) (fun u hu => gateA m c u hu k)
    (fun u hu => gateB m c u hu k) t h

theorem mpart_eq (i : Fin 2) (k : Fin 1024) (b : Fin 2) : ∑ r : Fin 2048, mpart m c i k b r
    = ProjRefIdeal.Read.val_main_v111 (F := Ideal) (args m c).x (args m c).f (args m c).gt (args m c).lg (args m c).lb (args m c).w (args m c).dq (args m c).dk (args m c).dv (args m c).du (args m c).db (args m c).dc (ix3 b i k) := by
  match i with
  | 0 => exact (v111_at0 b k).symm
  | 1 => exact (v111_at1 b k).symm

theorem npart_eq (i : Fin 2) (k : Fin 1024) : ∑ b : Fin 2, ∑ r : Fin 2048, npart m c i k b r
    = ProjRefIdeal.Read.val_main_v112 (F := Ideal) (args m c).x (args m c).f (args m c).gt (args m c).sc (args m c).w (args m c).dres (args m c).dq (args m c).dk (args m c).dv (args m c).du (args m c).db (args m c).dc (ix2 i k) := by
  match i with
  | 0 => exact (v112_at0 k).symm
  | 1 => exact (v112_at1 k).symm

/-- The gradient by the projection, whole. -/
theorem final17 : (dats m 0 c).arrAt 17 (cfgs 0).N
    = ProjRefIdeal.Read.val_main_v108 (F := Ideal) (args m c).dq (args m c).dk (args m c).dv (args m c).du (args m c).db (args m c).dc := by
  refine (dats m 0 c).arrAt_eq_of_covers 17 _ (by decide +kernel) fun t hf y => ?_
  blk_simp
  rw [after_17, ValueIdx.eq_ix2 y]
  rw [outs_dproj]
  exact (ProjSpec.dproj_at _ _ _).trans ((part_block m c t _ _).trans ((v108_at _ _ _).symm.trans (congrArg _ (emb17 t _ _).symm)))

/-- The projection's input, whole. -/
theorem final18 : (dats m 0 c).arrAt 18 (cfgs 0).N
    = ProjRefIdeal.Read.val_main_v110 (F := Ideal) (args m c).x (args m c).f (args m c).gt (args m c).lg (args m c).lb (args m c).sh (args m c).sc := by
  refine (dats m 0 c).arrAt_eq_of_covers 18 _ (by decide +kernel) fun t hf y => ?_
  blk_simp
  rw [after_18, ValueIdx.eq_ix2 y]
  rw [outs_h]
  exact (h_block m c t _ _).trans ((v110_at _ _ _).symm.trans (congrArg _ (emb18 t _ _).symm))

/-- The gradients by the shift and by the scale, whole. -/
theorem final19 : (dats m 0 c).arrAt 19 (cfgs 0).N
    = ProjRefIdeal.Read.val_main_v111 (F := Ideal) (args m c).x (args m c).f (args m c).gt (args m c).lg (args m c).lb (args m c).w (args m c).dq (args m c).dk (args m c).dv (args m c).du (args m c).db (args m c).dc := by
  refine (dats m 0 c).arrAt_eq_of_covers 19 _ (by decide +kernel) fun t hf y => ?_
  blk_simp
  rw [after_19, ValueIdx.eq_ix3 y]
  exact (out19 m c t ((flush0_19 t).mp hf) _ _ _).trans ((mpart_eq m c _ _ _).trans (congrArg _ (emb19 t _ _ _).symm))

/-- The gradients by the gain and by the bias, whole. -/
theorem final20 : (dats m 0 c).arrAt 20 (cfgs 0).N
    = ProjRefIdeal.Read.val_main_v112 (F := Ideal) (args m c).x (args m c).f (args m c).gt (args m c).sc (args m c).w (args m c).dres (args m c).dq (args m c).dk (args m c).dv (args m c).du (args m c).db (args m c).dc := by
  refine (dats m 0 c).arrAt_eq_of_covers 20 _ (by decide +kernel) fun t hf y => ?_
  blk_simp
  rw [after_20, ValueIdx.eq_ix2 y]
  exact (out20 m c t ((flush0_20 t).mp hf) _ _).trans ((npart_eq m c _ _).trans (congrArg _ (emb20 t _ _).symm))

variable (hr : Pre_finite_proj.Real (args m c))

include hr

/-- The gradient by the row that was normalised, whole. -/
theorem final15 : (dats m 0 c).arrAt 15 (cfgs 0).N
    = ProjRefIdeal.Read.val_main_v104 (F := Ideal) (args m c).x (args m c).f (args m c).gt (args m c).lg (args m c).sc (args m c).w (args m c).dres (args m c).dq (args m c).dk (args m c).dv (args m c).du (args m c).db (args m c).dc := by
  refine (dats m 0 c).arrAt_eq_of_covers 15 _ (by decide +kernel) fun t hf y => ?_
  blk_simp
  rw [after_15, ValueIdx.eq_ix2 y]
  rw [outs_dr]
  exact (dr_block m c t _ _).trans ((v104_at _ _ hr _).symm.trans (congrArg _ (emb15 t _ _).symm))

/-- The gradient by the other branch, whole. -/
theorem final16 : (dats m 0 c).arrAt 16 (cfgs 0).N
    = ProjRefIdeal.Read.val_main_v106 (F := Ideal) (args m c).x (args m c).f (args m c).gt (args m c).lg (args m c).sc (args m c).w (args m c).dres (args m c).dq (args m c).dk (args m c).dv (args m c).du (args m c).db (args m c).dc := by
  refine (dats m 0 c).arrAt_eq_of_covers 16 _ (by decide +kernel) fun t hf y => ?_
  blk_simp
  rw [after_16, ValueIdx.eq_ix2 y]
  rw [outs_df]
  exact (df_block m c t _ _).trans ((v106_at _ _ hr _).symm.trans (congrArg _ (emb16 t _ _).symm))

/-- The gradient by the gate, whole. -/
theorem final21 : (dats m 0 c).arrAt 21 (cfgs 0).N
    = ProjRefIdeal.Read.val_main_v102 (F := Ideal) (args m c).x (args m c).f (args m c).gt (args m c).lg (args m c).sc (args m c).w (args m c).dres (args m c).dq (args m c).dk (args m c).dv (args m c).du (args m c).db (args m c).dc := by
  refine (dats m 0 c).arrAt_eq_of_covers 21 _ (by decide +kernel) fun t hf y => ?_
  blk_simp
  rw [after_21, ValueIdx.eq_ix3 y]
  exact (out21 m c t ((flush0_21 t).mp hf) _ _ _).trans ((v102_at _ hr _ _).symm.trans (congrArg _ (emb21 t _ _ _).symm))

end Cert.ProjValue

end
-- ==== Proof.ProjClaim.lean ====
/- The gradient of the input projection and its norm: kernel and reference leave the same seven arrays. -/
module

public import proofs.«01_k».proof.Defs
public import proofs.«01_k».proof.Proof.Gen.ProjB
public import proofs.«01_k».proof.Proof.Gen.ProjRefIdeal.Run
public import proofs.«01_k».proof.Proof.Gen.Pre_finite_proj
public import proofs.«01_k».proof.Proof.ProjValue

@[expose] public section

noncomputable section

open Idealize.ShloMosaic Idealize.ShloMosaic.TcCoe Idealize.SL.Sem Idealize.SL

namespace Cert.ProjClaim

open Cert.ProjRefIdeal.Read

open Cert.ProjBIdeal in
/-- The kernel over bit patterns runs, leaves its arguments alone, and its counters end at zero. -/
def BitsFrame : Prop := ∀ (m : (ℓ : Loc nD τ sig) → Buf (Elt Bits) ℓ) (g : Dev nD → PrngReg), True →
  θ_run (Cert.ProjBIdeal.defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0)

/-- The two printed programs are the same text, so the frame of the one over bit patterns is the frame of the other. -/
theorem bits_eq : @Cert.quiescent_ProjB Cert.ProjB.Gen.facts = BitsFrame := by sl_kernel_rfl

theorem bits : @Cert.quiescent_ProjB Cert.ProjB.Gen.facts := by
  rw [bits_eq]
  exact fun m ρ _ => Cert.ProjFrame.frame (F := Bits) m ρ

theorem ideal : @Cert.quiescent_ProjBIdeal Cert.ProjBIdeal.Gen.facts := fun m ρ _ => Cert.ProjFrame.frame (F := Ideal) m ρ

/-- The reference ends, leaves its arguments alone and has no counters. -/
theorem frame_ref : @Cert.quiescent_ProjRefIdeal Cert.ProjRefIdeal.Gen.facts := fun m ρ _ =>
  (θ_run Cert.ProjRefIdeal.defs _ _).mono (fun r h => ⟨fun c => (h c).2.2.2.2.2.2.2, sem_eq_zero_of_no_sems (by decide) r.2⟩)
    (Cert.ProjRefIdeal.Value.run (F := Ideal) m ρ)

open Cert.ProjBIdeal Cert.ProjBIdeal.Gen Cert.ProjFrame in
/-- The kernel runs, its seven results hold what the grid's points leave, and its arguments are unchanged. -/
theorem run_blocks (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v50_0) = (dats m 0 c).arrAt 15 (cfgs 0).N
      ∧ r.2.mem ((c.tc : Thread nD τ).loc main_v50_1) = (dats m 0 c).arrAt 16 (cfgs 0).N
      ∧ r.2.mem ((c.tc : Thread nD τ).loc main_v50_2) = (dats m 0 c).arrAt 17 (cfgs 0).N
      ∧ r.2.mem ((c.tc : Thread nD τ).loc main_v50_3) = (dats m 0 c).arrAt 18 (cfgs 0).N
      ∧ r.2.mem ((c.tc : Thread nD τ).loc main_v50_4) = (dats m 0 c).arrAt 19 (cfgs 0).N
      ∧ r.2.mem ((c.tc : Thread nD τ).loc main_v50_5) = (dats m 0 c).arrAt 20 (cfgs 0).N
      ∧ r.2.mem ((c.tc : Thread nD τ).loc main_v50_6) = (dats m 0 c).arrAt 21 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h.1.1 c).1 15, (h.1.1 c).1 16, (h.1.1 c).1 17, (h.1.1 c).1 18, (h.1.1 c).1 19, (h.1.1 c).1 20, (h.1.1 c).1 21, h.2.1 c⟩)
    (θ_run_and (run_main m ρ) (frame m ρ))

set_option maxHeartbeats 4000000 in
/-- The value claim. -/
theorem value : @Cert.algebraic_ProjBIdeal_ProjRefIdeal_pre_finite_proj Cert.ProjBIdeal.Gen.facts Cert.ProjRefIdeal.Gen.facts Cert.Pre_finite_proj.Gen.facts := by
  intro m g m' g' hp hm
  refine ⟨fun c => (Cert.ProjFrame.dats m 0 c).arrAt 15 (Cert.ProjBIdeal.cfgs 0).N, fun c => (Cert.ProjFrame.dats m 0 c).arrAt 16 (Cert.ProjBIdeal.cfgs 0).N, fun c => (Cert.ProjFrame.dats m 0 c).arrAt 17 (Cert.ProjBIdeal.cfgs 0).N, fun c => (Cert.ProjFrame.dats m 0 c).arrAt 18 (Cert.ProjBIdeal.cfgs 0).N, fun c => (Cert.ProjFrame.dats m 0 c).arrAt 19 (Cert.ProjBIdeal.cfgs 0).N, fun c => (Cert.ProjFrame.dats m 0 c).arrAt 20 (Cert.ProjBIdeal.cfgs 0).N, fun c => (Cert.ProjFrame.dats m 0 c).arrAt 21 (Cert.ProjBIdeal.cfgs 0).N, run_blocks m g, ?_⟩
  refine (θ_run Cert.ProjRefIdeal.defs _ _).mono (fun r h c => ?_) (Cert.ProjRefIdeal.Value.run m' g')
  obtain ⟨h0, h1, h2, h3, h4, h5, h6, hk⟩ := h c
  obtain ⟨e0, e1, e2, e3, e4, e5, e6, e7, e8, e9, e10, e11, e12, e13, e14⟩ := hm c
  have hr := @Cert.Pre_finite_proj.real_of Cert.Pre_finite_proj.Gen.facts (Cert.ProjValue.args m c) (fun a => a.elim0) (congrFun (hp c) _)
  have a0 : m' (c.tc.loc Cert.ProjRefIdeal.main_arg0) = (Cert.ProjValue.args m c).x := e0
  have a1 : m' (c.tc.loc Cert.ProjRefIdeal.main_arg1) = (Cert.ProjValue.args m c).f := e1
  have a2 : m' (c.tc.loc Cert.ProjRefIdeal.main_arg2) = (Cert.ProjValue.args m c).gt := e2
  have a3 : m' (c.tc.loc Cert.ProjRefIdeal.main_arg3) = (Cert.ProjValue.args m c).lg := e3
  have a4 : m' (c.tc.loc Cert.ProjRefIdeal.main_arg4) = (Cert.ProjValue.args m c).lb := e4
  have a5 : m' (c.tc.loc Cert.ProjRefIdeal.main_arg5) = (Cert.ProjValue.args m c).sh := e5
  have a6 : m' (c.tc.loc Cert.ProjRefIdeal.main_arg6) = (Cert.ProjValue.args m c).sc := e6
  have a7 : m' (c.tc.loc Cert.ProjRefIdeal.main_arg7) = (Cert.ProjValue.args m c).w := e7
  have a8 : m' (c.tc.loc Cert.ProjRefIdeal.main_arg8) = (Cert.ProjValue.args m c).dres := e8
  have a9 : m' (c.tc.loc Cert.ProjRefIdeal.main_arg9) = (Cert.ProjValue.args m c).dq := e9
  have a10 : m' (c.tc.loc Cert.ProjRefIdeal.main_arg10) = (Cert.ProjValue.args m c).dk := e10
  have a11 : m' (c.tc.loc Cert.ProjRefIdeal.main_arg11) = (Cert.ProjValue.args m c).dv := e11
  have a12 : m' (c.tc.loc Cert.ProjRefIdeal.main_arg12) = (Cert.ProjValue.args m c).du := e12
  have a13 : m' (c.tc.loc Cert.ProjRefIdeal.main_arg13) = (Cert.ProjValue.args m c).db := e13
  have a14 : m' (c.tc.loc Cert.ProjRefIdeal.main_arg14) = (Cert.ProjValue.args m c).dc := e14
  clear e0 e1 e2 e3 e4 e5 e6 e7 e8 e9 e10 e11 e12 e13 e14 hp hm
  refine ⟨?_, ?_, ?_, ?_, ?_, ?_, ?_, hk⟩
  · rw [val_main_v104_eq, a0, a1, a2, a3, a6, a7, a8, a9, a10, a11, a12, a13, a14] at h0
    exact h0.trans (Cert.ProjValue.final15 m c hr).symm
  · rw [val_main_v106_eq, a0, a1, a2, a3, a6, a7, a8, a9, a10, a11, a12, a13, a14] at h1
    exact h1.trans (Cert.ProjValue.final16 m c hr).symm
  · rw [val_main_v108_eq, a9, a10, a11, a12, a13, a14] at h2
    exact h2.trans (Cert.ProjValue.final17 m c).symm
  · rw [val_main_v110_eq, a0, a1, a2, a3, a4, a5, a6] at h3
    exact h3.trans (Cert.ProjValue.final18 m c).symm
  · rw [val_main_v111_eq, a0, a1, a2, a3, a4, a7, a9, a10, a11, a12, a13, a14] at h4
    exact h4.trans (Cert.ProjValue.final19 m c).symm
  · rw [val_main_v112_eq, a0, a1, a2, a6, a7, a8, a9, a10, a11, a12, a13, a14] at h5
    exact h5.trans (Cert.ProjValue.final20 m c).symm
  · rw [val_main_v102_eq, a0, a1, a2, a3, a6, a7, a8, a9, a10, a11, a12, a13, a14] at h6
    exact h6.trans (Cert.ProjValue.final21 m c hr).symm

end Cert.ProjClaim

end
-- ==== Proof.MixFRef.lean ====
/- What the reference of the mixing product and the norm after it computes, read at an index. -/
module

public import proofs.«01_k».proof.Proof.Gen.MixFRefIdeal.Read
public import proofs.«01_k».proof.Proof.Norm
public import Idealize.ShloMosaic.Lib.Pipeline.ValueKit
public import Idealize.ShloMosaic.Lib.Pointwise

@[expose] public section

set_option maxRecDepth 16384

noncomputable section

namespace Cert.MixFRefIdeal.At

open Idealize.ShloMosaic Idealize.ShloMosaic.TcCoe
open Cert.MixFRefIdeal Cert.MixFRefIdeal.Gen Cert.MixFRefIdeal.Read Cert.Norm

/-- The scale of the branch that bypasses the mixer. -/
abbrev alpha : EReal := Ideal.ofBits .f32 1066940400#32

/-- Two rows of 512 numbers side by side. -/
def beside (a c : Fin 512 → EReal) (k : Fin 1024) : EReal := if h : k.val < 512 then a ⟨k.val, h⟩ else c ⟨k.val - 512, by omega⟩

/-- A row times the mixer's weights, half by half. -/
def mixed (a c : Fin 512 → EReal) (w : Fin 1024 → Fin 1024 → EReal) (k : Fin 1024) : EReal :=
  ∑ i : Fin 512, a i * w ⟨i.val, by omega⟩ k + ∑ i : Fin 512, c i * w ⟨512 + i.val, by omega⟩ k

/-- The row that is normalised. -/
def joined (x a : Fin 1024 → EReal) (g : Fin 1024 → EReal) (k : Fin 1024) : EReal := alpha * x k + (1 + g k) * a k

/-- The normalised row, with gain and bias. -/
def normed (r lg lb : Fin 1024 → EReal) (k : Fin 1024) : EReal := xhat r k * lg k + lb k

variable (x1 : FVec Ideal S2x2048x1024 .f32) (at_ cv : FVec Ideal S2x2048x512 .f32) (gt : FVec Ideal S2x1x1024 .f32)
  (w : FVec Ideal S1024x1024 .f32) (lg lb : FVec Ideal S1x1024 .f32) (b : Fin 2) (s : Fin 2048)

/-- The mixer's output, and the row that is normalised, of one token. -/
abbrev mix : Fin 1024 → EReal := mixed (fun i => at_ (ix3 b s i)) (fun i => cv (ix3 b s i)) (fun i k => w (ix2 i k))
abbrev row : Fin 1024 → EReal := joined (fun k => x1 (ix3 b s k)) (mix at_ cv w b s) (fun k => gt (ix3 b 0 k))

theorem v0_at (k : Fin 1024) : (val_main_v0 (F := Ideal) at_ cv (ix3 b s k) : EReal)
    = beside (fun i => at_ (ix3 b s i)) (fun i => cv (ix3 b s i)) k := by
  unfold val_main_v0 beside
  pointwise

theorem v1_at (k : Fin 1024) : (val_main_v1 (F := Ideal) at_ cv w (ix3 b s k) : EReal) = mix at_ cv w b s k := by
  unfold val_main_v1 val_main_v0 mix mixed
  pointwise

theorem v8_at (k : Fin 1024) : (val_main_v8 (F := Ideal) x1 at_ cv gt w (ix3 b s k) : EReal) = row x1 at_ cv gt w b s k := by
  unfold val_main_v8 val_main_v7 val_main_v6 val_main_v5 val_main_v4 val_main_v3 val_main_v2 val_main_cst val_main_cst_0 row joined
  pointwise [v1_at]

theorem v14_at (z : Fin 1) : (val_main_v14 (F := Ideal) x1 at_ cv gt w (ix3 b s z) : EReal) = mean (row x1 at_ cv gt w b s) := by
  unfold val_main_v14 val_main_v13 val_main_v12 val_main_v11 val_main_cst_1 val_main_cst_2 mean
  pointwise [v8_at]

theorem v16_at (k : Fin 1024) : (val_main_v16 (F := Ideal) x1 at_ cv gt w (ix3 b s k) : EReal) = ctr (row x1 at_ cv gt w b s) k := by
  unfold val_main_v16 val_main_v15 ctr
  pointwise [v8_at, v14_at]

theorem v23_at (k : Fin 1024) : (val_main_v23 (F := Ideal) x1 at_ cv gt w (ix3 b s k) : EReal) = ctr (row x1 at_ cv gt w b s) k := by
  unfold val_main_v23 val_main_v22 ctr
  pointwise [v8_at, v14_at]

theorem v26_at (z : Fin 1) : (val_main_v26 (F := Ideal) x1 at_ cv gt w (ix3 b s z) : EReal) = rstd (row x1 at_ cv gt w b s) := by
  unfold val_main_v26 val_main_v25 val_main_v24 val_main_v21 val_main_v20 val_main_v19 val_main_v18 val_main_v17 val_main_cst_3 val_main_cst_4 val_main_cst_5
    rstd vare mean
  pointwise [v16_at]

theorem v34_at (k : Fin 1024) : (val_main_v34 (F := Ideal) x1 at_ cv gt w lg lb (ix3 b s k) : EReal)
    = normed (row x1 at_ cv gt w b s) (fun k => lg (ix2 0 k)) (fun k => lb (ix2 0 k)) k := by
  unfold val_main_v34 val_main_v33 val_main_v32 val_main_v31 val_main_v30 val_main_v29 val_main_v28 val_main_v27 val_main_v10 val_main_v9 normed xhat
  pointwise [v23_at, v26_at]

/-- The token of a sequence, in the array of all tokens. -/
abbrev tok (b : Fin 2) (s : Fin 2048) : Fin 4096 := ⟨b.val * 2048 + s.val, by omega⟩

variable (k : Fin 1024)

/-- The four results. -/
theorem v35_at : (val_main_v35 (F := Ideal) x1 at_ cv gt w lg lb (ix2 (tok b s) k) : EReal)
    = normed (row x1 at_ cv gt w b s) (fun k => lg (ix2 0 k)) (fun k => lb (ix2 0 k)) k := by
  rw [← v34_at]
  unfold val_main_v35
  pointwise
  simp only [show (b.val * 2048 + s.val) / 2048 = b.val by omega, show (b.val * 2048 + s.val) % 2048 = s.val by omega]

theorem v36_at : (val_main_v36 (F := Ideal) x1 at_ cv gt w (ix2 (tok b s) k) : EReal) = row x1 at_ cv gt w b s k := by
  rw [← v8_at]
  unfold val_main_v36
  pointwise
  simp only [show (b.val * 2048 + s.val) / 2048 = b.val by omega, show (b.val * 2048 + s.val) % 2048 = s.val by omega]

theorem v38_at : (val_main_v38 (F := Ideal) at_ cv (ix2 (tok b s) k) : EReal)
    = beside (fun i => at_ (ix3 b s i)) (fun i => cv (ix3 b s i)) k := by
  rw [← v0_at]
  unfold val_main_v38 val_main_v37
  pointwise
  simp only [show (b.val * 2048 + s.val) / 2048 = b.val by omega, show (b.val * 2048 + s.val) % 2048 = s.val by omega]

theorem v40_at : (val_main_v40 (F := Ideal) at_ cv w (ix2 (tok b s) k) : EReal) = mix at_ cv w b s k := by
  rw [← v1_at]
  unfold val_main_v40 val_main_v39
  pointwise
  simp only [show (b.val * 2048 + s.val) / 2048 = b.val by omega, show (b.val * 2048 + s.val) % 2048 = s.val by omega]

end Cert.MixFRefIdeal.At

end
-- ==== Proof.MixFSpec.lean ====
/- What one block of the mixing product and the norm after it computes, in plain formulas over the arrays it loads. -/
module

public import proofs.«01_k».proof.Proof.Gen.MixFIdeal.Value
public import proofs.«01_k».proof.Proof.MixFRef

@[expose] public section

set_option maxRecDepth 16384

noncomputable section

namespace Cert.MixFSpec

open Idealize.ShloMosaic Idealize.ShloMosaic.TcCoe Cert.MixFIdeal Cert.MixFIdeal.Gen Cert.MixFRefIdeal.At Cert.Norm

variable (x : Vec Ideal S512x1024 .f32) (a c : Vec Ideal S512x512 .bf16) (g : Vec Ideal S1x1x1024 .f32) (w : Vec Ideal S1024x1024 .bf16)
  (lg lb : Vec Ideal S1x1024 .f32) (s : Fin 512) (k : Fin 1024)

/-- The mixer's output, and the row that is normalised, of one row of the block. -/
abbrev bmix : Fin 1024 → EReal := mixed (fun i => a (ix2 s i)) (fun i => c (ix2 s i)) (fun i k => w (ix2 i k))
abbrev brow : Fin 1024 → EReal := joined (fun k => x (ix2 s k)) (bmix a c w s) (fun k => g (ix3 0 0 k))

theorem pay2_at : (k0_pay2 a c (ix2 s k) : EReal) = beside (fun i => a (ix2 s i)) (fun i => c (ix2 s i)) k := by
  unfold k0_pay2 beside
  pointwise

theorem pay3_at : (k0_pay3 a c w (ix2 s k) : EReal) = bmix a c w s k := by
  unfold k0_pay3 k0_pay2 bmix mixed
  pointwise

theorem pay4_at : (k0_pay4 a c w (ix2 s k) : EReal) = bmix a c w s k := by
  unfold k0_pay4
  pointwise [pay3_at]

theorem pay5_at : (k0_pay5 a c w x g (ix2 s k) : EReal) = brow x a c g w s k := by
  unfold k0_pay5 brow joined
  pointwise [pay3_at]

theorem pay6_at : (k0_pay6 a c w x g (ix2 s k) : EReal) = ctr (brow x a c g w s) k := by
  unfold k0_pay6 ctr mean
  pointwise [pay5_at]

theorem pay7_at (z : Fin 1) : (k0_pay7 a c w x g (ix2 s z) : EReal) = ∑ j, ctr (brow x a c g w s) j * ctr (brow x a c g w s) j := by
  unfold k0_pay7
  pointwise [pay6_at]

theorem pay1_at : (k0_pay1 (k0_pay6 a c w x g) (k0_pay7 a c w x g) (Scalar.ofBits .f32 0x44800000#32) lg lb (ix2 s k) : EReal)
    = normed (brow x a c g w s) (fun k => lg (ix2 0 k)) (fun k => lb (ix2 0 k)) k := by
  unfold k0_pay1 normed xhat rstd vare mean
  pointwise [pay6_at, pay7_at]

end Cert.MixFSpec

end
-- ==== Proof.MixFBlocks.lean ====
/- What the blocks of the kernel of the mixing product hold at each grid point, and where its results land. -/
module

public import proofs.«01_k».proof.Proof.MixFSpec
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.MixFIdeal.Value

open Cert.MixFIdeal Cert.MixFIdeal.Gen Cert.MixFRefIdeal.At

variable (m : (ℓ : Loc nD τ sig) → Buf (Elt Ideal) ℓ) (c : Dev nD)

/-- The arguments: the block's input, the two halves of the mixer's input, the gate, the mixer's weights, gain and bias. -/
abbrev X1 : FVec Ideal S2x2048x1024 .f32 := m ((c : Thread nD τ).loc main_arg0)
abbrev At : FVec Ideal S2x2048x512 .f32 := m ((c : Thread nD τ).loc main_arg1)
abbrev Cv : FVec Ideal S2x2048x512 .f32 := m ((c : Thread nD τ).loc main_arg2)
abbrev Gt : FVec Ideal S2x1x1024 .f32 := m ((c : Thread nD τ).loc main_arg3)
abbrev W : FVec Ideal S1024x1024 .f32 := m ((c : Thread nD τ).loc main_arg4)
abbrev Lg : FVec Ideal S1x1024 .f32 := m ((c : Thread nD τ).loc main_arg5)
abbrev Lb : FVec Ideal S1x1024 .f32 := m ((c : Thread nD τ).loc main_arg6)

section host

variable (b : Fin 2) (s : Fin 2048)

theorem v0_in (k : Fin 1024) : (V m c main_v0 (ix2 (tok b s) k) : EReal) = X1 m c (ix3 b s k) := by
  entry_read
  pointwise
  simp only [show (b.val * 2048 + s.val) / 2048 = b.val by omega, show (b.val * 2048 + s.val) % 2048 = s.val by omega]

theorem v2_in (k : Fin 512) : (V m c main_v2 (ix2 (tok b s) k) : EReal) = At m c (ix3 b s k) := by
  entry_read
  pointwise
  simp only [show (b.val * 2048 + s.val) / 2048 = b.val by omega, show (b.val * 2048 + s.val) % 2048 = s.val by omega]

theorem v4_in (k : Fin 512) : (V m c main_v4 (ix2 (tok b s) k) : EReal) = Cv m c (ix3 b s k) := by
  entry_read
  pointwise
  simp only [show (b.val * 2048 + s.val) / 2048 = b.val by omega, show (b.val * 2048 + s.val) % 2048 = s.val by omega]

theorem v5_in (i k : Fin 1024) : (V m c main_v5 (ix2 i k) : EReal) = W m c (ix2 i k) := by
  entry_read
  pointwise

end host

variable (t : Fin cfg0.N) (s : Fin 512)

theorem idx : ∀ t : Fin cfg0.N, win0_0.index t = ![t.val, 0] ∧ win0_1.index t = ![t.val, 0]
    ∧ win0_2.index t = ![t.val, 0] ∧ win0_3.index t = ![t.val / 4, 0, 0] ∧ win0_4.index t = ![0, 0]
    ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] :=
  (by decide +kernel : ∀ t : Fin grid0.N, _)

/-- The token a row of a grid point's block stands for. -/
abbrev tokOf (t : Fin cfg0.N) (s : Fin 512) : Fin 4096 :=
  ⟨t.val * 512 + s.val, by have := lt_of_lt_of_eq t.isLt N_0; omega⟩

/-- The sequence a grid point works on. -/
abbrev seqOf (t : Fin cfg0.N) : Fin 2 := ⟨t.val / 4, by have := lt_of_lt_of_eq t.isLt N_0; omega⟩

/-- The place of a row in its sequence. -/
abbrev pos (t : Fin cfg0.N) (s : Fin 512) : Fin 2048 := ⟨t.val % 4 * 512 + s.val, by omega⟩

theorem tokOf_eq : tokOf t s = tok (seqOf t) (pos t s) := Fin.ext (by show t.val * 512 + s.val = t.val / 4 * 2048 + (t.val % 4 * 512 + s.val); omega)

theorem blk0 (k : Fin 1024) : (iblk m c 0 t (ix2 s k) : EReal) = X1 m c (ix3 (seqOf t) (pos t s) k) := by
  rw [← v0_in, ← tokOf_eq]
  blk_point [iblk, idx t]

theorem blk1 (k : Fin 512) : (iblk m c 1 t (ix2 s k) : EReal) = At m c (ix3 (seqOf t) (pos t s) k) := by
  rw [← v2_in, ← tokOf_eq]
  blk_point [iblk, idx t]

theorem blk2 (k : Fin 512) : (iblk m c 2 t (ix2 s k) : EReal) = Cv m c (ix3 (seqOf t) (pos t s) k) := by
  rw [← v4_in, ← tokOf_eq]
  blk_point [iblk, idx t]

theorem blk3 (k : Fin 1024) : (iblk m c 3 t (ix3 0 0 k) : EReal) = Gt m c (ix3 (seqOf t) 0 k) := by
  blk_point [iblk, V, idx t]

theorem blk4 (i k : Fin 1024) : (iblk m c 4 t (ix2 i k) : EReal) = W m c (ix2 i k) := by
  rw [← v5_in]
  blk_point [iblk, idx t]

theorem blk5 (k : Fin 1024) : (iblk m c 5 t (ix2 0 k) : EReal) = Lg m c (ix2 0 k) := by
  blk_point [iblk, V, idx t]

theorem blk6 (k : Fin 1024) : (iblk m c 6 t (ix2 0 k) : EReal) = Lb m c (ix2 0 k) := by
  blk_point [iblk, V, idx t]

variable (k : Fin 1024)

theorem emb7 : ((cfg0.win 7).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb8 : ((cfg0.win 8).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb9 : ((cfg0.win 9).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb10 : ((cfg0.win 10).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

end Cert.MixFIdeal.Value

end
-- ==== Proof.MixFValue.lean ====
/- What the results of the mixing product hold after the kernel, in the terms of the reference. -/
module

public import proofs.«01_k».proof.Proof.MixFBlocks

@[expose] public section

set_option maxRecDepth 16384

noncomputable section

open Idealize.ShloMosaic Idealize.ShloMosaic.TcCoe Idealize.SL.Sem
open Idealize.ShloMosaic.Pipeline (Dat)

namespace Cert.MixFIdeal.Value

open Cert.MixFIdeal Cert.MixFIdeal.Gen Cert.MixFRefIdeal.At Cert.MixFRefIdeal.Read Cert.MixFSpec

variable (m : (ℓ : Loc nD τ sig) → Buf (Elt Ideal) ℓ) (c : Dev nD)

section point

variable (t : Fin cfg0.N) (s : Fin 512) (k : Fin 1024)

theorem mix_block : bmix (iblk m c 1 t) (iblk m c 2 t) (iblk m c 4 t) s = mix (At m c) (Cv m c) (W m c) (seqOf t) (pos t s) := by
  unfold bmix mix
  simp only [blk1, blk2, blk4]

theorem row_block : brow (iblk m c 0 t) (iblk m c 1 t) (iblk m c 2 t) (iblk m c 3 t) (iblk m c 4 t) s
    = row (X1 m c) (At m c) (Cv m c) (Gt m c) (W m c) (seqOf t) (pos t s) := by
  unfold brow row
  rw [mix_block]
  simp only [blk0, blk3]

theorem out7 : (out0_7 (iblk m c 0 t) (iblk m c 1 t) (iblk m c 2 t) (iblk m c 3 t) (iblk m c 4 t) (iblk m c 5 t) (iblk m c 6 t) (ix2 s k) : EReal)
    = val_main_v35 (F := Ideal) (X1 m c) (At m c) (Cv m c) (Gt m c) (W m c) (Lg m c) (Lb m c) (ix2 (tok (seqOf t) (pos t s)) k) := by
  rw [v35_at]
  frame_out
  refine (pay1_at _ _ _ _ _ _ _ s k).trans ?_
  rw [row_block]
  simp only [blk5, blk6]

theorem out8 : (out0_8 (iblk m c 0 t) (iblk m c 1 t) (iblk m c 2 t) (iblk m c 3 t) (iblk m c 4 t) (iblk m c 5 t) (iblk m c 6 t) (ix2 s k) : EReal)
    = val_main_v36 (F := Ideal) (X1 m c) (At m c) (Cv m c) (Gt m c) (W m c) (ix2 (tok (seqOf t) (pos t s)) k) := by
  rw [v36_at]
  frame_out
  refine (pay5_at _ _ _ _ _ s k).trans ?_
  rw [row_block]

theorem out9 : (out0_9 (iblk m c 0 t) (iblk m c 1 t) (iblk m c 2 t) (iblk m c 3 t) (iblk m c 4 t) (iblk m c 5 t) (iblk m c 6 t) (ix2 s k) : EReal)
    = val_main_v38 (F := Ideal) (At m c) (Cv m c) (ix2 (tok (seqOf t) (pos t s)) k) := by
  rw [v38_at]
  frame_out
  refine (pay2_at _ _ s k).trans ?_
  simp only [blk1, blk2]

theorem out10 : (out0_10 (iblk m c 0 t) (iblk m c 1 t) (iblk m c 2 t) (iblk m c 3 t) (iblk m c 4 t) (iblk m c 5 t) (iblk m c 6 t) (ix2 s k) : EReal)
    = val_main_v40 (F := Ideal) (At m c) (Cv m c) (W m c) (ix2 (tok (seqOf t) (pos t s)) k) := by
  rw [v40_at]
  frame_out
  refine (pay4_at _ _ _ s k).trans ?_
  rw [mix_block]

end point

/-- The normalised rows, whole. -/
theorem final7 : (dats m 0 c).arrAt 7 (cfgs 0).N
    = val_main_v35 (F := Ideal) (X1 m c) (At m c) (Cv m c) (Gt m c) (W m c) (Lg m c) (Lb m c) := by
  refine (dats m 0 c).arrAt_eq_of_covers 7 _ (by decide +kernel) fun t hf y => ?_
  blk_simp
  rw [after0_7, ValueIdx.eq_ix2 y]
  exact (out7 m c t _ _).trans (congrArg _ (emb7 t _ _).symm)

/-- The rows before the norm, whole. -/
theorem final8 : (dats m 0 c).arrAt 8 (cfgs 0).N = val_main_v36 (F := Ideal) (X1 m c) (At m c) (Cv m c) (Gt m c) (W m c) := by
  refine (dats m 0 c).arrAt_eq_of_covers 8 _ (by decide +kernel) fun t hf y => ?_
  blk_simp
  rw [after0_8, ValueIdx.eq_ix2 y]
  exact (out8 m c t _ _).trans (congrArg _ (emb8 t _ _).symm)

/-- The mixer's input, whole. -/
theorem final9 : (dats m 0 c).arrAt 9 (cfgs 0).N = val_main_v38 (F := Ideal) (At m c) (Cv m c) := by
  refine (dats m 0 c).arrAt_eq_of_covers 9 _ (by decide +kernel) fun t hf y => ?_
  blk_simp
  rw [after0_9, ValueIdx.eq_ix2 y]
  exact (out9 m c t _ _).trans (congrArg _ (emb9 t _ _).symm)

/-- The mixer's output, whole. -/
theorem final10 : (dats m 0 c).arrAt 10 (cfgs 0).N = val_main_v40 (F := Ideal) (At m c) (Cv m c) (W m c) := by
  refine (dats m 0 c).arrAt_eq_of_covers 10 _ (by decide +kernel) fun t hf y => ?_
  blk_simp
  rw [after0_10, ValueIdx.eq_ix2 y]
  exact (out10 m c t _ _).trans (congrArg _ (emb10 t _ _).symm)

end Cert.MixFIdeal.Value

end
-- ==== Proof.MixFClaim.lean ====
/- The mixing product and the norm after it: kernel and reference leave the same four arrays. -/
module

public import proofs.«01_k».proof.Defs
public import proofs.«01_k».proof.Proof.Gen.MixFRefIdeal.Run
public import proofs.«01_k».proof.Proof.MixFValue

@[expose] public section

noncomputable section

open Idealize.ShloMosaic Idealize.SL.Sem

namespace Cert.MixFClaim

open Cert.MixFRefIdeal.Read

/-- The reference ends, leaves its arguments alone and has no counters. -/
theorem frame_ref : @Cert.quiescent_MixFRefIdeal Cert.MixFRefIdeal.Gen.facts := fun m ρ _ =>
  (θ_run Cert.MixFRefIdeal.defs _ _).mono (fun r h => ⟨fun c => (h c).2.2.2.2, sem_eq_zero_of_no_sems (by decide) r.2⟩)
    (Cert.MixFRefIdeal.Value.run (F := Ideal) m ρ)

set_option maxHeartbeats 2000000 in
/-- The value claim. -/
theorem value : @Cert.algebraic_MixFIdeal_MixFRefIdeal Cert.MixFIdeal.Gen.facts Cert.MixFRefIdeal.Gen.facts := by
  intro m g m' g' _ hm
  refine ⟨fun c => (Cert.MixFIdeal.Gen.dats m 0 c).arrAt 7 (Cert.MixFIdeal.cfgs 0).N, fun c => (Cert.MixFIdeal.Gen.dats m 0 c).arrAt 8 (Cert.MixFIdeal.cfgs 0).N,
    fun c => (Cert.MixFIdeal.Gen.dats m 0 c).arrAt 9 (Cert.MixFIdeal.cfgs 0).N, fun c => (Cert.MixFIdeal.Gen.dats m 0 c).arrAt 10 (Cert.MixFIdeal.cfgs 0).N,
    Cert.MixFIdeal.Value.run_blocks m g, ?_⟩
  refine (θ_run Cert.MixFRefIdeal.defs _ _).mono (fun r h c => ?_) (Cert.MixFRefIdeal.Value.run m' g')
  obtain ⟨h0, h1, h2, h3, hk⟩ := h c
  obtain ⟨e0, e1, e2, e3, e4, e5, e6⟩ := hm c
  rw [val_main_v35_eq, e0, e1, e2, e3, e4, e5, e6] at h0
  rw [val_main_v36_eq, e0, e1, e2, e3, e4] at h1
  rw [val_main_v38_eq, e1, e2] at h2
  rw [val_main_v40_eq, e1, e2, e4] at h3
  exact ⟨h0.trans (Cert.MixFIdeal.Value.final7 m c).symm, h1.trans (Cert.MixFIdeal.Value.final8 m c).symm,
    h2.trans (Cert.MixFIdeal.Value.final9 m c).symm, h3.trans (Cert.MixFIdeal.Value.final10 m c).symm, hk⟩

end Cert.MixFClaim

end
-- ==== Proof.DownRef.lean ====
/- What the reference of the unit's output product and the norm after it computes, read at an index. -/
module

public import proofs.«01_k».proof.Proof.Gen.DownRefIdeal.Read
public import proofs.«01_k».proof.Proof.MixFRef
public import proofs.«01_k».proof.Proof.Gated

@[expose] public section

set_option maxRecDepth 16384

noncomputable section

namespace Cert.DownRefIdeal.At

open Idealize.ShloMosaic Idealize.ShloMosaic.TcCoe
open Cert.DownRefIdeal Cert.DownRefIdeal.Gen Cert.DownRefIdeal.Read Cert.Norm Cert.Gated
open Cert.MixFRefIdeal.At (alpha normed tok)

/-- One half, as the programs write it. -/
abbrev half : EReal := Ideal.ofBits .f32 1056964608#32

/-- The hidden row: the gate's columns through their logistic, times the linear half's columns. -/
def hidden (g u : EReal) : EReal := g * sg g * u

/-- The unit's output, hidden columns chunk by chunk. -/
def down (a : Fin 2816 → EReal) (w : Fin 2816 → Fin 1024 → EReal) (k : Fin 1024) : EReal :=
  ∑ j, a (c0 j) * w (c0 j) k + ∑ j, a (c1 j) * w (c1 j) k + ∑ j, a (c2 j) * w (c2 j) k

/-- The row that is normalised. -/
def joined (x a g : Fin 1024 → EReal) (k : Fin 1024) : EReal := alpha * x k + half * (1 + g k) * a k

variable (x : FVec Ideal S2x2048x1024 .f32) (g u : FVec Ideal S2x2048x2816 .f32) (gt : FVec Ideal S2x1x1024 .f32)
  (w : FVec Ideal S2816x1024 .f32) (lg lb : FVec Ideal S1x1024 .f32) (b : Fin 2) (s : Fin 2048)

/-- The unit's output, and the row that is normalised, of one token. -/
abbrev out : Fin 1024 → EReal := down (fun j => hidden (g (ix3 b s j)) (u (ix3 b s j))) (fun j k => w (ix2 j k))
abbrev row : Fin 1024 → EReal := joined (fun k => x (ix3 b s k)) (out g u w b s) (fun k => gt (ix3 b 0 k))

theorem v1_at (j : Fin 2816) : (val_main_v1 (F := Ideal) g u (ix3 b s j) : EReal) = hidden (g (ix3 b s j)) (u (ix3 b s j)) := by
  unfold val_main_v1 val_main_v0 val_main_call0_v5 val_main_call0_v4 val_main_call0_v3 val_main_call0_v2 val_main_call0_v1 val_main_call0_v0
    val_main_call0_cst val_main_call0_cst_0 hidden sg
  pointwise
  rw [zero_sub]

theorem v2_at (k : Fin 1024) : (val_main_v2 (F := Ideal) g u w (ix3 b s k) : EReal) = out g u w b s k := by
  unfold val_main_v2 out down
  pointwise [v1_at]
  exact sum3 _

theorem v11_at (k : Fin 1024) : (val_main_v11 (F := Ideal) x g u gt w (ix3 b s k) : EReal) = row x g u gt w b s k := by
  unfold val_main_v11 val_main_v10 val_main_v9 val_main_v8 val_main_v7 val_main_v6 val_main_v5 val_main_v4 val_main_v3
    val_main_cst val_main_cst_0 val_main_cst_1 row joined
  pointwise [v2_at]

theorem v17_at (z : Fin 1) : (val_main_v17 (F := Ideal) x g u gt w (ix3 b s z) : EReal) = mean (row x g u gt w b s) := by
  unfold val_main_v17 val_main_v16 val_main_v15 val_main_v14 val_main_cst_2 val_main_cst_3 mean
  pointwise [v11_at]

theorem v19_at (k : Fin 1024) : (val_main_v19 (F := Ideal) x g u gt w (ix3 b s k) : EReal) = ctr (row x g u gt w b s) k := by
  unfold val_main_v19 val_main_v18 ctr
  pointwise [v11_at, v17_at]

theorem v26_at (k : Fin 1024) : (val_main_v26 (F := Ideal) x g u gt w (ix3 b s k) : EReal) = ctr (row x g u gt w b s) k := by
  unfold val_main_v26 val_main_v25 ctr
  pointwise [v11_at, v17_at]

theorem v29_at (z : Fin 1) : (val_main_v29 (F := Ideal) x g u gt w (ix3 b s z) : EReal) = rstd (row x g u gt w b s) := by
  unfold val_main_v29 val_main_v28 val_main_v27 val_main_v24 val_main_v23 val_main_v22 val_main_v21 val_main_v20 val_main_cst_4 val_main_cst_5 val_main_cst_6
    rstd vare mean
  pointwise [v19_at]

theorem v37_at (k : Fin 1024) : (val_main_v37 (F := Ideal) x g u gt w lg lb (ix3 b s k) : EReal)
    = normed (row x g u gt w b s) (fun k => lg (ix2 0 k)) (fun k => lb (ix2 0 k)) k := by
  unfold val_main_v37 val_main_v36 val_main_v35 val_main_v34 val_main_v33 val_main_v32 val_main_v31 val_main_v30 val_main_v13 val_main_v12 normed xhat
  pointwise [v26_at, v29_at]

variable (k : Fin 1024)

/-- The three results. -/
theorem v38_at : (val_main_v38 (F := Ideal) x g u gt w lg lb (ix2 (tok b s) k) : EReal)
    = normed (row x g u gt w b s) (fun k => lg (ix2 0 k)) (fun k => lb (ix2 0 k)) k := by
  rw [← v37_at]
  unfold val_main_v38
  pointwise
  simp only [show (b.val * 2048 + s.val) / 2048 = b.val by omega, show (b.val * 2048 + s.val) % 2048 = s.val by omega]

theorem v39_at : (val_main_v39 (F := Ideal) x g u gt w (ix2 (tok b s) k) : EReal) = row x g u gt w b s k := by
  rw [← v11_at]
  unfold val_main_v39
  pointwise
  simp only [show (b.val * 2048 + s.val) / 2048 = b.val by omega, show (b.val * 2048 + s.val) % 2048 = s.val by omega]

theorem v41_at : (val_main_v41 (F := Ideal) g u w (ix2 (tok b s) k) : EReal) = out g u w b s k := by
  rw [← v2_at]
  unfold val_main_v41 val_main_v40
  pointwise
  simp only [show (b.val * 2048 + s.val) / 2048 = b.val by omega, show (b.val * 2048 + s.val) % 2048 = s.val by omega]

end Cert.DownRefIdeal.At

end
-- ==== Proof.UpRef.lean ====
/- What the reference of the unit's first product computes, read at an index. -/
module

public import proofs.«01_k».proof.Proof.Gen.UpRefIdeal.Read
public import proofs.«01_k».proof.Proof.DownRef

@[expose] public section

set_option maxRecDepth 16384

noncomputable section

namespace Cert.UpRefIdeal.At

open Idealize.ShloMosaic Idealize.ShloMosaic.TcCoe
open Cert.UpRefIdeal Cert.UpRefIdeal.Gen Cert.UpRefIdeal.Read Cert.Gated
open Cert.MixFRefIdeal.At (tok)

/-- The columns of the joint weight array that make the gate, and those that make the linear half. -/
abbrev lo (j : Fin 2816) : Fin 5632 := ⟨j.val, by omega⟩
abbrev hi (j : Fin 2816) : Fin 5632 := ⟨2816 + j.val, by omega⟩

variable (x : FVec Ideal S2x2048x1024 .f32) (sh sc : FVec Ideal S2x1x1024 .f32) (w : FVec Ideal S1024x5632 .f32) (b : Fin 2) (s : Fin 2048)

/-- The modulated input of one token. -/
def modd (k : Fin 1024) : EReal := x (ix3 b s k) * (1 + sc (ix3 b 0 k)) + sh (ix3 b 0 k)

/-- Its product with one column of the joint weight array. -/
def up (j : Fin 5632) : EReal := ∑ k : Fin 1024, modd x sh sc b s k * w (ix2 k j)

/-- The two halves of the product: the gate's columns and the linear half's. -/
def half2 (i : Fin 2) (j : Fin 2816) : EReal := if i = 0 then up x sh sc w b s (lo j) else up x sh sc w b s (hi j)

/-- The hidden columns. -/
abbrev hid (j : Fin 2816) : EReal := DownRefIdeal.At.hidden (up x sh sc w b s (lo j)) (up x sh sc w b s (hi j))

theorem v5_at (k : Fin 1024) : (val_main_v5 (F := Ideal) x sh sc (ix3 b s k) : EReal) = modd x sh sc b s k := by
  unfold val_main_v5 val_main_v4 val_main_v3 val_main_v2 val_main_v1 val_main_v0 val_main_cst modd
  pointwise

theorem v6_at (j : Fin 5632) : (val_main_v6 (F := Ideal) x sh sc w (ix3 b s j) : EReal) = up x sh sc w b s j := by
  unfold val_main_v6 up
  pointwise [v5_at]

theorem v7_at (j : Fin 2816) : (val_main_v7 (F := Ideal) x sh sc w (ix3 b s j) : EReal) = up x sh sc w b s (lo j) := by
  rw [← v6_at]
  unfold val_main_v7
  pointwise

theorem v8_at (j : Fin 2816) : (val_main_v8 (F := Ideal) x sh sc w (ix3 b s j) : EReal) = up x sh sc w b s (hi j) := by
  rw [← v6_at]
  unfold val_main_v8
  pointwise

theorem v16_at (j : Fin 2816) : (val_main_v16 (F := Ideal) x sh sc w (ix3 b s j) : EReal) = hid x sh sc w b s j := by
  unfold val_main_v16 val_main_v15 val_main_call0_v5 val_main_call0_v4 val_main_call0_v3 val_main_call0_v2 val_main_call0_v1 val_main_call0_v0
    val_main_call0_cst val_main_call0_cst_0 hid DownRefIdeal.At.hidden sg
  pointwise [v7_at, v8_at]
  rw [zero_sub]

/-- The three results. -/
theorem v14_at (i : Fin 2) (j : Fin 2816) : (val_main_v14 (F := Ideal) x sh sc w (ix3 i (tok b s) j) : EReal) = half2 x sh sc w b s i j := by
  have hs : s.val < 2048 := s.isLt
  have hb : b.val < 2 := b.isLt
  match i with
  | 0 =>
    refine Eq.trans ?_ (v7_at x sh sc w b s j)
    unfold val_main_v14 val_main_v13 val_main_v12 val_main_v11 val_main_v10 val_main_v9
    generalize val_main_v7 (F := Ideal) x sh sc w = X
    generalize val_main_v8 (F := Ideal) x sh sc w = Y
    pointwise
  | 1 =>
    refine Eq.trans ?_ (v8_at x sh sc w b s j)
    unfold val_main_v14 val_main_v13 val_main_v12 val_main_v11 val_main_v10 val_main_v9
    generalize val_main_v7 (F := Ideal) x sh sc w = X
    generalize val_main_v8 (F := Ideal) x sh sc w = Y
    pointwise

theorem v18_at (j : Fin 2816) : (val_main_v18 (F := Ideal) x sh sc w (ix2 (tok b s) j) : EReal) = hid x sh sc w b s j := by
  rw [← v16_at]
  unfold val_main_v18 val_main_v17
  pointwise
  simp only [show (b.val * 2048 + s.val) / 2048 = b.val by omega, show (b.val * 2048 + s.val) % 2048 = s.val by omega]

theorem v20_at (k : Fin 1024) : (val_main_v20 (F := Ideal) x sh sc (ix2 (tok b s) k) : EReal) = modd x sh sc b s k := by
  rw [← v5_at]
  unfold val_main_v20 val_main_v19
  pointwise
  simp only [show (b.val * 2048 + s.val) / 2048 = b.val by omega, show (b.val * 2048 + s.val) % 2048 = s.val by omega]

end Cert.UpRefIdeal.At

end
-- ==== Proof.UpSpec.lean ====
/- What one block of the unit's first product computes, in plain formulas over the arrays it loads. -/
module

public import proofs.«01_k».proof.Proof.Gen.UpIdeal.Value
public import proofs.«01_k».proof.Proof.UpRef

@[expose] public section

set_option maxRecDepth 16384

noncomputable section

namespace Cert.UpSpec

open Idealize.ShloMosaic Idealize.ShloMosaic.TcCoe Cert.UpIdeal Cert.UpIdeal.Gen Cert.Gated

variable (v0 : Vec Ideal S512x1024 .f32) (v2 v8 : Vec Ideal S1x1x1024 .f32) (a b : Vec Ideal S1x1024x1024 .bf16)
  (d e : Vec Ideal S1x768x1024 .bf16) (h : FVec Ideal S512x1024 .bf16) (s : Fin 512)

/-- The modulated input. -/
theorem pay6_at (k : Fin 1024) : (k0_pay6 v0 v2 v8 (ix2 s k) : EReal) = v0 (ix2 s k) * (1 + v2 (ix3 0 0 k)) + v8 (ix3 0 0 k) := by
  unfold k0_pay6
  pointwise

section first

variable (j : Fin 1024)

theorem pay7_at : (k0_pay7 v0 v2 v8 a (ix2 s j) : EReal) = ∑ k : Fin 1024, k0_pay6 v0 v2 v8 (ix2 s k) * a (ix3 0 j k) := by
  unfold k0_pay7
  pointwise

theorem pay8_at : (k0_pay8 v0 v2 v8 b (ix2 s j) : EReal) = ∑ k : Fin 1024, k0_pay6 v0 v2 v8 (ix2 s k) * b (ix3 0 j k) := by
  unfold k0_pay8
  pointwise

theorem pay9_at : (k0_pay9 v0 v2 v8 a (ix3 0 s j) : EReal) = ∑ k : Fin 1024, k0_pay6 v0 v2 v8 (ix2 s k) * a (ix3 0 j k) := by
  unfold k0_pay9
  pointwise [pay7_at]

theorem pay10_at : (k0_pay10 v0 v2 v8 b (ix3 0 s j) : EReal) = ∑ k : Fin 1024, k0_pay6 v0 v2 v8 (ix2 s k) * b (ix3 0 j k) := by
  unfold k0_pay10
  pointwise [pay8_at]

theorem pay12_at : (k0_pay12 (k0_pay7 v0 v2 v8 a) (k0_pay8 v0 v2 v8 b) (k0_pay11 v0 v2 v8 a) (ix2 s j) : EReal)
    = DownRefIdeal.At.hidden (∑ k : Fin 1024, k0_pay6 v0 v2 v8 (ix2 s k) * a (ix3 0 j k)) (∑ k : Fin 1024, k0_pay6 v0 v2 v8 (ix2 s k) * b (ix3 0 j k)) := by
  unfold k0_pay12 k0_pay11 DownRefIdeal.At.hidden sg
  pointwise [pay7_at, pay8_at]

theorem pay13_at : (k0_pay13 h a (ix2 s j) : EReal) = ∑ k : Fin 1024, h (ix2 s k) * a (ix3 0 j k) := by
  unfold k0_pay13
  pointwise

theorem pay14_at : (k0_pay14 h b (ix2 s j) : EReal) = ∑ k : Fin 1024, h (ix2 s k) * b (ix3 0 j k) := by
  unfold k0_pay14
  pointwise

theorem pay15_at : (k0_pay15 h a (ix3 0 s j) : EReal) = ∑ k : Fin 1024, h (ix2 s k) * a (ix3 0 j k) := by
  unfold k0_pay15
  pointwise [pay13_at]

theorem pay16_at : (k0_pay16 h b (ix3 0 s j) : EReal) = ∑ k : Fin 1024, h (ix2 s k) * b (ix3 0 j k) := by
  unfold k0_pay16
  pointwise [pay14_at]

theorem pay17_at : (k0_pay17 h a b (ix2 s j) : EReal)
    = DownRefIdeal.At.hidden (∑ k : Fin 1024, h (ix2 s k) * a (ix3 0 j k)) (∑ k : Fin 1024, h (ix2 s k) * b (ix3 0 j k)) := by
  unfold k0_pay17 DownRefIdeal.At.hidden sg
  pointwise [pay13_at, pay14_at]

end first

section last

variable (j : Fin 768)

theorem pay1_at : (k0_pay1 h d (ix2 s j) : EReal) = ∑ k : Fin 1024, h (ix2 s k) * d (ix3 0 j k) := by
  unfold k0_pay1
  pointwise

theorem pay2_at : (k0_pay2 h e (ix2 s j) : EReal) = ∑ k : Fin 1024, h (ix2 s k) * e (ix3 0 j k) := by
  unfold k0_pay2
  pointwise

theorem pay3_at : (k0_pay3 h d (ix3 0 s j) : EReal) = ∑ k : Fin 1024, h (ix2 s k) * d (ix3 0 j k) := by
  unfold k0_pay3
  pointwise [pay1_at]

theorem pay4_at : (k0_pay4 h e (ix3 0 s j) : EReal) = ∑ k : Fin 1024, h (ix2 s k) * e (ix3 0 j k) := by
  unfold k0_pay4
  pointwise [pay2_at]

theorem pay5_at : (k0_pay5 h d e (ix2 s j) : EReal)
    = DownRefIdeal.At.hidden (∑ k : Fin 1024, h (ix2 s k) * d (ix3 0 j k)) (∑ k : Fin 1024, h (ix2 s k) * e (ix3 0 j k)) := by
  unfold k0_pay5 DownRefIdeal.At.hidden sg
  pointwise [pay1_at, pay2_at]

end last

end Cert.UpSpec

end
-- ==== Proof.UpBlocks.lean ====
/- What the blocks of the kernel of the unit's first product hold at each grid point, and where its results land. -/
module

public import proofs.«01_k».proof.Proof.UpSpec
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.UpIdeal.Value

open Cert.UpIdeal Cert.UpIdeal.Gen Cert.UpRefIdeal.At
open Cert.MixFRefIdeal.At (tok)

variable (m : (ℓ : Loc nD τ sig) → Buf (Elt Ideal) ℓ) (c : Dev nD)

/-- The arguments: the unit's input, shift, scale, and the joint weight array. -/
abbrev X : FVec Ideal S2x2048x1024 .f32 := m ((c : Thread nD τ).loc main_arg0)
abbrev Sh : FVec Ideal S2x1x1024 .f32 := m ((c : Thread nD τ).loc main_arg1)
abbrev Sc : FVec Ideal S2x1x1024 .f32 := m ((c : Thread nD τ).loc main_arg2)
abbrev W : FVec Ideal S1024x5632 .f32 := m ((c : Thread nD τ).loc main_arg3)

section host

variable (b : Fin 2) (s : Fin 2048) (j : Fin 2816) (k : Fin 1024)

theorem v3_in : (V m c main_v3 (ix2 (tok b s) k) : EReal) = X m c (ix3 b s k) := by
  entry_read
  pointwise
  simp only [show (b.val * 2048 + s.val) / 2048 = b.val by omega, show (b.val * 2048 + s.val) % 2048 = s.val by omega]

/-- The weights, transposed and split before the kernel. -/
theorem v2_lo : (V m c main_v2 (ix3 0 j k) : EReal) = W m c (ix2 k (lo j)) := by
  have hj : j.val < 2816 := j.isLt
  entry_read
  pointwise

theorem v2_hi : (V m c main_v2 (ix3 1 j k) : EReal) = W m c (ix2 k (hi j)) := by
  have hj : j.val < 2816 := j.isLt
  entry_read
  pointwise

end host

variable (t : Fin cfg0.N) (s : Fin 512) (j : Fin 2816) (k : Fin 1024)

theorem idx : ∀ t : Fin cfg0.N, win0_0.index t = ![t.val, 0] ∧ win0_1.index t = ![t.val / 4, 0, 0]
    ∧ win0_2.index t = ![t.val / 4, 0, 0] ∧ win0_3.index t = ![0, 0, 0]
    ∧ win0_4.index t = ![0, t.val, 0] ∧ win0_5.index t = ![t.val, 0] ∧ win0_6.index t = ![t.val, 0] :=
  (by decide +kernel : ∀ t : Fin grid0.N, _)

/-- The token a row of a grid point's block stands for. -/
abbrev tokOf (t : Fin cfg0.N) (s : Fin 512) : Fin 4096 :=
  ⟨t.val * 512 + s.val, by have := lt_of_lt_of_eq t.isLt N_0; omega⟩

/-- The sequence a grid point works on. -/
abbrev seqOf (t : Fin cfg0.N) : Fin 2 := ⟨t.val / 4, by have := lt_of_lt_of_eq t.isLt N_0; omega⟩

/-- The place of a row in its sequence. -/
abbrev pos (t : Fin cfg0.N) (s : Fin 512) : Fin 2048 := ⟨t.val % 4 * 512 + s.val, by omega⟩

theorem tokOf_eq : tokOf t s = tok (seqOf t) (pos t s) := Fin.ext (by show t.val * 512 + s.val = t.val / 4 * 2048 + (t.val % 4 * 512 + s.val); omega)

theorem blk0 : (iblk m c 0 t (ix2 s k) : EReal) = X m c (ix3 (seqOf t) (pos t s) k) := by
  rw [← v3_in, ← tokOf_eq]
  blk_point [iblk, idx t]

theorem blk1 : (iblk m c 1 t (ix3 0 0 k) : EReal) = Sh m c (ix3 (seqOf t) 0 k) := by
  blk_point [iblk, V, idx t]

theorem blk2 : (iblk m c 2 t (ix3 0 0 k) : EReal) = Sc m c (ix3 (seqOf t) 0 k) := by
  blk_point [iblk, V, idx t]

theorem blk3_lo : (iblk m c 3 t (ix3 0 j k) : EReal) = W m c (ix2 k (lo j)) := by
  rw [← v2_lo]
  blk_point [iblk, idx t]

theorem blk3_hi : (iblk m c 3 t (ix3 1 j k) : EReal) = W m c (ix2 k (hi j)) := by
  rw [← v2_hi]
  blk_point [iblk, idx t]

theorem emb4 (i : Fin 2) : ((cfg0.win 4).blk t).view.emb (ix3 i s j) = ix3 i (tok (seqOf t) (pos t s)) j := by
  rw [← tokOf_eq]
  funext a
  apply Fin.ext
  match a with
  | ⟨0, _⟩ => blk_simp [idx t]
  | ⟨1, _⟩ => blk_simp [idx t]
  | ⟨2, _⟩ => blk_simp [idx t]

theorem emb5 : ((cfg0.win 5).blk t).view.emb (ix2 s j) = ix2 (tok (seqOf t) (pos t s)) j := by
  rw [← tokOf_eq]
  funext a
  apply Fin.ext
  match a with
  | ⟨0, _⟩ => blk_simp [idx t]
  | ⟨1, _⟩ => blk_simp [idx t]

theorem emb6 : ((cfg0.win 6).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

end Cert.UpIdeal.Value

end
-- ==== Proof.UpValue.lean ====
/- What the results of the unit's first product hold after the kernel, in the terms of the reference. -/
module

public import proofs.«01_k».proof.Proof.UpBlocks

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen Cert.UpRefIdeal.At Cert.UpRefIdeal.Read Cert.UpSpec Cert.Gated
open Cert.MixFRefIdeal.At (tok)

variable (m : (ℓ : Loc nD τ sig) → Buf (Elt Ideal) ℓ) (c : Dev nD)

section point

variable (t : Fin cfg0.N) (s : Fin 512)

/-- The block's modulated input, and the products of a token of the block. -/
abbrev H : FVec Ideal S512x1024 .bf16 := k0_pay6 (iblk m c 0 t) (iblk m c 2 t) (iblk m c 1 t)
abbrev Prod (j : Fin 5632) : EReal := up (X m c) (Sh m c) (Sc m c) (W m c) (seqOf t) (pos t s) j

theorem mod_block (k : Fin 1024) : (H m c t (ix2 s k) : EReal) = modd (X m c) (Sh m c) (Sc m c) (seqOf t) (pos t s) k := by
  refine (pay6_at _ _ _ s k).trans ?_
  rw [blk0, blk1, blk2]
  rfl

theorem up_lo (v : Fin 1024 → EReal) (j : Fin 2816) (hv : ∀ x, v x = iblk m c 3 t (ix3 0 j x)) :
    ∑ x : Fin 1024, H m c t (ix2 s x) * v x = Prod m c t s (lo j) :=
  Finset.sum_congr rfl fun x _ => congrArg₂ (· * ·) (mod_block m c t s x) ((hv x).trans (blk3_lo m c t j x))

theorem up_hi (v : Fin 1024 → EReal) (j : Fin 2816) (hv : ∀ x, v x = iblk m c 3 t (ix3 1 j x)) :
    ∑ x : Fin 1024, H m c t (ix2 s x) * v x = Prod m c t s (hi j) :=
  Finset.sum_congr rfl fun x _ => congrArg₂ (· * ·) (mod_block m c t s x) ((hv x).trans (blk3_hi m c t j x))

theorem hid_block (g u : EReal) (j : Fin 2816) (hg : g = Prod m c t s (lo j)) (hu : u = Prod m c t s (hi j)) :
    Cert.DownRefIdeal.At.hidden g u = hid (X m c) (Sh m c) (Sc m c) (W m c) (seqOf t) (pos t s) j := by
  rw [hg, hu]

theorem out4 (i : Fin 2) (j : Fin 2816) : ((outsAt0 m c t).1 (ix3 i s j) : EReal)
    = half2 (X m c) (Sh m c) (Sc m c) (W m c) (seqOf t) (pos t s) i j := by
  unfold outsAt0
  frame_out
  canon_tiles x h using (View.cover_of_tiledBy (s := S2x512x2816) _ ![1,512,256] (by sl_kernel_rfl) _)
  all_goals
    obtain ⟨z, r, k, rfl⟩ : ∃ z r k, x = ix3 z r k := ⟨_, _, _, ValueIdx.eq_ix3 x⟩
    obtain rfl : s = r := Fin.ext h1
    obtain rfl : z = 0 := Subsingleton.elim _ _
  case piece0 =>
    obtain rfl : i = 1 := Fin.ext h0
    obtain rfl : j = c2 k := Fin.ext h2
    refine (pay4_at _ _ s k).trans (up_hi m c t s _ _ fun x => ?_)
    exact View.ld_unit_apply_of _ _ _ _ _ _ (by intro d; fin_cases d <;> simp)
  case piece1 =>
    obtain rfl : i = 0 := Fin.ext h0
    obtain rfl : j = c2 k := Fin.ext h2
    refine (pay3_at _ _ s k).trans (up_lo m c t s _ _ fun x => ?_)
    exact View.ld_unit_apply_of _ _ _ _ _ _ (by intro d; fin_cases d <;> simp)
  case piece2 =>
    obtain rfl : i = 1 := Fin.ext h0
    obtain rfl : j = c1 k := Fin.ext h2
    refine (pay16_at _ _ s k).trans (up_hi m c t s _ _ fun x => ?_)
    exact View.ld_unit_apply_of _ _ _ _ _ _ (by intro d; fin_cases d <;> simp)
  case piece3 =>
    obtain rfl : i = 0 := Fin.ext h0
    obtain rfl : j = c1 k := Fin.ext h2
    refine (pay15_at _ _ s k).trans (up_lo m c t s _ _ fun x => ?_)
    exact View.ld_unit_apply_of _ _ _ _ _ _ (by intro d; fin_cases d <;> simp)
  case piece4 =>
    obtain rfl : i = 1 := Fin.ext h0
    obtain rfl : j = c0 k := Fin.ext h2
    refine (pay10_at _ _ _ _ s k).trans (up_hi m c t s _ _ fun x => ?_)
    exact View.ld_unit_apply_of _ _ _ _ _ _ (by intro d; fin_cases d <;> simp)
  case piece5 =>
    obtain rfl : i = 0 := Fin.ext h0
    obtain rfl : j = c0 k := Fin.ext h2
    refine (pay9_at _ _ _ _ s k).trans (up_lo m c t s _ _ fun x => ?_)
    exact View.ld_unit_apply_of _ _ _ _ _ _ (by intro d; fin_cases d <;> simp)

theorem out5 (j : Fin 2816) : ((outsAt0 m c t).2.1 (ix2 s j) : EReal)
    = hid (X m c) (Sh m c) (Sc m c) (W m c) (seqOf t) (pos t s) j := by
  unfold outsAt0
  frame_out
  canon_tiles x h using (View.cover_of_tiledBy (s := S512x2816) _ ![512,256] (by sl_kernel_rfl) _)
  all_goals
    obtain ⟨r, k, rfl⟩ : ∃ r k, x = ix2 r k := ⟨_, _, ValueIdx.eq_ix2 x⟩
    obtain rfl : s = r := Fin.ext h0
  case piece0 =>
    obtain rfl : j = c2 k := Fin.ext h1
    refine (pay5_at _ _ _ s k).trans (hid_block m c t s _ _ _ (up_lo m c t s _ _ fun x => ?_) (up_hi m c t s _ _ fun x => ?_))
    all_goals exact View.ld_unit_apply_of _ _ _ _ _ _ (by intro d; fin_cases d <;> simp)
  case piece1 =>
    obtain rfl : j = c1 k := Fin.ext h1
    refine (pay17_at _ _ _ s k).trans (hid_block m c t s _ _ _ (up_lo m c t s _ _ fun x => ?_) (up_hi m c t s _ _ fun x => ?_))
    all_goals exact View.ld_unit_apply_of _ _ _ _ _ _ (by intro d; fin_cases d <;> simp)
  case piece2 =>
    obtain rfl : j = c0 k := Fin.ext h1
    refine (pay12_at _ _ _ _ _ s k).trans (hid_block m c t s _ _ _ (up_lo m c t s _ _ fun x => ?_) (up_hi m c t s _ _ fun x => ?_))
    all_goals exact View.ld_unit_apply_of _ _ _ _ _ _ (by intro d; fin_cases d <;> simp)

theorem out6 (k : Fin 1024) : ((outsAt0 m c t).2.2 (ix2 s k) : EReal) = modd (X m c) (Sh m c) (Sc m c) (seqOf t) (pos t s) k := by
  unfold outsAt0
  frame_out
  exact mod_block m c t s k

end point

/-- The hidden columns before the gate, whole. -/
theorem final4 : (dats m 0 c).arrAt 4 (cfgs 0).N = val_main_v14 (F := Ideal) (X m c) (Sh m c) (Sc m c) (W m c) := by
  refine (dats m 0 c).arrAt_eq_of_covers 4 _ (by decide +kernel) fun t hf y => ?_
  blk_simp
  rw [after0_4, ValueIdx.eq_ix3 y]
  exact (out4 m c t _ _ _).trans ((v14_at ..).symm.trans (congrArg _ (emb4 t _ _ _).symm))

/-- The hidden columns after it, whole. -/
theorem final5 : (dats m 0 c).arrAt 5 (cfgs 0).N = val_main_v18 (F := Ideal) (X m c) (Sh m c) (Sc m c) (W m c) := by
  refine (dats m 0 c).arrAt_eq_of_covers 5 _ (by decide +kernel) fun t hf y => ?_
  blk_simp
  rw [after0_5, ValueIdx.eq_ix2 y]
  exact (out5 m c t _ _).trans ((v18_at ..).symm.trans (congrArg _ (emb5 t _ _).symm))

/-- The modulated input, whole. -/
theorem final6 : (dats m 0 c).arrAt 6 (cfgs 0).N = val_main_v20 (F := Ideal) (X m c) (Sh m c) (Sc m c) := by
  refine (dats m 0 c).arrAt_eq_of_covers 6 _ (by decide +kernel) fun t hf y => ?_
  blk_simp
  rw [after0_6, ValueIdx.eq_ix2 y]
  exact (out6 m c t _ _).trans ((v20_at ..).symm.trans (congrArg _ (emb6 t _ _).symm))

end Cert.UpIdeal.Value

end
-- ==== Proof.UpClaim.lean ====
/- The unit's first product: kernel and reference leave the same three arrays. -/
module

public import proofs.«01_k».proof.Defs
public import proofs.«01_k».proof.Proof.Gen.UpRefIdeal.Run
public import proofs.«01_k».proof.Proof.UpValue

@[expose] public section

noncomputable section

open Idealize.ShloMosaic Idealize.SL.Sem

namespace Cert.UpClaim

open Cert.UpRefIdeal.Read

/-- The reference ends, leaves its arguments alone and has no counters. -/
theorem frame_ref : @Cert.quiescent_UpRefIdeal Cert.UpRefIdeal.Gen.facts := fun m ρ _ =>
  (θ_run Cert.UpRefIdeal.defs _ _).mono (fun r h => ⟨fun c => (h c).2.2.2, sem_eq_zero_of_no_sems (by decide) r.2⟩)
    (Cert.UpRefIdeal.Value.run (F := Ideal) m ρ)

set_option maxHeartbeats 2000000 in
/-- The value claim. -/
theorem value : @Cert.algebraic_UpIdeal_UpRefIdeal Cert.UpIdeal.Gen.facts Cert.UpRefIdeal.Gen.facts := by
  intro m g m' g' _ hm
  refine ⟨fun c => (Cert.UpIdeal.Gen.dats m 0 c).arrAt 4 (Cert.UpIdeal.cfgs 0).N, fun c => (Cert.UpIdeal.Gen.dats m 0 c).arrAt 5 (Cert.UpIdeal.cfgs 0).N,
    fun c => (Cert.UpIdeal.Gen.dats m 0 c).arrAt 6 (Cert.UpIdeal.cfgs 0).N, Cert.UpIdeal.Value.run_blocks m g, ?_⟩
  refine (θ_run Cert.UpRefIdeal.defs _ _).mono (fun r h c => ?_) (Cert.UpRefIdeal.Value.run m' g')
  obtain ⟨h0, h1, h2, hk⟩ := h c
  obtain ⟨e0, e1, e2, e3⟩ := hm c
  rw [val_main_v14_eq, e0, e1, e2, e3] at h0
  rw [val_main_v18_eq, e0, e1, e2, e3] at h1
  rw [val_main_v20_eq, e0, e1, e2] at h2
  exact ⟨h0.trans (Cert.UpIdeal.Value.final4 m c).symm, h1.trans (Cert.UpIdeal.Value.final5 m c).symm,
    h2.trans (Cert.UpIdeal.Value.final6 m c).symm, hk⟩

end Cert.UpClaim

end
-- ==== Proof.TapFSpec.lean ====
/- What one block of the gated convolution computes, read at a row and a column of the block. -/
module

public import proofs.«01_k».proof.Proof.Gen.TapFIdeal.Value
public import proofs.«01_k».proof.Proof.Taps
public import proofs.«01_k».proof.Proof.Tools
public import Idealize.ShloMosaic.Lib.Pointwise

@[expose] public section

set_option maxRecDepth 16384

noncomputable section

open Idealize.ShloMosaic Idealize.ShloMosaic.TcCoe Idealize.SL.Sem

namespace Cert.TapFSpec

open Cert.TapFIdeal Cert.TapFIdeal.Gen Cert.ConvSpec Cert.Tools

variable (u bg cg : Vec Ideal S2048x128 .bf16) (w : Vec Ideal S3x128 .f32) (s : Fin 2048) (l : Fin 128)

theorem pay1_at : (k0_pay1 cg u (View.ld w r0_1) (View.ld w r0_2) (View.ld w r0_3) bg (ix2 s l) : EReal)
    = bg (ix2 s l) * back (fun i => w (ix2 i l)) (fun k => cg (ix2 k l) * u (ix2 k l)) s.val := by
  have hs : s.val < 2048 := s.isLt
  unfold k0_pay1
  pointwise
  rw [select_sge _ 1 (by omega) (by omega), select_sge _ 2 (by omega) (by omega)]
  unfold back
  rw [col_val]
  congr 1
  congr 1
  · congr 2
    unfold col
    split_ifs with h1 h2
    · simp only [show (s.val + 2048 - 1) % 2048 = s.val - 1 by omega]
    · omega
    · exact (mul_zero _).symm
  · congr 1
    unfold col
    split_ifs with h1 h2
    · simp only [show (s.val + 2048 - 2) % 2048 = s.val - 2 by omega]
    · omega
    · exact (mul_zero _).symm

end Cert.TapFSpec

end
-- ==== Proof.TapFRef.lean ====
/- What the reference of the gated convolution computes, read at an index: the same sums of products, over the argument
   arrays. -/
module

public import proofs.«01_k».proof.Proof.Gen.TapFRefIdeal.Read
public import proofs.«01_k».proof.Proof.Taps
public import Idealize.ShloMosaic.Lib.Pointwise

@[expose] public section

set_option maxRecDepth 16384

noncomputable section

open Idealize.ShloMosaic Idealize.ShloMosaic.TcCoe Idealize.SL.Sem

namespace Cert.TapFRefIdeal.At

open Cert.TapFRefIdeal Cert.TapFRefIdeal.Gen Cert.TapFRefIdeal.Read Cert.ConvSpec

variable (u g q : FVec Ideal S2x2048x512 .f32) (w : FVec Ideal S3x512 .f32) (b : Fin 2) (s : Fin 2048) (l : Fin 512)

/-- The product that is convolved, after two zeros: read two tokens back, one token back, and in place. -/
theorem v5_at : (val_main_v5 (F := Ideal) u q (ix3 b s l) : EReal)
      = if 2 ≤ s.val then col (fun k => q (ix3 b k l) * u (ix3 b k l)) (s.val - 2) else 0 := by
  have hs : s.val < 2048 := s.isLt
  unfold val_main_v5 val_main_v2 val_main_v0 val_main_v1 val_main_cst
  pointwise
  unfold col
  by_cases h : s.val < 2
  · simp [h, show ¬ 2 ≤ s.val by omega]
  · simp [h, show 2 ≤ s.val by omega, show s.val - 2 < 2048 by omega]

theorem v11_at : (val_main_v11 (F := Ideal) u q (ix3 b s l) : EReal)
      = if 1 ≤ s.val then col (fun k => q (ix3 b k l) * u (ix3 b k l)) (s.val - 1) else 0 := by
  have hs : s.val < 2048 := s.isLt
  unfold val_main_v11 val_main_v2 val_main_v0 val_main_v1 val_main_cst
  pointwise
  unfold col
  by_cases h : s.val < 1
  · simp [show 1 + s.val < 2 by omega, show ¬ 1 ≤ s.val by omega]
  · simp [show ¬ 1 + s.val < 2 by omega, show 1 ≤ s.val by omega, show s.val - 1 < 2048 by omega, show 1 + s.val - 2 = s.val - 1 by omega]

theorem v18_at : (val_main_v18 (F := Ideal) u q (ix3 b s l) : EReal)
      = col (fun k => q (ix3 b k l) * u (ix3 b k l)) s.val := by
  rw [col_val]
  unfold val_main_v18 val_main_v2 val_main_v0 val_main_v1 val_main_cst
  pointwise

theorem v22_at : (val_main_v22 (F := Ideal) u q w (ix3 b s l) : EReal)
      = back (fun i => w (ix2 i l)) (fun k => q (ix3 b k l) * u (ix3 b k l)) s.val := by
  unfold val_main_v22 val_main_v21 val_main_v20 val_main_v19 val_main_v17 val_main_v16 val_main_v15 val_main_v14 val_main_v13 val_main_v12 val_main_v10 val_main_v9 val_main_v8 val_main_v7 val_main_v6 val_main_v4 val_main_v3
  pointwise
  rw [v5_at, v11_at, v18_at]
  unfold back
  rw [add_comm, add_comm (w (ix2 0 l) * _), add_assoc]

/-- A row of the array of all tokens: the sequence and the place in it. -/
abbrev tok (b : Fin 2) (s : Fin 2048) : Fin 4096 := ⟨b.val * 2048 + s.val, by omega⟩

/-- The result. -/
theorem v25_at : (val_main_v25 (F := Ideal) u g q w (ix2 (tok b s) l) : EReal)
      = g (ix3 b s l) * back (fun i => w (ix2 i l)) (fun k => q (ix3 b k l) * u (ix3 b k l)) s.val := by
  rw [← v22_at]
  unfold val_main_v25 val_main_v24 val_main_v23
  pointwise
  simp only [show (b.val * 2048 + s.val) / 2048 = b.val by omega, show (b.val * 2048 + s.val) % 2048 = s.val by omega]

end Cert.TapFRefIdeal.At

end
-- ==== Proof.TapFValue.lean ====
/- What the result of the gated convolution holds after the kernel, in the terms of the reference. -/
module

public import proofs.«01_k».proof.Proof.TapFSpec
public import proofs.«01_k».proof.Proof.TapFRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TapFIdeal.Value

open Cert.TapFIdeal Cert.TapFIdeal.Gen Cert.TapFSpec Cert.ConvSpec Cert.TapFRefIdeal.At Cert.TapFRefIdeal.Read

variable (m : (ℓ : Loc nD τ sig) → Buf (Elt Ideal) ℓ) (c : Dev nD)

/-- The arguments: the input, the gate after the convolution, the gate before it, and the taps. -/
abbrev U : FVec Ideal S2x2048x512 .f32 := m ((c : Thread nD τ).loc main_arg0)
abbrev Bg : FVec Ideal S2x2048x512 .f32 := m ((c : Thread nD τ).loc main_arg1)
abbrev Cg : FVec Ideal S2x2048x512 .f32 := m ((c : Thread nD τ).loc main_arg2)
abbrev W : FVec Ideal S3x512 .f32 := m ((c : Thread nD τ).loc main_arg3)

section host

variable (b : Fin 2) (s : Fin 2048) (k : Fin 512)

theorem v1_in : (V m c main_v1 (ix2 (tok b s) k) : EReal) = U m c (ix3 b s k) := by
  entry_read
  pointwise
  simp only [show (b.val * 2048 + s.val) / 2048 = b.val by omega, show (b.val * 2048 + s.val) % 2048 = s.val by omega]

theorem v3_in : (V m c main_v3 (ix2 (tok b s) k) : EReal) = Bg m c (ix3 b s k) := by
  entry_read
  pointwise
  simp only [show (b.val * 2048 + s.val) / 2048 = b.val by omega, show (b.val * 2048 + s.val) % 2048 = s.val by omega]

theorem v5_in : (V m c main_v5 (ix2 (tok b s) k) : EReal) = Cg m c (ix3 b s k) := by
  entry_read
  pointwise
  simp only [show (b.val * 2048 + s.val) / 2048 = b.val by omega, show (b.val * 2048 + s.val) % 2048 = s.val by omega]

end host

variable (t : Fin cfg0.N) (s : Fin 2048) (l : Fin 128)

theorem idx : ∀ t : Fin cfg0.N, win0_0.index t = ![t.val % 2, t.val / 2] ∧ win0_1.index t = ![t.val % 2, t.val / 2]
    ∧ win0_2.index t = ![t.val % 2, t.val / 2] ∧ win0_3.index t = ![0, t.val / 2] ∧ win0_4.index t = ![t.val % 2, t.val / 2] :=
  (by decide +kernel : ∀ t : Fin grid0.N, _)

/-- The sequence a grid point works on. -/
abbrev seqOf (t : Fin cfg0.N) : Fin 2 := ⟨t.val % 2, Nat.mod_lt _ (by decide)⟩

/-- The column of the array a lane of a grid point's block stands for. -/
abbrev colOf (t : Fin cfg0.N) (l : Fin 128) : Fin 512 :=
  ⟨t.val / 2 * 128 + l.val, by have := lt_of_lt_of_eq t.isLt N_0; omega⟩

theorem blk0 : (iblk m c 0 t (ix2 s l) : EReal) = U m c (ix3 (seqOf t) s (colOf t l)) := by
  rw [← v1_in]; blk_point [iblk, idx t]

theorem blk1 : (iblk m c 1 t (ix2 s l) : EReal) = Bg m c (ix3 (seqOf t) s (colOf t l)) := by
  rw [← v3_in]; blk_point [iblk, idx t]

theorem blk2 : (iblk m c 2 t (ix2 s l) : EReal) = Cg m c (ix3 (seqOf t) s (colOf t l)) := by
  rw [← v5_in]; blk_point [iblk, idx t]

theorem blk3 (i : Fin 3) : (iblk m c 3 t (ix2 i l) : EReal) = W m c (ix2 i (colOf t l)) := by
  blk_point [iblk, V, idx t]

/-- The place in the whole array of a place in a block of the result. -/
theorem emb4 : ((cfg0.win 4).blk t).view.emb (ix2 s l) = ix2 (tok (seqOf t) s) (colOf t l) := by
  funext a
  apply Fin.ext
  match a with
  | ⟨0, _⟩ => blk_simp [idx t]
  | ⟨1, _⟩ => blk_simp [idx t]

theorem out4 : (out0_4 (iblk m c 0 t) (iblk m c 1 t) (iblk m c 2 t) (iblk m c 3 t) (ix2 s l) : EReal)
    = val_main_v25 (F := Ideal) (U m c) (Bg m c) (Cg m c) (W m c) (ix2 (tok (seqOf t) s) (colOf t l)) := by
  rw [v25_at]
  frame_out
  refine (pay1_at _ _ _ _ s l).trans ?_
  simp only [blk0, blk1, blk2, blk3]

/-- The result, whole. -/
theorem final4 : (dats m 0 c).arrAt 4 (cfgs 0).N = val_main_v25 (F := Ideal) (U m c) (Bg m c) (Cg m c) (W m c) := by
  refine (dats m 0 c).arrAt_eq_of_covers 4 _ (by decide +kernel) fun t hf y => ?_
  blk_simp
  rw [after0_4, ValueIdx.eq_ix2 y]
  exact (out4 m c t _ _).trans (congrArg _ (emb4 t _ _).symm)

end Cert.TapFIdeal.Value

end
-- ==== Proof.TapFClaim.lean ====
/- The gated convolution: kernel and reference leave the same array. -/
module

public import proofs.«01_k».proof.Defs
public import proofs.«01_k».proof.Proof.Gen.TapFRefIdeal.Run
public import proofs.«01_k».proof.Proof.TapFValue

@[expose] public section

noncomputable section

open Idealize.ShloMosaic Idealize.SL.Sem

namespace Cert.TapFClaim

open Cert.TapFRefIdeal.Read

/-- The reference ends, leaves its arguments alone and has no counters. -/
theorem frame_ref : @Cert.quiescent_TapFRefIdeal Cert.TapFRefIdeal.Gen.facts := fun m ρ _ =>
  (θ_run Cert.TapFRefIdeal.defs _ _).mono (fun r h => ⟨fun c => (h c).2, sem_eq_zero_of_no_sems (by decide) r.2⟩)
    (Cert.TapFRefIdeal.Value.run (F := Ideal) m ρ)

/-- The value claim. -/
theorem value : @Cert.algebraic_TapFIdeal_TapFRefIdeal Cert.TapFIdeal.Gen.facts Cert.TapFRefIdeal.Gen.facts := by
  intro m g m' g' _ hm
  refine ⟨fun c => (Cert.TapFIdeal.Gen.dats m 0 c).arrAt 4 (Cert.TapFIdeal.cfgs 0).N, Cert.TapFIdeal.Value.run_blocks m g, ?_⟩
  refine (θ_run Cert.TapFRefIdeal.defs _ _).mono (fun r h c => ?_) (Cert.TapFRefIdeal.Value.run m' g')
  obtain ⟨h0, hk⟩ := h c
  obtain ⟨e0, e1, e2, e3⟩ := hm c
  have f0 := Cert.TapFIdeal.Value.final4 m c
  rw [val_main_v25_eq] at h0
  rw [e0, e1, e2, e3] at h0
  exact ⟨h0.trans f0.symm, hk⟩

end Cert.TapFClaim

end
-- ==== Proof.DownSpec.lean ====
/- What one block of the unit's output product and the norm after it computes, in plain formulas over the arrays it loads. -/
module

public import proofs.«01_k».proof.Proof.Gen.DownIdeal.Value
public import proofs.«01_k».proof.Proof.DownRef

@[expose] public section

set_option maxRecDepth 16384

noncomputable section

namespace Cert.DownSpec

open Idealize.ShloMosaic Idealize.ShloMosaic.TcCoe Cert.DownIdeal Cert.DownIdeal.Gen Cert.DownRefIdeal.At Cert.Norm Cert.Gated
open Cert.MixFRefIdeal.At (alpha normed tok)

section payload

variable (P : FVec Ideal S512x1024 .f32) (x : Vec Ideal S512x1024 .f32) (g : Vec Ideal S1x1x1024 .f32) (lg lb : Vec Ideal S1x1024 .f32)
  (s : Fin 512) (k : Fin 1024)

/-- The row that is normalised, from the product. -/
abbrev prow : Fin 1024 → EReal := joined (fun k => x (ix2 s k)) (fun k => P (ix2 s k)) (fun k => g (ix3 0 0 k))

theorem pay1_at : (k0_pay1 P (k0_pay5 x) (k0_pay6 g) (ix2 s k) : EReal) = prow P x g s k := by
  unfold k0_pay1 k0_pay5 k0_pay6 prow joined
  pointwise

theorem pay2_at : (k0_pay2 P (k0_pay5 x) (k0_pay6 g) lg lb (ix2 s k) : EReal)
    = normed (prow P x g s) (fun k => lg (ix2 0 k)) (fun k => lb (ix2 0 k)) k := by
  unfold k0_pay2 normed xhat rstd vare mean ctr mean
  pointwise [pay1_at]

end payload

variable (x : Vec Ideal S512x1024 .f32) (a : Vec Ideal S512x2816 .bf16) (g : Vec Ideal S1x1x1024 .f32) (w : Vec Ideal S2816x1024 .bf16)
  (lg lb : Vec Ideal S1x1024 .f32) (s : Fin 512) (k : Fin 1024)

/-- The unit's output, of one row of the block. -/
abbrev bout : Fin 1024 → EReal := down (fun j => a (ix2 s j)) (fun j k => w (ix2 j k))

theorem pay3_at : (k0_pay3 (View.ld a r0_0) (View.ld w r0_1) (View.ld a r0_2) (View.ld w r0_3) (View.ld a r0_4) (View.ld w r0_5) (ix2 s k) : EReal)
    = bout a w s k := by
  unfold k0_pay3 bout down
  pointwise

theorem pay4_at : (k0_pay4 (View.ld a r0_0) (View.ld w r0_1) (View.ld a r0_2) (View.ld w r0_3) (View.ld a r0_4) (View.ld w r0_5) (ix2 s k) : EReal)
    = bout a w s k := by
  unfold k0_pay4
  pointwise [pay3_at]

theorem pay7_at : (k0_pay7 x a g w lg lb (ix2 s k) : EReal) = bout a w s k := pay3_at a w s k

end Cert.DownSpec

end
-- ==== Proof.DownBlocks.lean ====
/- What the blocks of the kernel of the unit's output product hold at each grid point, and where its results land. -/
module

public import proofs.«01_k».proof.Proof.DownSpec
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.DownIdeal.Value

open Cert.DownIdeal Cert.DownIdeal.Gen Cert.DownRefIdeal.At Cert.Gated
open Cert.MixFRefIdeal.At (tok)

variable (m : (ℓ : Loc nD τ sig) → Buf (Elt Ideal) ℓ) (c : Dev nD)

/-- The arguments: the block's input, the hidden columns of the gate and of the linear half, the gate of the block, the weights, gain and bias. -/
abbrev X : FVec Ideal S2x2048x1024 .f32 := m ((c : Thread nD τ).loc main_arg0)
abbrev Gh : FVec Ideal S2x2048x2816 .f32 := m ((c : Thread nD τ).loc main_arg1)
abbrev Uh : FVec Ideal S2x2048x2816 .f32 := m ((c : Thread nD τ).loc main_arg2)
abbrev Gt : FVec Ideal S2x1x1024 .f32 := m ((c : Thread nD τ).loc main_arg3)
abbrev Wd : FVec Ideal S2816x1024 .f32 := m ((c : Thread nD τ).loc main_arg4)
abbrev Lg : FVec Ideal S1x1024 .f32 := m ((c : Thread nD τ).loc main_arg5)
abbrev Lb : FVec Ideal S1x1024 .f32 := m ((c : Thread nD τ).loc main_arg6)

section host

variable (b : Fin 2) (s : Fin 2048)

theorem v4_in (k : Fin 1024) : (V m c main_v4 (ix2 (tok b s) k) : EReal) = X m c (ix3 b s k) := by
  simp only [V, hostOps0, hostOps0_1, List.flatten_cons, List.flatten_nil, List.append_nil, List.cons_append, List.nil_append]
  entry_read
  pointwise
  simp only [show (b.val * 2048 + s.val) / 2048 = b.val by omega, show (b.val * 2048 + s.val) % 2048 = s.val by omega]

theorem v3_in (j : Fin 2816) : (V m c main_v3 (ix2 (tok b s) j) : EReal)
    = Cert.DownRefIdeal.At.hidden (Gh m c (ix3 b s j)) (Uh m c (ix3 b s j)) := by
  unfold Cert.DownRefIdeal.At.hidden sg
  simp only [V, hostOps0, hostOps0_1, List.flatten_cons, List.flatten_nil, List.append_nil, List.cons_append, List.nil_append]
  entry_read
  simp only [StableHlo.TRef.ofBuf_toBuf, StableHlo.TRef.ofBuf, StableHlo.TRef.toBuf, cast_eq, eq_mpr_eq_cast, eq_mp_eq_cast]
  pointwise
  simp only [show (b.val * 2048 + s.val) / 2048 = b.val by omega, show (b.val * 2048 + s.val) % 2048 = s.val by omega, zero_sub]

theorem v5_in (j : Fin 2816) (k : Fin 1024) : (V m c main_v5 (ix2 j k) : EReal) = Wd m c (ix2 j k) := by
  simp only [V, hostOps0, hostOps0_1, List.flatten_cons, List.flatten_nil, List.append_nil, List.cons_append, List.nil_append]
  entry_read
  pointwise

end host

variable (t : Fin cfg0.N) (s : Fin 512)

theorem idx : ∀ t : Fin cfg0.N, win0_0.index t = ![t.val, 0] ∧ win0_1.index t = ![t.val, 0]
    ∧ win0_2.index t = ![t.val / 4, 0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- The token a row of a grid point's block stands for. -/
abbrev tokOf (t : Fin cfg0.N) (s : Fin 512) : Fin 4096 :=
  ⟨t.val * 512 + s.val, by have := lt_of_lt_of_eq t.isLt N_0; omega⟩

/-- The sequence a grid point works on. -/
abbrev seqOf (t : Fin cfg0.N) : Fin 2 := ⟨t.val / 4, by have := lt_of_lt_of_eq t.isLt N_0; omega⟩

/-- The place of a row in its sequence. -/
abbrev pos (t : Fin cfg0.N) (s : Fin 512) : Fin 2048 := ⟨t.val % 4 * 512 + s.val, by omega⟩

theorem tokOf_eq : tokOf t s = tok (seqOf t) (pos t s) := Fin.ext (by show t.val * 512 + s.val = t.val / 4 * 2048 + (t.val % 4 * 512 + s.val); omega)

theorem blk0 (k : Fin 1024) : (iblk m c 0 t (ix2 s k) : EReal) = X m c (ix3 (seqOf t) (pos t s) k) := by
  rw [← v4_in, ← tokOf_eq]
  blk_point [iblk, idx t]

theorem blk1 (j : Fin 2816) : (iblk m c 1 t (ix2 s j) : EReal) = Cert.DownRefIdeal.At.hidden (Gh m c (ix3 (seqOf t) (pos t s) j)) (Uh m c (ix3 (seqOf t) (pos t s) j)) := by
  rw [← v3_in, ← tokOf_eq]
  blk_point [iblk, idx t]

theorem blk2 (k : Fin 1024) : (iblk m c 2 t (ix3 0 0 k) : EReal) = Gt m c (ix3 (seqOf t) 0 k) := by
  blk_point [iblk, V, idx t]

theorem blk3 (j : Fin 2816) (k : Fin 1024) : (iblk m c 3 t (ix2 j k) : EReal) = Wd m c (ix2 j k) := by
  rw [← v5_in]
  blk_point [iblk, idx t]

theorem blk4 (k : Fin 1024) : (iblk m c 4 t (ix2 0 k) : EReal) = Lg m c (ix2 0 k) := by
  blk_point [iblk, V, idx t]

theorem blk5 (k : Fin 1024) : (iblk m c 5 t (ix2 0 k) : EReal) = Lb m c (ix2 0 k) := by
  blk_point [iblk, V, idx t]

variable (k : Fin 1024)

theorem emb6 : ((cfg0.win 6).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb7 : ((cfg0.win 7).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

theorem emb8 : ((cfg0.win 8).blk t).view.emb (ix2 s k) = ix2 (tok (seqOf t) (pos t s)) k := by
  rw [← tokOf_eq]
  funext a
  apply Fin.ext
  match a with
  | ⟨0, _⟩ => blk_simp [idx t]
  | ⟨1, _⟩ => blk_simp [idx t]

end Cert.DownIdeal.Value

end
-- ==== Proof.DownValue.lean ====
/- What the results of the unit's output product hold after the kernel, in the terms of the reference. -/
module

public import proofs.«01_k».proof.Proof.DownBlocks

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen Cert.DownRefIdeal.At Cert.DownRefIdeal.Read Cert.DownSpec
open Cert.MixFRefIdeal.At (tok)

variable (m : (ℓ : Loc nD τ sig) → Buf (Elt Ideal) ℓ) (c : Dev nD)

section point

variable (t : Fin cfg0.N) (s : Fin 512) (k : Fin 1024)

theorem out_block : bout (iblk m c 1 t) (iblk m c 3 t) s = out (Gh m c) (Uh m c) (Wd m c) (seqOf t) (pos t s) := by
  unfold bout out
  simp only [blk1, blk3]

theorem row_block : prow (k0_pay7 (iblk m c 0 t) (iblk m c 1 t) (iblk m c 2 t) (iblk m c 3 t) (iblk m c 4 t) (iblk m c 5 t))
    (View.ld (iblk m c 0 t) r0_6) (View.ld (iblk m c 2 t) r0_7) s = row (X m c) (Gh m c) (Uh m c) (Gt m c) (Wd m c) (seqOf t) (pos t s) := by
  funext k
  unfold prow row joined
  pointwise [pay7_at, out_block, blk0, blk2]

theorem out6 : (out0_6 (iblk m c 0 t) (iblk m c 1 t) (iblk m c 2 t) (iblk m c 3 t) (iblk m c 4 t) (iblk m c 5 t) (ix2 s k) : EReal)
    = val_main_v38 (F := Ideal) (X m c) (Gh m c) (Uh m c) (Gt m c) (Wd m c) (Lg m c) (Lb m c) (ix2 (tok (seqOf t) (pos t s)) k) := by
  rw [v38_at]
  frame_out
  refine (pay2_at (k0_pay7 (iblk m c 0 t) (iblk m c 1 t) (iblk m c 2 t) (iblk m c 3 t) (iblk m c 4 t) (iblk m c 5 t)) _ _ _ _ s k).trans ?_
  rw [row_block]
  simp only [blk4, blk5]

theorem out7 : (out0_7 (iblk m c 0 t) (iblk m c 1 t) (iblk m c 2 t) (iblk m c 3 t) (iblk m c 4 t) (iblk m c 5 t) (ix2 s k) : EReal)
    = val_main_v39 (F := Ideal) (X m c) (Gh m c) (Uh m c) (Gt m c) (Wd m c) (ix2 (tok (seqOf t) (pos t s)) k) := by
  rw [v39_at]
  frame_out
  refine (pay1_at (k0_pay7 (iblk m c 0 t) (iblk m c 1 t) (iblk m c 2 t) (iblk m c 3 t) (iblk m c 4 t) (iblk m c 5 t)) _ _ s k).trans ?_
  rw [row_block]

theorem out8 : (out0_8 (iblk m c 0 t) (iblk m c 1 t) (iblk m c 2 t) (iblk m c 3 t) (iblk m c 4 t) (iblk m c 5 t) (ix2 s k) : EReal)
    = val_main_v41 (F := Ideal) (Gh m c) (Uh m c) (Wd m c) (ix2 (tok (seqOf t) (pos t s)) k) := by
  rw [v41_at]
  frame_out
  refine (pay4_at _ _ s k).trans ?_
  rw [out_block]

end point

/-- The normalised rows, whole. -/
theorem final6 : (dats m 0 c).arrAt 6 (cfgs 0).N
    = val_main_v38 (F := Ideal) (X m c) (Gh m c) (Uh m c) (Gt m c) (Wd m c) (Lg m c) (Lb m c) := by
  refine (dats m 0 c).arrAt_eq_of_covers 6 _ (by decide +kernel) fun t hf y => ?_
  blk_simp
  rw [after0_6, ValueIdx.eq_ix2 y]
  exact (out6 m c t _ _).trans (congrArg _ (emb6 t _ _).symm)

/-- The rows before the norm, whole. -/
theorem final7 : (dats m 0 c).arrAt 7 (cfgs 0).N
    = val_main_v39 (F := Ideal) (X m c) (Gh m c) (Uh m c) (Gt m c) (Wd m c) := by
  refine (dats m 0 c).arrAt_eq_of_covers 7 _ (by decide +kernel) fun t hf y => ?_
  blk_simp
  rw [after0_7, ValueIdx.eq_ix2 y]
  exact (out7 m c t _ _).trans (congrArg _ (emb7 t _ _).symm)

/-- The unit's output, whole. -/
theorem final8 : (dats m 0 c).arrAt 8 (cfgs 0).N
    = val_main_v41 (F := Ideal) (Gh m c) (Uh m c) (Wd m c) := by
  refine (dats m 0 c).arrAt_eq_of_covers 8 _ (by decide +kernel) fun t hf y => ?_
  blk_simp
  rw [after0_8, ValueIdx.eq_ix2 y]
  exact (out8 m c t _ _).trans (congrArg _ (emb8 t _ _).symm)

end Cert.DownIdeal.Value

end
-- ==== Proof.DownClaim.lean ====
/- The unit's output product and the norm after it: kernel and reference leave the same three arrays. -/
module

public import proofs.«01_k».proof.Defs
public import proofs.«01_k».proof.Proof.Gen.DownRefIdeal.Run
public import proofs.«01_k».proof.Proof.DownValue

@[expose] public section

noncomputable section

open Idealize.ShloMosaic Idealize.SL.Sem

namespace Cert.DownClaim

open Cert.DownRefIdeal.Read

/-- The reference ends, leaves its arguments alone and has no counters. -/
theorem frame_ref : @Cert.quiescent_DownRefIdeal Cert.DownRefIdeal.Gen.facts := fun m ρ _ =>
  (θ_run Cert.DownRefIdeal.defs _ _).mono (fun r h => ⟨fun c => (h c).2.2.2, sem_eq_zero_of_no_sems (by decide) r.2⟩)
    (Cert.DownRefIdeal.Value.run (F := Ideal) m ρ)

set_option maxHeartbeats 2000000 in
/-- The value claim. -/
theorem value : @Cert.algebraic_DownIdeal_DownRefIdeal Cert.DownIdeal.Gen.facts Cert.DownRefIdeal.Gen.facts := by
  intro m g m' g' _ hm
  refine ⟨fun c => (Cert.DownIdeal.Gen.dats m 0 c).arrAt 6 (Cert.DownIdeal.cfgs 0).N, fun c => (Cert.DownIdeal.Gen.dats m 0 c).arrAt 7 (Cert.DownIdeal.cfgs 0).N,
    fun c => (Cert.DownIdeal.Gen.dats m 0 c).arrAt 8 (Cert.DownIdeal.cfgs 0).N, Cert.DownIdeal.Value.run_blocks m g, ?_⟩
  refine (θ_run Cert.DownRefIdeal.defs _ _).mono (fun r h c => ?_) (Cert.DownRefIdeal.Value.run m' g')
  obtain ⟨h0, h1, h2, hk⟩ := h c
  obtain ⟨e0, e1, e2, e3, e4, e5, e6⟩ := hm c
  rw [val_main_v38_eq, e0, e1, e2, e3, e4, e5, e6] at h0
  rw [val_main_v39_eq, e0, e1, e2, e3, e4] at h1
  rw [val_main_v41_eq, e1, e2, e4] at h2
  exact ⟨h0.trans (Cert.DownIdeal.Value.final6 m c).symm, h1.trans (Cert.DownIdeal.Value.final7 m c).symm,
    h2.trans (Cert.DownIdeal.Value.final8 m c).symm, hk⟩

end Cert.DownClaim

end
-- ==== Proof.ProjFRef.lean ====
/- What the reference of the mixer's first product computes, read at an index. -/
module

public import proofs.«01_k».proof.Proof.Gen.ProjFRefIdeal.Read
public import proofs.«01_k».proof.Proof.MixFRef

@[expose] public section

set_option maxRecDepth 16384

noncomputable section

namespace Cert.ProjFRefIdeal.At

open Idealize.ShloMosaic Idealize.ShloMosaic.TcCoe
open Cert.ProjFRefIdeal Cert.ProjFRefIdeal.Gen Cert.ProjFRefIdeal.Read
open Cert.MixFRefIdeal.At (tok)

/-- The columns of the joint weight array: queries, keys, values, the convolution's input and its two gates. -/
abbrev qCol (j : Fin 512) : Fin 2304 := ⟨j.val, by omega⟩
abbrev kCol (j : Fin 128) : Fin 2304 := ⟨512 + j.val, by omega⟩
abbrev vCol (j : Fin 128) : Fin 2304 := ⟨640 + j.val, by omega⟩
abbrev uCol (j : Fin 512) : Fin 2304 := ⟨768 + j.val, by omega⟩
abbrev bCol (j : Fin 512) : Fin 2304 := ⟨1280 + j.val, by omega⟩
abbrev cCol (j : Fin 512) : Fin 2304 := ⟨1792 + j.val, by omega⟩

variable (x : FVec Ideal S2x2048x1024 .f32) (sh sc : FVec Ideal S2x1x1024 .f32) (w : FVec Ideal S1024x2304 .f32) (b : Fin 2) (s : Fin 2048)

/-- The modulated input of one token. -/
def modd (k : Fin 1024) : EReal := x (ix3 b s k) * (1 + sc (ix3 b 0 k)) + sh (ix3 b 0 k)

/-- Its product with one column of the joint weight array. -/
def prod (j : Fin 2304) : EReal := ∑ k : Fin 1024, modd x sh sc b s k * w (ix2 k j)

theorem v5_at (k : Fin 1024) : (val_main_v5 (F := Ideal) x sh sc (ix3 b s k) : EReal) = modd x sh sc b s k := by
  unfold val_main_v5 val_main_v4 val_main_v3 val_main_v2 val_main_v1 val_main_v0 val_main_cst modd
  pointwise

theorem v6_at (j : Fin 2304) : (val_main_v6 (F := Ideal) x sh sc w (ix3 b s j) : EReal) = prod x sh sc w b s j := by
  unfold val_main_v6 prod
  pointwise [v5_at]

/-- A row of the joint array of tokens is its sequence's. -/
theorem tok_div : (b.val * 2048 + s.val) / 2048 = b.val := by omega
theorem tok_mod : (b.val * 2048 + s.val) % 2048 = s.val := by omega

/-- The six results: each a range of columns of the product. -/
theorem v13_at (j : Fin 512) : (val_main_v13 (F := Ideal) x sh sc w (ix2 (tok b s) j) : EReal) = prod x sh sc w b s (qCol j) := by
  rw [← v6_at]
  unfold val_main_v13 val_main_v7
  pointwise
  simp only [tok_div, tok_mod]

theorem v14_at (j : Fin 128) : (val_main_v14 (F := Ideal) x sh sc w (ix2 (tok b s) j) : EReal) = prod x sh sc w b s (kCol j) := by
  rw [← v6_at]
  unfold val_main_v14 val_main_v8
  pointwise
  simp only [tok_div, tok_mod]

theorem v15_at (j : Fin 128) : (val_main_v15 (F := Ideal) x sh sc w (ix2 (tok b s) j) : EReal) = prod x sh sc w b s (vCol j) := by
  rw [← v6_at]
  unfold val_main_v15 val_main_v9
  pointwise
  simp only [tok_div, tok_mod]

theorem v19_at (j : Fin 512) : (val_main_v19 (F := Ideal) x sh sc w (ix2 (tok b s) j) : EReal) = prod x sh sc w b s (uCol j) := by
  rw [← v6_at]
  unfold val_main_v19 val_main_v16 val_main_v10
  pointwise
  simp only [tok_div, tok_mod]

theorem v20_at (j : Fin 512) : (val_main_v20 (F := Ideal) x sh sc w (ix2 (tok b s) j) : EReal) = prod x sh sc w b s (bCol j) := by
  rw [← v6_at]
  unfold val_main_v20 val_main_v17 val_main_v11
  pointwise
  simp only [tok_div, tok_mod]

theorem v21_at (j : Fin 512) : (val_main_v21 (F := Ideal) x sh sc w (ix2 (tok b s) j) : EReal) = prod x sh sc w b s (cCol j) := by
  rw [← v6_at]
  unfold val_main_v21 val_main_v18 val_main_v12
  pointwise
  simp only [tok_div, tok_mod]

end Cert.ProjFRefIdeal.At

end
-- ==== Proof.ProjFSpec.lean ====
/- What one block of the mixer's first product computes, in plain formulas over the arrays it loads. -/
module

public import proofs.«01_k».proof.Proof.Gen.ProjFIdeal.Value
public import proofs.«01_k».proof.Proof.ProjFRef

@[expose] public section

set_option maxRecDepth 16384

noncomputable section

namespace Cert.ProjFSpec

open Idealize.ShloMosaic Idealize.ShloMosaic.TcCoe Cert.ProjFIdeal Cert.ProjFIdeal.Gen
open Cert.ProjFRefIdeal.At (qCol kCol vCol uCol bCol cCol)

variable (v0 : Vec Ideal S512x1024 .f32) (v2 v8 : Vec Ideal S1x1x1024 .f32) (w : Vec Ideal S2304x1024 .bf16) (s : Fin 512)

/-- The modulated input times one row of the transposed weights. -/
def bprod (j : Fin 2304) : EReal := ∑ k : Fin 1024, (v0 (ix2 s k) * (1 + v2 (ix3 0 0 k)) + v8 (ix3 0 0 k)) * w (ix2 j k)

theorem pay1_at (j : Fin 2304) : (k0_pay1 v0 v2 v8 w (ix2 s j) : EReal) = bprod v0 v2 v8 w s j := by
  unfold k0_pay1 bprod
  pointwise

theorem pay2_at (j : Fin 512) : (k0_pay2 v0 v2 v8 w (ix2 s j) : EReal) = bprod v0 v2 v8 w s (qCol j) := by
  rw [← pay1_at]
  unfold k0_pay2
  pointwise

theorem pay3_at (j : Fin 128) : (k0_pay3 v0 v2 v8 w (ix2 s j) : EReal) = bprod v0 v2 v8 w s (kCol j) := by
  rw [← pay1_at]
  unfold k0_pay3
  pointwise

theorem pay4_at (j : Fin 128) : (k0_pay4 v0 v2 v8 w (ix2 s j) : EReal) = bprod v0 v2 v8 w s (vCol j) := by
  rw [← pay1_at]
  unfold k0_pay4
  pointwise

theorem pay5_at (j : Fin 512) : (k0_pay5 v0 v2 v8 w (ix2 s j) : EReal) = bprod v0 v2 v8 w s (uCol j) := by
  rw [← pay1_at]
  unfold k0_pay5
  pointwise

theorem pay6_at (j : Fin 512) : (k0_pay6 v0 v2 v8 w (ix2 s j) : EReal) = bprod v0 v2 v8 w s (bCol j) := by
  rw [← pay1_at]
  unfold k0_pay6
  pointwise

theorem pay7_at (j : Fin 512) : (k0_pay7 v0 v2 v8 w (ix2 s j) : EReal) = bprod v0 v2 v8 w s (cCol j) := by
  rw [← pay1_at]
  unfold k0_pay7
  pointwise

end Cert.ProjFSpec

end
-- ==== Proof.ProjFBlocks.lean ====
/- What the blocks of the kernel of the mixer's first product hold at each grid point, and where its results land. -/
module

public import proofs.«01_k».proof.Proof.ProjFSpec
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.ProjFIdeal.Value

open Cert.ProjFIdeal Cert.ProjFIdeal.Gen Cert.ProjFRefIdeal.At
open Cert.MixFRefIdeal.At (tok)

variable (m : (ℓ : Loc nD τ sig) → Buf (Elt Ideal) ℓ) (c : Dev nD)

/-- The arguments: the mixer's input, shift, scale, and the joint weight array. -/
abbrev X : FVec Ideal S2x2048x1024 .f32 := m ((c : Thread nD τ).loc main_arg0)
abbrev Sh : FVec Ideal S2x1x1024 .f32 := m ((c : Thread nD τ).loc main_arg1)
abbrev Sc : FVec Ideal S2x1x1024 .f32 := m ((c : Thread nD τ).loc main_arg2)
abbrev W : FVec Ideal S1024x2304 .f32 := m ((c : Thread nD τ).loc main_arg3)

section host

variable (b : Fin 2) (s : Fin 2048) (j : Fin 2304) (k : Fin 1024)

theorem v0_in : (V m c main_v0 (ix2 (tok b s) k) : EReal) = X m c (ix3 b s k) := by
  entry_read
  pointwise
  simp only [show (b.val * 2048 + s.val) / 2048 = b.val by omega, show (b.val * 2048 + s.val) % 2048 = s.val by omega]

/-- The weights, transposed before the kernel. -/
theorem v2_in : (V m c main_v2 (ix2 j k) : EReal) = W m c (ix2 k j) := by
  entry_read
  pointwise

end host

variable (t : Fin cfg0.N) (s : Fin 512) (j : Fin 2304) (k : Fin 1024)

theorem idx : ∀ t : Fin cfg0.N, win0_0.index t = ![t.val, 0] ∧ win0_1.index t = ![t.val / 4, 0, 0]
    ∧ win0_2.index t = ![t.val / 4, 0, 0] ∧ win0_3.index t = ![0, 0]
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The token a row of a grid point's block stands for. -/
abbrev tokOf (t : Fin cfg0.N) (s : Fin 512) : Fin 4096 :=
  ⟨t.val * 512 + s.val, by have := lt_of_lt_of_eq t.isLt N_0; omega⟩

/-- The sequence a grid point works on. -/
abbrev seqOf (t : Fin cfg0.N) : Fin 2 := ⟨t.val / 4, by have := lt_of_lt_of_eq t.isLt N_0; omega⟩

/-- The place of a row in its sequence. -/
abbrev pos (t : Fin cfg0.N) (s : Fin 512) : Fin 2048 := ⟨t.val % 4 * 512 + s.val, by omega⟩

theorem tokOf_eq : tokOf t s = tok (seqOf t) (pos t s) := Fin.ext (by show t.val * 512 + s.val = t.val / 4 * 2048 + (t.val % 4 * 512 + s.val); omega)

theorem blk0 : (iblk m c 0 t (ix2 s k) : EReal) = X m c (ix3 (seqOf t) (pos t s) k) := by
  rw [← v0_in, ← tokOf_eq]
  blk_point [iblk, idx t]

theorem blk1 : (iblk m c 1 t (ix3 0 0 k) : EReal) = Sh m c (ix3 (seqOf t) 0 k) := by
  blk_point [iblk, V, idx t]

theorem blk2 : (iblk m c 2 t (ix3 0 0 k) : EReal) = Sc m c (ix3 (seqOf t) 0 k) := by
  blk_point [iblk, V, idx t]

theorem blk3 : (iblk m c 3 t (ix2 j k) : EReal) = W m c (ix2 k j) := by
  rw [← v2_in]
  blk_point [iblk, idx t]

theorem emb4 (j : Fin 512) : ((cfg0.win 4).blk t).view.emb (ix2 s j) = ix2 (tok (seqOf t) (pos t s)) j := by
  rw [← tokOf_eq]
  funext a
  apply Fin.ext
  match a with
  | ⟨0, _⟩ => blk_simp [idx t]
  | ⟨1, _⟩ => blk_simp [idx t]

theorem emb5 (j : Fin 128) : ((cfg0.win 5).blk t).view.emb (ix2 s j) = ix2 (tok (seqOf t) (pos t s)) j := by
  rw [← tokOf_eq]
  funext a
  apply Fin.ext
  match a with
  | ⟨0, _⟩ => blk_simp [idx t]
  | ⟨1, _⟩ => blk_simp [idx t]

theorem emb6 (j : Fin 128) : ((cfg0.win 6).blk t).view.emb (ix2 s j) = ix2 (tok (seqOf t) (pos t s)) j := by
  rw [← tokOf_eq]
  funext a
  apply Fin.ext
  match a with
  | ⟨0, _⟩ => blk_simp [idx t]
  | ⟨1, _⟩ => blk_simp [idx t]

theorem emb7 (j : Fin 512) : ((cfg0.win 7).blk t).view.emb (ix2 s j) = ix2 (tok (seqOf t) (pos t s)) j := by
  rw [← tokOf_eq]
  funext a
  apply Fin.ext
  match a with
  | ⟨0, _⟩ => blk_simp [idx t]
  | ⟨1, _⟩ => blk_simp [idx t]

theorem emb8 (j : Fin 512) : ((cfg0.win 8).blk t).view.emb (ix2 s j) = ix2 (tok (seqOf t) (pos t s)) j := by
  rw [← tokOf_eq]
  funext a
  apply Fin.ext
  match a with
  | ⟨0, _⟩ => blk_simp [idx t]
  | ⟨1, _⟩ => blk_simp [idx t]

theorem emb9 (j : Fin 512) : ((cfg0.win 9).blk t).view.emb (ix2 s j) = ix2 (tok (seqOf t) (pos t s)) j := by
  rw [← tokOf_eq]
  funext a
  apply Fin.ext
  match a with
  | ⟨0, _⟩ => blk_simp [idx t]
  | ⟨1, _⟩ => blk_simp [idx t]

end Cert.ProjFIdeal.Value

end
-- ==== Proof.ProjFValue.lean ====
/- What the results of the mixer's first product hold after the kernel, in the terms of the reference. -/
module

public import proofs.«01_k».proof.Proof.ProjFBlocks

@[expose] public section

set_option maxRecDepth 16384

noncomputable section

open Idealize.ShloMosaic Idealize.ShloMosaic.TcCoe Idealize.SL.Sem
open Idealize.ShloMosaic.Pipeline (Dat)

namespace Cert.ProjFIdeal.Value

open Cert.ProjFIdeal Cert.ProjFIdeal.Gen Cert.ProjFRefIdeal.At Cert.ProjFRefIdeal.Read Cert.ProjFSpec
open Cert.MixFRefIdeal.At (tok)

variable (m : (ℓ : Loc nD τ sig) → Buf (Elt Ideal) ℓ) (c : Dev nD)

section point

variable (t : Fin cfg0.N) (s : Fin 512)

theorem prod_block (j : Fin 2304) : bprod (iblk m c 0 t) (iblk m c 2 t) (iblk m c 1 t) (iblk m c 3 t) s j
    = prod (X m c) (Sh m c) (Sc m c) (W m c) (seqOf t) (pos t s) j := by
  unfold bprod prod modd
  simp only [blk0, blk1, blk2, blk3]

theorem out4 (j : Fin 512) : (out0_4 (iblk m c 0 t) (iblk m c 1 t) (iblk m c 2 t) (iblk m c 3 t) (ix2 s j) : EReal)
    = val_main_v13 (F := Ideal) (X m c) (Sh m c) (Sc m c) (W m c) (ix2 (tok (seqOf t) (pos t s)) j) := by
  rw [v13_at, ← prod_block]
  frame_out
  exact pay2_at _ _ _ _ s j

theorem out5 (j : Fin 128) : (out0_5 (iblk m c 0 t) (iblk m c 1 t) (iblk m c 2 t) (iblk m c 3 t) (ix2 s j) : EReal)
    = val_main_v14 (F := Ideal) (X m c) (Sh m c) (Sc m c) (W m c) (ix2 (tok (seqOf t) (pos t s)) j) := by
  rw [v14_at, ← prod_block]
  frame_out
  exact pay3_at _ _ _ _ s j

theorem out6 (j : Fin 128) : (out0_6 (iblk m c 0 t) (iblk m c 1 t) (iblk m c 2 t) (iblk m c 3 t) (ix2 s j) : EReal)
    = val_main_v15 (F := Ideal) (X m c) (Sh m c) (Sc m c) (W m c) (ix2 (tok (seqOf t) (pos t s)) j) := by
  rw [v15_at, ← prod_block]
  frame_out
  exact pay4_at _ _ _ _ s j

theorem out7 (j : Fin 512) : (out0_7 (iblk m c 0 t) (iblk m c 1 t) (iblk m c 2 t) (iblk m c 3 t) (ix2 s j) : EReal)
    = val_main_v19 (F := Ideal) (X m c) (Sh m c) (Sc m c) (W m c) (ix2 (tok (seqOf t) (pos t s)) j) := by
  rw [v19_at, ← prod_block]
  frame_out
  exact pay5_at _ _ _ _ s j

theorem out8 (j : Fin 512) : (out0_8 (iblk m c 0 t) (iblk m c 1 t) (iblk m c 2 t) (iblk m c 3 t) (ix2 s j) : EReal)
    = val_main_v20 (F := Ideal) (X m c) (Sh m c) (Sc m c) (W m c) (ix2 (tok (seqOf t) (pos t s)) j) := by
  rw [v20_at, ← prod_block]
  frame_out
  exact pay6_at _ _ _ _ s j

theorem out9 (j : Fin 512) : (out0_9 (iblk m c 0 t) (iblk m c 1 t) (iblk m c 2 t) (iblk m c 3 t) (ix2 s j) : EReal)
    = val_main_v21 (F := Ideal) (X m c) (Sh m c) (Sc m c) (W m c) (ix2 (tok (seqOf t) (pos t s)) j) := by
  rw [v21_at, ← prod_block]
  frame_out
  exact pay7_at _ _ _ _ s j

end point

/-- The queries, whole. -/
theorem final4 : (dats m 0 c).arrAt 4 (cfgs 0).N = val_main_v13 (F := Ideal) (X m c) (Sh m c) (Sc m c) (W m c) := by
  refine (dats m 0 c).arrAt_eq_of_covers 4 _ (by decide +kernel) fun t hf y => ?_
  blk_simp
  rw [after0_4, ValueIdx.eq_ix2 y]
  exact (out4 m c t _ _).trans (congrArg _ (emb4 t _ _).symm)

/-- The keys, whole. -/
theorem final5 : (dats m 0 c).arrAt 5 (cfgs 0).N = val_main_v14 (F := Ideal) (X m c) (Sh m c) (Sc m c) (W m c) := by
  refine (dats m 0 c).arrAt_eq_of_covers 5 _ (by decide +kernel) fun t hf y => ?_
  blk_simp
  rw [after0_5, ValueIdx.eq_ix2 y]
  exact (out5 m c t _ _).trans (congrArg _ (emb5 t _ _).symm)

/-- The values, whole. -/
theorem final6 : (dats m 0 c).arrAt 6 (cfgs 0).N = val_main_v15 (F := Ideal) (X m c) (Sh m c) (Sc m c) (W m c) := by
  refine (dats m 0 c).arrAt_eq_of_covers 6 _ (by decide +kernel) fun t hf y => ?_
  blk_simp
  rw [after0_6, ValueIdx.eq_ix2 y]
  exact (out6 m c t _ _).trans (congrArg _ (emb6 t _ _).symm)

/-- The convolution's input, whole. -/
theorem final7 : (dats m 0 c).arrAt 7 (cfgs 0).N = val_main_v19 (F := Ideal) (X m c) (Sh m c) (Sc m c) (W m c) := by
  refine (dats m 0 c).arrAt_eq_of_covers 7 _ (by decide +kernel) fun t hf y => ?_
  blk_simp
  rw [after0_7, ValueIdx.eq_ix2 y]
  exact (out7 m c t _ _).trans (congrArg _ (emb7 t _ _).symm)

/-- Its first gate, whole. -/
theorem final8 : (dats m 0 c).arrAt 8 (cfgs 0).N = val_main_v20 (F := Ideal) (X m c) (Sh m c) (Sc m c) (W m c) := by
  refine (dats m 0 c).arrAt_eq_of_covers 8 _ (by decide +kernel) fun t hf y => ?_
  blk_simp
  rw [after0_8, ValueIdx.eq_ix2 y]
  exact (out8 m c t _ _).trans (congrArg _ (emb8 t _ _).symm)

/-- Its second gate, whole. -/
theorem final9 : (dats m 0 c).arrAt 9 (cfgs 0).N = val_main_v21 (F := Ideal) (X m c) (Sh m c) (Sc m c) (W m c) := by
  refine (dats m 0 c).arrAt_eq_of_covers 9 _ (by decide +kernel) fun t hf y => ?_
  blk_simp
  rw [after0_9, ValueIdx.eq_ix2 y]
  exact (out9 m c t _ _).trans (congrArg _ (emb9 t _ _).symm)

end Cert.ProjFIdeal.Value

end
-- ==== Proof.ProjFClaim.lean ====
/- The mixer's first product: kernel and reference leave the same six arrays. -/
module

public import proofs.«01_k».proof.Defs
public import proofs.«01_k».proof.Proof.Gen.ProjFRefIdeal.Run
public import proofs.«01_k».proof.Proof.ProjFValue

@[expose] public section

noncomputable section

open Idealize.ShloMosaic Idealize.SL.Sem

namespace Cert.ProjFClaim

open Cert.ProjFRefIdeal.Read

/-- The reference ends, leaves its arguments alone and has no counters. -/
theorem frame_ref : @Cert.quiescent_ProjFRefIdeal Cert.ProjFRefIdeal.Gen.facts := fun m ρ _ =>
  (θ_run Cert.ProjFRefIdeal.defs _ _).mono (fun r h => ⟨fun c => (h c).2.2.2.2.2.2, sem_eq_zero_of_no_sems (by decide) r.2⟩)
    (Cert.ProjFRefIdeal.Value.run (F := Ideal) m ρ)

/-- What the kernel leaves in one of its result arrays. -/
abbrev left (m : (ℓ : Loc Cert.ProjFIdeal.nD Cert.ProjFIdeal.τ Cert.ProjFIdeal.sig) → Buf (Elt Ideal) ℓ) (c : Dev Cert.ProjFIdeal.nD) (w : Fin 10) :=
  (Cert.ProjFIdeal.Gen.dats m 0 c).arrAt w (Cert.ProjFIdeal.cfgs 0).N

set_option maxHeartbeats 2000000 in
/-- The value claim. -/
theorem value : @Cert.algebraic_ProjFIdeal_ProjFRefIdeal Cert.ProjFIdeal.Gen.facts Cert.ProjFRefIdeal.Gen.facts := by
  intro m g m' g' _ hm
  refine ⟨fun c => left m c 4, fun c => left m c 5, fun c => left m c 6, fun c => left m c 7, fun c => left m c 8, fun c => left m c 9,
    Cert.ProjFIdeal.Value.run_blocks m g, ?_⟩
  refine (θ_run Cert.ProjFRefIdeal.defs _ _).mono (fun r h c => ?_) (Cert.ProjFRefIdeal.Value.run m' g')
  obtain ⟨h0, h1, h2, h3, h4, h5, hk⟩ := h c
  obtain ⟨e0, e1, e2, e3⟩ := hm c
  rw [val_main_v13_eq, e0, e1, e2, e3] at h0
  rw [val_main_v14_eq, e0, e1, e2, e3] at h1
  rw [val_main_v15_eq, e0, e1, e2, e3] at h2
  rw [val_main_v19_eq, e0, e1, e2, e3] at h3
  rw [val_main_v20_eq, e0, e1, e2, e3] at h4
  rw [val_main_v21_eq, e0, e1, e2, e3] at h5
  exact ⟨h0.trans (Cert.ProjFIdeal.Value.final4 m c).symm,
    h1.trans (Cert.ProjFIdeal.Value.final5 m c).symm,
    h2.trans (Cert.ProjFIdeal.Value.final6 m c).symm,
    h3.trans (Cert.ProjFIdeal.Value.final7 m c).symm,
    h4.trans (Cert.ProjFIdeal.Value.final8 m c).symm,
    h5.trans (Cert.ProjFIdeal.Value.final9 m c).symm, hk⟩

end Cert.ProjFClaim

end
-- ==== Proof.AdaBValue.lean ====
/- The weights' gradient of the modulation: what the kernel leaves, in the terms of the reference. -/
module

public import proofs.«01_k».proof.Proof.Gen.AdaBIdeal.Value
public import proofs.«01_k».proof.Proof.Gen.AdaBRefIdeal.Read
public import proofs.«01_k».proof.Proof.Gated
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaBIdeal.Value

open Cert.AdaBIdeal Cert.AdaBIdeal.Gen Cert.AdaBRefIdeal.Read Cert.Gated

variable (m : (ℓ : Loc nD τ sig) → Buf (Elt Ideal) ℓ) (c : Dev nD)

/-- The conditioning vectors of all sequences, and the gradient of one device's modulation columns. -/
abbrev C : FVec Ideal S16x1024 .f32 := m ((c : Thread nD τ).loc main_arg0)
abbrev D : FVec Ideal S16x1152 .f32 := m ((c : Thread nD τ).loc main_arg3)

section formulas

variable (x : FVec Ideal S16x1024 .f32) (d : FVec Ideal S16x1152 .f32) (a : Vec Ideal S16x1024 .bf16) (b : Vec Ideal S16x1152 .f32)

theorem v0_at (n : Fin 16) (k : Fin 1024) : (val_main_v0 (F := Ideal) x (ix2 n k) : EReal) = x (ix2 n k) * sg (x (ix2 n k)) := by
  unfold val_main_v0 val_main_call0_v5 val_main_call0_v4 val_main_call0_v3 val_main_call0_v2 val_main_call0_v1 val_main_call0_v0
    val_main_call0_cst val_main_call0_cst_0 sg
  pointwise
  rw [zero_sub]

theorem v8_at (k : Fin 1024) (j : Fin 1152) :
    (val_main_v8 (F := Ideal) x d (ix2 k j) : EReal) = ∑ n : Fin 16, d (ix2 n j) * (x (ix2 n k) * sg (x (ix2 n k))) := by
  unfold val_main_v8 val_main_v7 val_main_v4
  pointwise [v0_at]

theorem v6_at (j : Fin 1152) : (val_main_v6 (F := Ideal) d (ix2 0 j) : EReal) = ∑ n : Fin 16, d (ix2 n j) := by
  unfold val_main_v6 val_main_v5 val_main_cst
  pointwise

theorem pay1_at (k : Fin 1024) (j : Fin 1152) : (k0_pay1 b a (ix2 k j) : EReal) = ∑ n : Fin 16, a (ix2 n k) * b (ix2 n j) := by
  unfold k0_pay1
  pointwise

theorem pay2_at (j : Fin 1152) : (k0_pay2 b (ix2 0 j) : EReal) = ∑ n : Fin 16, b (ix2 n j) := by
  unfold k0_pay2
  pointwise

end formulas

theorem v9_in (n : Fin 16) (k : Fin 1024) : (V m c main_v9 (ix2 n k) : EReal) = C m c (ix2 n k) * sg (C m c (ix2 n k)) := by
  unfold sg
  entry_read
  pointwise
  rw [zero_sub]

theorem idx : ∀ t : Fin cfg0.N, win0_0.index t = ![0, 0] ∧ win0_1.index t = ![0, 0]
    ∧ win0_2.index t = ![0, 0] ∧ win0_3.index t = ![0, 0] :=
  (by decide +kernel : ∀ t : Fin grid0.N, _)

variable (t : Fin cfg0.N)

theorem blk0 (n : Fin 16) (k : Fin 1024) : (iblk m c 0 t (ix2 n k) : EReal) = C m c (ix2 n k) * sg (C m c (ix2 n k)) := by
  rw [← v9_in]
  blk_point [iblk, idx t]

theorem blk1 (n : Fin 16) (j : Fin 1152) : (iblk m c 1 t (ix2 n j) : EReal) = D m c (ix2 n j) := by
  blk_point [iblk, V, idx t]

theorem emb2 (k : Fin 1024) (j : Fin 1152) : ((cfg0.win 2).blk t).view.emb (ix2 k j) = ix2 k j := by
  funext a
  apply Fin.ext
  match a with
  | ⟨0, _⟩ => blk_simp [idx t]
  | ⟨1, _⟩ => blk_simp [idx t]

theorem emb3 (i : Fin 1) (j : Fin 1152) : ((cfg0.win 3).blk t).view.emb (ix2 i j) = ix2 i j := by
  funext a
  apply Fin.ext
  match a with
  | ⟨0, _⟩ => blk_simp [idx t]
  | ⟨1, _⟩ => blk_simp [idx t]

theorem out2 (k : Fin 1024) (j : Fin 1152) : (out0_2 (iblk m c 0 t) (iblk m c 1 t) (ix2 k j) : EReal)
    = val_main_v8 (F := Ideal) (C m c) (D m c) (ix2 k j) := by
  rw [v8_at]
  frame_out
  refine (pay1_at _ _ k j).trans (Finset.sum_congr rfl fun n _ => ?_)
  rw [blk0, blk1, mul_comm]

theorem out3 (i : Fin 1) (j : Fin 1152) : (out0_3 (iblk m c 0 t) (iblk m c 1 t) (ix2 i j) : EReal)
    = val_main_v6 (F := Ideal) (D m c) (ix2 i j) := by
  obtain rfl : i = 0 := Subsingleton.elim _ _
  rw [v6_at]
  frame_out
  refine (pay2_at _ j).trans (Finset.sum_congr rfl fun n _ => ?_)
  rw [blk1]

/-- The weights' gradient, whole. -/
theorem final2 : (dats m 0 c).arrAt 2 (cfgs 0).N = val_main_v8 (F := Ideal) (C m c) (D m c) := by
  refine (dats m 0 c).arrAt_eq_of_covers 2 _ (by decide +kernel) fun t hf y => ?_
  blk_simp
  rw [after0_2, ValueIdx.eq_ix2 y]
  exact (out2 m c t _ _).trans (congrArg _ (emb2 t _ _).symm)

/-- The bias's gradient, whole. -/
theorem final3 : (dats m 0 c).arrAt 3 (cfgs 0).N = val_main_v6 (F := Ideal) (D m c) := by
  refine (dats m 0 c).arrAt_eq_of_covers 3 _ (by decide +kernel) fun t hf y => ?_
  blk_simp
  rw [after0_3, ValueIdx.eq_ix2 y]
  exact (out3 m c t _ _).trans (congrArg _ (emb3 t _ _).symm)

end Cert.AdaBIdeal.Value

end
-- ==== Proof.AdaBClaim.lean ====
/- The modulation's weights: kernel and reference leave the same two gradients. -/
module

public import proofs.«01_k».proof.Defs
public import proofs.«01_k».proof.Proof.Gen.AdaBRefIdeal.Run
public import proofs.«01_k».proof.Proof.AdaBValue

@[expose] public section

noncomputable section

open Idealize.ShloMosaic Idealize.SL.Sem

namespace Cert.AdaBClaim

open Cert.AdaBRefIdeal.Read

/-- The reference ends, leaves its arguments alone and has no counters. -/
theorem frame_ref : @Cert.quiescent_AdaBRefIdeal Cert.AdaBRefIdeal.Gen.facts := fun m ρ _ =>
  (θ_run Cert.AdaBRefIdeal.defs _ _).mono (fun r h => ⟨fun c => (h c).2.2, sem_eq_zero_of_no_sems (by decide) r.2⟩)
    (Cert.AdaBRefIdeal.Value.run (F := Ideal) m ρ)

/-- What the kernel leaves in one of its result arrays. -/
abbrev left (m : (ℓ : Loc Cert.AdaBIdeal.nD Cert.AdaBIdeal.τ Cert.AdaBIdeal.sig) → Buf (Elt Ideal) ℓ) (c : Dev Cert.AdaBIdeal.nD) (w : Fin 4) :=
  (Cert.AdaBIdeal.Gen.dats m 0 c).arrAt w (Cert.AdaBIdeal.cfgs 0).N

set_option maxHeartbeats 2000000 in
/-- The value claim. -/
theorem value : @Cert.algebraic_AdaBIdeal_AdaBRefIdeal Cert.AdaBIdeal.Gen.facts Cert.AdaBRefIdeal.Gen.facts := by
  intro m g m' g' _ hm
  refine ⟨fun c => left m c 2, fun c => left m c 3, Cert.AdaBIdeal.Value.run_blocks m g, ?_⟩
  refine (θ_run Cert.AdaBRefIdeal.defs _ _).mono (fun r h c => ?_) (Cert.AdaBRefIdeal.Value.run m' g')
  obtain ⟨h0, h1, hk⟩ := h c
  obtain ⟨e0, e1, e2, e3⟩ := hm c
  rw [val_main_v8_eq, e0, e3] at h0
  rw [val_main_v6_eq, e3] at h1
  exact ⟨h0.trans (Cert.AdaBIdeal.Value.final2 m c).symm, h1.trans (Cert.AdaBIdeal.Value.final3 m c).symm, hk⟩

end Cert.AdaBClaim

end
-- ==== Proof.StepValue.lean ====
/- The optimiser's step of one weight array: kernel and reference compute the same three arrays. -/
module

public import proofs.«01_k».proof.Proof.Gen.StepIdeal.Value
public import proofs.«01_k».proof.Proof.Gen.StepRefIdeal.Read
public import Idealize.ShloMosaic.Lib.Pointwise

@[expose] public section

set_option maxRecDepth 16384

noncomputable section

namespace Cert.StepValue

open Idealize.ShloMosaic Cert.StepIdeal Cert.StepRefIdeal.Read

variable (w g m v : FVec Ideal S1024x1152 .f32)

theorem first : Cert.StepIdeal.Value.G5 g m = val_main_v4 (F := Ideal) g m := by
  funext i
  rfl

theorem second : Cert.StepIdeal.Value.G6 g v = val_main_v10 (F := Ideal) g v := by
  funext i
  rfl

theorem delta : Cert.StepIdeal.Value.G4 g w m v = val_main_v23 (F := Ideal) w g m v := by
  funext i
  rfl

end Cert.StepValue

end
-- ==== Proof.StepClaim.lean ====
/- The optimiser's step of one weight array: kernel and reference leave the same three arrays. -/
module

public import proofs.«01_k».proof.Defs
public import proofs.«01_k».proof.Proof.Gen.StepRefIdeal.Run
public import proofs.«01_k».proof.Proof.StepValue

@[expose] public section

noncomputable section

open Idealize.ShloMosaic Idealize.SL.Sem

namespace Cert.StepClaim

open Cert.StepRefIdeal.Read

/-- The reference ends, leaves its arguments alone and has no counters. -/
theorem frame_ref : @Cert.quiescent_StepRefIdeal Cert.StepRefIdeal.Gen.facts := fun m ρ _ =>
  (θ_run Cert.StepRefIdeal.defs _ _).mono (fun r h => ⟨fun c => (h c).2.2.2, sem_eq_zero_of_no_sems (by decide) r.2⟩)
    (Cert.StepRefIdeal.Value.run (F := Ideal) m ρ)

set_option maxHeartbeats 2000000 in
/-- The value claim. -/
theorem value : @Cert.algebraic_StepIdeal_StepRefIdeal Cert.StepIdeal.Gen.facts Cert.StepRefIdeal.Gen.facts := by
  intro m g m' g' _ hm
  refine ⟨_, _, _, Cert.StepIdeal.Value.run m g, ?_⟩
  refine (θ_run Cert.StepRefIdeal.defs _ _).mono (fun r h c => ?_) (Cert.StepRefIdeal.Value.run m' g')
  obtain ⟨h0, h1, h2, hk⟩ := h c
  obtain ⟨e0, e1, e2, e3⟩ := hm c
  rw [val_main_v23_eq, e0, e1, e2, e3] at h0
  rw [val_main_v4_eq, e1, e2] at h1
  rw [val_main_v10_eq, e1, e3] at h2
  exact ⟨h0.trans (Cert.StepValue.delta _ _ _ _).symm, h1.trans (Cert.StepValue.first _ _).symm,
    h2.trans (Cert.StepValue.second _ _).symm, hk⟩

end Cert.StepClaim

end
-- ==== Proof.SumValue.lean ====
/- The sums over the devices: the kernel adds eight parts one after another and cuts rows from the total, the reference sums
   over the first axis and cuts the same rows. -/
module

public import proofs.«01_k».proof.Proof.Gen.SumIdeal.Value
public import proofs.«01_k».proof.Proof.Gen.SumRefIdeal.Read
public import Idealize.ShloMosaic.Lib.Pointwise

@[expose] public section

set_option maxRecDepth 16384

noncomputable section

open Idealize.ShloMosaic Idealize.ShloMosaic.TcCoe Idealize.SL.Sem

namespace Cert.SumIdeal.Value

open Cert.SumIdeal Cert.SumIdeal.Gen Cert.SumRefIdeal.Read

variable (a : FVec Ideal S8x8x1024 .f32)

/-- The reference's total. -/
theorem v0_at (p : Fin 8) (q : Fin 1024) : (val_main_v0 (F := Ideal) a (ix2 p q) : EReal) = ∑ d : Fin 8, a (ix3 d p q) := by
  unfold val_main_v0 val_main_cst
  pointwise

/-- The kernel's. -/
theorem pay10_at (p : Fin 8) (q : Fin 1024) : (k0_pay10 (F := Ideal) a (ix2 p q) : EReal) = ∑ d : Fin 8, a (ix3 d p q) := by
  rw [Fin.sum_univ_eight]
  unfold k0_pay10 k0_pay6
  pointwise

theorem total : k0_pay10 (F := Ideal) a = val_main_v0 (F := Ideal) a := by
  funext i
  rw [ValueIdx.eq_ix2 i]
  exact (pay10_at a _ _).trans (v0_at a _ _).symm

/-- Each result of the kernel is one row of the total, or the first numbers of it. -/
theorem rows : G1 (F := Ideal) a = val_main_v1 (F := Ideal) a ∧
    G2 (F := Ideal) a = val_main_v2 (F := Ideal) a ∧
    G3 (F := Ideal) a = val_main_v3 (F := Ideal) a ∧
    G4 (F := Ideal) a = val_main_v4 (F := Ideal) a ∧
    G5 (F := Ideal) a = val_main_v5 (F := Ideal) a ∧
    G6 (F := Ideal) a = val_main_v6 (F := Ideal) a ∧
    G7 (F := Ideal) a = val_main_v7 (F := Ideal) a ∧
    G8 (F := Ideal) a = val_main_v8 (F := Ideal) a := by
  unfold val_main_v1 val_main_v2 val_main_v3 val_main_v4 val_main_v5 val_main_v6 val_main_v7 val_main_v8
  rw [← total]
  unfold G1 G2 G3 G4 G5 G6 G7 G8
  unfold k0_pay1 k0_pay2 k0_pay3 k0_pay4 k0_pay5 k0_pay7 k0_pay8 k0_pay9 k0_pay10
  exact ⟨rfl, rfl, rfl, rfl, rfl, rfl, rfl, rfl⟩

end Cert.SumIdeal.Value

end
-- ==== Proof.SumClaim.lean ====
/- The sums over the devices: kernel and reference leave the same eight results. -/
module

public import proofs.«01_k».proof.Defs
public import proofs.«01_k».proof.Proof.Gen.SumRefIdeal.Run
public import proofs.«01_k».proof.Proof.SumValue

@[expose] public section

noncomputable section

open Idealize.ShloMosaic Idealize.SL.Sem

namespace Cert.SumClaim

open Cert.SumRefIdeal.Read Cert.SumIdeal.Value

/-- The reference ends, leaves its arguments alone and has no counters. -/
theorem frame_ref : @Cert.quiescent_SumRefIdeal Cert.SumRefIdeal.Gen.facts := fun m ρ _ =>
  (θ_run Cert.SumRefIdeal.defs _ _).mono (fun r h => ⟨fun c => (h c).2.2.2.2.2.2.2.2, sem_eq_zero_of_no_sems (by decide) r.2⟩)
    (Cert.SumRefIdeal.Value.run (F := Ideal) m ρ)

/-- The devices' parts. -/
abbrev parts (m : (ℓ : Loc Cert.SumIdeal.nD Cert.SumIdeal.τ Cert.SumIdeal.sig) → Buf (Elt Ideal) ℓ) (c : Dev Cert.SumIdeal.nD) :=
  m ((c.tc : Thread Cert.SumIdeal.nD Cert.SumIdeal.τ).loc Cert.SumIdeal.main_arg0)

set_option maxHeartbeats 2000000 in
/-- The value claim. -/
theorem value : @Cert.algebraic_SumIdeal_SumRefIdeal Cert.SumIdeal.Gen.facts Cert.SumRefIdeal.Gen.facts := by
  intro m g m' g' _ hm
  refine ⟨fun c => G1 (parts m c), fun c => G2 (parts m c), fun c => G3 (parts m c), fun c => G4 (parts m c),
    fun c => G5 (parts m c), fun c => G6 (parts m c), fun c => G7 (parts m c), fun c => G8 (parts m c),
    Cert.SumIdeal.Value.run m g, ?_⟩
  refine (θ_run Cert.SumRefIdeal.defs _ _).mono (fun r h c => ?_) (Cert.SumRefIdeal.Value.run m' g')
  obtain ⟨h1, h2, h3, h4, h5, h6, h7, h8, hk⟩ := h c
  obtain ⟨e1, e2, e3, e4, e5, e6, e7, e8⟩ := Cert.SumIdeal.Value.rows (parts m c)
  have e := hm c
  rw [val_main_v1_eq, e, ← e1] at h1
  rw [val_main_v2_eq, e, ← e2] at h2
  rw [val_main_v3_eq, e, ← e3] at h3
  rw [val_main_v4_eq, e, ← e4] at h4
  rw [val_main_v5_eq, e, ← e5] at h5
  rw [val_main_v6_eq, e, ← e6] at h6
  rw [val_main_v7_eq, e, ← e7] at h7
  rw [val_main_v8_eq, e, ← e8] at h8
  exact ⟨h1, h2, h3, h4, h5, h6, h7, h8, hk⟩

end Cert.SumClaim

end
-- ==== Proof.SumConvClaim.lean ====
/- The sum over the devices of the convolution's weights' gradient: kernel and reference leave the same array. -/
module

public import proofs.«01_k».proof.Defs
public import proofs.«01_k».proof.Proof.Gen.SumConvIdeal.Value
public import proofs.«01_k».proof.Proof.Gen.SumConvRefIdeal.Run
public import proofs.«01_k».proof.Proof.Gen.SumConvRefIdeal.Read
public import Idealize.ShloMosaic.Lib.Pointwise

@[expose] public section

set_option maxRecDepth 16384

noncomputable section

open Idealize.ShloMosaic Idealize.SL.Sem

namespace Cert.SumConvClaim

open Cert.SumConvIdeal Cert.SumConvIdeal.Gen Cert.SumConvIdeal.Value Cert.SumConvRefIdeal.Read

/-- The reference ends, leaves its arguments alone and has no counters. -/
theorem frame_ref : @Cert.quiescent_SumConvRefIdeal Cert.SumConvRefIdeal.Gen.facts := fun m ρ _ =>
  (θ_run Cert.SumConvRefIdeal.defs _ _).mono (fun r h => ⟨fun c => (h c).2, sem_eq_zero_of_no_sems (by decide) r.2⟩)
    (Cert.SumConvRefIdeal.Value.run (F := Ideal) m ρ)

variable (a : FVec Ideal S8x3x1024 .f32)

theorem kernel_at (p : Fin 3) (q : Fin 1024) : (G1 (F := Ideal) a (ix2 p q) : EReal) = ∑ d : Fin 8, a (ix3 d p q) := by
  rw [Fin.sum_univ_eight]
  unfold G1 k0_pay1
  pointwise

theorem reference_at (p : Fin 3) (q : Fin 1024) : (val_main_v0 (F := Ideal) a (ix2 p q) : EReal) = ∑ d : Fin 8, a (ix3 d p q) := by
  unfold val_main_v0 val_main_cst
  pointwise

theorem same : val_main_v0 (F := Ideal) a = G1 (F := Ideal) a := by
  funext i
  rw [ValueIdx.eq_ix2 i]
  exact (reference_at a _ _).trans (kernel_at a _ _).symm

/-- The value claim. -/
theorem value : @Cert.algebraic_SumConvIdeal_SumConvRefIdeal Cert.SumConvIdeal.Gen.facts Cert.SumConvRefIdeal.Gen.facts := by
  intro m g m' g' _ hm
  refine ⟨_, Cert.SumConvIdeal.Value.run m g, ?_⟩
  refine (θ_run Cert.SumConvRefIdeal.defs _ _).mono (fun r h c => ?_) (Cert.SumConvRefIdeal.Value.run m' g')
  obtain ⟨h0, hk⟩ := h c
  have e := hm c
  rw [val_main_v0_eq, e, same] at h0
  exact ⟨h0, hk⟩

end Cert.SumConvClaim

end
-- ==== Proof.TnValue.lean ====
/- The product for the gate's and the linear half's weights: what the kernel leaves, in the terms of the reference. The kernel
   adds the products of two halves of the tokens, the reference sums over all tokens at once. -/
module

public import proofs.«01_k».proof.Proof.Gen.TnIdeal.Value
public import proofs.«01_k».proof.Proof.Gen.TnRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TnIdeal.Value

open Cert.TnIdeal Cert.TnIdeal.Gen Cert.TnRefIdeal.Read

variable (m : (ℓ : Loc nD τ sig) → Buf (Elt Ideal) ℓ) (c : Dev nD)

/-- The unit's input, and the gradients of its hidden products. -/
abbrev H : FVec Ideal S4096x1024 .f32 := m ((c : Thread nD τ).loc main_arg0)
abbrev D : FVec Ideal S2x4096x2816 .f32 := m ((c : Thread nD τ).loc main_arg2)

/-- A hidden column, from its half and its place in it. -/
abbrev colOf (s : Fin 2) (p : Fin 1408) : Fin 2816 := ⟨s.val * 1408 + p.val, by omega⟩

/-- A token, from its half and its place in it. -/
abbrev tokenOf (a : Fin 2) (r : Fin 2048) : Fin 4096 := ⟨a.val * 2048 + r.val, by omega⟩

theorem sum_halves (f : Fin 4096 → EReal) : ∑ t, f t = ∑ r, f (tokenOf 0 r) + ∑ r, f (tokenOf 1 r) := by
  refine (Fin.sum_univ_add (a := 2048) (b := 2048) f).trans (congrArg₂ (· + ·) ?_ ?_)
  all_goals exact Finset.sum_congr rfl fun r _ => congrArg f (Fin.ext (by simp [Nat.add_comm]))

section formulas

variable (h : FVec Ideal S4096x1024 .f32) (d : FVec Ideal S2x4096x2816 .f32) (i s : Fin 2) (p : Fin 1408) (q : Fin 1024)

theorem v3_at (j : Fin 2816) : (val_main_v3 (F := Ideal) h d (ix3 i j q) : EReal) = ∑ t : Fin 4096, d (ix3 i t j) * h (ix2 t q) := by
  unfold val_main_v3 val_main_v2
  pointwise

theorem v5_at : (val_main_v5 (F := Ideal) h d (ix5 i s 0 p q) : EReal) = ∑ t : Fin 4096, d (ix3 i t (colOf s p)) * h (ix2 t q) := by
  rw [← v3_at]
  unfold val_main_v5 val_main_v4
  pointwise

end formulas

theorem pay1_at (p : Fin 1408) (q : Fin 1024) : (k0_pay1 (F := Ideal) (ix2 p q) : EReal) = 0 := by
  unfold k0_pay1
  pointwise

theorem pay2_at (a : Vec Ideal S1408x1024 .f32) (x : Vec Ideal S1x2048x1408 .bf16) (y : Vec Ideal S1x2048x1024 .bf16) (p : Fin 1408) (q : Fin 1024) :
    (k0_pay2 a x y (ix2 p q) : EReal) = a (ix2 p q) + ∑ r : Fin 2048, x (ix3 0 r p) * y (ix3 0 r q) := by
  unfold k0_pay2
  pointwise

theorem pay3_at (a : Vec Ideal S1408x1024 .f32) (p : Fin 1408) (q : Fin 1024) : (k0_pay3 a (ix5 0 0 0 p q) : EReal) = a (ix2 p q) := by
  unfold k0_pay3
  pointwise

theorem v0_in (i : Fin 2) (t : Fin 4096) (j : Fin 2816) : (V m c main_v0 (ix3 i t j) : EReal) = D m c (ix3 i t j) := by
  entry_read
  pointwise

theorem v2_in (t : Fin 4096) (q : Fin 1024) : (V m c main_v2 (ix3 0 t q) : EReal) = H m c (ix2 t q) := by
  entry_read
  pointwise

theorem idx : ∀ t : Fin cfg0.N, win0_0.index t = ![t.val / 4, t.val % 2, t.val / 2 % 2] ∧ win0_1.index t = ![0, t.val % 2, 0]
    ∧ win0_2.index t = ![t.val / 4, t.val / 2 % 2, 0, 0, 0] :=
  (by decide +kernel : ∀ t : Fin grid0.N, _)

variable (t : Fin cfg0.N) (p : Fin 1408) (q : Fin 1024)

/-- The product, the half of the columns and the half of the tokens a grid point works on. -/
abbrev gOf (t : Fin cfg0.N) : Fin 2 := ⟨t.val / 4, by have := lt_of_lt_of_eq t.isLt N_0; omega⟩
abbrev sOf (t : Fin cfg0.N) : Fin 2 := ⟨t.val / 2 % 2, by omega⟩
abbrev aOf (t : Fin cfg0.N) : Fin 2 := ⟨t.val % 2, by omega⟩

theorem blk0 (r : Fin 2048) : (iblk m c 0 t (ix3 0 r p) : EReal) = D m c (ix3 (gOf t) (tokenOf (aOf t) r) (colOf (sOf t) p)) := by
  rw [← v0_in]
  blk_point [iblk, idx t]

theorem blk1 (r : Fin 2048) : (iblk m c 1 t (ix3 0 r q) : EReal) = H m c (ix2 (tokenOf (aOf t) r) q) := by
  rw [← v2_in]
  blk_point [iblk, idx t]

theorem emb2 (a b e : Fin 1) : ((cfg0.win 2).blk t).view.emb (ix5 a b e p q) = ix5 (gOf t) (sOf t) 0 p q := by
  funext x
  apply Fin.ext
  match x with
  | ⟨0, _⟩ => blk_simp [idx t]
  | ⟨1, _⟩ => blk_simp [idx t]
  | ⟨2, _⟩ =>
    blk_simp [idx t]
    rfl
  | ⟨3, _⟩ => blk_simp [idx t]
  | ⟨4, _⟩ => blk_simp [idx t]

/-- One half of the tokens' share of an entry. -/
def part (g s a : Fin 2) (p : Fin 1408) (q : Fin 1024) : EReal := ∑ r : Fin 2048, D m c (ix3 g (tokenOf a r) (colOf s p)) * H m c (ix2 (tokenOf a r) q)

theorem part_block : ∑ r : Fin 2048, @HMul.hMul EReal EReal EReal _ (iblk m c 0 t (ix3 0 r p)) (iblk m c 1 t (ix3 0 r q)) = part m c (gOf t) (sOf t) (aOf t) p q :=
  Finset.sum_congr rfl fun r _ => by rw [blk0, blk1]

/-- After an even point the scratch holds the first half's share. -/
theorem carried (h0 : t.val % 2 = 0) : ((outsAt0 m c t.val t.isLt).2 (ix2 p q) : EReal) = part m c (gOf t) (sOf t) (aOf t) p q := by
  rw [outsAt0_A m c t h0 (by omega), ← part_block]
  frame_out
  rw [pay2_at]
  exact (congrArg (· + _) (pay1_at p q)).trans (zero_add _)

/-- After an odd point the block written holds both. -/
theorem written (h1 : t.val % 2 = 1) : ((outsAt0 m c t.val t.isLt).1 (ix5 0 0 0 p q) : EReal)
    = part m c (gOf t) (sOf t) 0 p q + part m c (gOf t) (sOf t) 1 p q := by
  rw [outsAt0_B m c t (by omega) h1]
  frame_out
  rw [pay3_at]
  rw [pay2_at, part_block, read_unread_whole]
  have e := carried m c ⟨t.val - 1, by omega⟩ p q (by show (t.val - 1) % 2 = 0; omega)
  refine congrArg₂ (· + ·) (e.trans ?_) ?_
  · rw [show gOf ⟨t.val - 1, by omega⟩ = gOf t from Fin.ext (by show (t.val - 1) / 4 = t.val / 4; omega),
      show sOf ⟨t.val - 1, by omega⟩ = sOf t from Fin.ext (by show (t.val - 1) / 2 % 2 = t.val / 2 % 2; omega),
      show aOf ⟨t.val - 1, by omega⟩ = 0 from Fin.ext (by show (t.val - 1) % 2 = 0; omega)]
  · rw [show aOf t = 1 from Fin.ext h1]

/-- The product, whole. -/
theorem whole : (dats m 0 c).arrAt 2 (cfgs 0).N = val_main_v5 (F := Ideal) (H m c) (D m c) := by
  refine (dats m 0 c).arrAt_eq_of_covers 2 _ (by decide +kernel) fun t hf y => ?_
  have h1 : t.val % 2 = 1 := (by decide +kernel : ∀ t : Fin cfg0.N, (cfg0.win 2).flush t = true → t.val % 2 = 1) t hf
  blk_simp
  rw [after0_2]
  obtain ⟨p, q, rfl⟩ : ∃ (p : Fin 1408) (q : Fin 1024), y = ix5 0 0 0 p q := by
    refine ⟨y 3, y 4, (ValueIdx.eq_ix5 y).trans ?_⟩
    rw [Subsingleton.elim (α := Fin 1) (y 0) 0, Subsingleton.elim (α := Fin 1) (y 1) 0, Subsingleton.elim (α := Fin 1) (y 2) 0]
    rfl
  refine (written m c t p q h1).trans (Eq.trans ?_ (congrArg _ (emb2 t p q 0 0 0).symm))
  rw [v5_at, sum_halves]
  rfl

end Cert.TnIdeal.Value

end
-- ==== Proof.TnClaim.lean ====
/- The weights of gate and linear half: kernel and reference leave the same gradient. -/
module

public import proofs.«01_k».proof.Defs
public import proofs.«01_k».proof.Proof.Gen.TnRefIdeal.Run
public import proofs.«01_k».proof.Proof.TnValue

@[expose] public section

noncomputable section

open Idealize.ShloMosaic Idealize.SL.Sem

namespace Cert.TnClaim

open Cert.TnRefIdeal.Read

/-- The reference ends, leaves its arguments alone and has no counters. -/
theorem frame_ref : @Cert.quiescent_TnRefIdeal Cert.TnRefIdeal.Gen.facts := fun m ρ _ =>
  (θ_run Cert.TnRefIdeal.defs _ _).mono (fun r h => ⟨fun c => (h c).2, sem_eq_zero_of_no_sems (by decide) r.2⟩)
    (Cert.TnRefIdeal.Value.run (F := Ideal) m ρ)

set_option maxHeartbeats 2000000 in
/-- The value claim. -/
theorem value : @Cert.algebraic_TnIdeal_TnRefIdeal Cert.TnIdeal.Gen.facts Cert.TnRefIdeal.Gen.facts := by
  intro m g m' g' _ hm
  refine ⟨fun c => (Cert.TnIdeal.Gen.dats m 0 c).arrAt 2 (Cert.TnIdeal.cfgs 0).N, Cert.TnIdeal.Value.run_blocks m g, ?_⟩
  refine (θ_run Cert.TnRefIdeal.defs _ _).mono (fun r h c => ?_) (Cert.TnRefIdeal.Value.run m' g')
  obtain ⟨h0, hk⟩ := h c
  obtain ⟨e0, e1, e2⟩ := hm c
  rw [val_main_v5_eq, e0, e2] at h0
  exact ⟨h0.trans (Cert.TnIdeal.Value.whole m c).symm, hk⟩

end Cert.TnClaim

end
-- ==== Proof.FarValue.lean ====
/- The optimiser's step of one weight array whose gradient is still in parts: the kernel adds the other devices' three parts one
   after another, the reference adds their sum; from the whole gradient on, both compute the same. -/
module

public import proofs.«01_k».proof.Proof.Gen.FarIdeal.Value
public import proofs.«01_k».proof.Proof.Gen.FarRefIdeal.Read
public import Idealize.ShloMosaic.Lib.Pointwise

@[expose] public section

set_option maxRecDepth 16384

noncomputable section

namespace Cert.FarIdeal.Value

open Idealize.ShloMosaic Cert.FarIdeal Cert.FarIdeal.Gen Cert.FarRefIdeal.Read

variable (w g m v : FVec Ideal S352x1024 .f32) (far : FVec Ideal S3x352x1024 .bf16)

theorem sum_at (p : Fin 352) (q : Fin 1024) :
    (k0_pay2 (F := Ideal) g (View.ld far r0_1) (View.ld far r0_2) (View.ld far r0_3) (ix2 p q) : EReal)
      = g (ix2 p q) + ∑ d : Fin 3, far (ix3 d p q) := by
  rw [Fin.sum_univ_three, ← add_assoc, ← add_assoc]
  unfold k0_pay2
  pointwise

theorem v2_at (p : Fin 352) (q : Fin 1024) :
    (val_main_v2 (F := Ideal) g far (ix2 p q) : EReal) = g (ix2 p q) + ∑ d : Fin 3, far (ix3 d p q) := by
  unfold val_main_v2 val_main_v1 val_main_v0 val_main_cst
  pointwise

/-- The whole gradient. -/
theorem total : k0_pay2 (F := Ideal) g (View.ld far r0_1) (View.ld far r0_2) (View.ld far r0_3) = val_main_v2 (F := Ideal) g far := by
  funext i
  rw [ValueIdx.eq_ix2 i]
  exact (sum_at g far _ _).trans (v2_at g far _ _).symm

theorem first : G7 w m v g far = val_main_v7 (F := Ideal) g far m := by
  unfold G7 k0_pay3
  rw [total]
  rfl

theorem second : G8 w m v g far = val_main_v13 (F := Ideal) g far v := by
  unfold G8 k0_pay4
  rw [total]
  rfl

theorem delta : G6 w m v g far = val_main_v26 (F := Ideal) w g far m v := by
  unfold G6 k0_pay1 k0_pay5 k0_pay6 k0_pay3 k0_pay4
  rw [total]
  rfl

end Cert.FarIdeal.Value

end
-- ==== Proof.FarClaim.lean ====
/- The optimiser's step from a gradient in parts: kernel and reference leave the same four arrays. -/
module

public import proofs.«01_k».proof.Defs
public import proofs.«01_k».proof.Proof.Gen.FarRefIdeal.Run
public import proofs.«01_k».proof.Proof.FarValue

@[expose] public section

noncomputable section

open Idealize.ShloMosaic Idealize.SL.Sem

namespace Cert.FarClaim

open Cert.FarRefIdeal.Read

/-- The reference ends, leaves its arguments alone and has no counters. -/
theorem frame_ref : @Cert.quiescent_FarRefIdeal Cert.FarRefIdeal.Gen.facts := fun m ρ _ =>
  (θ_run Cert.FarRefIdeal.defs _ _).mono (fun r h => ⟨fun c => (h c).2.2.2.2, sem_eq_zero_of_no_sems (by decide) r.2⟩)
    (Cert.FarRefIdeal.Value.run (F := Ideal) m ρ)

set_option maxHeartbeats 2000000 in
/-- The value claim. -/
theorem value : @Cert.algebraic_FarIdeal_FarRefIdeal Cert.FarIdeal.Gen.facts Cert.FarRefIdeal.Gen.facts := by
  intro m g m' g' _ hm
  refine ⟨_, _, _, _, Cert.FarIdeal.Value.run m g, ?_⟩
  refine (θ_run Cert.FarRefIdeal.defs _ _).mono (fun r h c => ?_) (Cert.FarRefIdeal.Value.run m' g')
  obtain ⟨h0, h1, h2, h3, hk⟩ := h c
  obtain ⟨e0, e1, e2, e3, e4⟩ := hm c
  rw [val_main_v2_eq, e1, e2] at h0
  rw [val_main_v26_eq, e0, e1, e2, e3, e4] at h1
  rw [val_main_v7_eq, e1, e2, e3] at h2
  rw [val_main_v13_eq, e1, e2, e4] at h3
  exact ⟨h0.trans (Cert.FarIdeal.Value.total _ _).symm, h1.trans (Cert.FarIdeal.Value.delta _ _ _ _ _).symm,
    h2.trans (Cert.FarIdeal.Value.first _ _ _ _ _).symm, h3.trans (Cert.FarIdeal.Value.second _ _ _ _ _).symm, hk⟩

end Cert.FarClaim

end
-- ==== Proof.lean ====
module

public import proofs.«01_k».proof.Defs
public import proofs.«01_k».proof.Proof.Gen.Conv
public import proofs.«01_k».proof.Proof.Gen.Conv.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.Attn
public import proofs.«01_k».proof.Proof.Gen.AttnIdeal.Frame
public import proofs.«01_k».proof.Proof.Gen.AttnRefIdeal.Run
public import proofs.«01_k».proof.Proof.Gen.Ffn
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Out
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.ProjB
public import proofs.«01_k».proof.Proof.Gen.ProjBIdeal.Frame.Runs
public import proofs.«01_k».proof.Proof.Gen.ProjRefIdeal.Run
public import proofs.«01_k».proof.Proof.Gen.ProjRefIdeal.Read
public import proofs.«01_k».proof.Proof.Gen.Loss
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.MixF
public import proofs.«01_k».proof.Proof.Gen.MixF.Frame
public import proofs.«01_k».proof.Proof.Gen.MixFIdeal.Value
public import proofs.«01_k».proof.Proof.Gen.MixFRefIdeal.Run
public import proofs.«01_k».proof.Proof.Gen.MixFRefIdeal.Read
public import proofs.«01_k».proof.Proof.Gen.Up
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.TapF
public import proofs.«01_k».proof.Proof.Gen.TapF.Frame
public import proofs.«01_k».proof.Proof.Gen.TapFIdeal.Value
public import proofs.«01_k».proof.Proof.Gen.TapFRefIdeal.Run
public import proofs.«01_k».proof.Proof.Gen.TapFRefIdeal.Read
public import proofs.«01_k».proof.Proof.Gen.Down
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.ProjF
public import proofs.«01_k».proof.Proof.Gen.ProjF.Frame
public import proofs.«01_k».proof.Proof.Gen.ProjFIdeal.Value
public import proofs.«01_k».proof.Proof.Gen.ProjFRefIdeal.Run
public import proofs.«01_k».proof.Proof.Gen.ProjFRefIdeal.Read
public import proofs.«01_k».proof.Proof.Gen.AdaB
public import proofs.«01_k».proof.Proof.Gen.AdaB.Frame
public import proofs.«01_k».proof.Proof.Gen.AdaBIdeal.Value
public import proofs.«01_k».proof.Proof.Gen.AdaBRefIdeal.Run
public import proofs.«01_k».proof.Proof.Gen.AdaBRefIdeal.Read
public import proofs.«01_k».proof.Proof.Gen.Step
public import proofs.«01_k».proof.Proof.Gen.Step.Frame
public import proofs.«01_k».proof.Proof.Gen.StepIdeal.Value
public import proofs.«01_k».proof.Proof.Gen.StepRefIdeal.Run
public import proofs.«01_k».proof.Proof.Gen.StepRefIdeal.Read
public import proofs.«01_k».proof.Proof.Gen.Sum
public import proofs.«01_k».proof.Proof.Gen.Sum.Frame
public import proofs.«01_k».proof.Proof.Gen.SumIdeal.Value
public import proofs.«01_k».proof.Proof.Gen.SumRefIdeal.Run
public import proofs.«01_k».proof.Proof.Gen.SumRefIdeal.Read
public import proofs.«01_k».proof.Proof.Gen.SumConv
public import proofs.«01_k».proof.Proof.Gen.SumConv.Frame
public import proofs.«01_k».proof.Proof.Gen.SumConvIdeal.Value
public import proofs.«01_k».proof.Proof.Gen.SumConvRefIdeal.Run
public import proofs.«01_k».proof.Proof.Gen.SumConvRefIdeal.Read
public import proofs.«01_k».proof.Proof.Gen.Tn
public import proofs.«01_k».proof.Proof.Gen.Tn.Frame
public import proofs.«01_k».proof.Proof.Gen.TnIdeal.Value
public import proofs.«01_k».proof.Proof.Gen.TnRefIdeal.Run
public import proofs.«01_k».proof.Proof.Gen.TnRefIdeal.Read
public import proofs.«01_k».proof.Proof.Gen.Far
public import proofs.«01_k».proof.Proof.Gen.Far.Frame
public import proofs.«01_k».proof.Proof.Gen.FarIdeal.Value
public import proofs.«01_k».proof.Proof.Gen.FarRefIdeal.Run
public import proofs.«01_k».proof.Proof.Gen.FarRefIdeal.Read
public import proofs.«01_k».proof.Proof.Gen.Pre_finite_ffn
public import proofs.«01_k».proof.Proof.Gen.Pre_finite_out
public import proofs.«01_k».proof.Proof.Gen.Pre_finite_loss
public import proofs.«01_k».proof.Proof.Gen.Pre_finite_proj
public import proofs.«01_k».proof.Proof.ConvClaim
public import proofs.«01_k».proof.Proof.AttnClaim
public import proofs.«01_k».proof.Proof.FfnClaim
public import proofs.«01_k».proof.Proof.OutClaim
public import proofs.«01_k».proof.Proof.LossClaim
public import proofs.«01_k».proof.Proof.ProjClaim
public import proofs.«01_k».proof.Proof.MixFClaim
public import proofs.«01_k».proof.Proof.UpClaim
public import proofs.«01_k».proof.Proof.TapFClaim
public import proofs.«01_k».proof.Proof.DownClaim
public import proofs.«01_k».proof.Proof.ProjFClaim
public import proofs.«01_k».proof.Proof.AdaBClaim
public import proofs.«01_k».proof.Proof.StepClaim
public import proofs.«01_k».proof.Proof.SumClaim
public import proofs.«01_k».proof.Proof.SumConvClaim
public import proofs.«01_k».proof.Proof.TnClaim
public import proofs.«01_k».proof.Proof.FarClaim

@[expose] public section

noncomputable section

namespace Cert.Proof

open Idealize.ShloMosaic Idealize.SL.Sem

theorem claim : Cert.Claim := ⟨Cert.Conv.Gen.facts, Cert.ConvIdeal.Gen.facts, Cert.ConvRefIdeal.Gen.facts, Cert.Ffn.Gen.facts,
  Cert.FfnIdeal.Gen.facts, Cert.FfnRefIdeal.Gen.facts, Cert.Out.Gen.facts,
  Cert.OutIdeal.Gen.facts, Cert.OutRefIdeal.Gen.facts,
  Cert.ProjB.Gen.facts, Cert.ProjBIdeal.Gen.facts, Cert.ProjRefIdeal.Gen.facts, Cert.Loss.Gen.facts,
  Cert.LossIdeal.Gen.facts, Cert.LossRefIdeal.Gen.facts,
  Cert.MixF.Gen.facts, Cert.MixFIdeal.Gen.facts, Cert.MixFRefIdeal.Gen.facts,
  Cert.Up.Gen.facts, Cert.UpIdeal.Gen.facts, Cert.UpRefIdeal.Gen.facts,
  Cert.TapF.Gen.facts, Cert.TapFIdeal.Gen.facts, Cert.TapFRefIdeal.Gen.facts,
  Cert.Down.Gen.facts, Cert.DownIdeal.Gen.facts, Cert.DownRefIdeal.Gen.facts,
  Cert.ProjF.Gen.facts, Cert.ProjFIdeal.Gen.facts, Cert.ProjFRefIdeal.Gen.facts,
  Cert.AdaB.Gen.facts, Cert.AdaBIdeal.Gen.facts, Cert.AdaBRefIdeal.Gen.facts,
  Cert.Step.Gen.facts, Cert.StepIdeal.Gen.facts, Cert.StepRefIdeal.Gen.facts,
  Cert.Sum.Gen.facts, Cert.SumIdeal.Gen.facts, Cert.SumRefIdeal.Gen.facts,
  Cert.SumConv.Gen.facts, Cert.SumConvIdeal.Gen.facts, Cert.SumConvRefIdeal.Gen.facts,
  Cert.Tn.Gen.facts, Cert.TnIdeal.Gen.facts, Cert.TnRefIdeal.Gen.facts,
  Cert.Far.Gen.facts, Cert.FarIdeal.Gen.facts, Cert.FarRefIdeal.Gen.facts,
  Cert.Attn.Gen.facts, Cert.AttnIdeal.Gen.facts, Cert.AttnRefIdeal.Gen.facts,
  Cert.Pre_finite_ffn.Gen.facts, Cert.Pre_finite_out.Gen.facts, Cert.Pre_finite_proj.Gen.facts, Cert.Pre_finite_loss.Gen.facts, by
  exact ⟨fun m ρ _ => Cert.Conv.Gen.frame m ρ, fun m ρ _ => Cert.ConvIdeal.Gen.frame m ρ, Cert.ConvClaim.frame_ref,
    fun m ρ _ => Cert.Ffn.Gen.frame m ρ, fun m ρ _ => Cert.FfnIdeal.Gen.frame m ρ, fun m ρ _ => Cert.FfnIdeal.Gen.frame m ρ,
    Cert.FfnClaim.frame_ref, fun m ρ _ => Cert.FfnClaim.frame_ref m ρ trivial,
    fun m ρ _ => Cert.Out.Gen.frame m ρ, fun m ρ _ => Cert.OutIdeal.Gen.frame m ρ, fun m ρ _ => Cert.OutIdeal.Gen.frame m ρ,
    Cert.OutClaim.frame_ref, fun m ρ _ => Cert.OutClaim.frame_ref m ρ trivial,
    Cert.ProjClaim.bits, Cert.ProjClaim.ideal, fun m ρ _ => Cert.ProjFrame.frame m ρ,
    Cert.ProjClaim.frame_ref, fun m ρ _ => Cert.ProjClaim.frame_ref m ρ trivial,
    fun m ρ _ => Cert.Loss.Gen.frame m ρ, fun m ρ _ => Cert.LossIdeal.Gen.frame m ρ, fun m ρ _ => Cert.LossIdeal.Gen.frame m ρ,
    Cert.LossClaim.frame_ref, fun m ρ _ => Cert.LossClaim.frame_ref m ρ trivial,
    fun m ρ _ => Cert.MixF.Gen.frame m ρ, fun m ρ _ => Cert.MixFIdeal.Gen.frame m ρ, Cert.MixFClaim.frame_ref,
    fun m ρ _ => Cert.Up.Gen.frame m ρ, fun m ρ _ => Cert.UpIdeal.Gen.frame m ρ, Cert.UpClaim.frame_ref,
    fun m ρ _ => Cert.TapF.Gen.frame m ρ, fun m ρ _ => Cert.TapFIdeal.Gen.frame m ρ, Cert.TapFClaim.frame_ref,
    fun m ρ _ => Cert.Down.Gen.frame m ρ, fun m ρ _ => Cert.DownIdeal.Gen.frame m ρ, Cert.DownClaim.frame_ref,
    fun m ρ _ => Cert.ProjF.Gen.frame m ρ, fun m ρ _ => Cert.ProjFIdeal.Gen.frame m ρ, Cert.ProjFClaim.frame_ref,
    fun m ρ _ => Cert.AdaB.Gen.frame m ρ, fun m ρ _ => Cert.AdaBIdeal.Gen.frame m ρ, Cert.AdaBClaim.frame_ref,
    fun m ρ _ => Cert.Step.Gen.frame m ρ, fun m ρ _ => Cert.StepIdeal.Gen.frame m ρ, Cert.StepClaim.frame_ref,
    fun m ρ _ => Cert.Sum.Gen.frame m ρ, fun m ρ _ => Cert.SumIdeal.Gen.frame m ρ, Cert.SumClaim.frame_ref,
    fun m ρ _ => Cert.SumConv.Gen.frame m ρ, fun m ρ _ => Cert.SumConvIdeal.Gen.frame m ρ, Cert.SumConvClaim.frame_ref,
    fun m ρ _ => Cert.Tn.Gen.frame m ρ, fun m ρ _ => Cert.TnIdeal.Gen.frame m ρ, Cert.TnClaim.frame_ref,
    fun m ρ _ => Cert.Far.Gen.frame m ρ, fun m ρ _ => Cert.FarIdeal.Gen.frame m ρ, Cert.FarClaim.frame_ref,
    Cert.AttnClaim.bits, Cert.AttnClaim.ideal, Cert.AttnClaim.frame_ref,
    trivial, Cert.ConvClaim.value, trivial, Cert.FfnClaim.value, trivial, Cert.OutClaim.value, trivial, Cert.ProjClaim.value, trivial, Cert.LossClaim.value,
    trivial, Cert.MixFClaim.value, trivial, Cert.UpClaim.value, trivial, Cert.TapFClaim.value, trivial, Cert.DownClaim.value,
    trivial, Cert.ProjFClaim.value,
    trivial, Cert.AdaBClaim.value,
    trivial, Cert.StepClaim.value,
    trivial, Cert.SumClaim.value,
    trivial, Cert.SumConvClaim.value,
    trivial, Cert.TnClaim.value,
    trivial, Cert.FarClaim.value, trivial⟩⟩

end Cert.Proof

end
